-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v128) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_6) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_v35) = v1 c
          ∧ r.2.mem ((c.tc : Thread Cert.Reference4Ideal.nD Cert.Reference4Ideal.τ).loc Cert.Reference4Ideal.main_v36) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
-- ==== Kernel.lean ====
abbrev S4x1024x8192 : Shape := ⟨3, ![4, 1024, 8192]⟩
abbrev S4x64x8192 : Shape := ⟨3, ![4, 64, 8192]⟩
abbrev S4x4x512x128 : Shape := ⟨4, ![4, 4, 512, 128]⟩
abbrev S4x4x64x512 : Shape := ⟨4, ![4, 4, 64, 512]⟩
abbrev S4x4x8704x256 : Shape := ⟨4, ![4, 4, 8704, 256]⟩
abbrev S4x4x68x80x128 : Shape := ⟨5, ![4, 4, 68, 80, 128]⟩
abbrev S4x4x8192x128 : Shape := ⟨4, ![4, 4, 8192, 128]⟩
abbrev S4x4x64x80x128 : Shape := ⟨5, ![4, 4, 64, 80, 128]⟩
abbrev S512 : Shape := ⟨1, ![512]⟩
abbrev S_ : Shape := ⟨0, ![]⟩
abbrev S128 : Shape := ⟨1, ![128]⟩
abbrev S1x512 : Shape := ⟨2, ![1, 512]⟩
abbrev S128x1 : Shape := ⟨2, ![128, 1]⟩
abbrev S128x512 : Shape := ⟨2, ![128, 512]⟩
abbrev S16 : Shape := ⟨1, ![16]⟩
abbrev S1x16 : Shape := ⟨2, ![1, 16]⟩
abbrev S5x16 : Shape := ⟨2, ![5, 16]⟩
abbrev S64x16 : Shape := ⟨2, ![64, 16]⟩
abbrev S64x4x4 : Shape := ⟨3, ![64, 4, 4]⟩
abbrev S4x64x4 : Shape := ⟨3, ![4, 64, 4]⟩
abbrev S4x64x4x256 : Shape := ⟨4, ![4, 64, 4, 256]⟩
abbrev S4x64x1024 : Shape := ⟨3, ![4, 64, 1024]⟩
abbrev S1x256x256 : Shape := ⟨3, ![1, 256, 256]⟩
abbrev S1x16x256 : Shape := ⟨3, ![1, 16, 256]⟩
abbrev S1x1x512x128 : Shape := ⟨4, ![1, 1, 512, 128]⟩
abbrev S1x1x64x512 : Shape := ⟨4, ![1, 1, 64, 512]⟩
abbrev S1x1x8704x256 : Shape := ⟨4, ![1, 1, 8704, 256]⟩
abbrev S1x1x68x80x128 : Shape := ⟨5, ![1, 1, 68, 80, 128]⟩
abbrev S1x1x8192x128 : Shape := ⟨4, ![1, 1, 8192, 128]⟩
abbrev S1x1x64x80x128 : Shape := ⟨5, ![1, 1, 64, 80, 128]⟩
abbrev S1x64x1024 : Shape := ⟨3, ![1, 64, 1024]⟩
abbrev S72 : Shape := ⟨1, ![72]⟩
abbrev S1x1024 : Shape := ⟨2, ![1, 1024]⟩
abbrev S80x1024 : Shape := ⟨2, ![80, 1024]⟩
abbrev S4x6x128x256 : Shape := ⟨4, ![4, 6, 128, 256]⟩
abbrev S1x256 : Shape := ⟨2, ![1, 256]⟩
abbrev S256x256 : Shape := ⟨2, ![256, 256]⟩
abbrev S64x1024 : Shape := ⟨2, ![64, 1024]⟩
abbrev S64x256 : Shape := ⟨2, ![64, 256]⟩
abbrev S128x256 : Shape := ⟨2, ![128, 256]⟩
abbrev S512x1 : Shape := ⟨2, ![512, 1]⟩
abbrev S512x256 : Shape := ⟨2, ![512, 256]⟩
abbrev S512x128 : Shape := ⟨2, ![512, 128]⟩
abbrev S64x512 : Shape := ⟨2, ![64, 512]⟩
abbrev S256 : Shape := ⟨1, ![256]⟩
abbrev S1x1x128x128 : Shape := ⟨4, ![1, 1, 128, 128]⟩
abbrev S128x128 : Shape := ⟨2, ![128, 128]⟩
abbrev S1x1x128x256 : Shape := ⟨4, ![1, 1, 128, 256]⟩
abbrev S384x1 : Shape := ⟨2, ![384, 1]⟩
abbrev S384x256 : Shape := ⟨2, ![384, 256]⟩
abbrev S1x1x384x128 : Shape := ⟨4, ![1, 1, 384, 128]⟩
abbrev S384x128 : Shape := ⟨2, ![384, 128]⟩
abbrev S1x1x64x384 : Shape := ⟨4, ![1, 1, 64, 384]⟩
abbrev S64x384 : Shape := ⟨2, ![64, 384]⟩
abbrev S96x384 : Shape := ⟨2, ![96, 384]⟩
abbrev S96x256 : Shape := ⟨2, ![96, 256]⟩
abbrev S32x256 : Shape := ⟨2, ![32, 256]⟩
abbrev S256x1 : Shape := ⟨2, ![256, 1]⟩
abbrev S1x1x256x128 : Shape := ⟨4, ![1, 1, 256, 128]⟩
abbrev S256x128 : Shape := ⟨2, ![256, 128]⟩
abbrev S1x1x64x256 : Shape := ⟨4, ![1, 1, 64, 256]⟩
abbrev S1x1x64x128 : Shape := ⟨4, ![1, 1, 64, 128]⟩
abbrev S64x128 : Shape := ⟨2, ![64, 128]⟩
abbrev S32x128 : Shape := ⟨2, ![32, 128]⟩
abbrev S8x256 : Shape := ⟨2, ![8, 256]⟩
abbrev S8x128 : Shape := ⟨2, ![8, 128]⟩
abbrev S1x1 : Shape := ⟨2, ![1, 1]⟩
abbrev S1 : Shape := ⟨1, ![1]⟩
abbrev S1x1x1x80x128 : Shape := ⟨5, ![1, 1, 1, 80, 128]⟩
abbrev S80x128 : Shape := ⟨2, ![80, 128]⟩
abbrev S80x256 : Shape := ⟨2, ![80, 256]⟩
abbrev S1x80x256 : Shape := ⟨3, ![1, 80, 256]⟩
abbrev S1x1x1 : Shape := ⟨3, ![1, 1, 1]⟩
abbrev S1x80x1024 : Shape := ⟨3, ![1, 80, 1024]⟩
abbrev S16x256 : Shape := ⟨2, ![16, 256]⟩

abbrev nBuf : Space → Nat
  | .hbm => 88
  | .vmem => 24
  | .smem => 1
  | _ => 0

abbrev bufTy : (tb : Table) → Fin (tcTables nBuf tb) → BufTy
  | .hbm, ⟨0, _⟩ => ⟨S4x1024x8192, .bf16⟩
  | .hbm, ⟨1, _⟩ => ⟨S4x64x8192, .f32⟩
  | .hbm, ⟨2, _⟩ => ⟨S4x4x512x128, .bf16⟩
  | .hbm, ⟨3, _⟩ => ⟨S4x4x64x512, .bf16⟩
  | .hbm, ⟨4, _⟩ => ⟨S4x4x8704x256, .bf16⟩
  | .hbm, ⟨5, _⟩ => ⟨S4x4x68x80x128, .bf16⟩
  | .hbm, ⟨6, _⟩ => ⟨S4x4x8192x128, .bf16⟩
  | .hbm, ⟨7, _⟩ => ⟨S4x4x64x80x128, .bf16⟩
  | .hbm, ⟨8, _⟩ => ⟨S512, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i32⟩
  | .hbm, ⟨16, _⟩ => ⟨S1x512, .i32⟩
  | .hbm, ⟨17, _⟩ => ⟨S_, .i32⟩
  | .hbm, ⟨18, _⟩ => ⟨S1x512, .i32⟩
  | .hbm, ⟨19, _⟩ => ⟨S1x512, .i32⟩
  | .hbm, ⟨20, _⟩ => ⟨S128x1, .i32⟩
  | .hbm, ⟨21, _⟩ => ⟨S_, .i32⟩
  | .hbm, ⟨22, _⟩ => ⟨S128x1, .i32⟩
  | .hbm, ⟨23, _⟩ => ⟨S128x1, .i32⟩
  | .hbm, ⟨24, _⟩ => ⟨S128x512, .i32⟩
  | .hbm, ⟨25, _⟩ => ⟨S128x512, .i32⟩
  | .hbm, ⟨26, _⟩ => ⟨S128x512, .i32⟩
  | .hbm, ⟨27, _⟩ => ⟨S1x512, .i32⟩
  | .hbm, ⟨28, _⟩ => ⟨S128x1, .i32⟩
  | .hbm, ⟨29, _⟩ => ⟨S128x512, .i32⟩
  | .hbm, ⟨30, _⟩ => ⟨S128x512, .i32⟩
  | .hbm, ⟨31, _⟩ => ⟨S128x512, .i32⟩
  | .hbm, ⟨32, _⟩ => ⟨S128x512, .i32⟩
  | .hbm, ⟨33, _⟩ => ⟨S128, .i32⟩
  | .hbm, ⟨34, _⟩ => ⟨S128x1, .i32⟩
  | .hbm, ⟨35, _⟩ => ⟨S_, .i32⟩
  | .hbm, ⟨36, _⟩ => ⟨S128x1, .i32⟩
  | .hbm, ⟨37, _⟩ => ⟨S128x1, .i1⟩
  | .hbm, ⟨38, _⟩ => ⟨S_, .i32⟩
  | .hbm, ⟨39, _⟩ => ⟨S_, .i32⟩
  | .hbm, ⟨40, _⟩ => ⟨S128x512, .i1⟩
  | .hbm, ⟨41, _⟩ => ⟨S128x512, .i32⟩
  | .hbm, ⟨42, _⟩ => ⟨S128x512, .i32⟩
  | .hbm, ⟨43, _⟩ => ⟨S_, .i32⟩
  | .hbm, ⟨44, _⟩ => ⟨S128x512, .i32⟩
  | .hbm, ⟨45, _⟩ => ⟨S128x512, .i32⟩
  | .hbm, ⟨46, _⟩ => ⟨S128x512, .f32⟩
  | .hbm, ⟨47, _⟩ => ⟨S_, .f32⟩
  | .hbm, ⟨48, _⟩ => ⟨S128x512, .f32⟩
  | .hbm, ⟨49, _⟩ => ⟨S128x512, .f32⟩
  | .hbm, ⟨50, _⟩ => ⟨S128x512, .bf16⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S_, .f32⟩
  | .hbm, ⟨56, _⟩ => ⟨S16, .f32⟩
  | .hbm, ⟨57, _⟩ => ⟨S16, .f32⟩
  | .hbm, ⟨58, _⟩ => ⟨S_, .f32⟩
  | .hbm, ⟨59, _⟩ => ⟨S16, .f32⟩
  | .hbm, ⟨60, _⟩ => ⟨S16, .f32⟩
  | .hbm, ⟨61, _⟩ => ⟨S_, .f32⟩
  | .hbm, ⟨62, _⟩ => ⟨S16, .f32⟩
  | .hbm, ⟨63, _⟩ => ⟨S16, .f32⟩
  | .hbm, ⟨64, _⟩ => ⟨S16, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S16, .bf16⟩
  | .hbm, ⟨69, _⟩ => ⟨S16, .f32⟩
  | .hbm, ⟨70, _⟩ => ⟨S16, .f32⟩
  | .hbm, ⟨71, _⟩ => ⟨S16, .bf16⟩
  | .hbm, ⟨72, _⟩ => ⟨S_, .bf16⟩
  | .hbm, ⟨73, _⟩ => ⟨S16, .bf16⟩
  | .hbm, ⟨74, _⟩ => ⟨S1x16, .bf16⟩
  | .hbm, ⟨75, _⟩ => ⟨S1x16, .bf16⟩
  | .hbm, ⟨76, _⟩ => ⟨S1x16, .bf16⟩
  | .hbm, ⟨77, _⟩ => ⟨S1x16, .bf16⟩
  | .hbm, ⟨78, _⟩ => ⟨S1x16, .bf16⟩
  | .hbm, ⟨79, _⟩ => ⟨S5x16, .bf16⟩
  | .hbm, ⟨80, _⟩ => ⟨S_, .i32⟩
  | .hbm, ⟨81, _⟩ => ⟨S_, .bf16⟩
  | .hbm, ⟨82, _⟩ => ⟨S64x16, .bf16⟩
  | .hbm, ⟨83, _⟩ => ⟨S64x4x4, .bf16⟩
  | .hbm, ⟨84, _⟩ => ⟨S4x64x4, .bf16⟩
  | .hbm, ⟨85, _⟩ => ⟨S4x64x4x256, .bf16⟩
  | .hbm, ⟨86, _⟩ => ⟨S4x64x1024, .bf16⟩
  | .hbm, ⟨87, _⟩ => ⟨S4x1024x8192, .bf16⟩
  | .local _ .vmem, ⟨0, _⟩ => ⟨S1x256x256, .bf16⟩
  | .local _ .vmem, ⟨1, _⟩ => ⟨S1x256x256, .bf16⟩
  | .local _ .vmem, ⟨2, _⟩ => ⟨S1x16x256, .f32⟩
  | .local _ .vmem, ⟨3, _⟩ => ⟨S1x16x256, .f32⟩
  | .local _ .vmem, ⟨4, _⟩ => ⟨S1x1x512x128, .bf16⟩
  | .local _ .vmem, ⟨5, _⟩ => ⟨S1x1x512x128, .bf16⟩
  | .local _ .vmem, ⟨6, _⟩ => ⟨S1x1x64x512, .bf16⟩
  | .local _ .vmem, ⟨7, _⟩ => ⟨S1x1x64x512, .bf16⟩
  | .local _ .vmem, ⟨8, _⟩ => ⟨S1x1x8704x256, .bf16⟩
  | .local _ .vmem, ⟨9, _⟩ => ⟨S1x1x8704x256, .bf16⟩
  | .local _ .vmem, ⟨10, _⟩ => ⟨S1x1x68x80x128, .bf16⟩
  | .local _ .vmem, ⟨11, _⟩ => ⟨S1x1x68x80x128, .bf16⟩
  | .local _ .vmem, ⟨12, _⟩ => ⟨S1x1x8192x128, .bf16⟩
  | .local _ .vmem, ⟨13, _⟩ => ⟨S1x1x8192x128, .bf16⟩
  | .local _ .vmem, ⟨14, _⟩ => ⟨S1x1x64x80x128, .bf16⟩
  | .local _ .vmem, ⟨15, _⟩ => ⟨S1x1x64x80x128, .bf16⟩
  | .local _ .vmem, ⟨16, _⟩ => ⟨S128x512, .bf16⟩
  | .local _ .vmem, ⟨17, _⟩ => ⟨S1x64x1024, .bf16⟩
  | .local _ .vmem, ⟨18, _⟩ => ⟨S1x64x1024, .bf16⟩
  | .local _ .vmem, ⟨19, _⟩ => ⟨S1x256x256, .bf16⟩
  | .local _ .vmem, ⟨20, _⟩ => ⟨S1x256x256, .bf16⟩
  | .local _ .vmem, ⟨21, _⟩ => ⟨S1x1024, .f32⟩
  | .local _ .vmem, ⟨22, _⟩ => ⟨S80x1024, .f32⟩
  | .local _ .vmem, ⟨23, _⟩ => ⟨S4x6x128x256, .f32⟩
  | .local _ .smem, ⟨0, _⟩ => ⟨S72, .i32⟩
  | _, _ => ⟨S4x1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_10 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_11 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_12 : Ref sig .tc := ⟨.hbm, 80, rfl⟩
abbrev main_call1_v0 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨3, ![4, 4, 32], ![false, false, false]⟩

def k0_cond1 (i : grid0.Coords) : BitVec 1 :=
  let arg2 : BitVec 32 := BitVec.ofNat 32 (i 2).val
  let c256_i32 : BitVec 32 := 256#32
  let v0 : BitVec 32 := Scalar.muli arg2 c256_i32
  let c256_i32_29 : BitVec 32 := 256#32
  let v79 : BitVec 32 := Scalar.addi v0 c256_i32_29
  let c1_i32_30 : BitVec 32 := 1#32
  let v80 : BitVec 32 := Scalar.subi v79 c1_i32_30
  let c0_i32_31 : BitVec 32 := 0#32
  let v82 : BitVec 1 := Scalar.cmpi .sgt v80 c0_i32_31
  let v83 : BitVec 32 := Scalar.extui v82
  let c0_i32_32 : BitVec 32 := 0#32
  let v84 : BitVec 1 := Scalar.cmpi .slt v80 c0_i32_32
  let v85 : BitVec 32 := Scalar.extui v84
  let v86 : BitVec 32 := Scalar.subi v83 v85
  let c2048_i32 : BitVec 32 := 2048#32
  let c0_i32_33 : BitVec 32 := 0#32
  let v87 : BitVec 1 := Scalar.cmpi .sgt c2048_i32 c0_i32_33
  let v88 : BitVec 32 := Scalar.extui v87
  let c0_i32_34 : BitVec 32 := 0#32
  let v89 : BitVec 1 := Scalar.cmpi .slt c2048_i32 c0_i32_34
  let v90 : BitVec 32 := Scalar.extui v89
  let v91 : BitVec 32 := Scalar.subi v88 v90
  let v92 : BitVec 1 := Scalar.cmpi .ne v86 v91
  let v93 : BitVec 32 := Scalar.remsi v80 c2048_i32
  let c0_i32_35 : BitVec 32 := 0#32
  let v94 : BitVec 1 := Scalar.cmpi .ne v93 c0_i32_35
  let v95 : BitVec 1 := Scalar.andi v92 v94
  let v81 : BitVec 32 := Scalar.divsi v80 c2048_i32
  let c1_i32_36 : BitVec 32 := 1#32
  let v96 : BitVec 32 := Scalar.subi v81 c1_i32_36
  let v97 : BitVec 32 := Scalar.select v95 v96 v81
  let c0_i32_37 : BitVec 32 := 0#32
  let v98 : BitVec 32 := Scalar.maxsi v97 c0_i32_37
  let c3_i32_38 : BitVec 32 := 3#32
  let v99 : BitVec 32 := Scalar.minsi v98 c3_i32_38
  let c0_i32_39 : BitVec 32 := 0#32
  let v100 : BitVec 1 := Scalar.cmpi .ne v99 c0_i32_39
  v100

def k0_cond2 (i : grid0.Coords) : BitVec 1 :=
  let arg2 : BitVec 32 := BitVec.ofNat 32 (i 2).val
  let c256_i32 : BitVec 32 := 256#32
  let v0 : BitVec 32 := Scalar.muli arg2 c256_i32
  let c256_i32_29 : BitVec 32 := 256#32
  let v79 : BitVec 32 := Scalar.addi v0 c256_i32_29
  let c1_i32_30 : BitVec 32 := 1#32
  let v80 : BitVec 32 := Scalar.subi v79 c1_i32_30
  let c0_i32_31 : BitVec 32 := 0#32
  let v82 : BitVec 1 := Scalar.cmpi .sgt v80 c0_i32_31
  let v83 : BitVec 32 := Scalar.extui v82
  let c0_i32_32 : BitVec 32 := 0#32
  let v84 : BitVec 1 := Scalar.cmpi .slt v80 c0_i32_32
  let v85 : BitVec 32 := Scalar.extui v84
  let v86 : BitVec 32 := Scalar.subi v83 v85
  let c2048_i32 : BitVec 32 := 2048#32
  let c0_i32_33 : BitVec 32 := 0#32
  let v87 : BitVec 1 := Scalar.cmpi .sgt c2048_i32 c0_i32_33
  let v88 : BitVec 32 := Scalar.extui v87
  let c0_i32_34 : BitVec 32 := 0#32
  let v89 : BitVec 1 := Scalar.cmpi .slt c2048_i32 c0_i32_34
  let v90 : BitVec 32 := Scalar.extui v89
  let v91 : BitVec 32 := Scalar.subi v88 v90
  let v92 : BitVec 1 := Scalar.cmpi .ne v86 v91
  let v93 : BitVec 32 := Scalar.remsi v80 c2048_i32
  let c0_i32_35 : BitVec 32 := 0#32
  let v94 : BitVec 1 := Scalar.cmpi .ne v93 c0_i32_35
  let v95 : BitVec 1 := Scalar.andi v92 v94
  let v81 : BitVec 32 := Scalar.divsi v80 c2048_i32
  let c1_i32_36 : BitVec 32 := 1#32
  let v96 : BitVec 32 := Scalar.subi v81 c1_i32_36
  let v97 : BitVec 32 := Scalar.select v95 v96 v81
  let c0_i32_37 : BitVec 32 := 0#32
  let v98 : BitVec 32 := Scalar.maxsi v97 c0_i32_37
  let c3_i32_38 : BitVec 32 := 3#32
  let v99 : BitVec 32 := Scalar.minsi v98 c3_i32_38
  let c1_i32_1076 : BitVec 32 := 1#32
  let v2028 : BitVec 32 := Scalar.subi v99 c1_i32_1076
  let c0_i32_1077 : BitVec 32 := 0#32
  let v2029 : BitVec 1 := Scalar.cmpi .ne v2028 c0_i32_1077
  v2029

def k0_cond3 (i : grid0.Coords) : BitVec 1 :=
  let arg2 : BitVec 32 := BitVec.ofNat 32 (i 2).val
  let c256_i32 : BitVec 32 := 256#32
  let v0 : BitVec 32 := Scalar.muli arg2 c256_i32
  let c256_i32_29 : BitVec 32 := 256#32
  let v79 : BitVec 32 := Scalar.addi v0 c256_i32_29
  let c1_i32_30 : BitVec 32 := 1#32
  let v80 : BitVec 32 := Scalar.subi v79 c1_i32_30
  let c0_i32_31 : BitVec 32 := 0#32
  let v82 : BitVec 1 := Scalar.cmpi .sgt v80 c0_i32_31
  let v83 : BitVec 32 := Scalar.extui v82
  let c0_i32_32 : BitVec 32 := 0#32
  let v84 : BitVec 1 := Scalar.cmpi .slt v80 c0_i32_32
  let v85 : BitVec 32 := Scalar.extui v84
  let v86 : BitVec 32 := Scalar.subi v83 v85
  let c2048_i32 : BitVec 32 := 2048#32
  let c0_i32_33 : BitVec 32 := 0#32
  let v87 : BitVec 1 := Scalar.cmpi .sgt c2048_i32 c0_i32_33
  let v88 : BitVec 32 := Scalar.extui v87
  let c0_i32_34 : BitVec 32 := 0#32
  let v89 : BitVec 1 := Scalar.cmpi .slt c2048_i32 c0_i32_34
  let v90 : BitVec 32 := Scalar.extui v89
  let v91 : BitVec 32 := Scalar.subi v88 v90
  let v92 : BitVec 1 := Scalar.cmpi .ne v86 v91
  let v93 : BitVec 32 := Scalar.remsi v80 c2048_i32
  let c0_i32_35 : BitVec 32 := 0#32
  let v94 : BitVec 1 := Scalar.cmpi .ne v93 c0_i32_35
  let v95 : BitVec 1 := Scalar.andi v92 v94
  let v81 : BitVec 32 := Scalar.divsi v80 c2048_i32
  let c1_i32_36 : BitVec 32 := 1#32
  let v96 : BitVec 32 := Scalar.subi v81 c1_i32_36
  let v97 : BitVec 32 := Scalar.select v95 v96 v81
  let c0_i32_37 : BitVec 32 := 0#32
  let v98 : BitVec 32 := Scalar.maxsi v97 c0_i32_37
  let c3_i32_38 : BitVec 32 := 3#32
  let v99 : BitVec 32 := Scalar.minsi v98 c3_i32_38
  let c1_i32_1076 : BitVec 32 := 1#32
  let v2028 : BitVec 32 := Scalar.subi v99 c1_i32_1076
  let c1_i32_1078 : BitVec 32 := 1#32
  let v2031 : BitVec 32 := Scalar.subi v2028 c1_i32_1078
  let c0_i32_1079 : BitVec 32 := 0#32
  let v2032 : BitVec 1 := Scalar.cmpi .ne v2031 c0_i32_1079
  v2032

def k0_mult1 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32 : BitVec 32 := 4#32
  let v37 : BitVec 32 := Scalar.subi v36 c4_i32
  let c0_i32_9 : BitVec 32 := 0#32
  let v38 : BitVec 32 := Scalar.addi v37 c0_i32_9
  let c0_i32_10 : BitVec 32 := 0#32
  let v39 : BitVec 32 := Scalar.maxsi v38 c0_i32_10
  let c128_i32_1128 : BitVec 32 := 128#32
  let v2145 : BitVec 32 := Scalar.muli v39 c128_i32_1128
  v2145
def k0_off1 (i : grid0.Coords) (c0_i32_9 : BitVec 32) : Fin 4 → Nat :=
  let c0_1129 : Index := 0#32
  let c0_1130 : Index := 0#32
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32 : BitVec 32 := 4#32
  let v37 : BitVec 32 := Scalar.subi v36 c4_i32
  let v38 : BitVec 32 := Scalar.addi v37 c0_i32_9
  let c0_i32_10 : BitVec 32 := 0#32
  let v39 : BitVec 32 := Scalar.maxsi v38 c0_i32_10
  let c128_i32_1128 : BitVec 32 := 128#32
  let v2145 : BitVec 32 := Scalar.muli v39 c128_i32_1128
  let v2146 : BitVec 32 := v2145
  let v2147 : Index := Scalar.indexCast v2146
  let c0_1131 : Index := 0#32
  ![0, 0, v2147.toNat, 0]
def k0_mult2 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_11 : BitVec 32 := 4#32
  let v40 : BitVec 32 := Scalar.subi v36 c4_i32_11
  let c1_i32_12 : BitVec 32 := 1#32
  let v41 : BitVec 32 := Scalar.addi v40 c1_i32_12
  let c0_i32_13 : BitVec 32 := 0#32
  let v42 : BitVec 32 := Scalar.maxsi v41 c0_i32_13
  let c128_i32_1137 : BitVec 32 := 128#32
  let v2154 : BitVec 32 := Scalar.muli v42 c128_i32_1137
  v2154
def k0_mult3 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_14 : BitVec 32 := 4#32
  let v43 : BitVec 32 := Scalar.subi v36 c4_i32_14
  let c2_i32 : BitVec 32 := 2#32
  let v44 : BitVec 32 := Scalar.addi v43 c2_i32
  let c0_i32_15 : BitVec 32 := 0#32
  let v45 : BitVec 32 := Scalar.maxsi v44 c0_i32_15
  let c128_i32_1146 : BitVec 32 := 128#32
  let v2163 : BitVec 32 := Scalar.muli v45 c128_i32_1146
  v2163
def k0_mult4 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_16 : BitVec 32 := 4#32
  let v46 : BitVec 32 := Scalar.subi v36 c4_i32_16
  let c3_i32 : BitVec 32 := 3#32
  let v47 : BitVec 32 := Scalar.addi v46 c3_i32
  let c0_i32_17 : BitVec 32 := 0#32
  let v48 : BitVec 32 := Scalar.maxsi v47 c0_i32_17
  let c128_i32_1155 : BitVec 32 := 128#32
  let v2172 : BitVec 32 := Scalar.muli v48 c128_i32_1155
  v2172
def k0_mult5 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_18 : BitVec 32 := 4#32
  let v49 : BitVec 32 := Scalar.subi v36 c4_i32_18
  let c4_i32_19 : BitVec 32 := 4#32
  let v50 : BitVec 32 := Scalar.addi v49 c4_i32_19
  let c0_i32_20 : BitVec 32 := 0#32
  let v51 : BitVec 32 := Scalar.maxsi v50 c0_i32_20
  let c128_i32_1164 : BitVec 32 := 128#32
  let v2181 : BitVec 32 := Scalar.muli v51 c128_i32_1164
  v2181
def k0_mult6 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_21 : BitVec 32 := 4#32
  let v52 : BitVec 32 := Scalar.subi v36 c4_i32_21
  let c5_i32 : BitVec 32 := 5#32
  let v53 : BitVec 32 := Scalar.addi v52 c5_i32
  let c0_i32_22 : BitVec 32 := 0#32
  let v54 : BitVec 32 := Scalar.maxsi v53 c0_i32_22
  let c128_i32_1173 : BitVec 32 := 128#32
  let v2190 : BitVec 32 := Scalar.muli v54 c128_i32_1173
  v2190
def k0_mult7 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32 : BitVec 32 := 4#32
  let v37 : BitVec 32 := Scalar.subi v36 c4_i32
  let c0_i32_9 : BitVec 32 := 0#32
  let v38 : BitVec 32 := Scalar.addi v37 c0_i32_9
  let c0_i32_10 : BitVec 32 := 0#32
  let v39 : BitVec 32 := Scalar.maxsi v38 c0_i32_10
  let c128_i32_1182 : BitVec 32 := 128#32
  let v2199 : BitVec 32 := Scalar.muli v39 c128_i32_1182
  v2199
def k0_mult8 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_11 : BitVec 32 := 4#32
  let v40 : BitVec 32 := Scalar.subi v36 c4_i32_11
  let c1_i32_12 : BitVec 32 := 1#32
  let v41 : BitVec 32 := Scalar.addi v40 c1_i32_12
  let c0_i32_13 : BitVec 32 := 0#32
  let v42 : BitVec 32 := Scalar.maxsi v41 c0_i32_13
  let c128_i32_1191 : BitVec 32 := 128#32
  let v2208 : BitVec 32 := Scalar.muli v42 c128_i32_1191
  v2208
def k0_mult9 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_14 : BitVec 32 := 4#32
  let v43 : BitVec 32 := Scalar.subi v36 c4_i32_14
  let c2_i32 : BitVec 32 := 2#32
  let v44 : BitVec 32 := Scalar.addi v43 c2_i32
  let c0_i32_15 : BitVec 32 := 0#32
  let v45 : BitVec 32 := Scalar.maxsi v44 c0_i32_15
  let c128_i32_1200 : BitVec 32 := 128#32
  let v2217 : BitVec 32 := Scalar.muli v45 c128_i32_1200
  v2217
def k0_mult10 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_16 : BitVec 32 := 4#32
  let v46 : BitVec 32 := Scalar.subi v36 c4_i32_16
  let c3_i32 : BitVec 32 := 3#32
  let v47 : BitVec 32 := Scalar.addi v46 c3_i32
  let c0_i32_17 : BitVec 32 := 0#32
  let v48 : BitVec 32 := Scalar.maxsi v47 c0_i32_17
  let c128_i32_1209 : BitVec 32 := 128#32
  let v2226 : BitVec 32 := Scalar.muli v48 c128_i32_1209
  v2226
def k0_mult11 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_18 : BitVec 32 := 4#32
  let v49 : BitVec 32 := Scalar.subi v36 c4_i32_18
  let c4_i32_19 : BitVec 32 := 4#32
  let v50 : BitVec 32 := Scalar.addi v49 c4_i32_19
  let c0_i32_20 : BitVec 32 := 0#32
  let v51 : BitVec 32 := Scalar.maxsi v50 c0_i32_20
  let c128_i32_1218 : BitVec 32 := 128#32
  let v2235 : BitVec 32 := Scalar.muli v51 c128_i32_1218
  v2235
def k0_mult12 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_21 : BitVec 32 := 4#32
  let v52 : BitVec 32 := Scalar.subi v36 c4_i32_21
  let c5_i32 : BitVec 32 := 5#32
  let v53 : BitVec 32 := Scalar.addi v52 c5_i32
  let c0_i32_22 : BitVec 32 := 0#32
  let v54 : BitVec 32 := Scalar.maxsi v53 c0_i32_22
  let c128_i32_1227 : BitVec 32 := 128#32
  let v2244 : BitVec 32 := Scalar.muli v54 c128_i32_1227
  v2244
def k0_mult13 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32 : BitVec 32 := 4#32
  let v37 : BitVec 32 := Scalar.subi v36 c4_i32
  let c0_i32_9 : BitVec 32 := 0#32
  let v38 : BitVec 32 := Scalar.addi v37 c0_i32_9
  let c0_i32_10 : BitVec 32 := 0#32
  let v39 : BitVec 32 := Scalar.maxsi v38 c0_i32_10
  let c128_i32_1236 : BitVec 32 := 128#32
  let v2253 : BitVec 32 := Scalar.muli v39 c128_i32_1236
  v2253
def k0_mult14 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_11 : BitVec 32 := 4#32
  let v40 : BitVec 32 := Scalar.subi v36 c4_i32_11
  let c1_i32_12 : BitVec 32 := 1#32
  let v41 : BitVec 32 := Scalar.addi v40 c1_i32_12
  let c0_i32_13 : BitVec 32 := 0#32
  let v42 : BitVec 32 := Scalar.maxsi v41 c0_i32_13
  let c128_i32_1245 : BitVec 32 := 128#32
  let v2262 : BitVec 32 := Scalar.muli v42 c128_i32_1245
  v2262
def k0_mult15 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_14 : BitVec 32 := 4#32
  let v43 : BitVec 32 := Scalar.subi v36 c4_i32_14
  let c2_i32 : BitVec 32 := 2#32
  let v44 : BitVec 32 := Scalar.addi v43 c2_i32
  let c0_i32_15 : BitVec 32 := 0#32
  let v45 : BitVec 32 := Scalar.maxsi v44 c0_i32_15
  let c128_i32_1254 : BitVec 32 := 128#32
  let v2271 : BitVec 32 := Scalar.muli v45 c128_i32_1254
  v2271
def k0_mult16 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_16 : BitVec 32 := 4#32
  let v46 : BitVec 32 := Scalar.subi v36 c4_i32_16
  let c3_i32 : BitVec 32 := 3#32
  let v47 : BitVec 32 := Scalar.addi v46 c3_i32
  let c0_i32_17 : BitVec 32 := 0#32
  let v48 : BitVec 32 := Scalar.maxsi v47 c0_i32_17
  let c128_i32_1263 : BitVec 32 := 128#32
  let v2280 : BitVec 32 := Scalar.muli v48 c128_i32_1263
  v2280
def k0_mult17 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_18 : BitVec 32 := 4#32
  let v49 : BitVec 32 := Scalar.subi v36 c4_i32_18
  let c4_i32_19 : BitVec 32 := 4#32
  let v50 : BitVec 32 := Scalar.addi v49 c4_i32_19
  let c0_i32_20 : BitVec 32 := 0#32
  let v51 : BitVec 32 := Scalar.maxsi v50 c0_i32_20
  let c128_i32_1272 : BitVec 32 := 128#32
  let v2289 : BitVec 32 := Scalar.muli v51 c128_i32_1272
  v2289
def k0_mult18 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_21 : BitVec 32 := 4#32
  let v52 : BitVec 32 := Scalar.subi v36 c4_i32_21
  let c5_i32 : BitVec 32 := 5#32
  let v53 : BitVec 32 := Scalar.addi v52 c5_i32
  let c0_i32_22 : BitVec 32 := 0#32
  let v54 : BitVec 32 := Scalar.maxsi v53 c0_i32_22
  let c128_i32_1281 : BitVec 32 := 128#32
  let v2298 : BitVec 32 := Scalar.muli v54 c128_i32_1281
  v2298
def k0_mult19 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32 : BitVec 32 := 4#32
  let v37 : BitVec 32 := Scalar.subi v36 c4_i32
  let c0_i32_9 : BitVec 32 := 0#32
  let v38 : BitVec 32 := Scalar.addi v37 c0_i32_9
  let c0_i32_10 : BitVec 32 := 0#32
  let v39 : BitVec 32 := Scalar.maxsi v38 c0_i32_10
  let c128_i32_1290 : BitVec 32 := 128#32
  let v2307 : BitVec 32 := Scalar.muli v39 c128_i32_1290
  v2307
def k0_mult20 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_11 : BitVec 32 := 4#32
  let v40 : BitVec 32 := Scalar.subi v36 c4_i32_11
  let c1_i32_12 : BitVec 32 := 1#32
  let v41 : BitVec 32 := Scalar.addi v40 c1_i32_12
  let c0_i32_13 : BitVec 32 := 0#32
  let v42 : BitVec 32 := Scalar.maxsi v41 c0_i32_13
  let c128_i32_1299 : BitVec 32 := 128#32
  let v2316 : BitVec 32 := Scalar.muli v42 c128_i32_1299
  v2316
def k0_mult21 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_14 : BitVec 32 := 4#32
  let v43 : BitVec 32 := Scalar.subi v36 c4_i32_14
  let c2_i32 : BitVec 32 := 2#32
  let v44 : BitVec 32 := Scalar.addi v43 c2_i32
  let c0_i32_15 : BitVec 32 := 0#32
  let v45 : BitVec 32 := Scalar.maxsi v44 c0_i32_15
  let c128_i32_1308 : BitVec 32 := 128#32
  let v2325 : BitVec 32 := Scalar.muli v45 c128_i32_1308
  v2325
def k0_mult22 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_16 : BitVec 32 := 4#32
  let v46 : BitVec 32 := Scalar.subi v36 c4_i32_16
  let c3_i32 : BitVec 32 := 3#32
  let v47 : BitVec 32 := Scalar.addi v46 c3_i32
  let c0_i32_17 : BitVec 32 := 0#32
  let v48 : BitVec 32 := Scalar.maxsi v47 c0_i32_17
  let c128_i32_1317 : BitVec 32 := 128#32
  let v2334 : BitVec 32 := Scalar.muli v48 c128_i32_1317
  v2334
def k0_mult23 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_18 : BitVec 32 := 4#32
  let v49 : BitVec 32 := Scalar.subi v36 c4_i32_18
  let c4_i32_19 : BitVec 32 := 4#32
  let v50 : BitVec 32 := Scalar.addi v49 c4_i32_19
  let c0_i32_20 : BitVec 32 := 0#32
  let v51 : BitVec 32 := Scalar.maxsi v50 c0_i32_20
  let c128_i32_1326 : BitVec 32 := 128#32
  let v2343 : BitVec 32 := Scalar.muli v51 c128_i32_1326
  v2343
def k0_mult24 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_21 : BitVec 32 := 4#32
  let v52 : BitVec 32 := Scalar.subi v36 c4_i32_21
  let c5_i32 : BitVec 32 := 5#32
  let v53 : BitVec 32 := Scalar.addi v52 c5_i32
  let c0_i32_22 : BitVec 32 := 0#32
  let v54 : BitVec 32 := Scalar.maxsi v53 c0_i32_22
  let c128_i32_1335 : BitVec 32 := 128#32
  let v2352 : BitVec 32 := Scalar.muli v54 c128_i32_1335
  v2352
def k0_mult25 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32 : BitVec 32 := 4#32
  let v37 : BitVec 32 := Scalar.subi v36 c4_i32
  let c0_i32_9 : BitVec 32 := 0#32
  let v38 : BitVec 32 := Scalar.addi v37 c0_i32_9
  let c0_i32_10 : BitVec 32 := 0#32
  let v39 : BitVec 32 := Scalar.maxsi v38 c0_i32_10
  let c128_i32_1128 : BitVec 32 := 128#32
  let v2145 : BitVec 32 := Scalar.muli v39 c128_i32_1128
  v2145
def k0_off2 (i : grid0.Coords) (c0_i32_9 : BitVec 32) : Fin 4 → Nat :=
  let c0_1129 : Index := 0#32
  let c0_1130 : Index := 0#32
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32 : BitVec 32 := 4#32
  let v37 : BitVec 32 := Scalar.subi v36 c4_i32
  let v38 : BitVec 32 := Scalar.addi v37 c0_i32_9
  let c0_i32_10 : BitVec 32 := 0#32
  let v39 : BitVec 32 := Scalar.maxsi v38 c0_i32_10
  let c128_i32_1128 : BitVec 32 := 128#32
  let v2145 : BitVec 32 := Scalar.muli v39 c128_i32_1128
  let v2146 : BitVec 32 := v2145
  let v2147 : Index := Scalar.indexCast v2146
  let c0_1131 : Index := 0#32
  ![0, 0, v2147.toNat, 0]
def k0_mult26 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_11 : BitVec 32 := 4#32
  let v40 : BitVec 32 := Scalar.subi v36 c4_i32_11
  let c1_i32_12 : BitVec 32 := 1#32
  let v41 : BitVec 32 := Scalar.addi v40 c1_i32_12
  let c0_i32_13 : BitVec 32 := 0#32
  let v42 : BitVec 32 := Scalar.maxsi v41 c0_i32_13
  let c128_i32_1137 : BitVec 32 := 128#32
  let v2154 : BitVec 32 := Scalar.muli v42 c128_i32_1137
  v2154
def k0_mult27 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_14 : BitVec 32 := 4#32
  let v43 : BitVec 32 := Scalar.subi v36 c4_i32_14
  let c2_i32 : BitVec 32 := 2#32
  let v44 : BitVec 32 := Scalar.addi v43 c2_i32
  let c0_i32_15 : BitVec 32 := 0#32
  let v45 : BitVec 32 := Scalar.maxsi v44 c0_i32_15
  let c128_i32_1146 : BitVec 32 := 128#32
  let v2163 : BitVec 32 := Scalar.muli v45 c128_i32_1146
  v2163
def k0_mult28 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_16 : BitVec 32 := 4#32
  let v46 : BitVec 32 := Scalar.subi v36 c4_i32_16
  let c3_i32 : BitVec 32 := 3#32
  let v47 : BitVec 32 := Scalar.addi v46 c3_i32
  let c0_i32_17 : BitVec 32 := 0#32
  let v48 : BitVec 32 := Scalar.maxsi v47 c0_i32_17
  let c128_i32_1155 : BitVec 32 := 128#32
  let v2172 : BitVec 32 := Scalar.muli v48 c128_i32_1155
  v2172
def k0_mult29 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_18 : BitVec 32 := 4#32
  let v49 : BitVec 32 := Scalar.subi v36 c4_i32_18
  let c4_i32_19 : BitVec 32 := 4#32
  let v50 : BitVec 32 := Scalar.addi v49 c4_i32_19
  let c0_i32_20 : BitVec 32 := 0#32
  let v51 : BitVec 32 := Scalar.maxsi v50 c0_i32_20
  let c128_i32_1164 : BitVec 32 := 128#32
  let v2181 : BitVec 32 := Scalar.muli v51 c128_i32_1164
  v2181
def k0_mult30 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_21 : BitVec 32 := 4#32
  let v52 : BitVec 32 := Scalar.subi v36 c4_i32_21
  let c5_i32 : BitVec 32 := 5#32
  let v53 : BitVec 32 := Scalar.addi v52 c5_i32
  let c0_i32_22 : BitVec 32 := 0#32
  let v54 : BitVec 32 := Scalar.maxsi v53 c0_i32_22
  let c128_i32_1173 : BitVec 32 := 128#32
  let v2190 : BitVec 32 := Scalar.muli v54 c128_i32_1173
  v2190
def k0_mult31 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32 : BitVec 32 := 4#32
  let v37 : BitVec 32 := Scalar.subi v36 c4_i32
  let c0_i32_9 : BitVec 32 := 0#32
  let v38 : BitVec 32 := Scalar.addi v37 c0_i32_9
  let c0_i32_10 : BitVec 32 := 0#32
  let v39 : BitVec 32 := Scalar.maxsi v38 c0_i32_10
  let c128_i32_1182 : BitVec 32 := 128#32
  let v2199 : BitVec 32 := Scalar.muli v39 c128_i32_1182
  v2199
def k0_mult32 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_11 : BitVec 32 := 4#32
  let v40 : BitVec 32 := Scalar.subi v36 c4_i32_11
  let c1_i32_12 : BitVec 32 := 1#32
  let v41 : BitVec 32 := Scalar.addi v40 c1_i32_12
  let c0_i32_13 : BitVec 32 := 0#32
  let v42 : BitVec 32 := Scalar.maxsi v41 c0_i32_13
  let c128_i32_1191 : BitVec 32 := 128#32
  let v2208 : BitVec 32 := Scalar.muli v42 c128_i32_1191
  v2208
def k0_mult33 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_14 : BitVec 32 := 4#32
  let v43 : BitVec 32 := Scalar.subi v36 c4_i32_14
  let c2_i32 : BitVec 32 := 2#32
  let v44 : BitVec 32 := Scalar.addi v43 c2_i32
  let c0_i32_15 : BitVec 32 := 0#32
  let v45 : BitVec 32 := Scalar.maxsi v44 c0_i32_15
  let c128_i32_1200 : BitVec 32 := 128#32
  let v2217 : BitVec 32 := Scalar.muli v45 c128_i32_1200
  v2217
def k0_mult34 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_16 : BitVec 32 := 4#32
  let v46 : BitVec 32 := Scalar.subi v36 c4_i32_16
  let c3_i32 : BitVec 32 := 3#32
  let v47 : BitVec 32 := Scalar.addi v46 c3_i32
  let c0_i32_17 : BitVec 32 := 0#32
  let v48 : BitVec 32 := Scalar.maxsi v47 c0_i32_17
  let c128_i32_1209 : BitVec 32 := 128#32
  let v2226 : BitVec 32 := Scalar.muli v48 c128_i32_1209
  v2226
def k0_mult35 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_18 : BitVec 32 := 4#32
  let v49 : BitVec 32 := Scalar.subi v36 c4_i32_18
  let c4_i32_19 : BitVec 32 := 4#32
  let v50 : BitVec 32 := Scalar.addi v49 c4_i32_19
  let c0_i32_20 : BitVec 32 := 0#32
  let v51 : BitVec 32 := Scalar.maxsi v50 c0_i32_20
  let c128_i32_1218 : BitVec 32 := 128#32
  let v2235 : BitVec 32 := Scalar.muli v51 c128_i32_1218
  v2235
def k0_mult36 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_21 : BitVec 32 := 4#32
  let v52 : BitVec 32 := Scalar.subi v36 c4_i32_21
  let c5_i32 : BitVec 32 := 5#32
  let v53 : BitVec 32 := Scalar.addi v52 c5_i32
  let c0_i32_22 : BitVec 32 := 0#32
  let v54 : BitVec 32 := Scalar.maxsi v53 c0_i32_22
  let c128_i32_1227 : BitVec 32 := 128#32
  let v2244 : BitVec 32 := Scalar.muli v54 c128_i32_1227
  v2244
def k0_mult37 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32 : BitVec 32 := 4#32
  let v37 : BitVec 32 := Scalar.subi v36 c4_i32
  let c0_i32_9 : BitVec 32 := 0#32
  let v38 : BitVec 32 := Scalar.addi v37 c0_i32_9
  let c0_i32_10 : BitVec 32 := 0#32
  let v39 : BitVec 32 := Scalar.maxsi v38 c0_i32_10
  let c128_i32_1236 : BitVec 32 := 128#32
  let v2253 : BitVec 32 := Scalar.muli v39 c128_i32_1236
  v2253
def k0_mult38 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_11 : BitVec 32 := 4#32
  let v40 : BitVec 32 := Scalar.subi v36 c4_i32_11
  let c1_i32_12 : BitVec 32 := 1#32
  let v41 : BitVec 32 := Scalar.addi v40 c1_i32_12
  let c0_i32_13 : BitVec 32 := 0#32
  let v42 : BitVec 32 := Scalar.maxsi v41 c0_i32_13
  let c128_i32_1245 : BitVec 32 := 128#32
  let v2262 : BitVec 32 := Scalar.muli v42 c128_i32_1245
  v2262
def k0_mult39 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_14 : BitVec 32 := 4#32
  let v43 : BitVec 32 := Scalar.subi v36 c4_i32_14
  let c2_i32 : BitVec 32 := 2#32
  let v44 : BitVec 32 := Scalar.addi v43 c2_i32
  let c0_i32_15 : BitVec 32 := 0#32
  let v45 : BitVec 32 := Scalar.maxsi v44 c0_i32_15
  let c128_i32_1254 : BitVec 32 := 128#32
  let v2271 : BitVec 32 := Scalar.muli v45 c128_i32_1254
  v2271
def k0_mult40 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_16 : BitVec 32 := 4#32
  let v46 : BitVec 32 := Scalar.subi v36 c4_i32_16
  let c3_i32 : BitVec 32 := 3#32
  let v47 : BitVec 32 := Scalar.addi v46 c3_i32
  let c0_i32_17 : BitVec 32 := 0#32
  let v48 : BitVec 32 := Scalar.maxsi v47 c0_i32_17
  let c128_i32_1263 : BitVec 32 := 128#32
  let v2280 : BitVec 32 := Scalar.muli v48 c128_i32_1263
  v2280
def k0_mult41 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_18 : BitVec 32 := 4#32
  let v49 : BitVec 32 := Scalar.subi v36 c4_i32_18
  let c4_i32_19 : BitVec 32 := 4#32
  let v50 : BitVec 32 := Scalar.addi v49 c4_i32_19
  let c0_i32_20 : BitVec 32 := 0#32
  let v51 : BitVec 32 := Scalar.maxsi v50 c0_i32_20
  let c128_i32_1272 : BitVec 32 := 128#32
  let v2289 : BitVec 32 := Scalar.muli v51 c128_i32_1272
  v2289
def k0_mult42 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_21 : BitVec 32 := 4#32
  let v52 : BitVec 32 := Scalar.subi v36 c4_i32_21
  let c5_i32 : BitVec 32 := 5#32
  let v53 : BitVec 32 := Scalar.addi v52 c5_i32
  let c0_i32_22 : BitVec 32 := 0#32
  let v54 : BitVec 32 := Scalar.maxsi v53 c0_i32_22
  let c128_i32_1281 : BitVec 32 := 128#32
  let v2298 : BitVec 32 := Scalar.muli v54 c128_i32_1281
  v2298
def k0_mult43 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32 : BitVec 32 := 4#32
  let v37 : BitVec 32 := Scalar.subi v36 c4_i32
  let c0_i32_9 : BitVec 32 := 0#32
  let v38 : BitVec 32 := Scalar.addi v37 c0_i32_9
  let c0_i32_10 : BitVec 32 := 0#32
  let v39 : BitVec 32 := Scalar.maxsi v38 c0_i32_10
  let c128_i32_1290 : BitVec 32 := 128#32
  let v2307 : BitVec 32 := Scalar.muli v39 c128_i32_1290
  v2307
def k0_mult44 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_11 : BitVec 32 := 4#32
  let v40 : BitVec 32 := Scalar.subi v36 c4_i32_11
  let c1_i32_12 : BitVec 32 := 1#32
  let v41 : BitVec 32 := Scalar.addi v40 c1_i32_12
  let c0_i32_13 : BitVec 32 := 0#32
  let v42 : BitVec 32 := Scalar.maxsi v41 c0_i32_13
  let c128_i32_1299 : BitVec 32 := 128#32
  let v2316 : BitVec 32 := Scalar.muli v42 c128_i32_1299
  v2316
def k0_mult45 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_14 : BitVec 32 := 4#32
  let v43 : BitVec 32 := Scalar.subi v36 c4_i32_14
  let c2_i32 : BitVec 32 := 2#32
  let v44 : BitVec 32 := Scalar.addi v43 c2_i32
  let c0_i32_15 : BitVec 32 := 0#32
  let v45 : BitVec 32 := Scalar.maxsi v44 c0_i32_15
  let c128_i32_1308 : BitVec 32 := 128#32
  let v2325 : BitVec 32 := Scalar.muli v45 c128_i32_1308
  v2325
def k0_mult46 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_16 : BitVec 32 := 4#32
  let v46 : BitVec 32 := Scalar.subi v36 c4_i32_16
  let c3_i32 : BitVec 32 := 3#32
  let v47 : BitVec 32 := Scalar.addi v46 c3_i32
  let c0_i32_17 : BitVec 32 := 0#32
  let v48 : BitVec 32 := Scalar.maxsi v47 c0_i32_17
  let c128_i32_1317 : BitVec 32 := 128#32
  let v2334 : BitVec 32 := Scalar.muli v48 c128_i32_1317
  v2334
def k0_mult47 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_18 : BitVec 32 := 4#32
  let v49 : BitVec 32 := Scalar.subi v36 c4_i32_18
  let c4_i32_19 : BitVec 32 := 4#32
  let v50 : BitVec 32 := Scalar.addi v49 c4_i32_19
  let c0_i32_20 : BitVec 32 := 0#32
  let v51 : BitVec 32 := Scalar.maxsi v50 c0_i32_20
  let c128_i32_1326 : BitVec 32 := 128#32
  let v2343 : BitVec 32 := Scalar.muli v51 c128_i32_1326
  v2343
def k0_mult48 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_21 : BitVec 32 := 4#32
  let v52 : BitVec 32 := Scalar.subi v36 c4_i32_21
  let c5_i32 : BitVec 32 := 5#32
  let v53 : BitVec 32 := Scalar.addi v52 c5_i32
  let c0_i32_22 : BitVec 32 := 0#32
  let v54 : BitVec 32 := Scalar.maxsi v53 c0_i32_22
  let c128_i32_1335 : BitVec 32 := 128#32
  let v2352 : BitVec 32 := Scalar.muli v54 c128_i32_1335
  v2352
def k0_mult49 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32 : BitVec 32 := 4#32
  let v37 : BitVec 32 := Scalar.subi v36 c4_i32
  let c0_i32_9 : BitVec 32 := 0#32
  let v38 : BitVec 32 := Scalar.addi v37 c0_i32_9
  let c0_i32_10 : BitVec 32 := 0#32
  let v39 : BitVec 32 := Scalar.maxsi v38 c0_i32_10
  let c128_i32_1126 : BitVec 32 := 128#32
  let v2142 : BitVec 32 := Scalar.muli v39 c128_i32_1126
  v2142
def k0_off3 (i : grid0.Coords) (c0_i32_9 : BitVec 32) : Fin 4 → Nat :=
  let c0_1127 : Index := 0#32
  let c0_1128 : Index := 0#32
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32 : BitVec 32 := 4#32
  let v37 : BitVec 32 := Scalar.subi v36 c4_i32
  let v38 : BitVec 32 := Scalar.addi v37 c0_i32_9
  let c0_i32_10 : BitVec 32 := 0#32
  let v39 : BitVec 32 := Scalar.maxsi v38 c0_i32_10
  let c128_i32_1126 : BitVec 32 := 128#32
  let v2142 : BitVec 32 := Scalar.muli v39 c128_i32_1126
  let v2143 : BitVec 32 := v2142
  let v2144 : Index := Scalar.indexCast v2143
  let c0_1129 : Index := 0#32
  ![0, 0, v2144.toNat, 0]
def k0_mult50 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_11 : BitVec 32 := 4#32
  let v40 : BitVec 32 := Scalar.subi v36 c4_i32_11
  let c1_i32_12 : BitVec 32 := 1#32
  let v41 : BitVec 32 := Scalar.addi v40 c1_i32_12
  let c0_i32_13 : BitVec 32 := 0#32
  let v42 : BitVec 32 := Scalar.maxsi v41 c0_i32_13
  let c128_i32_1135 : BitVec 32 := 128#32
  let v2151 : BitVec 32 := Scalar.muli v42 c128_i32_1135
  v2151
def k0_mult51 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_14 : BitVec 32 := 4#32
  let v43 : BitVec 32 := Scalar.subi v36 c4_i32_14
  let c2_i32 : BitVec 32 := 2#32
  let v44 : BitVec 32 := Scalar.addi v43 c2_i32
  let c0_i32_15 : BitVec 32 := 0#32
  let v45 : BitVec 32 := Scalar.maxsi v44 c0_i32_15
  let c128_i32_1144 : BitVec 32 := 128#32
  let v2160 : BitVec 32 := Scalar.muli v45 c128_i32_1144
  v2160
def k0_mult52 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_16 : BitVec 32 := 4#32
  let v46 : BitVec 32 := Scalar.subi v36 c4_i32_16
  let c3_i32 : BitVec 32 := 3#32
  let v47 : BitVec 32 := Scalar.addi v46 c3_i32
  let c0_i32_17 : BitVec 32 := 0#32
  let v48 : BitVec 32 := Scalar.maxsi v47 c0_i32_17
  let c128_i32_1153 : BitVec 32 := 128#32
  let v2169 : BitVec 32 := Scalar.muli v48 c128_i32_1153
  v2169
def k0_mult53 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_18 : BitVec 32 := 4#32
  let v49 : BitVec 32 := Scalar.subi v36 c4_i32_18
  let c4_i32_19 : BitVec 32 := 4#32
  let v50 : BitVec 32 := Scalar.addi v49 c4_i32_19
  let c0_i32_20 : BitVec 32 := 0#32
  let v51 : BitVec 32 := Scalar.maxsi v50 c0_i32_20
  let c128_i32_1162 : BitVec 32 := 128#32
  let v2178 : BitVec 32 := Scalar.muli v51 c128_i32_1162
  v2178
def k0_mult54 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_21 : BitVec 32 := 4#32
  let v52 : BitVec 32 := Scalar.subi v36 c4_i32_21
  let c5_i32 : BitVec 32 := 5#32
  let v53 : BitVec 32 := Scalar.addi v52 c5_i32
  let c0_i32_22 : BitVec 32 := 0#32
  let v54 : BitVec 32 := Scalar.maxsi v53 c0_i32_22
  let c128_i32_1171 : BitVec 32 := 128#32
  let v2187 : BitVec 32 := Scalar.muli v54 c128_i32_1171
  v2187
def k0_mult55 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32 : BitVec 32 := 4#32
  let v37 : BitVec 32 := Scalar.subi v36 c4_i32
  let c0_i32_9 : BitVec 32 := 0#32
  let v38 : BitVec 32 := Scalar.addi v37 c0_i32_9
  let c0_i32_10 : BitVec 32 := 0#32
  let v39 : BitVec 32 := Scalar.maxsi v38 c0_i32_10
  let c128_i32_1180 : BitVec 32 := 128#32
  let v2196 : BitVec 32 := Scalar.muli v39 c128_i32_1180
  v2196
def k0_mult56 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_11 : BitVec 32 := 4#32
  let v40 : BitVec 32 := Scalar.subi v36 c4_i32_11
  let c1_i32_12 : BitVec 32 := 1#32
  let v41 : BitVec 32 := Scalar.addi v40 c1_i32_12
  let c0_i32_13 : BitVec 32 := 0#32
  let v42 : BitVec 32 := Scalar.maxsi v41 c0_i32_13
  let c128_i32_1189 : BitVec 32 := 128#32
  let v2205 : BitVec 32 := Scalar.muli v42 c128_i32_1189
  v2205
def k0_mult57 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_14 : BitVec 32 := 4#32
  let v43 : BitVec 32 := Scalar.subi v36 c4_i32_14
  let c2_i32 : BitVec 32 := 2#32
  let v44 : BitVec 32 := Scalar.addi v43 c2_i32
  let c0_i32_15 : BitVec 32 := 0#32
  let v45 : BitVec 32 := Scalar.maxsi v44 c0_i32_15
  let c128_i32_1198 : BitVec 32 := 128#32
  let v2214 : BitVec 32 := Scalar.muli v45 c128_i32_1198
  v2214
def k0_mult58 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_16 : BitVec 32 := 4#32
  let v46 : BitVec 32 := Scalar.subi v36 c4_i32_16
  let c3_i32 : BitVec 32 := 3#32
  let v47 : BitVec 32 := Scalar.addi v46 c3_i32
  let c0_i32_17 : BitVec 32 := 0#32
  let v48 : BitVec 32 := Scalar.maxsi v47 c0_i32_17
  let c128_i32_1207 : BitVec 32 := 128#32
  let v2223 : BitVec 32 := Scalar.muli v48 c128_i32_1207
  v2223
def k0_mult59 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_18 : BitVec 32 := 4#32
  let v49 : BitVec 32 := Scalar.subi v36 c4_i32_18
  let c4_i32_19 : BitVec 32 := 4#32
  let v50 : BitVec 32 := Scalar.addi v49 c4_i32_19
  let c0_i32_20 : BitVec 32 := 0#32
  let v51 : BitVec 32 := Scalar.maxsi v50 c0_i32_20
  let c128_i32_1216 : BitVec 32 := 128#32
  let v2232 : BitVec 32 := Scalar.muli v51 c128_i32_1216
  v2232
def k0_mult60 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_21 : BitVec 32 := 4#32
  let v52 : BitVec 32 := Scalar.subi v36 c4_i32_21
  let c5_i32 : BitVec 32 := 5#32
  let v53 : BitVec 32 := Scalar.addi v52 c5_i32
  let c0_i32_22 : BitVec 32 := 0#32
  let v54 : BitVec 32 := Scalar.maxsi v53 c0_i32_22
  let c128_i32_1225 : BitVec 32 := 128#32
  let v2241 : BitVec 32 := Scalar.muli v54 c128_i32_1225
  v2241
def k0_mult61 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32 : BitVec 32 := 4#32
  let v37 : BitVec 32 := Scalar.subi v36 c4_i32
  let c0_i32_9 : BitVec 32 := 0#32
  let v38 : BitVec 32 := Scalar.addi v37 c0_i32_9
  let c0_i32_10 : BitVec 32 := 0#32
  let v39 : BitVec 32 := Scalar.maxsi v38 c0_i32_10
  let c128_i32_1234 : BitVec 32 := 128#32
  let v2250 : BitVec 32 := Scalar.muli v39 c128_i32_1234
  v2250
def k0_mult62 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_11 : BitVec 32 := 4#32
  let v40 : BitVec 32 := Scalar.subi v36 c4_i32_11
  let c1_i32_12 : BitVec 32 := 1#32
  let v41 : BitVec 32 := Scalar.addi v40 c1_i32_12
  let c0_i32_13 : BitVec 32 := 0#32
  let v42 : BitVec 32 := Scalar.maxsi v41 c0_i32_13
  let c128_i32_1243 : BitVec 32 := 128#32
  let v2259 : BitVec 32 := Scalar.muli v42 c128_i32_1243
  v2259
def k0_mult63 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_14 : BitVec 32 := 4#32
  let v43 : BitVec 32 := Scalar.subi v36 c4_i32_14
  let c2_i32 : BitVec 32 := 2#32
  let v44 : BitVec 32 := Scalar.addi v43 c2_i32
  let c0_i32_15 : BitVec 32 := 0#32
  let v45 : BitVec 32 := Scalar.maxsi v44 c0_i32_15
  let c128_i32_1252 : BitVec 32 := 128#32
  let v2268 : BitVec 32 := Scalar.muli v45 c128_i32_1252
  v2268
def k0_mult64 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_16 : BitVec 32 := 4#32
  let v46 : BitVec 32 := Scalar.subi v36 c4_i32_16
  let c3_i32 : BitVec 32 := 3#32
  let v47 : BitVec 32 := Scalar.addi v46 c3_i32
  let c0_i32_17 : BitVec 32 := 0#32
  let v48 : BitVec 32 := Scalar.maxsi v47 c0_i32_17
  let c128_i32_1261 : BitVec 32 := 128#32
  let v2277 : BitVec 32 := Scalar.muli v48 c128_i32_1261
  v2277
def k0_mult65 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_18 : BitVec 32 := 4#32
  let v49 : BitVec 32 := Scalar.subi v36 c4_i32_18
  let c4_i32_19 : BitVec 32 := 4#32
  let v50 : BitVec 32 := Scalar.addi v49 c4_i32_19
  let c0_i32_20 : BitVec 32 := 0#32
  let v51 : BitVec 32 := Scalar.maxsi v50 c0_i32_20
  let c128_i32_1270 : BitVec 32 := 128#32
  let v2286 : BitVec 32 := Scalar.muli v51 c128_i32_1270
  v2286
def k0_mult66 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_21 : BitVec 32 := 4#32
  let v52 : BitVec 32 := Scalar.subi v36 c4_i32_21
  let c5_i32 : BitVec 32 := 5#32
  let v53 : BitVec 32 := Scalar.addi v52 c5_i32
  let c0_i32_22 : BitVec 32 := 0#32
  let v54 : BitVec 32 := Scalar.maxsi v53 c0_i32_22
  let c128_i32_1279 : BitVec 32 := 128#32
  let v2295 : BitVec 32 := Scalar.muli v54 c128_i32_1279
  v2295
def k0_mult67 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32 : BitVec 32 := 4#32
  let v37 : BitVec 32 := Scalar.subi v36 c4_i32
  let c0_i32_9 : BitVec 32 := 0#32
  let v38 : BitVec 32 := Scalar.addi v37 c0_i32_9
  let c0_i32_10 : BitVec 32 := 0#32
  let v39 : BitVec 32 := Scalar.maxsi v38 c0_i32_10
  let c128_i32_1288 : BitVec 32 := 128#32
  let v2304 : BitVec 32 := Scalar.muli v39 c128_i32_1288
  v2304
def k0_mult68 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_11 : BitVec 32 := 4#32
  let v40 : BitVec 32 := Scalar.subi v36 c4_i32_11
  let c1_i32_12 : BitVec 32 := 1#32
  let v41 : BitVec 32 := Scalar.addi v40 c1_i32_12
  let c0_i32_13 : BitVec 32 := 0#32
  let v42 : BitVec 32 := Scalar.maxsi v41 c0_i32_13
  let c128_i32_1297 : BitVec 32 := 128#32
  let v2313 : BitVec 32 := Scalar.muli v42 c128_i32_1297
  v2313
def k0_mult69 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_14 : BitVec 32 := 4#32
  let v43 : BitVec 32 := Scalar.subi v36 c4_i32_14
  let c2_i32 : BitVec 32 := 2#32
  let v44 : BitVec 32 := Scalar.addi v43 c2_i32
  let c0_i32_15 : BitVec 32 := 0#32
  let v45 : BitVec 32 := Scalar.maxsi v44 c0_i32_15
  let c128_i32_1306 : BitVec 32 := 128#32
  let v2322 : BitVec 32 := Scalar.muli v45 c128_i32_1306
  v2322
def k0_mult70 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_16 : BitVec 32 := 4#32
  let v46 : BitVec 32 := Scalar.subi v36 c4_i32_16
  let c3_i32 : BitVec 32 := 3#32
  let v47 : BitVec 32 := Scalar.addi v46 c3_i32
  let c0_i32_17 : BitVec 32 := 0#32
  let v48 : BitVec 32 := Scalar.maxsi v47 c0_i32_17
  let c128_i32_1315 : BitVec 32 := 128#32
  let v2331 : BitVec 32 := Scalar.muli v48 c128_i32_1315
  v2331
def k0_mult71 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_18 : BitVec 32 := 4#32
  let v49 : BitVec 32 := Scalar.subi v36 c4_i32_18
  let c4_i32_19 : BitVec 32 := 4#32
  let v50 : BitVec 32 := Scalar.addi v49 c4_i32_19
  let c0_i32_20 : BitVec 32 := 0#32
  let v51 : BitVec 32 := Scalar.maxsi v50 c0_i32_20
  let c128_i32_1324 : BitVec 32 := 128#32
  let v2340 : BitVec 32 := Scalar.muli v51 c128_i32_1324
  v2340
def k0_mult72 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_21 : BitVec 32 := 4#32
  let v52 : BitVec 32 := Scalar.subi v36 c4_i32_21
  let c5_i32 : BitVec 32 := 5#32
  let v53 : BitVec 32 := Scalar.addi v52 c5_i32
  let c0_i32_22 : BitVec 32 := 0#32
  let v54 : BitVec 32 := Scalar.maxsi v53 c0_i32_22
  let c128_i32_1333 : BitVec 32 := 128#32
  let v2349 : BitVec 32 := Scalar.muli v54 c128_i32_1333
  v2349
def k0_mult73 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32 : BitVec 32 := 4#32
  let v37 : BitVec 32 := Scalar.subi v36 c4_i32
  let c0_i32_9 : BitVec 32 := 0#32
  let v38 : BitVec 32 := Scalar.addi v37 c0_i32_9
  let c0_i32_10 : BitVec 32 := 0#32
  let v39 : BitVec 32 := Scalar.maxsi v38 c0_i32_10
  let c128_i32_1124 : BitVec 32 := 128#32
  let v2139 : BitVec 32 := Scalar.muli v39 c128_i32_1124
  v2139
def k0_off4 (i : grid0.Coords) (c0_i32_9 : BitVec 32) : Fin 4 → Nat :=
  let c0_1125 : Index := 0#32
  let c0_1126 : Index := 0#32
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32 : BitVec 32 := 4#32
  let v37 : BitVec 32 := Scalar.subi v36 c4_i32
  let v38 : BitVec 32 := Scalar.addi v37 c0_i32_9
  let c0_i32_10 : BitVec 32 := 0#32
  let v39 : BitVec 32 := Scalar.maxsi v38 c0_i32_10
  let c128_i32_1124 : BitVec 32 := 128#32
  let v2139 : BitVec 32 := Scalar.muli v39 c128_i32_1124
  let v2140 : BitVec 32 := v2139
  let v2141 : Index := Scalar.indexCast v2140
  let c0_1127 : Index := 0#32
  ![0, 0, v2141.toNat, 0]
def k0_mult74 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_11 : BitVec 32 := 4#32
  let v40 : BitVec 32 := Scalar.subi v36 c4_i32_11
  let c1_i32_12 : BitVec 32 := 1#32
  let v41 : BitVec 32 := Scalar.addi v40 c1_i32_12
  let c0_i32_13 : BitVec 32 := 0#32
  let v42 : BitVec 32 := Scalar.maxsi v41 c0_i32_13
  let c128_i32_1133 : BitVec 32 := 128#32
  let v2148 : BitVec 32 := Scalar.muli v42 c128_i32_1133
  v2148
def k0_mult75 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_14 : BitVec 32 := 4#32
  let v43 : BitVec 32 := Scalar.subi v36 c4_i32_14
  let c2_i32 : BitVec 32 := 2#32
  let v44 : BitVec 32 := Scalar.addi v43 c2_i32
  let c0_i32_15 : BitVec 32 := 0#32
  let v45 : BitVec 32 := Scalar.maxsi v44 c0_i32_15
  let c128_i32_1142 : BitVec 32 := 128#32
  let v2157 : BitVec 32 := Scalar.muli v45 c128_i32_1142
  v2157
def k0_mult76 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_16 : BitVec 32 := 4#32
  let v46 : BitVec 32 := Scalar.subi v36 c4_i32_16
  let c3_i32 : BitVec 32 := 3#32
  let v47 : BitVec 32 := Scalar.addi v46 c3_i32
  let c0_i32_17 : BitVec 32 := 0#32
  let v48 : BitVec 32 := Scalar.maxsi v47 c0_i32_17
  let c128_i32_1151 : BitVec 32 := 128#32
  let v2166 : BitVec 32 := Scalar.muli v48 c128_i32_1151
  v2166
def k0_mult77 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_18 : BitVec 32 := 4#32
  let v49 : BitVec 32 := Scalar.subi v36 c4_i32_18
  let c4_i32_19 : BitVec 32 := 4#32
  let v50 : BitVec 32 := Scalar.addi v49 c4_i32_19
  let c0_i32_20 : BitVec 32 := 0#32
  let v51 : BitVec 32 := Scalar.maxsi v50 c0_i32_20
  let c128_i32_1160 : BitVec 32 := 128#32
  let v2175 : BitVec 32 := Scalar.muli v51 c128_i32_1160
  v2175
def k0_mult78 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_21 : BitVec 32 := 4#32
  let v52 : BitVec 32 := Scalar.subi v36 c4_i32_21
  let c5_i32 : BitVec 32 := 5#32
  let v53 : BitVec 32 := Scalar.addi v52 c5_i32
  let c0_i32_22 : BitVec 32 := 0#32
  let v54 : BitVec 32 := Scalar.maxsi v53 c0_i32_22
  let c128_i32_1169 : BitVec 32 := 128#32
  let v2184 : BitVec 32 := Scalar.muli v54 c128_i32_1169
  v2184
def k0_mult79 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32 : BitVec 32 := 4#32
  let v37 : BitVec 32 := Scalar.subi v36 c4_i32
  let c0_i32_9 : BitVec 32 := 0#32
  let v38 : BitVec 32 := Scalar.addi v37 c0_i32_9
  let c0_i32_10 : BitVec 32 := 0#32
  let v39 : BitVec 32 := Scalar.maxsi v38 c0_i32_10
  let c128_i32_1178 : BitVec 32 := 128#32
  let v2193 : BitVec 32 := Scalar.muli v39 c128_i32_1178
  v2193
def k0_mult80 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_11 : BitVec 32 := 4#32
  let v40 : BitVec 32 := Scalar.subi v36 c4_i32_11
  let c1_i32_12 : BitVec 32 := 1#32
  let v41 : BitVec 32 := Scalar.addi v40 c1_i32_12
  let c0_i32_13 : BitVec 32 := 0#32
  let v42 : BitVec 32 := Scalar.maxsi v41 c0_i32_13
  let c128_i32_1187 : BitVec 32 := 128#32
  let v2202 : BitVec 32 := Scalar.muli v42 c128_i32_1187
  v2202
def k0_mult81 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_14 : BitVec 32 := 4#32
  let v43 : BitVec 32 := Scalar.subi v36 c4_i32_14
  let c2_i32 : BitVec 32 := 2#32
  let v44 : BitVec 32 := Scalar.addi v43 c2_i32
  let c0_i32_15 : BitVec 32 := 0#32
  let v45 : BitVec 32 := Scalar.maxsi v44 c0_i32_15
  let c128_i32_1196 : BitVec 32 := 128#32
  let v2211 : BitVec 32 := Scalar.muli v45 c128_i32_1196
  v2211
def k0_mult82 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_16 : BitVec 32 := 4#32
  let v46 : BitVec 32 := Scalar.subi v36 c4_i32_16
  let c3_i32 : BitVec 32 := 3#32
  let v47 : BitVec 32 := Scalar.addi v46 c3_i32
  let c0_i32_17 : BitVec 32 := 0#32
  let v48 : BitVec 32 := Scalar.maxsi v47 c0_i32_17
  let c128_i32_1205 : BitVec 32 := 128#32
  let v2220 : BitVec 32 := Scalar.muli v48 c128_i32_1205
  v2220
def k0_mult83 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_18 : BitVec 32 := 4#32
  let v49 : BitVec 32 := Scalar.subi v36 c4_i32_18
  let c4_i32_19 : BitVec 32 := 4#32
  let v50 : BitVec 32 := Scalar.addi v49 c4_i32_19
  let c0_i32_20 : BitVec 32 := 0#32
  let v51 : BitVec 32 := Scalar.maxsi v50 c0_i32_20
  let c128_i32_1214 : BitVec 32 := 128#32
  let v2229 : BitVec 32 := Scalar.muli v51 c128_i32_1214
  v2229
def k0_mult84 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_21 : BitVec 32 := 4#32
  let v52 : BitVec 32 := Scalar.subi v36 c4_i32_21
  let c5_i32 : BitVec 32 := 5#32
  let v53 : BitVec 32 := Scalar.addi v52 c5_i32
  let c0_i32_22 : BitVec 32 := 0#32
  let v54 : BitVec 32 := Scalar.maxsi v53 c0_i32_22
  let c128_i32_1223 : BitVec 32 := 128#32
  let v2238 : BitVec 32 := Scalar.muli v54 c128_i32_1223
  v2238
def k0_mult85 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32 : BitVec 32 := 4#32
  let v37 : BitVec 32 := Scalar.subi v36 c4_i32
  let c0_i32_9 : BitVec 32 := 0#32
  let v38 : BitVec 32 := Scalar.addi v37 c0_i32_9
  let c0_i32_10 : BitVec 32 := 0#32
  let v39 : BitVec 32 := Scalar.maxsi v38 c0_i32_10
  let c128_i32_1232 : BitVec 32 := 128#32
  let v2247 : BitVec 32 := Scalar.muli v39 c128_i32_1232
  v2247
def k0_mult86 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_11 : BitVec 32 := 4#32
  let v40 : BitVec 32 := Scalar.subi v36 c4_i32_11
  let c1_i32_12 : BitVec 32 := 1#32
  let v41 : BitVec 32 := Scalar.addi v40 c1_i32_12
  let c0_i32_13 : BitVec 32 := 0#32
  let v42 : BitVec 32 := Scalar.maxsi v41 c0_i32_13
  let c128_i32_1241 : BitVec 32 := 128#32
  let v2256 : BitVec 32 := Scalar.muli v42 c128_i32_1241
  v2256
def k0_mult87 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_14 : BitVec 32 := 4#32
  let v43 : BitVec 32 := Scalar.subi v36 c4_i32_14
  let c2_i32 : BitVec 32 := 2#32
  let v44 : BitVec 32 := Scalar.addi v43 c2_i32
  let c0_i32_15 : BitVec 32 := 0#32
  let v45 : BitVec 32 := Scalar.maxsi v44 c0_i32_15
  let c128_i32_1250 : BitVec 32 := 128#32
  let v2265 : BitVec 32 := Scalar.muli v45 c128_i32_1250
  v2265
def k0_mult88 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_16 : BitVec 32 := 4#32
  let v46 : BitVec 32 := Scalar.subi v36 c4_i32_16
  let c3_i32 : BitVec 32 := 3#32
  let v47 : BitVec 32 := Scalar.addi v46 c3_i32
  let c0_i32_17 : BitVec 32 := 0#32
  let v48 : BitVec 32 := Scalar.maxsi v47 c0_i32_17
  let c128_i32_1259 : BitVec 32 := 128#32
  let v2274 : BitVec 32 := Scalar.muli v48 c128_i32_1259
  v2274
def k0_mult89 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_18 : BitVec 32 := 4#32
  let v49 : BitVec 32 := Scalar.subi v36 c4_i32_18
  let c4_i32_19 : BitVec 32 := 4#32
  let v50 : BitVec 32 := Scalar.addi v49 c4_i32_19
  let c0_i32_20 : BitVec 32 := 0#32
  let v51 : BitVec 32 := Scalar.maxsi v50 c0_i32_20
  let c128_i32_1268 : BitVec 32 := 128#32
  let v2283 : BitVec 32 := Scalar.muli v51 c128_i32_1268
  v2283
def k0_mult90 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_21 : BitVec 32 := 4#32
  let v52 : BitVec 32 := Scalar.subi v36 c4_i32_21
  let c5_i32 : BitVec 32 := 5#32
  let v53 : BitVec 32 := Scalar.addi v52 c5_i32
  let c0_i32_22 : BitVec 32 := 0#32
  let v54 : BitVec 32 := Scalar.maxsi v53 c0_i32_22
  let c128_i32_1277 : BitVec 32 := 128#32
  let v2292 : BitVec 32 := Scalar.muli v54 c128_i32_1277
  v2292
def k0_mult91 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32 : BitVec 32 := 4#32
  let v37 : BitVec 32 := Scalar.subi v36 c4_i32
  let c0_i32_9 : BitVec 32 := 0#32
  let v38 : BitVec 32 := Scalar.addi v37 c0_i32_9
  let c0_i32_10 : BitVec 32 := 0#32
  let v39 : BitVec 32 := Scalar.maxsi v38 c0_i32_10
  let c128_i32_1286 : BitVec 32 := 128#32
  let v2301 : BitVec 32 := Scalar.muli v39 c128_i32_1286
  v2301
def k0_mult92 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_11 : BitVec 32 := 4#32
  let v40 : BitVec 32 := Scalar.subi v36 c4_i32_11
  let c1_i32_12 : BitVec 32 := 1#32
  let v41 : BitVec 32 := Scalar.addi v40 c1_i32_12
  let c0_i32_13 : BitVec 32 := 0#32
  let v42 : BitVec 32 := Scalar.maxsi v41 c0_i32_13
  let c128_i32_1295 : BitVec 32 := 128#32
  let v2310 : BitVec 32 := Scalar.muli v42 c128_i32_1295
  v2310
def k0_mult93 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_14 : BitVec 32 := 4#32
  let v43 : BitVec 32 := Scalar.subi v36 c4_i32_14
  let c2_i32 : BitVec 32 := 2#32
  let v44 : BitVec 32 := Scalar.addi v43 c2_i32
  let c0_i32_15 : BitVec 32 := 0#32
  let v45 : BitVec 32 := Scalar.maxsi v44 c0_i32_15
  let c128_i32_1304 : BitVec 32 := 128#32
  let v2319 : BitVec 32 := Scalar.muli v45 c128_i32_1304
  v2319
def k0_mult94 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_16 : BitVec 32 := 4#32
  let v46 : BitVec 32 := Scalar.subi v36 c4_i32_16
  let c3_i32 : BitVec 32 := 3#32
  let v47 : BitVec 32 := Scalar.addi v46 c3_i32
  let c0_i32_17 : BitVec 32 := 0#32
  let v48 : BitVec 32 := Scalar.maxsi v47 c0_i32_17
  let c128_i32_1313 : BitVec 32 := 128#32
  let v2328 : BitVec 32 := Scalar.muli v48 c128_i32_1313
  v2328
def k0_mult95 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_18 : BitVec 32 := 4#32
  let v49 : BitVec 32 := Scalar.subi v36 c4_i32_18
  let c4_i32_19 : BitVec 32 := 4#32
  let v50 : BitVec 32 := Scalar.addi v49 c4_i32_19
  let c0_i32_20 : BitVec 32 := 0#32
  let v51 : BitVec 32 := Scalar.maxsi v50 c0_i32_20
  let c128_i32_1322 : BitVec 32 := 128#32
  let v2337 : BitVec 32 := Scalar.muli v51 c128_i32_1322
  v2337
def k0_mult96 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32_21 : BitVec 32 := 4#32
  let v52 : BitVec 32 := Scalar.subi v36 c4_i32_21
  let c5_i32 : BitVec 32 := 5#32
  let v53 : BitVec 32 := Scalar.addi v52 c5_i32
  let c0_i32_22 : BitVec 32 := 0#32
  let v54 : BitVec 32 := Scalar.maxsi v53 c0_i32_22
  let c128_i32_1331 : BitVec 32 := 128#32
  let v2346 : BitVec 32 := Scalar.muli v54 c128_i32_1331
  v2346
def k0_off5 (i : grid0.Coords) (v167 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let v200 : Index := Scalar.indexCast v196
  ![v200.toNat]

def k0_off6 (i : grid0.Coords) (v167 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let v209 : Index := Scalar.indexCast v205
  ![v209.toNat]
def k0_off7 (i : grid0.Coords) (v167 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let v218 : Index := Scalar.indexCast v214
  ![v218.toNat]
def k0_off8 (i : grid0.Coords) (v167 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let v227 : Index := Scalar.indexCast v223
  ![v227.toNat]
def k0_off9 (i : grid0.Coords) (v167 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let v236 : Index := Scalar.indexCast v232
  ![v236.toNat]
def k0_off10 (i : grid0.Coords) (v167 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let v245 : Index := Scalar.indexCast v241
  ![v245.toNat]
def k0_off11 (i : grid0.Coords) (v167 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let v254 : Index := Scalar.indexCast v250
  ![v254.toNat]
def k0_off12 (i : grid0.Coords) (v167 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let v263 : Index := Scalar.indexCast v259
  ![v263.toNat]

def k0_chk1 (i : grid0.Coords) (v167 : BitVec 32) : Prop :=
  (∀ a, (k0_off5 i v167) a + S1.size a ≤ S72.size a) ∧
  (∀ a, (k0_off6 i v167) a + S1.size a ≤ S72.size a) ∧
  (∀ a, (k0_off7 i v167) a + S1.size a ≤ S72.size a) ∧
  (∀ a, (k0_off8 i v167) a + S1.size a ≤ S72.size a) ∧
  (∀ a, (k0_off9 i v167) a + S1.size a ≤ S72.size a) ∧
  (∀ a, (k0_off10 i v167) a + S1.size a ≤ S72.size a) ∧
  (∀ a, (k0_off11 i v167) a + S1.size a ≤ S72.size a) ∧
  (∀ a, (k0_off12 i v167) a + S1.size a ≤ S72.size a)
theorem k0_off5_inb : ∀ (i : grid0.Coords) (v167 : BitVec 32) (k0_hw1 : k0_chk1 i v167), ∀ a, (k0_off5 i v167) a + S1.size a ≤ S72.size a := fun i v167 k0_hw1 => k0_hw1.1
theorem k0_off6_inb : ∀ (i : grid0.Coords) (v167 : BitVec 32) (k0_hw1 : k0_chk1 i v167), ∀ a, (k0_off6 i v167) a + S1.size a ≤ S72.size a := fun i v167 k0_hw1 => k0_hw1.2.1
theorem k0_off7_inb : ∀ (i : grid0.Coords) (v167 : BitVec 32) (k0_hw1 : k0_chk1 i v167), ∀ a, (k0_off7 i v167) a + S1.size a ≤ S72.size a := fun i v167 k0_hw1 => k0_hw1.2.2.1
theorem k0_off8_inb : ∀ (i : grid0.Coords) (v167 : BitVec 32) (k0_hw1 : k0_chk1 i v167), ∀ a, (k0_off8 i v167) a + S1.size a ≤ S72.size a := fun i v167 k0_hw1 => k0_hw1.2.2.2.1
theorem k0_off9_inb : ∀ (i : grid0.Coords) (v167 : BitVec 32) (k0_hw1 : k0_chk1 i v167), ∀ a, (k0_off9 i v167) a + S1.size a ≤ S72.size a := fun i v167 k0_hw1 => k0_hw1.2.2.2.2.1
theorem k0_off10_inb : ∀ (i : grid0.Coords) (v167 : BitVec 32) (k0_hw1 : k0_chk1 i v167), ∀ a, (k0_off10 i v167) a + S1.size a ≤ S72.size a := fun i v167 k0_hw1 => k0_hw1.2.2.2.2.2.1
theorem k0_off11_inb : ∀ (i : grid0.Coords) (v167 : BitVec 32) (k0_hw1 : k0_chk1 i v167), ∀ a, (k0_off11 i v167) a + S1.size a ≤ S72.size a := fun i v167 k0_hw1 => k0_hw1.2.2.2.2.2.2.1
theorem k0_off12_inb : ∀ (i : grid0.Coords) (v167 : BitVec 32) (k0_hw1 : k0_chk1 i v167), ∀ a, (k0_off12 i v167) a + S1.size a ≤ S72.size a := fun i v167 k0_hw1 => k0_hw1.2.2.2.2.2.2.2

def k0_off13 (i : grid0.Coords) (v167 : BitVec 32) (v170 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let v272 : Index := Scalar.indexCast v268
  ![v272.toNat]

def k0_off14 (i : grid0.Coords) (v167 : BitVec 32) (v170 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let v281 : Index := Scalar.indexCast v277
  ![v281.toNat]
def k0_off15 (i : grid0.Coords) (v167 : BitVec 32) (v170 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let v290 : Index := Scalar.indexCast v286
  ![v290.toNat]
def k0_off16 (i : grid0.Coords) (v167 : BitVec 32) (v170 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let v299 : Index := Scalar.indexCast v295
  ![v299.toNat]
def k0_off17 (i : grid0.Coords) (v167 : BitVec 32) (v170 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let v308 : Index := Scalar.indexCast v304
  ![v308.toNat]
def k0_off18 (i : grid0.Coords) (v167 : BitVec 32) (v170 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let v317 : Index := Scalar.indexCast v313
  ![v317.toNat]
def k0_off19 (i : grid0.Coords) (v167 : BitVec 32) (v170 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let v326 : Index := Scalar.indexCast v322
  ![v326.toNat]
def k0_off20 (i : grid0.Coords) (v167 : BitVec 32) (v170 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let v335 : Index := Scalar.indexCast v331
  ![v335.toNat]

def k0_chk2 (i : grid0.Coords) (v167 : BitVec 32) (v170 : BitVec 32) : Prop :=
  (∀ a, (k0_off13 i v167 v170) a + S1.size a ≤ S72.size a) ∧
  (∀ a, (k0_off14 i v167 v170) a + S1.size a ≤ S72.size a) ∧
  (∀ a, (k0_off15 i v167 v170) a + S1.size a ≤ S72.size a) ∧
  (∀ a, (k0_off16 i v167 v170) a + S1.size a ≤ S72.size a) ∧
  (∀ a, (k0_off17 i v167 v170) a + S1.size a ≤ S72.size a) ∧
  (∀ a, (k0_off18 i v167 v170) a + S1.size a ≤ S72.size a) ∧
  (∀ a, (k0_off19 i v167 v170) a + S1.size a ≤ S72.size a) ∧
  (∀ a, (k0_off20 i v167 v170) a + S1.size a ≤ S72.size a)
theorem k0_off13_inb : ∀ (i : grid0.Coords) (v167 : BitVec 32) (v170 : BitVec 32) (k0_hw2 : k0_chk2 i v167 v170), ∀ a, (k0_off13 i v167 v170) a + S1.size a ≤ S72.size a := fun i v167 v170 k0_hw2 => k0_hw2.1
theorem k0_off14_inb : ∀ (i : grid0.Coords) (v167 : BitVec 32) (v170 : BitVec 32) (k0_hw2 : k0_chk2 i v167 v170), ∀ a, (k0_off14 i v167 v170) a + S1.size a ≤ S72.size a := fun i v167 v170 k0_hw2 => k0_hw2.2.1
theorem k0_off15_inb : ∀ (i : grid0.Coords) (v167 : BitVec 32) (v170 : BitVec 32) (k0_hw2 : k0_chk2 i v167 v170), ∀ a, (k0_off15 i v167 v170) a + S1.size a ≤ S72.size a := fun i v167 v170 k0_hw2 => k0_hw2.2.2.1
theorem k0_off16_inb : ∀ (i : grid0.Coords) (v167 : BitVec 32) (v170 : BitVec 32) (k0_hw2 : k0_chk2 i v167 v170), ∀ a, (k0_off16 i v167 v170) a + S1.size a ≤ S72.size a := fun i v167 v170 k0_hw2 => k0_hw2.2.2.2.1
theorem k0_off17_inb : ∀ (i : grid0.Coords) (v167 : BitVec 32) (v170 : BitVec 32) (k0_hw2 : k0_chk2 i v167 v170), ∀ a, (k0_off17 i v167 v170) a + S1.size a ≤ S72.size a := fun i v167 v170 k0_hw2 => k0_hw2.2.2.2.2.1
theorem k0_off18_inb : ∀ (i : grid0.Coords) (v167 : BitVec 32) (v170 : BitVec 32) (k0_hw2 : k0_chk2 i v167 v170), ∀ a, (k0_off18 i v167 v170) a + S1.size a ≤ S72.size a := fun i v167 v170 k0_hw2 => k0_hw2.2.2.2.2.2.1
theorem k0_off19_inb : ∀ (i : grid0.Coords) (v167 : BitVec 32) (v170 : BitVec 32) (k0_hw2 : k0_chk2 i v167 v170), ∀ a, (k0_off19 i v167 v170) a + S1.size a ≤ S72.size a := fun i v167 v170 k0_hw2 => k0_hw2.2.2.2.2.2.2.1
theorem k0_off20_inb : ∀ (i : grid0.Coords) (v167 : BitVec 32) (v170 : BitVec 32) (k0_hw2 : k0_chk2 i v167 v170), ∀ a, (k0_off20 i v167 v170) a + S1.size a ≤ S72.size a := fun i v167 v170 k0_hw2 => k0_hw2.2.2.2.2.2.2.2

def k0_off21 (i : grid0.Coords) (v167 : BitVec 32) (v170 : BitVec 32) (v173 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let v344 : Index := Scalar.indexCast v340
  ![v344.toNat]

def k0_off22 (i : grid0.Coords) (v167 : BitVec 32) (v170 : BitVec 32) (v173 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let v353 : Index := Scalar.indexCast v349
  ![v353.toNat]
def k0_off23 (i : grid0.Coords) (v167 : BitVec 32) (v170 : BitVec 32) (v173 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let v362 : Index := Scalar.indexCast v358
  ![v362.toNat]
def k0_off24 (i : grid0.Coords) (v167 : BitVec 32) (v170 : BitVec 32) (v173 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let v371 : Index := Scalar.indexCast v367
  ![v371.toNat]
def k0_off25 (i : grid0.Coords) (v167 : BitVec 32) (v170 : BitVec 32) (v173 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let v380 : Index := Scalar.indexCast v376
  ![v380.toNat]
def k0_off26 (i : grid0.Coords) (v167 : BitVec 32) (v170 : BitVec 32) (v173 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let v389 : Index := Scalar.indexCast v385
  ![v389.toNat]
def k0_off27 (i : grid0.Coords) (v167 : BitVec 32) (v170 : BitVec 32) (v173 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let v398 : Index := Scalar.indexCast v394
  ![v398.toNat]
def k0_off28 (i : grid0.Coords) (v167 : BitVec 32) (v170 : BitVec 32) (v173 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let v407 : Index := Scalar.indexCast v403
  ![v407.toNat]

def k0_chk3 (i : grid0.Coords) (v167 : BitVec 32) (v170 : BitVec 32) (v173 : BitVec 32) : Prop :=
  (∀ a, (k0_off21 i v167 v170 v173) a + S1.size a ≤ S72.size a) ∧
  (∀ a, (k0_off22 i v167 v170 v173) a + S1.size a ≤ S72.size a) ∧
  (∀ a, (k0_off23 i v167 v170 v173) a + S1.size a ≤ S72.size a) ∧
  (∀ a, (k0_off24 i v167 v170 v173) a + S1.size a ≤ S72.size a) ∧
  (∀ a, (k0_off25 i v167 v170 v173) a + S1.size a ≤ S72.size a) ∧
  (∀ a, (k0_off26 i v167 v170 v173) a + S1.size a ≤ S72.size a) ∧
  (∀ a, (k0_off27 i v167 v170 v173) a + S1.size a ≤ S72.size a) ∧
  (∀ a, (k0_off28 i v167 v170 v173) a + S1.size a ≤ S72.size a)
theorem k0_off21_inb : ∀ (i : grid0.Coords) (v167 : BitVec 32) (v170 : BitVec 32) (v173 : BitVec 32) (k0_hw3 : k0_chk3 i v167 v170 v173), ∀ a, (k0_off21 i v167 v170 v173) a + S1.size a ≤ S72.size a := fun i v167 v170 v173 k0_hw3 => k0_hw3.1
theorem k0_off22_inb : ∀ (i : grid0.Coords) (v167 : BitVec 32) (v170 : BitVec 32) (v173 : BitVec 32) (k0_hw3 : k0_chk3 i v167 v170 v173), ∀ a, (k0_off22 i v167 v170 v173) a + S1.size a ≤ S72.size a := fun i v167 v170 v173 k0_hw3 => k0_hw3.2.1
theorem k0_off23_inb : ∀ (i : grid0.Coords) (v167 : BitVec 32) (v170 : BitVec 32) (v173 : BitVec 32) (k0_hw3 : k0_chk3 i v167 v170 v173), ∀ a, (k0_off23 i v167 v170 v173) a + S1.size a ≤ S72.size a := fun i v167 v170 v173 k0_hw3 => k0_hw3.2.2.1
theorem k0_off24_inb : ∀ (i : grid0.Coords) (v167 : BitVec 32) (v170 : BitVec 32) (v173 : BitVec 32) (k0_hw3 : k0_chk3 i v167 v170 v173), ∀ a, (k0_off24 i v167 v170 v173) a + S1.size a ≤ S72.size a := fun i v167 v170 v173 k0_hw3 => k0_hw3.2.2.2.1
theorem k0_off25_inb : ∀ (i : grid0.Coords) (v167 : BitVec 32) (v170 : BitVec 32) (v173 : BitVec 32) (k0_hw3 : k0_chk3 i v167 v170 v173), ∀ a, (k0_off25 i v167 v170 v173) a + S1.size a ≤ S72.size a := fun i v167 v170 v173 k0_hw3 => k0_hw3.2.2.2.2.1
theorem k0_off26_inb : ∀ (i : grid0.Coords) (v167 : BitVec 32) (v170 : BitVec 32) (v173 : BitVec 32) (k0_hw3 : k0_chk3 i v167 v170 v173), ∀ a, (k0_off26 i v167 v170 v173) a + S1.size a ≤ S72.size a := fun i v167 v170 v173 k0_hw3 => k0_hw3.2.2.2.2.2.1
theorem k0_off27_inb : ∀ (i : grid0.Coords) (v167 : BitVec 32) (v170 : BitVec 32) (v173 : BitVec 32) (k0_hw3 : k0_chk3 i v167 v170 v173), ∀ a, (k0_off27 i v167 v170 v173) a + S1.size a ≤ S72.size a := fun i v167 v170 v173 k0_hw3 => k0_hw3.2.2.2.2.2.2.1
theorem k0_off28_inb : ∀ (i : grid0.Coords) (v167 : BitVec 32) (v170 : BitVec 32) (v173 : BitVec 32) (k0_hw3 : k0_chk3 i v167 v170 v173), ∀ a, (k0_off28 i v167 v170 v173) a + S1.size a ≤ S72.size a := fun i v167 v170 v173 k0_hw3 => k0_hw3.2.2.2.2.2.2.2

def k0_off29 (i : grid0.Coords) (v167 : BitVec 32) (v170 : BitVec 32) (v173 : BitVec 32) (v176 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let v416 : Index := Scalar.indexCast v412
  ![v416.toNat]

def k0_off30 (i : grid0.Coords) (v167 : BitVec 32) (v170 : BitVec 32) (v173 : BitVec 32) (v176 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let v425 : Index := Scalar.indexCast v421
  ![v425.toNat]
def k0_off31 (i : grid0.Coords) (v167 : BitVec 32) (v170 : BitVec 32) (v173 : BitVec 32) (v176 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let v434 : Index := Scalar.indexCast v430
  ![v434.toNat]
def k0_off32 (i : grid0.Coords) (v167 : BitVec 32) (v170 : BitVec 32) (v173 : BitVec 32) (v176 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let v443 : Index := Scalar.indexCast v439
  ![v443.toNat]
def k0_off33 (i : grid0.Coords) (v167 : BitVec 32) (v170 : BitVec 32) (v173 : BitVec 32) (v176 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let v452 : Index := Scalar.indexCast v448
  ![v452.toNat]
def k0_off34 (i : grid0.Coords) (v167 : BitVec 32) (v170 : BitVec 32) (v173 : BitVec 32) (v176 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let v461 : Index := Scalar.indexCast v457
  ![v461.toNat]
def k0_off35 (i : grid0.Coords) (v167 : BitVec 32) (v170 : BitVec 32) (v173 : BitVec 32) (v176 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let v470 : Index := Scalar.indexCast v466
  ![v470.toNat]
def k0_off36 (i : grid0.Coords) (v167 : BitVec 32) (v170 : BitVec 32) (v173 : BitVec 32) (v176 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let v479 : Index := Scalar.indexCast v475
  ![v479.toNat]

def k0_chk4 (i : grid0.Coords) (v167 : BitVec 32) (v170 : BitVec 32) (v173 : BitVec 32) (v176 : BitVec 32) : Prop :=
  (∀ a, (k0_off29 i v167 v170 v173 v176) a + S1.size a ≤ S72.size a) ∧
  (∀ a, (k0_off30 i v167 v170 v173 v176) a + S1.size a ≤ S72.size a) ∧
  (∀ a, (k0_off31 i v167 v170 v173 v176) a + S1.size a ≤ S72.size a) ∧
  (∀ a, (k0_off32 i v167 v170 v173 v176) a + S1.size a ≤ S72.size a) ∧
  (∀ a, (k0_off33 i v167 v170 v173 v176) a + S1.size a ≤ S72.size a) ∧
  (∀ a, (k0_off34 i v167 v170 v173 v176) a + S1.size a ≤ S72.size a) ∧
  (∀ a, (k0_off35 i v167 v170 v173 v176) a + S1.size a ≤ S72.size a) ∧
  (∀ a, (k0_off36 i v167 v170 v173 v176) a + S1.size a ≤ S72.size a)
theorem k0_off29_inb : ∀ (i : grid0.Coords) (v167 : BitVec 32) (v170 : BitVec 32) (v173 : BitVec 32) (v176 : BitVec 32) (k0_hw4 : k0_chk4 i v167 v170 v173 v176), ∀ a, (k0_off29 i v167 v170 v173 v176) a + S1.size a ≤ S72.size a := fun i v167 v170 v173 v176 k0_hw4 => k0_hw4.1
theorem k0_off30_inb : ∀ (i : grid0.Coords) (v167 : BitVec 32) (v170 : BitVec 32) (v173 : BitVec 32) (v176 : BitVec 32) (k0_hw4 : k0_chk4 i v167 v170 v173 v176), ∀ a, (k0_off30 i v167 v170 v173 v176) a + S1.size a ≤ S72.size a := fun i v167 v170 v173 v176 k0_hw4 => k0_hw4.2.1
theorem k0_off31_inb : ∀ (i : grid0.Coords) (v167 : BitVec 32) (v170 : BitVec 32) (v173 : BitVec 32) (v176 : BitVec 32) (k0_hw4 : k0_chk4 i v167 v170 v173 v176), ∀ a, (k0_off31 i v167 v170 v173 v176) a + S1.size a ≤ S72.size a := fun i v167 v170 v173 v176 k0_hw4 => k0_hw4.2.2.1
theorem k0_off32_inb : ∀ (i : grid0.Coords) (v167 : BitVec 32) (v170 : BitVec 32) (v173 : BitVec 32) (v176 : BitVec 32) (k0_hw4 : k0_chk4 i v167 v170 v173 v176), ∀ a, (k0_off32 i v167 v170 v173 v176) a + S1.size a ≤ S72.size a := fun i v167 v170 v173 v176 k0_hw4 => k0_hw4.2.2.2.1
theorem k0_off33_inb : ∀ (i : grid0.Coords) (v167 : BitVec 32) (v170 : BitVec 32) (v173 : BitVec 32) (v176 : BitVec 32) (k0_hw4 : k0_chk4 i v167 v170 v173 v176), ∀ a, (k0_off33 i v167 v170 v173 v176) a + S1.size a ≤ S72.size a := fun i v167 v170 v173 v176 k0_hw4 => k0_hw4.2.2.2.2.1
theorem k0_off34_inb : ∀ (i : grid0.Coords) (v167 : BitVec 32) (v170 : BitVec 32) (v173 : BitVec 32) (v176 : BitVec 32) (k0_hw4 : k0_chk4 i v167 v170 v173 v176), ∀ a, (k0_off34 i v167 v170 v173 v176) a + S1.size a ≤ S72.size a := fun i v167 v170 v173 v176 k0_hw4 => k0_hw4.2.2.2.2.2.1
theorem k0_off35_inb : ∀ (i : grid0.Coords) (v167 : BitVec 32) (v170 : BitVec 32) (v173 : BitVec 32) (v176 : BitVec 32) (k0_hw4 : k0_chk4 i v167 v170 v173 v176), ∀ a, (k0_off35 i v167 v170 v173 v176) a + S1.size a ≤ S72.size a := fun i v167 v170 v173 v176 k0_hw4 => k0_hw4.2.2.2.2.2.2.1
theorem k0_off36_inb : ∀ (i : grid0.Coords) (v167 : BitVec 32) (v170 : BitVec 32) (v173 : BitVec 32) (v176 : BitVec 32) (k0_hw4 : k0_chk4 i v167 v170 v173 v176), ∀ a, (k0_off36 i v167 v170 v173 v176) a + S1.size a ≤ S72.size a := fun i v167 v170 v173 v176 k0_hw4 => k0_hw4.2.2.2.2.2.2.2

def k0_off37 (i : grid0.Coords) (v167 : BitVec 32) (v170 : BitVec 32) (v173 : BitVec 32) (v176 : BitVec 32) (v179 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let c0_i32_196 : BitVec 32 := 0#32
  let v476 : BitVec 32 := Scalar.shrsi v179 c0_i32_196
  let c3_i32_197 : BitVec 32 := 3#32
  let v477 : BitVec 32 := Scalar.andi v476 c3_i32_197
  let c0_i32_198 : BitVec 32 := 0#32
  let v478 : BitVec 1 := Scalar.cmpi .ne v477 c0_i32_198
  let c32_i32_199 : BitVec 32 := 32#32
  let v481 : BitVec 1 := Scalar.cmpi .sgt v36 c32_i32_199
  let v482 : BitVec 1 := Scalar.andi v478 v481
  let v483 : BitVec 32 := Scalar.extui v482
  let v484 : BitVec 32 := Scalar.addi v475 v483
  let v488 : Index := Scalar.indexCast v484
  ![v488.toNat]

def k0_off38 (i : grid0.Coords) (v167 : BitVec 32) (v170 : BitVec 32) (v173 : BitVec 32) (v176 : BitVec 32) (v179 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let c0_i32_196 : BitVec 32 := 0#32
  let v476 : BitVec 32 := Scalar.shrsi v179 c0_i32_196
  let c3_i32_197 : BitVec 32 := 3#32
  let v477 : BitVec 32 := Scalar.andi v476 c3_i32_197
  let c0_i32_198 : BitVec 32 := 0#32
  let v478 : BitVec 1 := Scalar.cmpi .ne v477 c0_i32_198
  let c32_i32_199 : BitVec 32 := 32#32
  let v481 : BitVec 1 := Scalar.cmpi .sgt v36 c32_i32_199
  let v482 : BitVec 1 := Scalar.andi v478 v481
  let v483 : BitVec 32 := Scalar.extui v482
  let v484 : BitVec 32 := Scalar.addi v475 v483
  let c2_i32_200 : BitVec 32 := 2#32
  let v485 : BitVec 32 := Scalar.shrsi v179 c2_i32_200
  let c3_i32_201 : BitVec 32 := 3#32
  let v486 : BitVec 32 := Scalar.andi v485 c3_i32_201
  let c0_i32_202 : BitVec 32 := 0#32
  let v487 : BitVec 1 := Scalar.cmpi .ne v486 c0_i32_202
  let c33_i32_203 : BitVec 32 := 33#32
  let v490 : BitVec 1 := Scalar.cmpi .sgt v36 c33_i32_203
  let v491 : BitVec 1 := Scalar.andi v487 v490
  let v492 : BitVec 32 := Scalar.extui v491
  let v493 : BitVec 32 := Scalar.addi v484 v492
  let v497 : Index := Scalar.indexCast v493
  ![v497.toNat]
def k0_off39 (i : grid0.Coords) (v167 : BitVec 32) (v170 : BitVec 32) (v173 : BitVec 32) (v176 : BitVec 32) (v179 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let c0_i32_196 : BitVec 32 := 0#32
  let v476 : BitVec 32 := Scalar.shrsi v179 c0_i32_196
  let c3_i32_197 : BitVec 32 := 3#32
  let v477 : BitVec 32 := Scalar.andi v476 c3_i32_197
  let c0_i32_198 : BitVec 32 := 0#32
  let v478 : BitVec 1 := Scalar.cmpi .ne v477 c0_i32_198
  let c32_i32_199 : BitVec 32 := 32#32
  let v481 : BitVec 1 := Scalar.cmpi .sgt v36 c32_i32_199
  let v482 : BitVec 1 := Scalar.andi v478 v481
  let v483 : BitVec 32 := Scalar.extui v482
  let v484 : BitVec 32 := Scalar.addi v475 v483
  let c2_i32_200 : BitVec 32 := 2#32
  let v485 : BitVec 32 := Scalar.shrsi v179 c2_i32_200
  let c3_i32_201 : BitVec 32 := 3#32
  let v486 : BitVec 32 := Scalar.andi v485 c3_i32_201
  let c0_i32_202 : BitVec 32 := 0#32
  let v487 : BitVec 1 := Scalar.cmpi .ne v486 c0_i32_202
  let c33_i32_203 : BitVec 32 := 33#32
  let v490 : BitVec 1 := Scalar.cmpi .sgt v36 c33_i32_203
  let v491 : BitVec 1 := Scalar.andi v487 v490
  let v492 : BitVec 32 := Scalar.extui v491
  let v493 : BitVec 32 := Scalar.addi v484 v492
  let c4_i32_204 : BitVec 32 := 4#32
  let v494 : BitVec 32 := Scalar.shrsi v179 c4_i32_204
  let c3_i32_205 : BitVec 32 := 3#32
  let v495 : BitVec 32 := Scalar.andi v494 c3_i32_205
  let c0_i32_206 : BitVec 32 := 0#32
  let v496 : BitVec 1 := Scalar.cmpi .ne v495 c0_i32_206
  let c34_i32_207 : BitVec 32 := 34#32
  let v499 : BitVec 1 := Scalar.cmpi .sgt v36 c34_i32_207
  let v500 : BitVec 1 := Scalar.andi v496 v499
  let v501 : BitVec 32 := Scalar.extui v500
  let v502 : BitVec 32 := Scalar.addi v493 v501
  let v506 : Index := Scalar.indexCast v502
  ![v506.toNat]
def k0_off40 (i : grid0.Coords) (v167 : BitVec 32) (v170 : BitVec 32) (v173 : BitVec 32) (v176 : BitVec 32) (v179 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let c0_i32_196 : BitVec 32 := 0#32
  let v476 : BitVec 32 := Scalar.shrsi v179 c0_i32_196
  let c3_i32_197 : BitVec 32 := 3#32
  let v477 : BitVec 32 := Scalar.andi v476 c3_i32_197
  let c0_i32_198 : BitVec 32 := 0#32
  let v478 : BitVec 1 := Scalar.cmpi .ne v477 c0_i32_198
  let c32_i32_199 : BitVec 32 := 32#32
  let v481 : BitVec 1 := Scalar.cmpi .sgt v36 c32_i32_199
  let v482 : BitVec 1 := Scalar.andi v478 v481
  let v483 : BitVec 32 := Scalar.extui v482
  let v484 : BitVec 32 := Scalar.addi v475 v483
  let c2_i32_200 : BitVec 32 := 2#32
  let v485 : BitVec 32 := Scalar.shrsi v179 c2_i32_200
  let c3_i32_201 : BitVec 32 := 3#32
  let v486 : BitVec 32 := Scalar.andi v485 c3_i32_201
  let c0_i32_202 : BitVec 32 := 0#32
  let v487 : BitVec 1 := Scalar.cmpi .ne v486 c0_i32_202
  let c33_i32_203 : BitVec 32 := 33#32
  let v490 : BitVec 1 := Scalar.cmpi .sgt v36 c33_i32_203
  let v491 : BitVec 1 := Scalar.andi v487 v490
  let v492 : BitVec 32 := Scalar.extui v491
  let v493 : BitVec 32 := Scalar.addi v484 v492
  let c4_i32_204 : BitVec 32 := 4#32
  let v494 : BitVec 32 := Scalar.shrsi v179 c4_i32_204
  let c3_i32_205 : BitVec 32 := 3#32
  let v495 : BitVec 32 := Scalar.andi v494 c3_i32_205
  let c0_i32_206 : BitVec 32 := 0#32
  let v496 : BitVec 1 := Scalar.cmpi .ne v495 c0_i32_206
  let c34_i32_207 : BitVec 32 := 34#32
  let v499 : BitVec 1 := Scalar.cmpi .sgt v36 c34_i32_207
  let v500 : BitVec 1 := Scalar.andi v496 v499
  let v501 : BitVec 32 := Scalar.extui v500
  let v502 : BitVec 32 := Scalar.addi v493 v501
  let c6_i32_208 : BitVec 32 := 6#32
  let v503 : BitVec 32 := Scalar.shrsi v179 c6_i32_208
  let c3_i32_209 : BitVec 32 := 3#32
  let v504 : BitVec 32 := Scalar.andi v503 c3_i32_209
  let c0_i32_210 : BitVec 32 := 0#32
  let v505 : BitVec 1 := Scalar.cmpi .ne v504 c0_i32_210
  let c35_i32_211 : BitVec 32 := 35#32
  let v508 : BitVec 1 := Scalar.cmpi .sgt v36 c35_i32_211
  let v509 : BitVec 1 := Scalar.andi v505 v508
  let v510 : BitVec 32 := Scalar.extui v509
  let v511 : BitVec 32 := Scalar.addi v502 v510
  let v515 : Index := Scalar.indexCast v511
  ![v515.toNat]
def k0_off41 (i : grid0.Coords) (v167 : BitVec 32) (v170 : BitVec 32) (v173 : BitVec 32) (v176 : BitVec 32) (v179 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let c0_i32_196 : BitVec 32 := 0#32
  let v476 : BitVec 32 := Scalar.shrsi v179 c0_i32_196
  let c3_i32_197 : BitVec 32 := 3#32
  let v477 : BitVec 32 := Scalar.andi v476 c3_i32_197
  let c0_i32_198 : BitVec 32 := 0#32
  let v478 : BitVec 1 := Scalar.cmpi .ne v477 c0_i32_198
  let c32_i32_199 : BitVec 32 := 32#32
  let v481 : BitVec 1 := Scalar.cmpi .sgt v36 c32_i32_199
  let v482 : BitVec 1 := Scalar.andi v478 v481
  let v483 : BitVec 32 := Scalar.extui v482
  let v484 : BitVec 32 := Scalar.addi v475 v483
  let c2_i32_200 : BitVec 32 := 2#32
  let v485 : BitVec 32 := Scalar.shrsi v179 c2_i32_200
  let c3_i32_201 : BitVec 32 := 3#32
  let v486 : BitVec 32 := Scalar.andi v485 c3_i32_201
  let c0_i32_202 : BitVec 32 := 0#32
  let v487 : BitVec 1 := Scalar.cmpi .ne v486 c0_i32_202
  let c33_i32_203 : BitVec 32 := 33#32
  let v490 : BitVec 1 := Scalar.cmpi .sgt v36 c33_i32_203
  let v491 : BitVec 1 := Scalar.andi v487 v490
  let v492 : BitVec 32 := Scalar.extui v491
  let v493 : BitVec 32 := Scalar.addi v484 v492
  let c4_i32_204 : BitVec 32 := 4#32
  let v494 : BitVec 32 := Scalar.shrsi v179 c4_i32_204
  let c3_i32_205 : BitVec 32 := 3#32
  let v495 : BitVec 32 := Scalar.andi v494 c3_i32_205
  let c0_i32_206 : BitVec 32 := 0#32
  let v496 : BitVec 1 := Scalar.cmpi .ne v495 c0_i32_206
  let c34_i32_207 : BitVec 32 := 34#32
  let v499 : BitVec 1 := Scalar.cmpi .sgt v36 c34_i32_207
  let v500 : BitVec 1 := Scalar.andi v496 v499
  let v501 : BitVec 32 := Scalar.extui v500
  let v502 : BitVec 32 := Scalar.addi v493 v501
  let c6_i32_208 : BitVec 32 := 6#32
  let v503 : BitVec 32 := Scalar.shrsi v179 c6_i32_208
  let c3_i32_209 : BitVec 32 := 3#32
  let v504 : BitVec 32 := Scalar.andi v503 c3_i32_209
  let c0_i32_210 : BitVec 32 := 0#32
  let v505 : BitVec 1 := Scalar.cmpi .ne v504 c0_i32_210
  let c35_i32_211 : BitVec 32 := 35#32
  let v508 : BitVec 1 := Scalar.cmpi .sgt v36 c35_i32_211
  let v509 : BitVec 1 := Scalar.andi v505 v508
  let v510 : BitVec 32 := Scalar.extui v509
  let v511 : BitVec 32 := Scalar.addi v502 v510
  let c8_i32_212 : BitVec 32 := 8#32
  let v512 : BitVec 32 := Scalar.shrsi v179 c8_i32_212
  let c3_i32_213 : BitVec 32 := 3#32
  let v513 : BitVec 32 := Scalar.andi v512 c3_i32_213
  let c0_i32_214 : BitVec 32 := 0#32
  let v514 : BitVec 1 := Scalar.cmpi .ne v513 c0_i32_214
  let c36_i32_215 : BitVec 32 := 36#32
  let v517 : BitVec 1 := Scalar.cmpi .sgt v36 c36_i32_215
  let v518 : BitVec 1 := Scalar.andi v514 v517
  let v519 : BitVec 32 := Scalar.extui v518
  let v520 : BitVec 32 := Scalar.addi v511 v519
  let v524 : Index := Scalar.indexCast v520
  ![v524.toNat]
def k0_off42 (i : grid0.Coords) (v167 : BitVec 32) (v170 : BitVec 32) (v173 : BitVec 32) (v176 : BitVec 32) (v179 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let c0_i32_196 : BitVec 32 := 0#32
  let v476 : BitVec 32 := Scalar.shrsi v179 c0_i32_196
  let c3_i32_197 : BitVec 32 := 3#32
  let v477 : BitVec 32 := Scalar.andi v476 c3_i32_197
  let c0_i32_198 : BitVec 32 := 0#32
  let v478 : BitVec 1 := Scalar.cmpi .ne v477 c0_i32_198
  let c32_i32_199 : BitVec 32 := 32#32
  let v481 : BitVec 1 := Scalar.cmpi .sgt v36 c32_i32_199
  let v482 : BitVec 1 := Scalar.andi v478 v481
  let v483 : BitVec 32 := Scalar.extui v482
  let v484 : BitVec 32 := Scalar.addi v475 v483
  let c2_i32_200 : BitVec 32 := 2#32
  let v485 : BitVec 32 := Scalar.shrsi v179 c2_i32_200
  let c3_i32_201 : BitVec 32 := 3#32
  let v486 : BitVec 32 := Scalar.andi v485 c3_i32_201
  let c0_i32_202 : BitVec 32 := 0#32
  let v487 : BitVec 1 := Scalar.cmpi .ne v486 c0_i32_202
  let c33_i32_203 : BitVec 32 := 33#32
  let v490 : BitVec 1 := Scalar.cmpi .sgt v36 c33_i32_203
  let v491 : BitVec 1 := Scalar.andi v487 v490
  let v492 : BitVec 32 := Scalar.extui v491
  let v493 : BitVec 32 := Scalar.addi v484 v492
  let c4_i32_204 : BitVec 32 := 4#32
  let v494 : BitVec 32 := Scalar.shrsi v179 c4_i32_204
  let c3_i32_205 : BitVec 32 := 3#32
  let v495 : BitVec 32 := Scalar.andi v494 c3_i32_205
  let c0_i32_206 : BitVec 32 := 0#32
  let v496 : BitVec 1 := Scalar.cmpi .ne v495 c0_i32_206
  let c34_i32_207 : BitVec 32 := 34#32
  let v499 : BitVec 1 := Scalar.cmpi .sgt v36 c34_i32_207
  let v500 : BitVec 1 := Scalar.andi v496 v499
  let v501 : BitVec 32 := Scalar.extui v500
  let v502 : BitVec 32 := Scalar.addi v493 v501
  let c6_i32_208 : BitVec 32 := 6#32
  let v503 : BitVec 32 := Scalar.shrsi v179 c6_i32_208
  let c3_i32_209 : BitVec 32 := 3#32
  let v504 : BitVec 32 := Scalar.andi v503 c3_i32_209
  let c0_i32_210 : BitVec 32 := 0#32
  let v505 : BitVec 1 := Scalar.cmpi .ne v504 c0_i32_210
  let c35_i32_211 : BitVec 32 := 35#32
  let v508 : BitVec 1 := Scalar.cmpi .sgt v36 c35_i32_211
  let v509 : BitVec 1 := Scalar.andi v505 v508
  let v510 : BitVec 32 := Scalar.extui v509
  let v511 : BitVec 32 := Scalar.addi v502 v510
  let c8_i32_212 : BitVec 32 := 8#32
  let v512 : BitVec 32 := Scalar.shrsi v179 c8_i32_212
  let c3_i32_213 : BitVec 32 := 3#32
  let v513 : BitVec 32 := Scalar.andi v512 c3_i32_213
  let c0_i32_214 : BitVec 32 := 0#32
  let v514 : BitVec 1 := Scalar.cmpi .ne v513 c0_i32_214
  let c36_i32_215 : BitVec 32 := 36#32
  let v517 : BitVec 1 := Scalar.cmpi .sgt v36 c36_i32_215
  let v518 : BitVec 1 := Scalar.andi v514 v517
  let v519 : BitVec 32 := Scalar.extui v518
  let v520 : BitVec 32 := Scalar.addi v511 v519
  let c10_i32_216 : BitVec 32 := 10#32
  let v521 : BitVec 32 := Scalar.shrsi v179 c10_i32_216
  let c3_i32_217 : BitVec 32 := 3#32
  let v522 : BitVec 32 := Scalar.andi v521 c3_i32_217
  let c0_i32_218 : BitVec 32 := 0#32
  let v523 : BitVec 1 := Scalar.cmpi .ne v522 c0_i32_218
  let c37_i32_219 : BitVec 32 := 37#32
  let v526 : BitVec 1 := Scalar.cmpi .sgt v36 c37_i32_219
  let v527 : BitVec 1 := Scalar.andi v523 v526
  let v528 : BitVec 32 := Scalar.extui v527
  let v529 : BitVec 32 := Scalar.addi v520 v528
  let v533 : Index := Scalar.indexCast v529
  ![v533.toNat]
def k0_off43 (i : grid0.Coords) (v167 : BitVec 32) (v170 : BitVec 32) (v173 : BitVec 32) (v176 : BitVec 32) (v179 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let c0_i32_196 : BitVec 32 := 0#32
  let v476 : BitVec 32 := Scalar.shrsi v179 c0_i32_196
  let c3_i32_197 : BitVec 32 := 3#32
  let v477 : BitVec 32 := Scalar.andi v476 c3_i32_197
  let c0_i32_198 : BitVec 32 := 0#32
  let v478 : BitVec 1 := Scalar.cmpi .ne v477 c0_i32_198
  let c32_i32_199 : BitVec 32 := 32#32
  let v481 : BitVec 1 := Scalar.cmpi .sgt v36 c32_i32_199
  let v482 : BitVec 1 := Scalar.andi v478 v481
  let v483 : BitVec 32 := Scalar.extui v482
  let v484 : BitVec 32 := Scalar.addi v475 v483
  let c2_i32_200 : BitVec 32 := 2#32
  let v485 : BitVec 32 := Scalar.shrsi v179 c2_i32_200
  let c3_i32_201 : BitVec 32 := 3#32
  let v486 : BitVec 32 := Scalar.andi v485 c3_i32_201
  let c0_i32_202 : BitVec 32 := 0#32
  let v487 : BitVec 1 := Scalar.cmpi .ne v486 c0_i32_202
  let c33_i32_203 : BitVec 32 := 33#32
  let v490 : BitVec 1 := Scalar.cmpi .sgt v36 c33_i32_203
  let v491 : BitVec 1 := Scalar.andi v487 v490
  let v492 : BitVec 32 := Scalar.extui v491
  let v493 : BitVec 32 := Scalar.addi v484 v492
  let c4_i32_204 : BitVec 32 := 4#32
  let v494 : BitVec 32 := Scalar.shrsi v179 c4_i32_204
  let c3_i32_205 : BitVec 32 := 3#32
  let v495 : BitVec 32 := Scalar.andi v494 c3_i32_205
  let c0_i32_206 : BitVec 32 := 0#32
  let v496 : BitVec 1 := Scalar.cmpi .ne v495 c0_i32_206
  let c34_i32_207 : BitVec 32 := 34#32
  let v499 : BitVec 1 := Scalar.cmpi .sgt v36 c34_i32_207
  let v500 : BitVec 1 := Scalar.andi v496 v499
  let v501 : BitVec 32 := Scalar.extui v500
  let v502 : BitVec 32 := Scalar.addi v493 v501
  let c6_i32_208 : BitVec 32 := 6#32
  let v503 : BitVec 32 := Scalar.shrsi v179 c6_i32_208
  let c3_i32_209 : BitVec 32 := 3#32
  let v504 : BitVec 32 := Scalar.andi v503 c3_i32_209
  let c0_i32_210 : BitVec 32 := 0#32
  let v505 : BitVec 1 := Scalar.cmpi .ne v504 c0_i32_210
  let c35_i32_211 : BitVec 32 := 35#32
  let v508 : BitVec 1 := Scalar.cmpi .sgt v36 c35_i32_211
  let v509 : BitVec 1 := Scalar.andi v505 v508
  let v510 : BitVec 32 := Scalar.extui v509
  let v511 : BitVec 32 := Scalar.addi v502 v510
  let c8_i32_212 : BitVec 32 := 8#32
  let v512 : BitVec 32 := Scalar.shrsi v179 c8_i32_212
  let c3_i32_213 : BitVec 32 := 3#32
  let v513 : BitVec 32 := Scalar.andi v512 c3_i32_213
  let c0_i32_214 : BitVec 32 := 0#32
  let v514 : BitVec 1 := Scalar.cmpi .ne v513 c0_i32_214
  let c36_i32_215 : BitVec 32 := 36#32
  let v517 : BitVec 1 := Scalar.cmpi .sgt v36 c36_i32_215
  let v518 : BitVec 1 := Scalar.andi v514 v517
  let v519 : BitVec 32 := Scalar.extui v518
  let v520 : BitVec 32 := Scalar.addi v511 v519
  let c10_i32_216 : BitVec 32 := 10#32
  let v521 : BitVec 32 := Scalar.shrsi v179 c10_i32_216
  let c3_i32_217 : BitVec 32 := 3#32
  let v522 : BitVec 32 := Scalar.andi v521 c3_i32_217
  let c0_i32_218 : BitVec 32 := 0#32
  let v523 : BitVec 1 := Scalar.cmpi .ne v522 c0_i32_218
  let c37_i32_219 : BitVec 32 := 37#32
  let v526 : BitVec 1 := Scalar.cmpi .sgt v36 c37_i32_219
  let v527 : BitVec 1 := Scalar.andi v523 v526
  let v528 : BitVec 32 := Scalar.extui v527
  let v529 : BitVec 32 := Scalar.addi v520 v528
  let c12_i32_220 : BitVec 32 := 12#32
  let v530 : BitVec 32 := Scalar.shrsi v179 c12_i32_220
  let c3_i32_221 : BitVec 32 := 3#32
  let v531 : BitVec 32 := Scalar.andi v530 c3_i32_221
  let c0_i32_222 : BitVec 32 := 0#32
  let v532 : BitVec 1 := Scalar.cmpi .ne v531 c0_i32_222
  let c38_i32_223 : BitVec 32 := 38#32
  let v535 : BitVec 1 := Scalar.cmpi .sgt v36 c38_i32_223
  let v536 : BitVec 1 := Scalar.andi v532 v535
  let v537 : BitVec 32 := Scalar.extui v536
  let v538 : BitVec 32 := Scalar.addi v529 v537
  let v542 : Index := Scalar.indexCast v538
  ![v542.toNat]
def k0_off44 (i : grid0.Coords) (v167 : BitVec 32) (v170 : BitVec 32) (v173 : BitVec 32) (v176 : BitVec 32) (v179 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let c0_i32_196 : BitVec 32 := 0#32
  let v476 : BitVec 32 := Scalar.shrsi v179 c0_i32_196
  let c3_i32_197 : BitVec 32 := 3#32
  let v477 : BitVec 32 := Scalar.andi v476 c3_i32_197
  let c0_i32_198 : BitVec 32 := 0#32
  let v478 : BitVec 1 := Scalar.cmpi .ne v477 c0_i32_198
  let c32_i32_199 : BitVec 32 := 32#32
  let v481 : BitVec 1 := Scalar.cmpi .sgt v36 c32_i32_199
  let v482 : BitVec 1 := Scalar.andi v478 v481
  let v483 : BitVec 32 := Scalar.extui v482
  let v484 : BitVec 32 := Scalar.addi v475 v483
  let c2_i32_200 : BitVec 32 := 2#32
  let v485 : BitVec 32 := Scalar.shrsi v179 c2_i32_200
  let c3_i32_201 : BitVec 32 := 3#32
  let v486 : BitVec 32 := Scalar.andi v485 c3_i32_201
  let c0_i32_202 : BitVec 32 := 0#32
  let v487 : BitVec 1 := Scalar.cmpi .ne v486 c0_i32_202
  let c33_i32_203 : BitVec 32 := 33#32
  let v490 : BitVec 1 := Scalar.cmpi .sgt v36 c33_i32_203
  let v491 : BitVec 1 := Scalar.andi v487 v490
  let v492 : BitVec 32 := Scalar.extui v491
  let v493 : BitVec 32 := Scalar.addi v484 v492
  let c4_i32_204 : BitVec 32 := 4#32
  let v494 : BitVec 32 := Scalar.shrsi v179 c4_i32_204
  let c3_i32_205 : BitVec 32 := 3#32
  let v495 : BitVec 32 := Scalar.andi v494 c3_i32_205
  let c0_i32_206 : BitVec 32 := 0#32
  let v496 : BitVec 1 := Scalar.cmpi .ne v495 c0_i32_206
  let c34_i32_207 : BitVec 32 := 34#32
  let v499 : BitVec 1 := Scalar.cmpi .sgt v36 c34_i32_207
  let v500 : BitVec 1 := Scalar.andi v496 v499
  let v501 : BitVec 32 := Scalar.extui v500
  let v502 : BitVec 32 := Scalar.addi v493 v501
  let c6_i32_208 : BitVec 32 := 6#32
  let v503 : BitVec 32 := Scalar.shrsi v179 c6_i32_208
  let c3_i32_209 : BitVec 32 := 3#32
  let v504 : BitVec 32 := Scalar.andi v503 c3_i32_209
  let c0_i32_210 : BitVec 32 := 0#32
  let v505 : BitVec 1 := Scalar.cmpi .ne v504 c0_i32_210
  let c35_i32_211 : BitVec 32 := 35#32
  let v508 : BitVec 1 := Scalar.cmpi .sgt v36 c35_i32_211
  let v509 : BitVec 1 := Scalar.andi v505 v508
  let v510 : BitVec 32 := Scalar.extui v509
  let v511 : BitVec 32 := Scalar.addi v502 v510
  let c8_i32_212 : BitVec 32 := 8#32
  let v512 : BitVec 32 := Scalar.shrsi v179 c8_i32_212
  let c3_i32_213 : BitVec 32 := 3#32
  let v513 : BitVec 32 := Scalar.andi v512 c3_i32_213
  let c0_i32_214 : BitVec 32 := 0#32
  let v514 : BitVec 1 := Scalar.cmpi .ne v513 c0_i32_214
  let c36_i32_215 : BitVec 32 := 36#32
  let v517 : BitVec 1 := Scalar.cmpi .sgt v36 c36_i32_215
  let v518 : BitVec 1 := Scalar.andi v514 v517
  let v519 : BitVec 32 := Scalar.extui v518
  let v520 : BitVec 32 := Scalar.addi v511 v519
  let c10_i32_216 : BitVec 32 := 10#32
  let v521 : BitVec 32 := Scalar.shrsi v179 c10_i32_216
  let c3_i32_217 : BitVec 32 := 3#32
  let v522 : BitVec 32 := Scalar.andi v521 c3_i32_217
  let c0_i32_218 : BitVec 32 := 0#32
  let v523 : BitVec 1 := Scalar.cmpi .ne v522 c0_i32_218
  let c37_i32_219 : BitVec 32 := 37#32
  let v526 : BitVec 1 := Scalar.cmpi .sgt v36 c37_i32_219
  let v527 : BitVec 1 := Scalar.andi v523 v526
  let v528 : BitVec 32 := Scalar.extui v527
  let v529 : BitVec 32 := Scalar.addi v520 v528
  let c12_i32_220 : BitVec 32 := 12#32
  let v530 : BitVec 32 := Scalar.shrsi v179 c12_i32_220
  let c3_i32_221 : BitVec 32 := 3#32
  let v531 : BitVec 32 := Scalar.andi v530 c3_i32_221
  let c0_i32_222 : BitVec 32 := 0#32
  let v532 : BitVec 1 := Scalar.cmpi .ne v531 c0_i32_222
  let c38_i32_223 : BitVec 32 := 38#32
  let v535 : BitVec 1 := Scalar.cmpi .sgt v36 c38_i32_223
  let v536 : BitVec 1 := Scalar.andi v532 v535
  let v537 : BitVec 32 := Scalar.extui v536
  let v538 : BitVec 32 := Scalar.addi v529 v537
  let c14_i32_224 : BitVec 32 := 14#32
  let v539 : BitVec 32 := Scalar.shrsi v179 c14_i32_224
  let c3_i32_225 : BitVec 32 := 3#32
  let v540 : BitVec 32 := Scalar.andi v539 c3_i32_225
  let c0_i32_226 : BitVec 32 := 0#32
  let v541 : BitVec 1 := Scalar.cmpi .ne v540 c0_i32_226
  let c39_i32_227 : BitVec 32 := 39#32
  let v544 : BitVec 1 := Scalar.cmpi .sgt v36 c39_i32_227
  let v545 : BitVec 1 := Scalar.andi v541 v544
  let v546 : BitVec 32 := Scalar.extui v545
  let v547 : BitVec 32 := Scalar.addi v538 v546
  let v551 : Index := Scalar.indexCast v547
  ![v551.toNat]

def k0_chk5 (i : grid0.Coords) (v167 : BitVec 32) (v170 : BitVec 32) (v173 : BitVec 32) (v176 : BitVec 32) (v179 : BitVec 32) : Prop :=
  (∀ a, (k0_off37 i v167 v170 v173 v176 v179) a + S1.size a ≤ S72.size a) ∧
  (∀ a, (k0_off38 i v167 v170 v173 v176 v179) a + S1.size a ≤ S72.size a) ∧
  (∀ a, (k0_off39 i v167 v170 v173 v176 v179) a + S1.size a ≤ S72.size a) ∧
  (∀ a, (k0_off40 i v167 v170 v173 v176 v179) a + S1.size a ≤ S72.size a) ∧
  (∀ a, (k0_off41 i v167 v170 v173 v176 v179) a + S1.size a ≤ S72.size a) ∧
  (∀ a, (k0_off42 i v167 v170 v173 v176 v179) a + S1.size a ≤ S72.size a) ∧
  (∀ a, (k0_off43 i v167 v170 v173 v176 v179) a + S1.size a ≤ S72.size a) ∧
  (∀ a, (k0_off44 i v167 v170 v173 v176 v179) a + S1.size a ≤ S72.size a)
theorem k0_off37_inb : ∀ (i : grid0.Coords) (v167 : BitVec 32) (v170 : BitVec 32) (v173 : BitVec 32) (v176 : BitVec 32) (v179 : BitVec 32) (k0_hw5 : k0_chk5 i v167 v170 v173 v176 v179), ∀ a, (k0_off37 i v167 v170 v173 v176 v179) a + S1.size a ≤ S72.size a := fun i v167 v170 v173 v176 v179 k0_hw5 => k0_hw5.1
theorem k0_off38_inb : ∀ (i : grid0.Coords) (v167 : BitVec 32) (v170 : BitVec 32) (v173 : BitVec 32) (v176 : BitVec 32) (v179 : BitVec 32) (k0_hw5 : k0_chk5 i v167 v170 v173 v176 v179), ∀ a, (k0_off38 i v167 v170 v173 v176 v179) a + S1.size a ≤ S72.size a := fun i v167 v170 v173 v176 v179 k0_hw5 => k0_hw5.2.1
theorem k0_off39_inb : ∀ (i : grid0.Coords) (v167 : BitVec 32) (v170 : BitVec 32) (v173 : BitVec 32) (v176 : BitVec 32) (v179 : BitVec 32) (k0_hw5 : k0_chk5 i v167 v170 v173 v176 v179), ∀ a, (k0_off39 i v167 v170 v173 v176 v179) a + S1.size a ≤ S72.size a := fun i v167 v170 v173 v176 v179 k0_hw5 => k0_hw5.2.2.1
theorem k0_off40_inb : ∀ (i : grid0.Coords) (v167 : BitVec 32) (v170 : BitVec 32) (v173 : BitVec 32) (v176 : BitVec 32) (v179 : BitVec 32) (k0_hw5 : k0_chk5 i v167 v170 v173 v176 v179), ∀ a, (k0_off40 i v167 v170 v173 v176 v179) a + S1.size a ≤ S72.size a := fun i v167 v170 v173 v176 v179 k0_hw5 => k0_hw5.2.2.2.1
theorem k0_off41_inb : ∀ (i : grid0.Coords) (v167 : BitVec 32) (v170 : BitVec 32) (v173 : BitVec 32) (v176 : BitVec 32) (v179 : BitVec 32) (k0_hw5 : k0_chk5 i v167 v170 v173 v176 v179), ∀ a, (k0_off41 i v167 v170 v173 v176 v179) a + S1.size a ≤ S72.size a := fun i v167 v170 v173 v176 v179 k0_hw5 => k0_hw5.2.2.2.2.1
theorem k0_off42_inb : ∀ (i : grid0.Coords) (v167 : BitVec 32) (v170 : BitVec 32) (v173 : BitVec 32) (v176 : BitVec 32) (v179 : BitVec 32) (k0_hw5 : k0_chk5 i v167 v170 v173 v176 v179), ∀ a, (k0_off42 i v167 v170 v173 v176 v179) a + S1.size a ≤ S72.size a := fun i v167 v170 v173 v176 v179 k0_hw5 => k0_hw5.2.2.2.2.2.1
theorem k0_off43_inb : ∀ (i : grid0.Coords) (v167 : BitVec 32) (v170 : BitVec 32) (v173 : BitVec 32) (v176 : BitVec 32) (v179 : BitVec 32) (k0_hw5 : k0_chk5 i v167 v170 v173 v176 v179), ∀ a, (k0_off43 i v167 v170 v173 v176 v179) a + S1.size a ≤ S72.size a := fun i v167 v170 v173 v176 v179 k0_hw5 => k0_hw5.2.2.2.2.2.2.1
theorem k0_off44_inb : ∀ (i : grid0.Coords) (v167 : BitVec 32) (v170 : BitVec 32) (v173 : BitVec 32) (v176 : BitVec 32) (v179 : BitVec 32) (k0_hw5 : k0_chk5 i v167 v170 v173 v176 v179), ∀ a, (k0_off44 i v167 v170 v173 v176 v179) a + S1.size a ≤ S72.size a := fun i v167 v170 v173 v176 v179 k0_hw5 => k0_hw5.2.2.2.2.2.2.2

def k0_off45 (i : grid0.Coords) (v167 : BitVec 32) (v170 : BitVec 32) (v173 : BitVec 32) (v176 : BitVec 32) (v179 : BitVec 32) (v182 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let c0_i32_196 : BitVec 32 := 0#32
  let v476 : BitVec 32 := Scalar.shrsi v179 c0_i32_196
  let c3_i32_197 : BitVec 32 := 3#32
  let v477 : BitVec 32 := Scalar.andi v476 c3_i32_197
  let c0_i32_198 : BitVec 32 := 0#32
  let v478 : BitVec 1 := Scalar.cmpi .ne v477 c0_i32_198
  let c32_i32_199 : BitVec 32 := 32#32
  let v481 : BitVec 1 := Scalar.cmpi .sgt v36 c32_i32_199
  let v482 : BitVec 1 := Scalar.andi v478 v481
  let v483 : BitVec 32 := Scalar.extui v482
  let v484 : BitVec 32 := Scalar.addi v475 v483
  let c2_i32_200 : BitVec 32 := 2#32
  let v485 : BitVec 32 := Scalar.shrsi v179 c2_i32_200
  let c3_i32_201 : BitVec 32 := 3#32
  let v486 : BitVec 32 := Scalar.andi v485 c3_i32_201
  let c0_i32_202 : BitVec 32 := 0#32
  let v487 : BitVec 1 := Scalar.cmpi .ne v486 c0_i32_202
  let c33_i32_203 : BitVec 32 := 33#32
  let v490 : BitVec 1 := Scalar.cmpi .sgt v36 c33_i32_203
  let v491 : BitVec 1 := Scalar.andi v487 v490
  let v492 : BitVec 32 := Scalar.extui v491
  let v493 : BitVec 32 := Scalar.addi v484 v492
  let c4_i32_204 : BitVec 32 := 4#32
  let v494 : BitVec 32 := Scalar.shrsi v179 c4_i32_204
  let c3_i32_205 : BitVec 32 := 3#32
  let v495 : BitVec 32 := Scalar.andi v494 c3_i32_205
  let c0_i32_206 : BitVec 32 := 0#32
  let v496 : BitVec 1 := Scalar.cmpi .ne v495 c0_i32_206
  let c34_i32_207 : BitVec 32 := 34#32
  let v499 : BitVec 1 := Scalar.cmpi .sgt v36 c34_i32_207
  let v500 : BitVec 1 := Scalar.andi v496 v499
  let v501 : BitVec 32 := Scalar.extui v500
  let v502 : BitVec 32 := Scalar.addi v493 v501
  let c6_i32_208 : BitVec 32 := 6#32
  let v503 : BitVec 32 := Scalar.shrsi v179 c6_i32_208
  let c3_i32_209 : BitVec 32 := 3#32
  let v504 : BitVec 32 := Scalar.andi v503 c3_i32_209
  let c0_i32_210 : BitVec 32 := 0#32
  let v505 : BitVec 1 := Scalar.cmpi .ne v504 c0_i32_210
  let c35_i32_211 : BitVec 32 := 35#32
  let v508 : BitVec 1 := Scalar.cmpi .sgt v36 c35_i32_211
  let v509 : BitVec 1 := Scalar.andi v505 v508
  let v510 : BitVec 32 := Scalar.extui v509
  let v511 : BitVec 32 := Scalar.addi v502 v510
  let c8_i32_212 : BitVec 32 := 8#32
  let v512 : BitVec 32 := Scalar.shrsi v179 c8_i32_212
  let c3_i32_213 : BitVec 32 := 3#32
  let v513 : BitVec 32 := Scalar.andi v512 c3_i32_213
  let c0_i32_214 : BitVec 32 := 0#32
  let v514 : BitVec 1 := Scalar.cmpi .ne v513 c0_i32_214
  let c36_i32_215 : BitVec 32 := 36#32
  let v517 : BitVec 1 := Scalar.cmpi .sgt v36 c36_i32_215
  let v518 : BitVec 1 := Scalar.andi v514 v517
  let v519 : BitVec 32 := Scalar.extui v518
  let v520 : BitVec 32 := Scalar.addi v511 v519
  let c10_i32_216 : BitVec 32 := 10#32
  let v521 : BitVec 32 := Scalar.shrsi v179 c10_i32_216
  let c3_i32_217 : BitVec 32 := 3#32
  let v522 : BitVec 32 := Scalar.andi v521 c3_i32_217
  let c0_i32_218 : BitVec 32 := 0#32
  let v523 : BitVec 1 := Scalar.cmpi .ne v522 c0_i32_218
  let c37_i32_219 : BitVec 32 := 37#32
  let v526 : BitVec 1 := Scalar.cmpi .sgt v36 c37_i32_219
  let v527 : BitVec 1 := Scalar.andi v523 v526
  let v528 : BitVec 32 := Scalar.extui v527
  let v529 : BitVec 32 := Scalar.addi v520 v528
  let c12_i32_220 : BitVec 32 := 12#32
  let v530 : BitVec 32 := Scalar.shrsi v179 c12_i32_220
  let c3_i32_221 : BitVec 32 := 3#32
  let v531 : BitVec 32 := Scalar.andi v530 c3_i32_221
  let c0_i32_222 : BitVec 32 := 0#32
  let v532 : BitVec 1 := Scalar.cmpi .ne v531 c0_i32_222
  let c38_i32_223 : BitVec 32 := 38#32
  let v535 : BitVec 1 := Scalar.cmpi .sgt v36 c38_i32_223
  let v536 : BitVec 1 := Scalar.andi v532 v535
  let v537 : BitVec 32 := Scalar.extui v536
  let v538 : BitVec 32 := Scalar.addi v529 v537
  let c14_i32_224 : BitVec 32 := 14#32
  let v539 : BitVec 32 := Scalar.shrsi v179 c14_i32_224
  let c3_i32_225 : BitVec 32 := 3#32
  let v540 : BitVec 32 := Scalar.andi v539 c3_i32_225
  let c0_i32_226 : BitVec 32 := 0#32
  let v541 : BitVec 1 := Scalar.cmpi .ne v540 c0_i32_226
  let c39_i32_227 : BitVec 32 := 39#32
  let v544 : BitVec 1 := Scalar.cmpi .sgt v36 c39_i32_227
  let v545 : BitVec 1 := Scalar.andi v541 v544
  let v546 : BitVec 32 := Scalar.extui v545
  let v547 : BitVec 32 := Scalar.addi v538 v546
  let c0_i32_228 : BitVec 32 := 0#32
  let v548 : BitVec 32 := Scalar.shrsi v182 c0_i32_228
  let c3_i32_229 : BitVec 32 := 3#32
  let v549 : BitVec 32 := Scalar.andi v548 c3_i32_229
  let c0_i32_230 : BitVec 32 := 0#32
  let v550 : BitVec 1 := Scalar.cmpi .ne v549 c0_i32_230
  let c40_i32_231 : BitVec 32 := 40#32
  let v553 : BitVec 1 := Scalar.cmpi .sgt v36 c40_i32_231
  let v554 : BitVec 1 := Scalar.andi v550 v553
  let v555 : BitVec 32 := Scalar.extui v554
  let v556 : BitVec 32 := Scalar.addi v547 v555
  let v560 : Index := Scalar.indexCast v556
  ![v560.toNat]

def k0_off46 (i : grid0.Coords) (v167 : BitVec 32) (v170 : BitVec 32) (v173 : BitVec 32) (v176 : BitVec 32) (v179 : BitVec 32) (v182 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let c0_i32_196 : BitVec 32 := 0#32
  let v476 : BitVec 32 := Scalar.shrsi v179 c0_i32_196
  let c3_i32_197 : BitVec 32 := 3#32
  let v477 : BitVec 32 := Scalar.andi v476 c3_i32_197
  let c0_i32_198 : BitVec 32 := 0#32
  let v478 : BitVec 1 := Scalar.cmpi .ne v477 c0_i32_198
  let c32_i32_199 : BitVec 32 := 32#32
  let v481 : BitVec 1 := Scalar.cmpi .sgt v36 c32_i32_199
  let v482 : BitVec 1 := Scalar.andi v478 v481
  let v483 : BitVec 32 := Scalar.extui v482
  let v484 : BitVec 32 := Scalar.addi v475 v483
  let c2_i32_200 : BitVec 32 := 2#32
  let v485 : BitVec 32 := Scalar.shrsi v179 c2_i32_200
  let c3_i32_201 : BitVec 32 := 3#32
  let v486 : BitVec 32 := Scalar.andi v485 c3_i32_201
  let c0_i32_202 : BitVec 32 := 0#32
  let v487 : BitVec 1 := Scalar.cmpi .ne v486 c0_i32_202
  let c33_i32_203 : BitVec 32 := 33#32
  let v490 : BitVec 1 := Scalar.cmpi .sgt v36 c33_i32_203
  let v491 : BitVec 1 := Scalar.andi v487 v490
  let v492 : BitVec 32 := Scalar.extui v491
  let v493 : BitVec 32 := Scalar.addi v484 v492
  let c4_i32_204 : BitVec 32 := 4#32
  let v494 : BitVec 32 := Scalar.shrsi v179 c4_i32_204
  let c3_i32_205 : BitVec 32 := 3#32
  let v495 : BitVec 32 := Scalar.andi v494 c3_i32_205
  let c0_i32_206 : BitVec 32 := 0#32
  let v496 : BitVec 1 := Scalar.cmpi .ne v495 c0_i32_206
  let c34_i32_207 : BitVec 32 := 34#32
  let v499 : BitVec 1 := Scalar.cmpi .sgt v36 c34_i32_207
  let v500 : BitVec 1 := Scalar.andi v496 v499
  let v501 : BitVec 32 := Scalar.extui v500
  let v502 : BitVec 32 := Scalar.addi v493 v501
  let c6_i32_208 : BitVec 32 := 6#32
  let v503 : BitVec 32 := Scalar.shrsi v179 c6_i32_208
  let c3_i32_209 : BitVec 32 := 3#32
  let v504 : BitVec 32 := Scalar.andi v503 c3_i32_209
  let c0_i32_210 : BitVec 32 := 0#32
  let v505 : BitVec 1 := Scalar.cmpi .ne v504 c0_i32_210
  let c35_i32_211 : BitVec 32 := 35#32
  let v508 : BitVec 1 := Scalar.cmpi .sgt v36 c35_i32_211
  let v509 : BitVec 1 := Scalar.andi v505 v508
  let v510 : BitVec 32 := Scalar.extui v509
  let v511 : BitVec 32 := Scalar.addi v502 v510
  let c8_i32_212 : BitVec 32 := 8#32
  let v512 : BitVec 32 := Scalar.shrsi v179 c8_i32_212
  let c3_i32_213 : BitVec 32 := 3#32
  let v513 : BitVec 32 := Scalar.andi v512 c3_i32_213
  let c0_i32_214 : BitVec 32 := 0#32
  let v514 : BitVec 1 := Scalar.cmpi .ne v513 c0_i32_214
  let c36_i32_215 : BitVec 32 := 36#32
  let v517 : BitVec 1 := Scalar.cmpi .sgt v36 c36_i32_215
  let v518 : BitVec 1 := Scalar.andi v514 v517
  let v519 : BitVec 32 := Scalar.extui v518
  let v520 : BitVec 32 := Scalar.addi v511 v519
  let c10_i32_216 : BitVec 32 := 10#32
  let v521 : BitVec 32 := Scalar.shrsi v179 c10_i32_216
  let c3_i32_217 : BitVec 32 := 3#32
  let v522 : BitVec 32 := Scalar.andi v521 c3_i32_217
  let c0_i32_218 : BitVec 32 := 0#32
  let v523 : BitVec 1 := Scalar.cmpi .ne v522 c0_i32_218
  let c37_i32_219 : BitVec 32 := 37#32
  let v526 : BitVec 1 := Scalar.cmpi .sgt v36 c37_i32_219
  let v527 : BitVec 1 := Scalar.andi v523 v526
  let v528 : BitVec 32 := Scalar.extui v527
  let v529 : BitVec 32 := Scalar.addi v520 v528
  let c12_i32_220 : BitVec 32 := 12#32
  let v530 : BitVec 32 := Scalar.shrsi v179 c12_i32_220
  let c3_i32_221 : BitVec 32 := 3#32
  let v531 : BitVec 32 := Scalar.andi v530 c3_i32_221
  let c0_i32_222 : BitVec 32 := 0#32
  let v532 : BitVec 1 := Scalar.cmpi .ne v531 c0_i32_222
  let c38_i32_223 : BitVec 32 := 38#32
  let v535 : BitVec 1 := Scalar.cmpi .sgt v36 c38_i32_223
  let v536 : BitVec 1 := Scalar.andi v532 v535
  let v537 : BitVec 32 := Scalar.extui v536
  let v538 : BitVec 32 := Scalar.addi v529 v537
  let c14_i32_224 : BitVec 32 := 14#32
  let v539 : BitVec 32 := Scalar.shrsi v179 c14_i32_224
  let c3_i32_225 : BitVec 32 := 3#32
  let v540 : BitVec 32 := Scalar.andi v539 c3_i32_225
  let c0_i32_226 : BitVec 32 := 0#32
  let v541 : BitVec 1 := Scalar.cmpi .ne v540 c0_i32_226
  let c39_i32_227 : BitVec 32 := 39#32
  let v544 : BitVec 1 := Scalar.cmpi .sgt v36 c39_i32_227
  let v545 : BitVec 1 := Scalar.andi v541 v544
  let v546 : BitVec 32 := Scalar.extui v545
  let v547 : BitVec 32 := Scalar.addi v538 v546
  let c0_i32_228 : BitVec 32 := 0#32
  let v548 : BitVec 32 := Scalar.shrsi v182 c0_i32_228
  let c3_i32_229 : BitVec 32 := 3#32
  let v549 : BitVec 32 := Scalar.andi v548 c3_i32_229
  let c0_i32_230 : BitVec 32 := 0#32
  let v550 : BitVec 1 := Scalar.cmpi .ne v549 c0_i32_230
  let c40_i32_231 : BitVec 32 := 40#32
  let v553 : BitVec 1 := Scalar.cmpi .sgt v36 c40_i32_231
  let v554 : BitVec 1 := Scalar.andi v550 v553
  let v555 : BitVec 32 := Scalar.extui v554
  let v556 : BitVec 32 := Scalar.addi v547 v555
  let c2_i32_232 : BitVec 32 := 2#32
  let v557 : BitVec 32 := Scalar.shrsi v182 c2_i32_232
  let c3_i32_233 : BitVec 32 := 3#32
  let v558 : BitVec 32 := Scalar.andi v557 c3_i32_233
  let c0_i32_234 : BitVec 32 := 0#32
  let v559 : BitVec 1 := Scalar.cmpi .ne v558 c0_i32_234
  let c41_i32_235 : BitVec 32 := 41#32
  let v562 : BitVec 1 := Scalar.cmpi .sgt v36 c41_i32_235
  let v563 : BitVec 1 := Scalar.andi v559 v562
  let v564 : BitVec 32 := Scalar.extui v563
  let v565 : BitVec 32 := Scalar.addi v556 v564
  let v569 : Index := Scalar.indexCast v565
  ![v569.toNat]
def k0_off47 (i : grid0.Coords) (v167 : BitVec 32) (v170 : BitVec 32) (v173 : BitVec 32) (v176 : BitVec 32) (v179 : BitVec 32) (v182 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let c0_i32_196 : BitVec 32 := 0#32
  let v476 : BitVec 32 := Scalar.shrsi v179 c0_i32_196
  let c3_i32_197 : BitVec 32 := 3#32
  let v477 : BitVec 32 := Scalar.andi v476 c3_i32_197
  let c0_i32_198 : BitVec 32 := 0#32
  let v478 : BitVec 1 := Scalar.cmpi .ne v477 c0_i32_198
  let c32_i32_199 : BitVec 32 := 32#32
  let v481 : BitVec 1 := Scalar.cmpi .sgt v36 c32_i32_199
  let v482 : BitVec 1 := Scalar.andi v478 v481
  let v483 : BitVec 32 := Scalar.extui v482
  let v484 : BitVec 32 := Scalar.addi v475 v483
  let c2_i32_200 : BitVec 32 := 2#32
  let v485 : BitVec 32 := Scalar.shrsi v179 c2_i32_200
  let c3_i32_201 : BitVec 32 := 3#32
  let v486 : BitVec 32 := Scalar.andi v485 c3_i32_201
  let c0_i32_202 : BitVec 32 := 0#32
  let v487 : BitVec 1 := Scalar.cmpi .ne v486 c0_i32_202
  let c33_i32_203 : BitVec 32 := 33#32
  let v490 : BitVec 1 := Scalar.cmpi .sgt v36 c33_i32_203
  let v491 : BitVec 1 := Scalar.andi v487 v490
  let v492 : BitVec 32 := Scalar.extui v491
  let v493 : BitVec 32 := Scalar.addi v484 v492
  let c4_i32_204 : BitVec 32 := 4#32
  let v494 : BitVec 32 := Scalar.shrsi v179 c4_i32_204
  let c3_i32_205 : BitVec 32 := 3#32
  let v495 : BitVec 32 := Scalar.andi v494 c3_i32_205
  let c0_i32_206 : BitVec 32 := 0#32
  let v496 : BitVec 1 := Scalar.cmpi .ne v495 c0_i32_206
  let c34_i32_207 : BitVec 32 := 34#32
  let v499 : BitVec 1 := Scalar.cmpi .sgt v36 c34_i32_207
  let v500 : BitVec 1 := Scalar.andi v496 v499
  let v501 : BitVec 32 := Scalar.extui v500
  let v502 : BitVec 32 := Scalar.addi v493 v501
  let c6_i32_208 : BitVec 32 := 6#32
  let v503 : BitVec 32 := Scalar.shrsi v179 c6_i32_208
  let c3_i32_209 : BitVec 32 := 3#32
  let v504 : BitVec 32 := Scalar.andi v503 c3_i32_209
  let c0_i32_210 : BitVec 32 := 0#32
  let v505 : BitVec 1 := Scalar.cmpi .ne v504 c0_i32_210
  let c35_i32_211 : BitVec 32 := 35#32
  let v508 : BitVec 1 := Scalar.cmpi .sgt v36 c35_i32_211
  let v509 : BitVec 1 := Scalar.andi v505 v508
  let v510 : BitVec 32 := Scalar.extui v509
  let v511 : BitVec 32 := Scalar.addi v502 v510
  let c8_i32_212 : BitVec 32 := 8#32
  let v512 : BitVec 32 := Scalar.shrsi v179 c8_i32_212
  let c3_i32_213 : BitVec 32 := 3#32
  let v513 : BitVec 32 := Scalar.andi v512 c3_i32_213
  let c0_i32_214 : BitVec 32 := 0#32
  let v514 : BitVec 1 := Scalar.cmpi .ne v513 c0_i32_214
  let c36_i32_215 : BitVec 32 := 36#32
  let v517 : BitVec 1 := Scalar.cmpi .sgt v36 c36_i32_215
  let v518 : BitVec 1 := Scalar.andi v514 v517
  let v519 : BitVec 32 := Scalar.extui v518
  let v520 : BitVec 32 := Scalar.addi v511 v519
  let c10_i32_216 : BitVec 32 := 10#32
  let v521 : BitVec 32 := Scalar.shrsi v179 c10_i32_216
  let c3_i32_217 : BitVec 32 := 3#32
  let v522 : BitVec 32 := Scalar.andi v521 c3_i32_217
  let c0_i32_218 : BitVec 32 := 0#32
  let v523 : BitVec 1 := Scalar.cmpi .ne v522 c0_i32_218
  let c37_i32_219 : BitVec 32 := 37#32
  let v526 : BitVec 1 := Scalar.cmpi .sgt v36 c37_i32_219
  let v527 : BitVec 1 := Scalar.andi v523 v526
  let v528 : BitVec 32 := Scalar.extui v527
  let v529 : BitVec 32 := Scalar.addi v520 v528
  let c12_i32_220 : BitVec 32 := 12#32
  let v530 : BitVec 32 := Scalar.shrsi v179 c12_i32_220
  let c3_i32_221 : BitVec 32 := 3#32
  let v531 : BitVec 32 := Scalar.andi v530 c3_i32_221
  let c0_i32_222 : BitVec 32 := 0#32
  let v532 : BitVec 1 := Scalar.cmpi .ne v531 c0_i32_222
  let c38_i32_223 : BitVec 32 := 38#32
  let v535 : BitVec 1 := Scalar.cmpi .sgt v36 c38_i32_223
  let v536 : BitVec 1 := Scalar.andi v532 v535
  let v537 : BitVec 32 := Scalar.extui v536
  let v538 : BitVec 32 := Scalar.addi v529 v537
  let c14_i32_224 : BitVec 32 := 14#32
  let v539 : BitVec 32 := Scalar.shrsi v179 c14_i32_224
  let c3_i32_225 : BitVec 32 := 3#32
  let v540 : BitVec 32 := Scalar.andi v539 c3_i32_225
  let c0_i32_226 : BitVec 32 := 0#32
  let v541 : BitVec 1 := Scalar.cmpi .ne v540 c0_i32_226
  let c39_i32_227 : BitVec 32 := 39#32
  let v544 : BitVec 1 := Scalar.cmpi .sgt v36 c39_i32_227
  let v545 : BitVec 1 := Scalar.andi v541 v544
  let v546 : BitVec 32 := Scalar.extui v545
  let v547 : BitVec 32 := Scalar.addi v538 v546
  let c0_i32_228 : BitVec 32 := 0#32
  let v548 : BitVec 32 := Scalar.shrsi v182 c0_i32_228
  let c3_i32_229 : BitVec 32 := 3#32
  let v549 : BitVec 32 := Scalar.andi v548 c3_i32_229
  let c0_i32_230 : BitVec 32 := 0#32
  let v550 : BitVec 1 := Scalar.cmpi .ne v549 c0_i32_230
  let c40_i32_231 : BitVec 32 := 40#32
  let v553 : BitVec 1 := Scalar.cmpi .sgt v36 c40_i32_231
  let v554 : BitVec 1 := Scalar.andi v550 v553
  let v555 : BitVec 32 := Scalar.extui v554
  let v556 : BitVec 32 := Scalar.addi v547 v555
  let c2_i32_232 : BitVec 32 := 2#32
  let v557 : BitVec 32 := Scalar.shrsi v182 c2_i32_232
  let c3_i32_233 : BitVec 32 := 3#32
  let v558 : BitVec 32 := Scalar.andi v557 c3_i32_233
  let c0_i32_234 : BitVec 32 := 0#32
  let v559 : BitVec 1 := Scalar.cmpi .ne v558 c0_i32_234
  let c41_i32_235 : BitVec 32 := 41#32
  let v562 : BitVec 1 := Scalar.cmpi .sgt v36 c41_i32_235
  let v563 : BitVec 1 := Scalar.andi v559 v562
  let v564 : BitVec 32 := Scalar.extui v563
  let v565 : BitVec 32 := Scalar.addi v556 v564
  let c4_i32_236 : BitVec 32 := 4#32
  let v566 : BitVec 32 := Scalar.shrsi v182 c4_i32_236
  let c3_i32_237 : BitVec 32 := 3#32
  let v567 : BitVec 32 := Scalar.andi v566 c3_i32_237
  let c0_i32_238 : BitVec 32 := 0#32
  let v568 : BitVec 1 := Scalar.cmpi .ne v567 c0_i32_238
  let c42_i32_239 : BitVec 32 := 42#32
  let v571 : BitVec 1 := Scalar.cmpi .sgt v36 c42_i32_239
  let v572 : BitVec 1 := Scalar.andi v568 v571
  let v573 : BitVec 32 := Scalar.extui v572
  let v574 : BitVec 32 := Scalar.addi v565 v573
  let v578 : Index := Scalar.indexCast v574
  ![v578.toNat]
def k0_off48 (i : grid0.Coords) (v167 : BitVec 32) (v170 : BitVec 32) (v173 : BitVec 32) (v176 : BitVec 32) (v179 : BitVec 32) (v182 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let c0_i32_196 : BitVec 32 := 0#32
  let v476 : BitVec 32 := Scalar.shrsi v179 c0_i32_196
  let c3_i32_197 : BitVec 32 := 3#32
  let v477 : BitVec 32 := Scalar.andi v476 c3_i32_197
  let c0_i32_198 : BitVec 32 := 0#32
  let v478 : BitVec 1 := Scalar.cmpi .ne v477 c0_i32_198
  let c32_i32_199 : BitVec 32 := 32#32
  let v481 : BitVec 1 := Scalar.cmpi .sgt v36 c32_i32_199
  let v482 : BitVec 1 := Scalar.andi v478 v481
  let v483 : BitVec 32 := Scalar.extui v482
  let v484 : BitVec 32 := Scalar.addi v475 v483
  let c2_i32_200 : BitVec 32 := 2#32
  let v485 : BitVec 32 := Scalar.shrsi v179 c2_i32_200
  let c3_i32_201 : BitVec 32 := 3#32
  let v486 : BitVec 32 := Scalar.andi v485 c3_i32_201
  let c0_i32_202 : BitVec 32 := 0#32
  let v487 : BitVec 1 := Scalar.cmpi .ne v486 c0_i32_202
  let c33_i32_203 : BitVec 32 := 33#32
  let v490 : BitVec 1 := Scalar.cmpi .sgt v36 c33_i32_203
  let v491 : BitVec 1 := Scalar.andi v487 v490
  let v492 : BitVec 32 := Scalar.extui v491
  let v493 : BitVec 32 := Scalar.addi v484 v492
  let c4_i32_204 : BitVec 32 := 4#32
  let v494 : BitVec 32 := Scalar.shrsi v179 c4_i32_204
  let c3_i32_205 : BitVec 32 := 3#32
  let v495 : BitVec 32 := Scalar.andi v494 c3_i32_205
  let c0_i32_206 : BitVec 32 := 0#32
  let v496 : BitVec 1 := Scalar.cmpi .ne v495 c0_i32_206
  let c34_i32_207 : BitVec 32 := 34#32
  let v499 : BitVec 1 := Scalar.cmpi .sgt v36 c34_i32_207
  let v500 : BitVec 1 := Scalar.andi v496 v499
  let v501 : BitVec 32 := Scalar.extui v500
  let v502 : BitVec 32 := Scalar.addi v493 v501
  let c6_i32_208 : BitVec 32 := 6#32
  let v503 : BitVec 32 := Scalar.shrsi v179 c6_i32_208
  let c3_i32_209 : BitVec 32 := 3#32
  let v504 : BitVec 32 := Scalar.andi v503 c3_i32_209
  let c0_i32_210 : BitVec 32 := 0#32
  let v505 : BitVec 1 := Scalar.cmpi .ne v504 c0_i32_210
  let c35_i32_211 : BitVec 32 := 35#32
  let v508 : BitVec 1 := Scalar.cmpi .sgt v36 c35_i32_211
  let v509 : BitVec 1 := Scalar.andi v505 v508
  let v510 : BitVec 32 := Scalar.extui v509
  let v511 : BitVec 32 := Scalar.addi v502 v510
  let c8_i32_212 : BitVec 32 := 8#32
  let v512 : BitVec 32 := Scalar.shrsi v179 c8_i32_212
  let c3_i32_213 : BitVec 32 := 3#32
  let v513 : BitVec 32 := Scalar.andi v512 c3_i32_213
  let c0_i32_214 : BitVec 32 := 0#32
  let v514 : BitVec 1 := Scalar.cmpi .ne v513 c0_i32_214
  let c36_i32_215 : BitVec 32 := 36#32
  let v517 : BitVec 1 := Scalar.cmpi .sgt v36 c36_i32_215
  let v518 : BitVec 1 := Scalar.andi v514 v517
  let v519 : BitVec 32 := Scalar.extui v518
  let v520 : BitVec 32 := Scalar.addi v511 v519
  let c10_i32_216 : BitVec 32 := 10#32
  let v521 : BitVec 32 := Scalar.shrsi v179 c10_i32_216
  let c3_i32_217 : BitVec 32 := 3#32
  let v522 : BitVec 32 := Scalar.andi v521 c3_i32_217
  let c0_i32_218 : BitVec 32 := 0#32
  let v523 : BitVec 1 := Scalar.cmpi .ne v522 c0_i32_218
  let c37_i32_219 : BitVec 32 := 37#32
  let v526 : BitVec 1 := Scalar.cmpi .sgt v36 c37_i32_219
  let v527 : BitVec 1 := Scalar.andi v523 v526
  let v528 : BitVec 32 := Scalar.extui v527
  let v529 : BitVec 32 := Scalar.addi v520 v528
  let c12_i32_220 : BitVec 32 := 12#32
  let v530 : BitVec 32 := Scalar.shrsi v179 c12_i32_220
  let c3_i32_221 : BitVec 32 := 3#32
  let v531 : BitVec 32 := Scalar.andi v530 c3_i32_221
  let c0_i32_222 : BitVec 32 := 0#32
  let v532 : BitVec 1 := Scalar.cmpi .ne v531 c0_i32_222
  let c38_i32_223 : BitVec 32 := 38#32
  let v535 : BitVec 1 := Scalar.cmpi .sgt v36 c38_i32_223
  let v536 : BitVec 1 := Scalar.andi v532 v535
  let v537 : BitVec 32 := Scalar.extui v536
  let v538 : BitVec 32 := Scalar.addi v529 v537
  let c14_i32_224 : BitVec 32 := 14#32
  let v539 : BitVec 32 := Scalar.shrsi v179 c14_i32_224
  let c3_i32_225 : BitVec 32 := 3#32
  let v540 : BitVec 32 := Scalar.andi v539 c3_i32_225
  let c0_i32_226 : BitVec 32 := 0#32
  let v541 : BitVec 1 := Scalar.cmpi .ne v540 c0_i32_226
  let c39_i32_227 : BitVec 32 := 39#32
  let v544 : BitVec 1 := Scalar.cmpi .sgt v36 c39_i32_227
  let v545 : BitVec 1 := Scalar.andi v541 v544
  let v546 : BitVec 32 := Scalar.extui v545
  let v547 : BitVec 32 := Scalar.addi v538 v546
  let c0_i32_228 : BitVec 32 := 0#32
  let v548 : BitVec 32 := Scalar.shrsi v182 c0_i32_228
  let c3_i32_229 : BitVec 32 := 3#32
  let v549 : BitVec 32 := Scalar.andi v548 c3_i32_229
  let c0_i32_230 : BitVec 32 := 0#32
  let v550 : BitVec 1 := Scalar.cmpi .ne v549 c0_i32_230
  let c40_i32_231 : BitVec 32 := 40#32
  let v553 : BitVec 1 := Scalar.cmpi .sgt v36 c40_i32_231
  let v554 : BitVec 1 := Scalar.andi v550 v553
  let v555 : BitVec 32 := Scalar.extui v554
  let v556 : BitVec 32 := Scalar.addi v547 v555
  let c2_i32_232 : BitVec 32 := 2#32
  let v557 : BitVec 32 := Scalar.shrsi v182 c2_i32_232
  let c3_i32_233 : BitVec 32 := 3#32
  let v558 : BitVec 32 := Scalar.andi v557 c3_i32_233
  let c0_i32_234 : BitVec 32 := 0#32
  let v559 : BitVec 1 := Scalar.cmpi .ne v558 c0_i32_234
  let c41_i32_235 : BitVec 32 := 41#32
  let v562 : BitVec 1 := Scalar.cmpi .sgt v36 c41_i32_235
  let v563 : BitVec 1 := Scalar.andi v559 v562
  let v564 : BitVec 32 := Scalar.extui v563
  let v565 : BitVec 32 := Scalar.addi v556 v564
  let c4_i32_236 : BitVec 32 := 4#32
  let v566 : BitVec 32 := Scalar.shrsi v182 c4_i32_236
  let c3_i32_237 : BitVec 32 := 3#32
  let v567 : BitVec 32 := Scalar.andi v566 c3_i32_237
  let c0_i32_238 : BitVec 32 := 0#32
  let v568 : BitVec 1 := Scalar.cmpi .ne v567 c0_i32_238
  let c42_i32_239 : BitVec 32 := 42#32
  let v571 : BitVec 1 := Scalar.cmpi .sgt v36 c42_i32_239
  let v572 : BitVec 1 := Scalar.andi v568 v571
  let v573 : BitVec 32 := Scalar.extui v572
  let v574 : BitVec 32 := Scalar.addi v565 v573
  let c6_i32_240 : BitVec 32 := 6#32
  let v575 : BitVec 32 := Scalar.shrsi v182 c6_i32_240
  let c3_i32_241 : BitVec 32 := 3#32
  let v576 : BitVec 32 := Scalar.andi v575 c3_i32_241
  let c0_i32_242 : BitVec 32 := 0#32
  let v577 : BitVec 1 := Scalar.cmpi .ne v576 c0_i32_242
  let c43_i32_243 : BitVec 32 := 43#32
  let v580 : BitVec 1 := Scalar.cmpi .sgt v36 c43_i32_243
  let v581 : BitVec 1 := Scalar.andi v577 v580
  let v582 : BitVec 32 := Scalar.extui v581
  let v583 : BitVec 32 := Scalar.addi v574 v582
  let v587 : Index := Scalar.indexCast v583
  ![v587.toNat]
def k0_off49 (i : grid0.Coords) (v167 : BitVec 32) (v170 : BitVec 32) (v173 : BitVec 32) (v176 : BitVec 32) (v179 : BitVec 32) (v182 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let c0_i32_196 : BitVec 32 := 0#32
  let v476 : BitVec 32 := Scalar.shrsi v179 c0_i32_196
  let c3_i32_197 : BitVec 32 := 3#32
  let v477 : BitVec 32 := Scalar.andi v476 c3_i32_197
  let c0_i32_198 : BitVec 32 := 0#32
  let v478 : BitVec 1 := Scalar.cmpi .ne v477 c0_i32_198
  let c32_i32_199 : BitVec 32 := 32#32
  let v481 : BitVec 1 := Scalar.cmpi .sgt v36 c32_i32_199
  let v482 : BitVec 1 := Scalar.andi v478 v481
  let v483 : BitVec 32 := Scalar.extui v482
  let v484 : BitVec 32 := Scalar.addi v475 v483
  let c2_i32_200 : BitVec 32 := 2#32
  let v485 : BitVec 32 := Scalar.shrsi v179 c2_i32_200
  let c3_i32_201 : BitVec 32 := 3#32
  let v486 : BitVec 32 := Scalar.andi v485 c3_i32_201
  let c0_i32_202 : BitVec 32 := 0#32
  let v487 : BitVec 1 := Scalar.cmpi .ne v486 c0_i32_202
  let c33_i32_203 : BitVec 32 := 33#32
  let v490 : BitVec 1 := Scalar.cmpi .sgt v36 c33_i32_203
  let v491 : BitVec 1 := Scalar.andi v487 v490
  let v492 : BitVec 32 := Scalar.extui v491
  let v493 : BitVec 32 := Scalar.addi v484 v492
  let c4_i32_204 : BitVec 32 := 4#32
  let v494 : BitVec 32 := Scalar.shrsi v179 c4_i32_204
  let c3_i32_205 : BitVec 32 := 3#32
  let v495 : BitVec 32 := Scalar.andi v494 c3_i32_205
  let c0_i32_206 : BitVec 32 := 0#32
  let v496 : BitVec 1 := Scalar.cmpi .ne v495 c0_i32_206
  let c34_i32_207 : BitVec 32 := 34#32
  let v499 : BitVec 1 := Scalar.cmpi .sgt v36 c34_i32_207
  let v500 : BitVec 1 := Scalar.andi v496 v499
  let v501 : BitVec 32 := Scalar.extui v500
  let v502 : BitVec 32 := Scalar.addi v493 v501
  let c6_i32_208 : BitVec 32 := 6#32
  let v503 : BitVec 32 := Scalar.shrsi v179 c6_i32_208
  let c3_i32_209 : BitVec 32 := 3#32
  let v504 : BitVec 32 := Scalar.andi v503 c3_i32_209
  let c0_i32_210 : BitVec 32 := 0#32
  let v505 : BitVec 1 := Scalar.cmpi .ne v504 c0_i32_210
  let c35_i32_211 : BitVec 32 := 35#32
  let v508 : BitVec 1 := Scalar.cmpi .sgt v36 c35_i32_211
  let v509 : BitVec 1 := Scalar.andi v505 v508
  let v510 : BitVec 32 := Scalar.extui v509
  let v511 : BitVec 32 := Scalar.addi v502 v510
  let c8_i32_212 : BitVec 32 := 8#32
  let v512 : BitVec 32 := Scalar.shrsi v179 c8_i32_212
  let c3_i32_213 : BitVec 32 := 3#32
  let v513 : BitVec 32 := Scalar.andi v512 c3_i32_213
  let c0_i32_214 : BitVec 32 := 0#32
  let v514 : BitVec 1 := Scalar.cmpi .ne v513 c0_i32_214
  let c36_i32_215 : BitVec 32 := 36#32
  let v517 : BitVec 1 := Scalar.cmpi .sgt v36 c36_i32_215
  let v518 : BitVec 1 := Scalar.andi v514 v517
  let v519 : BitVec 32 := Scalar.extui v518
  let v520 : BitVec 32 := Scalar.addi v511 v519
  let c10_i32_216 : BitVec 32 := 10#32
  let v521 : BitVec 32 := Scalar.shrsi v179 c10_i32_216
  let c3_i32_217 : BitVec 32 := 3#32
  let v522 : BitVec 32 := Scalar.andi v521 c3_i32_217
  let c0_i32_218 : BitVec 32 := 0#32
  let v523 : BitVec 1 := Scalar.cmpi .ne v522 c0_i32_218
  let c37_i32_219 : BitVec 32 := 37#32
  let v526 : BitVec 1 := Scalar.cmpi .sgt v36 c37_i32_219
  let v527 : BitVec 1 := Scalar.andi v523 v526
  let v528 : BitVec 32 := Scalar.extui v527
  let v529 : BitVec 32 := Scalar.addi v520 v528
  let c12_i32_220 : BitVec 32 := 12#32
  let v530 : BitVec 32 := Scalar.shrsi v179 c12_i32_220
  let c3_i32_221 : BitVec 32 := 3#32
  let v531 : BitVec 32 := Scalar.andi v530 c3_i32_221
  let c0_i32_222 : BitVec 32 := 0#32
  let v532 : BitVec 1 := Scalar.cmpi .ne v531 c0_i32_222
  let c38_i32_223 : BitVec 32 := 38#32
  let v535 : BitVec 1 := Scalar.cmpi .sgt v36 c38_i32_223
  let v536 : BitVec 1 := Scalar.andi v532 v535
  let v537 : BitVec 32 := Scalar.extui v536
  let v538 : BitVec 32 := Scalar.addi v529 v537
  let c14_i32_224 : BitVec 32 := 14#32
  let v539 : BitVec 32 := Scalar.shrsi v179 c14_i32_224
  let c3_i32_225 : BitVec 32 := 3#32
  let v540 : BitVec 32 := Scalar.andi v539 c3_i32_225
  let c0_i32_226 : BitVec 32 := 0#32
  let v541 : BitVec 1 := Scalar.cmpi .ne v540 c0_i32_226
  let c39_i32_227 : BitVec 32 := 39#32
  let v544 : BitVec 1 := Scalar.cmpi .sgt v36 c39_i32_227
  let v545 : BitVec 1 := Scalar.andi v541 v544
  let v546 : BitVec 32 := Scalar.extui v545
  let v547 : BitVec 32 := Scalar.addi v538 v546
  let c0_i32_228 : BitVec 32 := 0#32
  let v548 : BitVec 32 := Scalar.shrsi v182 c0_i32_228
  let c3_i32_229 : BitVec 32 := 3#32
  let v549 : BitVec 32 := Scalar.andi v548 c3_i32_229
  let c0_i32_230 : BitVec 32 := 0#32
  let v550 : BitVec 1 := Scalar.cmpi .ne v549 c0_i32_230
  let c40_i32_231 : BitVec 32 := 40#32
  let v553 : BitVec 1 := Scalar.cmpi .sgt v36 c40_i32_231
  let v554 : BitVec 1 := Scalar.andi v550 v553
  let v555 : BitVec 32 := Scalar.extui v554
  let v556 : BitVec 32 := Scalar.addi v547 v555
  let c2_i32_232 : BitVec 32 := 2#32
  let v557 : BitVec 32 := Scalar.shrsi v182 c2_i32_232
  let c3_i32_233 : BitVec 32 := 3#32
  let v558 : BitVec 32 := Scalar.andi v557 c3_i32_233
  let c0_i32_234 : BitVec 32 := 0#32
  let v559 : BitVec 1 := Scalar.cmpi .ne v558 c0_i32_234
  let c41_i32_235 : BitVec 32 := 41#32
  let v562 : BitVec 1 := Scalar.cmpi .sgt v36 c41_i32_235
  let v563 : BitVec 1 := Scalar.andi v559 v562
  let v564 : BitVec 32 := Scalar.extui v563
  let v565 : BitVec 32 := Scalar.addi v556 v564
  let c4_i32_236 : BitVec 32 := 4#32
  let v566 : BitVec 32 := Scalar.shrsi v182 c4_i32_236
  let c3_i32_237 : BitVec 32 := 3#32
  let v567 : BitVec 32 := Scalar.andi v566 c3_i32_237
  let c0_i32_238 : BitVec 32 := 0#32
  let v568 : BitVec 1 := Scalar.cmpi .ne v567 c0_i32_238
  let c42_i32_239 : BitVec 32 := 42#32
  let v571 : BitVec 1 := Scalar.cmpi .sgt v36 c42_i32_239
  let v572 : BitVec 1 := Scalar.andi v568 v571
  let v573 : BitVec 32 := Scalar.extui v572
  let v574 : BitVec 32 := Scalar.addi v565 v573
  let c6_i32_240 : BitVec 32 := 6#32
  let v575 : BitVec 32 := Scalar.shrsi v182 c6_i32_240
  let c3_i32_241 : BitVec 32 := 3#32
  let v576 : BitVec 32 := Scalar.andi v575 c3_i32_241
  let c0_i32_242 : BitVec 32 := 0#32
  let v577 : BitVec 1 := Scalar.cmpi .ne v576 c0_i32_242
  let c43_i32_243 : BitVec 32 := 43#32
  let v580 : BitVec 1 := Scalar.cmpi .sgt v36 c43_i32_243
  let v581 : BitVec 1 := Scalar.andi v577 v580
  let v582 : BitVec 32 := Scalar.extui v581
  let v583 : BitVec 32 := Scalar.addi v574 v582
  let c8_i32_244 : BitVec 32 := 8#32
  let v584 : BitVec 32 := Scalar.shrsi v182 c8_i32_244
  let c3_i32_245 : BitVec 32 := 3#32
  let v585 : BitVec 32 := Scalar.andi v584 c3_i32_245
  let c0_i32_246 : BitVec 32 := 0#32
  let v586 : BitVec 1 := Scalar.cmpi .ne v585 c0_i32_246
  let c44_i32_247 : BitVec 32 := 44#32
  let v589 : BitVec 1 := Scalar.cmpi .sgt v36 c44_i32_247
  let v590 : BitVec 1 := Scalar.andi v586 v589
  let v591 : BitVec 32 := Scalar.extui v590
  let v592 : BitVec 32 := Scalar.addi v583 v591
  let v596 : Index := Scalar.indexCast v592
  ![v596.toNat]
def k0_off50 (i : grid0.Coords) (v167 : BitVec 32) (v170 : BitVec 32) (v173 : BitVec 32) (v176 : BitVec 32) (v179 : BitVec 32) (v182 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let c0_i32_196 : BitVec 32 := 0#32
  let v476 : BitVec 32 := Scalar.shrsi v179 c0_i32_196
  let c3_i32_197 : BitVec 32 := 3#32
  let v477 : BitVec 32 := Scalar.andi v476 c3_i32_197
  let c0_i32_198 : BitVec 32 := 0#32
  let v478 : BitVec 1 := Scalar.cmpi .ne v477 c0_i32_198
  let c32_i32_199 : BitVec 32 := 32#32
  let v481 : BitVec 1 := Scalar.cmpi .sgt v36 c32_i32_199
  let v482 : BitVec 1 := Scalar.andi v478 v481
  let v483 : BitVec 32 := Scalar.extui v482
  let v484 : BitVec 32 := Scalar.addi v475 v483
  let c2_i32_200 : BitVec 32 := 2#32
  let v485 : BitVec 32 := Scalar.shrsi v179 c2_i32_200
  let c3_i32_201 : BitVec 32 := 3#32
  let v486 : BitVec 32 := Scalar.andi v485 c3_i32_201
  let c0_i32_202 : BitVec 32 := 0#32
  let v487 : BitVec 1 := Scalar.cmpi .ne v486 c0_i32_202
  let c33_i32_203 : BitVec 32 := 33#32
  let v490 : BitVec 1 := Scalar.cmpi .sgt v36 c33_i32_203
  let v491 : BitVec 1 := Scalar.andi v487 v490
  let v492 : BitVec 32 := Scalar.extui v491
  let v493 : BitVec 32 := Scalar.addi v484 v492
  let c4_i32_204 : BitVec 32 := 4#32
  let v494 : BitVec 32 := Scalar.shrsi v179 c4_i32_204
  let c3_i32_205 : BitVec 32 := 3#32
  let v495 : BitVec 32 := Scalar.andi v494 c3_i32_205
  let c0_i32_206 : BitVec 32 := 0#32
  let v496 : BitVec 1 := Scalar.cmpi .ne v495 c0_i32_206
  let c34_i32_207 : BitVec 32 := 34#32
  let v499 : BitVec 1 := Scalar.cmpi .sgt v36 c34_i32_207
  let v500 : BitVec 1 := Scalar.andi v496 v499
  let v501 : BitVec 32 := Scalar.extui v500
  let v502 : BitVec 32 := Scalar.addi v493 v501
  let c6_i32_208 : BitVec 32 := 6#32
  let v503 : BitVec 32 := Scalar.shrsi v179 c6_i32_208
  let c3_i32_209 : BitVec 32 := 3#32
  let v504 : BitVec 32 := Scalar.andi v503 c3_i32_209
  let c0_i32_210 : BitVec 32 := 0#32
  let v505 : BitVec 1 := Scalar.cmpi .ne v504 c0_i32_210
  let c35_i32_211 : BitVec 32 := 35#32
  let v508 : BitVec 1 := Scalar.cmpi .sgt v36 c35_i32_211
  let v509 : BitVec 1 := Scalar.andi v505 v508
  let v510 : BitVec 32 := Scalar.extui v509
  let v511 : BitVec 32 := Scalar.addi v502 v510
  let c8_i32_212 : BitVec 32 := 8#32
  let v512 : BitVec 32 := Scalar.shrsi v179 c8_i32_212
  let c3_i32_213 : BitVec 32 := 3#32
  let v513 : BitVec 32 := Scalar.andi v512 c3_i32_213
  let c0_i32_214 : BitVec 32 := 0#32
  let v514 : BitVec 1 := Scalar.cmpi .ne v513 c0_i32_214
  let c36_i32_215 : BitVec 32 := 36#32
  let v517 : BitVec 1 := Scalar.cmpi .sgt v36 c36_i32_215
  let v518 : BitVec 1 := Scalar.andi v514 v517
  let v519 : BitVec 32 := Scalar.extui v518
  let v520 : BitVec 32 := Scalar.addi v511 v519
  let c10_i32_216 : BitVec 32 := 10#32
  let v521 : BitVec 32 := Scalar.shrsi v179 c10_i32_216
  let c3_i32_217 : BitVec 32 := 3#32
  let v522 : BitVec 32 := Scalar.andi v521 c3_i32_217
  let c0_i32_218 : BitVec 32 := 0#32
  let v523 : BitVec 1 := Scalar.cmpi .ne v522 c0_i32_218
  let c37_i32_219 : BitVec 32 := 37#32
  let v526 : BitVec 1 := Scalar.cmpi .sgt v36 c37_i32_219
  let v527 : BitVec 1 := Scalar.andi v523 v526
  let v528 : BitVec 32 := Scalar.extui v527
  let v529 : BitVec 32 := Scalar.addi v520 v528
  let c12_i32_220 : BitVec 32 := 12#32
  let v530 : BitVec 32 := Scalar.shrsi v179 c12_i32_220
  let c3_i32_221 : BitVec 32 := 3#32
  let v531 : BitVec 32 := Scalar.andi v530 c3_i32_221
  let c0_i32_222 : BitVec 32 := 0#32
  let v532 : BitVec 1 := Scalar.cmpi .ne v531 c0_i32_222
  let c38_i32_223 : BitVec 32 := 38#32
  let v535 : BitVec 1 := Scalar.cmpi .sgt v36 c38_i32_223
  let v536 : BitVec 1 := Scalar.andi v532 v535
  let v537 : BitVec 32 := Scalar.extui v536
  let v538 : BitVec 32 := Scalar.addi v529 v537
  let c14_i32_224 : BitVec 32 := 14#32
  let v539 : BitVec 32 := Scalar.shrsi v179 c14_i32_224
  let c3_i32_225 : BitVec 32 := 3#32
  let v540 : BitVec 32 := Scalar.andi v539 c3_i32_225
  let c0_i32_226 : BitVec 32 := 0#32
  let v541 : BitVec 1 := Scalar.cmpi .ne v540 c0_i32_226
  let c39_i32_227 : BitVec 32 := 39#32
  let v544 : BitVec 1 := Scalar.cmpi .sgt v36 c39_i32_227
  let v545 : BitVec 1 := Scalar.andi v541 v544
  let v546 : BitVec 32 := Scalar.extui v545
  let v547 : BitVec 32 := Scalar.addi v538 v546
  let c0_i32_228 : BitVec 32 := 0#32
  let v548 : BitVec 32 := Scalar.shrsi v182 c0_i32_228
  let c3_i32_229 : BitVec 32 := 3#32
  let v549 : BitVec 32 := Scalar.andi v548 c3_i32_229
  let c0_i32_230 : BitVec 32 := 0#32
  let v550 : BitVec 1 := Scalar.cmpi .ne v549 c0_i32_230
  let c40_i32_231 : BitVec 32 := 40#32
  let v553 : BitVec 1 := Scalar.cmpi .sgt v36 c40_i32_231
  let v554 : BitVec 1 := Scalar.andi v550 v553
  let v555 : BitVec 32 := Scalar.extui v554
  let v556 : BitVec 32 := Scalar.addi v547 v555
  let c2_i32_232 : BitVec 32 := 2#32
  let v557 : BitVec 32 := Scalar.shrsi v182 c2_i32_232
  let c3_i32_233 : BitVec 32 := 3#32
  let v558 : BitVec 32 := Scalar.andi v557 c3_i32_233
  let c0_i32_234 : BitVec 32 := 0#32
  let v559 : BitVec 1 := Scalar.cmpi .ne v558 c0_i32_234
  let c41_i32_235 : BitVec 32 := 41#32
  let v562 : BitVec 1 := Scalar.cmpi .sgt v36 c41_i32_235
  let v563 : BitVec 1 := Scalar.andi v559 v562
  let v564 : BitVec 32 := Scalar.extui v563
  let v565 : BitVec 32 := Scalar.addi v556 v564
  let c4_i32_236 : BitVec 32 := 4#32
  let v566 : BitVec 32 := Scalar.shrsi v182 c4_i32_236
  let c3_i32_237 : BitVec 32 := 3#32
  let v567 : BitVec 32 := Scalar.andi v566 c3_i32_237
  let c0_i32_238 : BitVec 32 := 0#32
  let v568 : BitVec 1 := Scalar.cmpi .ne v567 c0_i32_238
  let c42_i32_239 : BitVec 32 := 42#32
  let v571 : BitVec 1 := Scalar.cmpi .sgt v36 c42_i32_239
  let v572 : BitVec 1 := Scalar.andi v568 v571
  let v573 : BitVec 32 := Scalar.extui v572
  let v574 : BitVec 32 := Scalar.addi v565 v573
  let c6_i32_240 : BitVec 32 := 6#32
  let v575 : BitVec 32 := Scalar.shrsi v182 c6_i32_240
  let c3_i32_241 : BitVec 32 := 3#32
  let v576 : BitVec 32 := Scalar.andi v575 c3_i32_241
  let c0_i32_242 : BitVec 32 := 0#32
  let v577 : BitVec 1 := Scalar.cmpi .ne v576 c0_i32_242
  let c43_i32_243 : BitVec 32 := 43#32
  let v580 : BitVec 1 := Scalar.cmpi .sgt v36 c43_i32_243
  let v581 : BitVec 1 := Scalar.andi v577 v580
  let v582 : BitVec 32 := Scalar.extui v581
  let v583 : BitVec 32 := Scalar.addi v574 v582
  let c8_i32_244 : BitVec 32 := 8#32
  let v584 : BitVec 32 := Scalar.shrsi v182 c8_i32_244
  let c3_i32_245 : BitVec 32 := 3#32
  let v585 : BitVec 32 := Scalar.andi v584 c3_i32_245
  let c0_i32_246 : BitVec 32 := 0#32
  let v586 : BitVec 1 := Scalar.cmpi .ne v585 c0_i32_246
  let c44_i32_247 : BitVec 32 := 44#32
  let v589 : BitVec 1 := Scalar.cmpi .sgt v36 c44_i32_247
  let v590 : BitVec 1 := Scalar.andi v586 v589
  let v591 : BitVec 32 := Scalar.extui v590
  let v592 : BitVec 32 := Scalar.addi v583 v591
  let c10_i32_248 : BitVec 32 := 10#32
  let v593 : BitVec 32 := Scalar.shrsi v182 c10_i32_248
  let c3_i32_249 : BitVec 32 := 3#32
  let v594 : BitVec 32 := Scalar.andi v593 c3_i32_249
  let c0_i32_250 : BitVec 32 := 0#32
  let v595 : BitVec 1 := Scalar.cmpi .ne v594 c0_i32_250
  let c45_i32_251 : BitVec 32 := 45#32
  let v598 : BitVec 1 := Scalar.cmpi .sgt v36 c45_i32_251
  let v599 : BitVec 1 := Scalar.andi v595 v598
  let v600 : BitVec 32 := Scalar.extui v599
  let v601 : BitVec 32 := Scalar.addi v592 v600
  let v605 : Index := Scalar.indexCast v601
  ![v605.toNat]
def k0_off51 (i : grid0.Coords) (v167 : BitVec 32) (v170 : BitVec 32) (v173 : BitVec 32) (v176 : BitVec 32) (v179 : BitVec 32) (v182 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let c0_i32_196 : BitVec 32 := 0#32
  let v476 : BitVec 32 := Scalar.shrsi v179 c0_i32_196
  let c3_i32_197 : BitVec 32 := 3#32
  let v477 : BitVec 32 := Scalar.andi v476 c3_i32_197
  let c0_i32_198 : BitVec 32 := 0#32
  let v478 : BitVec 1 := Scalar.cmpi .ne v477 c0_i32_198
  let c32_i32_199 : BitVec 32 := 32#32
  let v481 : BitVec 1 := Scalar.cmpi .sgt v36 c32_i32_199
  let v482 : BitVec 1 := Scalar.andi v478 v481
  let v483 : BitVec 32 := Scalar.extui v482
  let v484 : BitVec 32 := Scalar.addi v475 v483
  let c2_i32_200 : BitVec 32 := 2#32
  let v485 : BitVec 32 := Scalar.shrsi v179 c2_i32_200
  let c3_i32_201 : BitVec 32 := 3#32
  let v486 : BitVec 32 := Scalar.andi v485 c3_i32_201
  let c0_i32_202 : BitVec 32 := 0#32
  let v487 : BitVec 1 := Scalar.cmpi .ne v486 c0_i32_202
  let c33_i32_203 : BitVec 32 := 33#32
  let v490 : BitVec 1 := Scalar.cmpi .sgt v36 c33_i32_203
  let v491 : BitVec 1 := Scalar.andi v487 v490
  let v492 : BitVec 32 := Scalar.extui v491
  let v493 : BitVec 32 := Scalar.addi v484 v492
  let c4_i32_204 : BitVec 32 := 4#32
  let v494 : BitVec 32 := Scalar.shrsi v179 c4_i32_204
  let c3_i32_205 : BitVec 32 := 3#32
  let v495 : BitVec 32 := Scalar.andi v494 c3_i32_205
  let c0_i32_206 : BitVec 32 := 0#32
  let v496 : BitVec 1 := Scalar.cmpi .ne v495 c0_i32_206
  let c34_i32_207 : BitVec 32 := 34#32
  let v499 : BitVec 1 := Scalar.cmpi .sgt v36 c34_i32_207
  let v500 : BitVec 1 := Scalar.andi v496 v499
  let v501 : BitVec 32 := Scalar.extui v500
  let v502 : BitVec 32 := Scalar.addi v493 v501
  let c6_i32_208 : BitVec 32 := 6#32
  let v503 : BitVec 32 := Scalar.shrsi v179 c6_i32_208
  let c3_i32_209 : BitVec 32 := 3#32
  let v504 : BitVec 32 := Scalar.andi v503 c3_i32_209
  let c0_i32_210 : BitVec 32 := 0#32
  let v505 : BitVec 1 := Scalar.cmpi .ne v504 c0_i32_210
  let c35_i32_211 : BitVec 32 := 35#32
  let v508 : BitVec 1 := Scalar.cmpi .sgt v36 c35_i32_211
  let v509 : BitVec 1 := Scalar.andi v505 v508
  let v510 : BitVec 32 := Scalar.extui v509
  let v511 : BitVec 32 := Scalar.addi v502 v510
  let c8_i32_212 : BitVec 32 := 8#32
  let v512 : BitVec 32 := Scalar.shrsi v179 c8_i32_212
  let c3_i32_213 : BitVec 32 := 3#32
  let v513 : BitVec 32 := Scalar.andi v512 c3_i32_213
  let c0_i32_214 : BitVec 32 := 0#32
  let v514 : BitVec 1 := Scalar.cmpi .ne v513 c0_i32_214
  let c36_i32_215 : BitVec 32 := 36#32
  let v517 : BitVec 1 := Scalar.cmpi .sgt v36 c36_i32_215
  let v518 : BitVec 1 := Scalar.andi v514 v517
  let v519 : BitVec 32 := Scalar.extui v518
  let v520 : BitVec 32 := Scalar.addi v511 v519
  let c10_i32_216 : BitVec 32 := 10#32
  let v521 : BitVec 32 := Scalar.shrsi v179 c10_i32_216
  let c3_i32_217 : BitVec 32 := 3#32
  let v522 : BitVec 32 := Scalar.andi v521 c3_i32_217
  let c0_i32_218 : BitVec 32 := 0#32
  let v523 : BitVec 1 := Scalar.cmpi .ne v522 c0_i32_218
  let c37_i32_219 : BitVec 32 := 37#32
  let v526 : BitVec 1 := Scalar.cmpi .sgt v36 c37_i32_219
  let v527 : BitVec 1 := Scalar.andi v523 v526
  let v528 : BitVec 32 := Scalar.extui v527
  let v529 : BitVec 32 := Scalar.addi v520 v528
  let c12_i32_220 : BitVec 32 := 12#32
  let v530 : BitVec 32 := Scalar.shrsi v179 c12_i32_220
  let c3_i32_221 : BitVec 32 := 3#32
  let v531 : BitVec 32 := Scalar.andi v530 c3_i32_221
  let c0_i32_222 : BitVec 32 := 0#32
  let v532 : BitVec 1 := Scalar.cmpi .ne v531 c0_i32_222
  let c38_i32_223 : BitVec 32 := 38#32
  let v535 : BitVec 1 := Scalar.cmpi .sgt v36 c38_i32_223
  let v536 : BitVec 1 := Scalar.andi v532 v535
  let v537 : BitVec 32 := Scalar.extui v536
  let v538 : BitVec 32 := Scalar.addi v529 v537
  let c14_i32_224 : BitVec 32 := 14#32
  let v539 : BitVec 32 := Scalar.shrsi v179 c14_i32_224
  let c3_i32_225 : BitVec 32 := 3#32
  let v540 : BitVec 32 := Scalar.andi v539 c3_i32_225
  let c0_i32_226 : BitVec 32 := 0#32
  let v541 : BitVec 1 := Scalar.cmpi .ne v540 c0_i32_226
  let c39_i32_227 : BitVec 32 := 39#32
  let v544 : BitVec 1 := Scalar.cmpi .sgt v36 c39_i32_227
  let v545 : BitVec 1 := Scalar.andi v541 v544
  let v546 : BitVec 32 := Scalar.extui v545
  let v547 : BitVec 32 := Scalar.addi v538 v546
  let c0_i32_228 : BitVec 32 := 0#32
  let v548 : BitVec 32 := Scalar.shrsi v182 c0_i32_228
  let c3_i32_229 : BitVec 32 := 3#32
  let v549 : BitVec 32 := Scalar.andi v548 c3_i32_229
  let c0_i32_230 : BitVec 32 := 0#32
  let v550 : BitVec 1 := Scalar.cmpi .ne v549 c0_i32_230
  let c40_i32_231 : BitVec 32 := 40#32
  let v553 : BitVec 1 := Scalar.cmpi .sgt v36 c40_i32_231
  let v554 : BitVec 1 := Scalar.andi v550 v553
  let v555 : BitVec 32 := Scalar.extui v554
  let v556 : BitVec 32 := Scalar.addi v547 v555
  let c2_i32_232 : BitVec 32 := 2#32
  let v557 : BitVec 32 := Scalar.shrsi v182 c2_i32_232
  let c3_i32_233 : BitVec 32 := 3#32
  let v558 : BitVec 32 := Scalar.andi v557 c3_i32_233
  let c0_i32_234 : BitVec 32 := 0#32
  let v559 : BitVec 1 := Scalar.cmpi .ne v558 c0_i32_234
  let c41_i32_235 : BitVec 32 := 41#32
  let v562 : BitVec 1 := Scalar.cmpi .sgt v36 c41_i32_235
  let v563 : BitVec 1 := Scalar.andi v559 v562
  let v564 : BitVec 32 := Scalar.extui v563
  let v565 : BitVec 32 := Scalar.addi v556 v564
  let c4_i32_236 : BitVec 32 := 4#32
  let v566 : BitVec 32 := Scalar.shrsi v182 c4_i32_236
  let c3_i32_237 : BitVec 32 := 3#32
  let v567 : BitVec 32 := Scalar.andi v566 c3_i32_237
  let c0_i32_238 : BitVec 32 := 0#32
  let v568 : BitVec 1 := Scalar.cmpi .ne v567 c0_i32_238
  let c42_i32_239 : BitVec 32 := 42#32
  let v571 : BitVec 1 := Scalar.cmpi .sgt v36 c42_i32_239
  let v572 : BitVec 1 := Scalar.andi v568 v571
  let v573 : BitVec 32 := Scalar.extui v572
  let v574 : BitVec 32 := Scalar.addi v565 v573
  let c6_i32_240 : BitVec 32 := 6#32
  let v575 : BitVec 32 := Scalar.shrsi v182 c6_i32_240
  let c3_i32_241 : BitVec 32 := 3#32
  let v576 : BitVec 32 := Scalar.andi v575 c3_i32_241
  let c0_i32_242 : BitVec 32 := 0#32
  let v577 : BitVec 1 := Scalar.cmpi .ne v576 c0_i32_242
  let c43_i32_243 : BitVec 32 := 43#32
  let v580 : BitVec 1 := Scalar.cmpi .sgt v36 c43_i32_243
  let v581 : BitVec 1 := Scalar.andi v577 v580
  let v582 : BitVec 32 := Scalar.extui v581
  let v583 : BitVec 32 := Scalar.addi v574 v582
  let c8_i32_244 : BitVec 32 := 8#32
  let v584 : BitVec 32 := Scalar.shrsi v182 c8_i32_244
  let c3_i32_245 : BitVec 32 := 3#32
  let v585 : BitVec 32 := Scalar.andi v584 c3_i32_245
  let c0_i32_246 : BitVec 32 := 0#32
  let v586 : BitVec 1 := Scalar.cmpi .ne v585 c0_i32_246
  let c44_i32_247 : BitVec 32 := 44#32
  let v589 : BitVec 1 := Scalar.cmpi .sgt v36 c44_i32_247
  let v590 : BitVec 1 := Scalar.andi v586 v589
  let v591 : BitVec 32 := Scalar.extui v590
  let v592 : BitVec 32 := Scalar.addi v583 v591
  let c10_i32_248 : BitVec 32 := 10#32
  let v593 : BitVec 32 := Scalar.shrsi v182 c10_i32_248
  let c3_i32_249 : BitVec 32 := 3#32
  let v594 : BitVec 32 := Scalar.andi v593 c3_i32_249
  let c0_i32_250 : BitVec 32 := 0#32
  let v595 : BitVec 1 := Scalar.cmpi .ne v594 c0_i32_250
  let c45_i32_251 : BitVec 32 := 45#32
  let v598 : BitVec 1 := Scalar.cmpi .sgt v36 c45_i32_251
  let v599 : BitVec 1 := Scalar.andi v595 v598
  let v600 : BitVec 32 := Scalar.extui v599
  let v601 : BitVec 32 := Scalar.addi v592 v600
  let c12_i32_252 : BitVec 32 := 12#32
  let v602 : BitVec 32 := Scalar.shrsi v182 c12_i32_252
  let c3_i32_253 : BitVec 32 := 3#32
  let v603 : BitVec 32 := Scalar.andi v602 c3_i32_253
  let c0_i32_254 : BitVec 32 := 0#32
  let v604 : BitVec 1 := Scalar.cmpi .ne v603 c0_i32_254
  let c46_i32_255 : BitVec 32 := 46#32
  let v607 : BitVec 1 := Scalar.cmpi .sgt v36 c46_i32_255
  let v608 : BitVec 1 := Scalar.andi v604 v607
  let v609 : BitVec 32 := Scalar.extui v608
  let v610 : BitVec 32 := Scalar.addi v601 v609
  let v614 : Index := Scalar.indexCast v610
  ![v614.toNat]
def k0_off52 (i : grid0.Coords) (v167 : BitVec 32) (v170 : BitVec 32) (v173 : BitVec 32) (v176 : BitVec 32) (v179 : BitVec 32) (v182 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let c0_i32_196 : BitVec 32 := 0#32
  let v476 : BitVec 32 := Scalar.shrsi v179 c0_i32_196
  let c3_i32_197 : BitVec 32 := 3#32
  let v477 : BitVec 32 := Scalar.andi v476 c3_i32_197
  let c0_i32_198 : BitVec 32 := 0#32
  let v478 : BitVec 1 := Scalar.cmpi .ne v477 c0_i32_198
  let c32_i32_199 : BitVec 32 := 32#32
  let v481 : BitVec 1 := Scalar.cmpi .sgt v36 c32_i32_199
  let v482 : BitVec 1 := Scalar.andi v478 v481
  let v483 : BitVec 32 := Scalar.extui v482
  let v484 : BitVec 32 := Scalar.addi v475 v483
  let c2_i32_200 : BitVec 32 := 2#32
  let v485 : BitVec 32 := Scalar.shrsi v179 c2_i32_200
  let c3_i32_201 : BitVec 32 := 3#32
  let v486 : BitVec 32 := Scalar.andi v485 c3_i32_201
  let c0_i32_202 : BitVec 32 := 0#32
  let v487 : BitVec 1 := Scalar.cmpi .ne v486 c0_i32_202
  let c33_i32_203 : BitVec 32 := 33#32
  let v490 : BitVec 1 := Scalar.cmpi .sgt v36 c33_i32_203
  let v491 : BitVec 1 := Scalar.andi v487 v490
  let v492 : BitVec 32 := Scalar.extui v491
  let v493 : BitVec 32 := Scalar.addi v484 v492
  let c4_i32_204 : BitVec 32 := 4#32
  let v494 : BitVec 32 := Scalar.shrsi v179 c4_i32_204
  let c3_i32_205 : BitVec 32 := 3#32
  let v495 : BitVec 32 := Scalar.andi v494 c3_i32_205
  let c0_i32_206 : BitVec 32 := 0#32
  let v496 : BitVec 1 := Scalar.cmpi .ne v495 c0_i32_206
  let c34_i32_207 : BitVec 32 := 34#32
  let v499 : BitVec 1 := Scalar.cmpi .sgt v36 c34_i32_207
  let v500 : BitVec 1 := Scalar.andi v496 v499
  let v501 : BitVec 32 := Scalar.extui v500
  let v502 : BitVec 32 := Scalar.addi v493 v501
  let c6_i32_208 : BitVec 32 := 6#32
  let v503 : BitVec 32 := Scalar.shrsi v179 c6_i32_208
  let c3_i32_209 : BitVec 32 := 3#32
  let v504 : BitVec 32 := Scalar.andi v503 c3_i32_209
  let c0_i32_210 : BitVec 32 := 0#32
  let v505 : BitVec 1 := Scalar.cmpi .ne v504 c0_i32_210
  let c35_i32_211 : BitVec 32 := 35#32
  let v508 : BitVec 1 := Scalar.cmpi .sgt v36 c35_i32_211
  let v509 : BitVec 1 := Scalar.andi v505 v508
  let v510 : BitVec 32 := Scalar.extui v509
  let v511 : BitVec 32 := Scalar.addi v502 v510
  let c8_i32_212 : BitVec 32 := 8#32
  let v512 : BitVec 32 := Scalar.shrsi v179 c8_i32_212
  let c3_i32_213 : BitVec 32 := 3#32
  let v513 : BitVec 32 := Scalar.andi v512 c3_i32_213
  let c0_i32_214 : BitVec 32 := 0#32
  let v514 : BitVec 1 := Scalar.cmpi .ne v513 c0_i32_214
  let c36_i32_215 : BitVec 32 := 36#32
  let v517 : BitVec 1 := Scalar.cmpi .sgt v36 c36_i32_215
  let v518 : BitVec 1 := Scalar.andi v514 v517
  let v519 : BitVec 32 := Scalar.extui v518
  let v520 : BitVec 32 := Scalar.addi v511 v519
  let c10_i32_216 : BitVec 32 := 10#32
  let v521 : BitVec 32 := Scalar.shrsi v179 c10_i32_216
  let c3_i32_217 : BitVec 32 := 3#32
  let v522 : BitVec 32 := Scalar.andi v521 c3_i32_217
  let c0_i32_218 : BitVec 32 := 0#32
  let v523 : BitVec 1 := Scalar.cmpi .ne v522 c0_i32_218
  let c37_i32_219 : BitVec 32 := 37#32
  let v526 : BitVec 1 := Scalar.cmpi .sgt v36 c37_i32_219
  let v527 : BitVec 1 := Scalar.andi v523 v526
  let v528 : BitVec 32 := Scalar.extui v527
  let v529 : BitVec 32 := Scalar.addi v520 v528
  let c12_i32_220 : BitVec 32 := 12#32
  let v530 : BitVec 32 := Scalar.shrsi v179 c12_i32_220
  let c3_i32_221 : BitVec 32 := 3#32
  let v531 : BitVec 32 := Scalar.andi v530 c3_i32_221
  let c0_i32_222 : BitVec 32 := 0#32
  let v532 : BitVec 1 := Scalar.cmpi .ne v531 c0_i32_222
  let c38_i32_223 : BitVec 32 := 38#32
  let v535 : BitVec 1 := Scalar.cmpi .sgt v36 c38_i32_223
  let v536 : BitVec 1 := Scalar.andi v532 v535
  let v537 : BitVec 32 := Scalar.extui v536
  let v538 : BitVec 32 := Scalar.addi v529 v537
  let c14_i32_224 : BitVec 32 := 14#32
  let v539 : BitVec 32 := Scalar.shrsi v179 c14_i32_224
  let c3_i32_225 : BitVec 32 := 3#32
  let v540 : BitVec 32 := Scalar.andi v539 c3_i32_225
  let c0_i32_226 : BitVec 32 := 0#32
  let v541 : BitVec 1 := Scalar.cmpi .ne v540 c0_i32_226
  let c39_i32_227 : BitVec 32 := 39#32
  let v544 : BitVec 1 := Scalar.cmpi .sgt v36 c39_i32_227
  let v545 : BitVec 1 := Scalar.andi v541 v544
  let v546 : BitVec 32 := Scalar.extui v545
  let v547 : BitVec 32 := Scalar.addi v538 v546
  let c0_i32_228 : BitVec 32 := 0#32
  let v548 : BitVec 32 := Scalar.shrsi v182 c0_i32_228
  let c3_i32_229 : BitVec 32 := 3#32
  let v549 : BitVec 32 := Scalar.andi v548 c3_i32_229
  let c0_i32_230 : BitVec 32 := 0#32
  let v550 : BitVec 1 := Scalar.cmpi .ne v549 c0_i32_230
  let c40_i32_231 : BitVec 32 := 40#32
  let v553 : BitVec 1 := Scalar.cmpi .sgt v36 c40_i32_231
  let v554 : BitVec 1 := Scalar.andi v550 v553
  let v555 : BitVec 32 := Scalar.extui v554
  let v556 : BitVec 32 := Scalar.addi v547 v555
  let c2_i32_232 : BitVec 32 := 2#32
  let v557 : BitVec 32 := Scalar.shrsi v182 c2_i32_232
  let c3_i32_233 : BitVec 32 := 3#32
  let v558 : BitVec 32 := Scalar.andi v557 c3_i32_233
  let c0_i32_234 : BitVec 32 := 0#32
  let v559 : BitVec 1 := Scalar.cmpi .ne v558 c0_i32_234
  let c41_i32_235 : BitVec 32 := 41#32
  let v562 : BitVec 1 := Scalar.cmpi .sgt v36 c41_i32_235
  let v563 : BitVec 1 := Scalar.andi v559 v562
  let v564 : BitVec 32 := Scalar.extui v563
  let v565 : BitVec 32 := Scalar.addi v556 v564
  let c4_i32_236 : BitVec 32 := 4#32
  let v566 : BitVec 32 := Scalar.shrsi v182 c4_i32_236
  let c3_i32_237 : BitVec 32 := 3#32
  let v567 : BitVec 32 := Scalar.andi v566 c3_i32_237
  let c0_i32_238 : BitVec 32 := 0#32
  let v568 : BitVec 1 := Scalar.cmpi .ne v567 c0_i32_238
  let c42_i32_239 : BitVec 32 := 42#32
  let v571 : BitVec 1 := Scalar.cmpi .sgt v36 c42_i32_239
  let v572 : BitVec 1 := Scalar.andi v568 v571
  let v573 : BitVec 32 := Scalar.extui v572
  let v574 : BitVec 32 := Scalar.addi v565 v573
  let c6_i32_240 : BitVec 32 := 6#32
  let v575 : BitVec 32 := Scalar.shrsi v182 c6_i32_240
  let c3_i32_241 : BitVec 32 := 3#32
  let v576 : BitVec 32 := Scalar.andi v575 c3_i32_241
  let c0_i32_242 : BitVec 32 := 0#32
  let v577 : BitVec 1 := Scalar.cmpi .ne v576 c0_i32_242
  let c43_i32_243 : BitVec 32 := 43#32
  let v580 : BitVec 1 := Scalar.cmpi .sgt v36 c43_i32_243
  let v581 : BitVec 1 := Scalar.andi v577 v580
  let v582 : BitVec 32 := Scalar.extui v581
  let v583 : BitVec 32 := Scalar.addi v574 v582
  let c8_i32_244 : BitVec 32 := 8#32
  let v584 : BitVec 32 := Scalar.shrsi v182 c8_i32_244
  let c3_i32_245 : BitVec 32 := 3#32
  let v585 : BitVec 32 := Scalar.andi v584 c3_i32_245
  let c0_i32_246 : BitVec 32 := 0#32
  let v586 : BitVec 1 := Scalar.cmpi .ne v585 c0_i32_246
  let c44_i32_247 : BitVec 32 := 44#32
  let v589 : BitVec 1 := Scalar.cmpi .sgt v36 c44_i32_247
  let v590 : BitVec 1 := Scalar.andi v586 v589
  let v591 : BitVec 32 := Scalar.extui v590
  let v592 : BitVec 32 := Scalar.addi v583 v591
  let c10_i32_248 : BitVec 32 := 10#32
  let v593 : BitVec 32 := Scalar.shrsi v182 c10_i32_248
  let c3_i32_249 : BitVec 32 := 3#32
  let v594 : BitVec 32 := Scalar.andi v593 c3_i32_249
  let c0_i32_250 : BitVec 32 := 0#32
  let v595 : BitVec 1 := Scalar.cmpi .ne v594 c0_i32_250
  let c45_i32_251 : BitVec 32 := 45#32
  let v598 : BitVec 1 := Scalar.cmpi .sgt v36 c45_i32_251
  let v599 : BitVec 1 := Scalar.andi v595 v598
  let v600 : BitVec 32 := Scalar.extui v599
  let v601 : BitVec 32 := Scalar.addi v592 v600
  let c12_i32_252 : BitVec 32 := 12#32
  let v602 : BitVec 32 := Scalar.shrsi v182 c12_i32_252
  let c3_i32_253 : BitVec 32 := 3#32
  let v603 : BitVec 32 := Scalar.andi v602 c3_i32_253
  let c0_i32_254 : BitVec 32 := 0#32
  let v604 : BitVec 1 := Scalar.cmpi .ne v603 c0_i32_254
  let c46_i32_255 : BitVec 32 := 46#32
  let v607 : BitVec 1 := Scalar.cmpi .sgt v36 c46_i32_255
  let v608 : BitVec 1 := Scalar.andi v604 v607
  let v609 : BitVec 32 := Scalar.extui v608
  let v610 : BitVec 32 := Scalar.addi v601 v609
  let c14_i32_256 : BitVec 32 := 14#32
  let v611 : BitVec 32 := Scalar.shrsi v182 c14_i32_256
  let c3_i32_257 : BitVec 32 := 3#32
  let v612 : BitVec 32 := Scalar.andi v611 c3_i32_257
  let c0_i32_258 : BitVec 32 := 0#32
  let v613 : BitVec 1 := Scalar.cmpi .ne v612 c0_i32_258
  let c47_i32_259 : BitVec 32 := 47#32
  let v616 : BitVec 1 := Scalar.cmpi .sgt v36 c47_i32_259
  let v617 : BitVec 1 := Scalar.andi v613 v616
  let v618 : BitVec 32 := Scalar.extui v617
  let v619 : BitVec 32 := Scalar.addi v610 v618
  let v623 : Index := Scalar.indexCast v619
  ![v623.toNat]

def k0_chk6 (i : grid0.Coords) (v167 : BitVec 32) (v170 : BitVec 32) (v173 : BitVec 32) (v176 : BitVec 32) (v179 : BitVec 32) (v182 : BitVec 32) : Prop :=
  (∀ a, (k0_off45 i v167 v170 v173 v176 v179 v182) a + S1.size a ≤ S72.size a) ∧
  (∀ a, (k0_off46 i v167 v170 v173 v176 v179 v182) a + S1.size a ≤ S72.size a) ∧
  (∀ a, (k0_off47 i v167 v170 v173 v176 v179 v182) a + S1.size a ≤ S72.size a) ∧
  (∀ a, (k0_off48 i v167 v170 v173 v176 v179 v182) a + S1.size a ≤ S72.size a) ∧
  (∀ a, (k0_off49 i v167 v170 v173 v176 v179 v182) a + S1.size a ≤ S72.size a) ∧
  (∀ a, (k0_off50 i v167 v170 v173 v176 v179 v182) a + S1.size a ≤ S72.size a) ∧
  (∀ a, (k0_off51 i v167 v170 v173 v176 v179 v182) a + S1.size a ≤ S72.size a) ∧
  (∀ a, (k0_off52 i v167 v170 v173 v176 v179 v182) a + S1.size a ≤ S72.size a)
theorem k0_off45_inb : ∀ (i : grid0.Coords) (v167 : BitVec 32) (v170 : BitVec 32) (v173 : BitVec 32) (v176 : BitVec 32) (v179 : BitVec 32) (v182 : BitVec 32) (k0_hw6 : k0_chk6 i v167 v170 v173 v176 v179 v182), ∀ a, (k0_off45 i v167 v170 v173 v176 v179 v182) a + S1.size a ≤ S72.size a := fun i v167 v170 v173 v176 v179 v182 k0_hw6 => k0_hw6.1
theorem k0_off46_inb : ∀ (i : grid0.Coords) (v167 : BitVec 32) (v170 : BitVec 32) (v173 : BitVec 32) (v176 : BitVec 32) (v179 : BitVec 32) (v182 : BitVec 32) (k0_hw6 : k0_chk6 i v167 v170 v173 v176 v179 v182), ∀ a, (k0_off46 i v167 v170 v173 v176 v179 v182) a + S1.size a ≤ S72.size a := fun i v167 v170 v173 v176 v179 v182 k0_hw6 => k0_hw6.2.1
theorem k0_off47_inb : ∀ (i : grid0.Coords) (v167 : BitVec 32) (v170 : BitVec 32) (v173 : BitVec 32) (v176 : BitVec 32) (v179 : BitVec 32) (v182 : BitVec 32) (k0_hw6 : k0_chk6 i v167 v170 v173 v176 v179 v182), ∀ a, (k0_off47 i v167 v170 v173 v176 v179 v182) a + S1.size a ≤ S72.size a := fun i v167 v170 v173 v176 v179 v182 k0_hw6 => k0_hw6.2.2.1
theorem k0_off48_inb : ∀ (i : grid0.Coords) (v167 : BitVec 32) (v170 : BitVec 32) (v173 : BitVec 32) (v176 : BitVec 32) (v179 : BitVec 32) (v182 : BitVec 32) (k0_hw6 : k0_chk6 i v167 v170 v173 v176 v179 v182), ∀ a, (k0_off48 i v167 v170 v173 v176 v179 v182) a + S1.size a ≤ S72.size a := fun i v167 v170 v173 v176 v179 v182 k0_hw6 => k0_hw6.2.2.2.1
theorem k0_off49_inb : ∀ (i : grid0.Coords) (v167 : BitVec 32) (v170 : BitVec 32) (v173 : BitVec 32) (v176 : BitVec 32) (v179 : BitVec 32) (v182 : BitVec 32) (k0_hw6 : k0_chk6 i v167 v170 v173 v176 v179 v182), ∀ a, (k0_off49 i v167 v170 v173 v176 v179 v182) a + S1.size a ≤ S72.size a := fun i v167 v170 v173 v176 v179 v182 k0_hw6 => k0_hw6.2.2.2.2.1
theorem k0_off50_inb : ∀ (i : grid0.Coords) (v167 : BitVec 32) (v170 : BitVec 32) (v173 : BitVec 32) (v176 : BitVec 32) (v179 : BitVec 32) (v182 : BitVec 32) (k0_hw6 : k0_chk6 i v167 v170 v173 v176 v179 v182), ∀ a, (k0_off50 i v167 v170 v173 v176 v179 v182) a + S1.size a ≤ S72.size a := fun i v167 v170 v173 v176 v179 v182 k0_hw6 => k0_hw6.2.2.2.2.2.1
theorem k0_off51_inb : ∀ (i : grid0.Coords) (v167 : BitVec 32) (v170 : BitVec 32) (v173 : BitVec 32) (v176 : BitVec 32) (v179 : BitVec 32) (v182 : BitVec 32) (k0_hw6 : k0_chk6 i v167 v170 v173 v176 v179 v182), ∀ a, (k0_off51 i v167 v170 v173 v176 v179 v182) a + S1.size a ≤ S72.size a := fun i v167 v170 v173 v176 v179 v182 k0_hw6 => k0_hw6.2.2.2.2.2.2.1
theorem k0_off52_inb : ∀ (i : grid0.Coords) (v167 : BitVec 32) (v170 : BitVec 32) (v173 : BitVec 32) (v176 : BitVec 32) (v179 : BitVec 32) (v182 : BitVec 32) (k0_hw6 : k0_chk6 i v167 v170 v173 v176 v179 v182), ∀ a, (k0_off52 i v167 v170 v173 v176 v179 v182) a + S1.size a ≤ S72.size a := fun i v167 v170 v173 v176 v179 v182 k0_hw6 => k0_hw6.2.2.2.2.2.2.2

def k0_off53 (i : grid0.Coords) (v167 : BitVec 32) (v170 : BitVec 32) (v173 : BitVec 32) (v176 : BitVec 32) (v179 : BitVec 32) (v182 : BitVec 32) (v185 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let c0_i32_196 : BitVec 32 := 0#32
  let v476 : BitVec 32 := Scalar.shrsi v179 c0_i32_196
  let c3_i32_197 : BitVec 32 := 3#32
  let v477 : BitVec 32 := Scalar.andi v476 c3_i32_197
  let c0_i32_198 : BitVec 32 := 0#32
  let v478 : BitVec 1 := Scalar.cmpi .ne v477 c0_i32_198
  let c32_i32_199 : BitVec 32 := 32#32
  let v481 : BitVec 1 := Scalar.cmpi .sgt v36 c32_i32_199
  let v482 : BitVec 1 := Scalar.andi v478 v481
  let v483 : BitVec 32 := Scalar.extui v482
  let v484 : BitVec 32 := Scalar.addi v475 v483
  let c2_i32_200 : BitVec 32 := 2#32
  let v485 : BitVec 32 := Scalar.shrsi v179 c2_i32_200
  let c3_i32_201 : BitVec 32 := 3#32
  let v486 : BitVec 32 := Scalar.andi v485 c3_i32_201
  let c0_i32_202 : BitVec 32 := 0#32
  let v487 : BitVec 1 := Scalar.cmpi .ne v486 c0_i32_202
  let c33_i32_203 : BitVec 32 := 33#32
  let v490 : BitVec 1 := Scalar.cmpi .sgt v36 c33_i32_203
  let v491 : BitVec 1 := Scalar.andi v487 v490
  let v492 : BitVec 32 := Scalar.extui v491
  let v493 : BitVec 32 := Scalar.addi v484 v492
  let c4_i32_204 : BitVec 32 := 4#32
  let v494 : BitVec 32 := Scalar.shrsi v179 c4_i32_204
  let c3_i32_205 : BitVec 32 := 3#32
  let v495 : BitVec 32 := Scalar.andi v494 c3_i32_205
  let c0_i32_206 : BitVec 32 := 0#32
  let v496 : BitVec 1 := Scalar.cmpi .ne v495 c0_i32_206
  let c34_i32_207 : BitVec 32 := 34#32
  let v499 : BitVec 1 := Scalar.cmpi .sgt v36 c34_i32_207
  let v500 : BitVec 1 := Scalar.andi v496 v499
  let v501 : BitVec 32 := Scalar.extui v500
  let v502 : BitVec 32 := Scalar.addi v493 v501
  let c6_i32_208 : BitVec 32 := 6#32
  let v503 : BitVec 32 := Scalar.shrsi v179 c6_i32_208
  let c3_i32_209 : BitVec 32 := 3#32
  let v504 : BitVec 32 := Scalar.andi v503 c3_i32_209
  let c0_i32_210 : BitVec 32 := 0#32
  let v505 : BitVec 1 := Scalar.cmpi .ne v504 c0_i32_210
  let c35_i32_211 : BitVec 32 := 35#32
  let v508 : BitVec 1 := Scalar.cmpi .sgt v36 c35_i32_211
  let v509 : BitVec 1 := Scalar.andi v505 v508
  let v510 : BitVec 32 := Scalar.extui v509
  let v511 : BitVec 32 := Scalar.addi v502 v510
  let c8_i32_212 : BitVec 32 := 8#32
  let v512 : BitVec 32 := Scalar.shrsi v179 c8_i32_212
  let c3_i32_213 : BitVec 32 := 3#32
  let v513 : BitVec 32 := Scalar.andi v512 c3_i32_213
  let c0_i32_214 : BitVec 32 := 0#32
  let v514 : BitVec 1 := Scalar.cmpi .ne v513 c0_i32_214
  let c36_i32_215 : BitVec 32 := 36#32
  let v517 : BitVec 1 := Scalar.cmpi .sgt v36 c36_i32_215
  let v518 : BitVec 1 := Scalar.andi v514 v517
  let v519 : BitVec 32 := Scalar.extui v518
  let v520 : BitVec 32 := Scalar.addi v511 v519
  let c10_i32_216 : BitVec 32 := 10#32
  let v521 : BitVec 32 := Scalar.shrsi v179 c10_i32_216
  let c3_i32_217 : BitVec 32 := 3#32
  let v522 : BitVec 32 := Scalar.andi v521 c3_i32_217
  let c0_i32_218 : BitVec 32 := 0#32
  let v523 : BitVec 1 := Scalar.cmpi .ne v522 c0_i32_218
  let c37_i32_219 : BitVec 32 := 37#32
  let v526 : BitVec 1 := Scalar.cmpi .sgt v36 c37_i32_219
  let v527 : BitVec 1 := Scalar.andi v523 v526
  let v528 : BitVec 32 := Scalar.extui v527
  let v529 : BitVec 32 := Scalar.addi v520 v528
  let c12_i32_220 : BitVec 32 := 12#32
  let v530 : BitVec 32 := Scalar.shrsi v179 c12_i32_220
  let c3_i32_221 : BitVec 32 := 3#32
  let v531 : BitVec 32 := Scalar.andi v530 c3_i32_221
  let c0_i32_222 : BitVec 32 := 0#32
  let v532 : BitVec 1 := Scalar.cmpi .ne v531 c0_i32_222
  let c38_i32_223 : BitVec 32 := 38#32
  let v535 : BitVec 1 := Scalar.cmpi .sgt v36 c38_i32_223
  let v536 : BitVec 1 := Scalar.andi v532 v535
  let v537 : BitVec 32 := Scalar.extui v536
  let v538 : BitVec 32 := Scalar.addi v529 v537
  let c14_i32_224 : BitVec 32 := 14#32
  let v539 : BitVec 32 := Scalar.shrsi v179 c14_i32_224
  let c3_i32_225 : BitVec 32 := 3#32
  let v540 : BitVec 32 := Scalar.andi v539 c3_i32_225
  let c0_i32_226 : BitVec 32 := 0#32
  let v541 : BitVec 1 := Scalar.cmpi .ne v540 c0_i32_226
  let c39_i32_227 : BitVec 32 := 39#32
  let v544 : BitVec 1 := Scalar.cmpi .sgt v36 c39_i32_227
  let v545 : BitVec 1 := Scalar.andi v541 v544
  let v546 : BitVec 32 := Scalar.extui v545
  let v547 : BitVec 32 := Scalar.addi v538 v546
  let c0_i32_228 : BitVec 32 := 0#32
  let v548 : BitVec 32 := Scalar.shrsi v182 c0_i32_228
  let c3_i32_229 : BitVec 32 := 3#32
  let v549 : BitVec 32 := Scalar.andi v548 c3_i32_229
  let c0_i32_230 : BitVec 32 := 0#32
  let v550 : BitVec 1 := Scalar.cmpi .ne v549 c0_i32_230
  let c40_i32_231 : BitVec 32 := 40#32
  let v553 : BitVec 1 := Scalar.cmpi .sgt v36 c40_i32_231
  let v554 : BitVec 1 := Scalar.andi v550 v553
  let v555 : BitVec 32 := Scalar.extui v554
  let v556 : BitVec 32 := Scalar.addi v547 v555
  let c2_i32_232 : BitVec 32 := 2#32
  let v557 : BitVec 32 := Scalar.shrsi v182 c2_i32_232
  let c3_i32_233 : BitVec 32 := 3#32
  let v558 : BitVec 32 := Scalar.andi v557 c3_i32_233
  let c0_i32_234 : BitVec 32 := 0#32
  let v559 : BitVec 1 := Scalar.cmpi .ne v558 c0_i32_234
  let c41_i32_235 : BitVec 32 := 41#32
  let v562 : BitVec 1 := Scalar.cmpi .sgt v36 c41_i32_235
  let v563 : BitVec 1 := Scalar.andi v559 v562
  let v564 : BitVec 32 := Scalar.extui v563
  let v565 : BitVec 32 := Scalar.addi v556 v564
  let c4_i32_236 : BitVec 32 := 4#32
  let v566 : BitVec 32 := Scalar.shrsi v182 c4_i32_236
  let c3_i32_237 : BitVec 32 := 3#32
  let v567 : BitVec 32 := Scalar.andi v566 c3_i32_237
  let c0_i32_238 : BitVec 32 := 0#32
  let v568 : BitVec 1 := Scalar.cmpi .ne v567 c0_i32_238
  let c42_i32_239 : BitVec 32 := 42#32
  let v571 : BitVec 1 := Scalar.cmpi .sgt v36 c42_i32_239
  let v572 : BitVec 1 := Scalar.andi v568 v571
  let v573 : BitVec 32 := Scalar.extui v572
  let v574 : BitVec 32 := Scalar.addi v565 v573
  let c6_i32_240 : BitVec 32 := 6#32
  let v575 : BitVec 32 := Scalar.shrsi v182 c6_i32_240
  let c3_i32_241 : BitVec 32 := 3#32
  let v576 : BitVec 32 := Scalar.andi v575 c3_i32_241
  let c0_i32_242 : BitVec 32 := 0#32
  let v577 : BitVec 1 := Scalar.cmpi .ne v576 c0_i32_242
  let c43_i32_243 : BitVec 32 := 43#32
  let v580 : BitVec 1 := Scalar.cmpi .sgt v36 c43_i32_243
  let v581 : BitVec 1 := Scalar.andi v577 v580
  let v582 : BitVec 32 := Scalar.extui v581
  let v583 : BitVec 32 := Scalar.addi v574 v582
  let c8_i32_244 : BitVec 32 := 8#32
  let v584 : BitVec 32 := Scalar.shrsi v182 c8_i32_244
  let c3_i32_245 : BitVec 32 := 3#32
  let v585 : BitVec 32 := Scalar.andi v584 c3_i32_245
  let c0_i32_246 : BitVec 32 := 0#32
  let v586 : BitVec 1 := Scalar.cmpi .ne v585 c0_i32_246
  let c44_i32_247 : BitVec 32 := 44#32
  let v589 : BitVec 1 := Scalar.cmpi .sgt v36 c44_i32_247
  let v590 : BitVec 1 := Scalar.andi v586 v589
  let v591 : BitVec 32 := Scalar.extui v590
  let v592 : BitVec 32 := Scalar.addi v583 v591
  let c10_i32_248 : BitVec 32 := 10#32
  let v593 : BitVec 32 := Scalar.shrsi v182 c10_i32_248
  let c3_i32_249 : BitVec 32 := 3#32
  let v594 : BitVec 32 := Scalar.andi v593 c3_i32_249
  let c0_i32_250 : BitVec 32 := 0#32
  let v595 : BitVec 1 := Scalar.cmpi .ne v594 c0_i32_250
  let c45_i32_251 : BitVec 32 := 45#32
  let v598 : BitVec 1 := Scalar.cmpi .sgt v36 c45_i32_251
  let v599 : BitVec 1 := Scalar.andi v595 v598
  let v600 : BitVec 32 := Scalar.extui v599
  let v601 : BitVec 32 := Scalar.addi v592 v600
  let c12_i32_252 : BitVec 32 := 12#32
  let v602 : BitVec 32 := Scalar.shrsi v182 c12_i32_252
  let c3_i32_253 : BitVec 32 := 3#32
  let v603 : BitVec 32 := Scalar.andi v602 c3_i32_253
  let c0_i32_254 : BitVec 32 := 0#32
  let v604 : BitVec 1 := Scalar.cmpi .ne v603 c0_i32_254
  let c46_i32_255 : BitVec 32 := 46#32
  let v607 : BitVec 1 := Scalar.cmpi .sgt v36 c46_i32_255
  let v608 : BitVec 1 := Scalar.andi v604 v607
  let v609 : BitVec 32 := Scalar.extui v608
  let v610 : BitVec 32 := Scalar.addi v601 v609
  let c14_i32_256 : BitVec 32 := 14#32
  let v611 : BitVec 32 := Scalar.shrsi v182 c14_i32_256
  let c3_i32_257 : BitVec 32 := 3#32
  let v612 : BitVec 32 := Scalar.andi v611 c3_i32_257
  let c0_i32_258 : BitVec 32 := 0#32
  let v613 : BitVec 1 := Scalar.cmpi .ne v612 c0_i32_258
  let c47_i32_259 : BitVec 32 := 47#32
  let v616 : BitVec 1 := Scalar.cmpi .sgt v36 c47_i32_259
  let v617 : BitVec 1 := Scalar.andi v613 v616
  let v618 : BitVec 32 := Scalar.extui v617
  let v619 : BitVec 32 := Scalar.addi v610 v618
  let c0_i32_260 : BitVec 32 := 0#32
  let v620 : BitVec 32 := Scalar.shrsi v185 c0_i32_260
  let c3_i32_261 : BitVec 32 := 3#32
  let v621 : BitVec 32 := Scalar.andi v620 c3_i32_261
  let c0_i32_262 : BitVec 32 := 0#32
  let v622 : BitVec 1 := Scalar.cmpi .ne v621 c0_i32_262
  let c48_i32_263 : BitVec 32 := 48#32
  let v625 : BitVec 1 := Scalar.cmpi .sgt v36 c48_i32_263
  let v626 : BitVec 1 := Scalar.andi v622 v625
  let v627 : BitVec 32 := Scalar.extui v626
  let v628 : BitVec 32 := Scalar.addi v619 v627
  let v632 : Index := Scalar.indexCast v628
  ![v632.toNat]

def k0_off54 (i : grid0.Coords) (v167 : BitVec 32) (v170 : BitVec 32) (v173 : BitVec 32) (v176 : BitVec 32) (v179 : BitVec 32) (v182 : BitVec 32) (v185 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let c0_i32_196 : BitVec 32 := 0#32
  let v476 : BitVec 32 := Scalar.shrsi v179 c0_i32_196
  let c3_i32_197 : BitVec 32 := 3#32
  let v477 : BitVec 32 := Scalar.andi v476 c3_i32_197
  let c0_i32_198 : BitVec 32 := 0#32
  let v478 : BitVec 1 := Scalar.cmpi .ne v477 c0_i32_198
  let c32_i32_199 : BitVec 32 := 32#32
  let v481 : BitVec 1 := Scalar.cmpi .sgt v36 c32_i32_199
  let v482 : BitVec 1 := Scalar.andi v478 v481
  let v483 : BitVec 32 := Scalar.extui v482
  let v484 : BitVec 32 := Scalar.addi v475 v483
  let c2_i32_200 : BitVec 32 := 2#32
  let v485 : BitVec 32 := Scalar.shrsi v179 c2_i32_200
  let c3_i32_201 : BitVec 32 := 3#32
  let v486 : BitVec 32 := Scalar.andi v485 c3_i32_201
  let c0_i32_202 : BitVec 32 := 0#32
  let v487 : BitVec 1 := Scalar.cmpi .ne v486 c0_i32_202
  let c33_i32_203 : BitVec 32 := 33#32
  let v490 : BitVec 1 := Scalar.cmpi .sgt v36 c33_i32_203
  let v491 : BitVec 1 := Scalar.andi v487 v490
  let v492 : BitVec 32 := Scalar.extui v491
  let v493 : BitVec 32 := Scalar.addi v484 v492
  let c4_i32_204 : BitVec 32 := 4#32
  let v494 : BitVec 32 := Scalar.shrsi v179 c4_i32_204
  let c3_i32_205 : BitVec 32 := 3#32
  let v495 : BitVec 32 := Scalar.andi v494 c3_i32_205
  let c0_i32_206 : BitVec 32 := 0#32
  let v496 : BitVec 1 := Scalar.cmpi .ne v495 c0_i32_206
  let c34_i32_207 : BitVec 32 := 34#32
  let v499 : BitVec 1 := Scalar.cmpi .sgt v36 c34_i32_207
  let v500 : BitVec 1 := Scalar.andi v496 v499
  let v501 : BitVec 32 := Scalar.extui v500
  let v502 : BitVec 32 := Scalar.addi v493 v501
  let c6_i32_208 : BitVec 32 := 6#32
  let v503 : BitVec 32 := Scalar.shrsi v179 c6_i32_208
  let c3_i32_209 : BitVec 32 := 3#32
  let v504 : BitVec 32 := Scalar.andi v503 c3_i32_209
  let c0_i32_210 : BitVec 32 := 0#32
  let v505 : BitVec 1 := Scalar.cmpi .ne v504 c0_i32_210
  let c35_i32_211 : BitVec 32 := 35#32
  let v508 : BitVec 1 := Scalar.cmpi .sgt v36 c35_i32_211
  let v509 : BitVec 1 := Scalar.andi v505 v508
  let v510 : BitVec 32 := Scalar.extui v509
  let v511 : BitVec 32 := Scalar.addi v502 v510
  let c8_i32_212 : BitVec 32 := 8#32
  let v512 : BitVec 32 := Scalar.shrsi v179 c8_i32_212
  let c3_i32_213 : BitVec 32 := 3#32
  let v513 : BitVec 32 := Scalar.andi v512 c3_i32_213
  let c0_i32_214 : BitVec 32 := 0#32
  let v514 : BitVec 1 := Scalar.cmpi .ne v513 c0_i32_214
  let c36_i32_215 : BitVec 32 := 36#32
  let v517 : BitVec 1 := Scalar.cmpi .sgt v36 c36_i32_215
  let v518 : BitVec 1 := Scalar.andi v514 v517
  let v519 : BitVec 32 := Scalar.extui v518
  let v520 : BitVec 32 := Scalar.addi v511 v519
  let c10_i32_216 : BitVec 32 := 10#32
  let v521 : BitVec 32 := Scalar.shrsi v179 c10_i32_216
  let c3_i32_217 : BitVec 32 := 3#32
  let v522 : BitVec 32 := Scalar.andi v521 c3_i32_217
  let c0_i32_218 : BitVec 32 := 0#32
  let v523 : BitVec 1 := Scalar.cmpi .ne v522 c0_i32_218
  let c37_i32_219 : BitVec 32 := 37#32
  let v526 : BitVec 1 := Scalar.cmpi .sgt v36 c37_i32_219
  let v527 : BitVec 1 := Scalar.andi v523 v526
  let v528 : BitVec 32 := Scalar.extui v527
  let v529 : BitVec 32 := Scalar.addi v520 v528
  let c12_i32_220 : BitVec 32 := 12#32
  let v530 : BitVec 32 := Scalar.shrsi v179 c12_i32_220
  let c3_i32_221 : BitVec 32 := 3#32
  let v531 : BitVec 32 := Scalar.andi v530 c3_i32_221
  let c0_i32_222 : BitVec 32 := 0#32
  let v532 : BitVec 1 := Scalar.cmpi .ne v531 c0_i32_222
  let c38_i32_223 : BitVec 32 := 38#32
  let v535 : BitVec 1 := Scalar.cmpi .sgt v36 c38_i32_223
  let v536 : BitVec 1 := Scalar.andi v532 v535
  let v537 : BitVec 32 := Scalar.extui v536
  let v538 : BitVec 32 := Scalar.addi v529 v537
  let c14_i32_224 : BitVec 32 := 14#32
  let v539 : BitVec 32 := Scalar.shrsi v179 c14_i32_224
  let c3_i32_225 : BitVec 32 := 3#32
  let v540 : BitVec 32 := Scalar.andi v539 c3_i32_225
  let c0_i32_226 : BitVec 32 := 0#32
  let v541 : BitVec 1 := Scalar.cmpi .ne v540 c0_i32_226
  let c39_i32_227 : BitVec 32 := 39#32
  let v544 : BitVec 1 := Scalar.cmpi .sgt v36 c39_i32_227
  let v545 : BitVec 1 := Scalar.andi v541 v544
  let v546 : BitVec 32 := Scalar.extui v545
  let v547 : BitVec 32 := Scalar.addi v538 v546
  let c0_i32_228 : BitVec 32 := 0#32
  let v548 : BitVec 32 := Scalar.shrsi v182 c0_i32_228
  let c3_i32_229 : BitVec 32 := 3#32
  let v549 : BitVec 32 := Scalar.andi v548 c3_i32_229
  let c0_i32_230 : BitVec 32 := 0#32
  let v550 : BitVec 1 := Scalar.cmpi .ne v549 c0_i32_230
  let c40_i32_231 : BitVec 32 := 40#32
  let v553 : BitVec 1 := Scalar.cmpi .sgt v36 c40_i32_231
  let v554 : BitVec 1 := Scalar.andi v550 v553
  let v555 : BitVec 32 := Scalar.extui v554
  let v556 : BitVec 32 := Scalar.addi v547 v555
  let c2_i32_232 : BitVec 32 := 2#32
  let v557 : BitVec 32 := Scalar.shrsi v182 c2_i32_232
  let c3_i32_233 : BitVec 32 := 3#32
  let v558 : BitVec 32 := Scalar.andi v557 c3_i32_233
  let c0_i32_234 : BitVec 32 := 0#32
  let v559 : BitVec 1 := Scalar.cmpi .ne v558 c0_i32_234
  let c41_i32_235 : BitVec 32 := 41#32
  let v562 : BitVec 1 := Scalar.cmpi .sgt v36 c41_i32_235
  let v563 : BitVec 1 := Scalar.andi v559 v562
  let v564 : BitVec 32 := Scalar.extui v563
  let v565 : BitVec 32 := Scalar.addi v556 v564
  let c4_i32_236 : BitVec 32 := 4#32
  let v566 : BitVec 32 := Scalar.shrsi v182 c4_i32_236
  let c3_i32_237 : BitVec 32 := 3#32
  let v567 : BitVec 32 := Scalar.andi v566 c3_i32_237
  let c0_i32_238 : BitVec 32 := 0#32
  let v568 : BitVec 1 := Scalar.cmpi .ne v567 c0_i32_238
  let c42_i32_239 : BitVec 32 := 42#32
  let v571 : BitVec 1 := Scalar.cmpi .sgt v36 c42_i32_239
  let v572 : BitVec 1 := Scalar.andi v568 v571
  let v573 : BitVec 32 := Scalar.extui v572
  let v574 : BitVec 32 := Scalar.addi v565 v573
  let c6_i32_240 : BitVec 32 := 6#32
  let v575 : BitVec 32 := Scalar.shrsi v182 c6_i32_240
  let c3_i32_241 : BitVec 32 := 3#32
  let v576 : BitVec 32 := Scalar.andi v575 c3_i32_241
  let c0_i32_242 : BitVec 32 := 0#32
  let v577 : BitVec 1 := Scalar.cmpi .ne v576 c0_i32_242
  let c43_i32_243 : BitVec 32 := 43#32
  let v580 : BitVec 1 := Scalar.cmpi .sgt v36 c43_i32_243
  let v581 : BitVec 1 := Scalar.andi v577 v580
  let v582 : BitVec 32 := Scalar.extui v581
  let v583 : BitVec 32 := Scalar.addi v574 v582
  let c8_i32_244 : BitVec 32 := 8#32
  let v584 : BitVec 32 := Scalar.shrsi v182 c8_i32_244
  let c3_i32_245 : BitVec 32 := 3#32
  let v585 : BitVec 32 := Scalar.andi v584 c3_i32_245
  let c0_i32_246 : BitVec 32 := 0#32
  let v586 : BitVec 1 := Scalar.cmpi .ne v585 c0_i32_246
  let c44_i32_247 : BitVec 32 := 44#32
  let v589 : BitVec 1 := Scalar.cmpi .sgt v36 c44_i32_247
  let v590 : BitVec 1 := Scalar.andi v586 v589
  let v591 : BitVec 32 := Scalar.extui v590
  let v592 : BitVec 32 := Scalar.addi v583 v591
  let c10_i32_248 : BitVec 32 := 10#32
  let v593 : BitVec 32 := Scalar.shrsi v182 c10_i32_248
  let c3_i32_249 : BitVec 32 := 3#32
  let v594 : BitVec 32 := Scalar.andi v593 c3_i32_249
  let c0_i32_250 : BitVec 32 := 0#32
  let v595 : BitVec 1 := Scalar.cmpi .ne v594 c0_i32_250
  let c45_i32_251 : BitVec 32 := 45#32
  let v598 : BitVec 1 := Scalar.cmpi .sgt v36 c45_i32_251
  let v599 : BitVec 1 := Scalar.andi v595 v598
  let v600 : BitVec 32 := Scalar.extui v599
  let v601 : BitVec 32 := Scalar.addi v592 v600
  let c12_i32_252 : BitVec 32 := 12#32
  let v602 : BitVec 32 := Scalar.shrsi v182 c12_i32_252
  let c3_i32_253 : BitVec 32 := 3#32
  let v603 : BitVec 32 := Scalar.andi v602 c3_i32_253
  let c0_i32_254 : BitVec 32 := 0#32
  let v604 : BitVec 1 := Scalar.cmpi .ne v603 c0_i32_254
  let c46_i32_255 : BitVec 32 := 46#32
  let v607 : BitVec 1 := Scalar.cmpi .sgt v36 c46_i32_255
  let v608 : BitVec 1 := Scalar.andi v604 v607
  let v609 : BitVec 32 := Scalar.extui v608
  let v610 : BitVec 32 := Scalar.addi v601 v609
  let c14_i32_256 : BitVec 32 := 14#32
  let v611 : BitVec 32 := Scalar.shrsi v182 c14_i32_256
  let c3_i32_257 : BitVec 32 := 3#32
  let v612 : BitVec 32 := Scalar.andi v611 c3_i32_257
  let c0_i32_258 : BitVec 32 := 0#32
  let v613 : BitVec 1 := Scalar.cmpi .ne v612 c0_i32_258
  let c47_i32_259 : BitVec 32 := 47#32
  let v616 : BitVec 1 := Scalar.cmpi .sgt v36 c47_i32_259
  let v617 : BitVec 1 := Scalar.andi v613 v616
  let v618 : BitVec 32 := Scalar.extui v617
  let v619 : BitVec 32 := Scalar.addi v610 v618
  let c0_i32_260 : BitVec 32 := 0#32
  let v620 : BitVec 32 := Scalar.shrsi v185 c0_i32_260
  let c3_i32_261 : BitVec 32 := 3#32
  let v621 : BitVec 32 := Scalar.andi v620 c3_i32_261
  let c0_i32_262 : BitVec 32 := 0#32
  let v622 : BitVec 1 := Scalar.cmpi .ne v621 c0_i32_262
  let c48_i32_263 : BitVec 32 := 48#32
  let v625 : BitVec 1 := Scalar.cmpi .sgt v36 c48_i32_263
  let v626 : BitVec 1 := Scalar.andi v622 v625
  let v627 : BitVec 32 := Scalar.extui v626
  let v628 : BitVec 32 := Scalar.addi v619 v627
  let c2_i32_264 : BitVec 32 := 2#32
  let v629 : BitVec 32 := Scalar.shrsi v185 c2_i32_264
  let c3_i32_265 : BitVec 32 := 3#32
  let v630 : BitVec 32 := Scalar.andi v629 c3_i32_265
  let c0_i32_266 : BitVec 32 := 0#32
  let v631 : BitVec 1 := Scalar.cmpi .ne v630 c0_i32_266
  let c49_i32_267 : BitVec 32 := 49#32
  let v634 : BitVec 1 := Scalar.cmpi .sgt v36 c49_i32_267
  let v635 : BitVec 1 := Scalar.andi v631 v634
  let v636 : BitVec 32 := Scalar.extui v635
  let v637 : BitVec 32 := Scalar.addi v628 v636
  let v641 : Index := Scalar.indexCast v637
  ![v641.toNat]
def k0_off55 (i : grid0.Coords) (v167 : BitVec 32) (v170 : BitVec 32) (v173 : BitVec 32) (v176 : BitVec 32) (v179 : BitVec 32) (v182 : BitVec 32) (v185 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let c0_i32_196 : BitVec 32 := 0#32
  let v476 : BitVec 32 := Scalar.shrsi v179 c0_i32_196
  let c3_i32_197 : BitVec 32 := 3#32
  let v477 : BitVec 32 := Scalar.andi v476 c3_i32_197
  let c0_i32_198 : BitVec 32 := 0#32
  let v478 : BitVec 1 := Scalar.cmpi .ne v477 c0_i32_198
  let c32_i32_199 : BitVec 32 := 32#32
  let v481 : BitVec 1 := Scalar.cmpi .sgt v36 c32_i32_199
  let v482 : BitVec 1 := Scalar.andi v478 v481
  let v483 : BitVec 32 := Scalar.extui v482
  let v484 : BitVec 32 := Scalar.addi v475 v483
  let c2_i32_200 : BitVec 32 := 2#32
  let v485 : BitVec 32 := Scalar.shrsi v179 c2_i32_200
  let c3_i32_201 : BitVec 32 := 3#32
  let v486 : BitVec 32 := Scalar.andi v485 c3_i32_201
  let c0_i32_202 : BitVec 32 := 0#32
  let v487 : BitVec 1 := Scalar.cmpi .ne v486 c0_i32_202
  let c33_i32_203 : BitVec 32 := 33#32
  let v490 : BitVec 1 := Scalar.cmpi .sgt v36 c33_i32_203
  let v491 : BitVec 1 := Scalar.andi v487 v490
  let v492 : BitVec 32 := Scalar.extui v491
  let v493 : BitVec 32 := Scalar.addi v484 v492
  let c4_i32_204 : BitVec 32 := 4#32
  let v494 : BitVec 32 := Scalar.shrsi v179 c4_i32_204
  let c3_i32_205 : BitVec 32 := 3#32
  let v495 : BitVec 32 := Scalar.andi v494 c3_i32_205
  let c0_i32_206 : BitVec 32 := 0#32
  let v496 : BitVec 1 := Scalar.cmpi .ne v495 c0_i32_206
  let c34_i32_207 : BitVec 32 := 34#32
  let v499 : BitVec 1 := Scalar.cmpi .sgt v36 c34_i32_207
  let v500 : BitVec 1 := Scalar.andi v496 v499
  let v501 : BitVec 32 := Scalar.extui v500
  let v502 : BitVec 32 := Scalar.addi v493 v501
  let c6_i32_208 : BitVec 32 := 6#32
  let v503 : BitVec 32 := Scalar.shrsi v179 c6_i32_208
  let c3_i32_209 : BitVec 32 := 3#32
  let v504 : BitVec 32 := Scalar.andi v503 c3_i32_209
  let c0_i32_210 : BitVec 32 := 0#32
  let v505 : BitVec 1 := Scalar.cmpi .ne v504 c0_i32_210
  let c35_i32_211 : BitVec 32 := 35#32
  let v508 : BitVec 1 := Scalar.cmpi .sgt v36 c35_i32_211
  let v509 : BitVec 1 := Scalar.andi v505 v508
  let v510 : BitVec 32 := Scalar.extui v509
  let v511 : BitVec 32 := Scalar.addi v502 v510
  let c8_i32_212 : BitVec 32 := 8#32
  let v512 : BitVec 32 := Scalar.shrsi v179 c8_i32_212
  let c3_i32_213 : BitVec 32 := 3#32
  let v513 : BitVec 32 := Scalar.andi v512 c3_i32_213
  let c0_i32_214 : BitVec 32 := 0#32
  let v514 : BitVec 1 := Scalar.cmpi .ne v513 c0_i32_214
  let c36_i32_215 : BitVec 32 := 36#32
  let v517 : BitVec 1 := Scalar.cmpi .sgt v36 c36_i32_215
  let v518 : BitVec 1 := Scalar.andi v514 v517
  let v519 : BitVec 32 := Scalar.extui v518
  let v520 : BitVec 32 := Scalar.addi v511 v519
  let c10_i32_216 : BitVec 32 := 10#32
  let v521 : BitVec 32 := Scalar.shrsi v179 c10_i32_216
  let c3_i32_217 : BitVec 32 := 3#32
  let v522 : BitVec 32 := Scalar.andi v521 c3_i32_217
  let c0_i32_218 : BitVec 32 := 0#32
  let v523 : BitVec 1 := Scalar.cmpi .ne v522 c0_i32_218
  let c37_i32_219 : BitVec 32 := 37#32
  let v526 : BitVec 1 := Scalar.cmpi .sgt v36 c37_i32_219
  let v527 : BitVec 1 := Scalar.andi v523 v526
  let v528 : BitVec 32 := Scalar.extui v527
  let v529 : BitVec 32 := Scalar.addi v520 v528
  let c12_i32_220 : BitVec 32 := 12#32
  let v530 : BitVec 32 := Scalar.shrsi v179 c12_i32_220
  let c3_i32_221 : BitVec 32 := 3#32
  let v531 : BitVec 32 := Scalar.andi v530 c3_i32_221
  let c0_i32_222 : BitVec 32 := 0#32
  let v532 : BitVec 1 := Scalar.cmpi .ne v531 c0_i32_222
  let c38_i32_223 : BitVec 32 := 38#32
  let v535 : BitVec 1 := Scalar.cmpi .sgt v36 c38_i32_223
  let v536 : BitVec 1 := Scalar.andi v532 v535
  let v537 : BitVec 32 := Scalar.extui v536
  let v538 : BitVec 32 := Scalar.addi v529 v537
  let c14_i32_224 : BitVec 32 := 14#32
  let v539 : BitVec 32 := Scalar.shrsi v179 c14_i32_224
  let c3_i32_225 : BitVec 32 := 3#32
  let v540 : BitVec 32 := Scalar.andi v539 c3_i32_225
  let c0_i32_226 : BitVec 32 := 0#32
  let v541 : BitVec 1 := Scalar.cmpi .ne v540 c0_i32_226
  let c39_i32_227 : BitVec 32 := 39#32
  let v544 : BitVec 1 := Scalar.cmpi .sgt v36 c39_i32_227
  let v545 : BitVec 1 := Scalar.andi v541 v544
  let v546 : BitVec 32 := Scalar.extui v545
  let v547 : BitVec 32 := Scalar.addi v538 v546
  let c0_i32_228 : BitVec 32 := 0#32
  let v548 : BitVec 32 := Scalar.shrsi v182 c0_i32_228
  let c3_i32_229 : BitVec 32 := 3#32
  let v549 : BitVec 32 := Scalar.andi v548 c3_i32_229
  let c0_i32_230 : BitVec 32 := 0#32
  let v550 : BitVec 1 := Scalar.cmpi .ne v549 c0_i32_230
  let c40_i32_231 : BitVec 32 := 40#32
  let v553 : BitVec 1 := Scalar.cmpi .sgt v36 c40_i32_231
  let v554 : BitVec 1 := Scalar.andi v550 v553
  let v555 : BitVec 32 := Scalar.extui v554
  let v556 : BitVec 32 := Scalar.addi v547 v555
  let c2_i32_232 : BitVec 32 := 2#32
  let v557 : BitVec 32 := Scalar.shrsi v182 c2_i32_232
  let c3_i32_233 : BitVec 32 := 3#32
  let v558 : BitVec 32 := Scalar.andi v557 c3_i32_233
  let c0_i32_234 : BitVec 32 := 0#32
  let v559 : BitVec 1 := Scalar.cmpi .ne v558 c0_i32_234
  let c41_i32_235 : BitVec 32 := 41#32
  let v562 : BitVec 1 := Scalar.cmpi .sgt v36 c41_i32_235
  let v563 : BitVec 1 := Scalar.andi v559 v562
  let v564 : BitVec 32 := Scalar.extui v563
  let v565 : BitVec 32 := Scalar.addi v556 v564
  let c4_i32_236 : BitVec 32 := 4#32
  let v566 : BitVec 32 := Scalar.shrsi v182 c4_i32_236
  let c3_i32_237 : BitVec 32 := 3#32
  let v567 : BitVec 32 := Scalar.andi v566 c3_i32_237
  let c0_i32_238 : BitVec 32 := 0#32
  let v568 : BitVec 1 := Scalar.cmpi .ne v567 c0_i32_238
  let c42_i32_239 : BitVec 32 := 42#32
  let v571 : BitVec 1 := Scalar.cmpi .sgt v36 c42_i32_239
  let v572 : BitVec 1 := Scalar.andi v568 v571
  let v573 : BitVec 32 := Scalar.extui v572
  let v574 : BitVec 32 := Scalar.addi v565 v573
  let c6_i32_240 : BitVec 32 := 6#32
  let v575 : BitVec 32 := Scalar.shrsi v182 c6_i32_240
  let c3_i32_241 : BitVec 32 := 3#32
  let v576 : BitVec 32 := Scalar.andi v575 c3_i32_241
  let c0_i32_242 : BitVec 32 := 0#32
  let v577 : BitVec 1 := Scalar.cmpi .ne v576 c0_i32_242
  let c43_i32_243 : BitVec 32 := 43#32
  let v580 : BitVec 1 := Scalar.cmpi .sgt v36 c43_i32_243
  let v581 : BitVec 1 := Scalar.andi v577 v580
  let v582 : BitVec 32 := Scalar.extui v581
  let v583 : BitVec 32 := Scalar.addi v574 v582
  let c8_i32_244 : BitVec 32 := 8#32
  let v584 : BitVec 32 := Scalar.shrsi v182 c8_i32_244
  let c3_i32_245 : BitVec 32 := 3#32
  let v585 : BitVec 32 := Scalar.andi v584 c3_i32_245
  let c0_i32_246 : BitVec 32 := 0#32
  let v586 : BitVec 1 := Scalar.cmpi .ne v585 c0_i32_246
  let c44_i32_247 : BitVec 32 := 44#32
  let v589 : BitVec 1 := Scalar.cmpi .sgt v36 c44_i32_247
  let v590 : BitVec 1 := Scalar.andi v586 v589
  let v591 : BitVec 32 := Scalar.extui v590
  let v592 : BitVec 32 := Scalar.addi v583 v591
  let c10_i32_248 : BitVec 32 := 10#32
  let v593 : BitVec 32 := Scalar.shrsi v182 c10_i32_248
  let c3_i32_249 : BitVec 32 := 3#32
  let v594 : BitVec 32 := Scalar.andi v593 c3_i32_249
  let c0_i32_250 : BitVec 32 := 0#32
  let v595 : BitVec 1 := Scalar.cmpi .ne v594 c0_i32_250
  let c45_i32_251 : BitVec 32 := 45#32
  let v598 : BitVec 1 := Scalar.cmpi .sgt v36 c45_i32_251
  let v599 : BitVec 1 := Scalar.andi v595 v598
  let v600 : BitVec 32 := Scalar.extui v599
  let v601 : BitVec 32 := Scalar.addi v592 v600
  let c12_i32_252 : BitVec 32 := 12#32
  let v602 : BitVec 32 := Scalar.shrsi v182 c12_i32_252
  let c3_i32_253 : BitVec 32 := 3#32
  let v603 : BitVec 32 := Scalar.andi v602 c3_i32_253
  let c0_i32_254 : BitVec 32 := 0#32
  let v604 : BitVec 1 := Scalar.cmpi .ne v603 c0_i32_254
  let c46_i32_255 : BitVec 32 := 46#32
  let v607 : BitVec 1 := Scalar.cmpi .sgt v36 c46_i32_255
  let v608 : BitVec 1 := Scalar.andi v604 v607
  let v609 : BitVec 32 := Scalar.extui v608
  let v610 : BitVec 32 := Scalar.addi v601 v609
  let c14_i32_256 : BitVec 32 := 14#32
  let v611 : BitVec 32 := Scalar.shrsi v182 c14_i32_256
  let c3_i32_257 : BitVec 32 := 3#32
  let v612 : BitVec 32 := Scalar.andi v611 c3_i32_257
  let c0_i32_258 : BitVec 32 := 0#32
  let v613 : BitVec 1 := Scalar.cmpi .ne v612 c0_i32_258
  let c47_i32_259 : BitVec 32 := 47#32
  let v616 : BitVec 1 := Scalar.cmpi .sgt v36 c47_i32_259
  let v617 : BitVec 1 := Scalar.andi v613 v616
  let v618 : BitVec 32 := Scalar.extui v617
  let v619 : BitVec 32 := Scalar.addi v610 v618
  let c0_i32_260 : BitVec 32 := 0#32
  let v620 : BitVec 32 := Scalar.shrsi v185 c0_i32_260
  let c3_i32_261 : BitVec 32 := 3#32
  let v621 : BitVec 32 := Scalar.andi v620 c3_i32_261
  let c0_i32_262 : BitVec 32 := 0#32
  let v622 : BitVec 1 := Scalar.cmpi .ne v621 c0_i32_262
  let c48_i32_263 : BitVec 32 := 48#32
  let v625 : BitVec 1 := Scalar.cmpi .sgt v36 c48_i32_263
  let v626 : BitVec 1 := Scalar.andi v622 v625
  let v627 : BitVec 32 := Scalar.extui v626
  let v628 : BitVec 32 := Scalar.addi v619 v627
  let c2_i32_264 : BitVec 32 := 2#32
  let v629 : BitVec 32 := Scalar.shrsi v185 c2_i32_264
  let c3_i32_265 : BitVec 32 := 3#32
  let v630 : BitVec 32 := Scalar.andi v629 c3_i32_265
  let c0_i32_266 : BitVec 32 := 0#32
  let v631 : BitVec 1 := Scalar.cmpi .ne v630 c0_i32_266
  let c49_i32_267 : BitVec 32 := 49#32
  let v634 : BitVec 1 := Scalar.cmpi .sgt v36 c49_i32_267
  let v635 : BitVec 1 := Scalar.andi v631 v634
  let v636 : BitVec 32 := Scalar.extui v635
  let v637 : BitVec 32 := Scalar.addi v628 v636
  let c4_i32_268 : BitVec 32 := 4#32
  let v638 : BitVec 32 := Scalar.shrsi v185 c4_i32_268
  let c3_i32_269 : BitVec 32 := 3#32
  let v639 : BitVec 32 := Scalar.andi v638 c3_i32_269
  let c0_i32_270 : BitVec 32 := 0#32
  let v640 : BitVec 1 := Scalar.cmpi .ne v639 c0_i32_270
  let c50_i32_271 : BitVec 32 := 50#32
  let v643 : BitVec 1 := Scalar.cmpi .sgt v36 c50_i32_271
  let v644 : BitVec 1 := Scalar.andi v640 v643
  let v645 : BitVec 32 := Scalar.extui v644
  let v646 : BitVec 32 := Scalar.addi v637 v645
  let v650 : Index := Scalar.indexCast v646
  ![v650.toNat]
def k0_off56 (i : grid0.Coords) (v167 : BitVec 32) (v170 : BitVec 32) (v173 : BitVec 32) (v176 : BitVec 32) (v179 : BitVec 32) (v182 : BitVec 32) (v185 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let c0_i32_196 : BitVec 32 := 0#32
  let v476 : BitVec 32 := Scalar.shrsi v179 c0_i32_196
  let c3_i32_197 : BitVec 32 := 3#32
  let v477 : BitVec 32 := Scalar.andi v476 c3_i32_197
  let c0_i32_198 : BitVec 32 := 0#32
  let v478 : BitVec 1 := Scalar.cmpi .ne v477 c0_i32_198
  let c32_i32_199 : BitVec 32 := 32#32
  let v481 : BitVec 1 := Scalar.cmpi .sgt v36 c32_i32_199
  let v482 : BitVec 1 := Scalar.andi v478 v481
  let v483 : BitVec 32 := Scalar.extui v482
  let v484 : BitVec 32 := Scalar.addi v475 v483
  let c2_i32_200 : BitVec 32 := 2#32
  let v485 : BitVec 32 := Scalar.shrsi v179 c2_i32_200
  let c3_i32_201 : BitVec 32 := 3#32
  let v486 : BitVec 32 := Scalar.andi v485 c3_i32_201
  let c0_i32_202 : BitVec 32 := 0#32
  let v487 : BitVec 1 := Scalar.cmpi .ne v486 c0_i32_202
  let c33_i32_203 : BitVec 32 := 33#32
  let v490 : BitVec 1 := Scalar.cmpi .sgt v36 c33_i32_203
  let v491 : BitVec 1 := Scalar.andi v487 v490
  let v492 : BitVec 32 := Scalar.extui v491
  let v493 : BitVec 32 := Scalar.addi v484 v492
  let c4_i32_204 : BitVec 32 := 4#32
  let v494 : BitVec 32 := Scalar.shrsi v179 c4_i32_204
  let c3_i32_205 : BitVec 32 := 3#32
  let v495 : BitVec 32 := Scalar.andi v494 c3_i32_205
  let c0_i32_206 : BitVec 32 := 0#32
  let v496 : BitVec 1 := Scalar.cmpi .ne v495 c0_i32_206
  let c34_i32_207 : BitVec 32 := 34#32
  let v499 : BitVec 1 := Scalar.cmpi .sgt v36 c34_i32_207
  let v500 : BitVec 1 := Scalar.andi v496 v499
  let v501 : BitVec 32 := Scalar.extui v500
  let v502 : BitVec 32 := Scalar.addi v493 v501
  let c6_i32_208 : BitVec 32 := 6#32
  let v503 : BitVec 32 := Scalar.shrsi v179 c6_i32_208
  let c3_i32_209 : BitVec 32 := 3#32
  let v504 : BitVec 32 := Scalar.andi v503 c3_i32_209
  let c0_i32_210 : BitVec 32 := 0#32
  let v505 : BitVec 1 := Scalar.cmpi .ne v504 c0_i32_210
  let c35_i32_211 : BitVec 32 := 35#32
  let v508 : BitVec 1 := Scalar.cmpi .sgt v36 c35_i32_211
  let v509 : BitVec 1 := Scalar.andi v505 v508
  let v510 : BitVec 32 := Scalar.extui v509
  let v511 : BitVec 32 := Scalar.addi v502 v510
  let c8_i32_212 : BitVec 32 := 8#32
  let v512 : BitVec 32 := Scalar.shrsi v179 c8_i32_212
  let c3_i32_213 : BitVec 32 := 3#32
  let v513 : BitVec 32 := Scalar.andi v512 c3_i32_213
  let c0_i32_214 : BitVec 32 := 0#32
  let v514 : BitVec 1 := Scalar.cmpi .ne v513 c0_i32_214
  let c36_i32_215 : BitVec 32 := 36#32
  let v517 : BitVec 1 := Scalar.cmpi .sgt v36 c36_i32_215
  let v518 : BitVec 1 := Scalar.andi v514 v517
  let v519 : BitVec 32 := Scalar.extui v518
  let v520 : BitVec 32 := Scalar.addi v511 v519
  let c10_i32_216 : BitVec 32 := 10#32
  let v521 : BitVec 32 := Scalar.shrsi v179 c10_i32_216
  let c3_i32_217 : BitVec 32 := 3#32
  let v522 : BitVec 32 := Scalar.andi v521 c3_i32_217
  let c0_i32_218 : BitVec 32 := 0#32
  let v523 : BitVec 1 := Scalar.cmpi .ne v522 c0_i32_218
  let c37_i32_219 : BitVec 32 := 37#32
  let v526 : BitVec 1 := Scalar.cmpi .sgt v36 c37_i32_219
  let v527 : BitVec 1 := Scalar.andi v523 v526
  let v528 : BitVec 32 := Scalar.extui v527
  let v529 : BitVec 32 := Scalar.addi v520 v528
  let c12_i32_220 : BitVec 32 := 12#32
  let v530 : BitVec 32 := Scalar.shrsi v179 c12_i32_220
  let c3_i32_221 : BitVec 32 := 3#32
  let v531 : BitVec 32 := Scalar.andi v530 c3_i32_221
  let c0_i32_222 : BitVec 32 := 0#32
  let v532 : BitVec 1 := Scalar.cmpi .ne v531 c0_i32_222
  let c38_i32_223 : BitVec 32 := 38#32
  let v535 : BitVec 1 := Scalar.cmpi .sgt v36 c38_i32_223
  let v536 : BitVec 1 := Scalar.andi v532 v535
  let v537 : BitVec 32 := Scalar.extui v536
  let v538 : BitVec 32 := Scalar.addi v529 v537
  let c14_i32_224 : BitVec 32 := 14#32
  let v539 : BitVec 32 := Scalar.shrsi v179 c14_i32_224
  let c3_i32_225 : BitVec 32 := 3#32
  let v540 : BitVec 32 := Scalar.andi v539 c3_i32_225
  let c0_i32_226 : BitVec 32 := 0#32
  let v541 : BitVec 1 := Scalar.cmpi .ne v540 c0_i32_226
  let c39_i32_227 : BitVec 32 := 39#32
  let v544 : BitVec 1 := Scalar.cmpi .sgt v36 c39_i32_227
  let v545 : BitVec 1 := Scalar.andi v541 v544
  let v546 : BitVec 32 := Scalar.extui v545
  let v547 : BitVec 32 := Scalar.addi v538 v546
  let c0_i32_228 : BitVec 32 := 0#32
  let v548 : BitVec 32 := Scalar.shrsi v182 c0_i32_228
  let c3_i32_229 : BitVec 32 := 3#32
  let v549 : BitVec 32 := Scalar.andi v548 c3_i32_229
  let c0_i32_230 : BitVec 32 := 0#32
  let v550 : BitVec 1 := Scalar.cmpi .ne v549 c0_i32_230
  let c40_i32_231 : BitVec 32 := 40#32
  let v553 : BitVec 1 := Scalar.cmpi .sgt v36 c40_i32_231
  let v554 : BitVec 1 := Scalar.andi v550 v553
  let v555 : BitVec 32 := Scalar.extui v554
  let v556 : BitVec 32 := Scalar.addi v547 v555
  let c2_i32_232 : BitVec 32 := 2#32
  let v557 : BitVec 32 := Scalar.shrsi v182 c2_i32_232
  let c3_i32_233 : BitVec 32 := 3#32
  let v558 : BitVec 32 := Scalar.andi v557 c3_i32_233
  let c0_i32_234 : BitVec 32 := 0#32
  let v559 : BitVec 1 := Scalar.cmpi .ne v558 c0_i32_234
  let c41_i32_235 : BitVec 32 := 41#32
  let v562 : BitVec 1 := Scalar.cmpi .sgt v36 c41_i32_235
  let v563 : BitVec 1 := Scalar.andi v559 v562
  let v564 : BitVec 32 := Scalar.extui v563
  let v565 : BitVec 32 := Scalar.addi v556 v564
  let c4_i32_236 : BitVec 32 := 4#32
  let v566 : BitVec 32 := Scalar.shrsi v182 c4_i32_236
  let c3_i32_237 : BitVec 32 := 3#32
  let v567 : BitVec 32 := Scalar.andi v566 c3_i32_237
  let c0_i32_238 : BitVec 32 := 0#32
  let v568 : BitVec 1 := Scalar.cmpi .ne v567 c0_i32_238
  let c42_i32_239 : BitVec 32 := 42#32
  let v571 : BitVec 1 := Scalar.cmpi .sgt v36 c42_i32_239
  let v572 : BitVec 1 := Scalar.andi v568 v571
  let v573 : BitVec 32 := Scalar.extui v572
  let v574 : BitVec 32 := Scalar.addi v565 v573
  let c6_i32_240 : BitVec 32 := 6#32
  let v575 : BitVec 32 := Scalar.shrsi v182 c6_i32_240
  let c3_i32_241 : BitVec 32 := 3#32
  let v576 : BitVec 32 := Scalar.andi v575 c3_i32_241
  let c0_i32_242 : BitVec 32 := 0#32
  let v577 : BitVec 1 := Scalar.cmpi .ne v576 c0_i32_242
  let c43_i32_243 : BitVec 32 := 43#32
  let v580 : BitVec 1 := Scalar.cmpi .sgt v36 c43_i32_243
  let v581 : BitVec 1 := Scalar.andi v577 v580
  let v582 : BitVec 32 := Scalar.extui v581
  let v583 : BitVec 32 := Scalar.addi v574 v582
  let c8_i32_244 : BitVec 32 := 8#32
  let v584 : BitVec 32 := Scalar.shrsi v182 c8_i32_244
  let c3_i32_245 : BitVec 32 := 3#32
  let v585 : BitVec 32 := Scalar.andi v584 c3_i32_245
  let c0_i32_246 : BitVec 32 := 0#32
  let v586 : BitVec 1 := Scalar.cmpi .ne v585 c0_i32_246
  let c44_i32_247 : BitVec 32 := 44#32
  let v589 : BitVec 1 := Scalar.cmpi .sgt v36 c44_i32_247
  let v590 : BitVec 1 := Scalar.andi v586 v589
  let v591 : BitVec 32 := Scalar.extui v590
  let v592 : BitVec 32 := Scalar.addi v583 v591
  let c10_i32_248 : BitVec 32 := 10#32
  let v593 : BitVec 32 := Scalar.shrsi v182 c10_i32_248
  let c3_i32_249 : BitVec 32 := 3#32
  let v594 : BitVec 32 := Scalar.andi v593 c3_i32_249
  let c0_i32_250 : BitVec 32 := 0#32
  let v595 : BitVec 1 := Scalar.cmpi .ne v594 c0_i32_250
  let c45_i32_251 : BitVec 32 := 45#32
  let v598 : BitVec 1 := Scalar.cmpi .sgt v36 c45_i32_251
  let v599 : BitVec 1 := Scalar.andi v595 v598
  let v600 : BitVec 32 := Scalar.extui v599
  let v601 : BitVec 32 := Scalar.addi v592 v600
  let c12_i32_252 : BitVec 32 := 12#32
  let v602 : BitVec 32 := Scalar.shrsi v182 c12_i32_252
  let c3_i32_253 : BitVec 32 := 3#32
  let v603 : BitVec 32 := Scalar.andi v602 c3_i32_253
  let c0_i32_254 : BitVec 32 := 0#32
  let v604 : BitVec 1 := Scalar.cmpi .ne v603 c0_i32_254
  let c46_i32_255 : BitVec 32 := 46#32
  let v607 : BitVec 1 := Scalar.cmpi .sgt v36 c46_i32_255
  let v608 : BitVec 1 := Scalar.andi v604 v607
  let v609 : BitVec 32 := Scalar.extui v608
  let v610 : BitVec 32 := Scalar.addi v601 v609
  let c14_i32_256 : BitVec 32 := 14#32
  let v611 : BitVec 32 := Scalar.shrsi v182 c14_i32_256
  let c3_i32_257 : BitVec 32 := 3#32
  let v612 : BitVec 32 := Scalar.andi v611 c3_i32_257
  let c0_i32_258 : BitVec 32 := 0#32
  let v613 : BitVec 1 := Scalar.cmpi .ne v612 c0_i32_258
  let c47_i32_259 : BitVec 32 := 47#32
  let v616 : BitVec 1 := Scalar.cmpi .sgt v36 c47_i32_259
  let v617 : BitVec 1 := Scalar.andi v613 v616
  let v618 : BitVec 32 := Scalar.extui v617
  let v619 : BitVec 32 := Scalar.addi v610 v618
  let c0_i32_260 : BitVec 32 := 0#32
  let v620 : BitVec 32 := Scalar.shrsi v185 c0_i32_260
  let c3_i32_261 : BitVec 32 := 3#32
  let v621 : BitVec 32 := Scalar.andi v620 c3_i32_261
  let c0_i32_262 : BitVec 32 := 0#32
  let v622 : BitVec 1 := Scalar.cmpi .ne v621 c0_i32_262
  let c48_i32_263 : BitVec 32 := 48#32
  let v625 : BitVec 1 := Scalar.cmpi .sgt v36 c48_i32_263
  let v626 : BitVec 1 := Scalar.andi v622 v625
  let v627 : BitVec 32 := Scalar.extui v626
  let v628 : BitVec 32 := Scalar.addi v619 v627
  let c2_i32_264 : BitVec 32 := 2#32
  let v629 : BitVec 32 := Scalar.shrsi v185 c2_i32_264
  let c3_i32_265 : BitVec 32 := 3#32
  let v630 : BitVec 32 := Scalar.andi v629 c3_i32_265
  let c0_i32_266 : BitVec 32 := 0#32
  let v631 : BitVec 1 := Scalar.cmpi .ne v630 c0_i32_266
  let c49_i32_267 : BitVec 32 := 49#32
  let v634 : BitVec 1 := Scalar.cmpi .sgt v36 c49_i32_267
  let v635 : BitVec 1 := Scalar.andi v631 v634
  let v636 : BitVec 32 := Scalar.extui v635
  let v637 : BitVec 32 := Scalar.addi v628 v636
  let c4_i32_268 : BitVec 32 := 4#32
  let v638 : BitVec 32 := Scalar.shrsi v185 c4_i32_268
  let c3_i32_269 : BitVec 32 := 3#32
  let v639 : BitVec 32 := Scalar.andi v638 c3_i32_269
  let c0_i32_270 : BitVec 32 := 0#32
  let v640 : BitVec 1 := Scalar.cmpi .ne v639 c0_i32_270
  let c50_i32_271 : BitVec 32 := 50#32
  let v643 : BitVec 1 := Scalar.cmpi .sgt v36 c50_i32_271
  let v644 : BitVec 1 := Scalar.andi v640 v643
  let v645 : BitVec 32 := Scalar.extui v644
  let v646 : BitVec 32 := Scalar.addi v637 v645
  let c6_i32_272 : BitVec 32 := 6#32
  let v647 : BitVec 32 := Scalar.shrsi v185 c6_i32_272
  let c3_i32_273 : BitVec 32 := 3#32
  let v648 : BitVec 32 := Scalar.andi v647 c3_i32_273
  let c0_i32_274 : BitVec 32 := 0#32
  let v649 : BitVec 1 := Scalar.cmpi .ne v648 c0_i32_274
  let c51_i32_275 : BitVec 32 := 51#32
  let v652 : BitVec 1 := Scalar.cmpi .sgt v36 c51_i32_275
  let v653 : BitVec 1 := Scalar.andi v649 v652
  let v654 : BitVec 32 := Scalar.extui v653
  let v655 : BitVec 32 := Scalar.addi v646 v654
  let v659 : Index := Scalar.indexCast v655
  ![v659.toNat]
def k0_off57 (i : grid0.Coords) (v167 : BitVec 32) (v170 : BitVec 32) (v173 : BitVec 32) (v176 : BitVec 32) (v179 : BitVec 32) (v182 : BitVec 32) (v185 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let c0_i32_196 : BitVec 32 := 0#32
  let v476 : BitVec 32 := Scalar.shrsi v179 c0_i32_196
  let c3_i32_197 : BitVec 32 := 3#32
  let v477 : BitVec 32 := Scalar.andi v476 c3_i32_197
  let c0_i32_198 : BitVec 32 := 0#32
  let v478 : BitVec 1 := Scalar.cmpi .ne v477 c0_i32_198
  let c32_i32_199 : BitVec 32 := 32#32
  let v481 : BitVec 1 := Scalar.cmpi .sgt v36 c32_i32_199
  let v482 : BitVec 1 := Scalar.andi v478 v481
  let v483 : BitVec 32 := Scalar.extui v482
  let v484 : BitVec 32 := Scalar.addi v475 v483
  let c2_i32_200 : BitVec 32 := 2#32
  let v485 : BitVec 32 := Scalar.shrsi v179 c2_i32_200
  let c3_i32_201 : BitVec 32 := 3#32
  let v486 : BitVec 32 := Scalar.andi v485 c3_i32_201
  let c0_i32_202 : BitVec 32 := 0#32
  let v487 : BitVec 1 := Scalar.cmpi .ne v486 c0_i32_202
  let c33_i32_203 : BitVec 32 := 33#32
  let v490 : BitVec 1 := Scalar.cmpi .sgt v36 c33_i32_203
  let v491 : BitVec 1 := Scalar.andi v487 v490
  let v492 : BitVec 32 := Scalar.extui v491
  let v493 : BitVec 32 := Scalar.addi v484 v492
  let c4_i32_204 : BitVec 32 := 4#32
  let v494 : BitVec 32 := Scalar.shrsi v179 c4_i32_204
  let c3_i32_205 : BitVec 32 := 3#32
  let v495 : BitVec 32 := Scalar.andi v494 c3_i32_205
  let c0_i32_206 : BitVec 32 := 0#32
  let v496 : BitVec 1 := Scalar.cmpi .ne v495 c0_i32_206
  let c34_i32_207 : BitVec 32 := 34#32
  let v499 : BitVec 1 := Scalar.cmpi .sgt v36 c34_i32_207
  let v500 : BitVec 1 := Scalar.andi v496 v499
  let v501 : BitVec 32 := Scalar.extui v500
  let v502 : BitVec 32 := Scalar.addi v493 v501
  let c6_i32_208 : BitVec 32 := 6#32
  let v503 : BitVec 32 := Scalar.shrsi v179 c6_i32_208
  let c3_i32_209 : BitVec 32 := 3#32
  let v504 : BitVec 32 := Scalar.andi v503 c3_i32_209
  let c0_i32_210 : BitVec 32 := 0#32
  let v505 : BitVec 1 := Scalar.cmpi .ne v504 c0_i32_210
  let c35_i32_211 : BitVec 32 := 35#32
  let v508 : BitVec 1 := Scalar.cmpi .sgt v36 c35_i32_211
  let v509 : BitVec 1 := Scalar.andi v505 v508
  let v510 : BitVec 32 := Scalar.extui v509
  let v511 : BitVec 32 := Scalar.addi v502 v510
  let c8_i32_212 : BitVec 32 := 8#32
  let v512 : BitVec 32 := Scalar.shrsi v179 c8_i32_212
  let c3_i32_213 : BitVec 32 := 3#32
  let v513 : BitVec 32 := Scalar.andi v512 c3_i32_213
  let c0_i32_214 : BitVec 32 := 0#32
  let v514 : BitVec 1 := Scalar.cmpi .ne v513 c0_i32_214
  let c36_i32_215 : BitVec 32 := 36#32
  let v517 : BitVec 1 := Scalar.cmpi .sgt v36 c36_i32_215
  let v518 : BitVec 1 := Scalar.andi v514 v517
  let v519 : BitVec 32 := Scalar.extui v518
  let v520 : BitVec 32 := Scalar.addi v511 v519
  let c10_i32_216 : BitVec 32 := 10#32
  let v521 : BitVec 32 := Scalar.shrsi v179 c10_i32_216
  let c3_i32_217 : BitVec 32 := 3#32
  let v522 : BitVec 32 := Scalar.andi v521 c3_i32_217
  let c0_i32_218 : BitVec 32 := 0#32
  let v523 : BitVec 1 := Scalar.cmpi .ne v522 c0_i32_218
  let c37_i32_219 : BitVec 32 := 37#32
  let v526 : BitVec 1 := Scalar.cmpi .sgt v36 c37_i32_219
  let v527 : BitVec 1 := Scalar.andi v523 v526
  let v528 : BitVec 32 := Scalar.extui v527
  let v529 : BitVec 32 := Scalar.addi v520 v528
  let c12_i32_220 : BitVec 32 := 12#32
  let v530 : BitVec 32 := Scalar.shrsi v179 c12_i32_220
  let c3_i32_221 : BitVec 32 := 3#32
  let v531 : BitVec 32 := Scalar.andi v530 c3_i32_221
  let c0_i32_222 : BitVec 32 := 0#32
  let v532 : BitVec 1 := Scalar.cmpi .ne v531 c0_i32_222
  let c38_i32_223 : BitVec 32 := 38#32
  let v535 : BitVec 1 := Scalar.cmpi .sgt v36 c38_i32_223
  let v536 : BitVec 1 := Scalar.andi v532 v535
  let v537 : BitVec 32 := Scalar.extui v536
  let v538 : BitVec 32 := Scalar.addi v529 v537
  let c14_i32_224 : BitVec 32 := 14#32
  let v539 : BitVec 32 := Scalar.shrsi v179 c14_i32_224
  let c3_i32_225 : BitVec 32 := 3#32
  let v540 : BitVec 32 := Scalar.andi v539 c3_i32_225
  let c0_i32_226 : BitVec 32 := 0#32
  let v541 : BitVec 1 := Scalar.cmpi .ne v540 c0_i32_226
  let c39_i32_227 : BitVec 32 := 39#32
  let v544 : BitVec 1 := Scalar.cmpi .sgt v36 c39_i32_227
  let v545 : BitVec 1 := Scalar.andi v541 v544
  let v546 : BitVec 32 := Scalar.extui v545
  let v547 : BitVec 32 := Scalar.addi v538 v546
  let c0_i32_228 : BitVec 32 := 0#32
  let v548 : BitVec 32 := Scalar.shrsi v182 c0_i32_228
  let c3_i32_229 : BitVec 32 := 3#32
  let v549 : BitVec 32 := Scalar.andi v548 c3_i32_229
  let c0_i32_230 : BitVec 32 := 0#32
  let v550 : BitVec 1 := Scalar.cmpi .ne v549 c0_i32_230
  let c40_i32_231 : BitVec 32 := 40#32
  let v553 : BitVec 1 := Scalar.cmpi .sgt v36 c40_i32_231
  let v554 : BitVec 1 := Scalar.andi v550 v553
  let v555 : BitVec 32 := Scalar.extui v554
  let v556 : BitVec 32 := Scalar.addi v547 v555
  let c2_i32_232 : BitVec 32 := 2#32
  let v557 : BitVec 32 := Scalar.shrsi v182 c2_i32_232
  let c3_i32_233 : BitVec 32 := 3#32
  let v558 : BitVec 32 := Scalar.andi v557 c3_i32_233
  let c0_i32_234 : BitVec 32 := 0#32
  let v559 : BitVec 1 := Scalar.cmpi .ne v558 c0_i32_234
  let c41_i32_235 : BitVec 32 := 41#32
  let v562 : BitVec 1 := Scalar.cmpi .sgt v36 c41_i32_235
  let v563 : BitVec 1 := Scalar.andi v559 v562
  let v564 : BitVec 32 := Scalar.extui v563
  let v565 : BitVec 32 := Scalar.addi v556 v564
  let c4_i32_236 : BitVec 32 := 4#32
  let v566 : BitVec 32 := Scalar.shrsi v182 c4_i32_236
  let c3_i32_237 : BitVec 32 := 3#32
  let v567 : BitVec 32 := Scalar.andi v566 c3_i32_237
  let c0_i32_238 : BitVec 32 := 0#32
  let v568 : BitVec 1 := Scalar.cmpi .ne v567 c0_i32_238
  let c42_i32_239 : BitVec 32 := 42#32
  let v571 : BitVec 1 := Scalar.cmpi .sgt v36 c42_i32_239
  let v572 : BitVec 1 := Scalar.andi v568 v571
  let v573 : BitVec 32 := Scalar.extui v572
  let v574 : BitVec 32 := Scalar.addi v565 v573
  let c6_i32_240 : BitVec 32 := 6#32
  let v575 : BitVec 32 := Scalar.shrsi v182 c6_i32_240
  let c3_i32_241 : BitVec 32 := 3#32
  let v576 : BitVec 32 := Scalar.andi v575 c3_i32_241
  let c0_i32_242 : BitVec 32 := 0#32
  let v577 : BitVec 1 := Scalar.cmpi .ne v576 c0_i32_242
  let c43_i32_243 : BitVec 32 := 43#32
  let v580 : BitVec 1 := Scalar.cmpi .sgt v36 c43_i32_243
  let v581 : BitVec 1 := Scalar.andi v577 v580
  let v582 : BitVec 32 := Scalar.extui v581
  let v583 : BitVec 32 := Scalar.addi v574 v582
  let c8_i32_244 : BitVec 32 := 8#32
  let v584 : BitVec 32 := Scalar.shrsi v182 c8_i32_244
  let c3_i32_245 : BitVec 32 := 3#32
  let v585 : BitVec 32 := Scalar.andi v584 c3_i32_245
  let c0_i32_246 : BitVec 32 := 0#32
  let v586 : BitVec 1 := Scalar.cmpi .ne v585 c0_i32_246
  let c44_i32_247 : BitVec 32 := 44#32
  let v589 : BitVec 1 := Scalar.cmpi .sgt v36 c44_i32_247
  let v590 : BitVec 1 := Scalar.andi v586 v589
  let v591 : BitVec 32 := Scalar.extui v590
  let v592 : BitVec 32 := Scalar.addi v583 v591
  let c10_i32_248 : BitVec 32 := 10#32
  let v593 : BitVec 32 := Scalar.shrsi v182 c10_i32_248
  let c3_i32_249 : BitVec 32 := 3#32
  let v594 : BitVec 32 := Scalar.andi v593 c3_i32_249
  let c0_i32_250 : BitVec 32 := 0#32
  let v595 : BitVec 1 := Scalar.cmpi .ne v594 c0_i32_250
  let c45_i32_251 : BitVec 32 := 45#32
  let v598 : BitVec 1 := Scalar.cmpi .sgt v36 c45_i32_251
  let v599 : BitVec 1 := Scalar.andi v595 v598
  let v600 : BitVec 32 := Scalar.extui v599
  let v601 : BitVec 32 := Scalar.addi v592 v600
  let c12_i32_252 : BitVec 32 := 12#32
  let v602 : BitVec 32 := Scalar.shrsi v182 c12_i32_252
  let c3_i32_253 : BitVec 32 := 3#32
  let v603 : BitVec 32 := Scalar.andi v602 c3_i32_253
  let c0_i32_254 : BitVec 32 := 0#32
  let v604 : BitVec 1 := Scalar.cmpi .ne v603 c0_i32_254
  let c46_i32_255 : BitVec 32 := 46#32
  let v607 : BitVec 1 := Scalar.cmpi .sgt v36 c46_i32_255
  let v608 : BitVec 1 := Scalar.andi v604 v607
  let v609 : BitVec 32 := Scalar.extui v608
  let v610 : BitVec 32 := Scalar.addi v601 v609
  let c14_i32_256 : BitVec 32 := 14#32
  let v611 : BitVec 32 := Scalar.shrsi v182 c14_i32_256
  let c3_i32_257 : BitVec 32 := 3#32
  let v612 : BitVec 32 := Scalar.andi v611 c3_i32_257
  let c0_i32_258 : BitVec 32 := 0#32
  let v613 : BitVec 1 := Scalar.cmpi .ne v612 c0_i32_258
  let c47_i32_259 : BitVec 32 := 47#32
  let v616 : BitVec 1 := Scalar.cmpi .sgt v36 c47_i32_259
  let v617 : BitVec 1 := Scalar.andi v613 v616
  let v618 : BitVec 32 := Scalar.extui v617
  let v619 : BitVec 32 := Scalar.addi v610 v618
  let c0_i32_260 : BitVec 32 := 0#32
  let v620 : BitVec 32 := Scalar.shrsi v185 c0_i32_260
  let c3_i32_261 : BitVec 32 := 3#32
  let v621 : BitVec 32 := Scalar.andi v620 c3_i32_261
  let c0_i32_262 : BitVec 32 := 0#32
  let v622 : BitVec 1 := Scalar.cmpi .ne v621 c0_i32_262
  let c48_i32_263 : BitVec 32 := 48#32
  let v625 : BitVec 1 := Scalar.cmpi .sgt v36 c48_i32_263
  let v626 : BitVec 1 := Scalar.andi v622 v625
  let v627 : BitVec 32 := Scalar.extui v626
  let v628 : BitVec 32 := Scalar.addi v619 v627
  let c2_i32_264 : BitVec 32 := 2#32
  let v629 : BitVec 32 := Scalar.shrsi v185 c2_i32_264
  let c3_i32_265 : BitVec 32 := 3#32
  let v630 : BitVec 32 := Scalar.andi v629 c3_i32_265
  let c0_i32_266 : BitVec 32 := 0#32
  let v631 : BitVec 1 := Scalar.cmpi .ne v630 c0_i32_266
  let c49_i32_267 : BitVec 32 := 49#32
  let v634 : BitVec 1 := Scalar.cmpi .sgt v36 c49_i32_267
  let v635 : BitVec 1 := Scalar.andi v631 v634
  let v636 : BitVec 32 := Scalar.extui v635
  let v637 : BitVec 32 := Scalar.addi v628 v636
  let c4_i32_268 : BitVec 32 := 4#32
  let v638 : BitVec 32 := Scalar.shrsi v185 c4_i32_268
  let c3_i32_269 : BitVec 32 := 3#32
  let v639 : BitVec 32 := Scalar.andi v638 c3_i32_269
  let c0_i32_270 : BitVec 32 := 0#32
  let v640 : BitVec 1 := Scalar.cmpi .ne v639 c0_i32_270
  let c50_i32_271 : BitVec 32 := 50#32
  let v643 : BitVec 1 := Scalar.cmpi .sgt v36 c50_i32_271
  let v644 : BitVec 1 := Scalar.andi v640 v643
  let v645 : BitVec 32 := Scalar.extui v644
  let v646 : BitVec 32 := Scalar.addi v637 v645
  let c6_i32_272 : BitVec 32 := 6#32
  let v647 : BitVec 32 := Scalar.shrsi v185 c6_i32_272
  let c3_i32_273 : BitVec 32 := 3#32
  let v648 : BitVec 32 := Scalar.andi v647 c3_i32_273
  let c0_i32_274 : BitVec 32 := 0#32
  let v649 : BitVec 1 := Scalar.cmpi .ne v648 c0_i32_274
  let c51_i32_275 : BitVec 32 := 51#32
  let v652 : BitVec 1 := Scalar.cmpi .sgt v36 c51_i32_275
  let v653 : BitVec 1 := Scalar.andi v649 v652
  let v654 : BitVec 32 := Scalar.extui v653
  let v655 : BitVec 32 := Scalar.addi v646 v654
  let c8_i32_276 : BitVec 32 := 8#32
  let v656 : BitVec 32 := Scalar.shrsi v185 c8_i32_276
  let c3_i32_277 : BitVec 32 := 3#32
  let v657 : BitVec 32 := Scalar.andi v656 c3_i32_277
  let c0_i32_278 : BitVec 32 := 0#32
  let v658 : BitVec 1 := Scalar.cmpi .ne v657 c0_i32_278
  let c52_i32_279 : BitVec 32 := 52#32
  let v661 : BitVec 1 := Scalar.cmpi .sgt v36 c52_i32_279
  let v662 : BitVec 1 := Scalar.andi v658 v661
  let v663 : BitVec 32 := Scalar.extui v662
  let v664 : BitVec 32 := Scalar.addi v655 v663
  let v668 : Index := Scalar.indexCast v664
  ![v668.toNat]
def k0_off58 (i : grid0.Coords) (v167 : BitVec 32) (v170 : BitVec 32) (v173 : BitVec 32) (v176 : BitVec 32) (v179 : BitVec 32) (v182 : BitVec 32) (v185 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let c0_i32_196 : BitVec 32 := 0#32
  let v476 : BitVec 32 := Scalar.shrsi v179 c0_i32_196
  let c3_i32_197 : BitVec 32 := 3#32
  let v477 : BitVec 32 := Scalar.andi v476 c3_i32_197
  let c0_i32_198 : BitVec 32 := 0#32
  let v478 : BitVec 1 := Scalar.cmpi .ne v477 c0_i32_198
  let c32_i32_199 : BitVec 32 := 32#32
  let v481 : BitVec 1 := Scalar.cmpi .sgt v36 c32_i32_199
  let v482 : BitVec 1 := Scalar.andi v478 v481
  let v483 : BitVec 32 := Scalar.extui v482
  let v484 : BitVec 32 := Scalar.addi v475 v483
  let c2_i32_200 : BitVec 32 := 2#32
  let v485 : BitVec 32 := Scalar.shrsi v179 c2_i32_200
  let c3_i32_201 : BitVec 32 := 3#32
  let v486 : BitVec 32 := Scalar.andi v485 c3_i32_201
  let c0_i32_202 : BitVec 32 := 0#32
  let v487 : BitVec 1 := Scalar.cmpi .ne v486 c0_i32_202
  let c33_i32_203 : BitVec 32 := 33#32
  let v490 : BitVec 1 := Scalar.cmpi .sgt v36 c33_i32_203
  let v491 : BitVec 1 := Scalar.andi v487 v490
  let v492 : BitVec 32 := Scalar.extui v491
  let v493 : BitVec 32 := Scalar.addi v484 v492
  let c4_i32_204 : BitVec 32 := 4#32
  let v494 : BitVec 32 := Scalar.shrsi v179 c4_i32_204
  let c3_i32_205 : BitVec 32 := 3#32
  let v495 : BitVec 32 := Scalar.andi v494 c3_i32_205
  let c0_i32_206 : BitVec 32 := 0#32
  let v496 : BitVec 1 := Scalar.cmpi .ne v495 c0_i32_206
  let c34_i32_207 : BitVec 32 := 34#32
  let v499 : BitVec 1 := Scalar.cmpi .sgt v36 c34_i32_207
  let v500 : BitVec 1 := Scalar.andi v496 v499
  let v501 : BitVec 32 := Scalar.extui v500
  let v502 : BitVec 32 := Scalar.addi v493 v501
  let c6_i32_208 : BitVec 32 := 6#32
  let v503 : BitVec 32 := Scalar.shrsi v179 c6_i32_208
  let c3_i32_209 : BitVec 32 := 3#32
  let v504 : BitVec 32 := Scalar.andi v503 c3_i32_209
  let c0_i32_210 : BitVec 32 := 0#32
  let v505 : BitVec 1 := Scalar.cmpi .ne v504 c0_i32_210
  let c35_i32_211 : BitVec 32 := 35#32
  let v508 : BitVec 1 := Scalar.cmpi .sgt v36 c35_i32_211
  let v509 : BitVec 1 := Scalar.andi v505 v508
  let v510 : BitVec 32 := Scalar.extui v509
  let v511 : BitVec 32 := Scalar.addi v502 v510
  let c8_i32_212 : BitVec 32 := 8#32
  let v512 : BitVec 32 := Scalar.shrsi v179 c8_i32_212
  let c3_i32_213 : BitVec 32 := 3#32
  let v513 : BitVec 32 := Scalar.andi v512 c3_i32_213
  let c0_i32_214 : BitVec 32 := 0#32
  let v514 : BitVec 1 := Scalar.cmpi .ne v513 c0_i32_214
  let c36_i32_215 : BitVec 32 := 36#32
  let v517 : BitVec 1 := Scalar.cmpi .sgt v36 c36_i32_215
  let v518 : BitVec 1 := Scalar.andi v514 v517
  let v519 : BitVec 32 := Scalar.extui v518
  let v520 : BitVec 32 := Scalar.addi v511 v519
  let c10_i32_216 : BitVec 32 := 10#32
  let v521 : BitVec 32 := Scalar.shrsi v179 c10_i32_216
  let c3_i32_217 : BitVec 32 := 3#32
  let v522 : BitVec 32 := Scalar.andi v521 c3_i32_217
  let c0_i32_218 : BitVec 32 := 0#32
  let v523 : BitVec 1 := Scalar.cmpi .ne v522 c0_i32_218
  let c37_i32_219 : BitVec 32 := 37#32
  let v526 : BitVec 1 := Scalar.cmpi .sgt v36 c37_i32_219
  let v527 : BitVec 1 := Scalar.andi v523 v526
  let v528 : BitVec 32 := Scalar.extui v527
  let v529 : BitVec 32 := Scalar.addi v520 v528
  let c12_i32_220 : BitVec 32 := 12#32
  let v530 : BitVec 32 := Scalar.shrsi v179 c12_i32_220
  let c3_i32_221 : BitVec 32 := 3#32
  let v531 : BitVec 32 := Scalar.andi v530 c3_i32_221
  let c0_i32_222 : BitVec 32 := 0#32
  let v532 : BitVec 1 := Scalar.cmpi .ne v531 c0_i32_222
  let c38_i32_223 : BitVec 32 := 38#32
  let v535 : BitVec 1 := Scalar.cmpi .sgt v36 c38_i32_223
  let v536 : BitVec 1 := Scalar.andi v532 v535
  let v537 : BitVec 32 := Scalar.extui v536
  let v538 : BitVec 32 := Scalar.addi v529 v537
  let c14_i32_224 : BitVec 32 := 14#32
  let v539 : BitVec 32 := Scalar.shrsi v179 c14_i32_224
  let c3_i32_225 : BitVec 32 := 3#32
  let v540 : BitVec 32 := Scalar.andi v539 c3_i32_225
  let c0_i32_226 : BitVec 32 := 0#32
  let v541 : BitVec 1 := Scalar.cmpi .ne v540 c0_i32_226
  let c39_i32_227 : BitVec 32 := 39#32
  let v544 : BitVec 1 := Scalar.cmpi .sgt v36 c39_i32_227
  let v545 : BitVec 1 := Scalar.andi v541 v544
  let v546 : BitVec 32 := Scalar.extui v545
  let v547 : BitVec 32 := Scalar.addi v538 v546
  let c0_i32_228 : BitVec 32 := 0#32
  let v548 : BitVec 32 := Scalar.shrsi v182 c0_i32_228
  let c3_i32_229 : BitVec 32 := 3#32
  let v549 : BitVec 32 := Scalar.andi v548 c3_i32_229
  let c0_i32_230 : BitVec 32 := 0#32
  let v550 : BitVec 1 := Scalar.cmpi .ne v549 c0_i32_230
  let c40_i32_231 : BitVec 32 := 40#32
  let v553 : BitVec 1 := Scalar.cmpi .sgt v36 c40_i32_231
  let v554 : BitVec 1 := Scalar.andi v550 v553
  let v555 : BitVec 32 := Scalar.extui v554
  let v556 : BitVec 32 := Scalar.addi v547 v555
  let c2_i32_232 : BitVec 32 := 2#32
  let v557 : BitVec 32 := Scalar.shrsi v182 c2_i32_232
  let c3_i32_233 : BitVec 32 := 3#32
  let v558 : BitVec 32 := Scalar.andi v557 c3_i32_233
  let c0_i32_234 : BitVec 32 := 0#32
  let v559 : BitVec 1 := Scalar.cmpi .ne v558 c0_i32_234
  let c41_i32_235 : BitVec 32 := 41#32
  let v562 : BitVec 1 := Scalar.cmpi .sgt v36 c41_i32_235
  let v563 : BitVec 1 := Scalar.andi v559 v562
  let v564 : BitVec 32 := Scalar.extui v563
  let v565 : BitVec 32 := Scalar.addi v556 v564
  let c4_i32_236 : BitVec 32 := 4#32
  let v566 : BitVec 32 := Scalar.shrsi v182 c4_i32_236
  let c3_i32_237 : BitVec 32 := 3#32
  let v567 : BitVec 32 := Scalar.andi v566 c3_i32_237
  let c0_i32_238 : BitVec 32 := 0#32
  let v568 : BitVec 1 := Scalar.cmpi .ne v567 c0_i32_238
  let c42_i32_239 : BitVec 32 := 42#32
  let v571 : BitVec 1 := Scalar.cmpi .sgt v36 c42_i32_239
  let v572 : BitVec 1 := Scalar.andi v568 v571
  let v573 : BitVec 32 := Scalar.extui v572
  let v574 : BitVec 32 := Scalar.addi v565 v573
  let c6_i32_240 : BitVec 32 := 6#32
  let v575 : BitVec 32 := Scalar.shrsi v182 c6_i32_240
  let c3_i32_241 : BitVec 32 := 3#32
  let v576 : BitVec 32 := Scalar.andi v575 c3_i32_241
  let c0_i32_242 : BitVec 32 := 0#32
  let v577 : BitVec 1 := Scalar.cmpi .ne v576 c0_i32_242
  let c43_i32_243 : BitVec 32 := 43#32
  let v580 : BitVec 1 := Scalar.cmpi .sgt v36 c43_i32_243
  let v581 : BitVec 1 := Scalar.andi v577 v580
  let v582 : BitVec 32 := Scalar.extui v581
  let v583 : BitVec 32 := Scalar.addi v574 v582
  let c8_i32_244 : BitVec 32 := 8#32
  let v584 : BitVec 32 := Scalar.shrsi v182 c8_i32_244
  let c3_i32_245 : BitVec 32 := 3#32
  let v585 : BitVec 32 := Scalar.andi v584 c3_i32_245
  let c0_i32_246 : BitVec 32 := 0#32
  let v586 : BitVec 1 := Scalar.cmpi .ne v585 c0_i32_246
  let c44_i32_247 : BitVec 32 := 44#32
  let v589 : BitVec 1 := Scalar.cmpi .sgt v36 c44_i32_247
  let v590 : BitVec 1 := Scalar.andi v586 v589
  let v591 : BitVec 32 := Scalar.extui v590
  let v592 : BitVec 32 := Scalar.addi v583 v591
  let c10_i32_248 : BitVec 32 := 10#32
  let v593 : BitVec 32 := Scalar.shrsi v182 c10_i32_248
  let c3_i32_249 : BitVec 32 := 3#32
  let v594 : BitVec 32 := Scalar.andi v593 c3_i32_249
  let c0_i32_250 : BitVec 32 := 0#32
  let v595 : BitVec 1 := Scalar.cmpi .ne v594 c0_i32_250
  let c45_i32_251 : BitVec 32 := 45#32
  let v598 : BitVec 1 := Scalar.cmpi .sgt v36 c45_i32_251
  let v599 : BitVec 1 := Scalar.andi v595 v598
  let v600 : BitVec 32 := Scalar.extui v599
  let v601 : BitVec 32 := Scalar.addi v592 v600
  let c12_i32_252 : BitVec 32 := 12#32
  let v602 : BitVec 32 := Scalar.shrsi v182 c12_i32_252
  let c3_i32_253 : BitVec 32 := 3#32
  let v603 : BitVec 32 := Scalar.andi v602 c3_i32_253
  let c0_i32_254 : BitVec 32 := 0#32
  let v604 : BitVec 1 := Scalar.cmpi .ne v603 c0_i32_254
  let c46_i32_255 : BitVec 32 := 46#32
  let v607 : BitVec 1 := Scalar.cmpi .sgt v36 c46_i32_255
  let v608 : BitVec 1 := Scalar.andi v604 v607
  let v609 : BitVec 32 := Scalar.extui v608
  let v610 : BitVec 32 := Scalar.addi v601 v609
  let c14_i32_256 : BitVec 32 := 14#32
  let v611 : BitVec 32 := Scalar.shrsi v182 c14_i32_256
  let c3_i32_257 : BitVec 32 := 3#32
  let v612 : BitVec 32 := Scalar.andi v611 c3_i32_257
  let c0_i32_258 : BitVec 32 := 0#32
  let v613 : BitVec 1 := Scalar.cmpi .ne v612 c0_i32_258
  let c47_i32_259 : BitVec 32 := 47#32
  let v616 : BitVec 1 := Scalar.cmpi .sgt v36 c47_i32_259
  let v617 : BitVec 1 := Scalar.andi v613 v616
  let v618 : BitVec 32 := Scalar.extui v617
  let v619 : BitVec 32 := Scalar.addi v610 v618
  let c0_i32_260 : BitVec 32 := 0#32
  let v620 : BitVec 32 := Scalar.shrsi v185 c0_i32_260
  let c3_i32_261 : BitVec 32 := 3#32
  let v621 : BitVec 32 := Scalar.andi v620 c3_i32_261
  let c0_i32_262 : BitVec 32 := 0#32
  let v622 : BitVec 1 := Scalar.cmpi .ne v621 c0_i32_262
  let c48_i32_263 : BitVec 32 := 48#32
  let v625 : BitVec 1 := Scalar.cmpi .sgt v36 c48_i32_263
  let v626 : BitVec 1 := Scalar.andi v622 v625
  let v627 : BitVec 32 := Scalar.extui v626
  let v628 : BitVec 32 := Scalar.addi v619 v627
  let c2_i32_264 : BitVec 32 := 2#32
  let v629 : BitVec 32 := Scalar.shrsi v185 c2_i32_264
  let c3_i32_265 : BitVec 32 := 3#32
  let v630 : BitVec 32 := Scalar.andi v629 c3_i32_265
  let c0_i32_266 : BitVec 32 := 0#32
  let v631 : BitVec 1 := Scalar.cmpi .ne v630 c0_i32_266
  let c49_i32_267 : BitVec 32 := 49#32
  let v634 : BitVec 1 := Scalar.cmpi .sgt v36 c49_i32_267
  let v635 : BitVec 1 := Scalar.andi v631 v634
  let v636 : BitVec 32 := Scalar.extui v635
  let v637 : BitVec 32 := Scalar.addi v628 v636
  let c4_i32_268 : BitVec 32 := 4#32
  let v638 : BitVec 32 := Scalar.shrsi v185 c4_i32_268
  let c3_i32_269 : BitVec 32 := 3#32
  let v639 : BitVec 32 := Scalar.andi v638 c3_i32_269
  let c0_i32_270 : BitVec 32 := 0#32
  let v640 : BitVec 1 := Scalar.cmpi .ne v639 c0_i32_270
  let c50_i32_271 : BitVec 32 := 50#32
  let v643 : BitVec 1 := Scalar.cmpi .sgt v36 c50_i32_271
  let v644 : BitVec 1 := Scalar.andi v640 v643
  let v645 : BitVec 32 := Scalar.extui v644
  let v646 : BitVec 32 := Scalar.addi v637 v645
  let c6_i32_272 : BitVec 32 := 6#32
  let v647 : BitVec 32 := Scalar.shrsi v185 c6_i32_272
  let c3_i32_273 : BitVec 32 := 3#32
  let v648 : BitVec 32 := Scalar.andi v647 c3_i32_273
  let c0_i32_274 : BitVec 32 := 0#32
  let v649 : BitVec 1 := Scalar.cmpi .ne v648 c0_i32_274
  let c51_i32_275 : BitVec 32 := 51#32
  let v652 : BitVec 1 := Scalar.cmpi .sgt v36 c51_i32_275
  let v653 : BitVec 1 := Scalar.andi v649 v652
  let v654 : BitVec 32 := Scalar.extui v653
  let v655 : BitVec 32 := Scalar.addi v646 v654
  let c8_i32_276 : BitVec 32 := 8#32
  let v656 : BitVec 32 := Scalar.shrsi v185 c8_i32_276
  let c3_i32_277 : BitVec 32 := 3#32
  let v657 : BitVec 32 := Scalar.andi v656 c3_i32_277
  let c0_i32_278 : BitVec 32 := 0#32
  let v658 : BitVec 1 := Scalar.cmpi .ne v657 c0_i32_278
  let c52_i32_279 : BitVec 32 := 52#32
  let v661 : BitVec 1 := Scalar.cmpi .sgt v36 c52_i32_279
  let v662 : BitVec 1 := Scalar.andi v658 v661
  let v663 : BitVec 32 := Scalar.extui v662
  let v664 : BitVec 32 := Scalar.addi v655 v663
  let c10_i32_280 : BitVec 32 := 10#32
  let v665 : BitVec 32 := Scalar.shrsi v185 c10_i32_280
  let c3_i32_281 : BitVec 32 := 3#32
  let v666 : BitVec 32 := Scalar.andi v665 c3_i32_281
  let c0_i32_282 : BitVec 32 := 0#32
  let v667 : BitVec 1 := Scalar.cmpi .ne v666 c0_i32_282
  let c53_i32_283 : BitVec 32 := 53#32
  let v670 : BitVec 1 := Scalar.cmpi .sgt v36 c53_i32_283
  let v671 : BitVec 1 := Scalar.andi v667 v670
  let v672 : BitVec 32 := Scalar.extui v671
  let v673 : BitVec 32 := Scalar.addi v664 v672
  let v677 : Index := Scalar.indexCast v673
  ![v677.toNat]
def k0_off59 (i : grid0.Coords) (v167 : BitVec 32) (v170 : BitVec 32) (v173 : BitVec 32) (v176 : BitVec 32) (v179 : BitVec 32) (v182 : BitVec 32) (v185 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let c0_i32_196 : BitVec 32 := 0#32
  let v476 : BitVec 32 := Scalar.shrsi v179 c0_i32_196
  let c3_i32_197 : BitVec 32 := 3#32
  let v477 : BitVec 32 := Scalar.andi v476 c3_i32_197
  let c0_i32_198 : BitVec 32 := 0#32
  let v478 : BitVec 1 := Scalar.cmpi .ne v477 c0_i32_198
  let c32_i32_199 : BitVec 32 := 32#32
  let v481 : BitVec 1 := Scalar.cmpi .sgt v36 c32_i32_199
  let v482 : BitVec 1 := Scalar.andi v478 v481
  let v483 : BitVec 32 := Scalar.extui v482
  let v484 : BitVec 32 := Scalar.addi v475 v483
  let c2_i32_200 : BitVec 32 := 2#32
  let v485 : BitVec 32 := Scalar.shrsi v179 c2_i32_200
  let c3_i32_201 : BitVec 32 := 3#32
  let v486 : BitVec 32 := Scalar.andi v485 c3_i32_201
  let c0_i32_202 : BitVec 32 := 0#32
  let v487 : BitVec 1 := Scalar.cmpi .ne v486 c0_i32_202
  let c33_i32_203 : BitVec 32 := 33#32
  let v490 : BitVec 1 := Scalar.cmpi .sgt v36 c33_i32_203
  let v491 : BitVec 1 := Scalar.andi v487 v490
  let v492 : BitVec 32 := Scalar.extui v491
  let v493 : BitVec 32 := Scalar.addi v484 v492
  let c4_i32_204 : BitVec 32 := 4#32
  let v494 : BitVec 32 := Scalar.shrsi v179 c4_i32_204
  let c3_i32_205 : BitVec 32 := 3#32
  let v495 : BitVec 32 := Scalar.andi v494 c3_i32_205
  let c0_i32_206 : BitVec 32 := 0#32
  let v496 : BitVec 1 := Scalar.cmpi .ne v495 c0_i32_206
  let c34_i32_207 : BitVec 32 := 34#32
  let v499 : BitVec 1 := Scalar.cmpi .sgt v36 c34_i32_207
  let v500 : BitVec 1 := Scalar.andi v496 v499
  let v501 : BitVec 32 := Scalar.extui v500
  let v502 : BitVec 32 := Scalar.addi v493 v501
  let c6_i32_208 : BitVec 32 := 6#32
  let v503 : BitVec 32 := Scalar.shrsi v179 c6_i32_208
  let c3_i32_209 : BitVec 32 := 3#32
  let v504 : BitVec 32 := Scalar.andi v503 c3_i32_209
  let c0_i32_210 : BitVec 32 := 0#32
  let v505 : BitVec 1 := Scalar.cmpi .ne v504 c0_i32_210
  let c35_i32_211 : BitVec 32 := 35#32
  let v508 : BitVec 1 := Scalar.cmpi .sgt v36 c35_i32_211
  let v509 : BitVec 1 := Scalar.andi v505 v508
  let v510 : BitVec 32 := Scalar.extui v509
  let v511 : BitVec 32 := Scalar.addi v502 v510
  let c8_i32_212 : BitVec 32 := 8#32
  let v512 : BitVec 32 := Scalar.shrsi v179 c8_i32_212
  let c3_i32_213 : BitVec 32 := 3#32
  let v513 : BitVec 32 := Scalar.andi v512 c3_i32_213
  let c0_i32_214 : BitVec 32 := 0#32
  let v514 : BitVec 1 := Scalar.cmpi .ne v513 c0_i32_214
  let c36_i32_215 : BitVec 32 := 36#32
  let v517 : BitVec 1 := Scalar.cmpi .sgt v36 c36_i32_215
  let v518 : BitVec 1 := Scalar.andi v514 v517
  let v519 : BitVec 32 := Scalar.extui v518
  let v520 : BitVec 32 := Scalar.addi v511 v519
  let c10_i32_216 : BitVec 32 := 10#32
  let v521 : BitVec 32 := Scalar.shrsi v179 c10_i32_216
  let c3_i32_217 : BitVec 32 := 3#32
  let v522 : BitVec 32 := Scalar.andi v521 c3_i32_217
  let c0_i32_218 : BitVec 32 := 0#32
  let v523 : BitVec 1 := Scalar.cmpi .ne v522 c0_i32_218
  let c37_i32_219 : BitVec 32 := 37#32
  let v526 : BitVec 1 := Scalar.cmpi .sgt v36 c37_i32_219
  let v527 : BitVec 1 := Scalar.andi v523 v526
  let v528 : BitVec 32 := Scalar.extui v527
  let v529 : BitVec 32 := Scalar.addi v520 v528
  let c12_i32_220 : BitVec 32 := 12#32
  let v530 : BitVec 32 := Scalar.shrsi v179 c12_i32_220
  let c3_i32_221 : BitVec 32 := 3#32
  let v531 : BitVec 32 := Scalar.andi v530 c3_i32_221
  let c0_i32_222 : BitVec 32 := 0#32
  let v532 : BitVec 1 := Scalar.cmpi .ne v531 c0_i32_222
  let c38_i32_223 : BitVec 32 := 38#32
  let v535 : BitVec 1 := Scalar.cmpi .sgt v36 c38_i32_223
  let v536 : BitVec 1 := Scalar.andi v532 v535
  let v537 : BitVec 32 := Scalar.extui v536
  let v538 : BitVec 32 := Scalar.addi v529 v537
  let c14_i32_224 : BitVec 32 := 14#32
  let v539 : BitVec 32 := Scalar.shrsi v179 c14_i32_224
  let c3_i32_225 : BitVec 32 := 3#32
  let v540 : BitVec 32 := Scalar.andi v539 c3_i32_225
  let c0_i32_226 : BitVec 32 := 0#32
  let v541 : BitVec 1 := Scalar.cmpi .ne v540 c0_i32_226
  let c39_i32_227 : BitVec 32 := 39#32
  let v544 : BitVec 1 := Scalar.cmpi .sgt v36 c39_i32_227
  let v545 : BitVec 1 := Scalar.andi v541 v544
  let v546 : BitVec 32 := Scalar.extui v545
  let v547 : BitVec 32 := Scalar.addi v538 v546
  let c0_i32_228 : BitVec 32 := 0#32
  let v548 : BitVec 32 := Scalar.shrsi v182 c0_i32_228
  let c3_i32_229 : BitVec 32 := 3#32
  let v549 : BitVec 32 := Scalar.andi v548 c3_i32_229
  let c0_i32_230 : BitVec 32 := 0#32
  let v550 : BitVec 1 := Scalar.cmpi .ne v549 c0_i32_230
  let c40_i32_231 : BitVec 32 := 40#32
  let v553 : BitVec 1 := Scalar.cmpi .sgt v36 c40_i32_231
  let v554 : BitVec 1 := Scalar.andi v550 v553
  let v555 : BitVec 32 := Scalar.extui v554
  let v556 : BitVec 32 := Scalar.addi v547 v555
  let c2_i32_232 : BitVec 32 := 2#32
  let v557 : BitVec 32 := Scalar.shrsi v182 c2_i32_232
  let c3_i32_233 : BitVec 32 := 3#32
  let v558 : BitVec 32 := Scalar.andi v557 c3_i32_233
  let c0_i32_234 : BitVec 32 := 0#32
  let v559 : BitVec 1 := Scalar.cmpi .ne v558 c0_i32_234
  let c41_i32_235 : BitVec 32 := 41#32
  let v562 : BitVec 1 := Scalar.cmpi .sgt v36 c41_i32_235
  let v563 : BitVec 1 := Scalar.andi v559 v562
  let v564 : BitVec 32 := Scalar.extui v563
  let v565 : BitVec 32 := Scalar.addi v556 v564
  let c4_i32_236 : BitVec 32 := 4#32
  let v566 : BitVec 32 := Scalar.shrsi v182 c4_i32_236
  let c3_i32_237 : BitVec 32 := 3#32
  let v567 : BitVec 32 := Scalar.andi v566 c3_i32_237
  let c0_i32_238 : BitVec 32 := 0#32
  let v568 : BitVec 1 := Scalar.cmpi .ne v567 c0_i32_238
  let c42_i32_239 : BitVec 32 := 42#32
  let v571 : BitVec 1 := Scalar.cmpi .sgt v36 c42_i32_239
  let v572 : BitVec 1 := Scalar.andi v568 v571
  let v573 : BitVec 32 := Scalar.extui v572
  let v574 : BitVec 32 := Scalar.addi v565 v573
  let c6_i32_240 : BitVec 32 := 6#32
  let v575 : BitVec 32 := Scalar.shrsi v182 c6_i32_240
  let c3_i32_241 : BitVec 32 := 3#32
  let v576 : BitVec 32 := Scalar.andi v575 c3_i32_241
  let c0_i32_242 : BitVec 32 := 0#32
  let v577 : BitVec 1 := Scalar.cmpi .ne v576 c0_i32_242
  let c43_i32_243 : BitVec 32 := 43#32
  let v580 : BitVec 1 := Scalar.cmpi .sgt v36 c43_i32_243
  let v581 : BitVec 1 := Scalar.andi v577 v580
  let v582 : BitVec 32 := Scalar.extui v581
  let v583 : BitVec 32 := Scalar.addi v574 v582
  let c8_i32_244 : BitVec 32 := 8#32
  let v584 : BitVec 32 := Scalar.shrsi v182 c8_i32_244
  let c3_i32_245 : BitVec 32 := 3#32
  let v585 : BitVec 32 := Scalar.andi v584 c3_i32_245
  let c0_i32_246 : BitVec 32 := 0#32
  let v586 : BitVec 1 := Scalar.cmpi .ne v585 c0_i32_246
  let c44_i32_247 : BitVec 32 := 44#32
  let v589 : BitVec 1 := Scalar.cmpi .sgt v36 c44_i32_247
  let v590 : BitVec 1 := Scalar.andi v586 v589
  let v591 : BitVec 32 := Scalar.extui v590
  let v592 : BitVec 32 := Scalar.addi v583 v591
  let c10_i32_248 : BitVec 32 := 10#32
  let v593 : BitVec 32 := Scalar.shrsi v182 c10_i32_248
  let c3_i32_249 : BitVec 32 := 3#32
  let v594 : BitVec 32 := Scalar.andi v593 c3_i32_249
  let c0_i32_250 : BitVec 32 := 0#32
  let v595 : BitVec 1 := Scalar.cmpi .ne v594 c0_i32_250
  let c45_i32_251 : BitVec 32 := 45#32
  let v598 : BitVec 1 := Scalar.cmpi .sgt v36 c45_i32_251
  let v599 : BitVec 1 := Scalar.andi v595 v598
  let v600 : BitVec 32 := Scalar.extui v599
  let v601 : BitVec 32 := Scalar.addi v592 v600
  let c12_i32_252 : BitVec 32 := 12#32
  let v602 : BitVec 32 := Scalar.shrsi v182 c12_i32_252
  let c3_i32_253 : BitVec 32 := 3#32
  let v603 : BitVec 32 := Scalar.andi v602 c3_i32_253
  let c0_i32_254 : BitVec 32 := 0#32
  let v604 : BitVec 1 := Scalar.cmpi .ne v603 c0_i32_254
  let c46_i32_255 : BitVec 32 := 46#32
  let v607 : BitVec 1 := Scalar.cmpi .sgt v36 c46_i32_255
  let v608 : BitVec 1 := Scalar.andi v604 v607
  let v609 : BitVec 32 := Scalar.extui v608
  let v610 : BitVec 32 := Scalar.addi v601 v609
  let c14_i32_256 : BitVec 32 := 14#32
  let v611 : BitVec 32 := Scalar.shrsi v182 c14_i32_256
  let c3_i32_257 : BitVec 32 := 3#32
  let v612 : BitVec 32 := Scalar.andi v611 c3_i32_257
  let c0_i32_258 : BitVec 32 := 0#32
  let v613 : BitVec 1 := Scalar.cmpi .ne v612 c0_i32_258
  let c47_i32_259 : BitVec 32 := 47#32
  let v616 : BitVec 1 := Scalar.cmpi .sgt v36 c47_i32_259
  let v617 : BitVec 1 := Scalar.andi v613 v616
  let v618 : BitVec 32 := Scalar.extui v617
  let v619 : BitVec 32 := Scalar.addi v610 v618
  let c0_i32_260 : BitVec 32 := 0#32
  let v620 : BitVec 32 := Scalar.shrsi v185 c0_i32_260
  let c3_i32_261 : BitVec 32 := 3#32
  let v621 : BitVec 32 := Scalar.andi v620 c3_i32_261
  let c0_i32_262 : BitVec 32 := 0#32
  let v622 : BitVec 1 := Scalar.cmpi .ne v621 c0_i32_262
  let c48_i32_263 : BitVec 32 := 48#32
  let v625 : BitVec 1 := Scalar.cmpi .sgt v36 c48_i32_263
  let v626 : BitVec 1 := Scalar.andi v622 v625
  let v627 : BitVec 32 := Scalar.extui v626
  let v628 : BitVec 32 := Scalar.addi v619 v627
  let c2_i32_264 : BitVec 32 := 2#32
  let v629 : BitVec 32 := Scalar.shrsi v185 c2_i32_264
  let c3_i32_265 : BitVec 32 := 3#32
  let v630 : BitVec 32 := Scalar.andi v629 c3_i32_265
  let c0_i32_266 : BitVec 32 := 0#32
  let v631 : BitVec 1 := Scalar.cmpi .ne v630 c0_i32_266
  let c49_i32_267 : BitVec 32 := 49#32
  let v634 : BitVec 1 := Scalar.cmpi .sgt v36 c49_i32_267
  let v635 : BitVec 1 := Scalar.andi v631 v634
  let v636 : BitVec 32 := Scalar.extui v635
  let v637 : BitVec 32 := Scalar.addi v628 v636
  let c4_i32_268 : BitVec 32 := 4#32
  let v638 : BitVec 32 := Scalar.shrsi v185 c4_i32_268
  let c3_i32_269 : BitVec 32 := 3#32
  let v639 : BitVec 32 := Scalar.andi v638 c3_i32_269
  let c0_i32_270 : BitVec 32 := 0#32
  let v640 : BitVec 1 := Scalar.cmpi .ne v639 c0_i32_270
  let c50_i32_271 : BitVec 32 := 50#32
  let v643 : BitVec 1 := Scalar.cmpi .sgt v36 c50_i32_271
  let v644 : BitVec 1 := Scalar.andi v640 v643
  let v645 : BitVec 32 := Scalar.extui v644
  let v646 : BitVec 32 := Scalar.addi v637 v645
  let c6_i32_272 : BitVec 32 := 6#32
  let v647 : BitVec 32 := Scalar.shrsi v185 c6_i32_272
  let c3_i32_273 : BitVec 32 := 3#32
  let v648 : BitVec 32 := Scalar.andi v647 c3_i32_273
  let c0_i32_274 : BitVec 32 := 0#32
  let v649 : BitVec 1 := Scalar.cmpi .ne v648 c0_i32_274
  let c51_i32_275 : BitVec 32 := 51#32
  let v652 : BitVec 1 := Scalar.cmpi .sgt v36 c51_i32_275
  let v653 : BitVec 1 := Scalar.andi v649 v652
  let v654 : BitVec 32 := Scalar.extui v653
  let v655 : BitVec 32 := Scalar.addi v646 v654
  let c8_i32_276 : BitVec 32 := 8#32
  let v656 : BitVec 32 := Scalar.shrsi v185 c8_i32_276
  let c3_i32_277 : BitVec 32 := 3#32
  let v657 : BitVec 32 := Scalar.andi v656 c3_i32_277
  let c0_i32_278 : BitVec 32 := 0#32
  let v658 : BitVec 1 := Scalar.cmpi .ne v657 c0_i32_278
  let c52_i32_279 : BitVec 32 := 52#32
  let v661 : BitVec 1 := Scalar.cmpi .sgt v36 c52_i32_279
  let v662 : BitVec 1 := Scalar.andi v658 v661
  let v663 : BitVec 32 := Scalar.extui v662
  let v664 : BitVec 32 := Scalar.addi v655 v663
  let c10_i32_280 : BitVec 32 := 10#32
  let v665 : BitVec 32 := Scalar.shrsi v185 c10_i32_280
  let c3_i32_281 : BitVec 32 := 3#32
  let v666 : BitVec 32 := Scalar.andi v665 c3_i32_281
  let c0_i32_282 : BitVec 32 := 0#32
  let v667 : BitVec 1 := Scalar.cmpi .ne v666 c0_i32_282
  let c53_i32_283 : BitVec 32 := 53#32
  let v670 : BitVec 1 := Scalar.cmpi .sgt v36 c53_i32_283
  let v671 : BitVec 1 := Scalar.andi v667 v670
  let v672 : BitVec 32 := Scalar.extui v671
  let v673 : BitVec 32 := Scalar.addi v664 v672
  let c12_i32_284 : BitVec 32 := 12#32
  let v674 : BitVec 32 := Scalar.shrsi v185 c12_i32_284
  let c3_i32_285 : BitVec 32 := 3#32
  let v675 : BitVec 32 := Scalar.andi v674 c3_i32_285
  let c0_i32_286 : BitVec 32 := 0#32
  let v676 : BitVec 1 := Scalar.cmpi .ne v675 c0_i32_286
  let c54_i32_287 : BitVec 32 := 54#32
  let v679 : BitVec 1 := Scalar.cmpi .sgt v36 c54_i32_287
  let v680 : BitVec 1 := Scalar.andi v676 v679
  let v681 : BitVec 32 := Scalar.extui v680
  let v682 : BitVec 32 := Scalar.addi v673 v681
  let v686 : Index := Scalar.indexCast v682
  ![v686.toNat]
def k0_off60 (i : grid0.Coords) (v167 : BitVec 32) (v170 : BitVec 32) (v173 : BitVec 32) (v176 : BitVec 32) (v179 : BitVec 32) (v182 : BitVec 32) (v185 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let c0_i32_196 : BitVec 32 := 0#32
  let v476 : BitVec 32 := Scalar.shrsi v179 c0_i32_196
  let c3_i32_197 : BitVec 32 := 3#32
  let v477 : BitVec 32 := Scalar.andi v476 c3_i32_197
  let c0_i32_198 : BitVec 32 := 0#32
  let v478 : BitVec 1 := Scalar.cmpi .ne v477 c0_i32_198
  let c32_i32_199 : BitVec 32 := 32#32
  let v481 : BitVec 1 := Scalar.cmpi .sgt v36 c32_i32_199
  let v482 : BitVec 1 := Scalar.andi v478 v481
  let v483 : BitVec 32 := Scalar.extui v482
  let v484 : BitVec 32 := Scalar.addi v475 v483
  let c2_i32_200 : BitVec 32 := 2#32
  let v485 : BitVec 32 := Scalar.shrsi v179 c2_i32_200
  let c3_i32_201 : BitVec 32 := 3#32
  let v486 : BitVec 32 := Scalar.andi v485 c3_i32_201
  let c0_i32_202 : BitVec 32 := 0#32
  let v487 : BitVec 1 := Scalar.cmpi .ne v486 c0_i32_202
  let c33_i32_203 : BitVec 32 := 33#32
  let v490 : BitVec 1 := Scalar.cmpi .sgt v36 c33_i32_203
  let v491 : BitVec 1 := Scalar.andi v487 v490
  let v492 : BitVec 32 := Scalar.extui v491
  let v493 : BitVec 32 := Scalar.addi v484 v492
  let c4_i32_204 : BitVec 32 := 4#32
  let v494 : BitVec 32 := Scalar.shrsi v179 c4_i32_204
  let c3_i32_205 : BitVec 32 := 3#32
  let v495 : BitVec 32 := Scalar.andi v494 c3_i32_205
  let c0_i32_206 : BitVec 32 := 0#32
  let v496 : BitVec 1 := Scalar.cmpi .ne v495 c0_i32_206
  let c34_i32_207 : BitVec 32 := 34#32
  let v499 : BitVec 1 := Scalar.cmpi .sgt v36 c34_i32_207
  let v500 : BitVec 1 := Scalar.andi v496 v499
  let v501 : BitVec 32 := Scalar.extui v500
  let v502 : BitVec 32 := Scalar.addi v493 v501
  let c6_i32_208 : BitVec 32 := 6#32
  let v503 : BitVec 32 := Scalar.shrsi v179 c6_i32_208
  let c3_i32_209 : BitVec 32 := 3#32
  let v504 : BitVec 32 := Scalar.andi v503 c3_i32_209
  let c0_i32_210 : BitVec 32 := 0#32
  let v505 : BitVec 1 := Scalar.cmpi .ne v504 c0_i32_210
  let c35_i32_211 : BitVec 32 := 35#32
  let v508 : BitVec 1 := Scalar.cmpi .sgt v36 c35_i32_211
  let v509 : BitVec 1 := Scalar.andi v505 v508
  let v510 : BitVec 32 := Scalar.extui v509
  let v511 : BitVec 32 := Scalar.addi v502 v510
  let c8_i32_212 : BitVec 32 := 8#32
  let v512 : BitVec 32 := Scalar.shrsi v179 c8_i32_212
  let c3_i32_213 : BitVec 32 := 3#32
  let v513 : BitVec 32 := Scalar.andi v512 c3_i32_213
  let c0_i32_214 : BitVec 32 := 0#32
  let v514 : BitVec 1 := Scalar.cmpi .ne v513 c0_i32_214
  let c36_i32_215 : BitVec 32 := 36#32
  let v517 : BitVec 1 := Scalar.cmpi .sgt v36 c36_i32_215
  let v518 : BitVec 1 := Scalar.andi v514 v517
  let v519 : BitVec 32 := Scalar.extui v518
  let v520 : BitVec 32 := Scalar.addi v511 v519
  let c10_i32_216 : BitVec 32 := 10#32
  let v521 : BitVec 32 := Scalar.shrsi v179 c10_i32_216
  let c3_i32_217 : BitVec 32 := 3#32
  let v522 : BitVec 32 := Scalar.andi v521 c3_i32_217
  let c0_i32_218 : BitVec 32 := 0#32
  let v523 : BitVec 1 := Scalar.cmpi .ne v522 c0_i32_218
  let c37_i32_219 : BitVec 32 := 37#32
  let v526 : BitVec 1 := Scalar.cmpi .sgt v36 c37_i32_219
  let v527 : BitVec 1 := Scalar.andi v523 v526
  let v528 : BitVec 32 := Scalar.extui v527
  let v529 : BitVec 32 := Scalar.addi v520 v528
  let c12_i32_220 : BitVec 32 := 12#32
  let v530 : BitVec 32 := Scalar.shrsi v179 c12_i32_220
  let c3_i32_221 : BitVec 32 := 3#32
  let v531 : BitVec 32 := Scalar.andi v530 c3_i32_221
  let c0_i32_222 : BitVec 32 := 0#32
  let v532 : BitVec 1 := Scalar.cmpi .ne v531 c0_i32_222
  let c38_i32_223 : BitVec 32 := 38#32
  let v535 : BitVec 1 := Scalar.cmpi .sgt v36 c38_i32_223
  let v536 : BitVec 1 := Scalar.andi v532 v535
  let v537 : BitVec 32 := Scalar.extui v536
  let v538 : BitVec 32 := Scalar.addi v529 v537
  let c14_i32_224 : BitVec 32 := 14#32
  let v539 : BitVec 32 := Scalar.shrsi v179 c14_i32_224
  let c3_i32_225 : BitVec 32 := 3#32
  let v540 : BitVec 32 := Scalar.andi v539 c3_i32_225
  let c0_i32_226 : BitVec 32 := 0#32
  let v541 : BitVec 1 := Scalar.cmpi .ne v540 c0_i32_226
  let c39_i32_227 : BitVec 32 := 39#32
  let v544 : BitVec 1 := Scalar.cmpi .sgt v36 c39_i32_227
  let v545 : BitVec 1 := Scalar.andi v541 v544
  let v546 : BitVec 32 := Scalar.extui v545
  let v547 : BitVec 32 := Scalar.addi v538 v546
  let c0_i32_228 : BitVec 32 := 0#32
  let v548 : BitVec 32 := Scalar.shrsi v182 c0_i32_228
  let c3_i32_229 : BitVec 32 := 3#32
  let v549 : BitVec 32 := Scalar.andi v548 c3_i32_229
  let c0_i32_230 : BitVec 32 := 0#32
  let v550 : BitVec 1 := Scalar.cmpi .ne v549 c0_i32_230
  let c40_i32_231 : BitVec 32 := 40#32
  let v553 : BitVec 1 := Scalar.cmpi .sgt v36 c40_i32_231
  let v554 : BitVec 1 := Scalar.andi v550 v553
  let v555 : BitVec 32 := Scalar.extui v554
  let v556 : BitVec 32 := Scalar.addi v547 v555
  let c2_i32_232 : BitVec 32 := 2#32
  let v557 : BitVec 32 := Scalar.shrsi v182 c2_i32_232
  let c3_i32_233 : BitVec 32 := 3#32
  let v558 : BitVec 32 := Scalar.andi v557 c3_i32_233
  let c0_i32_234 : BitVec 32 := 0#32
  let v559 : BitVec 1 := Scalar.cmpi .ne v558 c0_i32_234
  let c41_i32_235 : BitVec 32 := 41#32
  let v562 : BitVec 1 := Scalar.cmpi .sgt v36 c41_i32_235
  let v563 : BitVec 1 := Scalar.andi v559 v562
  let v564 : BitVec 32 := Scalar.extui v563
  let v565 : BitVec 32 := Scalar.addi v556 v564
  let c4_i32_236 : BitVec 32 := 4#32
  let v566 : BitVec 32 := Scalar.shrsi v182 c4_i32_236
  let c3_i32_237 : BitVec 32 := 3#32
  let v567 : BitVec 32 := Scalar.andi v566 c3_i32_237
  let c0_i32_238 : BitVec 32 := 0#32
  let v568 : BitVec 1 := Scalar.cmpi .ne v567 c0_i32_238
  let c42_i32_239 : BitVec 32 := 42#32
  let v571 : BitVec 1 := Scalar.cmpi .sgt v36 c42_i32_239
  let v572 : BitVec 1 := Scalar.andi v568 v571
  let v573 : BitVec 32 := Scalar.extui v572
  let v574 : BitVec 32 := Scalar.addi v565 v573
  let c6_i32_240 : BitVec 32 := 6#32
  let v575 : BitVec 32 := Scalar.shrsi v182 c6_i32_240
  let c3_i32_241 : BitVec 32 := 3#32
  let v576 : BitVec 32 := Scalar.andi v575 c3_i32_241
  let c0_i32_242 : BitVec 32 := 0#32
  let v577 : BitVec 1 := Scalar.cmpi .ne v576 c0_i32_242
  let c43_i32_243 : BitVec 32 := 43#32
  let v580 : BitVec 1 := Scalar.cmpi .sgt v36 c43_i32_243
  let v581 : BitVec 1 := Scalar.andi v577 v580
  let v582 : BitVec 32 := Scalar.extui v581
  let v583 : BitVec 32 := Scalar.addi v574 v582
  let c8_i32_244 : BitVec 32 := 8#32
  let v584 : BitVec 32 := Scalar.shrsi v182 c8_i32_244
  let c3_i32_245 : BitVec 32 := 3#32
  let v585 : BitVec 32 := Scalar.andi v584 c3_i32_245
  let c0_i32_246 : BitVec 32 := 0#32
  let v586 : BitVec 1 := Scalar.cmpi .ne v585 c0_i32_246
  let c44_i32_247 : BitVec 32 := 44#32
  let v589 : BitVec 1 := Scalar.cmpi .sgt v36 c44_i32_247
  let v590 : BitVec 1 := Scalar.andi v586 v589
  let v591 : BitVec 32 := Scalar.extui v590
  let v592 : BitVec 32 := Scalar.addi v583 v591
  let c10_i32_248 : BitVec 32 := 10#32
  let v593 : BitVec 32 := Scalar.shrsi v182 c10_i32_248
  let c3_i32_249 : BitVec 32 := 3#32
  let v594 : BitVec 32 := Scalar.andi v593 c3_i32_249
  let c0_i32_250 : BitVec 32 := 0#32
  let v595 : BitVec 1 := Scalar.cmpi .ne v594 c0_i32_250
  let c45_i32_251 : BitVec 32 := 45#32
  let v598 : BitVec 1 := Scalar.cmpi .sgt v36 c45_i32_251
  let v599 : BitVec 1 := Scalar.andi v595 v598
  let v600 : BitVec 32 := Scalar.extui v599
  let v601 : BitVec 32 := Scalar.addi v592 v600
  let c12_i32_252 : BitVec 32 := 12#32
  let v602 : BitVec 32 := Scalar.shrsi v182 c12_i32_252
  let c3_i32_253 : BitVec 32 := 3#32
  let v603 : BitVec 32 := Scalar.andi v602 c3_i32_253
  let c0_i32_254 : BitVec 32 := 0#32
  let v604 : BitVec 1 := Scalar.cmpi .ne v603 c0_i32_254
  let c46_i32_255 : BitVec 32 := 46#32
  let v607 : BitVec 1 := Scalar.cmpi .sgt v36 c46_i32_255
  let v608 : BitVec 1 := Scalar.andi v604 v607
  let v609 : BitVec 32 := Scalar.extui v608
  let v610 : BitVec 32 := Scalar.addi v601 v609
  let c14_i32_256 : BitVec 32 := 14#32
  let v611 : BitVec 32 := Scalar.shrsi v182 c14_i32_256
  let c3_i32_257 : BitVec 32 := 3#32
  let v612 : BitVec 32 := Scalar.andi v611 c3_i32_257
  let c0_i32_258 : BitVec 32 := 0#32
  let v613 : BitVec 1 := Scalar.cmpi .ne v612 c0_i32_258
  let c47_i32_259 : BitVec 32 := 47#32
  let v616 : BitVec 1 := Scalar.cmpi .sgt v36 c47_i32_259
  let v617 : BitVec 1 := Scalar.andi v613 v616
  let v618 : BitVec 32 := Scalar.extui v617
  let v619 : BitVec 32 := Scalar.addi v610 v618
  let c0_i32_260 : BitVec 32 := 0#32
  let v620 : BitVec 32 := Scalar.shrsi v185 c0_i32_260
  let c3_i32_261 : BitVec 32 := 3#32
  let v621 : BitVec 32 := Scalar.andi v620 c3_i32_261
  let c0_i32_262 : BitVec 32 := 0#32
  let v622 : BitVec 1 := Scalar.cmpi .ne v621 c0_i32_262
  let c48_i32_263 : BitVec 32 := 48#32
  let v625 : BitVec 1 := Scalar.cmpi .sgt v36 c48_i32_263
  let v626 : BitVec 1 := Scalar.andi v622 v625
  let v627 : BitVec 32 := Scalar.extui v626
  let v628 : BitVec 32 := Scalar.addi v619 v627
  let c2_i32_264 : BitVec 32 := 2#32
  let v629 : BitVec 32 := Scalar.shrsi v185 c2_i32_264
  let c3_i32_265 : BitVec 32 := 3#32
  let v630 : BitVec 32 := Scalar.andi v629 c3_i32_265
  let c0_i32_266 : BitVec 32 := 0#32
  let v631 : BitVec 1 := Scalar.cmpi .ne v630 c0_i32_266
  let c49_i32_267 : BitVec 32 := 49#32
  let v634 : BitVec 1 := Scalar.cmpi .sgt v36 c49_i32_267
  let v635 : BitVec 1 := Scalar.andi v631 v634
  let v636 : BitVec 32 := Scalar.extui v635
  let v637 : BitVec 32 := Scalar.addi v628 v636
  let c4_i32_268 : BitVec 32 := 4#32
  let v638 : BitVec 32 := Scalar.shrsi v185 c4_i32_268
  let c3_i32_269 : BitVec 32 := 3#32
  let v639 : BitVec 32 := Scalar.andi v638 c3_i32_269
  let c0_i32_270 : BitVec 32 := 0#32
  let v640 : BitVec 1 := Scalar.cmpi .ne v639 c0_i32_270
  let c50_i32_271 : BitVec 32 := 50#32
  let v643 : BitVec 1 := Scalar.cmpi .sgt v36 c50_i32_271
  let v644 : BitVec 1 := Scalar.andi v640 v643
  let v645 : BitVec 32 := Scalar.extui v644
  let v646 : BitVec 32 := Scalar.addi v637 v645
  let c6_i32_272 : BitVec 32 := 6#32
  let v647 : BitVec 32 := Scalar.shrsi v185 c6_i32_272
  let c3_i32_273 : BitVec 32 := 3#32
  let v648 : BitVec 32 := Scalar.andi v647 c3_i32_273
  let c0_i32_274 : BitVec 32 := 0#32
  let v649 : BitVec 1 := Scalar.cmpi .ne v648 c0_i32_274
  let c51_i32_275 : BitVec 32 := 51#32
  let v652 : BitVec 1 := Scalar.cmpi .sgt v36 c51_i32_275
  let v653 : BitVec 1 := Scalar.andi v649 v652
  let v654 : BitVec 32 := Scalar.extui v653
  let v655 : BitVec 32 := Scalar.addi v646 v654
  let c8_i32_276 : BitVec 32 := 8#32
  let v656 : BitVec 32 := Scalar.shrsi v185 c8_i32_276
  let c3_i32_277 : BitVec 32 := 3#32
  let v657 : BitVec 32 := Scalar.andi v656 c3_i32_277
  let c0_i32_278 : BitVec 32 := 0#32
  let v658 : BitVec 1 := Scalar.cmpi .ne v657 c0_i32_278
  let c52_i32_279 : BitVec 32 := 52#32
  let v661 : BitVec 1 := Scalar.cmpi .sgt v36 c52_i32_279
  let v662 : BitVec 1 := Scalar.andi v658 v661
  let v663 : BitVec 32 := Scalar.extui v662
  let v664 : BitVec 32 := Scalar.addi v655 v663
  let c10_i32_280 : BitVec 32 := 10#32
  let v665 : BitVec 32 := Scalar.shrsi v185 c10_i32_280
  let c3_i32_281 : BitVec 32 := 3#32
  let v666 : BitVec 32 := Scalar.andi v665 c3_i32_281
  let c0_i32_282 : BitVec 32 := 0#32
  let v667 : BitVec 1 := Scalar.cmpi .ne v666 c0_i32_282
  let c53_i32_283 : BitVec 32 := 53#32
  let v670 : BitVec 1 := Scalar.cmpi .sgt v36 c53_i32_283
  let v671 : BitVec 1 := Scalar.andi v667 v670
  let v672 : BitVec 32 := Scalar.extui v671
  let v673 : BitVec 32 := Scalar.addi v664 v672
  let c12_i32_284 : BitVec 32 := 12#32
  let v674 : BitVec 32 := Scalar.shrsi v185 c12_i32_284
  let c3_i32_285 : BitVec 32 := 3#32
  let v675 : BitVec 32 := Scalar.andi v674 c3_i32_285
  let c0_i32_286 : BitVec 32 := 0#32
  let v676 : BitVec 1 := Scalar.cmpi .ne v675 c0_i32_286
  let c54_i32_287 : BitVec 32 := 54#32
  let v679 : BitVec 1 := Scalar.cmpi .sgt v36 c54_i32_287
  let v680 : BitVec 1 := Scalar.andi v676 v679
  let v681 : BitVec 32 := Scalar.extui v680
  let v682 : BitVec 32 := Scalar.addi v673 v681
  let c14_i32_288 : BitVec 32 := 14#32
  let v683 : BitVec 32 := Scalar.shrsi v185 c14_i32_288
  let c3_i32_289 : BitVec 32 := 3#32
  let v684 : BitVec 32 := Scalar.andi v683 c3_i32_289
  let c0_i32_290 : BitVec 32 := 0#32
  let v685 : BitVec 1 := Scalar.cmpi .ne v684 c0_i32_290
  let c55_i32_291 : BitVec 32 := 55#32
  let v688 : BitVec 1 := Scalar.cmpi .sgt v36 c55_i32_291
  let v689 : BitVec 1 := Scalar.andi v685 v688
  let v690 : BitVec 32 := Scalar.extui v689
  let v691 : BitVec 32 := Scalar.addi v682 v690
  let v695 : Index := Scalar.indexCast v691
  ![v695.toNat]

def k0_chk7 (i : grid0.Coords) (v167 : BitVec 32) (v170 : BitVec 32) (v173 : BitVec 32) (v176 : BitVec 32) (v179 : BitVec 32) (v182 : BitVec 32) (v185 : BitVec 32) : Prop :=
  (∀ a, (k0_off53 i v167 v170 v173 v176 v179 v182 v185) a + S1.size a ≤ S72.size a) ∧
  (∀ a, (k0_off54 i v167 v170 v173 v176 v179 v182 v185) a + S1.size a ≤ S72.size a) ∧
  (∀ a, (k0_off55 i v167 v170 v173 v176 v179 v182 v185) a + S1.size a ≤ S72.size a) ∧
  (∀ a, (k0_off56 i v167 v170 v173 v176 v179 v182 v185) a + S1.size a ≤ S72.size a) ∧
  (∀ a, (k0_off57 i v167 v170 v173 v176 v179 v182 v185) a + S1.size a ≤ S72.size a) ∧
  (∀ a, (k0_off58 i v167 v170 v173 v176 v179 v182 v185) a + S1.size a ≤ S72.size a) ∧
  (∀ a, (k0_off59 i v167 v170 v173 v176 v179 v182 v185) a + S1.size a ≤ S72.size a) ∧
  (∀ a, (k0_off60 i v167 v170 v173 v176 v179 v182 v185) a + S1.size a ≤ S72.size a)
theorem k0_off53_inb : ∀ (i : grid0.Coords) (v167 : BitVec 32) (v170 : BitVec 32) (v173 : BitVec 32) (v176 : BitVec 32) (v179 : BitVec 32) (v182 : BitVec 32) (v185 : BitVec 32) (k0_hw7 : k0_chk7 i v167 v170 v173 v176 v179 v182 v185), ∀ a, (k0_off53 i v167 v170 v173 v176 v179 v182 v185) a + S1.size a ≤ S72.size a := fun i v167 v170 v173 v176 v179 v182 v185 k0_hw7 => k0_hw7.1
theorem k0_off54_inb : ∀ (i : grid0.Coords) (v167 : BitVec 32) (v170 : BitVec 32) (v173 : BitVec 32) (v176 : BitVec 32) (v179 : BitVec 32) (v182 : BitVec 32) (v185 : BitVec 32) (k0_hw7 : k0_chk7 i v167 v170 v173 v176 v179 v182 v185), ∀ a, (k0_off54 i v167 v170 v173 v176 v179 v182 v185) a + S1.size a ≤ S72.size a := fun i v167 v170 v173 v176 v179 v182 v185 k0_hw7 => k0_hw7.2.1
theorem k0_off55_inb : ∀ (i : grid0.Coords) (v167 : BitVec 32) (v170 : BitVec 32) (v173 : BitVec 32) (v176 : BitVec 32) (v179 : BitVec 32) (v182 : BitVec 32) (v185 : BitVec 32) (k0_hw7 : k0_chk7 i v167 v170 v173 v176 v179 v182 v185), ∀ a, (k0_off55 i v167 v170 v173 v176 v179 v182 v185) a + S1.size a ≤ S72.size a := fun i v167 v170 v173 v176 v179 v182 v185 k0_hw7 => k0_hw7.2.2.1
theorem k0_off56_inb : ∀ (i : grid0.Coords) (v167 : BitVec 32) (v170 : BitVec 32) (v173 : BitVec 32) (v176 : BitVec 32) (v179 : BitVec 32) (v182 : BitVec 32) (v185 : BitVec 32) (k0_hw7 : k0_chk7 i v167 v170 v173 v176 v179 v182 v185), ∀ a, (k0_off56 i v167 v170 v173 v176 v179 v182 v185) a + S1.size a ≤ S72.size a := fun i v167 v170 v173 v176 v179 v182 v185 k0_hw7 => k0_hw7.2.2.2.1
theorem k0_off57_inb : ∀ (i : grid0.Coords) (v167 : BitVec 32) (v170 : BitVec 32) (v173 : BitVec 32) (v176 : BitVec 32) (v179 : BitVec 32) (v182 : BitVec 32) (v185 : BitVec 32) (k0_hw7 : k0_chk7 i v167 v170 v173 v176 v179 v182 v185), ∀ a, (k0_off57 i v167 v170 v173 v176 v179 v182 v185) a + S1.size a ≤ S72.size a := fun i v167 v170 v173 v176 v179 v182 v185 k0_hw7 => k0_hw7.2.2.2.2.1
theorem k0_off58_inb : ∀ (i : grid0.Coords) (v167 : BitVec 32) (v170 : BitVec 32) (v173 : BitVec 32) (v176 : BitVec 32) (v179 : BitVec 32) (v182 : BitVec 32) (v185 : BitVec 32) (k0_hw7 : k0_chk7 i v167 v170 v173 v176 v179 v182 v185), ∀ a, (k0_off58 i v167 v170 v173 v176 v179 v182 v185) a + S1.size a ≤ S72.size a := fun i v167 v170 v173 v176 v179 v182 v185 k0_hw7 => k0_hw7.2.2.2.2.2.1
theorem k0_off59_inb : ∀ (i : grid0.Coords) (v167 : BitVec 32) (v170 : BitVec 32) (v173 : BitVec 32) (v176 : BitVec 32) (v179 : BitVec 32) (v182 : BitVec 32) (v185 : BitVec 32) (k0_hw7 : k0_chk7 i v167 v170 v173 v176 v179 v182 v185), ∀ a, (k0_off59 i v167 v170 v173 v176 v179 v182 v185) a + S1.size a ≤ S72.size a := fun i v167 v170 v173 v176 v179 v182 v185 k0_hw7 => k0_hw7.2.2.2.2.2.2.1
theorem k0_off60_inb : ∀ (i : grid0.Coords) (v167 : BitVec 32) (v170 : BitVec 32) (v173 : BitVec 32) (v176 : BitVec 32) (v179 : BitVec 32) (v182 : BitVec 32) (v185 : BitVec 32) (k0_hw7 : k0_chk7 i v167 v170 v173 v176 v179 v182 v185), ∀ a, (k0_off60 i v167 v170 v173 v176 v179 v182 v185) a + S1.size a ≤ S72.size a := fun i v167 v170 v173 v176 v179 v182 v185 k0_hw7 => k0_hw7.2.2.2.2.2.2.2

def k0_off61 (i : grid0.Coords) (v167 : BitVec 32) (v170 : BitVec 32) (v173 : BitVec 32) (v176 : BitVec 32) (v179 : BitVec 32) (v182 : BitVec 32) (v185 : BitVec 32) (v188 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let c0_i32_196 : BitVec 32 := 0#32
  let v476 : BitVec 32 := Scalar.shrsi v179 c0_i32_196
  let c3_i32_197 : BitVec 32 := 3#32
  let v477 : BitVec 32 := Scalar.andi v476 c3_i32_197
  let c0_i32_198 : BitVec 32 := 0#32
  let v478 : BitVec 1 := Scalar.cmpi .ne v477 c0_i32_198
  let c32_i32_199 : BitVec 32 := 32#32
  let v481 : BitVec 1 := Scalar.cmpi .sgt v36 c32_i32_199
  let v482 : BitVec 1 := Scalar.andi v478 v481
  let v483 : BitVec 32 := Scalar.extui v482
  let v484 : BitVec 32 := Scalar.addi v475 v483
  let c2_i32_200 : BitVec 32 := 2#32
  let v485 : BitVec 32 := Scalar.shrsi v179 c2_i32_200
  let c3_i32_201 : BitVec 32 := 3#32
  let v486 : BitVec 32 := Scalar.andi v485 c3_i32_201
  let c0_i32_202 : BitVec 32 := 0#32
  let v487 : BitVec 1 := Scalar.cmpi .ne v486 c0_i32_202
  let c33_i32_203 : BitVec 32 := 33#32
  let v490 : BitVec 1 := Scalar.cmpi .sgt v36 c33_i32_203
  let v491 : BitVec 1 := Scalar.andi v487 v490
  let v492 : BitVec 32 := Scalar.extui v491
  let v493 : BitVec 32 := Scalar.addi v484 v492
  let c4_i32_204 : BitVec 32 := 4#32
  let v494 : BitVec 32 := Scalar.shrsi v179 c4_i32_204
  let c3_i32_205 : BitVec 32 := 3#32
  let v495 : BitVec 32 := Scalar.andi v494 c3_i32_205
  let c0_i32_206 : BitVec 32 := 0#32
  let v496 : BitVec 1 := Scalar.cmpi .ne v495 c0_i32_206
  let c34_i32_207 : BitVec 32 := 34#32
  let v499 : BitVec 1 := Scalar.cmpi .sgt v36 c34_i32_207
  let v500 : BitVec 1 := Scalar.andi v496 v499
  let v501 : BitVec 32 := Scalar.extui v500
  let v502 : BitVec 32 := Scalar.addi v493 v501
  let c6_i32_208 : BitVec 32 := 6#32
  let v503 : BitVec 32 := Scalar.shrsi v179 c6_i32_208
  let c3_i32_209 : BitVec 32 := 3#32
  let v504 : BitVec 32 := Scalar.andi v503 c3_i32_209
  let c0_i32_210 : BitVec 32 := 0#32
  let v505 : BitVec 1 := Scalar.cmpi .ne v504 c0_i32_210
  let c35_i32_211 : BitVec 32 := 35#32
  let v508 : BitVec 1 := Scalar.cmpi .sgt v36 c35_i32_211
  let v509 : BitVec 1 := Scalar.andi v505 v508
  let v510 : BitVec 32 := Scalar.extui v509
  let v511 : BitVec 32 := Scalar.addi v502 v510
  let c8_i32_212 : BitVec 32 := 8#32
  let v512 : BitVec 32 := Scalar.shrsi v179 c8_i32_212
  let c3_i32_213 : BitVec 32 := 3#32
  let v513 : BitVec 32 := Scalar.andi v512 c3_i32_213
  let c0_i32_214 : BitVec 32 := 0#32
  let v514 : BitVec 1 := Scalar.cmpi .ne v513 c0_i32_214
  let c36_i32_215 : BitVec 32 := 36#32
  let v517 : BitVec 1 := Scalar.cmpi .sgt v36 c36_i32_215
  let v518 : BitVec 1 := Scalar.andi v514 v517
  let v519 : BitVec 32 := Scalar.extui v518
  let v520 : BitVec 32 := Scalar.addi v511 v519
  let c10_i32_216 : BitVec 32 := 10#32
  let v521 : BitVec 32 := Scalar.shrsi v179 c10_i32_216
  let c3_i32_217 : BitVec 32 := 3#32
  let v522 : BitVec 32 := Scalar.andi v521 c3_i32_217
  let c0_i32_218 : BitVec 32 := 0#32
  let v523 : BitVec 1 := Scalar.cmpi .ne v522 c0_i32_218
  let c37_i32_219 : BitVec 32 := 37#32
  let v526 : BitVec 1 := Scalar.cmpi .sgt v36 c37_i32_219
  let v527 : BitVec 1 := Scalar.andi v523 v526
  let v528 : BitVec 32 := Scalar.extui v527
  let v529 : BitVec 32 := Scalar.addi v520 v528
  let c12_i32_220 : BitVec 32 := 12#32
  let v530 : BitVec 32 := Scalar.shrsi v179 c12_i32_220
  let c3_i32_221 : BitVec 32 := 3#32
  let v531 : BitVec 32 := Scalar.andi v530 c3_i32_221
  let c0_i32_222 : BitVec 32 := 0#32
  let v532 : BitVec 1 := Scalar.cmpi .ne v531 c0_i32_222
  let c38_i32_223 : BitVec 32 := 38#32
  let v535 : BitVec 1 := Scalar.cmpi .sgt v36 c38_i32_223
  let v536 : BitVec 1 := Scalar.andi v532 v535
  let v537 : BitVec 32 := Scalar.extui v536
  let v538 : BitVec 32 := Scalar.addi v529 v537
  let c14_i32_224 : BitVec 32 := 14#32
  let v539 : BitVec 32 := Scalar.shrsi v179 c14_i32_224
  let c3_i32_225 : BitVec 32 := 3#32
  let v540 : BitVec 32 := Scalar.andi v539 c3_i32_225
  let c0_i32_226 : BitVec 32 := 0#32
  let v541 : BitVec 1 := Scalar.cmpi .ne v540 c0_i32_226
  let c39_i32_227 : BitVec 32 := 39#32
  let v544 : BitVec 1 := Scalar.cmpi .sgt v36 c39_i32_227
  let v545 : BitVec 1 := Scalar.andi v541 v544
  let v546 : BitVec 32 := Scalar.extui v545
  let v547 : BitVec 32 := Scalar.addi v538 v546
  let c0_i32_228 : BitVec 32 := 0#32
  let v548 : BitVec 32 := Scalar.shrsi v182 c0_i32_228
  let c3_i32_229 : BitVec 32 := 3#32
  let v549 : BitVec 32 := Scalar.andi v548 c3_i32_229
  let c0_i32_230 : BitVec 32 := 0#32
  let v550 : BitVec 1 := Scalar.cmpi .ne v549 c0_i32_230
  let c40_i32_231 : BitVec 32 := 40#32
  let v553 : BitVec 1 := Scalar.cmpi .sgt v36 c40_i32_231
  let v554 : BitVec 1 := Scalar.andi v550 v553
  let v555 : BitVec 32 := Scalar.extui v554
  let v556 : BitVec 32 := Scalar.addi v547 v555
  let c2_i32_232 : BitVec 32 := 2#32
  let v557 : BitVec 32 := Scalar.shrsi v182 c2_i32_232
  let c3_i32_233 : BitVec 32 := 3#32
  let v558 : BitVec 32 := Scalar.andi v557 c3_i32_233
  let c0_i32_234 : BitVec 32 := 0#32
  let v559 : BitVec 1 := Scalar.cmpi .ne v558 c0_i32_234
  let c41_i32_235 : BitVec 32 := 41#32
  let v562 : BitVec 1 := Scalar.cmpi .sgt v36 c41_i32_235
  let v563 : BitVec 1 := Scalar.andi v559 v562
  let v564 : BitVec 32 := Scalar.extui v563
  let v565 : BitVec 32 := Scalar.addi v556 v564
  let c4_i32_236 : BitVec 32 := 4#32
  let v566 : BitVec 32 := Scalar.shrsi v182 c4_i32_236
  let c3_i32_237 : BitVec 32 := 3#32
  let v567 : BitVec 32 := Scalar.andi v566 c3_i32_237
  let c0_i32_238 : BitVec 32 := 0#32
  let v568 : BitVec 1 := Scalar.cmpi .ne v567 c0_i32_238
  let c42_i32_239 : BitVec 32 := 42#32
  let v571 : BitVec 1 := Scalar.cmpi .sgt v36 c42_i32_239
  let v572 : BitVec 1 := Scalar.andi v568 v571
  let v573 : BitVec 32 := Scalar.extui v572
  let v574 : BitVec 32 := Scalar.addi v565 v573
  let c6_i32_240 : BitVec 32 := 6#32
  let v575 : BitVec 32 := Scalar.shrsi v182 c6_i32_240
  let c3_i32_241 : BitVec 32 := 3#32
  let v576 : BitVec 32 := Scalar.andi v575 c3_i32_241
  let c0_i32_242 : BitVec 32 := 0#32
  let v577 : BitVec 1 := Scalar.cmpi .ne v576 c0_i32_242
  let c43_i32_243 : BitVec 32 := 43#32
  let v580 : BitVec 1 := Scalar.cmpi .sgt v36 c43_i32_243
  let v581 : BitVec 1 := Scalar.andi v577 v580
  let v582 : BitVec 32 := Scalar.extui v581
  let v583 : BitVec 32 := Scalar.addi v574 v582
  let c8_i32_244 : BitVec 32 := 8#32
  let v584 : BitVec 32 := Scalar.shrsi v182 c8_i32_244
  let c3_i32_245 : BitVec 32 := 3#32
  let v585 : BitVec 32 := Scalar.andi v584 c3_i32_245
  let c0_i32_246 : BitVec 32 := 0#32
  let v586 : BitVec 1 := Scalar.cmpi .ne v585 c0_i32_246
  let c44_i32_247 : BitVec 32 := 44#32
  let v589 : BitVec 1 := Scalar.cmpi .sgt v36 c44_i32_247
  let v590 : BitVec 1 := Scalar.andi v586 v589
  let v591 : BitVec 32 := Scalar.extui v590
  let v592 : BitVec 32 := Scalar.addi v583 v591
  let c10_i32_248 : BitVec 32 := 10#32
  let v593 : BitVec 32 := Scalar.shrsi v182 c10_i32_248
  let c3_i32_249 : BitVec 32 := 3#32
  let v594 : BitVec 32 := Scalar.andi v593 c3_i32_249
  let c0_i32_250 : BitVec 32 := 0#32
  let v595 : BitVec 1 := Scalar.cmpi .ne v594 c0_i32_250
  let c45_i32_251 : BitVec 32 := 45#32
  let v598 : BitVec 1 := Scalar.cmpi .sgt v36 c45_i32_251
  let v599 : BitVec 1 := Scalar.andi v595 v598
  let v600 : BitVec 32 := Scalar.extui v599
  let v601 : BitVec 32 := Scalar.addi v592 v600
  let c12_i32_252 : BitVec 32 := 12#32
  let v602 : BitVec 32 := Scalar.shrsi v182 c12_i32_252
  let c3_i32_253 : BitVec 32 := 3#32
  let v603 : BitVec 32 := Scalar.andi v602 c3_i32_253
  let c0_i32_254 : BitVec 32 := 0#32
  let v604 : BitVec 1 := Scalar.cmpi .ne v603 c0_i32_254
  let c46_i32_255 : BitVec 32 := 46#32
  let v607 : BitVec 1 := Scalar.cmpi .sgt v36 c46_i32_255
  let v608 : BitVec 1 := Scalar.andi v604 v607
  let v609 : BitVec 32 := Scalar.extui v608
  let v610 : BitVec 32 := Scalar.addi v601 v609
  let c14_i32_256 : BitVec 32 := 14#32
  let v611 : BitVec 32 := Scalar.shrsi v182 c14_i32_256
  let c3_i32_257 : BitVec 32 := 3#32
  let v612 : BitVec 32 := Scalar.andi v611 c3_i32_257
  let c0_i32_258 : BitVec 32 := 0#32
  let v613 : BitVec 1 := Scalar.cmpi .ne v612 c0_i32_258
  let c47_i32_259 : BitVec 32 := 47#32
  let v616 : BitVec 1 := Scalar.cmpi .sgt v36 c47_i32_259
  let v617 : BitVec 1 := Scalar.andi v613 v616
  let v618 : BitVec 32 := Scalar.extui v617
  let v619 : BitVec 32 := Scalar.addi v610 v618
  let c0_i32_260 : BitVec 32 := 0#32
  let v620 : BitVec 32 := Scalar.shrsi v185 c0_i32_260
  let c3_i32_261 : BitVec 32 := 3#32
  let v621 : BitVec 32 := Scalar.andi v620 c3_i32_261
  let c0_i32_262 : BitVec 32 := 0#32
  let v622 : BitVec 1 := Scalar.cmpi .ne v621 c0_i32_262
  let c48_i32_263 : BitVec 32 := 48#32
  let v625 : BitVec 1 := Scalar.cmpi .sgt v36 c48_i32_263
  let v626 : BitVec 1 := Scalar.andi v622 v625
  let v627 : BitVec 32 := Scalar.extui v626
  let v628 : BitVec 32 := Scalar.addi v619 v627
  let c2_i32_264 : BitVec 32 := 2#32
  let v629 : BitVec 32 := Scalar.shrsi v185 c2_i32_264
  let c3_i32_265 : BitVec 32 := 3#32
  let v630 : BitVec 32 := Scalar.andi v629 c3_i32_265
  let c0_i32_266 : BitVec 32 := 0#32
  let v631 : BitVec 1 := Scalar.cmpi .ne v630 c0_i32_266
  let c49_i32_267 : BitVec 32 := 49#32
  let v634 : BitVec 1 := Scalar.cmpi .sgt v36 c49_i32_267
  let v635 : BitVec 1 := Scalar.andi v631 v634
  let v636 : BitVec 32 := Scalar.extui v635
  let v637 : BitVec 32 := Scalar.addi v628 v636
  let c4_i32_268 : BitVec 32 := 4#32
  let v638 : BitVec 32 := Scalar.shrsi v185 c4_i32_268
  let c3_i32_269 : BitVec 32 := 3#32
  let v639 : BitVec 32 := Scalar.andi v638 c3_i32_269
  let c0_i32_270 : BitVec 32 := 0#32
  let v640 : BitVec 1 := Scalar.cmpi .ne v639 c0_i32_270
  let c50_i32_271 : BitVec 32 := 50#32
  let v643 : BitVec 1 := Scalar.cmpi .sgt v36 c50_i32_271
  let v644 : BitVec 1 := Scalar.andi v640 v643
  let v645 : BitVec 32 := Scalar.extui v644
  let v646 : BitVec 32 := Scalar.addi v637 v645
  let c6_i32_272 : BitVec 32 := 6#32
  let v647 : BitVec 32 := Scalar.shrsi v185 c6_i32_272
  let c3_i32_273 : BitVec 32 := 3#32
  let v648 : BitVec 32 := Scalar.andi v647 c3_i32_273
  let c0_i32_274 : BitVec 32 := 0#32
  let v649 : BitVec 1 := Scalar.cmpi .ne v648 c0_i32_274
  let c51_i32_275 : BitVec 32 := 51#32
  let v652 : BitVec 1 := Scalar.cmpi .sgt v36 c51_i32_275
  let v653 : BitVec 1 := Scalar.andi v649 v652
  let v654 : BitVec 32 := Scalar.extui v653
  let v655 : BitVec 32 := Scalar.addi v646 v654
  let c8_i32_276 : BitVec 32 := 8#32
  let v656 : BitVec 32 := Scalar.shrsi v185 c8_i32_276
  let c3_i32_277 : BitVec 32 := 3#32
  let v657 : BitVec 32 := Scalar.andi v656 c3_i32_277
  let c0_i32_278 : BitVec 32 := 0#32
  let v658 : BitVec 1 := Scalar.cmpi .ne v657 c0_i32_278
  let c52_i32_279 : BitVec 32 := 52#32
  let v661 : BitVec 1 := Scalar.cmpi .sgt v36 c52_i32_279
  let v662 : BitVec 1 := Scalar.andi v658 v661
  let v663 : BitVec 32 := Scalar.extui v662
  let v664 : BitVec 32 := Scalar.addi v655 v663
  let c10_i32_280 : BitVec 32 := 10#32
  let v665 : BitVec 32 := Scalar.shrsi v185 c10_i32_280
  let c3_i32_281 : BitVec 32 := 3#32
  let v666 : BitVec 32 := Scalar.andi v665 c3_i32_281
  let c0_i32_282 : BitVec 32 := 0#32
  let v667 : BitVec 1 := Scalar.cmpi .ne v666 c0_i32_282
  let c53_i32_283 : BitVec 32 := 53#32
  let v670 : BitVec 1 := Scalar.cmpi .sgt v36 c53_i32_283
  let v671 : BitVec 1 := Scalar.andi v667 v670
  let v672 : BitVec 32 := Scalar.extui v671
  let v673 : BitVec 32 := Scalar.addi v664 v672
  let c12_i32_284 : BitVec 32 := 12#32
  let v674 : BitVec 32 := Scalar.shrsi v185 c12_i32_284
  let c3_i32_285 : BitVec 32 := 3#32
  let v675 : BitVec 32 := Scalar.andi v674 c3_i32_285
  let c0_i32_286 : BitVec 32 := 0#32
  let v676 : BitVec 1 := Scalar.cmpi .ne v675 c0_i32_286
  let c54_i32_287 : BitVec 32 := 54#32
  let v679 : BitVec 1 := Scalar.cmpi .sgt v36 c54_i32_287
  let v680 : BitVec 1 := Scalar.andi v676 v679
  let v681 : BitVec 32 := Scalar.extui v680
  let v682 : BitVec 32 := Scalar.addi v673 v681
  let c14_i32_288 : BitVec 32 := 14#32
  let v683 : BitVec 32 := Scalar.shrsi v185 c14_i32_288
  let c3_i32_289 : BitVec 32 := 3#32
  let v684 : BitVec 32 := Scalar.andi v683 c3_i32_289
  let c0_i32_290 : BitVec 32 := 0#32
  let v685 : BitVec 1 := Scalar.cmpi .ne v684 c0_i32_290
  let c55_i32_291 : BitVec 32 := 55#32
  let v688 : BitVec 1 := Scalar.cmpi .sgt v36 c55_i32_291
  let v689 : BitVec 1 := Scalar.andi v685 v688
  let v690 : BitVec 32 := Scalar.extui v689
  let v691 : BitVec 32 := Scalar.addi v682 v690
  let c0_i32_292 : BitVec 32 := 0#32
  let v692 : BitVec 32 := Scalar.shrsi v188 c0_i32_292
  let c3_i32_293 : BitVec 32 := 3#32
  let v693 : BitVec 32 := Scalar.andi v692 c3_i32_293
  let c0_i32_294 : BitVec 32 := 0#32
  let v694 : BitVec 1 := Scalar.cmpi .ne v693 c0_i32_294
  let c56_i32_295 : BitVec 32 := 56#32
  let v697 : BitVec 1 := Scalar.cmpi .sgt v36 c56_i32_295
  let v698 : BitVec 1 := Scalar.andi v694 v697
  let v699 : BitVec 32 := Scalar.extui v698
  let v700 : BitVec 32 := Scalar.addi v691 v699
  let v704 : Index := Scalar.indexCast v700
  ![v704.toNat]

def k0_off62 (i : grid0.Coords) (v167 : BitVec 32) (v170 : BitVec 32) (v173 : BitVec 32) (v176 : BitVec 32) (v179 : BitVec 32) (v182 : BitVec 32) (v185 : BitVec 32) (v188 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let c0_i32_196 : BitVec 32 := 0#32
  let v476 : BitVec 32 := Scalar.shrsi v179 c0_i32_196
  let c3_i32_197 : BitVec 32 := 3#32
  let v477 : BitVec 32 := Scalar.andi v476 c3_i32_197
  let c0_i32_198 : BitVec 32 := 0#32
  let v478 : BitVec 1 := Scalar.cmpi .ne v477 c0_i32_198
  let c32_i32_199 : BitVec 32 := 32#32
  let v481 : BitVec 1 := Scalar.cmpi .sgt v36 c32_i32_199
  let v482 : BitVec 1 := Scalar.andi v478 v481
  let v483 : BitVec 32 := Scalar.extui v482
  let v484 : BitVec 32 := Scalar.addi v475 v483
  let c2_i32_200 : BitVec 32 := 2#32
  let v485 : BitVec 32 := Scalar.shrsi v179 c2_i32_200
  let c3_i32_201 : BitVec 32 := 3#32
  let v486 : BitVec 32 := Scalar.andi v485 c3_i32_201
  let c0_i32_202 : BitVec 32 := 0#32
  let v487 : BitVec 1 := Scalar.cmpi .ne v486 c0_i32_202
  let c33_i32_203 : BitVec 32 := 33#32
  let v490 : BitVec 1 := Scalar.cmpi .sgt v36 c33_i32_203
  let v491 : BitVec 1 := Scalar.andi v487 v490
  let v492 : BitVec 32 := Scalar.extui v491
  let v493 : BitVec 32 := Scalar.addi v484 v492
  let c4_i32_204 : BitVec 32 := 4#32
  let v494 : BitVec 32 := Scalar.shrsi v179 c4_i32_204
  let c3_i32_205 : BitVec 32 := 3#32
  let v495 : BitVec 32 := Scalar.andi v494 c3_i32_205
  let c0_i32_206 : BitVec 32 := 0#32
  let v496 : BitVec 1 := Scalar.cmpi .ne v495 c0_i32_206
  let c34_i32_207 : BitVec 32 := 34#32
  let v499 : BitVec 1 := Scalar.cmpi .sgt v36 c34_i32_207
  let v500 : BitVec 1 := Scalar.andi v496 v499
  let v501 : BitVec 32 := Scalar.extui v500
  let v502 : BitVec 32 := Scalar.addi v493 v501
  let c6_i32_208 : BitVec 32 := 6#32
  let v503 : BitVec 32 := Scalar.shrsi v179 c6_i32_208
  let c3_i32_209 : BitVec 32 := 3#32
  let v504 : BitVec 32 := Scalar.andi v503 c3_i32_209
  let c0_i32_210 : BitVec 32 := 0#32
  let v505 : BitVec 1 := Scalar.cmpi .ne v504 c0_i32_210
  let c35_i32_211 : BitVec 32 := 35#32
  let v508 : BitVec 1 := Scalar.cmpi .sgt v36 c35_i32_211
  let v509 : BitVec 1 := Scalar.andi v505 v508
  let v510 : BitVec 32 := Scalar.extui v509
  let v511 : BitVec 32 := Scalar.addi v502 v510
  let c8_i32_212 : BitVec 32 := 8#32
  let v512 : BitVec 32 := Scalar.shrsi v179 c8_i32_212
  let c3_i32_213 : BitVec 32 := 3#32
  let v513 : BitVec 32 := Scalar.andi v512 c3_i32_213
  let c0_i32_214 : BitVec 32 := 0#32
  let v514 : BitVec 1 := Scalar.cmpi .ne v513 c0_i32_214
  let c36_i32_215 : BitVec 32 := 36#32
  let v517 : BitVec 1 := Scalar.cmpi .sgt v36 c36_i32_215
  let v518 : BitVec 1 := Scalar.andi v514 v517
  let v519 : BitVec 32 := Scalar.extui v518
  let v520 : BitVec 32 := Scalar.addi v511 v519
  let c10_i32_216 : BitVec 32 := 10#32
  let v521 : BitVec 32 := Scalar.shrsi v179 c10_i32_216
  let c3_i32_217 : BitVec 32 := 3#32
  let v522 : BitVec 32 := Scalar.andi v521 c3_i32_217
  let c0_i32_218 : BitVec 32 := 0#32
  let v523 : BitVec 1 := Scalar.cmpi .ne v522 c0_i32_218
  let c37_i32_219 : BitVec 32 := 37#32
  let v526 : BitVec 1 := Scalar.cmpi .sgt v36 c37_i32_219
  let v527 : BitVec 1 := Scalar.andi v523 v526
  let v528 : BitVec 32 := Scalar.extui v527
  let v529 : BitVec 32 := Scalar.addi v520 v528
  let c12_i32_220 : BitVec 32 := 12#32
  let v530 : BitVec 32 := Scalar.shrsi v179 c12_i32_220
  let c3_i32_221 : BitVec 32 := 3#32
  let v531 : BitVec 32 := Scalar.andi v530 c3_i32_221
  let c0_i32_222 : BitVec 32 := 0#32
  let v532 : BitVec 1 := Scalar.cmpi .ne v531 c0_i32_222
  let c38_i32_223 : BitVec 32 := 38#32
  let v535 : BitVec 1 := Scalar.cmpi .sgt v36 c38_i32_223
  let v536 : BitVec 1 := Scalar.andi v532 v535
  let v537 : BitVec 32 := Scalar.extui v536
  let v538 : BitVec 32 := Scalar.addi v529 v537
  let c14_i32_224 : BitVec 32 := 14#32
  let v539 : BitVec 32 := Scalar.shrsi v179 c14_i32_224
  let c3_i32_225 : BitVec 32 := 3#32
  let v540 : BitVec 32 := Scalar.andi v539 c3_i32_225
  let c0_i32_226 : BitVec 32 := 0#32
  let v541 : BitVec 1 := Scalar.cmpi .ne v540 c0_i32_226
  let c39_i32_227 : BitVec 32 := 39#32
  let v544 : BitVec 1 := Scalar.cmpi .sgt v36 c39_i32_227
  let v545 : BitVec 1 := Scalar.andi v541 v544
  let v546 : BitVec 32 := Scalar.extui v545
  let v547 : BitVec 32 := Scalar.addi v538 v546
  let c0_i32_228 : BitVec 32 := 0#32
  let v548 : BitVec 32 := Scalar.shrsi v182 c0_i32_228
  let c3_i32_229 : BitVec 32 := 3#32
  let v549 : BitVec 32 := Scalar.andi v548 c3_i32_229
  let c0_i32_230 : BitVec 32 := 0#32
  let v550 : BitVec 1 := Scalar.cmpi .ne v549 c0_i32_230
  let c40_i32_231 : BitVec 32 := 40#32
  let v553 : BitVec 1 := Scalar.cmpi .sgt v36 c40_i32_231
  let v554 : BitVec 1 := Scalar.andi v550 v553
  let v555 : BitVec 32 := Scalar.extui v554
  let v556 : BitVec 32 := Scalar.addi v547 v555
  let c2_i32_232 : BitVec 32 := 2#32
  let v557 : BitVec 32 := Scalar.shrsi v182 c2_i32_232
  let c3_i32_233 : BitVec 32 := 3#32
  let v558 : BitVec 32 := Scalar.andi v557 c3_i32_233
  let c0_i32_234 : BitVec 32 := 0#32
  let v559 : BitVec 1 := Scalar.cmpi .ne v558 c0_i32_234
  let c41_i32_235 : BitVec 32 := 41#32
  let v562 : BitVec 1 := Scalar.cmpi .sgt v36 c41_i32_235
  let v563 : BitVec 1 := Scalar.andi v559 v562
  let v564 : BitVec 32 := Scalar.extui v563
  let v565 : BitVec 32 := Scalar.addi v556 v564
  let c4_i32_236 : BitVec 32 := 4#32
  let v566 : BitVec 32 := Scalar.shrsi v182 c4_i32_236
  let c3_i32_237 : BitVec 32 := 3#32
  let v567 : BitVec 32 := Scalar.andi v566 c3_i32_237
  let c0_i32_238 : BitVec 32 := 0#32
  let v568 : BitVec 1 := Scalar.cmpi .ne v567 c0_i32_238
  let c42_i32_239 : BitVec 32 := 42#32
  let v571 : BitVec 1 := Scalar.cmpi .sgt v36 c42_i32_239
  let v572 : BitVec 1 := Scalar.andi v568 v571
  let v573 : BitVec 32 := Scalar.extui v572
  let v574 : BitVec 32 := Scalar.addi v565 v573
  let c6_i32_240 : BitVec 32 := 6#32
  let v575 : BitVec 32 := Scalar.shrsi v182 c6_i32_240
  let c3_i32_241 : BitVec 32 := 3#32
  let v576 : BitVec 32 := Scalar.andi v575 c3_i32_241
  let c0_i32_242 : BitVec 32 := 0#32
  let v577 : BitVec 1 := Scalar.cmpi .ne v576 c0_i32_242
  let c43_i32_243 : BitVec 32 := 43#32
  let v580 : BitVec 1 := Scalar.cmpi .sgt v36 c43_i32_243
  let v581 : BitVec 1 := Scalar.andi v577 v580
  let v582 : BitVec 32 := Scalar.extui v581
  let v583 : BitVec 32 := Scalar.addi v574 v582
  let c8_i32_244 : BitVec 32 := 8#32
  let v584 : BitVec 32 := Scalar.shrsi v182 c8_i32_244
  let c3_i32_245 : BitVec 32 := 3#32
  let v585 : BitVec 32 := Scalar.andi v584 c3_i32_245
  let c0_i32_246 : BitVec 32 := 0#32
  let v586 : BitVec 1 := Scalar.cmpi .ne v585 c0_i32_246
  let c44_i32_247 : BitVec 32 := 44#32
  let v589 : BitVec 1 := Scalar.cmpi .sgt v36 c44_i32_247
  let v590 : BitVec 1 := Scalar.andi v586 v589
  let v591 : BitVec 32 := Scalar.extui v590
  let v592 : BitVec 32 := Scalar.addi v583 v591
  let c10_i32_248 : BitVec 32 := 10#32
  let v593 : BitVec 32 := Scalar.shrsi v182 c10_i32_248
  let c3_i32_249 : BitVec 32 := 3#32
  let v594 : BitVec 32 := Scalar.andi v593 c3_i32_249
  let c0_i32_250 : BitVec 32 := 0#32
  let v595 : BitVec 1 := Scalar.cmpi .ne v594 c0_i32_250
  let c45_i32_251 : BitVec 32 := 45#32
  let v598 : BitVec 1 := Scalar.cmpi .sgt v36 c45_i32_251
  let v599 : BitVec 1 := Scalar.andi v595 v598
  let v600 : BitVec 32 := Scalar.extui v599
  let v601 : BitVec 32 := Scalar.addi v592 v600
  let c12_i32_252 : BitVec 32 := 12#32
  let v602 : BitVec 32 := Scalar.shrsi v182 c12_i32_252
  let c3_i32_253 : BitVec 32 := 3#32
  let v603 : BitVec 32 := Scalar.andi v602 c3_i32_253
  let c0_i32_254 : BitVec 32 := 0#32
  let v604 : BitVec 1 := Scalar.cmpi .ne v603 c0_i32_254
  let c46_i32_255 : BitVec 32 := 46#32
  let v607 : BitVec 1 := Scalar.cmpi .sgt v36 c46_i32_255
  let v608 : BitVec 1 := Scalar.andi v604 v607
  let v609 : BitVec 32 := Scalar.extui v608
  let v610 : BitVec 32 := Scalar.addi v601 v609
  let c14_i32_256 : BitVec 32 := 14#32
  let v611 : BitVec 32 := Scalar.shrsi v182 c14_i32_256
  let c3_i32_257 : BitVec 32 := 3#32
  let v612 : BitVec 32 := Scalar.andi v611 c3_i32_257
  let c0_i32_258 : BitVec 32 := 0#32
  let v613 : BitVec 1 := Scalar.cmpi .ne v612 c0_i32_258
  let c47_i32_259 : BitVec 32 := 47#32
  let v616 : BitVec 1 := Scalar.cmpi .sgt v36 c47_i32_259
  let v617 : BitVec 1 := Scalar.andi v613 v616
  let v618 : BitVec 32 := Scalar.extui v617
  let v619 : BitVec 32 := Scalar.addi v610 v618
  let c0_i32_260 : BitVec 32 := 0#32
  let v620 : BitVec 32 := Scalar.shrsi v185 c0_i32_260
  let c3_i32_261 : BitVec 32 := 3#32
  let v621 : BitVec 32 := Scalar.andi v620 c3_i32_261
  let c0_i32_262 : BitVec 32 := 0#32
  let v622 : BitVec 1 := Scalar.cmpi .ne v621 c0_i32_262
  let c48_i32_263 : BitVec 32 := 48#32
  let v625 : BitVec 1 := Scalar.cmpi .sgt v36 c48_i32_263
  let v626 : BitVec 1 := Scalar.andi v622 v625
  let v627 : BitVec 32 := Scalar.extui v626
  let v628 : BitVec 32 := Scalar.addi v619 v627
  let c2_i32_264 : BitVec 32 := 2#32
  let v629 : BitVec 32 := Scalar.shrsi v185 c2_i32_264
  let c3_i32_265 : BitVec 32 := 3#32
  let v630 : BitVec 32 := Scalar.andi v629 c3_i32_265
  let c0_i32_266 : BitVec 32 := 0#32
  let v631 : BitVec 1 := Scalar.cmpi .ne v630 c0_i32_266
  let c49_i32_267 : BitVec 32 := 49#32
  let v634 : BitVec 1 := Scalar.cmpi .sgt v36 c49_i32_267
  let v635 : BitVec 1 := Scalar.andi v631 v634
  let v636 : BitVec 32 := Scalar.extui v635
  let v637 : BitVec 32 := Scalar.addi v628 v636
  let c4_i32_268 : BitVec 32 := 4#32
  let v638 : BitVec 32 := Scalar.shrsi v185 c4_i32_268
  let c3_i32_269 : BitVec 32 := 3#32
  let v639 : BitVec 32 := Scalar.andi v638 c3_i32_269
  let c0_i32_270 : BitVec 32 := 0#32
  let v640 : BitVec 1 := Scalar.cmpi .ne v639 c0_i32_270
  let c50_i32_271 : BitVec 32 := 50#32
  let v643 : BitVec 1 := Scalar.cmpi .sgt v36 c50_i32_271
  let v644 : BitVec 1 := Scalar.andi v640 v643
  let v645 : BitVec 32 := Scalar.extui v644
  let v646 : BitVec 32 := Scalar.addi v637 v645
  let c6_i32_272 : BitVec 32 := 6#32
  let v647 : BitVec 32 := Scalar.shrsi v185 c6_i32_272
  let c3_i32_273 : BitVec 32 := 3#32
  let v648 : BitVec 32 := Scalar.andi v647 c3_i32_273
  let c0_i32_274 : BitVec 32 := 0#32
  let v649 : BitVec 1 := Scalar.cmpi .ne v648 c0_i32_274
  let c51_i32_275 : BitVec 32 := 51#32
  let v652 : BitVec 1 := Scalar.cmpi .sgt v36 c51_i32_275
  let v653 : BitVec 1 := Scalar.andi v649 v652
  let v654 : BitVec 32 := Scalar.extui v653
  let v655 : BitVec 32 := Scalar.addi v646 v654
  let c8_i32_276 : BitVec 32 := 8#32
  let v656 : BitVec 32 := Scalar.shrsi v185 c8_i32_276
  let c3_i32_277 : BitVec 32 := 3#32
  let v657 : BitVec 32 := Scalar.andi v656 c3_i32_277
  let c0_i32_278 : BitVec 32 := 0#32
  let v658 : BitVec 1 := Scalar.cmpi .ne v657 c0_i32_278
  let c52_i32_279 : BitVec 32 := 52#32
  let v661 : BitVec 1 := Scalar.cmpi .sgt v36 c52_i32_279
  let v662 : BitVec 1 := Scalar.andi v658 v661
  let v663 : BitVec 32 := Scalar.extui v662
  let v664 : BitVec 32 := Scalar.addi v655 v663
  let c10_i32_280 : BitVec 32 := 10#32
  let v665 : BitVec 32 := Scalar.shrsi v185 c10_i32_280
  let c3_i32_281 : BitVec 32 := 3#32
  let v666 : BitVec 32 := Scalar.andi v665 c3_i32_281
  let c0_i32_282 : BitVec 32 := 0#32
  let v667 : BitVec 1 := Scalar.cmpi .ne v666 c0_i32_282
  let c53_i32_283 : BitVec 32 := 53#32
  let v670 : BitVec 1 := Scalar.cmpi .sgt v36 c53_i32_283
  let v671 : BitVec 1 := Scalar.andi v667 v670
  let v672 : BitVec 32 := Scalar.extui v671
  let v673 : BitVec 32 := Scalar.addi v664 v672
  let c12_i32_284 : BitVec 32 := 12#32
  let v674 : BitVec 32 := Scalar.shrsi v185 c12_i32_284
  let c3_i32_285 : BitVec 32 := 3#32
  let v675 : BitVec 32 := Scalar.andi v674 c3_i32_285
  let c0_i32_286 : BitVec 32 := 0#32
  let v676 : BitVec 1 := Scalar.cmpi .ne v675 c0_i32_286
  let c54_i32_287 : BitVec 32 := 54#32
  let v679 : BitVec 1 := Scalar.cmpi .sgt v36 c54_i32_287
  let v680 : BitVec 1 := Scalar.andi v676 v679
  let v681 : BitVec 32 := Scalar.extui v680
  let v682 : BitVec 32 := Scalar.addi v673 v681
  let c14_i32_288 : BitVec 32 := 14#32
  let v683 : BitVec 32 := Scalar.shrsi v185 c14_i32_288
  let c3_i32_289 : BitVec 32 := 3#32
  let v684 : BitVec 32 := Scalar.andi v683 c3_i32_289
  let c0_i32_290 : BitVec 32 := 0#32
  let v685 : BitVec 1 := Scalar.cmpi .ne v684 c0_i32_290
  let c55_i32_291 : BitVec 32 := 55#32
  let v688 : BitVec 1 := Scalar.cmpi .sgt v36 c55_i32_291
  let v689 : BitVec 1 := Scalar.andi v685 v688
  let v690 : BitVec 32 := Scalar.extui v689
  let v691 : BitVec 32 := Scalar.addi v682 v690
  let c0_i32_292 : BitVec 32 := 0#32
  let v692 : BitVec 32 := Scalar.shrsi v188 c0_i32_292
  let c3_i32_293 : BitVec 32 := 3#32
  let v693 : BitVec 32 := Scalar.andi v692 c3_i32_293
  let c0_i32_294 : BitVec 32 := 0#32
  let v694 : BitVec 1 := Scalar.cmpi .ne v693 c0_i32_294
  let c56_i32_295 : BitVec 32 := 56#32
  let v697 : BitVec 1 := Scalar.cmpi .sgt v36 c56_i32_295
  let v698 : BitVec 1 := Scalar.andi v694 v697
  let v699 : BitVec 32 := Scalar.extui v698
  let v700 : BitVec 32 := Scalar.addi v691 v699
  let c2_i32_296 : BitVec 32 := 2#32
  let v701 : BitVec 32 := Scalar.shrsi v188 c2_i32_296
  let c3_i32_297 : BitVec 32 := 3#32
  let v702 : BitVec 32 := Scalar.andi v701 c3_i32_297
  let c0_i32_298 : BitVec 32 := 0#32
  let v703 : BitVec 1 := Scalar.cmpi .ne v702 c0_i32_298
  let c57_i32_299 : BitVec 32 := 57#32
  let v706 : BitVec 1 := Scalar.cmpi .sgt v36 c57_i32_299
  let v707 : BitVec 1 := Scalar.andi v703 v706
  let v708 : BitVec 32 := Scalar.extui v707
  let v709 : BitVec 32 := Scalar.addi v700 v708
  let v713 : Index := Scalar.indexCast v709
  ![v713.toNat]
def k0_off63 (i : grid0.Coords) (v167 : BitVec 32) (v170 : BitVec 32) (v173 : BitVec 32) (v176 : BitVec 32) (v179 : BitVec 32) (v182 : BitVec 32) (v185 : BitVec 32) (v188 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let c0_i32_196 : BitVec 32 := 0#32
  let v476 : BitVec 32 := Scalar.shrsi v179 c0_i32_196
  let c3_i32_197 : BitVec 32 := 3#32
  let v477 : BitVec 32 := Scalar.andi v476 c3_i32_197
  let c0_i32_198 : BitVec 32 := 0#32
  let v478 : BitVec 1 := Scalar.cmpi .ne v477 c0_i32_198
  let c32_i32_199 : BitVec 32 := 32#32
  let v481 : BitVec 1 := Scalar.cmpi .sgt v36 c32_i32_199
  let v482 : BitVec 1 := Scalar.andi v478 v481
  let v483 : BitVec 32 := Scalar.extui v482
  let v484 : BitVec 32 := Scalar.addi v475 v483
  let c2_i32_200 : BitVec 32 := 2#32
  let v485 : BitVec 32 := Scalar.shrsi v179 c2_i32_200
  let c3_i32_201 : BitVec 32 := 3#32
  let v486 : BitVec 32 := Scalar.andi v485 c3_i32_201
  let c0_i32_202 : BitVec 32 := 0#32
  let v487 : BitVec 1 := Scalar.cmpi .ne v486 c0_i32_202
  let c33_i32_203 : BitVec 32 := 33#32
  let v490 : BitVec 1 := Scalar.cmpi .sgt v36 c33_i32_203
  let v491 : BitVec 1 := Scalar.andi v487 v490
  let v492 : BitVec 32 := Scalar.extui v491
  let v493 : BitVec 32 := Scalar.addi v484 v492
  let c4_i32_204 : BitVec 32 := 4#32
  let v494 : BitVec 32 := Scalar.shrsi v179 c4_i32_204
  let c3_i32_205 : BitVec 32 := 3#32
  let v495 : BitVec 32 := Scalar.andi v494 c3_i32_205
  let c0_i32_206 : BitVec 32 := 0#32
  let v496 : BitVec 1 := Scalar.cmpi .ne v495 c0_i32_206
  let c34_i32_207 : BitVec 32 := 34#32
  let v499 : BitVec 1 := Scalar.cmpi .sgt v36 c34_i32_207
  let v500 : BitVec 1 := Scalar.andi v496 v499
  let v501 : BitVec 32 := Scalar.extui v500
  let v502 : BitVec 32 := Scalar.addi v493 v501
  let c6_i32_208 : BitVec 32 := 6#32
  let v503 : BitVec 32 := Scalar.shrsi v179 c6_i32_208
  let c3_i32_209 : BitVec 32 := 3#32
  let v504 : BitVec 32 := Scalar.andi v503 c3_i32_209
  let c0_i32_210 : BitVec 32 := 0#32
  let v505 : BitVec 1 := Scalar.cmpi .ne v504 c0_i32_210
  let c35_i32_211 : BitVec 32 := 35#32
  let v508 : BitVec 1 := Scalar.cmpi .sgt v36 c35_i32_211
  let v509 : BitVec 1 := Scalar.andi v505 v508
  let v510 : BitVec 32 := Scalar.extui v509
  let v511 : BitVec 32 := Scalar.addi v502 v510
  let c8_i32_212 : BitVec 32 := 8#32
  let v512 : BitVec 32 := Scalar.shrsi v179 c8_i32_212
  let c3_i32_213 : BitVec 32 := 3#32
  let v513 : BitVec 32 := Scalar.andi v512 c3_i32_213
  let c0_i32_214 : BitVec 32 := 0#32
  let v514 : BitVec 1 := Scalar.cmpi .ne v513 c0_i32_214
  let c36_i32_215 : BitVec 32 := 36#32
  let v517 : BitVec 1 := Scalar.cmpi .sgt v36 c36_i32_215
  let v518 : BitVec 1 := Scalar.andi v514 v517
  let v519 : BitVec 32 := Scalar.extui v518
  let v520 : BitVec 32 := Scalar.addi v511 v519
  let c10_i32_216 : BitVec 32 := 10#32
  let v521 : BitVec 32 := Scalar.shrsi v179 c10_i32_216
  let c3_i32_217 : BitVec 32 := 3#32
  let v522 : BitVec 32 := Scalar.andi v521 c3_i32_217
  let c0_i32_218 : BitVec 32 := 0#32
  let v523 : BitVec 1 := Scalar.cmpi .ne v522 c0_i32_218
  let c37_i32_219 : BitVec 32 := 37#32
  let v526 : BitVec 1 := Scalar.cmpi .sgt v36 c37_i32_219
  let v527 : BitVec 1 := Scalar.andi v523 v526
  let v528 : BitVec 32 := Scalar.extui v527
  let v529 : BitVec 32 := Scalar.addi v520 v528
  let c12_i32_220 : BitVec 32 := 12#32
  let v530 : BitVec 32 := Scalar.shrsi v179 c12_i32_220
  let c3_i32_221 : BitVec 32 := 3#32
  let v531 : BitVec 32 := Scalar.andi v530 c3_i32_221
  let c0_i32_222 : BitVec 32 := 0#32
  let v532 : BitVec 1 := Scalar.cmpi .ne v531 c0_i32_222
  let c38_i32_223 : BitVec 32 := 38#32
  let v535 : BitVec 1 := Scalar.cmpi .sgt v36 c38_i32_223
  let v536 : BitVec 1 := Scalar.andi v532 v535
  let v537 : BitVec 32 := Scalar.extui v536
  let v538 : BitVec 32 := Scalar.addi v529 v537
  let c14_i32_224 : BitVec 32 := 14#32
  let v539 : BitVec 32 := Scalar.shrsi v179 c14_i32_224
  let c3_i32_225 : BitVec 32 := 3#32
  let v540 : BitVec 32 := Scalar.andi v539 c3_i32_225
  let c0_i32_226 : BitVec 32 := 0#32
  let v541 : BitVec 1 := Scalar.cmpi .ne v540 c0_i32_226
  let c39_i32_227 : BitVec 32 := 39#32
  let v544 : BitVec 1 := Scalar.cmpi .sgt v36 c39_i32_227
  let v545 : BitVec 1 := Scalar.andi v541 v544
  let v546 : BitVec 32 := Scalar.extui v545
  let v547 : BitVec 32 := Scalar.addi v538 v546
  let c0_i32_228 : BitVec 32 := 0#32
  let v548 : BitVec 32 := Scalar.shrsi v182 c0_i32_228
  let c3_i32_229 : BitVec 32 := 3#32
  let v549 : BitVec 32 := Scalar.andi v548 c3_i32_229
  let c0_i32_230 : BitVec 32 := 0#32
  let v550 : BitVec 1 := Scalar.cmpi .ne v549 c0_i32_230
  let c40_i32_231 : BitVec 32 := 40#32
  let v553 : BitVec 1 := Scalar.cmpi .sgt v36 c40_i32_231
  let v554 : BitVec 1 := Scalar.andi v550 v553
  let v555 : BitVec 32 := Scalar.extui v554
  let v556 : BitVec 32 := Scalar.addi v547 v555
  let c2_i32_232 : BitVec 32 := 2#32
  let v557 : BitVec 32 := Scalar.shrsi v182 c2_i32_232
  let c3_i32_233 : BitVec 32 := 3#32
  let v558 : BitVec 32 := Scalar.andi v557 c3_i32_233
  let c0_i32_234 : BitVec 32 := 0#32
  let v559 : BitVec 1 := Scalar.cmpi .ne v558 c0_i32_234
  let c41_i32_235 : BitVec 32 := 41#32
  let v562 : BitVec 1 := Scalar.cmpi .sgt v36 c41_i32_235
  let v563 : BitVec 1 := Scalar.andi v559 v562
  let v564 : BitVec 32 := Scalar.extui v563
  let v565 : BitVec 32 := Scalar.addi v556 v564
  let c4_i32_236 : BitVec 32 := 4#32
  let v566 : BitVec 32 := Scalar.shrsi v182 c4_i32_236
  let c3_i32_237 : BitVec 32 := 3#32
  let v567 : BitVec 32 := Scalar.andi v566 c3_i32_237
  let c0_i32_238 : BitVec 32 := 0#32
  let v568 : BitVec 1 := Scalar.cmpi .ne v567 c0_i32_238
  let c42_i32_239 : BitVec 32 := 42#32
  let v571 : BitVec 1 := Scalar.cmpi .sgt v36 c42_i32_239
  let v572 : BitVec 1 := Scalar.andi v568 v571
  let v573 : BitVec 32 := Scalar.extui v572
  let v574 : BitVec 32 := Scalar.addi v565 v573
  let c6_i32_240 : BitVec 32 := 6#32
  let v575 : BitVec 32 := Scalar.shrsi v182 c6_i32_240
  let c3_i32_241 : BitVec 32 := 3#32
  let v576 : BitVec 32 := Scalar.andi v575 c3_i32_241
  let c0_i32_242 : BitVec 32 := 0#32
  let v577 : BitVec 1 := Scalar.cmpi .ne v576 c0_i32_242
  let c43_i32_243 : BitVec 32 := 43#32
  let v580 : BitVec 1 := Scalar.cmpi .sgt v36 c43_i32_243
  let v581 : BitVec 1 := Scalar.andi v577 v580
  let v582 : BitVec 32 := Scalar.extui v581
  let v583 : BitVec 32 := Scalar.addi v574 v582
  let c8_i32_244 : BitVec 32 := 8#32
  let v584 : BitVec 32 := Scalar.shrsi v182 c8_i32_244
  let c3_i32_245 : BitVec 32 := 3#32
  let v585 : BitVec 32 := Scalar.andi v584 c3_i32_245
  let c0_i32_246 : BitVec 32 := 0#32
  let v586 : BitVec 1 := Scalar.cmpi .ne v585 c0_i32_246
  let c44_i32_247 : BitVec 32 := 44#32
  let v589 : BitVec 1 := Scalar.cmpi .sgt v36 c44_i32_247
  let v590 : BitVec 1 := Scalar.andi v586 v589
  let v591 : BitVec 32 := Scalar.extui v590
  let v592 : BitVec 32 := Scalar.addi v583 v591
  let c10_i32_248 : BitVec 32 := 10#32
  let v593 : BitVec 32 := Scalar.shrsi v182 c10_i32_248
  let c3_i32_249 : BitVec 32 := 3#32
  let v594 : BitVec 32 := Scalar.andi v593 c3_i32_249
  let c0_i32_250 : BitVec 32 := 0#32
  let v595 : BitVec 1 := Scalar.cmpi .ne v594 c0_i32_250
  let c45_i32_251 : BitVec 32 := 45#32
  let v598 : BitVec 1 := Scalar.cmpi .sgt v36 c45_i32_251
  let v599 : BitVec 1 := Scalar.andi v595 v598
  let v600 : BitVec 32 := Scalar.extui v599
  let v601 : BitVec 32 := Scalar.addi v592 v600
  let c12_i32_252 : BitVec 32 := 12#32
  let v602 : BitVec 32 := Scalar.shrsi v182 c12_i32_252
  let c3_i32_253 : BitVec 32 := 3#32
  let v603 : BitVec 32 := Scalar.andi v602 c3_i32_253
  let c0_i32_254 : BitVec 32 := 0#32
  let v604 : BitVec 1 := Scalar.cmpi .ne v603 c0_i32_254
  let c46_i32_255 : BitVec 32 := 46#32
  let v607 : BitVec 1 := Scalar.cmpi .sgt v36 c46_i32_255
  let v608 : BitVec 1 := Scalar.andi v604 v607
  let v609 : BitVec 32 := Scalar.extui v608
  let v610 : BitVec 32 := Scalar.addi v601 v609
  let c14_i32_256 : BitVec 32 := 14#32
  let v611 : BitVec 32 := Scalar.shrsi v182 c14_i32_256
  let c3_i32_257 : BitVec 32 := 3#32
  let v612 : BitVec 32 := Scalar.andi v611 c3_i32_257
  let c0_i32_258 : BitVec 32 := 0#32
  let v613 : BitVec 1 := Scalar.cmpi .ne v612 c0_i32_258
  let c47_i32_259 : BitVec 32 := 47#32
  let v616 : BitVec 1 := Scalar.cmpi .sgt v36 c47_i32_259
  let v617 : BitVec 1 := Scalar.andi v613 v616
  let v618 : BitVec 32 := Scalar.extui v617
  let v619 : BitVec 32 := Scalar.addi v610 v618
  let c0_i32_260 : BitVec 32 := 0#32
  let v620 : BitVec 32 := Scalar.shrsi v185 c0_i32_260
  let c3_i32_261 : BitVec 32 := 3#32
  let v621 : BitVec 32 := Scalar.andi v620 c3_i32_261
  let c0_i32_262 : BitVec 32 := 0#32
  let v622 : BitVec 1 := Scalar.cmpi .ne v621 c0_i32_262
  let c48_i32_263 : BitVec 32 := 48#32
  let v625 : BitVec 1 := Scalar.cmpi .sgt v36 c48_i32_263
  let v626 : BitVec 1 := Scalar.andi v622 v625
  let v627 : BitVec 32 := Scalar.extui v626
  let v628 : BitVec 32 := Scalar.addi v619 v627
  let c2_i32_264 : BitVec 32 := 2#32
  let v629 : BitVec 32 := Scalar.shrsi v185 c2_i32_264
  let c3_i32_265 : BitVec 32 := 3#32
  let v630 : BitVec 32 := Scalar.andi v629 c3_i32_265
  let c0_i32_266 : BitVec 32 := 0#32
  let v631 : BitVec 1 := Scalar.cmpi .ne v630 c0_i32_266
  let c49_i32_267 : BitVec 32 := 49#32
  let v634 : BitVec 1 := Scalar.cmpi .sgt v36 c49_i32_267
  let v635 : BitVec 1 := Scalar.andi v631 v634
  let v636 : BitVec 32 := Scalar.extui v635
  let v637 : BitVec 32 := Scalar.addi v628 v636
  let c4_i32_268 : BitVec 32 := 4#32
  let v638 : BitVec 32 := Scalar.shrsi v185 c4_i32_268
  let c3_i32_269 : BitVec 32 := 3#32
  let v639 : BitVec 32 := Scalar.andi v638 c3_i32_269
  let c0_i32_270 : BitVec 32 := 0#32
  let v640 : BitVec 1 := Scalar.cmpi .ne v639 c0_i32_270
  let c50_i32_271 : BitVec 32 := 50#32
  let v643 : BitVec 1 := Scalar.cmpi .sgt v36 c50_i32_271
  let v644 : BitVec 1 := Scalar.andi v640 v643
  let v645 : BitVec 32 := Scalar.extui v644
  let v646 : BitVec 32 := Scalar.addi v637 v645
  let c6_i32_272 : BitVec 32 := 6#32
  let v647 : BitVec 32 := Scalar.shrsi v185 c6_i32_272
  let c3_i32_273 : BitVec 32 := 3#32
  let v648 : BitVec 32 := Scalar.andi v647 c3_i32_273
  let c0_i32_274 : BitVec 32 := 0#32
  let v649 : BitVec 1 := Scalar.cmpi .ne v648 c0_i32_274
  let c51_i32_275 : BitVec 32 := 51#32
  let v652 : BitVec 1 := Scalar.cmpi .sgt v36 c51_i32_275
  let v653 : BitVec 1 := Scalar.andi v649 v652
  let v654 : BitVec 32 := Scalar.extui v653
  let v655 : BitVec 32 := Scalar.addi v646 v654
  let c8_i32_276 : BitVec 32 := 8#32
  let v656 : BitVec 32 := Scalar.shrsi v185 c8_i32_276
  let c3_i32_277 : BitVec 32 := 3#32
  let v657 : BitVec 32 := Scalar.andi v656 c3_i32_277
  let c0_i32_278 : BitVec 32 := 0#32
  let v658 : BitVec 1 := Scalar.cmpi .ne v657 c0_i32_278
  let c52_i32_279 : BitVec 32 := 52#32
  let v661 : BitVec 1 := Scalar.cmpi .sgt v36 c52_i32_279
  let v662 : BitVec 1 := Scalar.andi v658 v661
  let v663 : BitVec 32 := Scalar.extui v662
  let v664 : BitVec 32 := Scalar.addi v655 v663
  let c10_i32_280 : BitVec 32 := 10#32
  let v665 : BitVec 32 := Scalar.shrsi v185 c10_i32_280
  let c3_i32_281 : BitVec 32 := 3#32
  let v666 : BitVec 32 := Scalar.andi v665 c3_i32_281
  let c0_i32_282 : BitVec 32 := 0#32
  let v667 : BitVec 1 := Scalar.cmpi .ne v666 c0_i32_282
  let c53_i32_283 : BitVec 32 := 53#32
  let v670 : BitVec 1 := Scalar.cmpi .sgt v36 c53_i32_283
  let v671 : BitVec 1 := Scalar.andi v667 v670
  let v672 : BitVec 32 := Scalar.extui v671
  let v673 : BitVec 32 := Scalar.addi v664 v672
  let c12_i32_284 : BitVec 32 := 12#32
  let v674 : BitVec 32 := Scalar.shrsi v185 c12_i32_284
  let c3_i32_285 : BitVec 32 := 3#32
  let v675 : BitVec 32 := Scalar.andi v674 c3_i32_285
  let c0_i32_286 : BitVec 32 := 0#32
  let v676 : BitVec 1 := Scalar.cmpi .ne v675 c0_i32_286
  let c54_i32_287 : BitVec 32 := 54#32
  let v679 : BitVec 1 := Scalar.cmpi .sgt v36 c54_i32_287
  let v680 : BitVec 1 := Scalar.andi v676 v679
  let v681 : BitVec 32 := Scalar.extui v680
  let v682 : BitVec 32 := Scalar.addi v673 v681
  let c14_i32_288 : BitVec 32 := 14#32
  let v683 : BitVec 32 := Scalar.shrsi v185 c14_i32_288
  let c3_i32_289 : BitVec 32 := 3#32
  let v684 : BitVec 32 := Scalar.andi v683 c3_i32_289
  let c0_i32_290 : BitVec 32 := 0#32
  let v685 : BitVec 1 := Scalar.cmpi .ne v684 c0_i32_290
  let c55_i32_291 : BitVec 32 := 55#32
  let v688 : BitVec 1 := Scalar.cmpi .sgt v36 c55_i32_291
  let v689 : BitVec 1 := Scalar.andi v685 v688
  let v690 : BitVec 32 := Scalar.extui v689
  let v691 : BitVec 32 := Scalar.addi v682 v690
  let c0_i32_292 : BitVec 32 := 0#32
  let v692 : BitVec 32 := Scalar.shrsi v188 c0_i32_292
  let c3_i32_293 : BitVec 32 := 3#32
  let v693 : BitVec 32 := Scalar.andi v692 c3_i32_293
  let c0_i32_294 : BitVec 32 := 0#32
  let v694 : BitVec 1 := Scalar.cmpi .ne v693 c0_i32_294
  let c56_i32_295 : BitVec 32 := 56#32
  let v697 : BitVec 1 := Scalar.cmpi .sgt v36 c56_i32_295
  let v698 : BitVec 1 := Scalar.andi v694 v697
  let v699 : BitVec 32 := Scalar.extui v698
  let v700 : BitVec 32 := Scalar.addi v691 v699
  let c2_i32_296 : BitVec 32 := 2#32
  let v701 : BitVec 32 := Scalar.shrsi v188 c2_i32_296
  let c3_i32_297 : BitVec 32 := 3#32
  let v702 : BitVec 32 := Scalar.andi v701 c3_i32_297
  let c0_i32_298 : BitVec 32 := 0#32
  let v703 : BitVec 1 := Scalar.cmpi .ne v702 c0_i32_298
  let c57_i32_299 : BitVec 32 := 57#32
  let v706 : BitVec 1 := Scalar.cmpi .sgt v36 c57_i32_299
  let v707 : BitVec 1 := Scalar.andi v703 v706
  let v708 : BitVec 32 := Scalar.extui v707
  let v709 : BitVec 32 := Scalar.addi v700 v708
  let c4_i32_300 : BitVec 32 := 4#32
  let v710 : BitVec 32 := Scalar.shrsi v188 c4_i32_300
  let c3_i32_301 : BitVec 32 := 3#32
  let v711 : BitVec 32 := Scalar.andi v710 c3_i32_301
  let c0_i32_302 : BitVec 32 := 0#32
  let v712 : BitVec 1 := Scalar.cmpi .ne v711 c0_i32_302
  let c58_i32_303 : BitVec 32 := 58#32
  let v715 : BitVec 1 := Scalar.cmpi .sgt v36 c58_i32_303
  let v716 : BitVec 1 := Scalar.andi v712 v715
  let v717 : BitVec 32 := Scalar.extui v716
  let v718 : BitVec 32 := Scalar.addi v709 v717
  let v722 : Index := Scalar.indexCast v718
  ![v722.toNat]
def k0_off64 (i : grid0.Coords) (v167 : BitVec 32) (v170 : BitVec 32) (v173 : BitVec 32) (v176 : BitVec 32) (v179 : BitVec 32) (v182 : BitVec 32) (v185 : BitVec 32) (v188 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let c0_i32_196 : BitVec 32 := 0#32
  let v476 : BitVec 32 := Scalar.shrsi v179 c0_i32_196
  let c3_i32_197 : BitVec 32 := 3#32
  let v477 : BitVec 32 := Scalar.andi v476 c3_i32_197
  let c0_i32_198 : BitVec 32 := 0#32
  let v478 : BitVec 1 := Scalar.cmpi .ne v477 c0_i32_198
  let c32_i32_199 : BitVec 32 := 32#32
  let v481 : BitVec 1 := Scalar.cmpi .sgt v36 c32_i32_199
  let v482 : BitVec 1 := Scalar.andi v478 v481
  let v483 : BitVec 32 := Scalar.extui v482
  let v484 : BitVec 32 := Scalar.addi v475 v483
  let c2_i32_200 : BitVec 32 := 2#32
  let v485 : BitVec 32 := Scalar.shrsi v179 c2_i32_200
  let c3_i32_201 : BitVec 32 := 3#32
  let v486 : BitVec 32 := Scalar.andi v485 c3_i32_201
  let c0_i32_202 : BitVec 32 := 0#32
  let v487 : BitVec 1 := Scalar.cmpi .ne v486 c0_i32_202
  let c33_i32_203 : BitVec 32 := 33#32
  let v490 : BitVec 1 := Scalar.cmpi .sgt v36 c33_i32_203
  let v491 : BitVec 1 := Scalar.andi v487 v490
  let v492 : BitVec 32 := Scalar.extui v491
  let v493 : BitVec 32 := Scalar.addi v484 v492
  let c4_i32_204 : BitVec 32 := 4#32
  let v494 : BitVec 32 := Scalar.shrsi v179 c4_i32_204
  let c3_i32_205 : BitVec 32 := 3#32
  let v495 : BitVec 32 := Scalar.andi v494 c3_i32_205
  let c0_i32_206 : BitVec 32 := 0#32
  let v496 : BitVec 1 := Scalar.cmpi .ne v495 c0_i32_206
  let c34_i32_207 : BitVec 32 := 34#32
  let v499 : BitVec 1 := Scalar.cmpi .sgt v36 c34_i32_207
  let v500 : BitVec 1 := Scalar.andi v496 v499
  let v501 : BitVec 32 := Scalar.extui v500
  let v502 : BitVec 32 := Scalar.addi v493 v501
  let c6_i32_208 : BitVec 32 := 6#32
  let v503 : BitVec 32 := Scalar.shrsi v179 c6_i32_208
  let c3_i32_209 : BitVec 32 := 3#32
  let v504 : BitVec 32 := Scalar.andi v503 c3_i32_209
  let c0_i32_210 : BitVec 32 := 0#32
  let v505 : BitVec 1 := Scalar.cmpi .ne v504 c0_i32_210
  let c35_i32_211 : BitVec 32 := 35#32
  let v508 : BitVec 1 := Scalar.cmpi .sgt v36 c35_i32_211
  let v509 : BitVec 1 := Scalar.andi v505 v508
  let v510 : BitVec 32 := Scalar.extui v509
  let v511 : BitVec 32 := Scalar.addi v502 v510
  let c8_i32_212 : BitVec 32 := 8#32
  let v512 : BitVec 32 := Scalar.shrsi v179 c8_i32_212
  let c3_i32_213 : BitVec 32 := 3#32
  let v513 : BitVec 32 := Scalar.andi v512 c3_i32_213
  let c0_i32_214 : BitVec 32 := 0#32
  let v514 : BitVec 1 := Scalar.cmpi .ne v513 c0_i32_214
  let c36_i32_215 : BitVec 32 := 36#32
  let v517 : BitVec 1 := Scalar.cmpi .sgt v36 c36_i32_215
  let v518 : BitVec 1 := Scalar.andi v514 v517
  let v519 : BitVec 32 := Scalar.extui v518
  let v520 : BitVec 32 := Scalar.addi v511 v519
  let c10_i32_216 : BitVec 32 := 10#32
  let v521 : BitVec 32 := Scalar.shrsi v179 c10_i32_216
  let c3_i32_217 : BitVec 32 := 3#32
  let v522 : BitVec 32 := Scalar.andi v521 c3_i32_217
  let c0_i32_218 : BitVec 32 := 0#32
  let v523 : BitVec 1 := Scalar.cmpi .ne v522 c0_i32_218
  let c37_i32_219 : BitVec 32 := 37#32
  let v526 : BitVec 1 := Scalar.cmpi .sgt v36 c37_i32_219
  let v527 : BitVec 1 := Scalar.andi v523 v526
  let v528 : BitVec 32 := Scalar.extui v527
  let v529 : BitVec 32 := Scalar.addi v520 v528
  let c12_i32_220 : BitVec 32 := 12#32
  let v530 : BitVec 32 := Scalar.shrsi v179 c12_i32_220
  let c3_i32_221 : BitVec 32 := 3#32
  let v531 : BitVec 32 := Scalar.andi v530 c3_i32_221
  let c0_i32_222 : BitVec 32 := 0#32
  let v532 : BitVec 1 := Scalar.cmpi .ne v531 c0_i32_222
  let c38_i32_223 : BitVec 32 := 38#32
  let v535 : BitVec 1 := Scalar.cmpi .sgt v36 c38_i32_223
  let v536 : BitVec 1 := Scalar.andi v532 v535
  let v537 : BitVec 32 := Scalar.extui v536
  let v538 : BitVec 32 := Scalar.addi v529 v537
  let c14_i32_224 : BitVec 32 := 14#32
  let v539 : BitVec 32 := Scalar.shrsi v179 c14_i32_224
  let c3_i32_225 : BitVec 32 := 3#32
  let v540 : BitVec 32 := Scalar.andi v539 c3_i32_225
  let c0_i32_226 : BitVec 32 := 0#32
  let v541 : BitVec 1 := Scalar.cmpi .ne v540 c0_i32_226
  let c39_i32_227 : BitVec 32 := 39#32
  let v544 : BitVec 1 := Scalar.cmpi .sgt v36 c39_i32_227
  let v545 : BitVec 1 := Scalar.andi v541 v544
  let v546 : BitVec 32 := Scalar.extui v545
  let v547 : BitVec 32 := Scalar.addi v538 v546
  let c0_i32_228 : BitVec 32 := 0#32
  let v548 : BitVec 32 := Scalar.shrsi v182 c0_i32_228
  let c3_i32_229 : BitVec 32 := 3#32
  let v549 : BitVec 32 := Scalar.andi v548 c3_i32_229
  let c0_i32_230 : BitVec 32 := 0#32
  let v550 : BitVec 1 := Scalar.cmpi .ne v549 c0_i32_230
  let c40_i32_231 : BitVec 32 := 40#32
  let v553 : BitVec 1 := Scalar.cmpi .sgt v36 c40_i32_231
  let v554 : BitVec 1 := Scalar.andi v550 v553
  let v555 : BitVec 32 := Scalar.extui v554
  let v556 : BitVec 32 := Scalar.addi v547 v555
  let c2_i32_232 : BitVec 32 := 2#32
  let v557 : BitVec 32 := Scalar.shrsi v182 c2_i32_232
  let c3_i32_233 : BitVec 32 := 3#32
  let v558 : BitVec 32 := Scalar.andi v557 c3_i32_233
  let c0_i32_234 : BitVec 32 := 0#32
  let v559 : BitVec 1 := Scalar.cmpi .ne v558 c0_i32_234
  let c41_i32_235 : BitVec 32 := 41#32
  let v562 : BitVec 1 := Scalar.cmpi .sgt v36 c41_i32_235
  let v563 : BitVec 1 := Scalar.andi v559 v562
  let v564 : BitVec 32 := Scalar.extui v563
  let v565 : BitVec 32 := Scalar.addi v556 v564
  let c4_i32_236 : BitVec 32 := 4#32
  let v566 : BitVec 32 := Scalar.shrsi v182 c4_i32_236
  let c3_i32_237 : BitVec 32 := 3#32
  let v567 : BitVec 32 := Scalar.andi v566 c3_i32_237
  let c0_i32_238 : BitVec 32 := 0#32
  let v568 : BitVec 1 := Scalar.cmpi .ne v567 c0_i32_238
  let c42_i32_239 : BitVec 32 := 42#32
  let v571 : BitVec 1 := Scalar.cmpi .sgt v36 c42_i32_239
  let v572 : BitVec 1 := Scalar.andi v568 v571
  let v573 : BitVec 32 := Scalar.extui v572
  let v574 : BitVec 32 := Scalar.addi v565 v573
  let c6_i32_240 : BitVec 32 := 6#32
  let v575 : BitVec 32 := Scalar.shrsi v182 c6_i32_240
  let c3_i32_241 : BitVec 32 := 3#32
  let v576 : BitVec 32 := Scalar.andi v575 c3_i32_241
  let c0_i32_242 : BitVec 32 := 0#32
  let v577 : BitVec 1 := Scalar.cmpi .ne v576 c0_i32_242
  let c43_i32_243 : BitVec 32 := 43#32
  let v580 : BitVec 1 := Scalar.cmpi .sgt v36 c43_i32_243
  let v581 : BitVec 1 := Scalar.andi v577 v580
  let v582 : BitVec 32 := Scalar.extui v581
  let v583 : BitVec 32 := Scalar.addi v574 v582
  let c8_i32_244 : BitVec 32 := 8#32
  let v584 : BitVec 32 := Scalar.shrsi v182 c8_i32_244
  let c3_i32_245 : BitVec 32 := 3#32
  let v585 : BitVec 32 := Scalar.andi v584 c3_i32_245
  let c0_i32_246 : BitVec 32 := 0#32
  let v586 : BitVec 1 := Scalar.cmpi .ne v585 c0_i32_246
  let c44_i32_247 : BitVec 32 := 44#32
  let v589 : BitVec 1 := Scalar.cmpi .sgt v36 c44_i32_247
  let v590 : BitVec 1 := Scalar.andi v586 v589
  let v591 : BitVec 32 := Scalar.extui v590
  let v592 : BitVec 32 := Scalar.addi v583 v591
  let c10_i32_248 : BitVec 32 := 10#32
  let v593 : BitVec 32 := Scalar.shrsi v182 c10_i32_248
  let c3_i32_249 : BitVec 32 := 3#32
  let v594 : BitVec 32 := Scalar.andi v593 c3_i32_249
  let c0_i32_250 : BitVec 32 := 0#32
  let v595 : BitVec 1 := Scalar.cmpi .ne v594 c0_i32_250
  let c45_i32_251 : BitVec 32 := 45#32
  let v598 : BitVec 1 := Scalar.cmpi .sgt v36 c45_i32_251
  let v599 : BitVec 1 := Scalar.andi v595 v598
  let v600 : BitVec 32 := Scalar.extui v599
  let v601 : BitVec 32 := Scalar.addi v592 v600
  let c12_i32_252 : BitVec 32 := 12#32
  let v602 : BitVec 32 := Scalar.shrsi v182 c12_i32_252
  let c3_i32_253 : BitVec 32 := 3#32
  let v603 : BitVec 32 := Scalar.andi v602 c3_i32_253
  let c0_i32_254 : BitVec 32 := 0#32
  let v604 : BitVec 1 := Scalar.cmpi .ne v603 c0_i32_254
  let c46_i32_255 : BitVec 32 := 46#32
  let v607 : BitVec 1 := Scalar.cmpi .sgt v36 c46_i32_255
  let v608 : BitVec 1 := Scalar.andi v604 v607
  let v609 : BitVec 32 := Scalar.extui v608
  let v610 : BitVec 32 := Scalar.addi v601 v609
  let c14_i32_256 : BitVec 32 := 14#32
  let v611 : BitVec 32 := Scalar.shrsi v182 c14_i32_256
  let c3_i32_257 : BitVec 32 := 3#32
  let v612 : BitVec 32 := Scalar.andi v611 c3_i32_257
  let c0_i32_258 : BitVec 32 := 0#32
  let v613 : BitVec 1 := Scalar.cmpi .ne v612 c0_i32_258
  let c47_i32_259 : BitVec 32 := 47#32
  let v616 : BitVec 1 := Scalar.cmpi .sgt v36 c47_i32_259
  let v617 : BitVec 1 := Scalar.andi v613 v616
  let v618 : BitVec 32 := Scalar.extui v617
  let v619 : BitVec 32 := Scalar.addi v610 v618
  let c0_i32_260 : BitVec 32 := 0#32
  let v620 : BitVec 32 := Scalar.shrsi v185 c0_i32_260
  let c3_i32_261 : BitVec 32 := 3#32
  let v621 : BitVec 32 := Scalar.andi v620 c3_i32_261
  let c0_i32_262 : BitVec 32 := 0#32
  let v622 : BitVec 1 := Scalar.cmpi .ne v621 c0_i32_262
  let c48_i32_263 : BitVec 32 := 48#32
  let v625 : BitVec 1 := Scalar.cmpi .sgt v36 c48_i32_263
  let v626 : BitVec 1 := Scalar.andi v622 v625
  let v627 : BitVec 32 := Scalar.extui v626
  let v628 : BitVec 32 := Scalar.addi v619 v627
  let c2_i32_264 : BitVec 32 := 2#32
  let v629 : BitVec 32 := Scalar.shrsi v185 c2_i32_264
  let c3_i32_265 : BitVec 32 := 3#32
  let v630 : BitVec 32 := Scalar.andi v629 c3_i32_265
  let c0_i32_266 : BitVec 32 := 0#32
  let v631 : BitVec 1 := Scalar.cmpi .ne v630 c0_i32_266
  let c49_i32_267 : BitVec 32 := 49#32
  let v634 : BitVec 1 := Scalar.cmpi .sgt v36 c49_i32_267
  let v635 : BitVec 1 := Scalar.andi v631 v634
  let v636 : BitVec 32 := Scalar.extui v635
  let v637 : BitVec 32 := Scalar.addi v628 v636
  let c4_i32_268 : BitVec 32 := 4#32
  let v638 : BitVec 32 := Scalar.shrsi v185 c4_i32_268
  let c3_i32_269 : BitVec 32 := 3#32
  let v639 : BitVec 32 := Scalar.andi v638 c3_i32_269
  let c0_i32_270 : BitVec 32 := 0#32
  let v640 : BitVec 1 := Scalar.cmpi .ne v639 c0_i32_270
  let c50_i32_271 : BitVec 32 := 50#32
  let v643 : BitVec 1 := Scalar.cmpi .sgt v36 c50_i32_271
  let v644 : BitVec 1 := Scalar.andi v640 v643
  let v645 : BitVec 32 := Scalar.extui v644
  let v646 : BitVec 32 := Scalar.addi v637 v645
  let c6_i32_272 : BitVec 32 := 6#32
  let v647 : BitVec 32 := Scalar.shrsi v185 c6_i32_272
  let c3_i32_273 : BitVec 32 := 3#32
  let v648 : BitVec 32 := Scalar.andi v647 c3_i32_273
  let c0_i32_274 : BitVec 32 := 0#32
  let v649 : BitVec 1 := Scalar.cmpi .ne v648 c0_i32_274
  let c51_i32_275 : BitVec 32 := 51#32
  let v652 : BitVec 1 := Scalar.cmpi .sgt v36 c51_i32_275
  let v653 : BitVec 1 := Scalar.andi v649 v652
  let v654 : BitVec 32 := Scalar.extui v653
  let v655 : BitVec 32 := Scalar.addi v646 v654
  let c8_i32_276 : BitVec 32 := 8#32
  let v656 : BitVec 32 := Scalar.shrsi v185 c8_i32_276
  let c3_i32_277 : BitVec 32 := 3#32
  let v657 : BitVec 32 := Scalar.andi v656 c3_i32_277
  let c0_i32_278 : BitVec 32 := 0#32
  let v658 : BitVec 1 := Scalar.cmpi .ne v657 c0_i32_278
  let c52_i32_279 : BitVec 32 := 52#32
  let v661 : BitVec 1 := Scalar.cmpi .sgt v36 c52_i32_279
  let v662 : BitVec 1 := Scalar.andi v658 v661
  let v663 : BitVec 32 := Scalar.extui v662
  let v664 : BitVec 32 := Scalar.addi v655 v663
  let c10_i32_280 : BitVec 32 := 10#32
  let v665 : BitVec 32 := Scalar.shrsi v185 c10_i32_280
  let c3_i32_281 : BitVec 32 := 3#32
  let v666 : BitVec 32 := Scalar.andi v665 c3_i32_281
  let c0_i32_282 : BitVec 32 := 0#32
  let v667 : BitVec 1 := Scalar.cmpi .ne v666 c0_i32_282
  let c53_i32_283 : BitVec 32 := 53#32
  let v670 : BitVec 1 := Scalar.cmpi .sgt v36 c53_i32_283
  let v671 : BitVec 1 := Scalar.andi v667 v670
  let v672 : BitVec 32 := Scalar.extui v671
  let v673 : BitVec 32 := Scalar.addi v664 v672
  let c12_i32_284 : BitVec 32 := 12#32
  let v674 : BitVec 32 := Scalar.shrsi v185 c12_i32_284
  let c3_i32_285 : BitVec 32 := 3#32
  let v675 : BitVec 32 := Scalar.andi v674 c3_i32_285
  let c0_i32_286 : BitVec 32 := 0#32
  let v676 : BitVec 1 := Scalar.cmpi .ne v675 c0_i32_286
  let c54_i32_287 : BitVec 32 := 54#32
  let v679 : BitVec 1 := Scalar.cmpi .sgt v36 c54_i32_287
  let v680 : BitVec 1 := Scalar.andi v676 v679
  let v681 : BitVec 32 := Scalar.extui v680
  let v682 : BitVec 32 := Scalar.addi v673 v681
  let c14_i32_288 : BitVec 32 := 14#32
  let v683 : BitVec 32 := Scalar.shrsi v185 c14_i32_288
  let c3_i32_289 : BitVec 32 := 3#32
  let v684 : BitVec 32 := Scalar.andi v683 c3_i32_289
  let c0_i32_290 : BitVec 32 := 0#32
  let v685 : BitVec 1 := Scalar.cmpi .ne v684 c0_i32_290
  let c55_i32_291 : BitVec 32 := 55#32
  let v688 : BitVec 1 := Scalar.cmpi .sgt v36 c55_i32_291
  let v689 : BitVec 1 := Scalar.andi v685 v688
  let v690 : BitVec 32 := Scalar.extui v689
  let v691 : BitVec 32 := Scalar.addi v682 v690
  let c0_i32_292 : BitVec 32 := 0#32
  let v692 : BitVec 32 := Scalar.shrsi v188 c0_i32_292
  let c3_i32_293 : BitVec 32 := 3#32
  let v693 : BitVec 32 := Scalar.andi v692 c3_i32_293
  let c0_i32_294 : BitVec 32 := 0#32
  let v694 : BitVec 1 := Scalar.cmpi .ne v693 c0_i32_294
  let c56_i32_295 : BitVec 32 := 56#32
  let v697 : BitVec 1 := Scalar.cmpi .sgt v36 c56_i32_295
  let v698 : BitVec 1 := Scalar.andi v694 v697
  let v699 : BitVec 32 := Scalar.extui v698
  let v700 : BitVec 32 := Scalar.addi v691 v699
  let c2_i32_296 : BitVec 32 := 2#32
  let v701 : BitVec 32 := Scalar.shrsi v188 c2_i32_296
  let c3_i32_297 : BitVec 32 := 3#32
  let v702 : BitVec 32 := Scalar.andi v701 c3_i32_297
  let c0_i32_298 : BitVec 32 := 0#32
  let v703 : BitVec 1 := Scalar.cmpi .ne v702 c0_i32_298
  let c57_i32_299 : BitVec 32 := 57#32
  let v706 : BitVec 1 := Scalar.cmpi .sgt v36 c57_i32_299
  let v707 : BitVec 1 := Scalar.andi v703 v706
  let v708 : BitVec 32 := Scalar.extui v707
  let v709 : BitVec 32 := Scalar.addi v700 v708
  let c4_i32_300 : BitVec 32 := 4#32
  let v710 : BitVec 32 := Scalar.shrsi v188 c4_i32_300
  let c3_i32_301 : BitVec 32 := 3#32
  let v711 : BitVec 32 := Scalar.andi v710 c3_i32_301
  let c0_i32_302 : BitVec 32 := 0#32
  let v712 : BitVec 1 := Scalar.cmpi .ne v711 c0_i32_302
  let c58_i32_303 : BitVec 32 := 58#32
  let v715 : BitVec 1 := Scalar.cmpi .sgt v36 c58_i32_303
  let v716 : BitVec 1 := Scalar.andi v712 v715
  let v717 : BitVec 32 := Scalar.extui v716
  let v718 : BitVec 32 := Scalar.addi v709 v717
  let c6_i32_304 : BitVec 32 := 6#32
  let v719 : BitVec 32 := Scalar.shrsi v188 c6_i32_304
  let c3_i32_305 : BitVec 32 := 3#32
  let v720 : BitVec 32 := Scalar.andi v719 c3_i32_305
  let c0_i32_306 : BitVec 32 := 0#32
  let v721 : BitVec 1 := Scalar.cmpi .ne v720 c0_i32_306
  let c59_i32_307 : BitVec 32 := 59#32
  let v724 : BitVec 1 := Scalar.cmpi .sgt v36 c59_i32_307
  let v725 : BitVec 1 := Scalar.andi v721 v724
  let v726 : BitVec 32 := Scalar.extui v725
  let v727 : BitVec 32 := Scalar.addi v718 v726
  let v731 : Index := Scalar.indexCast v727
  ![v731.toNat]
def k0_off65 (i : grid0.Coords) (v167 : BitVec 32) (v170 : BitVec 32) (v173 : BitVec 32) (v176 : BitVec 32) (v179 : BitVec 32) (v182 : BitVec 32) (v185 : BitVec 32) (v188 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let c0_i32_196 : BitVec 32 := 0#32
  let v476 : BitVec 32 := Scalar.shrsi v179 c0_i32_196
  let c3_i32_197 : BitVec 32 := 3#32
  let v477 : BitVec 32 := Scalar.andi v476 c3_i32_197
  let c0_i32_198 : BitVec 32 := 0#32
  let v478 : BitVec 1 := Scalar.cmpi .ne v477 c0_i32_198
  let c32_i32_199 : BitVec 32 := 32#32
  let v481 : BitVec 1 := Scalar.cmpi .sgt v36 c32_i32_199
  let v482 : BitVec 1 := Scalar.andi v478 v481
  let v483 : BitVec 32 := Scalar.extui v482
  let v484 : BitVec 32 := Scalar.addi v475 v483
  let c2_i32_200 : BitVec 32 := 2#32
  let v485 : BitVec 32 := Scalar.shrsi v179 c2_i32_200
  let c3_i32_201 : BitVec 32 := 3#32
  let v486 : BitVec 32 := Scalar.andi v485 c3_i32_201
  let c0_i32_202 : BitVec 32 := 0#32
  let v487 : BitVec 1 := Scalar.cmpi .ne v486 c0_i32_202
  let c33_i32_203 : BitVec 32 := 33#32
  let v490 : BitVec 1 := Scalar.cmpi .sgt v36 c33_i32_203
  let v491 : BitVec 1 := Scalar.andi v487 v490
  let v492 : BitVec 32 := Scalar.extui v491
  let v493 : BitVec 32 := Scalar.addi v484 v492
  let c4_i32_204 : BitVec 32 := 4#32
  let v494 : BitVec 32 := Scalar.shrsi v179 c4_i32_204
  let c3_i32_205 : BitVec 32 := 3#32
  let v495 : BitVec 32 := Scalar.andi v494 c3_i32_205
  let c0_i32_206 : BitVec 32 := 0#32
  let v496 : BitVec 1 := Scalar.cmpi .ne v495 c0_i32_206
  let c34_i32_207 : BitVec 32 := 34#32
  let v499 : BitVec 1 := Scalar.cmpi .sgt v36 c34_i32_207
  let v500 : BitVec 1 := Scalar.andi v496 v499
  let v501 : BitVec 32 := Scalar.extui v500
  let v502 : BitVec 32 := Scalar.addi v493 v501
  let c6_i32_208 : BitVec 32 := 6#32
  let v503 : BitVec 32 := Scalar.shrsi v179 c6_i32_208
  let c3_i32_209 : BitVec 32 := 3#32
  let v504 : BitVec 32 := Scalar.andi v503 c3_i32_209
  let c0_i32_210 : BitVec 32 := 0#32
  let v505 : BitVec 1 := Scalar.cmpi .ne v504 c0_i32_210
  let c35_i32_211 : BitVec 32 := 35#32
  let v508 : BitVec 1 := Scalar.cmpi .sgt v36 c35_i32_211
  let v509 : BitVec 1 := Scalar.andi v505 v508
  let v510 : BitVec 32 := Scalar.extui v509
  let v511 : BitVec 32 := Scalar.addi v502 v510
  let c8_i32_212 : BitVec 32 := 8#32
  let v512 : BitVec 32 := Scalar.shrsi v179 c8_i32_212
  let c3_i32_213 : BitVec 32 := 3#32
  let v513 : BitVec 32 := Scalar.andi v512 c3_i32_213
  let c0_i32_214 : BitVec 32 := 0#32
  let v514 : BitVec 1 := Scalar.cmpi .ne v513 c0_i32_214
  let c36_i32_215 : BitVec 32 := 36#32
  let v517 : BitVec 1 := Scalar.cmpi .sgt v36 c36_i32_215
  let v518 : BitVec 1 := Scalar.andi v514 v517
  let v519 : BitVec 32 := Scalar.extui v518
  let v520 : BitVec 32 := Scalar.addi v511 v519
  let c10_i32_216 : BitVec 32 := 10#32
  let v521 : BitVec 32 := Scalar.shrsi v179 c10_i32_216
  let c3_i32_217 : BitVec 32 := 3#32
  let v522 : BitVec 32 := Scalar.andi v521 c3_i32_217
  let c0_i32_218 : BitVec 32 := 0#32
  let v523 : BitVec 1 := Scalar.cmpi .ne v522 c0_i32_218
  let c37_i32_219 : BitVec 32 := 37#32
  let v526 : BitVec 1 := Scalar.cmpi .sgt v36 c37_i32_219
  let v527 : BitVec 1 := Scalar.andi v523 v526
  let v528 : BitVec 32 := Scalar.extui v527
  let v529 : BitVec 32 := Scalar.addi v520 v528
  let c12_i32_220 : BitVec 32 := 12#32
  let v530 : BitVec 32 := Scalar.shrsi v179 c12_i32_220
  let c3_i32_221 : BitVec 32 := 3#32
  let v531 : BitVec 32 := Scalar.andi v530 c3_i32_221
  let c0_i32_222 : BitVec 32 := 0#32
  let v532 : BitVec 1 := Scalar.cmpi .ne v531 c0_i32_222
  let c38_i32_223 : BitVec 32 := 38#32
  let v535 : BitVec 1 := Scalar.cmpi .sgt v36 c38_i32_223
  let v536 : BitVec 1 := Scalar.andi v532 v535
  let v537 : BitVec 32 := Scalar.extui v536
  let v538 : BitVec 32 := Scalar.addi v529 v537
  let c14_i32_224 : BitVec 32 := 14#32
  let v539 : BitVec 32 := Scalar.shrsi v179 c14_i32_224
  let c3_i32_225 : BitVec 32 := 3#32
  let v540 : BitVec 32 := Scalar.andi v539 c3_i32_225
  let c0_i32_226 : BitVec 32 := 0#32
  let v541 : BitVec 1 := Scalar.cmpi .ne v540 c0_i32_226
  let c39_i32_227 : BitVec 32 := 39#32
  let v544 : BitVec 1 := Scalar.cmpi .sgt v36 c39_i32_227
  let v545 : BitVec 1 := Scalar.andi v541 v544
  let v546 : BitVec 32 := Scalar.extui v545
  let v547 : BitVec 32 := Scalar.addi v538 v546
  let c0_i32_228 : BitVec 32 := 0#32
  let v548 : BitVec 32 := Scalar.shrsi v182 c0_i32_228
  let c3_i32_229 : BitVec 32 := 3#32
  let v549 : BitVec 32 := Scalar.andi v548 c3_i32_229
  let c0_i32_230 : BitVec 32 := 0#32
  let v550 : BitVec 1 := Scalar.cmpi .ne v549 c0_i32_230
  let c40_i32_231 : BitVec 32 := 40#32
  let v553 : BitVec 1 := Scalar.cmpi .sgt v36 c40_i32_231
  let v554 : BitVec 1 := Scalar.andi v550 v553
  let v555 : BitVec 32 := Scalar.extui v554
  let v556 : BitVec 32 := Scalar.addi v547 v555
  let c2_i32_232 : BitVec 32 := 2#32
  let v557 : BitVec 32 := Scalar.shrsi v182 c2_i32_232
  let c3_i32_233 : BitVec 32 := 3#32
  let v558 : BitVec 32 := Scalar.andi v557 c3_i32_233
  let c0_i32_234 : BitVec 32 := 0#32
  let v559 : BitVec 1 := Scalar.cmpi .ne v558 c0_i32_234
  let c41_i32_235 : BitVec 32 := 41#32
  let v562 : BitVec 1 := Scalar.cmpi .sgt v36 c41_i32_235
  let v563 : BitVec 1 := Scalar.andi v559 v562
  let v564 : BitVec 32 := Scalar.extui v563
  let v565 : BitVec 32 := Scalar.addi v556 v564
  let c4_i32_236 : BitVec 32 := 4#32
  let v566 : BitVec 32 := Scalar.shrsi v182 c4_i32_236
  let c3_i32_237 : BitVec 32 := 3#32
  let v567 : BitVec 32 := Scalar.andi v566 c3_i32_237
  let c0_i32_238 : BitVec 32 := 0#32
  let v568 : BitVec 1 := Scalar.cmpi .ne v567 c0_i32_238
  let c42_i32_239 : BitVec 32 := 42#32
  let v571 : BitVec 1 := Scalar.cmpi .sgt v36 c42_i32_239
  let v572 : BitVec 1 := Scalar.andi v568 v571
  let v573 : BitVec 32 := Scalar.extui v572
  let v574 : BitVec 32 := Scalar.addi v565 v573
  let c6_i32_240 : BitVec 32 := 6#32
  let v575 : BitVec 32 := Scalar.shrsi v182 c6_i32_240
  let c3_i32_241 : BitVec 32 := 3#32
  let v576 : BitVec 32 := Scalar.andi v575 c3_i32_241
  let c0_i32_242 : BitVec 32 := 0#32
  let v577 : BitVec 1 := Scalar.cmpi .ne v576 c0_i32_242
  let c43_i32_243 : BitVec 32 := 43#32
  let v580 : BitVec 1 := Scalar.cmpi .sgt v36 c43_i32_243
  let v581 : BitVec 1 := Scalar.andi v577 v580
  let v582 : BitVec 32 := Scalar.extui v581
  let v583 : BitVec 32 := Scalar.addi v574 v582
  let c8_i32_244 : BitVec 32 := 8#32
  let v584 : BitVec 32 := Scalar.shrsi v182 c8_i32_244
  let c3_i32_245 : BitVec 32 := 3#32
  let v585 : BitVec 32 := Scalar.andi v584 c3_i32_245
  let c0_i32_246 : BitVec 32 := 0#32
  let v586 : BitVec 1 := Scalar.cmpi .ne v585 c0_i32_246
  let c44_i32_247 : BitVec 32 := 44#32
  let v589 : BitVec 1 := Scalar.cmpi .sgt v36 c44_i32_247
  let v590 : BitVec 1 := Scalar.andi v586 v589
  let v591 : BitVec 32 := Scalar.extui v590
  let v592 : BitVec 32 := Scalar.addi v583 v591
  let c10_i32_248 : BitVec 32 := 10#32
  let v593 : BitVec 32 := Scalar.shrsi v182 c10_i32_248
  let c3_i32_249 : BitVec 32 := 3#32
  let v594 : BitVec 32 := Scalar.andi v593 c3_i32_249
  let c0_i32_250 : BitVec 32 := 0#32
  let v595 : BitVec 1 := Scalar.cmpi .ne v594 c0_i32_250
  let c45_i32_251 : BitVec 32 := 45#32
  let v598 : BitVec 1 := Scalar.cmpi .sgt v36 c45_i32_251
  let v599 : BitVec 1 := Scalar.andi v595 v598
  let v600 : BitVec 32 := Scalar.extui v599
  let v601 : BitVec 32 := Scalar.addi v592 v600
  let c12_i32_252 : BitVec 32 := 12#32
  let v602 : BitVec 32 := Scalar.shrsi v182 c12_i32_252
  let c3_i32_253 : BitVec 32 := 3#32
  let v603 : BitVec 32 := Scalar.andi v602 c3_i32_253
  let c0_i32_254 : BitVec 32 := 0#32
  let v604 : BitVec 1 := Scalar.cmpi .ne v603 c0_i32_254
  let c46_i32_255 : BitVec 32 := 46#32
  let v607 : BitVec 1 := Scalar.cmpi .sgt v36 c46_i32_255
  let v608 : BitVec 1 := Scalar.andi v604 v607
  let v609 : BitVec 32 := Scalar.extui v608
  let v610 : BitVec 32 := Scalar.addi v601 v609
  let c14_i32_256 : BitVec 32 := 14#32
  let v611 : BitVec 32 := Scalar.shrsi v182 c14_i32_256
  let c3_i32_257 : BitVec 32 := 3#32
  let v612 : BitVec 32 := Scalar.andi v611 c3_i32_257
  let c0_i32_258 : BitVec 32 := 0#32
  let v613 : BitVec 1 := Scalar.cmpi .ne v612 c0_i32_258
  let c47_i32_259 : BitVec 32 := 47#32
  let v616 : BitVec 1 := Scalar.cmpi .sgt v36 c47_i32_259
  let v617 : BitVec 1 := Scalar.andi v613 v616
  let v618 : BitVec 32 := Scalar.extui v617
  let v619 : BitVec 32 := Scalar.addi v610 v618
  let c0_i32_260 : BitVec 32 := 0#32
  let v620 : BitVec 32 := Scalar.shrsi v185 c0_i32_260
  let c3_i32_261 : BitVec 32 := 3#32
  let v621 : BitVec 32 := Scalar.andi v620 c3_i32_261
  let c0_i32_262 : BitVec 32 := 0#32
  let v622 : BitVec 1 := Scalar.cmpi .ne v621 c0_i32_262
  let c48_i32_263 : BitVec 32 := 48#32
  let v625 : BitVec 1 := Scalar.cmpi .sgt v36 c48_i32_263
  let v626 : BitVec 1 := Scalar.andi v622 v625
  let v627 : BitVec 32 := Scalar.extui v626
  let v628 : BitVec 32 := Scalar.addi v619 v627
  let c2_i32_264 : BitVec 32 := 2#32
  let v629 : BitVec 32 := Scalar.shrsi v185 c2_i32_264
  let c3_i32_265 : BitVec 32 := 3#32
  let v630 : BitVec 32 := Scalar.andi v629 c3_i32_265
  let c0_i32_266 : BitVec 32 := 0#32
  let v631 : BitVec 1 := Scalar.cmpi .ne v630 c0_i32_266
  let c49_i32_267 : BitVec 32 := 49#32
  let v634 : BitVec 1 := Scalar.cmpi .sgt v36 c49_i32_267
  let v635 : BitVec 1 := Scalar.andi v631 v634
  let v636 : BitVec 32 := Scalar.extui v635
  let v637 : BitVec 32 := Scalar.addi v628 v636
  let c4_i32_268 : BitVec 32 := 4#32
  let v638 : BitVec 32 := Scalar.shrsi v185 c4_i32_268
  let c3_i32_269 : BitVec 32 := 3#32
  let v639 : BitVec 32 := Scalar.andi v638 c3_i32_269
  let c0_i32_270 : BitVec 32 := 0#32
  let v640 : BitVec 1 := Scalar.cmpi .ne v639 c0_i32_270
  let c50_i32_271 : BitVec 32 := 50#32
  let v643 : BitVec 1 := Scalar.cmpi .sgt v36 c50_i32_271
  let v644 : BitVec 1 := Scalar.andi v640 v643
  let v645 : BitVec 32 := Scalar.extui v644
  let v646 : BitVec 32 := Scalar.addi v637 v645
  let c6_i32_272 : BitVec 32 := 6#32
  let v647 : BitVec 32 := Scalar.shrsi v185 c6_i32_272
  let c3_i32_273 : BitVec 32 := 3#32
  let v648 : BitVec 32 := Scalar.andi v647 c3_i32_273
  let c0_i32_274 : BitVec 32 := 0#32
  let v649 : BitVec 1 := Scalar.cmpi .ne v648 c0_i32_274
  let c51_i32_275 : BitVec 32 := 51#32
  let v652 : BitVec 1 := Scalar.cmpi .sgt v36 c51_i32_275
  let v653 : BitVec 1 := Scalar.andi v649 v652
  let v654 : BitVec 32 := Scalar.extui v653
  let v655 : BitVec 32 := Scalar.addi v646 v654
  let c8_i32_276 : BitVec 32 := 8#32
  let v656 : BitVec 32 := Scalar.shrsi v185 c8_i32_276
  let c3_i32_277 : BitVec 32 := 3#32
  let v657 : BitVec 32 := Scalar.andi v656 c3_i32_277
  let c0_i32_278 : BitVec 32 := 0#32
  let v658 : BitVec 1 := Scalar.cmpi .ne v657 c0_i32_278
  let c52_i32_279 : BitVec 32 := 52#32
  let v661 : BitVec 1 := Scalar.cmpi .sgt v36 c52_i32_279
  let v662 : BitVec 1 := Scalar.andi v658 v661
  let v663 : BitVec 32 := Scalar.extui v662
  let v664 : BitVec 32 := Scalar.addi v655 v663
  let c10_i32_280 : BitVec 32 := 10#32
  let v665 : BitVec 32 := Scalar.shrsi v185 c10_i32_280
  let c3_i32_281 : BitVec 32 := 3#32
  let v666 : BitVec 32 := Scalar.andi v665 c3_i32_281
  let c0_i32_282 : BitVec 32 := 0#32
  let v667 : BitVec 1 := Scalar.cmpi .ne v666 c0_i32_282
  let c53_i32_283 : BitVec 32 := 53#32
  let v670 : BitVec 1 := Scalar.cmpi .sgt v36 c53_i32_283
  let v671 : BitVec 1 := Scalar.andi v667 v670
  let v672 : BitVec 32 := Scalar.extui v671
  let v673 : BitVec 32 := Scalar.addi v664 v672
  let c12_i32_284 : BitVec 32 := 12#32
  let v674 : BitVec 32 := Scalar.shrsi v185 c12_i32_284
  let c3_i32_285 : BitVec 32 := 3#32
  let v675 : BitVec 32 := Scalar.andi v674 c3_i32_285
  let c0_i32_286 : BitVec 32 := 0#32
  let v676 : BitVec 1 := Scalar.cmpi .ne v675 c0_i32_286
  let c54_i32_287 : BitVec 32 := 54#32
  let v679 : BitVec 1 := Scalar.cmpi .sgt v36 c54_i32_287
  let v680 : BitVec 1 := Scalar.andi v676 v679
  let v681 : BitVec 32 := Scalar.extui v680
  let v682 : BitVec 32 := Scalar.addi v673 v681
  let c14_i32_288 : BitVec 32 := 14#32
  let v683 : BitVec 32 := Scalar.shrsi v185 c14_i32_288
  let c3_i32_289 : BitVec 32 := 3#32
  let v684 : BitVec 32 := Scalar.andi v683 c3_i32_289
  let c0_i32_290 : BitVec 32 := 0#32
  let v685 : BitVec 1 := Scalar.cmpi .ne v684 c0_i32_290
  let c55_i32_291 : BitVec 32 := 55#32
  let v688 : BitVec 1 := Scalar.cmpi .sgt v36 c55_i32_291
  let v689 : BitVec 1 := Scalar.andi v685 v688
  let v690 : BitVec 32 := Scalar.extui v689
  let v691 : BitVec 32 := Scalar.addi v682 v690
  let c0_i32_292 : BitVec 32 := 0#32
  let v692 : BitVec 32 := Scalar.shrsi v188 c0_i32_292
  let c3_i32_293 : BitVec 32 := 3#32
  let v693 : BitVec 32 := Scalar.andi v692 c3_i32_293
  let c0_i32_294 : BitVec 32 := 0#32
  let v694 : BitVec 1 := Scalar.cmpi .ne v693 c0_i32_294
  let c56_i32_295 : BitVec 32 := 56#32
  let v697 : BitVec 1 := Scalar.cmpi .sgt v36 c56_i32_295
  let v698 : BitVec 1 := Scalar.andi v694 v697
  let v699 : BitVec 32 := Scalar.extui v698
  let v700 : BitVec 32 := Scalar.addi v691 v699
  let c2_i32_296 : BitVec 32 := 2#32
  let v701 : BitVec 32 := Scalar.shrsi v188 c2_i32_296
  let c3_i32_297 : BitVec 32 := 3#32
  let v702 : BitVec 32 := Scalar.andi v701 c3_i32_297
  let c0_i32_298 : BitVec 32 := 0#32
  let v703 : BitVec 1 := Scalar.cmpi .ne v702 c0_i32_298
  let c57_i32_299 : BitVec 32 := 57#32
  let v706 : BitVec 1 := Scalar.cmpi .sgt v36 c57_i32_299
  let v707 : BitVec 1 := Scalar.andi v703 v706
  let v708 : BitVec 32 := Scalar.extui v707
  let v709 : BitVec 32 := Scalar.addi v700 v708
  let c4_i32_300 : BitVec 32 := 4#32
  let v710 : BitVec 32 := Scalar.shrsi v188 c4_i32_300
  let c3_i32_301 : BitVec 32 := 3#32
  let v711 : BitVec 32 := Scalar.andi v710 c3_i32_301
  let c0_i32_302 : BitVec 32 := 0#32
  let v712 : BitVec 1 := Scalar.cmpi .ne v711 c0_i32_302
  let c58_i32_303 : BitVec 32 := 58#32
  let v715 : BitVec 1 := Scalar.cmpi .sgt v36 c58_i32_303
  let v716 : BitVec 1 := Scalar.andi v712 v715
  let v717 : BitVec 32 := Scalar.extui v716
  let v718 : BitVec 32 := Scalar.addi v709 v717
  let c6_i32_304 : BitVec 32 := 6#32
  let v719 : BitVec 32 := Scalar.shrsi v188 c6_i32_304
  let c3_i32_305 : BitVec 32 := 3#32
  let v720 : BitVec 32 := Scalar.andi v719 c3_i32_305
  let c0_i32_306 : BitVec 32 := 0#32
  let v721 : BitVec 1 := Scalar.cmpi .ne v720 c0_i32_306
  let c59_i32_307 : BitVec 32 := 59#32
  let v724 : BitVec 1 := Scalar.cmpi .sgt v36 c59_i32_307
  let v725 : BitVec 1 := Scalar.andi v721 v724
  let v726 : BitVec 32 := Scalar.extui v725
  let v727 : BitVec 32 := Scalar.addi v718 v726
  let c8_i32_308 : BitVec 32 := 8#32
  let v728 : BitVec 32 := Scalar.shrsi v188 c8_i32_308
  let c3_i32_309 : BitVec 32 := 3#32
  let v729 : BitVec 32 := Scalar.andi v728 c3_i32_309
  let c0_i32_310 : BitVec 32 := 0#32
  let v730 : BitVec 1 := Scalar.cmpi .ne v729 c0_i32_310
  let c60_i32_311 : BitVec 32 := 60#32
  let v733 : BitVec 1 := Scalar.cmpi .sgt v36 c60_i32_311
  let v734 : BitVec 1 := Scalar.andi v730 v733
  let v735 : BitVec 32 := Scalar.extui v734
  let v736 : BitVec 32 := Scalar.addi v727 v735
  let v740 : Index := Scalar.indexCast v736
  ![v740.toNat]
def k0_off66 (i : grid0.Coords) (v167 : BitVec 32) (v170 : BitVec 32) (v173 : BitVec 32) (v176 : BitVec 32) (v179 : BitVec 32) (v182 : BitVec 32) (v185 : BitVec 32) (v188 : BitVec 32) (c0_i32_316 : BitVec 32) : Fin 1 → Nat :=
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let c0_i32_196 : BitVec 32 := 0#32
  let v476 : BitVec 32 := Scalar.shrsi v179 c0_i32_196
  let c3_i32_197 : BitVec 32 := 3#32
  let v477 : BitVec 32 := Scalar.andi v476 c3_i32_197
  let c0_i32_198 : BitVec 32 := 0#32
  let v478 : BitVec 1 := Scalar.cmpi .ne v477 c0_i32_198
  let c32_i32_199 : BitVec 32 := 32#32
  let v481 : BitVec 1 := Scalar.cmpi .sgt v36 c32_i32_199
  let v482 : BitVec 1 := Scalar.andi v478 v481
  let v483 : BitVec 32 := Scalar.extui v482
  let v484 : BitVec 32 := Scalar.addi v475 v483
  let c2_i32_200 : BitVec 32 := 2#32
  let v485 : BitVec 32 := Scalar.shrsi v179 c2_i32_200
  let c3_i32_201 : BitVec 32 := 3#32
  let v486 : BitVec 32 := Scalar.andi v485 c3_i32_201
  let c0_i32_202 : BitVec 32 := 0#32
  let v487 : BitVec 1 := Scalar.cmpi .ne v486 c0_i32_202
  let c33_i32_203 : BitVec 32 := 33#32
  let v490 : BitVec 1 := Scalar.cmpi .sgt v36 c33_i32_203
  let v491 : BitVec 1 := Scalar.andi v487 v490
  let v492 : BitVec 32 := Scalar.extui v491
  let v493 : BitVec 32 := Scalar.addi v484 v492
  let c4_i32_204 : BitVec 32 := 4#32
  let v494 : BitVec 32 := Scalar.shrsi v179 c4_i32_204
  let c3_i32_205 : BitVec 32 := 3#32
  let v495 : BitVec 32 := Scalar.andi v494 c3_i32_205
  let c0_i32_206 : BitVec 32 := 0#32
  let v496 : BitVec 1 := Scalar.cmpi .ne v495 c0_i32_206
  let c34_i32_207 : BitVec 32 := 34#32
  let v499 : BitVec 1 := Scalar.cmpi .sgt v36 c34_i32_207
  let v500 : BitVec 1 := Scalar.andi v496 v499
  let v501 : BitVec 32 := Scalar.extui v500
  let v502 : BitVec 32 := Scalar.addi v493 v501
  let c6_i32_208 : BitVec 32 := 6#32
  let v503 : BitVec 32 := Scalar.shrsi v179 c6_i32_208
  let c3_i32_209 : BitVec 32 := 3#32
  let v504 : BitVec 32 := Scalar.andi v503 c3_i32_209
  let c0_i32_210 : BitVec 32 := 0#32
  let v505 : BitVec 1 := Scalar.cmpi .ne v504 c0_i32_210
  let c35_i32_211 : BitVec 32 := 35#32
  let v508 : BitVec 1 := Scalar.cmpi .sgt v36 c35_i32_211
  let v509 : BitVec 1 := Scalar.andi v505 v508
  let v510 : BitVec 32 := Scalar.extui v509
  let v511 : BitVec 32 := Scalar.addi v502 v510
  let c8_i32_212 : BitVec 32 := 8#32
  let v512 : BitVec 32 := Scalar.shrsi v179 c8_i32_212
  let c3_i32_213 : BitVec 32 := 3#32
  let v513 : BitVec 32 := Scalar.andi v512 c3_i32_213
  let c0_i32_214 : BitVec 32 := 0#32
  let v514 : BitVec 1 := Scalar.cmpi .ne v513 c0_i32_214
  let c36_i32_215 : BitVec 32 := 36#32
  let v517 : BitVec 1 := Scalar.cmpi .sgt v36 c36_i32_215
  let v518 : BitVec 1 := Scalar.andi v514 v517
  let v519 : BitVec 32 := Scalar.extui v518
  let v520 : BitVec 32 := Scalar.addi v511 v519
  let c10_i32_216 : BitVec 32 := 10#32
  let v521 : BitVec 32 := Scalar.shrsi v179 c10_i32_216
  let c3_i32_217 : BitVec 32 := 3#32
  let v522 : BitVec 32 := Scalar.andi v521 c3_i32_217
  let c0_i32_218 : BitVec 32 := 0#32
  let v523 : BitVec 1 := Scalar.cmpi .ne v522 c0_i32_218
  let c37_i32_219 : BitVec 32 := 37#32
  let v526 : BitVec 1 := Scalar.cmpi .sgt v36 c37_i32_219
  let v527 : BitVec 1 := Scalar.andi v523 v526
  let v528 : BitVec 32 := Scalar.extui v527
  let v529 : BitVec 32 := Scalar.addi v520 v528
  let c12_i32_220 : BitVec 32 := 12#32
  let v530 : BitVec 32 := Scalar.shrsi v179 c12_i32_220
  let c3_i32_221 : BitVec 32 := 3#32
  let v531 : BitVec 32 := Scalar.andi v530 c3_i32_221
  let c0_i32_222 : BitVec 32 := 0#32
  let v532 : BitVec 1 := Scalar.cmpi .ne v531 c0_i32_222
  let c38_i32_223 : BitVec 32 := 38#32
  let v535 : BitVec 1 := Scalar.cmpi .sgt v36 c38_i32_223
  let v536 : BitVec 1 := Scalar.andi v532 v535
  let v537 : BitVec 32 := Scalar.extui v536
  let v538 : BitVec 32 := Scalar.addi v529 v537
  let c14_i32_224 : BitVec 32 := 14#32
  let v539 : BitVec 32 := Scalar.shrsi v179 c14_i32_224
  let c3_i32_225 : BitVec 32 := 3#32
  let v540 : BitVec 32 := Scalar.andi v539 c3_i32_225
  let c0_i32_226 : BitVec 32 := 0#32
  let v541 : BitVec 1 := Scalar.cmpi .ne v540 c0_i32_226
  let c39_i32_227 : BitVec 32 := 39#32
  let v544 : BitVec 1 := Scalar.cmpi .sgt v36 c39_i32_227
  let v545 : BitVec 1 := Scalar.andi v541 v544
  let v546 : BitVec 32 := Scalar.extui v545
  let v547 : BitVec 32 := Scalar.addi v538 v546
  let c0_i32_228 : BitVec 32 := 0#32
  let v548 : BitVec 32 := Scalar.shrsi v182 c0_i32_228
  let c3_i32_229 : BitVec 32 := 3#32
  let v549 : BitVec 32 := Scalar.andi v548 c3_i32_229
  let c0_i32_230 : BitVec 32 := 0#32
  let v550 : BitVec 1 := Scalar.cmpi .ne v549 c0_i32_230
  let c40_i32_231 : BitVec 32 := 40#32
  let v553 : BitVec 1 := Scalar.cmpi .sgt v36 c40_i32_231
  let v554 : BitVec 1 := Scalar.andi v550 v553
  let v555 : BitVec 32 := Scalar.extui v554
  let v556 : BitVec 32 := Scalar.addi v547 v555
  let c2_i32_232 : BitVec 32 := 2#32
  let v557 : BitVec 32 := Scalar.shrsi v182 c2_i32_232
  let c3_i32_233 : BitVec 32 := 3#32
  let v558 : BitVec 32 := Scalar.andi v557 c3_i32_233
  let c0_i32_234 : BitVec 32 := 0#32
  let v559 : BitVec 1 := Scalar.cmpi .ne v558 c0_i32_234
  let c41_i32_235 : BitVec 32 := 41#32
  let v562 : BitVec 1 := Scalar.cmpi .sgt v36 c41_i32_235
  let v563 : BitVec 1 := Scalar.andi v559 v562
  let v564 : BitVec 32 := Scalar.extui v563
  let v565 : BitVec 32 := Scalar.addi v556 v564
  let c4_i32_236 : BitVec 32 := 4#32
  let v566 : BitVec 32 := Scalar.shrsi v182 c4_i32_236
  let c3_i32_237 : BitVec 32 := 3#32
  let v567 : BitVec 32 := Scalar.andi v566 c3_i32_237
  let c0_i32_238 : BitVec 32 := 0#32
  let v568 : BitVec 1 := Scalar.cmpi .ne v567 c0_i32_238
  let c42_i32_239 : BitVec 32 := 42#32
  let v571 : BitVec 1 := Scalar.cmpi .sgt v36 c42_i32_239
  let v572 : BitVec 1 := Scalar.andi v568 v571
  let v573 : BitVec 32 := Scalar.extui v572
  let v574 : BitVec 32 := Scalar.addi v565 v573
  let c6_i32_240 : BitVec 32 := 6#32
  let v575 : BitVec 32 := Scalar.shrsi v182 c6_i32_240
  let c3_i32_241 : BitVec 32 := 3#32
  let v576 : BitVec 32 := Scalar.andi v575 c3_i32_241
  let c0_i32_242 : BitVec 32 := 0#32
  let v577 : BitVec 1 := Scalar.cmpi .ne v576 c0_i32_242
  let c43_i32_243 : BitVec 32 := 43#32
  let v580 : BitVec 1 := Scalar.cmpi .sgt v36 c43_i32_243
  let v581 : BitVec 1 := Scalar.andi v577 v580
  let v582 : BitVec 32 := Scalar.extui v581
  let v583 : BitVec 32 := Scalar.addi v574 v582
  let c8_i32_244 : BitVec 32 := 8#32
  let v584 : BitVec 32 := Scalar.shrsi v182 c8_i32_244
  let c3_i32_245 : BitVec 32 := 3#32
  let v585 : BitVec 32 := Scalar.andi v584 c3_i32_245
  let c0_i32_246 : BitVec 32 := 0#32
  let v586 : BitVec 1 := Scalar.cmpi .ne v585 c0_i32_246
  let c44_i32_247 : BitVec 32 := 44#32
  let v589 : BitVec 1 := Scalar.cmpi .sgt v36 c44_i32_247
  let v590 : BitVec 1 := Scalar.andi v586 v589
  let v591 : BitVec 32 := Scalar.extui v590
  let v592 : BitVec 32 := Scalar.addi v583 v591
  let c10_i32_248 : BitVec 32 := 10#32
  let v593 : BitVec 32 := Scalar.shrsi v182 c10_i32_248
  let c3_i32_249 : BitVec 32 := 3#32
  let v594 : BitVec 32 := Scalar.andi v593 c3_i32_249
  let c0_i32_250 : BitVec 32 := 0#32
  let v595 : BitVec 1 := Scalar.cmpi .ne v594 c0_i32_250
  let c45_i32_251 : BitVec 32 := 45#32
  let v598 : BitVec 1 := Scalar.cmpi .sgt v36 c45_i32_251
  let v599 : BitVec 1 := Scalar.andi v595 v598
  let v600 : BitVec 32 := Scalar.extui v599
  let v601 : BitVec 32 := Scalar.addi v592 v600
  let c12_i32_252 : BitVec 32 := 12#32
  let v602 : BitVec 32 := Scalar.shrsi v182 c12_i32_252
  let c3_i32_253 : BitVec 32 := 3#32
  let v603 : BitVec 32 := Scalar.andi v602 c3_i32_253
  let c0_i32_254 : BitVec 32 := 0#32
  let v604 : BitVec 1 := Scalar.cmpi .ne v603 c0_i32_254
  let c46_i32_255 : BitVec 32 := 46#32
  let v607 : BitVec 1 := Scalar.cmpi .sgt v36 c46_i32_255
  let v608 : BitVec 1 := Scalar.andi v604 v607
  let v609 : BitVec 32 := Scalar.extui v608
  let v610 : BitVec 32 := Scalar.addi v601 v609
  let c14_i32_256 : BitVec 32 := 14#32
  let v611 : BitVec 32 := Scalar.shrsi v182 c14_i32_256
  let c3_i32_257 : BitVec 32 := 3#32
  let v612 : BitVec 32 := Scalar.andi v611 c3_i32_257
  let c0_i32_258 : BitVec 32 := 0#32
  let v613 : BitVec 1 := Scalar.cmpi .ne v612 c0_i32_258
  let c47_i32_259 : BitVec 32 := 47#32
  let v616 : BitVec 1 := Scalar.cmpi .sgt v36 c47_i32_259
  let v617 : BitVec 1 := Scalar.andi v613 v616
  let v618 : BitVec 32 := Scalar.extui v617
  let v619 : BitVec 32 := Scalar.addi v610 v618
  let c0_i32_260 : BitVec 32 := 0#32
  let v620 : BitVec 32 := Scalar.shrsi v185 c0_i32_260
  let c3_i32_261 : BitVec 32 := 3#32
  let v621 : BitVec 32 := Scalar.andi v620 c3_i32_261
  let c0_i32_262 : BitVec 32 := 0#32
  let v622 : BitVec 1 := Scalar.cmpi .ne v621 c0_i32_262
  let c48_i32_263 : BitVec 32 := 48#32
  let v625 : BitVec 1 := Scalar.cmpi .sgt v36 c48_i32_263
  let v626 : BitVec 1 := Scalar.andi v622 v625
  let v627 : BitVec 32 := Scalar.extui v626
  let v628 : BitVec 32 := Scalar.addi v619 v627
  let c2_i32_264 : BitVec 32 := 2#32
  let v629 : BitVec 32 := Scalar.shrsi v185 c2_i32_264
  let c3_i32_265 : BitVec 32 := 3#32
  let v630 : BitVec 32 := Scalar.andi v629 c3_i32_265
  let c0_i32_266 : BitVec 32 := 0#32
  let v631 : BitVec 1 := Scalar.cmpi .ne v630 c0_i32_266
  let c49_i32_267 : BitVec 32 := 49#32
  let v634 : BitVec 1 := Scalar.cmpi .sgt v36 c49_i32_267
  let v635 : BitVec 1 := Scalar.andi v631 v634
  let v636 : BitVec 32 := Scalar.extui v635
  let v637 : BitVec 32 := Scalar.addi v628 v636
  let c4_i32_268 : BitVec 32 := 4#32
  let v638 : BitVec 32 := Scalar.shrsi v185 c4_i32_268
  let c3_i32_269 : BitVec 32 := 3#32
  let v639 : BitVec 32 := Scalar.andi v638 c3_i32_269
  let c0_i32_270 : BitVec 32 := 0#32
  let v640 : BitVec 1 := Scalar.cmpi .ne v639 c0_i32_270
  let c50_i32_271 : BitVec 32 := 50#32
  let v643 : BitVec 1 := Scalar.cmpi .sgt v36 c50_i32_271
  let v644 : BitVec 1 := Scalar.andi v640 v643
  let v645 : BitVec 32 := Scalar.extui v644
  let v646 : BitVec 32 := Scalar.addi v637 v645
  let c6_i32_272 : BitVec 32 := 6#32
  let v647 : BitVec 32 := Scalar.shrsi v185 c6_i32_272
  let c3_i32_273 : BitVec 32 := 3#32
  let v648 : BitVec 32 := Scalar.andi v647 c3_i32_273
  let c0_i32_274 : BitVec 32 := 0#32
  let v649 : BitVec 1 := Scalar.cmpi .ne v648 c0_i32_274
  let c51_i32_275 : BitVec 32 := 51#32
  let v652 : BitVec 1 := Scalar.cmpi .sgt v36 c51_i32_275
  let v653 : BitVec 1 := Scalar.andi v649 v652
  let v654 : BitVec 32 := Scalar.extui v653
  let v655 : BitVec 32 := Scalar.addi v646 v654
  let c8_i32_276 : BitVec 32 := 8#32
  let v656 : BitVec 32 := Scalar.shrsi v185 c8_i32_276
  let c3_i32_277 : BitVec 32 := 3#32
  let v657 : BitVec 32 := Scalar.andi v656 c3_i32_277
  let c0_i32_278 : BitVec 32 := 0#32
  let v658 : BitVec 1 := Scalar.cmpi .ne v657 c0_i32_278
  let c52_i32_279 : BitVec 32 := 52#32
  let v661 : BitVec 1 := Scalar.cmpi .sgt v36 c52_i32_279
  let v662 : BitVec 1 := Scalar.andi v658 v661
  let v663 : BitVec 32 := Scalar.extui v662
  let v664 : BitVec 32 := Scalar.addi v655 v663
  let c10_i32_280 : BitVec 32 := 10#32
  let v665 : BitVec 32 := Scalar.shrsi v185 c10_i32_280
  let c3_i32_281 : BitVec 32 := 3#32
  let v666 : BitVec 32 := Scalar.andi v665 c3_i32_281
  let c0_i32_282 : BitVec 32 := 0#32
  let v667 : BitVec 1 := Scalar.cmpi .ne v666 c0_i32_282
  let c53_i32_283 : BitVec 32 := 53#32
  let v670 : BitVec 1 := Scalar.cmpi .sgt v36 c53_i32_283
  let v671 : BitVec 1 := Scalar.andi v667 v670
  let v672 : BitVec 32 := Scalar.extui v671
  let v673 : BitVec 32 := Scalar.addi v664 v672
  let c12_i32_284 : BitVec 32 := 12#32
  let v674 : BitVec 32 := Scalar.shrsi v185 c12_i32_284
  let c3_i32_285 : BitVec 32 := 3#32
  let v675 : BitVec 32 := Scalar.andi v674 c3_i32_285
  let c0_i32_286 : BitVec 32 := 0#32
  let v676 : BitVec 1 := Scalar.cmpi .ne v675 c0_i32_286
  let c54_i32_287 : BitVec 32 := 54#32
  let v679 : BitVec 1 := Scalar.cmpi .sgt v36 c54_i32_287
  let v680 : BitVec 1 := Scalar.andi v676 v679
  let v681 : BitVec 32 := Scalar.extui v680
  let v682 : BitVec 32 := Scalar.addi v673 v681
  let c14_i32_288 : BitVec 32 := 14#32
  let v683 : BitVec 32 := Scalar.shrsi v185 c14_i32_288
  let c3_i32_289 : BitVec 32 := 3#32
  let v684 : BitVec 32 := Scalar.andi v683 c3_i32_289
  let c0_i32_290 : BitVec 32 := 0#32
  let v685 : BitVec 1 := Scalar.cmpi .ne v684 c0_i32_290
  let c55_i32_291 : BitVec 32 := 55#32
  let v688 : BitVec 1 := Scalar.cmpi .sgt v36 c55_i32_291
  let v689 : BitVec 1 := Scalar.andi v685 v688
  let v690 : BitVec 32 := Scalar.extui v689
  let v691 : BitVec 32 := Scalar.addi v682 v690
  let c0_i32_292 : BitVec 32 := 0#32
  let v692 : BitVec 32 := Scalar.shrsi v188 c0_i32_292
  let c3_i32_293 : BitVec 32 := 3#32
  let v693 : BitVec 32 := Scalar.andi v692 c3_i32_293
  let c0_i32_294 : BitVec 32 := 0#32
  let v694 : BitVec 1 := Scalar.cmpi .ne v693 c0_i32_294
  let c56_i32_295 : BitVec 32 := 56#32
  let v697 : BitVec 1 := Scalar.cmpi .sgt v36 c56_i32_295
  let v698 : BitVec 1 := Scalar.andi v694 v697
  let v699 : BitVec 32 := Scalar.extui v698
  let v700 : BitVec 32 := Scalar.addi v691 v699
  let c2_i32_296 : BitVec 32 := 2#32
  let v701 : BitVec 32 := Scalar.shrsi v188 c2_i32_296
  let c3_i32_297 : BitVec 32 := 3#32
  let v702 : BitVec 32 := Scalar.andi v701 c3_i32_297
  let c0_i32_298 : BitVec 32 := 0#32
  let v703 : BitVec 1 := Scalar.cmpi .ne v702 c0_i32_298
  let c57_i32_299 : BitVec 32 := 57#32
  let v706 : BitVec 1 := Scalar.cmpi .sgt v36 c57_i32_299
  let v707 : BitVec 1 := Scalar.andi v703 v706
  let v708 : BitVec 32 := Scalar.extui v707
  let v709 : BitVec 32 := Scalar.addi v700 v708
  let c4_i32_300 : BitVec 32 := 4#32
  let v710 : BitVec 32 := Scalar.shrsi v188 c4_i32_300
  let c3_i32_301 : BitVec 32 := 3#32
  let v711 : BitVec 32 := Scalar.andi v710 c3_i32_301
  let c0_i32_302 : BitVec 32 := 0#32
  let v712 : BitVec 1 := Scalar.cmpi .ne v711 c0_i32_302
  let c58_i32_303 : BitVec 32 := 58#32
  let v715 : BitVec 1 := Scalar.cmpi .sgt v36 c58_i32_303
  let v716 : BitVec 1 := Scalar.andi v712 v715
  let v717 : BitVec 32 := Scalar.extui v716
  let v718 : BitVec 32 := Scalar.addi v709 v717
  let c6_i32_304 : BitVec 32 := 6#32
  let v719 : BitVec 32 := Scalar.shrsi v188 c6_i32_304
  let c3_i32_305 : BitVec 32 := 3#32
  let v720 : BitVec 32 := Scalar.andi v719 c3_i32_305
  let c0_i32_306 : BitVec 32 := 0#32
  let v721 : BitVec 1 := Scalar.cmpi .ne v720 c0_i32_306
  let c59_i32_307 : BitVec 32 := 59#32
  let v724 : BitVec 1 := Scalar.cmpi .sgt v36 c59_i32_307
  let v725 : BitVec 1 := Scalar.andi v721 v724
  let v726 : BitVec 32 := Scalar.extui v725
  let v727 : BitVec 32 := Scalar.addi v718 v726
  let c8_i32_308 : BitVec 32 := 8#32
  let v728 : BitVec 32 := Scalar.shrsi v188 c8_i32_308
  let c3_i32_309 : BitVec 32 := 3#32
  let v729 : BitVec 32 := Scalar.andi v728 c3_i32_309
  let c0_i32_310 : BitVec 32 := 0#32
  let v730 : BitVec 1 := Scalar.cmpi .ne v729 c0_i32_310
  let c60_i32_311 : BitVec 32 := 60#32
  let v733 : BitVec 1 := Scalar.cmpi .sgt v36 c60_i32_311
  let v734 : BitVec 1 := Scalar.andi v730 v733
  let v735 : BitVec 32 := Scalar.extui v734
  let v736 : BitVec 32 := Scalar.addi v727 v735
  let c10_i32_312 : BitVec 32 := 10#32
  let v737 : BitVec 32 := Scalar.shrsi v188 c10_i32_312
  let c3_i32_313 : BitVec 32 := 3#32
  let v738 : BitVec 32 := Scalar.andi v737 c3_i32_313
  let c0_i32_314 : BitVec 32 := 0#32
  let v739 : BitVec 1 := Scalar.cmpi .ne v738 c0_i32_314
  let c61_i32_315 : BitVec 32 := 61#32
  let v742 : BitVec 1 := Scalar.cmpi .sgt v36 c61_i32_315
  let v743 : BitVec 1 := Scalar.andi v739 v742
  let v744 : BitVec 32 := Scalar.extui v743
  let v745 : BitVec 32 := Scalar.addi v736 v744
  let v746 : BitVec 32 := Scalar.addi v745 c0_i32_316
  let v747 : Index := Scalar.indexCast v746
  ![v747.toNat]
def k0_mult97 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_357 : BitVec 32 := 0#32
  let v825 : BitVec 32 := Scalar.addi v36 c0_i32_357
  let c128_i32_361 : BitVec 32 := 128#32
  let v839 : BitVec 32 := Scalar.muli v825 c128_i32_361
  v839
def k0_off67 (i : grid0.Coords) (c0_i32_357 : BitVec 32) : Fin 4 → Nat :=
  let c0_362 : Index := 0#32
  let c0_363 : Index := 0#32
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let v825 : BitVec 32 := Scalar.addi v36 c0_i32_357
  let c128_i32_361 : BitVec 32 := 128#32
  let v839 : BitVec 32 := Scalar.muli v825 c128_i32_361
  let v840 : BitVec 32 := v839
  let v841 : Index := Scalar.indexCast v840
  let c0_364 : Index := 0#32
  ![0, 0, v841.toNat, 0]
def k0_mult98 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c1_i32_358 : BitVec 32 := 1#32
  let v826 : BitVec 32 := Scalar.addi v36 c1_i32_358
  let c128_i32_367 : BitVec 32 := 128#32
  let v847 : BitVec 32 := Scalar.muli v826 c128_i32_367
  v847
def k0_mult99 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_357 : BitVec 32 := 0#32
  let v825 : BitVec 32 := Scalar.addi v36 c0_i32_357
  let c128_i32_373 : BitVec 32 := 128#32
  let v855 : BitVec 32 := Scalar.muli v825 c128_i32_373
  v855
def k0_mult100 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c1_i32_358 : BitVec 32 := 1#32
  let v826 : BitVec 32 := Scalar.addi v36 c1_i32_358
  let c128_i32_379 : BitVec 32 := 128#32
  let v863 : BitVec 32 := Scalar.muli v826 c128_i32_379
  v863
def k0_mult101 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_357 : BitVec 32 := 0#32
  let v825 : BitVec 32 := Scalar.addi v36 c0_i32_357
  let c128_i32_385 : BitVec 32 := 128#32
  let v871 : BitVec 32 := Scalar.muli v825 c128_i32_385
  v871
def k0_mult102 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c1_i32_358 : BitVec 32 := 1#32
  let v826 : BitVec 32 := Scalar.addi v36 c1_i32_358
  let c128_i32_391 : BitVec 32 := 128#32
  let v879 : BitVec 32 := Scalar.muli v826 c128_i32_391
  v879
def k0_mult103 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_357 : BitVec 32 := 0#32
  let v825 : BitVec 32 := Scalar.addi v36 c0_i32_357
  let c128_i32_397 : BitVec 32 := 128#32
  let v887 : BitVec 32 := Scalar.muli v825 c128_i32_397
  v887
def k0_mult104 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c1_i32_358 : BitVec 32 := 1#32
  let v826 : BitVec 32 := Scalar.addi v36 c1_i32_358
  let c128_i32_403 : BitVec 32 := 128#32
  let v895 : BitVec 32 := Scalar.muli v826 c128_i32_403
  v895
def k0_off68 (i : grid0.Coords) (c0_i32_9 : BitVec 32) : Fin 5 → Nat :=
  let c0_434 : Index := 0#32
  let c0_435 : Index := 0#32
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32 : BitVec 32 := 4#32
  let v37 : BitVec 32 := Scalar.subi v36 c4_i32
  let v38 : BitVec 32 := Scalar.addi v37 c0_i32_9
  let c0_i32_10 : BitVec 32 := 0#32
  let v39 : BitVec 32 := Scalar.maxsi v38 c0_i32_10
  let v932 : Index := Scalar.indexCast v39
  let c0_436 : Index := 0#32
  let c0_437 : Index := 0#32
  ![0, 0, v932.toNat, 0, 0]
def k0_off69 (i : grid0.Coords) (c0_i32_357 : BitVec 32) : Fin 5 → Nat :=
  let c0_645 : Index := 0#32
  let c0_646 : Index := 0#32
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let v825 : BitVec 32 := Scalar.addi v36 c0_i32_357
  let v1258 : Index := Scalar.indexCast v825
  let c0_647 : Index := 0#32
  let c0_648 : Index := 0#32
  ![0, 0, v1258.toNat, 0, 0]
def k0_mult105 (v1362 : BitVec 32) : BitVec 32 :=
  let c128_i32_704 : BitVec 32 := 128#32
  let v1370 : BitVec 32 := Scalar.muli v1362 c128_i32_704
  v1370

def k0_off70 (v1362 : BitVec 32) : Fin 4 → Nat :=
  let c0_705 : Index := 0#32
  let c0_706 : Index := 0#32
  let c128_i32_704 : BitVec 32 := 128#32
  let v1370 : BitVec 32 := Scalar.muli v1362 c128_i32_704
  let v1371 : BitVec 32 := v1370
  let v1372 : Index := Scalar.indexCast v1371
  let c0_707 : Index := 0#32
  ![0, 0, v1372.toNat, 0]
def k0_mult106 (v1363 : BitVec 32) : BitVec 32 :=
  let c128_i32_709 : BitVec 32 := 128#32
  let v1376 : BitVec 32 := Scalar.muli v1363 c128_i32_709
  v1376

def k0_off71 (v1363 : BitVec 32) : Fin 4 → Nat :=
  let c0_710 : Index := 0#32
  let c0_711 : Index := 0#32
  let c128_i32_709 : BitVec 32 := 128#32
  let v1376 : BitVec 32 := Scalar.muli v1363 c128_i32_709
  let v1377 : BitVec 32 := v1376
  let v1378 : Index := Scalar.indexCast v1377
  let c0_712 : Index := 0#32
  ![0, 0, v1378.toNat, 0]
def k0_mult107 (v1364 : BitVec 32) : BitVec 32 :=
  let c128_i32_714 : BitVec 32 := 128#32
  let v1382 : BitVec 32 := Scalar.muli v1364 c128_i32_714
  v1382

def k0_off72 (v1364 : BitVec 32) : Fin 4 → Nat :=
  let c0_715 : Index := 0#32
  let c0_716 : Index := 0#32
  let c128_i32_714 : BitVec 32 := 128#32
  let v1382 : BitVec 32 := Scalar.muli v1364 c128_i32_714
  let v1383 : BitVec 32 := v1382
  let v1384 : Index := Scalar.indexCast v1383
  let c0_717 : Index := 0#32
  ![0, 0, v1384.toNat, 0]
def k0_mult108 (v1365 : BitVec 32) : BitVec 32 :=
  let c128_i32_719 : BitVec 32 := 128#32
  let v1388 : BitVec 32 := Scalar.muli v1365 c128_i32_719
  v1388

def k0_off73 (v1365 : BitVec 32) : Fin 4 → Nat :=
  let c0_720 : Index := 0#32
  let c0_721 : Index := 0#32
  let c128_i32_719 : BitVec 32 := 128#32
  let v1388 : BitVec 32 := Scalar.muli v1365 c128_i32_719
  let v1389 : BitVec 32 := v1388
  let v1390 : Index := Scalar.indexCast v1389
  let c0_722 : Index := 0#32
  ![0, 0, v1390.toNat, 0]
def k0_mult109 (v1366 : BitVec 32) : BitVec 32 :=
  let c128_i32_724 : BitVec 32 := 128#32
  let v1394 : BitVec 32 := Scalar.muli v1366 c128_i32_724
  v1394

def k0_off74 (v1366 : BitVec 32) : Fin 4 → Nat :=
  let c0_725 : Index := 0#32
  let c0_726 : Index := 0#32
  let c128_i32_724 : BitVec 32 := 128#32
  let v1394 : BitVec 32 := Scalar.muli v1366 c128_i32_724
  let v1395 : BitVec 32 := v1394
  let v1396 : Index := Scalar.indexCast v1395
  let c0_727 : Index := 0#32
  ![0, 0, v1396.toNat, 0]
def k0_mult110 (v1367 : BitVec 32) : BitVec 32 :=
  let c128_i32_729 : BitVec 32 := 128#32
  let v1400 : BitVec 32 := Scalar.muli v1367 c128_i32_729
  v1400

def k0_off75 (v1367 : BitVec 32) : Fin 4 → Nat :=
  let c0_730 : Index := 0#32
  let c0_731 : Index := 0#32
  let c128_i32_729 : BitVec 32 := 128#32
  let v1400 : BitVec 32 := Scalar.muli v1367 c128_i32_729
  let v1401 : BitVec 32 := v1400
  let v1402 : Index := Scalar.indexCast v1401
  let c0_732 : Index := 0#32
  ![0, 0, v1402.toNat, 0]
def k0_mult111 (v1368 : BitVec 32) : BitVec 32 :=
  let c128_i32_734 : BitVec 32 := 128#32
  let v1406 : BitVec 32 := Scalar.muli v1368 c128_i32_734
  v1406

def k0_off76 (v1368 : BitVec 32) : Fin 4 → Nat :=
  let c0_735 : Index := 0#32
  let c0_736 : Index := 0#32
  let c128_i32_734 : BitVec 32 := 128#32
  let v1406 : BitVec 32 := Scalar.muli v1368 c128_i32_734
  let v1407 : BitVec 32 := v1406
  let v1408 : Index := Scalar.indexCast v1407
  let c0_737 : Index := 0#32
  ![0, 0, v1408.toNat, 0]
def k0_mult112 (v1369 : BitVec 32) : BitVec 32 :=
  let c128_i32_739 : BitVec 32 := 128#32
  let v1412 : BitVec 32 := Scalar.muli v1369 c128_i32_739
  v1412

def k0_off77 (v1369 : BitVec 32) : Fin 4 → Nat :=
  let c0_740 : Index := 0#32
  let c0_741 : Index := 0#32
  let c128_i32_739 : BitVec 32 := 128#32
  let v1412 : BitVec 32 := Scalar.muli v1369 c128_i32_739
  let v1413 : BitVec 32 := v1412
  let v1414 : Index := Scalar.indexCast v1413
  let c0_742 : Index := 0#32
  ![0, 0, v1414.toNat, 0]
def k0_mult113 (v1362 : BitVec 32) : BitVec 32 :=
  let c128_i32_744 : BitVec 32 := 128#32
  let v1418 : BitVec 32 := Scalar.muli v1362 c128_i32_744
  v1418
def k0_off78 (v1362 : BitVec 32) : Fin 4 → Nat :=
  let c0_745 : Index := 0#32
  let c0_746 : Index := 0#32
  let c128_i32_744 : BitVec 32 := 128#32
  let v1418 : BitVec 32 := Scalar.muli v1362 c128_i32_744
  let v1419 : BitVec 32 := v1418
  let v1420 : Index := Scalar.indexCast v1419
  let c0_747 : Index := 0#32
  ![0, 0, v1420.toNat, 0]
def k0_mult114 (v1363 : BitVec 32) : BitVec 32 :=
  let c128_i32_749 : BitVec 32 := 128#32
  let v1424 : BitVec 32 := Scalar.muli v1363 c128_i32_749
  v1424
def k0_off79 (v1363 : BitVec 32) : Fin 4 → Nat :=
  let c0_750 : Index := 0#32
  let c0_751 : Index := 0#32
  let c128_i32_749 : BitVec 32 := 128#32
  let v1424 : BitVec 32 := Scalar.muli v1363 c128_i32_749
  let v1425 : BitVec 32 := v1424
  let v1426 : Index := Scalar.indexCast v1425
  let c0_752 : Index := 0#32
  ![0, 0, v1426.toNat, 0]
def k0_mult115 (v1364 : BitVec 32) : BitVec 32 :=
  let c128_i32_754 : BitVec 32 := 128#32
  let v1430 : BitVec 32 := Scalar.muli v1364 c128_i32_754
  v1430
def k0_off80 (v1364 : BitVec 32) : Fin 4 → Nat :=
  let c0_755 : Index := 0#32
  let c0_756 : Index := 0#32
  let c128_i32_754 : BitVec 32 := 128#32
  let v1430 : BitVec 32 := Scalar.muli v1364 c128_i32_754
  let v1431 : BitVec 32 := v1430
  let v1432 : Index := Scalar.indexCast v1431
  let c0_757 : Index := 0#32
  ![0, 0, v1432.toNat, 0]
def k0_mult116 (v1365 : BitVec 32) : BitVec 32 :=
  let c128_i32_759 : BitVec 32 := 128#32
  let v1436 : BitVec 32 := Scalar.muli v1365 c128_i32_759
  v1436
def k0_off81 (v1365 : BitVec 32) : Fin 4 → Nat :=
  let c0_760 : Index := 0#32
  let c0_761 : Index := 0#32
  let c128_i32_759 : BitVec 32 := 128#32
  let v1436 : BitVec 32 := Scalar.muli v1365 c128_i32_759
  let v1437 : BitVec 32 := v1436
  let v1438 : Index := Scalar.indexCast v1437
  let c0_762 : Index := 0#32
  ![0, 0, v1438.toNat, 0]
def k0_mult117 (v1366 : BitVec 32) : BitVec 32 :=
  let c128_i32_764 : BitVec 32 := 128#32
  let v1442 : BitVec 32 := Scalar.muli v1366 c128_i32_764
  v1442
def k0_off82 (v1366 : BitVec 32) : Fin 4 → Nat :=
  let c0_765 : Index := 0#32
  let c0_766 : Index := 0#32
  let c128_i32_764 : BitVec 32 := 128#32
  let v1442 : BitVec 32 := Scalar.muli v1366 c128_i32_764
  let v1443 : BitVec 32 := v1442
  let v1444 : Index := Scalar.indexCast v1443
  let c0_767 : Index := 0#32
  ![0, 0, v1444.toNat, 0]
def k0_mult118 (v1367 : BitVec 32) : BitVec 32 :=
  let c128_i32_769 : BitVec 32 := 128#32
  let v1448 : BitVec 32 := Scalar.muli v1367 c128_i32_769
  v1448
def k0_off83 (v1367 : BitVec 32) : Fin 4 → Nat :=
  let c0_770 : Index := 0#32
  let c0_771 : Index := 0#32
  let c128_i32_769 : BitVec 32 := 128#32
  let v1448 : BitVec 32 := Scalar.muli v1367 c128_i32_769
  let v1449 : BitVec 32 := v1448
  let v1450 : Index := Scalar.indexCast v1449
  let c0_772 : Index := 0#32
  ![0, 0, v1450.toNat, 0]
def k0_mult119 (v1368 : BitVec 32) : BitVec 32 :=
  let c128_i32_774 : BitVec 32 := 128#32
  let v1454 : BitVec 32 := Scalar.muli v1368 c128_i32_774
  v1454
def k0_off84 (v1368 : BitVec 32) : Fin 4 → Nat :=
  let c0_775 : Index := 0#32
  let c0_776 : Index := 0#32
  let c128_i32_774 : BitVec 32 := 128#32
  let v1454 : BitVec 32 := Scalar.muli v1368 c128_i32_774
  let v1455 : BitVec 32 := v1454
  let v1456 : Index := Scalar.indexCast v1455
  let c0_777 : Index := 0#32
  ![0, 0, v1456.toNat, 0]
def k0_mult120 (v1369 : BitVec 32) : BitVec 32 :=
  let c128_i32_779 : BitVec 32 := 128#32
  let v1460 : BitVec 32 := Scalar.muli v1369 c128_i32_779
  v1460
def k0_mult121 (v1362 : BitVec 32) : BitVec 32 :=
  let c128_i32_784 : BitVec 32 := 128#32
  let v1466 : BitVec 32 := Scalar.muli v1362 c128_i32_784
  v1466
def k0_mult122 (v1363 : BitVec 32) : BitVec 32 :=
  let c128_i32_789 : BitVec 32 := 128#32
  let v1472 : BitVec 32 := Scalar.muli v1363 c128_i32_789
  v1472
def k0_mult123 (v1364 : BitVec 32) : BitVec 32 :=
  let c128_i32_794 : BitVec 32 := 128#32
  let v1478 : BitVec 32 := Scalar.muli v1364 c128_i32_794
  v1478
def k0_mult124 (v1365 : BitVec 32) : BitVec 32 :=
  let c128_i32_799 : BitVec 32 := 128#32
  let v1484 : BitVec 32 := Scalar.muli v1365 c128_i32_799
  v1484
def k0_mult125 (v1366 : BitVec 32) : BitVec 32 :=
  let c128_i32_804 : BitVec 32 := 128#32
  let v1490 : BitVec 32 := Scalar.muli v1366 c128_i32_804
  v1490
def k0_mult126 (v1367 : BitVec 32) : BitVec 32 :=
  let c128_i32_809 : BitVec 32 := 128#32
  let v1496 : BitVec 32 := Scalar.muli v1367 c128_i32_809
  v1496
def k0_mult127 (v1368 : BitVec 32) : BitVec 32 :=
  let c128_i32_814 : BitVec 32 := 128#32
  let v1502 : BitVec 32 := Scalar.muli v1368 c128_i32_814
  v1502
def k0_mult128 (v1369 : BitVec 32) : BitVec 32 :=
  let c128_i32_819 : BitVec 32 := 128#32
  let v1508 : BitVec 32 := Scalar.muli v1369 c128_i32_819
  v1508
def k0_mult129 (v1362 : BitVec 32) : BitVec 32 :=
  let c128_i32_824 : BitVec 32 := 128#32
  let v1514 : BitVec 32 := Scalar.muli v1362 c128_i32_824
  v1514
def k0_mult130 (v1363 : BitVec 32) : BitVec 32 :=
  let c128_i32_829 : BitVec 32 := 128#32
  let v1520 : BitVec 32 := Scalar.muli v1363 c128_i32_829
  v1520
def k0_mult131 (v1364 : BitVec 32) : BitVec 32 :=
  let c128_i32_834 : BitVec 32 := 128#32
  let v1526 : BitVec 32 := Scalar.muli v1364 c128_i32_834
  v1526
def k0_mult132 (v1365 : BitVec 32) : BitVec 32 :=
  let c128_i32_839 : BitVec 32 := 128#32
  let v1532 : BitVec 32 := Scalar.muli v1365 c128_i32_839
  v1532
def k0_mult133 (v1366 : BitVec 32) : BitVec 32 :=
  let c128_i32_844 : BitVec 32 := 128#32
  let v1538 : BitVec 32 := Scalar.muli v1366 c128_i32_844
  v1538
def k0_mult134 (v1367 : BitVec 32) : BitVec 32 :=
  let c128_i32_849 : BitVec 32 := 128#32
  let v1544 : BitVec 32 := Scalar.muli v1367 c128_i32_849
  v1544
def k0_mult135 (v1368 : BitVec 32) : BitVec 32 :=
  let c128_i32_854 : BitVec 32 := 128#32
  let v1550 : BitVec 32 := Scalar.muli v1368 c128_i32_854
  v1550
def k0_mult136 (v1369 : BitVec 32) : BitVec 32 :=
  let c128_i32_859 : BitVec 32 := 128#32
  let v1556 : BitVec 32 := Scalar.muli v1369 c128_i32_859
  v1556
def k0_off85 (v1362 : BitVec 32) : Fin 5 → Nat :=
  let c0_868 : Index := 0#32
  let c0_869 : Index := 0#32
  let v1564 : Index := Scalar.indexCast v1362
  let c0_870 : Index := 0#32
  let c0_871 : Index := 0#32
  ![0, 0, v1564.toNat, 0, 0]

def k0_chk9 (v1362 : BitVec 32) : Prop :=
  (128 ∣ (k0_mult105 v1362).toNat) ∧
  (∀ a, (k0_off70 v1362) a + S1x1x128x256.size a ≤ S1x1x8704x256.size a) ∧
  (128 ∣ (k0_mult113 v1362).toNat) ∧
  (∀ a, (k0_off78 v1362) a + S1x1x128x256.size a ≤ S1x1x8704x256.size a) ∧
  (128 ∣ (k0_mult121 v1362).toNat) ∧
  (128 ∣ (k0_mult129 v1362).toNat) ∧
  (∀ a, (k0_off85 v1362) a + S1x1x1x80x128.size a ≤ S1x1x68x80x128.size a)
theorem k0_mult105_dvd : ∀ (v1362 : BitVec 32) (k0_hw9 : k0_chk9 v1362), 128 ∣ (k0_mult105 v1362).toNat := fun v1362 k0_hw9 => k0_hw9.1
theorem k0_off70_inb : ∀ (v1362 : BitVec 32) (k0_hw9 : k0_chk9 v1362), ∀ a, (k0_off70 v1362) a + S1x1x128x256.size a ≤ S1x1x8704x256.size a := fun v1362 k0_hw9 => k0_hw9.2.1
theorem k0_mult113_dvd : ∀ (v1362 : BitVec 32) (k0_hw9 : k0_chk9 v1362), 128 ∣ (k0_mult113 v1362).toNat := fun v1362 k0_hw9 => k0_hw9.2.2.1
theorem k0_off78_inb : ∀ (v1362 : BitVec 32) (k0_hw9 : k0_chk9 v1362), ∀ a, (k0_off78 v1362) a + S1x1x128x256.size a ≤ S1x1x8704x256.size a := fun v1362 k0_hw9 => k0_hw9.2.2.2.1
theorem k0_mult121_dvd : ∀ (v1362 : BitVec 32) (k0_hw9 : k0_chk9 v1362), 128 ∣ (k0_mult121 v1362).toNat := fun v1362 k0_hw9 => k0_hw9.2.2.2.2.1
theorem k0_mult129_dvd : ∀ (v1362 : BitVec 32) (k0_hw9 : k0_chk9 v1362), 128 ∣ (k0_mult129 v1362).toNat := fun v1362 k0_hw9 => k0_hw9.2.2.2.2.2.1
theorem k0_off85_inb : ∀ (v1362 : BitVec 32) (k0_hw9 : k0_chk9 v1362), ∀ a, (k0_off85 v1362) a + S1x1x1x80x128.size a ≤ S1x1x68x80x128.size a := fun v1362 k0_hw9 => k0_hw9.2.2.2.2.2.2

def k0_off86 (v1363 : BitVec 32) : Fin 5 → Nat :=
  let c0_872 : Index := 0#32
  let c0_873 : Index := 0#32
  let v1567 : Index := Scalar.indexCast v1363
  let c0_874 : Index := 0#32
  let c0_875 : Index := 0#32
  ![0, 0, v1567.toNat, 0, 0]

def k0_chk10 (v1363 : BitVec 32) : Prop :=
  (128 ∣ (k0_mult106 v1363).toNat) ∧
  (∀ a, (k0_off71 v1363) a + S1x1x128x256.size a ≤ S1x1x8704x256.size a) ∧
  (128 ∣ (k0_mult114 v1363).toNat) ∧
  (∀ a, (k0_off79 v1363) a + S1x1x128x256.size a ≤ S1x1x8704x256.size a) ∧
  (128 ∣ (k0_mult122 v1363).toNat) ∧
  (128 ∣ (k0_mult130 v1363).toNat) ∧
  (∀ a, (k0_off86 v1363) a + S1x1x1x80x128.size a ≤ S1x1x68x80x128.size a)
theorem k0_mult106_dvd : ∀ (v1363 : BitVec 32) (k0_hw10 : k0_chk10 v1363), 128 ∣ (k0_mult106 v1363).toNat := fun v1363 k0_hw10 => k0_hw10.1
theorem k0_off71_inb : ∀ (v1363 : BitVec 32) (k0_hw10 : k0_chk10 v1363), ∀ a, (k0_off71 v1363) a + S1x1x128x256.size a ≤ S1x1x8704x256.size a := fun v1363 k0_hw10 => k0_hw10.2.1
theorem k0_mult114_dvd : ∀ (v1363 : BitVec 32) (k0_hw10 : k0_chk10 v1363), 128 ∣ (k0_mult114 v1363).toNat := fun v1363 k0_hw10 => k0_hw10.2.2.1
theorem k0_off79_inb : ∀ (v1363 : BitVec 32) (k0_hw10 : k0_chk10 v1363), ∀ a, (k0_off79 v1363) a + S1x1x128x256.size a ≤ S1x1x8704x256.size a := fun v1363 k0_hw10 => k0_hw10.2.2.2.1
theorem k0_mult122_dvd : ∀ (v1363 : BitVec 32) (k0_hw10 : k0_chk10 v1363), 128 ∣ (k0_mult122 v1363).toNat := fun v1363 k0_hw10 => k0_hw10.2.2.2.2.1
theorem k0_mult130_dvd : ∀ (v1363 : BitVec 32) (k0_hw10 : k0_chk10 v1363), 128 ∣ (k0_mult130 v1363).toNat := fun v1363 k0_hw10 => k0_hw10.2.2.2.2.2.1
theorem k0_off86_inb : ∀ (v1363 : BitVec 32) (k0_hw10 : k0_chk10 v1363), ∀ a, (k0_off86 v1363) a + S1x1x1x80x128.size a ≤ S1x1x68x80x128.size a := fun v1363 k0_hw10 => k0_hw10.2.2.2.2.2.2

def k0_off87 (v1364 : BitVec 32) : Fin 5 → Nat :=
  let c0_877 : Index := 0#32
  let c0_878 : Index := 0#32
  let v1581 : Index := Scalar.indexCast v1364
  let c0_879 : Index := 0#32
  let c0_880 : Index := 0#32
  ![0, 0, v1581.toNat, 0, 0]

def k0_chk11 (v1364 : BitVec 32) : Prop :=
  (128 ∣ (k0_mult107 v1364).toNat) ∧
  (∀ a, (k0_off72 v1364) a + S1x1x128x256.size a ≤ S1x1x8704x256.size a) ∧
  (128 ∣ (k0_mult115 v1364).toNat) ∧
  (∀ a, (k0_off80 v1364) a + S1x1x128x256.size a ≤ S1x1x8704x256.size a) ∧
  (128 ∣ (k0_mult123 v1364).toNat) ∧
  (128 ∣ (k0_mult131 v1364).toNat) ∧
  (∀ a, (k0_off87 v1364) a + S1x1x1x80x128.size a ≤ S1x1x68x80x128.size a)
theorem k0_mult107_dvd : ∀ (v1364 : BitVec 32) (k0_hw11 : k0_chk11 v1364), 128 ∣ (k0_mult107 v1364).toNat := fun v1364 k0_hw11 => k0_hw11.1
theorem k0_off72_inb : ∀ (v1364 : BitVec 32) (k0_hw11 : k0_chk11 v1364), ∀ a, (k0_off72 v1364) a + S1x1x128x256.size a ≤ S1x1x8704x256.size a := fun v1364 k0_hw11 => k0_hw11.2.1
theorem k0_mult115_dvd : ∀ (v1364 : BitVec 32) (k0_hw11 : k0_chk11 v1364), 128 ∣ (k0_mult115 v1364).toNat := fun v1364 k0_hw11 => k0_hw11.2.2.1
theorem k0_off80_inb : ∀ (v1364 : BitVec 32) (k0_hw11 : k0_chk11 v1364), ∀ a, (k0_off80 v1364) a + S1x1x128x256.size a ≤ S1x1x8704x256.size a := fun v1364 k0_hw11 => k0_hw11.2.2.2.1
theorem k0_mult123_dvd : ∀ (v1364 : BitVec 32) (k0_hw11 : k0_chk11 v1364), 128 ∣ (k0_mult123 v1364).toNat := fun v1364 k0_hw11 => k0_hw11.2.2.2.2.1
theorem k0_mult131_dvd : ∀ (v1364 : BitVec 32) (k0_hw11 : k0_chk11 v1364), 128 ∣ (k0_mult131 v1364).toNat := fun v1364 k0_hw11 => k0_hw11.2.2.2.2.2.1
theorem k0_off87_inb : ∀ (v1364 : BitVec 32) (k0_hw11 : k0_chk11 v1364), ∀ a, (k0_off87 v1364) a + S1x1x1x80x128.size a ≤ S1x1x68x80x128.size a := fun v1364 k0_hw11 => k0_hw11.2.2.2.2.2.2

def k0_off88 (v1365 : BitVec 32) : Fin 5 → Nat :=
  let c0_881 : Index := 0#32
  let c0_882 : Index := 0#32
  let v1584 : Index := Scalar.indexCast v1365
  let c0_883 : Index := 0#32
  let c0_884 : Index := 0#32
  ![0, 0, v1584.toNat, 0, 0]

def k0_chk12 (v1365 : BitVec 32) : Prop :=
  (128 ∣ (k0_mult108 v1365).toNat) ∧
  (∀ a, (k0_off73 v1365) a + S1x1x128x256.size a ≤ S1x1x8704x256.size a) ∧
  (128 ∣ (k0_mult116 v1365).toNat) ∧
  (∀ a, (k0_off81 v1365) a + S1x1x128x256.size a ≤ S1x1x8704x256.size a) ∧
  (128 ∣ (k0_mult124 v1365).toNat) ∧
  (128 ∣ (k0_mult132 v1365).toNat) ∧
  (∀ a, (k0_off88 v1365) a + S1x1x1x80x128.size a ≤ S1x1x68x80x128.size a)
theorem k0_mult108_dvd : ∀ (v1365 : BitVec 32) (k0_hw12 : k0_chk12 v1365), 128 ∣ (k0_mult108 v1365).toNat := fun v1365 k0_hw12 => k0_hw12.1
theorem k0_off73_inb : ∀ (v1365 : BitVec 32) (k0_hw12 : k0_chk12 v1365), ∀ a, (k0_off73 v1365) a + S1x1x128x256.size a ≤ S1x1x8704x256.size a := fun v1365 k0_hw12 => k0_hw12.2.1
theorem k0_mult116_dvd : ∀ (v1365 : BitVec 32) (k0_hw12 : k0_chk12 v1365), 128 ∣ (k0_mult116 v1365).toNat := fun v1365 k0_hw12 => k0_hw12.2.2.1
theorem k0_off81_inb : ∀ (v1365 : BitVec 32) (k0_hw12 : k0_chk12 v1365), ∀ a, (k0_off81 v1365) a + S1x1x128x256.size a ≤ S1x1x8704x256.size a := fun v1365 k0_hw12 => k0_hw12.2.2.2.1
theorem k0_mult124_dvd : ∀ (v1365 : BitVec 32) (k0_hw12 : k0_chk12 v1365), 128 ∣ (k0_mult124 v1365).toNat := fun v1365 k0_hw12 => k0_hw12.2.2.2.2.1
theorem k0_mult132_dvd : ∀ (v1365 : BitVec 32) (k0_hw12 : k0_chk12 v1365), 128 ∣ (k0_mult132 v1365).toNat := fun v1365 k0_hw12 => k0_hw12.2.2.2.2.2.1
theorem k0_off88_inb : ∀ (v1365 : BitVec 32) (k0_hw12 : k0_chk12 v1365), ∀ a, (k0_off88 v1365) a + S1x1x1x80x128.size a ≤ S1x1x68x80x128.size a := fun v1365 k0_hw12 => k0_hw12.2.2.2.2.2.2

def k0_off89 (v1366 : BitVec 32) : Fin 5 → Nat :=
  let c0_886 : Index := 0#32
  let c0_887 : Index := 0#32
  let v1599 : Index := Scalar.indexCast v1366
  let c0_888 : Index := 0#32
  let c0_889 : Index := 0#32
  ![0, 0, v1599.toNat, 0, 0]

def k0_chk13 (v1366 : BitVec 32) : Prop :=
  (128 ∣ (k0_mult109 v1366).toNat) ∧
  (∀ a, (k0_off74 v1366) a + S1x1x128x256.size a ≤ S1x1x8704x256.size a) ∧
  (128 ∣ (k0_mult117 v1366).toNat) ∧
  (∀ a, (k0_off82 v1366) a + S1x1x128x256.size a ≤ S1x1x8704x256.size a) ∧
  (128 ∣ (k0_mult125 v1366).toNat) ∧
  (128 ∣ (k0_mult133 v1366).toNat) ∧
  (∀ a, (k0_off89 v1366) a + S1x1x1x80x128.size a ≤ S1x1x68x80x128.size a)
theorem k0_mult109_dvd : ∀ (v1366 : BitVec 32) (k0_hw13 : k0_chk13 v1366), 128 ∣ (k0_mult109 v1366).toNat := fun v1366 k0_hw13 => k0_hw13.1
theorem k0_off74_inb : ∀ (v1366 : BitVec 32) (k0_hw13 : k0_chk13 v1366), ∀ a, (k0_off74 v1366) a + S1x1x128x256.size a ≤ S1x1x8704x256.size a := fun v1366 k0_hw13 => k0_hw13.2.1
theorem k0_mult117_dvd : ∀ (v1366 : BitVec 32) (k0_hw13 : k0_chk13 v1366), 128 ∣ (k0_mult117 v1366).toNat := fun v1366 k0_hw13 => k0_hw13.2.2.1
theorem k0_off82_inb : ∀ (v1366 : BitVec 32) (k0_hw13 : k0_chk13 v1366), ∀ a, (k0_off82 v1366) a + S1x1x128x256.size a ≤ S1x1x8704x256.size a := fun v1366 k0_hw13 => k0_hw13.2.2.2.1
theorem k0_mult125_dvd : ∀ (v1366 : BitVec 32) (k0_hw13 : k0_chk13 v1366), 128 ∣ (k0_mult125 v1366).toNat := fun v1366 k0_hw13 => k0_hw13.2.2.2.2.1
theorem k0_mult133_dvd : ∀ (v1366 : BitVec 32) (k0_hw13 : k0_chk13 v1366), 128 ∣ (k0_mult133 v1366).toNat := fun v1366 k0_hw13 => k0_hw13.2.2.2.2.2.1
theorem k0_off89_inb : ∀ (v1366 : BitVec 32) (k0_hw13 : k0_chk13 v1366), ∀ a, (k0_off89 v1366) a + S1x1x1x80x128.size a ≤ S1x1x68x80x128.size a := fun v1366 k0_hw13 => k0_hw13.2.2.2.2.2.2

def k0_off90 (v1367 : BitVec 32) : Fin 5 → Nat :=
  let c0_890 : Index := 0#32
  let c0_891 : Index := 0#32
  let v1602 : Index := Scalar.indexCast v1367
  let c0_892 : Index := 0#32
  let c0_893 : Index := 0#32
  ![0, 0, v1602.toNat, 0, 0]

def k0_chk14 (v1367 : BitVec 32) : Prop :=
  (128 ∣ (k0_mult110 v1367).toNat) ∧
  (∀ a, (k0_off75 v1367) a + S1x1x128x256.size a ≤ S1x1x8704x256.size a) ∧
  (128 ∣ (k0_mult118 v1367).toNat) ∧
  (∀ a, (k0_off83 v1367) a + S1x1x128x256.size a ≤ S1x1x8704x256.size a) ∧
  (128 ∣ (k0_mult126 v1367).toNat) ∧
  (128 ∣ (k0_mult134 v1367).toNat) ∧
  (∀ a, (k0_off90 v1367) a + S1x1x1x80x128.size a ≤ S1x1x68x80x128.size a)
theorem k0_mult110_dvd : ∀ (v1367 : BitVec 32) (k0_hw14 : k0_chk14 v1367), 128 ∣ (k0_mult110 v1367).toNat := fun v1367 k0_hw14 => k0_hw14.1
theorem k0_off75_inb : ∀ (v1367 : BitVec 32) (k0_hw14 : k0_chk14 v1367), ∀ a, (k0_off75 v1367) a + S1x1x128x256.size a ≤ S1x1x8704x256.size a := fun v1367 k0_hw14 => k0_hw14.2.1
theorem k0_mult118_dvd : ∀ (v1367 : BitVec 32) (k0_hw14 : k0_chk14 v1367), 128 ∣ (k0_mult118 v1367).toNat := fun v1367 k0_hw14 => k0_hw14.2.2.1
theorem k0_off83_inb : ∀ (v1367 : BitVec 32) (k0_hw14 : k0_chk14 v1367), ∀ a, (k0_off83 v1367) a + S1x1x128x256.size a ≤ S1x1x8704x256.size a := fun v1367 k0_hw14 => k0_hw14.2.2.2.1
theorem k0_mult126_dvd : ∀ (v1367 : BitVec 32) (k0_hw14 : k0_chk14 v1367), 128 ∣ (k0_mult126 v1367).toNat := fun v1367 k0_hw14 => k0_hw14.2.2.2.2.1
theorem k0_mult134_dvd : ∀ (v1367 : BitVec 32) (k0_hw14 : k0_chk14 v1367), 128 ∣ (k0_mult134 v1367).toNat := fun v1367 k0_hw14 => k0_hw14.2.2.2.2.2.1
theorem k0_off90_inb : ∀ (v1367 : BitVec 32) (k0_hw14 : k0_chk14 v1367), ∀ a, (k0_off90 v1367) a + S1x1x1x80x128.size a ≤ S1x1x68x80x128.size a := fun v1367 k0_hw14 => k0_hw14.2.2.2.2.2.2

def k0_off91 (v1368 : BitVec 32) : Fin 5 → Nat :=
  let c0_895 : Index := 0#32
  let c0_896 : Index := 0#32
  let v1617 : Index := Scalar.indexCast v1368
  let c0_897 : Index := 0#32
  let c0_898 : Index := 0#32
  ![0, 0, v1617.toNat, 0, 0]

def k0_chk15 (v1368 : BitVec 32) : Prop :=
  (128 ∣ (k0_mult111 v1368).toNat) ∧
  (∀ a, (k0_off76 v1368) a + S1x1x128x256.size a ≤ S1x1x8704x256.size a) ∧
  (128 ∣ (k0_mult119 v1368).toNat) ∧
  (∀ a, (k0_off84 v1368) a + S1x1x128x256.size a ≤ S1x1x8704x256.size a) ∧
  (128 ∣ (k0_mult127 v1368).toNat) ∧
  (128 ∣ (k0_mult135 v1368).toNat) ∧
  (∀ a, (k0_off91 v1368) a + S1x1x1x80x128.size a ≤ S1x1x68x80x128.size a)
theorem k0_mult111_dvd : ∀ (v1368 : BitVec 32) (k0_hw15 : k0_chk15 v1368), 128 ∣ (k0_mult111 v1368).toNat := fun v1368 k0_hw15 => k0_hw15.1
theorem k0_off76_inb : ∀ (v1368 : BitVec 32) (k0_hw15 : k0_chk15 v1368), ∀ a, (k0_off76 v1368) a + S1x1x128x256.size a ≤ S1x1x8704x256.size a := fun v1368 k0_hw15 => k0_hw15.2.1
theorem k0_mult119_dvd : ∀ (v1368 : BitVec 32) (k0_hw15 : k0_chk15 v1368), 128 ∣ (k0_mult119 v1368).toNat := fun v1368 k0_hw15 => k0_hw15.2.2.1
theorem k0_off84_inb : ∀ (v1368 : BitVec 32) (k0_hw15 : k0_chk15 v1368), ∀ a, (k0_off84 v1368) a + S1x1x128x256.size a ≤ S1x1x8704x256.size a := fun v1368 k0_hw15 => k0_hw15.2.2.2.1
theorem k0_mult127_dvd : ∀ (v1368 : BitVec 32) (k0_hw15 : k0_chk15 v1368), 128 ∣ (k0_mult127 v1368).toNat := fun v1368 k0_hw15 => k0_hw15.2.2.2.2.1
theorem k0_mult135_dvd : ∀ (v1368 : BitVec 32) (k0_hw15 : k0_chk15 v1368), 128 ∣ (k0_mult135 v1368).toNat := fun v1368 k0_hw15 => k0_hw15.2.2.2.2.2.1
theorem k0_off91_inb : ∀ (v1368 : BitVec 32) (k0_hw15 : k0_chk15 v1368), ∀ a, (k0_off91 v1368) a + S1x1x1x80x128.size a ≤ S1x1x68x80x128.size a := fun v1368 k0_hw15 => k0_hw15.2.2.2.2.2.2

def k0_off92 (v1369 : BitVec 32) : Fin 5 → Nat :=
  let c0_899 : Index := 0#32
  let c0_900 : Index := 0#32
  let v1620 : Index := Scalar.indexCast v1369
  let c0_901 : Index := 0#32
  let c0_902 : Index := 0#32
  ![0, 0, v1620.toNat, 0, 0]

def k0_chk16 (v1369 : BitVec 32) : Prop :=
  (128 ∣ (k0_mult112 v1369).toNat) ∧
  (∀ a, (k0_off77 v1369) a + S1x1x128x256.size a ≤ S1x1x8704x256.size a) ∧
  (128 ∣ (k0_mult120 v1369).toNat) ∧
  (128 ∣ (k0_mult128 v1369).toNat) ∧
  (128 ∣ (k0_mult136 v1369).toNat) ∧
  (∀ a, (k0_off92 v1369) a + S1x1x1x80x128.size a ≤ S1x1x68x80x128.size a)
theorem k0_mult112_dvd : ∀ (v1369 : BitVec 32) (k0_hw16 : k0_chk16 v1369), 128 ∣ (k0_mult112 v1369).toNat := fun v1369 k0_hw16 => k0_hw16.1
theorem k0_off77_inb : ∀ (v1369 : BitVec 32) (k0_hw16 : k0_chk16 v1369), ∀ a, (k0_off77 v1369) a + S1x1x128x256.size a ≤ S1x1x8704x256.size a := fun v1369 k0_hw16 => k0_hw16.2.1
theorem k0_mult120_dvd : ∀ (v1369 : BitVec 32) (k0_hw16 : k0_chk16 v1369), 128 ∣ (k0_mult120 v1369).toNat := fun v1369 k0_hw16 => k0_hw16.2.2.1
theorem k0_mult128_dvd : ∀ (v1369 : BitVec 32) (k0_hw16 : k0_chk16 v1369), 128 ∣ (k0_mult128 v1369).toNat := fun v1369 k0_hw16 => k0_hw16.2.2.2.1
theorem k0_mult136_dvd : ∀ (v1369 : BitVec 32) (k0_hw16 : k0_chk16 v1369), 128 ∣ (k0_mult136 v1369).toNat := fun v1369 k0_hw16 => k0_hw16.2.2.2.2.1
theorem k0_off92_inb : ∀ (v1369 : BitVec 32) (k0_hw16 : k0_chk16 v1369), ∀ a, (k0_off92 v1369) a + S1x1x1x80x128.size a ≤ S1x1x68x80x128.size a := fun v1369 k0_hw16 => k0_hw16.2.2.2.2.2

@[reducible] def k0_t1_loop (i : grid0.Coords) (v167 : BitVec 32) (v170 : BitVec 32) (v173 : BitVec 32) (v176 : BitVec 32) (v179 : BitVec 32) (v182 : BitVec 32) (v185 : BitVec 32) (v188 : BitVec 32) : Scf.Loop 32 :=
  let c4_i32_1033 : BitVec 32 := 4#32
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let c0_i32_196 : BitVec 32 := 0#32
  let v476 : BitVec 32 := Scalar.shrsi v179 c0_i32_196
  let c3_i32_197 : BitVec 32 := 3#32
  let v477 : BitVec 32 := Scalar.andi v476 c3_i32_197
  let c0_i32_198 : BitVec 32 := 0#32
  let v478 : BitVec 1 := Scalar.cmpi .ne v477 c0_i32_198
  let c32_i32_199 : BitVec 32 := 32#32
  let v481 : BitVec 1 := Scalar.cmpi .sgt v36 c32_i32_199
  let v482 : BitVec 1 := Scalar.andi v478 v481
  let v483 : BitVec 32 := Scalar.extui v482
  let v484 : BitVec 32 := Scalar.addi v475 v483
  let c2_i32_200 : BitVec 32 := 2#32
  let v485 : BitVec 32 := Scalar.shrsi v179 c2_i32_200
  let c3_i32_201 : BitVec 32 := 3#32
  let v486 : BitVec 32 := Scalar.andi v485 c3_i32_201
  let c0_i32_202 : BitVec 32 := 0#32
  let v487 : BitVec 1 := Scalar.cmpi .ne v486 c0_i32_202
  let c33_i32_203 : BitVec 32 := 33#32
  let v490 : BitVec 1 := Scalar.cmpi .sgt v36 c33_i32_203
  let v491 : BitVec 1 := Scalar.andi v487 v490
  let v492 : BitVec 32 := Scalar.extui v491
  let v493 : BitVec 32 := Scalar.addi v484 v492
  let c4_i32_204 : BitVec 32 := 4#32
  let v494 : BitVec 32 := Scalar.shrsi v179 c4_i32_204
  let c3_i32_205 : BitVec 32 := 3#32
  let v495 : BitVec 32 := Scalar.andi v494 c3_i32_205
  let c0_i32_206 : BitVec 32 := 0#32
  let v496 : BitVec 1 := Scalar.cmpi .ne v495 c0_i32_206
  let c34_i32_207 : BitVec 32 := 34#32
  let v499 : BitVec 1 := Scalar.cmpi .sgt v36 c34_i32_207
  let v500 : BitVec 1 := Scalar.andi v496 v499
  let v501 : BitVec 32 := Scalar.extui v500
  let v502 : BitVec 32 := Scalar.addi v493 v501
  let c6_i32_208 : BitVec 32 := 6#32
  let v503 : BitVec 32 := Scalar.shrsi v179 c6_i32_208
  let c3_i32_209 : BitVec 32 := 3#32
  let v504 : BitVec 32 := Scalar.andi v503 c3_i32_209
  let c0_i32_210 : BitVec 32 := 0#32
  let v505 : BitVec 1 := Scalar.cmpi .ne v504 c0_i32_210
  let c35_i32_211 : BitVec 32 := 35#32
  let v508 : BitVec 1 := Scalar.cmpi .sgt v36 c35_i32_211
  let v509 : BitVec 1 := Scalar.andi v505 v508
  let v510 : BitVec 32 := Scalar.extui v509
  let v511 : BitVec 32 := Scalar.addi v502 v510
  let c8_i32_212 : BitVec 32 := 8#32
  let v512 : BitVec 32 := Scalar.shrsi v179 c8_i32_212
  let c3_i32_213 : BitVec 32 := 3#32
  let v513 : BitVec 32 := Scalar.andi v512 c3_i32_213
  let c0_i32_214 : BitVec 32 := 0#32
  let v514 : BitVec 1 := Scalar.cmpi .ne v513 c0_i32_214
  let c36_i32_215 : BitVec 32 := 36#32
  let v517 : BitVec 1 := Scalar.cmpi .sgt v36 c36_i32_215
  let v518 : BitVec 1 := Scalar.andi v514 v517
  let v519 : BitVec 32 := Scalar.extui v518
  let v520 : BitVec 32 := Scalar.addi v511 v519
  let c10_i32_216 : BitVec 32 := 10#32
  let v521 : BitVec 32 := Scalar.shrsi v179 c10_i32_216
  let c3_i32_217 : BitVec 32 := 3#32
  let v522 : BitVec 32 := Scalar.andi v521 c3_i32_217
  let c0_i32_218 : BitVec 32 := 0#32
  let v523 : BitVec 1 := Scalar.cmpi .ne v522 c0_i32_218
  let c37_i32_219 : BitVec 32 := 37#32
  let v526 : BitVec 1 := Scalar.cmpi .sgt v36 c37_i32_219
  let v527 : BitVec 1 := Scalar.andi v523 v526
  let v528 : BitVec 32 := Scalar.extui v527
  let v529 : BitVec 32 := Scalar.addi v520 v528
  let c12_i32_220 : BitVec 32 := 12#32
  let v530 : BitVec 32 := Scalar.shrsi v179 c12_i32_220
  let c3_i32_221 : BitVec 32 := 3#32
  let v531 : BitVec 32 := Scalar.andi v530 c3_i32_221
  let c0_i32_222 : BitVec 32 := 0#32
  let v532 : BitVec 1 := Scalar.cmpi .ne v531 c0_i32_222
  let c38_i32_223 : BitVec 32 := 38#32
  let v535 : BitVec 1 := Scalar.cmpi .sgt v36 c38_i32_223
  let v536 : BitVec 1 := Scalar.andi v532 v535
  let v537 : BitVec 32 := Scalar.extui v536
  let v538 : BitVec 32 := Scalar.addi v529 v537
  let c14_i32_224 : BitVec 32 := 14#32
  let v539 : BitVec 32 := Scalar.shrsi v179 c14_i32_224
  let c3_i32_225 : BitVec 32 := 3#32
  let v540 : BitVec 32 := Scalar.andi v539 c3_i32_225
  let c0_i32_226 : BitVec 32 := 0#32
  let v541 : BitVec 1 := Scalar.cmpi .ne v540 c0_i32_226
  let c39_i32_227 : BitVec 32 := 39#32
  let v544 : BitVec 1 := Scalar.cmpi .sgt v36 c39_i32_227
  let v545 : BitVec 1 := Scalar.andi v541 v544
  let v546 : BitVec 32 := Scalar.extui v545
  let v547 : BitVec 32 := Scalar.addi v538 v546
  let c0_i32_228 : BitVec 32 := 0#32
  let v548 : BitVec 32 := Scalar.shrsi v182 c0_i32_228
  let c3_i32_229 : BitVec 32 := 3#32
  let v549 : BitVec 32 := Scalar.andi v548 c3_i32_229
  let c0_i32_230 : BitVec 32 := 0#32
  let v550 : BitVec 1 := Scalar.cmpi .ne v549 c0_i32_230
  let c40_i32_231 : BitVec 32 := 40#32
  let v553 : BitVec 1 := Scalar.cmpi .sgt v36 c40_i32_231
  let v554 : BitVec 1 := Scalar.andi v550 v553
  let v555 : BitVec 32 := Scalar.extui v554
  let v556 : BitVec 32 := Scalar.addi v547 v555
  let c2_i32_232 : BitVec 32 := 2#32
  let v557 : BitVec 32 := Scalar.shrsi v182 c2_i32_232
  let c3_i32_233 : BitVec 32 := 3#32
  let v558 : BitVec 32 := Scalar.andi v557 c3_i32_233
  let c0_i32_234 : BitVec 32 := 0#32
  let v559 : BitVec 1 := Scalar.cmpi .ne v558 c0_i32_234
  let c41_i32_235 : BitVec 32 := 41#32
  let v562 : BitVec 1 := Scalar.cmpi .sgt v36 c41_i32_235
  let v563 : BitVec 1 := Scalar.andi v559 v562
  let v564 : BitVec 32 := Scalar.extui v563
  let v565 : BitVec 32 := Scalar.addi v556 v564
  let c4_i32_236 : BitVec 32 := 4#32
  let v566 : BitVec 32 := Scalar.shrsi v182 c4_i32_236
  let c3_i32_237 : BitVec 32 := 3#32
  let v567 : BitVec 32 := Scalar.andi v566 c3_i32_237
  let c0_i32_238 : BitVec 32 := 0#32
  let v568 : BitVec 1 := Scalar.cmpi .ne v567 c0_i32_238
  let c42_i32_239 : BitVec 32 := 42#32
  let v571 : BitVec 1 := Scalar.cmpi .sgt v36 c42_i32_239
  let v572 : BitVec 1 := Scalar.andi v568 v571
  let v573 : BitVec 32 := Scalar.extui v572
  let v574 : BitVec 32 := Scalar.addi v565 v573
  let c6_i32_240 : BitVec 32 := 6#32
  let v575 : BitVec 32 := Scalar.shrsi v182 c6_i32_240
  let c3_i32_241 : BitVec 32 := 3#32
  let v576 : BitVec 32 := Scalar.andi v575 c3_i32_241
  let c0_i32_242 : BitVec 32 := 0#32
  let v577 : BitVec 1 := Scalar.cmpi .ne v576 c0_i32_242
  let c43_i32_243 : BitVec 32 := 43#32
  let v580 : BitVec 1 := Scalar.cmpi .sgt v36 c43_i32_243
  let v581 : BitVec 1 := Scalar.andi v577 v580
  let v582 : BitVec 32 := Scalar.extui v581
  let v583 : BitVec 32 := Scalar.addi v574 v582
  let c8_i32_244 : BitVec 32 := 8#32
  let v584 : BitVec 32 := Scalar.shrsi v182 c8_i32_244
  let c3_i32_245 : BitVec 32 := 3#32
  let v585 : BitVec 32 := Scalar.andi v584 c3_i32_245
  let c0_i32_246 : BitVec 32 := 0#32
  let v586 : BitVec 1 := Scalar.cmpi .ne v585 c0_i32_246
  let c44_i32_247 : BitVec 32 := 44#32
  let v589 : BitVec 1 := Scalar.cmpi .sgt v36 c44_i32_247
  let v590 : BitVec 1 := Scalar.andi v586 v589
  let v591 : BitVec 32 := Scalar.extui v590
  let v592 : BitVec 32 := Scalar.addi v583 v591
  let c10_i32_248 : BitVec 32 := 10#32
  let v593 : BitVec 32 := Scalar.shrsi v182 c10_i32_248
  let c3_i32_249 : BitVec 32 := 3#32
  let v594 : BitVec 32 := Scalar.andi v593 c3_i32_249
  let c0_i32_250 : BitVec 32 := 0#32
  let v595 : BitVec 1 := Scalar.cmpi .ne v594 c0_i32_250
  let c45_i32_251 : BitVec 32 := 45#32
  let v598 : BitVec 1 := Scalar.cmpi .sgt v36 c45_i32_251
  let v599 : BitVec 1 := Scalar.andi v595 v598
  let v600 : BitVec 32 := Scalar.extui v599
  let v601 : BitVec 32 := Scalar.addi v592 v600
  let c12_i32_252 : BitVec 32 := 12#32
  let v602 : BitVec 32 := Scalar.shrsi v182 c12_i32_252
  let c3_i32_253 : BitVec 32 := 3#32
  let v603 : BitVec 32 := Scalar.andi v602 c3_i32_253
  let c0_i32_254 : BitVec 32 := 0#32
  let v604 : BitVec 1 := Scalar.cmpi .ne v603 c0_i32_254
  let c46_i32_255 : BitVec 32 := 46#32
  let v607 : BitVec 1 := Scalar.cmpi .sgt v36 c46_i32_255
  let v608 : BitVec 1 := Scalar.andi v604 v607
  let v609 : BitVec 32 := Scalar.extui v608
  let v610 : BitVec 32 := Scalar.addi v601 v609
  let c14_i32_256 : BitVec 32 := 14#32
  let v611 : BitVec 32 := Scalar.shrsi v182 c14_i32_256
  let c3_i32_257 : BitVec 32 := 3#32
  let v612 : BitVec 32 := Scalar.andi v611 c3_i32_257
  let c0_i32_258 : BitVec 32 := 0#32
  let v613 : BitVec 1 := Scalar.cmpi .ne v612 c0_i32_258
  let c47_i32_259 : BitVec 32 := 47#32
  let v616 : BitVec 1 := Scalar.cmpi .sgt v36 c47_i32_259
  let v617 : BitVec 1 := Scalar.andi v613 v616
  let v618 : BitVec 32 := Scalar.extui v617
  let v619 : BitVec 32 := Scalar.addi v610 v618
  let c0_i32_260 : BitVec 32 := 0#32
  let v620 : BitVec 32 := Scalar.shrsi v185 c0_i32_260
  let c3_i32_261 : BitVec 32 := 3#32
  let v621 : BitVec 32 := Scalar.andi v620 c3_i32_261
  let c0_i32_262 : BitVec 32 := 0#32
  let v622 : BitVec 1 := Scalar.cmpi .ne v621 c0_i32_262
  let c48_i32_263 : BitVec 32 := 48#32
  let v625 : BitVec 1 := Scalar.cmpi .sgt v36 c48_i32_263
  let v626 : BitVec 1 := Scalar.andi v622 v625
  let v627 : BitVec 32 := Scalar.extui v626
  let v628 : BitVec 32 := Scalar.addi v619 v627
  let c2_i32_264 : BitVec 32 := 2#32
  let v629 : BitVec 32 := Scalar.shrsi v185 c2_i32_264
  let c3_i32_265 : BitVec 32 := 3#32
  let v630 : BitVec 32 := Scalar.andi v629 c3_i32_265
  let c0_i32_266 : BitVec 32 := 0#32
  let v631 : BitVec 1 := Scalar.cmpi .ne v630 c0_i32_266
  let c49_i32_267 : BitVec 32 := 49#32
  let v634 : BitVec 1 := Scalar.cmpi .sgt v36 c49_i32_267
  let v635 : BitVec 1 := Scalar.andi v631 v634
  let v636 : BitVec 32 := Scalar.extui v635
  let v637 : BitVec 32 := Scalar.addi v628 v636
  let c4_i32_268 : BitVec 32 := 4#32
  let v638 : BitVec 32 := Scalar.shrsi v185 c4_i32_268
  let c3_i32_269 : BitVec 32 := 3#32
  let v639 : BitVec 32 := Scalar.andi v638 c3_i32_269
  let c0_i32_270 : BitVec 32 := 0#32
  let v640 : BitVec 1 := Scalar.cmpi .ne v639 c0_i32_270
  let c50_i32_271 : BitVec 32 := 50#32
  let v643 : BitVec 1 := Scalar.cmpi .sgt v36 c50_i32_271
  let v644 : BitVec 1 := Scalar.andi v640 v643
  let v645 : BitVec 32 := Scalar.extui v644
  let v646 : BitVec 32 := Scalar.addi v637 v645
  let c6_i32_272 : BitVec 32 := 6#32
  let v647 : BitVec 32 := Scalar.shrsi v185 c6_i32_272
  let c3_i32_273 : BitVec 32 := 3#32
  let v648 : BitVec 32 := Scalar.andi v647 c3_i32_273
  let c0_i32_274 : BitVec 32 := 0#32
  let v649 : BitVec 1 := Scalar.cmpi .ne v648 c0_i32_274
  let c51_i32_275 : BitVec 32 := 51#32
  let v652 : BitVec 1 := Scalar.cmpi .sgt v36 c51_i32_275
  let v653 : BitVec 1 := Scalar.andi v649 v652
  let v654 : BitVec 32 := Scalar.extui v653
  let v655 : BitVec 32 := Scalar.addi v646 v654
  let c8_i32_276 : BitVec 32 := 8#32
  let v656 : BitVec 32 := Scalar.shrsi v185 c8_i32_276
  let c3_i32_277 : BitVec 32 := 3#32
  let v657 : BitVec 32 := Scalar.andi v656 c3_i32_277
  let c0_i32_278 : BitVec 32 := 0#32
  let v658 : BitVec 1 := Scalar.cmpi .ne v657 c0_i32_278
  let c52_i32_279 : BitVec 32 := 52#32
  let v661 : BitVec 1 := Scalar.cmpi .sgt v36 c52_i32_279
  let v662 : BitVec 1 := Scalar.andi v658 v661
  let v663 : BitVec 32 := Scalar.extui v662
  let v664 : BitVec 32 := Scalar.addi v655 v663
  let c10_i32_280 : BitVec 32 := 10#32
  let v665 : BitVec 32 := Scalar.shrsi v185 c10_i32_280
  let c3_i32_281 : BitVec 32 := 3#32
  let v666 : BitVec 32 := Scalar.andi v665 c3_i32_281
  let c0_i32_282 : BitVec 32 := 0#32
  let v667 : BitVec 1 := Scalar.cmpi .ne v666 c0_i32_282
  let c53_i32_283 : BitVec 32 := 53#32
  let v670 : BitVec 1 := Scalar.cmpi .sgt v36 c53_i32_283
  let v671 : BitVec 1 := Scalar.andi v667 v670
  let v672 : BitVec 32 := Scalar.extui v671
  let v673 : BitVec 32 := Scalar.addi v664 v672
  let c12_i32_284 : BitVec 32 := 12#32
  let v674 : BitVec 32 := Scalar.shrsi v185 c12_i32_284
  let c3_i32_285 : BitVec 32 := 3#32
  let v675 : BitVec 32 := Scalar.andi v674 c3_i32_285
  let c0_i32_286 : BitVec 32 := 0#32
  let v676 : BitVec 1 := Scalar.cmpi .ne v675 c0_i32_286
  let c54_i32_287 : BitVec 32 := 54#32
  let v679 : BitVec 1 := Scalar.cmpi .sgt v36 c54_i32_287
  let v680 : BitVec 1 := Scalar.andi v676 v679
  let v681 : BitVec 32 := Scalar.extui v680
  let v682 : BitVec 32 := Scalar.addi v673 v681
  let c14_i32_288 : BitVec 32 := 14#32
  let v683 : BitVec 32 := Scalar.shrsi v185 c14_i32_288
  let c3_i32_289 : BitVec 32 := 3#32
  let v684 : BitVec 32 := Scalar.andi v683 c3_i32_289
  let c0_i32_290 : BitVec 32 := 0#32
  let v685 : BitVec 1 := Scalar.cmpi .ne v684 c0_i32_290
  let c55_i32_291 : BitVec 32 := 55#32
  let v688 : BitVec 1 := Scalar.cmpi .sgt v36 c55_i32_291
  let v689 : BitVec 1 := Scalar.andi v685 v688
  let v690 : BitVec 32 := Scalar.extui v689
  let v691 : BitVec 32 := Scalar.addi v682 v690
  let c0_i32_292 : BitVec 32 := 0#32
  let v692 : BitVec 32 := Scalar.shrsi v188 c0_i32_292
  let c3_i32_293 : BitVec 32 := 3#32
  let v693 : BitVec 32 := Scalar.andi v692 c3_i32_293
  let c0_i32_294 : BitVec 32 := 0#32
  let v694 : BitVec 1 := Scalar.cmpi .ne v693 c0_i32_294
  let c56_i32_295 : BitVec 32 := 56#32
  let v697 : BitVec 1 := Scalar.cmpi .sgt v36 c56_i32_295
  let v698 : BitVec 1 := Scalar.andi v694 v697
  let v699 : BitVec 32 := Scalar.extui v698
  let v700 : BitVec 32 := Scalar.addi v691 v699
  let c2_i32_296 : BitVec 32 := 2#32
  let v701 : BitVec 32 := Scalar.shrsi v188 c2_i32_296
  let c3_i32_297 : BitVec 32 := 3#32
  let v702 : BitVec 32 := Scalar.andi v701 c3_i32_297
  let c0_i32_298 : BitVec 32 := 0#32
  let v703 : BitVec 1 := Scalar.cmpi .ne v702 c0_i32_298
  let c57_i32_299 : BitVec 32 := 57#32
  let v706 : BitVec 1 := Scalar.cmpi .sgt v36 c57_i32_299
  let v707 : BitVec 1 := Scalar.andi v703 v706
  let v708 : BitVec 32 := Scalar.extui v707
  let v709 : BitVec 32 := Scalar.addi v700 v708
  let c4_i32_300 : BitVec 32 := 4#32
  let v710 : BitVec 32 := Scalar.shrsi v188 c4_i32_300
  let c3_i32_301 : BitVec 32 := 3#32
  let v711 : BitVec 32 := Scalar.andi v710 c3_i32_301
  let c0_i32_302 : BitVec 32 := 0#32
  let v712 : BitVec 1 := Scalar.cmpi .ne v711 c0_i32_302
  let c58_i32_303 : BitVec 32 := 58#32
  let v715 : BitVec 1 := Scalar.cmpi .sgt v36 c58_i32_303
  let v716 : BitVec 1 := Scalar.andi v712 v715
  let v717 : BitVec 32 := Scalar.extui v716
  let v718 : BitVec 32 := Scalar.addi v709 v717
  let c6_i32_304 : BitVec 32 := 6#32
  let v719 : BitVec 32 := Scalar.shrsi v188 c6_i32_304
  let c3_i32_305 : BitVec 32 := 3#32
  let v720 : BitVec 32 := Scalar.andi v719 c3_i32_305
  let c0_i32_306 : BitVec 32 := 0#32
  let v721 : BitVec 1 := Scalar.cmpi .ne v720 c0_i32_306
  let c59_i32_307 : BitVec 32 := 59#32
  let v724 : BitVec 1 := Scalar.cmpi .sgt v36 c59_i32_307
  let v725 : BitVec 1 := Scalar.andi v721 v724
  let v726 : BitVec 32 := Scalar.extui v725
  let v727 : BitVec 32 := Scalar.addi v718 v726
  let c8_i32_308 : BitVec 32 := 8#32
  let v728 : BitVec 32 := Scalar.shrsi v188 c8_i32_308
  let c3_i32_309 : BitVec 32 := 3#32
  let v729 : BitVec 32 := Scalar.andi v728 c3_i32_309
  let c0_i32_310 : BitVec 32 := 0#32
  let v730 : BitVec 1 := Scalar.cmpi .ne v729 c0_i32_310
  let c60_i32_311 : BitVec 32 := 60#32
  let v733 : BitVec 1 := Scalar.cmpi .sgt v36 c60_i32_311
  let v734 : BitVec 1 := Scalar.andi v730 v733
  let v735 : BitVec 32 := Scalar.extui v734
  let v736 : BitVec 32 := Scalar.addi v727 v735
  let c10_i32_312 : BitVec 32 := 10#32
  let v737 : BitVec 32 := Scalar.shrsi v188 c10_i32_312
  let c3_i32_313 : BitVec 32 := 3#32
  let v738 : BitVec 32 := Scalar.andi v737 c3_i32_313
  let c0_i32_314 : BitVec 32 := 0#32
  let v739 : BitVec 1 := Scalar.cmpi .ne v738 c0_i32_314
  let c61_i32_315 : BitVec 32 := 61#32
  let v742 : BitVec 1 := Scalar.cmpi .sgt v36 c61_i32_315
  let v743 : BitVec 1 := Scalar.andi v739 v742
  let v744 : BitVec 32 := Scalar.extui v743
  let v745 : BitVec 32 := Scalar.addi v736 v744
  let c2_i32_632 : BitVec 32 := 2#32
  let v1231 : BitVec 32 := Scalar.addi v745 c2_i32_632
  let c1_i32_633 : BitVec 32 := 1#32
  let v1232 : BitVec 32 := Scalar.subi v1231 c1_i32_633
  let c0_i32_635 : BitVec 32 := 0#32
  let v1234 : BitVec 1 := Scalar.cmpi .sgt v1232 c0_i32_635
  let v1235 : BitVec 32 := Scalar.extui v1234
  let c0_i32_636 : BitVec 32 := 0#32
  let v1236 : BitVec 1 := Scalar.cmpi .slt v1232 c0_i32_636
  let v1237 : BitVec 32 := Scalar.extui v1236
  let v1238 : BitVec 32 := Scalar.subi v1235 v1237
  let c2_i32_634 : BitVec 32 := 2#32
  let c0_i32_637 : BitVec 32 := 0#32
  let v1239 : BitVec 1 := Scalar.cmpi .sgt c2_i32_634 c0_i32_637
  let v1240 : BitVec 32 := Scalar.extui v1239
  let c0_i32_638 : BitVec 32 := 0#32
  let v1241 : BitVec 1 := Scalar.cmpi .slt c2_i32_634 c0_i32_638
  let v1242 : BitVec 32 := Scalar.extui v1241
  let v1243 : BitVec 32 := Scalar.subi v1240 v1242
  let v1244 : BitVec 1 := Scalar.cmpi .ne v1238 v1243
  let v1245 : BitVec 32 := Scalar.remsi v1232 c2_i32_634
  let c0_i32_639 : BitVec 32 := 0#32
  let v1246 : BitVec 1 := Scalar.cmpi .ne v1245 c0_i32_639
  let v1247 : BitVec 1 := Scalar.andi v1244 v1246
  let v1233 : BitVec 32 := Scalar.divsi v1232 c2_i32_634
  let c1_i32_640 : BitVec 32 := 1#32
  let v1248 : BitVec 32 := Scalar.subi v1233 c1_i32_640
  let v1249 : BitVec 32 := Scalar.select v1247 v1248 v1233
  let v1870 : BitVec 32 := Scalar.subi v1249 c4_i32_1033
  let c1_i32_1034 : BitVec 32 := 1#32
  let v1872 : BitVec 32 := Scalar.divsi v1870 c1_i32_1034
  let v1873 : BitVec 32 := Scalar.muli v1872 c1_i32_1034
  let v1874 : BitVec 32 := Scalar.addi c4_i32_1033 v1873
  let c1_i32_1035 : BitVec 32 := 1#32
  ⟨c4_i32_1033, v1874, c1_i32_1035⟩
def k0_off93 (i : grid0.Coords) (v167 : BitVec 32) (v170 : BitVec 32) (v173 : BitVec 32) (v176 : BitVec 32) (v179 : BitVec 32) (v182 : BitVec 32) (v185 : BitVec 32) (v188 : BitVec 32) (k0_t1 : Fin (k0_t1_loop i v167 v170 v173 v176 v179 v182 v185 v188).trips) (c0_i32_1077 : BitVec 32) : Fin 1 → Nat :=
  let c4_i32_1033 : BitVec 32 := 4#32
  let c1_i32_1035 : BitVec 32 := 1#32
  let arg18 : BitVec 32 := Scf.iv c4_i32_1033 c1_i32_1035 k0_t1
  let c2_i32_1076 : BitVec 32 := 2#32
  let v2028 : BitVec 32 := Scalar.muli arg18 c2_i32_1076
  let v2029 : BitVec 32 := Scalar.addi v2028 c0_i32_1077
  let v2030 : Index := Scalar.indexCast v2029
  ![v2030.toNat]
def k0_mult137 (v2031 : BitVec 32) : BitVec 32 :=
  let c128_i32_1080 : BitVec 32 := 128#32
  let v2036 : BitVec 32 := Scalar.muli v2031 c128_i32_1080
  v2036

def k0_off94 (v2031 : BitVec 32) : Fin 4 → Nat :=
  let c0_1081 : Index := 0#32
  let c0_1082 : Index := 0#32
  let c128_i32_1080 : BitVec 32 := 128#32
  let v2036 : BitVec 32 := Scalar.muli v2031 c128_i32_1080
  let v2037 : BitVec 32 := v2036
  let v2038 : Index := Scalar.indexCast v2037
  let c0_1083 : Index := 0#32
  ![0, 0, v2038.toNat, 0]
def k0_mult138 (v2035 : BitVec 32) : BitVec 32 :=
  let c128_i32_1085 : BitVec 32 := 128#32
  let v2042 : BitVec 32 := Scalar.muli v2035 c128_i32_1085
  v2042

def k0_off95 (v2035 : BitVec 32) : Fin 4 → Nat :=
  let c0_1086 : Index := 0#32
  let c0_1087 : Index := 0#32
  let c128_i32_1085 : BitVec 32 := 128#32
  let v2042 : BitVec 32 := Scalar.muli v2035 c128_i32_1085
  let v2043 : BitVec 32 := v2042
  let v2044 : Index := Scalar.indexCast v2043
  let c0_1088 : Index := 0#32
  ![0, 0, v2044.toNat, 0]
def k0_mult139 (v2031 : BitVec 32) : BitVec 32 :=
  let c128_i32_1090 : BitVec 32 := 128#32
  let v2048 : BitVec 32 := Scalar.muli v2031 c128_i32_1090
  v2048
def k0_off96 (v2031 : BitVec 32) : Fin 4 → Nat :=
  let c0_1091 : Index := 0#32
  let c0_1092 : Index := 0#32
  let c128_i32_1090 : BitVec 32 := 128#32
  let v2048 : BitVec 32 := Scalar.muli v2031 c128_i32_1090
  let v2049 : BitVec 32 := v2048
  let v2050 : Index := Scalar.indexCast v2049
  let c0_1093 : Index := 0#32
  ![0, 0, v2050.toNat, 0]
def k0_mult140 (v2035 : BitVec 32) : BitVec 32 :=
  let c128_i32_1095 : BitVec 32 := 128#32
  let v2054 : BitVec 32 := Scalar.muli v2035 c128_i32_1095
  v2054
def k0_mult141 (v2031 : BitVec 32) : BitVec 32 :=
  let c128_i32_1100 : BitVec 32 := 128#32
  let v2060 : BitVec 32 := Scalar.muli v2031 c128_i32_1100
  v2060
def k0_mult142 (v2035 : BitVec 32) : BitVec 32 :=
  let c128_i32_1105 : BitVec 32 := 128#32
  let v2066 : BitVec 32 := Scalar.muli v2035 c128_i32_1105
  v2066
def k0_mult143 (v2031 : BitVec 32) : BitVec 32 :=
  let c128_i32_1110 : BitVec 32 := 128#32
  let v2072 : BitVec 32 := Scalar.muli v2031 c128_i32_1110
  v2072
def k0_mult144 (v2035 : BitVec 32) : BitVec 32 :=
  let c128_i32_1115 : BitVec 32 := 128#32
  let v2078 : BitVec 32 := Scalar.muli v2035 c128_i32_1115
  v2078
def k0_off97 (v2031 : BitVec 32) : Fin 5 → Nat :=
  let c0_1124 : Index := 0#32
  let c0_1125 : Index := 0#32
  let v2086 : Index := Scalar.indexCast v2031
  let c0_1126 : Index := 0#32
  let c0_1127 : Index := 0#32
  ![0, 0, v2086.toNat, 0, 0]

def k0_chk17 (v2031 : BitVec 32) : Prop :=
  (128 ∣ (k0_mult137 v2031).toNat) ∧
  (∀ a, (k0_off94 v2031) a + S1x1x128x256.size a ≤ S1x1x8704x256.size a) ∧
  (128 ∣ (k0_mult139 v2031).toNat) ∧
  (∀ a, (k0_off96 v2031) a + S1x1x128x256.size a ≤ S1x1x8704x256.size a) ∧
  (128 ∣ (k0_mult141 v2031).toNat) ∧
  (128 ∣ (k0_mult143 v2031).toNat) ∧
  (∀ a, (k0_off97 v2031) a + S1x1x1x80x128.size a ≤ S1x1x68x80x128.size a)
theorem k0_mult137_dvd : ∀ (v2031 : BitVec 32) (k0_hw17 : k0_chk17 v2031), 128 ∣ (k0_mult137 v2031).toNat := fun v2031 k0_hw17 => k0_hw17.1
theorem k0_off94_inb : ∀ (v2031 : BitVec 32) (k0_hw17 : k0_chk17 v2031), ∀ a, (k0_off94 v2031) a + S1x1x128x256.size a ≤ S1x1x8704x256.size a := fun v2031 k0_hw17 => k0_hw17.2.1
theorem k0_mult139_dvd : ∀ (v2031 : BitVec 32) (k0_hw17 : k0_chk17 v2031), 128 ∣ (k0_mult139 v2031).toNat := fun v2031 k0_hw17 => k0_hw17.2.2.1
theorem k0_off96_inb : ∀ (v2031 : BitVec 32) (k0_hw17 : k0_chk17 v2031), ∀ a, (k0_off96 v2031) a + S1x1x128x256.size a ≤ S1x1x8704x256.size a := fun v2031 k0_hw17 => k0_hw17.2.2.2.1
theorem k0_mult141_dvd : ∀ (v2031 : BitVec 32) (k0_hw17 : k0_chk17 v2031), 128 ∣ (k0_mult141 v2031).toNat := fun v2031 k0_hw17 => k0_hw17.2.2.2.2.1
theorem k0_mult143_dvd : ∀ (v2031 : BitVec 32) (k0_hw17 : k0_chk17 v2031), 128 ∣ (k0_mult143 v2031).toNat := fun v2031 k0_hw17 => k0_hw17.2.2.2.2.2.1
theorem k0_off97_inb : ∀ (v2031 : BitVec 32) (k0_hw17 : k0_chk17 v2031), ∀ a, (k0_off97 v2031) a + S1x1x1x80x128.size a ≤ S1x1x68x80x128.size a := fun v2031 k0_hw17 => k0_hw17.2.2.2.2.2.2

def k0_off98 (v2035 : BitVec 32) : Fin 5 → Nat :=
  let c0_1128 : Index := 0#32
  let c0_1129 : Index := 0#32
  let v2089 : Index := Scalar.indexCast v2035
  let c0_1130 : Index := 0#32
  let c0_1131 : Index := 0#32
  ![0, 0, v2089.toNat, 0, 0]

def k0_chk18 (v2035 : BitVec 32) : Prop :=
  (128 ∣ (k0_mult138 v2035).toNat) ∧
  (∀ a, (k0_off95 v2035) a + S1x1x128x256.size a ≤ S1x1x8704x256.size a) ∧
  (128 ∣ (k0_mult140 v2035).toNat) ∧
  (128 ∣ (k0_mult142 v2035).toNat) ∧
  (128 ∣ (k0_mult144 v2035).toNat) ∧
  (∀ a, (k0_off98 v2035) a + S1x1x1x80x128.size a ≤ S1x1x68x80x128.size a)
theorem k0_mult138_dvd : ∀ (v2035 : BitVec 32) (k0_hw18 : k0_chk18 v2035), 128 ∣ (k0_mult138 v2035).toNat := fun v2035 k0_hw18 => k0_hw18.1
theorem k0_off95_inb : ∀ (v2035 : BitVec 32) (k0_hw18 : k0_chk18 v2035), ∀ a, (k0_off95 v2035) a + S1x1x128x256.size a ≤ S1x1x8704x256.size a := fun v2035 k0_hw18 => k0_hw18.2.1
theorem k0_mult140_dvd : ∀ (v2035 : BitVec 32) (k0_hw18 : k0_chk18 v2035), 128 ∣ (k0_mult140 v2035).toNat := fun v2035 k0_hw18 => k0_hw18.2.2.1
theorem k0_mult142_dvd : ∀ (v2035 : BitVec 32) (k0_hw18 : k0_chk18 v2035), 128 ∣ (k0_mult142 v2035).toNat := fun v2035 k0_hw18 => k0_hw18.2.2.2.1
theorem k0_mult144_dvd : ∀ (v2035 : BitVec 32) (k0_hw18 : k0_chk18 v2035), 128 ∣ (k0_mult144 v2035).toNat := fun v2035 k0_hw18 => k0_hw18.2.2.2.2.1
theorem k0_off98_inb : ∀ (v2035 : BitVec 32) (k0_hw18 : k0_chk18 v2035), ∀ a, (k0_off98 v2035) a + S1x1x1x80x128.size a ≤ S1x1x68x80x128.size a := fun v2035 k0_hw18 => k0_hw18.2.2.2.2.2

@[reducible] def k0_t2_loop (i : grid0.Coords) (v167 : BitVec 32) (v170 : BitVec 32) (v173 : BitVec 32) (v176 : BitVec 32) (v179 : BitVec 32) (v182 : BitVec 32) (v185 : BitVec 32) (v188 : BitVec 32) : Scf.Loop 32 :=
  let c4_i32_1033 : BitVec 32 := 4#32
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let c0_i32_196 : BitVec 32 := 0#32
  let v476 : BitVec 32 := Scalar.shrsi v179 c0_i32_196
  let c3_i32_197 : BitVec 32 := 3#32
  let v477 : BitVec 32 := Scalar.andi v476 c3_i32_197
  let c0_i32_198 : BitVec 32 := 0#32
  let v478 : BitVec 1 := Scalar.cmpi .ne v477 c0_i32_198
  let c32_i32_199 : BitVec 32 := 32#32
  let v481 : BitVec 1 := Scalar.cmpi .sgt v36 c32_i32_199
  let v482 : BitVec 1 := Scalar.andi v478 v481
  let v483 : BitVec 32 := Scalar.extui v482
  let v484 : BitVec 32 := Scalar.addi v475 v483
  let c2_i32_200 : BitVec 32 := 2#32
  let v485 : BitVec 32 := Scalar.shrsi v179 c2_i32_200
  let c3_i32_201 : BitVec 32 := 3#32
  let v486 : BitVec 32 := Scalar.andi v485 c3_i32_201
  let c0_i32_202 : BitVec 32 := 0#32
  let v487 : BitVec 1 := Scalar.cmpi .ne v486 c0_i32_202
  let c33_i32_203 : BitVec 32 := 33#32
  let v490 : BitVec 1 := Scalar.cmpi .sgt v36 c33_i32_203
  let v491 : BitVec 1 := Scalar.andi v487 v490
  let v492 : BitVec 32 := Scalar.extui v491
  let v493 : BitVec 32 := Scalar.addi v484 v492
  let c4_i32_204 : BitVec 32 := 4#32
  let v494 : BitVec 32 := Scalar.shrsi v179 c4_i32_204
  let c3_i32_205 : BitVec 32 := 3#32
  let v495 : BitVec 32 := Scalar.andi v494 c3_i32_205
  let c0_i32_206 : BitVec 32 := 0#32
  let v496 : BitVec 1 := Scalar.cmpi .ne v495 c0_i32_206
  let c34_i32_207 : BitVec 32 := 34#32
  let v499 : BitVec 1 := Scalar.cmpi .sgt v36 c34_i32_207
  let v500 : BitVec 1 := Scalar.andi v496 v499
  let v501 : BitVec 32 := Scalar.extui v500
  let v502 : BitVec 32 := Scalar.addi v493 v501
  let c6_i32_208 : BitVec 32 := 6#32
  let v503 : BitVec 32 := Scalar.shrsi v179 c6_i32_208
  let c3_i32_209 : BitVec 32 := 3#32
  let v504 : BitVec 32 := Scalar.andi v503 c3_i32_209
  let c0_i32_210 : BitVec 32 := 0#32
  let v505 : BitVec 1 := Scalar.cmpi .ne v504 c0_i32_210
  let c35_i32_211 : BitVec 32 := 35#32
  let v508 : BitVec 1 := Scalar.cmpi .sgt v36 c35_i32_211
  let v509 : BitVec 1 := Scalar.andi v505 v508
  let v510 : BitVec 32 := Scalar.extui v509
  let v511 : BitVec 32 := Scalar.addi v502 v510
  let c8_i32_212 : BitVec 32 := 8#32
  let v512 : BitVec 32 := Scalar.shrsi v179 c8_i32_212
  let c3_i32_213 : BitVec 32 := 3#32
  let v513 : BitVec 32 := Scalar.andi v512 c3_i32_213
  let c0_i32_214 : BitVec 32 := 0#32
  let v514 : BitVec 1 := Scalar.cmpi .ne v513 c0_i32_214
  let c36_i32_215 : BitVec 32 := 36#32
  let v517 : BitVec 1 := Scalar.cmpi .sgt v36 c36_i32_215
  let v518 : BitVec 1 := Scalar.andi v514 v517
  let v519 : BitVec 32 := Scalar.extui v518
  let v520 : BitVec 32 := Scalar.addi v511 v519
  let c10_i32_216 : BitVec 32 := 10#32
  let v521 : BitVec 32 := Scalar.shrsi v179 c10_i32_216
  let c3_i32_217 : BitVec 32 := 3#32
  let v522 : BitVec 32 := Scalar.andi v521 c3_i32_217
  let c0_i32_218 : BitVec 32 := 0#32
  let v523 : BitVec 1 := Scalar.cmpi .ne v522 c0_i32_218
  let c37_i32_219 : BitVec 32 := 37#32
  let v526 : BitVec 1 := Scalar.cmpi .sgt v36 c37_i32_219
  let v527 : BitVec 1 := Scalar.andi v523 v526
  let v528 : BitVec 32 := Scalar.extui v527
  let v529 : BitVec 32 := Scalar.addi v520 v528
  let c12_i32_220 : BitVec 32 := 12#32
  let v530 : BitVec 32 := Scalar.shrsi v179 c12_i32_220
  let c3_i32_221 : BitVec 32 := 3#32
  let v531 : BitVec 32 := Scalar.andi v530 c3_i32_221
  let c0_i32_222 : BitVec 32 := 0#32
  let v532 : BitVec 1 := Scalar.cmpi .ne v531 c0_i32_222
  let c38_i32_223 : BitVec 32 := 38#32
  let v535 : BitVec 1 := Scalar.cmpi .sgt v36 c38_i32_223
  let v536 : BitVec 1 := Scalar.andi v532 v535
  let v537 : BitVec 32 := Scalar.extui v536
  let v538 : BitVec 32 := Scalar.addi v529 v537
  let c14_i32_224 : BitVec 32 := 14#32
  let v539 : BitVec 32 := Scalar.shrsi v179 c14_i32_224
  let c3_i32_225 : BitVec 32 := 3#32
  let v540 : BitVec 32 := Scalar.andi v539 c3_i32_225
  let c0_i32_226 : BitVec 32 := 0#32
  let v541 : BitVec 1 := Scalar.cmpi .ne v540 c0_i32_226
  let c39_i32_227 : BitVec 32 := 39#32
  let v544 : BitVec 1 := Scalar.cmpi .sgt v36 c39_i32_227
  let v545 : BitVec 1 := Scalar.andi v541 v544
  let v546 : BitVec 32 := Scalar.extui v545
  let v547 : BitVec 32 := Scalar.addi v538 v546
  let c0_i32_228 : BitVec 32 := 0#32
  let v548 : BitVec 32 := Scalar.shrsi v182 c0_i32_228
  let c3_i32_229 : BitVec 32 := 3#32
  let v549 : BitVec 32 := Scalar.andi v548 c3_i32_229
  let c0_i32_230 : BitVec 32 := 0#32
  let v550 : BitVec 1 := Scalar.cmpi .ne v549 c0_i32_230
  let c40_i32_231 : BitVec 32 := 40#32
  let v553 : BitVec 1 := Scalar.cmpi .sgt v36 c40_i32_231
  let v554 : BitVec 1 := Scalar.andi v550 v553
  let v555 : BitVec 32 := Scalar.extui v554
  let v556 : BitVec 32 := Scalar.addi v547 v555
  let c2_i32_232 : BitVec 32 := 2#32
  let v557 : BitVec 32 := Scalar.shrsi v182 c2_i32_232
  let c3_i32_233 : BitVec 32 := 3#32
  let v558 : BitVec 32 := Scalar.andi v557 c3_i32_233
  let c0_i32_234 : BitVec 32 := 0#32
  let v559 : BitVec 1 := Scalar.cmpi .ne v558 c0_i32_234
  let c41_i32_235 : BitVec 32 := 41#32
  let v562 : BitVec 1 := Scalar.cmpi .sgt v36 c41_i32_235
  let v563 : BitVec 1 := Scalar.andi v559 v562
  let v564 : BitVec 32 := Scalar.extui v563
  let v565 : BitVec 32 := Scalar.addi v556 v564
  let c4_i32_236 : BitVec 32 := 4#32
  let v566 : BitVec 32 := Scalar.shrsi v182 c4_i32_236
  let c3_i32_237 : BitVec 32 := 3#32
  let v567 : BitVec 32 := Scalar.andi v566 c3_i32_237
  let c0_i32_238 : BitVec 32 := 0#32
  let v568 : BitVec 1 := Scalar.cmpi .ne v567 c0_i32_238
  let c42_i32_239 : BitVec 32 := 42#32
  let v571 : BitVec 1 := Scalar.cmpi .sgt v36 c42_i32_239
  let v572 : BitVec 1 := Scalar.andi v568 v571
  let v573 : BitVec 32 := Scalar.extui v572
  let v574 : BitVec 32 := Scalar.addi v565 v573
  let c6_i32_240 : BitVec 32 := 6#32
  let v575 : BitVec 32 := Scalar.shrsi v182 c6_i32_240
  let c3_i32_241 : BitVec 32 := 3#32
  let v576 : BitVec 32 := Scalar.andi v575 c3_i32_241
  let c0_i32_242 : BitVec 32 := 0#32
  let v577 : BitVec 1 := Scalar.cmpi .ne v576 c0_i32_242
  let c43_i32_243 : BitVec 32 := 43#32
  let v580 : BitVec 1 := Scalar.cmpi .sgt v36 c43_i32_243
  let v581 : BitVec 1 := Scalar.andi v577 v580
  let v582 : BitVec 32 := Scalar.extui v581
  let v583 : BitVec 32 := Scalar.addi v574 v582
  let c8_i32_244 : BitVec 32 := 8#32
  let v584 : BitVec 32 := Scalar.shrsi v182 c8_i32_244
  let c3_i32_245 : BitVec 32 := 3#32
  let v585 : BitVec 32 := Scalar.andi v584 c3_i32_245
  let c0_i32_246 : BitVec 32 := 0#32
  let v586 : BitVec 1 := Scalar.cmpi .ne v585 c0_i32_246
  let c44_i32_247 : BitVec 32 := 44#32
  let v589 : BitVec 1 := Scalar.cmpi .sgt v36 c44_i32_247
  let v590 : BitVec 1 := Scalar.andi v586 v589
  let v591 : BitVec 32 := Scalar.extui v590
  let v592 : BitVec 32 := Scalar.addi v583 v591
  let c10_i32_248 : BitVec 32 := 10#32
  let v593 : BitVec 32 := Scalar.shrsi v182 c10_i32_248
  let c3_i32_249 : BitVec 32 := 3#32
  let v594 : BitVec 32 := Scalar.andi v593 c3_i32_249
  let c0_i32_250 : BitVec 32 := 0#32
  let v595 : BitVec 1 := Scalar.cmpi .ne v594 c0_i32_250
  let c45_i32_251 : BitVec 32 := 45#32
  let v598 : BitVec 1 := Scalar.cmpi .sgt v36 c45_i32_251
  let v599 : BitVec 1 := Scalar.andi v595 v598
  let v600 : BitVec 32 := Scalar.extui v599
  let v601 : BitVec 32 := Scalar.addi v592 v600
  let c12_i32_252 : BitVec 32 := 12#32
  let v602 : BitVec 32 := Scalar.shrsi v182 c12_i32_252
  let c3_i32_253 : BitVec 32 := 3#32
  let v603 : BitVec 32 := Scalar.andi v602 c3_i32_253
  let c0_i32_254 : BitVec 32 := 0#32
  let v604 : BitVec 1 := Scalar.cmpi .ne v603 c0_i32_254
  let c46_i32_255 : BitVec 32 := 46#32
  let v607 : BitVec 1 := Scalar.cmpi .sgt v36 c46_i32_255
  let v608 : BitVec 1 := Scalar.andi v604 v607
  let v609 : BitVec 32 := Scalar.extui v608
  let v610 : BitVec 32 := Scalar.addi v601 v609
  let c14_i32_256 : BitVec 32 := 14#32
  let v611 : BitVec 32 := Scalar.shrsi v182 c14_i32_256
  let c3_i32_257 : BitVec 32 := 3#32
  let v612 : BitVec 32 := Scalar.andi v611 c3_i32_257
  let c0_i32_258 : BitVec 32 := 0#32
  let v613 : BitVec 1 := Scalar.cmpi .ne v612 c0_i32_258
  let c47_i32_259 : BitVec 32 := 47#32
  let v616 : BitVec 1 := Scalar.cmpi .sgt v36 c47_i32_259
  let v617 : BitVec 1 := Scalar.andi v613 v616
  let v618 : BitVec 32 := Scalar.extui v617
  let v619 : BitVec 32 := Scalar.addi v610 v618
  let c0_i32_260 : BitVec 32 := 0#32
  let v620 : BitVec 32 := Scalar.shrsi v185 c0_i32_260
  let c3_i32_261 : BitVec 32 := 3#32
  let v621 : BitVec 32 := Scalar.andi v620 c3_i32_261
  let c0_i32_262 : BitVec 32 := 0#32
  let v622 : BitVec 1 := Scalar.cmpi .ne v621 c0_i32_262
  let c48_i32_263 : BitVec 32 := 48#32
  let v625 : BitVec 1 := Scalar.cmpi .sgt v36 c48_i32_263
  let v626 : BitVec 1 := Scalar.andi v622 v625
  let v627 : BitVec 32 := Scalar.extui v626
  let v628 : BitVec 32 := Scalar.addi v619 v627
  let c2_i32_264 : BitVec 32 := 2#32
  let v629 : BitVec 32 := Scalar.shrsi v185 c2_i32_264
  let c3_i32_265 : BitVec 32 := 3#32
  let v630 : BitVec 32 := Scalar.andi v629 c3_i32_265
  let c0_i32_266 : BitVec 32 := 0#32
  let v631 : BitVec 1 := Scalar.cmpi .ne v630 c0_i32_266
  let c49_i32_267 : BitVec 32 := 49#32
  let v634 : BitVec 1 := Scalar.cmpi .sgt v36 c49_i32_267
  let v635 : BitVec 1 := Scalar.andi v631 v634
  let v636 : BitVec 32 := Scalar.extui v635
  let v637 : BitVec 32 := Scalar.addi v628 v636
  let c4_i32_268 : BitVec 32 := 4#32
  let v638 : BitVec 32 := Scalar.shrsi v185 c4_i32_268
  let c3_i32_269 : BitVec 32 := 3#32
  let v639 : BitVec 32 := Scalar.andi v638 c3_i32_269
  let c0_i32_270 : BitVec 32 := 0#32
  let v640 : BitVec 1 := Scalar.cmpi .ne v639 c0_i32_270
  let c50_i32_271 : BitVec 32 := 50#32
  let v643 : BitVec 1 := Scalar.cmpi .sgt v36 c50_i32_271
  let v644 : BitVec 1 := Scalar.andi v640 v643
  let v645 : BitVec 32 := Scalar.extui v644
  let v646 : BitVec 32 := Scalar.addi v637 v645
  let c6_i32_272 : BitVec 32 := 6#32
  let v647 : BitVec 32 := Scalar.shrsi v185 c6_i32_272
  let c3_i32_273 : BitVec 32 := 3#32
  let v648 : BitVec 32 := Scalar.andi v647 c3_i32_273
  let c0_i32_274 : BitVec 32 := 0#32
  let v649 : BitVec 1 := Scalar.cmpi .ne v648 c0_i32_274
  let c51_i32_275 : BitVec 32 := 51#32
  let v652 : BitVec 1 := Scalar.cmpi .sgt v36 c51_i32_275
  let v653 : BitVec 1 := Scalar.andi v649 v652
  let v654 : BitVec 32 := Scalar.extui v653
  let v655 : BitVec 32 := Scalar.addi v646 v654
  let c8_i32_276 : BitVec 32 := 8#32
  let v656 : BitVec 32 := Scalar.shrsi v185 c8_i32_276
  let c3_i32_277 : BitVec 32 := 3#32
  let v657 : BitVec 32 := Scalar.andi v656 c3_i32_277
  let c0_i32_278 : BitVec 32 := 0#32
  let v658 : BitVec 1 := Scalar.cmpi .ne v657 c0_i32_278
  let c52_i32_279 : BitVec 32 := 52#32
  let v661 : BitVec 1 := Scalar.cmpi .sgt v36 c52_i32_279
  let v662 : BitVec 1 := Scalar.andi v658 v661
  let v663 : BitVec 32 := Scalar.extui v662
  let v664 : BitVec 32 := Scalar.addi v655 v663
  let c10_i32_280 : BitVec 32 := 10#32
  let v665 : BitVec 32 := Scalar.shrsi v185 c10_i32_280
  let c3_i32_281 : BitVec 32 := 3#32
  let v666 : BitVec 32 := Scalar.andi v665 c3_i32_281
  let c0_i32_282 : BitVec 32 := 0#32
  let v667 : BitVec 1 := Scalar.cmpi .ne v666 c0_i32_282
  let c53_i32_283 : BitVec 32 := 53#32
  let v670 : BitVec 1 := Scalar.cmpi .sgt v36 c53_i32_283
  let v671 : BitVec 1 := Scalar.andi v667 v670
  let v672 : BitVec 32 := Scalar.extui v671
  let v673 : BitVec 32 := Scalar.addi v664 v672
  let c12_i32_284 : BitVec 32 := 12#32
  let v674 : BitVec 32 := Scalar.shrsi v185 c12_i32_284
  let c3_i32_285 : BitVec 32 := 3#32
  let v675 : BitVec 32 := Scalar.andi v674 c3_i32_285
  let c0_i32_286 : BitVec 32 := 0#32
  let v676 : BitVec 1 := Scalar.cmpi .ne v675 c0_i32_286
  let c54_i32_287 : BitVec 32 := 54#32
  let v679 : BitVec 1 := Scalar.cmpi .sgt v36 c54_i32_287
  let v680 : BitVec 1 := Scalar.andi v676 v679
  let v681 : BitVec 32 := Scalar.extui v680
  let v682 : BitVec 32 := Scalar.addi v673 v681
  let c14_i32_288 : BitVec 32 := 14#32
  let v683 : BitVec 32 := Scalar.shrsi v185 c14_i32_288
  let c3_i32_289 : BitVec 32 := 3#32
  let v684 : BitVec 32 := Scalar.andi v683 c3_i32_289
  let c0_i32_290 : BitVec 32 := 0#32
  let v685 : BitVec 1 := Scalar.cmpi .ne v684 c0_i32_290
  let c55_i32_291 : BitVec 32 := 55#32
  let v688 : BitVec 1 := Scalar.cmpi .sgt v36 c55_i32_291
  let v689 : BitVec 1 := Scalar.andi v685 v688
  let v690 : BitVec 32 := Scalar.extui v689
  let v691 : BitVec 32 := Scalar.addi v682 v690
  let c0_i32_292 : BitVec 32 := 0#32
  let v692 : BitVec 32 := Scalar.shrsi v188 c0_i32_292
  let c3_i32_293 : BitVec 32 := 3#32
  let v693 : BitVec 32 := Scalar.andi v692 c3_i32_293
  let c0_i32_294 : BitVec 32 := 0#32
  let v694 : BitVec 1 := Scalar.cmpi .ne v693 c0_i32_294
  let c56_i32_295 : BitVec 32 := 56#32
  let v697 : BitVec 1 := Scalar.cmpi .sgt v36 c56_i32_295
  let v698 : BitVec 1 := Scalar.andi v694 v697
  let v699 : BitVec 32 := Scalar.extui v698
  let v700 : BitVec 32 := Scalar.addi v691 v699
  let c2_i32_296 : BitVec 32 := 2#32
  let v701 : BitVec 32 := Scalar.shrsi v188 c2_i32_296
  let c3_i32_297 : BitVec 32 := 3#32
  let v702 : BitVec 32 := Scalar.andi v701 c3_i32_297
  let c0_i32_298 : BitVec 32 := 0#32
  let v703 : BitVec 1 := Scalar.cmpi .ne v702 c0_i32_298
  let c57_i32_299 : BitVec 32 := 57#32
  let v706 : BitVec 1 := Scalar.cmpi .sgt v36 c57_i32_299
  let v707 : BitVec 1 := Scalar.andi v703 v706
  let v708 : BitVec 32 := Scalar.extui v707
  let v709 : BitVec 32 := Scalar.addi v700 v708
  let c4_i32_300 : BitVec 32 := 4#32
  let v710 : BitVec 32 := Scalar.shrsi v188 c4_i32_300
  let c3_i32_301 : BitVec 32 := 3#32
  let v711 : BitVec 32 := Scalar.andi v710 c3_i32_301
  let c0_i32_302 : BitVec 32 := 0#32
  let v712 : BitVec 1 := Scalar.cmpi .ne v711 c0_i32_302
  let c58_i32_303 : BitVec 32 := 58#32
  let v715 : BitVec 1 := Scalar.cmpi .sgt v36 c58_i32_303
  let v716 : BitVec 1 := Scalar.andi v712 v715
  let v717 : BitVec 32 := Scalar.extui v716
  let v718 : BitVec 32 := Scalar.addi v709 v717
  let c6_i32_304 : BitVec 32 := 6#32
  let v719 : BitVec 32 := Scalar.shrsi v188 c6_i32_304
  let c3_i32_305 : BitVec 32 := 3#32
  let v720 : BitVec 32 := Scalar.andi v719 c3_i32_305
  let c0_i32_306 : BitVec 32 := 0#32
  let v721 : BitVec 1 := Scalar.cmpi .ne v720 c0_i32_306
  let c59_i32_307 : BitVec 32 := 59#32
  let v724 : BitVec 1 := Scalar.cmpi .sgt v36 c59_i32_307
  let v725 : BitVec 1 := Scalar.andi v721 v724
  let v726 : BitVec 32 := Scalar.extui v725
  let v727 : BitVec 32 := Scalar.addi v718 v726
  let c8_i32_308 : BitVec 32 := 8#32
  let v728 : BitVec 32 := Scalar.shrsi v188 c8_i32_308
  let c3_i32_309 : BitVec 32 := 3#32
  let v729 : BitVec 32 := Scalar.andi v728 c3_i32_309
  let c0_i32_310 : BitVec 32 := 0#32
  let v730 : BitVec 1 := Scalar.cmpi .ne v729 c0_i32_310
  let c60_i32_311 : BitVec 32 := 60#32
  let v733 : BitVec 1 := Scalar.cmpi .sgt v36 c60_i32_311
  let v734 : BitVec 1 := Scalar.andi v730 v733
  let v735 : BitVec 32 := Scalar.extui v734
  let v736 : BitVec 32 := Scalar.addi v727 v735
  let c10_i32_312 : BitVec 32 := 10#32
  let v737 : BitVec 32 := Scalar.shrsi v188 c10_i32_312
  let c3_i32_313 : BitVec 32 := 3#32
  let v738 : BitVec 32 := Scalar.andi v737 c3_i32_313
  let c0_i32_314 : BitVec 32 := 0#32
  let v739 : BitVec 1 := Scalar.cmpi .ne v738 c0_i32_314
  let c61_i32_315 : BitVec 32 := 61#32
  let v742 : BitVec 1 := Scalar.cmpi .sgt v36 c61_i32_315
  let v743 : BitVec 1 := Scalar.andi v739 v742
  let v744 : BitVec 32 := Scalar.extui v743
  let v745 : BitVec 32 := Scalar.addi v736 v744
  let c2_i32_632 : BitVec 32 := 2#32
  let v1231 : BitVec 32 := Scalar.addi v745 c2_i32_632
  let c1_i32_633 : BitVec 32 := 1#32
  let v1232 : BitVec 32 := Scalar.subi v1231 c1_i32_633
  let c0_i32_635 : BitVec 32 := 0#32
  let v1234 : BitVec 1 := Scalar.cmpi .sgt v1232 c0_i32_635
  let v1235 : BitVec 32 := Scalar.extui v1234
  let c0_i32_636 : BitVec 32 := 0#32
  let v1236 : BitVec 1 := Scalar.cmpi .slt v1232 c0_i32_636
  let v1237 : BitVec 32 := Scalar.extui v1236
  let v1238 : BitVec 32 := Scalar.subi v1235 v1237
  let c2_i32_634 : BitVec 32 := 2#32
  let c0_i32_637 : BitVec 32 := 0#32
  let v1239 : BitVec 1 := Scalar.cmpi .sgt c2_i32_634 c0_i32_637
  let v1240 : BitVec 32 := Scalar.extui v1239
  let c0_i32_638 : BitVec 32 := 0#32
  let v1241 : BitVec 1 := Scalar.cmpi .slt c2_i32_634 c0_i32_638
  let v1242 : BitVec 32 := Scalar.extui v1241
  let v1243 : BitVec 32 := Scalar.subi v1240 v1242
  let v1244 : BitVec 1 := Scalar.cmpi .ne v1238 v1243
  let v1245 : BitVec 32 := Scalar.remsi v1232 c2_i32_634
  let c0_i32_639 : BitVec 32 := 0#32
  let v1246 : BitVec 1 := Scalar.cmpi .ne v1245 c0_i32_639
  let v1247 : BitVec 1 := Scalar.andi v1244 v1246
  let v1233 : BitVec 32 := Scalar.divsi v1232 c2_i32_634
  let c1_i32_640 : BitVec 32 := 1#32
  let v1248 : BitVec 32 := Scalar.subi v1233 c1_i32_640
  let v1249 : BitVec 32 := Scalar.select v1247 v1248 v1233
  let v1870 : BitVec 32 := Scalar.subi v1249 c4_i32_1033
  let c1_i32_1034 : BitVec 32 := 1#32
  let v1872 : BitVec 32 := Scalar.divsi v1870 c1_i32_1034
  let v1873 : BitVec 32 := Scalar.muli v1872 c1_i32_1034
  let v1874 : BitVec 32 := Scalar.addi c4_i32_1033 v1873
  let v1871 : BitVec 32 := Scalar.addi c4_i32_1033 v1870
  let c1_i32_1036 : BitVec 32 := 1#32
  ⟨v1874, v1871, c1_i32_1036⟩
def k0_off99 (i : grid0.Coords) (v167 : BitVec 32) (v170 : BitVec 32) (v173 : BitVec 32) (v176 : BitVec 32) (v179 : BitVec 32) (v182 : BitVec 32) (v185 : BitVec 32) (v188 : BitVec 32) (k0_t2 : Fin (k0_t2_loop i v167 v170 v173 v176 v179 v182 v185 v188).trips) (c0_i32_1077 : BitVec 32) : Fin 1 → Nat :=
  let c4_i32_1033 : BitVec 32 := 4#32
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let c0_i32_196 : BitVec 32 := 0#32
  let v476 : BitVec 32 := Scalar.shrsi v179 c0_i32_196
  let c3_i32_197 : BitVec 32 := 3#32
  let v477 : BitVec 32 := Scalar.andi v476 c3_i32_197
  let c0_i32_198 : BitVec 32 := 0#32
  let v478 : BitVec 1 := Scalar.cmpi .ne v477 c0_i32_198
  let c32_i32_199 : BitVec 32 := 32#32
  let v481 : BitVec 1 := Scalar.cmpi .sgt v36 c32_i32_199
  let v482 : BitVec 1 := Scalar.andi v478 v481
  let v483 : BitVec 32 := Scalar.extui v482
  let v484 : BitVec 32 := Scalar.addi v475 v483
  let c2_i32_200 : BitVec 32 := 2#32
  let v485 : BitVec 32 := Scalar.shrsi v179 c2_i32_200
  let c3_i32_201 : BitVec 32 := 3#32
  let v486 : BitVec 32 := Scalar.andi v485 c3_i32_201
  let c0_i32_202 : BitVec 32 := 0#32
  let v487 : BitVec 1 := Scalar.cmpi .ne v486 c0_i32_202
  let c33_i32_203 : BitVec 32 := 33#32
  let v490 : BitVec 1 := Scalar.cmpi .sgt v36 c33_i32_203
  let v491 : BitVec 1 := Scalar.andi v487 v490
  let v492 : BitVec 32 := Scalar.extui v491
  let v493 : BitVec 32 := Scalar.addi v484 v492
  let c4_i32_204 : BitVec 32 := 4#32
  let v494 : BitVec 32 := Scalar.shrsi v179 c4_i32_204
  let c3_i32_205 : BitVec 32 := 3#32
  let v495 : BitVec 32 := Scalar.andi v494 c3_i32_205
  let c0_i32_206 : BitVec 32 := 0#32
  let v496 : BitVec 1 := Scalar.cmpi .ne v495 c0_i32_206
  let c34_i32_207 : BitVec 32 := 34#32
  let v499 : BitVec 1 := Scalar.cmpi .sgt v36 c34_i32_207
  let v500 : BitVec 1 := Scalar.andi v496 v499
  let v501 : BitVec 32 := Scalar.extui v500
  let v502 : BitVec 32 := Scalar.addi v493 v501
  let c6_i32_208 : BitVec 32 := 6#32
  let v503 : BitVec 32 := Scalar.shrsi v179 c6_i32_208
  let c3_i32_209 : BitVec 32 := 3#32
  let v504 : BitVec 32 := Scalar.andi v503 c3_i32_209
  let c0_i32_210 : BitVec 32 := 0#32
  let v505 : BitVec 1 := Scalar.cmpi .ne v504 c0_i32_210
  let c35_i32_211 : BitVec 32 := 35#32
  let v508 : BitVec 1 := Scalar.cmpi .sgt v36 c35_i32_211
  let v509 : BitVec 1 := Scalar.andi v505 v508
  let v510 : BitVec 32 := Scalar.extui v509
  let v511 : BitVec 32 := Scalar.addi v502 v510
  let c8_i32_212 : BitVec 32 := 8#32
  let v512 : BitVec 32 := Scalar.shrsi v179 c8_i32_212
  let c3_i32_213 : BitVec 32 := 3#32
  let v513 : BitVec 32 := Scalar.andi v512 c3_i32_213
  let c0_i32_214 : BitVec 32 := 0#32
  let v514 : BitVec 1 := Scalar.cmpi .ne v513 c0_i32_214
  let c36_i32_215 : BitVec 32 := 36#32
  let v517 : BitVec 1 := Scalar.cmpi .sgt v36 c36_i32_215
  let v518 : BitVec 1 := Scalar.andi v514 v517
  let v519 : BitVec 32 := Scalar.extui v518
  let v520 : BitVec 32 := Scalar.addi v511 v519
  let c10_i32_216 : BitVec 32 := 10#32
  let v521 : BitVec 32 := Scalar.shrsi v179 c10_i32_216
  let c3_i32_217 : BitVec 32 := 3#32
  let v522 : BitVec 32 := Scalar.andi v521 c3_i32_217
  let c0_i32_218 : BitVec 32 := 0#32
  let v523 : BitVec 1 := Scalar.cmpi .ne v522 c0_i32_218
  let c37_i32_219 : BitVec 32 := 37#32
  let v526 : BitVec 1 := Scalar.cmpi .sgt v36 c37_i32_219
  let v527 : BitVec 1 := Scalar.andi v523 v526
  let v528 : BitVec 32 := Scalar.extui v527
  let v529 : BitVec 32 := Scalar.addi v520 v528
  let c12_i32_220 : BitVec 32 := 12#32
  let v530 : BitVec 32 := Scalar.shrsi v179 c12_i32_220
  let c3_i32_221 : BitVec 32 := 3#32
  let v531 : BitVec 32 := Scalar.andi v530 c3_i32_221
  let c0_i32_222 : BitVec 32 := 0#32
  let v532 : BitVec 1 := Scalar.cmpi .ne v531 c0_i32_222
  let c38_i32_223 : BitVec 32 := 38#32
  let v535 : BitVec 1 := Scalar.cmpi .sgt v36 c38_i32_223
  let v536 : BitVec 1 := Scalar.andi v532 v535
  let v537 : BitVec 32 := Scalar.extui v536
  let v538 : BitVec 32 := Scalar.addi v529 v537
  let c14_i32_224 : BitVec 32 := 14#32
  let v539 : BitVec 32 := Scalar.shrsi v179 c14_i32_224
  let c3_i32_225 : BitVec 32 := 3#32
  let v540 : BitVec 32 := Scalar.andi v539 c3_i32_225
  let c0_i32_226 : BitVec 32 := 0#32
  let v541 : BitVec 1 := Scalar.cmpi .ne v540 c0_i32_226
  let c39_i32_227 : BitVec 32 := 39#32
  let v544 : BitVec 1 := Scalar.cmpi .sgt v36 c39_i32_227
  let v545 : BitVec 1 := Scalar.andi v541 v544
  let v546 : BitVec 32 := Scalar.extui v545
  let v547 : BitVec 32 := Scalar.addi v538 v546
  let c0_i32_228 : BitVec 32 := 0#32
  let v548 : BitVec 32 := Scalar.shrsi v182 c0_i32_228
  let c3_i32_229 : BitVec 32 := 3#32
  let v549 : BitVec 32 := Scalar.andi v548 c3_i32_229
  let c0_i32_230 : BitVec 32 := 0#32
  let v550 : BitVec 1 := Scalar.cmpi .ne v549 c0_i32_230
  let c40_i32_231 : BitVec 32 := 40#32
  let v553 : BitVec 1 := Scalar.cmpi .sgt v36 c40_i32_231
  let v554 : BitVec 1 := Scalar.andi v550 v553
  let v555 : BitVec 32 := Scalar.extui v554
  let v556 : BitVec 32 := Scalar.addi v547 v555
  let c2_i32_232 : BitVec 32 := 2#32
  let v557 : BitVec 32 := Scalar.shrsi v182 c2_i32_232
  let c3_i32_233 : BitVec 32 := 3#32
  let v558 : BitVec 32 := Scalar.andi v557 c3_i32_233
  let c0_i32_234 : BitVec 32 := 0#32
  let v559 : BitVec 1 := Scalar.cmpi .ne v558 c0_i32_234
  let c41_i32_235 : BitVec 32 := 41#32
  let v562 : BitVec 1 := Scalar.cmpi .sgt v36 c41_i32_235
  let v563 : BitVec 1 := Scalar.andi v559 v562
  let v564 : BitVec 32 := Scalar.extui v563
  let v565 : BitVec 32 := Scalar.addi v556 v564
  let c4_i32_236 : BitVec 32 := 4#32
  let v566 : BitVec 32 := Scalar.shrsi v182 c4_i32_236
  let c3_i32_237 : BitVec 32 := 3#32
  let v567 : BitVec 32 := Scalar.andi v566 c3_i32_237
  let c0_i32_238 : BitVec 32 := 0#32
  let v568 : BitVec 1 := Scalar.cmpi .ne v567 c0_i32_238
  let c42_i32_239 : BitVec 32 := 42#32
  let v571 : BitVec 1 := Scalar.cmpi .sgt v36 c42_i32_239
  let v572 : BitVec 1 := Scalar.andi v568 v571
  let v573 : BitVec 32 := Scalar.extui v572
  let v574 : BitVec 32 := Scalar.addi v565 v573
  let c6_i32_240 : BitVec 32 := 6#32
  let v575 : BitVec 32 := Scalar.shrsi v182 c6_i32_240
  let c3_i32_241 : BitVec 32 := 3#32
  let v576 : BitVec 32 := Scalar.andi v575 c3_i32_241
  let c0_i32_242 : BitVec 32 := 0#32
  let v577 : BitVec 1 := Scalar.cmpi .ne v576 c0_i32_242
  let c43_i32_243 : BitVec 32 := 43#32
  let v580 : BitVec 1 := Scalar.cmpi .sgt v36 c43_i32_243
  let v581 : BitVec 1 := Scalar.andi v577 v580
  let v582 : BitVec 32 := Scalar.extui v581
  let v583 : BitVec 32 := Scalar.addi v574 v582
  let c8_i32_244 : BitVec 32 := 8#32
  let v584 : BitVec 32 := Scalar.shrsi v182 c8_i32_244
  let c3_i32_245 : BitVec 32 := 3#32
  let v585 : BitVec 32 := Scalar.andi v584 c3_i32_245
  let c0_i32_246 : BitVec 32 := 0#32
  let v586 : BitVec 1 := Scalar.cmpi .ne v585 c0_i32_246
  let c44_i32_247 : BitVec 32 := 44#32
  let v589 : BitVec 1 := Scalar.cmpi .sgt v36 c44_i32_247
  let v590 : BitVec 1 := Scalar.andi v586 v589
  let v591 : BitVec 32 := Scalar.extui v590
  let v592 : BitVec 32 := Scalar.addi v583 v591
  let c10_i32_248 : BitVec 32 := 10#32
  let v593 : BitVec 32 := Scalar.shrsi v182 c10_i32_248
  let c3_i32_249 : BitVec 32 := 3#32
  let v594 : BitVec 32 := Scalar.andi v593 c3_i32_249
  let c0_i32_250 : BitVec 32 := 0#32
  let v595 : BitVec 1 := Scalar.cmpi .ne v594 c0_i32_250
  let c45_i32_251 : BitVec 32 := 45#32
  let v598 : BitVec 1 := Scalar.cmpi .sgt v36 c45_i32_251
  let v599 : BitVec 1 := Scalar.andi v595 v598
  let v600 : BitVec 32 := Scalar.extui v599
  let v601 : BitVec 32 := Scalar.addi v592 v600
  let c12_i32_252 : BitVec 32 := 12#32
  let v602 : BitVec 32 := Scalar.shrsi v182 c12_i32_252
  let c3_i32_253 : BitVec 32 := 3#32
  let v603 : BitVec 32 := Scalar.andi v602 c3_i32_253
  let c0_i32_254 : BitVec 32 := 0#32
  let v604 : BitVec 1 := Scalar.cmpi .ne v603 c0_i32_254
  let c46_i32_255 : BitVec 32 := 46#32
  let v607 : BitVec 1 := Scalar.cmpi .sgt v36 c46_i32_255
  let v608 : BitVec 1 := Scalar.andi v604 v607
  let v609 : BitVec 32 := Scalar.extui v608
  let v610 : BitVec 32 := Scalar.addi v601 v609
  let c14_i32_256 : BitVec 32 := 14#32
  let v611 : BitVec 32 := Scalar.shrsi v182 c14_i32_256
  let c3_i32_257 : BitVec 32 := 3#32
  let v612 : BitVec 32 := Scalar.andi v611 c3_i32_257
  let c0_i32_258 : BitVec 32 := 0#32
  let v613 : BitVec 1 := Scalar.cmpi .ne v612 c0_i32_258
  let c47_i32_259 : BitVec 32 := 47#32
  let v616 : BitVec 1 := Scalar.cmpi .sgt v36 c47_i32_259
  let v617 : BitVec 1 := Scalar.andi v613 v616
  let v618 : BitVec 32 := Scalar.extui v617
  let v619 : BitVec 32 := Scalar.addi v610 v618
  let c0_i32_260 : BitVec 32 := 0#32
  let v620 : BitVec 32 := Scalar.shrsi v185 c0_i32_260
  let c3_i32_261 : BitVec 32 := 3#32
  let v621 : BitVec 32 := Scalar.andi v620 c3_i32_261
  let c0_i32_262 : BitVec 32 := 0#32
  let v622 : BitVec 1 := Scalar.cmpi .ne v621 c0_i32_262
  let c48_i32_263 : BitVec 32 := 48#32
  let v625 : BitVec 1 := Scalar.cmpi .sgt v36 c48_i32_263
  let v626 : BitVec 1 := Scalar.andi v622 v625
  let v627 : BitVec 32 := Scalar.extui v626
  let v628 : BitVec 32 := Scalar.addi v619 v627
  let c2_i32_264 : BitVec 32 := 2#32
  let v629 : BitVec 32 := Scalar.shrsi v185 c2_i32_264
  let c3_i32_265 : BitVec 32 := 3#32
  let v630 : BitVec 32 := Scalar.andi v629 c3_i32_265
  let c0_i32_266 : BitVec 32 := 0#32
  let v631 : BitVec 1 := Scalar.cmpi .ne v630 c0_i32_266
  let c49_i32_267 : BitVec 32 := 49#32
  let v634 : BitVec 1 := Scalar.cmpi .sgt v36 c49_i32_267
  let v635 : BitVec 1 := Scalar.andi v631 v634
  let v636 : BitVec 32 := Scalar.extui v635
  let v637 : BitVec 32 := Scalar.addi v628 v636
  let c4_i32_268 : BitVec 32 := 4#32
  let v638 : BitVec 32 := Scalar.shrsi v185 c4_i32_268
  let c3_i32_269 : BitVec 32 := 3#32
  let v639 : BitVec 32 := Scalar.andi v638 c3_i32_269
  let c0_i32_270 : BitVec 32 := 0#32
  let v640 : BitVec 1 := Scalar.cmpi .ne v639 c0_i32_270
  let c50_i32_271 : BitVec 32 := 50#32
  let v643 : BitVec 1 := Scalar.cmpi .sgt v36 c50_i32_271
  let v644 : BitVec 1 := Scalar.andi v640 v643
  let v645 : BitVec 32 := Scalar.extui v644
  let v646 : BitVec 32 := Scalar.addi v637 v645
  let c6_i32_272 : BitVec 32 := 6#32
  let v647 : BitVec 32 := Scalar.shrsi v185 c6_i32_272
  let c3_i32_273 : BitVec 32 := 3#32
  let v648 : BitVec 32 := Scalar.andi v647 c3_i32_273
  let c0_i32_274 : BitVec 32 := 0#32
  let v649 : BitVec 1 := Scalar.cmpi .ne v648 c0_i32_274
  let c51_i32_275 : BitVec 32 := 51#32
  let v652 : BitVec 1 := Scalar.cmpi .sgt v36 c51_i32_275
  let v653 : BitVec 1 := Scalar.andi v649 v652
  let v654 : BitVec 32 := Scalar.extui v653
  let v655 : BitVec 32 := Scalar.addi v646 v654
  let c8_i32_276 : BitVec 32 := 8#32
  let v656 : BitVec 32 := Scalar.shrsi v185 c8_i32_276
  let c3_i32_277 : BitVec 32 := 3#32
  let v657 : BitVec 32 := Scalar.andi v656 c3_i32_277
  let c0_i32_278 : BitVec 32 := 0#32
  let v658 : BitVec 1 := Scalar.cmpi .ne v657 c0_i32_278
  let c52_i32_279 : BitVec 32 := 52#32
  let v661 : BitVec 1 := Scalar.cmpi .sgt v36 c52_i32_279
  let v662 : BitVec 1 := Scalar.andi v658 v661
  let v663 : BitVec 32 := Scalar.extui v662
  let v664 : BitVec 32 := Scalar.addi v655 v663
  let c10_i32_280 : BitVec 32 := 10#32
  let v665 : BitVec 32 := Scalar.shrsi v185 c10_i32_280
  let c3_i32_281 : BitVec 32 := 3#32
  let v666 : BitVec 32 := Scalar.andi v665 c3_i32_281
  let c0_i32_282 : BitVec 32 := 0#32
  let v667 : BitVec 1 := Scalar.cmpi .ne v666 c0_i32_282
  let c53_i32_283 : BitVec 32 := 53#32
  let v670 : BitVec 1 := Scalar.cmpi .sgt v36 c53_i32_283
  let v671 : BitVec 1 := Scalar.andi v667 v670
  let v672 : BitVec 32 := Scalar.extui v671
  let v673 : BitVec 32 := Scalar.addi v664 v672
  let c12_i32_284 : BitVec 32 := 12#32
  let v674 : BitVec 32 := Scalar.shrsi v185 c12_i32_284
  let c3_i32_285 : BitVec 32 := 3#32
  let v675 : BitVec 32 := Scalar.andi v674 c3_i32_285
  let c0_i32_286 : BitVec 32 := 0#32
  let v676 : BitVec 1 := Scalar.cmpi .ne v675 c0_i32_286
  let c54_i32_287 : BitVec 32 := 54#32
  let v679 : BitVec 1 := Scalar.cmpi .sgt v36 c54_i32_287
  let v680 : BitVec 1 := Scalar.andi v676 v679
  let v681 : BitVec 32 := Scalar.extui v680
  let v682 : BitVec 32 := Scalar.addi v673 v681
  let c14_i32_288 : BitVec 32 := 14#32
  let v683 : BitVec 32 := Scalar.shrsi v185 c14_i32_288
  let c3_i32_289 : BitVec 32 := 3#32
  let v684 : BitVec 32 := Scalar.andi v683 c3_i32_289
  let c0_i32_290 : BitVec 32 := 0#32
  let v685 : BitVec 1 := Scalar.cmpi .ne v684 c0_i32_290
  let c55_i32_291 : BitVec 32 := 55#32
  let v688 : BitVec 1 := Scalar.cmpi .sgt v36 c55_i32_291
  let v689 : BitVec 1 := Scalar.andi v685 v688
  let v690 : BitVec 32 := Scalar.extui v689
  let v691 : BitVec 32 := Scalar.addi v682 v690
  let c0_i32_292 : BitVec 32 := 0#32
  let v692 : BitVec 32 := Scalar.shrsi v188 c0_i32_292
  let c3_i32_293 : BitVec 32 := 3#32
  let v693 : BitVec 32 := Scalar.andi v692 c3_i32_293
  let c0_i32_294 : BitVec 32 := 0#32
  let v694 : BitVec 1 := Scalar.cmpi .ne v693 c0_i32_294
  let c56_i32_295 : BitVec 32 := 56#32
  let v697 : BitVec 1 := Scalar.cmpi .sgt v36 c56_i32_295
  let v698 : BitVec 1 := Scalar.andi v694 v697
  let v699 : BitVec 32 := Scalar.extui v698
  let v700 : BitVec 32 := Scalar.addi v691 v699
  let c2_i32_296 : BitVec 32 := 2#32
  let v701 : BitVec 32 := Scalar.shrsi v188 c2_i32_296
  let c3_i32_297 : BitVec 32 := 3#32
  let v702 : BitVec 32 := Scalar.andi v701 c3_i32_297
  let c0_i32_298 : BitVec 32 := 0#32
  let v703 : BitVec 1 := Scalar.cmpi .ne v702 c0_i32_298
  let c57_i32_299 : BitVec 32 := 57#32
  let v706 : BitVec 1 := Scalar.cmpi .sgt v36 c57_i32_299
  let v707 : BitVec 1 := Scalar.andi v703 v706
  let v708 : BitVec 32 := Scalar.extui v707
  let v709 : BitVec 32 := Scalar.addi v700 v708
  let c4_i32_300 : BitVec 32 := 4#32
  let v710 : BitVec 32 := Scalar.shrsi v188 c4_i32_300
  let c3_i32_301 : BitVec 32 := 3#32
  let v711 : BitVec 32 := Scalar.andi v710 c3_i32_301
  let c0_i32_302 : BitVec 32 := 0#32
  let v712 : BitVec 1 := Scalar.cmpi .ne v711 c0_i32_302
  let c58_i32_303 : BitVec 32 := 58#32
  let v715 : BitVec 1 := Scalar.cmpi .sgt v36 c58_i32_303
  let v716 : BitVec 1 := Scalar.andi v712 v715
  let v717 : BitVec 32 := Scalar.extui v716
  let v718 : BitVec 32 := Scalar.addi v709 v717
  let c6_i32_304 : BitVec 32 := 6#32
  let v719 : BitVec 32 := Scalar.shrsi v188 c6_i32_304
  let c3_i32_305 : BitVec 32 := 3#32
  let v720 : BitVec 32 := Scalar.andi v719 c3_i32_305
  let c0_i32_306 : BitVec 32 := 0#32
  let v721 : BitVec 1 := Scalar.cmpi .ne v720 c0_i32_306
  let c59_i32_307 : BitVec 32 := 59#32
  let v724 : BitVec 1 := Scalar.cmpi .sgt v36 c59_i32_307
  let v725 : BitVec 1 := Scalar.andi v721 v724
  let v726 : BitVec 32 := Scalar.extui v725
  let v727 : BitVec 32 := Scalar.addi v718 v726
  let c8_i32_308 : BitVec 32 := 8#32
  let v728 : BitVec 32 := Scalar.shrsi v188 c8_i32_308
  let c3_i32_309 : BitVec 32 := 3#32
  let v729 : BitVec 32 := Scalar.andi v728 c3_i32_309
  let c0_i32_310 : BitVec 32 := 0#32
  let v730 : BitVec 1 := Scalar.cmpi .ne v729 c0_i32_310
  let c60_i32_311 : BitVec 32 := 60#32
  let v733 : BitVec 1 := Scalar.cmpi .sgt v36 c60_i32_311
  let v734 : BitVec 1 := Scalar.andi v730 v733
  let v735 : BitVec 32 := Scalar.extui v734
  let v736 : BitVec 32 := Scalar.addi v727 v735
  let c10_i32_312 : BitVec 32 := 10#32
  let v737 : BitVec 32 := Scalar.shrsi v188 c10_i32_312
  let c3_i32_313 : BitVec 32 := 3#32
  let v738 : BitVec 32 := Scalar.andi v737 c3_i32_313
  let c0_i32_314 : BitVec 32 := 0#32
  let v739 : BitVec 1 := Scalar.cmpi .ne v738 c0_i32_314
  let c61_i32_315 : BitVec 32 := 61#32
  let v742 : BitVec 1 := Scalar.cmpi .sgt v36 c61_i32_315
  let v743 : BitVec 1 := Scalar.andi v739 v742
  let v744 : BitVec 32 := Scalar.extui v743
  let v745 : BitVec 32 := Scalar.addi v736 v744
  let c2_i32_632 : BitVec 32 := 2#32
  let v1231 : BitVec 32 := Scalar.addi v745 c2_i32_632
  let c1_i32_633 : BitVec 32 := 1#32
  let v1232 : BitVec 32 := Scalar.subi v1231 c1_i32_633
  let c0_i32_635 : BitVec 32 := 0#32
  let v1234 : BitVec 1 := Scalar.cmpi .sgt v1232 c0_i32_635
  let v1235 : BitVec 32 := Scalar.extui v1234
  let c0_i32_636 : BitVec 32 := 0#32
  let v1236 : BitVec 1 := Scalar.cmpi .slt v1232 c0_i32_636
  let v1237 : BitVec 32 := Scalar.extui v1236
  let v1238 : BitVec 32 := Scalar.subi v1235 v1237
  let c2_i32_634 : BitVec 32 := 2#32
  let c0_i32_637 : BitVec 32 := 0#32
  let v1239 : BitVec 1 := Scalar.cmpi .sgt c2_i32_634 c0_i32_637
  let v1240 : BitVec 32 := Scalar.extui v1239
  let c0_i32_638 : BitVec 32 := 0#32
  let v1241 : BitVec 1 := Scalar.cmpi .slt c2_i32_634 c0_i32_638
  let v1242 : BitVec 32 := Scalar.extui v1241
  let v1243 : BitVec 32 := Scalar.subi v1240 v1242
  let v1244 : BitVec 1 := Scalar.cmpi .ne v1238 v1243
  let v1245 : BitVec 32 := Scalar.remsi v1232 c2_i32_634
  let c0_i32_639 : BitVec 32 := 0#32
  let v1246 : BitVec 1 := Scalar.cmpi .ne v1245 c0_i32_639
  let v1247 : BitVec 1 := Scalar.andi v1244 v1246
  let v1233 : BitVec 32 := Scalar.divsi v1232 c2_i32_634
  let c1_i32_640 : BitVec 32 := 1#32
  let v1248 : BitVec 32 := Scalar.subi v1233 c1_i32_640
  let v1249 : BitVec 32 := Scalar.select v1247 v1248 v1233
  let v1870 : BitVec 32 := Scalar.subi v1249 c4_i32_1033
  let c1_i32_1034 : BitVec 32 := 1#32
  let v1872 : BitVec 32 := Scalar.divsi v1870 c1_i32_1034
  let v1873 : BitVec 32 := Scalar.muli v1872 c1_i32_1034
  let v1874 : BitVec 32 := Scalar.addi c4_i32_1033 v1873
  let c1_i32_1036 : BitVec 32 := 1#32
  let arg18 : BitVec 32 := Scf.iv v1874 c1_i32_1036 k0_t2
  let c2_i32_1076 : BitVec 32 := 2#32
  let v2028 : BitVec 32 := Scalar.muli arg18 c2_i32_1076
  let v2029 : BitVec 32 := Scalar.addi v2028 c0_i32_1077
  let v2030 : Index := Scalar.indexCast v2029
  ![v2030.toNat]

def k0_chk8 (i : grid0.Coords) (v167 : BitVec 32) (v170 : BitVec 32) (v173 : BitVec 32) (v176 : BitVec 32) (v179 : BitVec 32) (v182 : BitVec 32) (v185 : BitVec 32) (v188 : BitVec 32) : Prop :=
  (∀ a, (k0_off61 i v167 v170 v173 v176 v179 v182 v185 v188) a + S1.size a ≤ S72.size a) ∧
  (∀ a, (k0_off62 i v167 v170 v173 v176 v179 v182 v185 v188) a + S1.size a ≤ S72.size a) ∧
  (∀ a, (k0_off63 i v167 v170 v173 v176 v179 v182 v185 v188) a + S1.size a ≤ S72.size a) ∧
  (∀ a, (k0_off64 i v167 v170 v173 v176 v179 v182 v185 v188) a + S1.size a ≤ S72.size a) ∧
  (∀ a, (k0_off65 i v167 v170 v173 v176 v179 v182 v185 v188) a + S1.size a ≤ S72.size a) ∧
  (∀ (r : Fin 8), ∀ a, (k0_off66 i v167 v170 v173 v176 v179 v182 v185 v188 (BitVec.ofNat 32 r.val)) a + S1.size a ≤ S72.size a) ∧
  ((k0_t1_loop i v167 v170 v173 v176 v179 v182 v185 v188).OK) ∧
  (∀ k0_t1 : Fin (k0_t1_loop i v167 v170 v173 v176 v179 v182 v185 v188).trips, ∀ (r : Fin 2), ∀ a, (k0_off93 i v167 v170 v173 v176 v179 v182 v185 v188 k0_t1 (BitVec.ofNat 32 r.val)) a + S1.size a ≤ S72.size a) ∧
  ((k0_t2_loop i v167 v170 v173 v176 v179 v182 v185 v188).OK) ∧
  (∀ k0_t2 : Fin (k0_t2_loop i v167 v170 v173 v176 v179 v182 v185 v188).trips, ∀ (r : Fin 2), ∀ a, (k0_off99 i v167 v170 v173 v176 v179 v182 v185 v188 k0_t2 (BitVec.ofNat 32 r.val)) a + S1.size a ≤ S72.size a)
theorem k0_off61_inb : ∀ (i : grid0.Coords) (v167 : BitVec 32) (v170 : BitVec 32) (v173 : BitVec 32) (v176 : BitVec 32) (v179 : BitVec 32) (v182 : BitVec 32) (v185 : BitVec 32) (v188 : BitVec 32) (k0_hw8 : k0_chk8 i v167 v170 v173 v176 v179 v182 v185 v188), ∀ a, (k0_off61 i v167 v170 v173 v176 v179 v182 v185 v188) a + S1.size a ≤ S72.size a := fun i v167 v170 v173 v176 v179 v182 v185 v188 k0_hw8 => k0_hw8.1
theorem k0_off62_inb : ∀ (i : grid0.Coords) (v167 : BitVec 32) (v170 : BitVec 32) (v173 : BitVec 32) (v176 : BitVec 32) (v179 : BitVec 32) (v182 : BitVec 32) (v185 : BitVec 32) (v188 : BitVec 32) (k0_hw8 : k0_chk8 i v167 v170 v173 v176 v179 v182 v185 v188), ∀ a, (k0_off62 i v167 v170 v173 v176 v179 v182 v185 v188) a + S1.size a ≤ S72.size a := fun i v167 v170 v173 v176 v179 v182 v185 v188 k0_hw8 => k0_hw8.2.1
theorem k0_off63_inb : ∀ (i : grid0.Coords) (v167 : BitVec 32) (v170 : BitVec 32) (v173 : BitVec 32) (v176 : BitVec 32) (v179 : BitVec 32) (v182 : BitVec 32) (v185 : BitVec 32) (v188 : BitVec 32) (k0_hw8 : k0_chk8 i v167 v170 v173 v176 v179 v182 v185 v188), ∀ a, (k0_off63 i v167 v170 v173 v176 v179 v182 v185 v188) a + S1.size a ≤ S72.size a := fun i v167 v170 v173 v176 v179 v182 v185 v188 k0_hw8 => k0_hw8.2.2.1
theorem k0_off64_inb : ∀ (i : grid0.Coords) (v167 : BitVec 32) (v170 : BitVec 32) (v173 : BitVec 32) (v176 : BitVec 32) (v179 : BitVec 32) (v182 : BitVec 32) (v185 : BitVec 32) (v188 : BitVec 32) (k0_hw8 : k0_chk8 i v167 v170 v173 v176 v179 v182 v185 v188), ∀ a, (k0_off64 i v167 v170 v173 v176 v179 v182 v185 v188) a + S1.size a ≤ S72.size a := fun i v167 v170 v173 v176 v179 v182 v185 v188 k0_hw8 => k0_hw8.2.2.2.1
theorem k0_off65_inb : ∀ (i : grid0.Coords) (v167 : BitVec 32) (v170 : BitVec 32) (v173 : BitVec 32) (v176 : BitVec 32) (v179 : BitVec 32) (v182 : BitVec 32) (v185 : BitVec 32) (v188 : BitVec 32) (k0_hw8 : k0_chk8 i v167 v170 v173 v176 v179 v182 v185 v188), ∀ a, (k0_off65 i v167 v170 v173 v176 v179 v182 v185 v188) a + S1.size a ≤ S72.size a := fun i v167 v170 v173 v176 v179 v182 v185 v188 k0_hw8 => k0_hw8.2.2.2.2.1
theorem k0_off66_inb : ∀ (i : grid0.Coords) (v167 : BitVec 32) (v170 : BitVec 32) (v173 : BitVec 32) (v176 : BitVec 32) (v179 : BitVec 32) (v182 : BitVec 32) (v185 : BitVec 32) (v188 : BitVec 32) (k0_hw8 : k0_chk8 i v167 v170 v173 v176 v179 v182 v185 v188), ∀ (r : Fin 8), ∀ a, (k0_off66 i v167 v170 v173 v176 v179 v182 v185 v188 (BitVec.ofNat 32 r.val)) a + S1.size a ≤ S72.size a := fun i v167 v170 v173 v176 v179 v182 v185 v188 k0_hw8 r => k0_hw8.2.2.2.2.2.1 r
theorem k0_t1_ok : ∀ (i : grid0.Coords) (v167 : BitVec 32) (v170 : BitVec 32) (v173 : BitVec 32) (v176 : BitVec 32) (v179 : BitVec 32) (v182 : BitVec 32) (v185 : BitVec 32) (v188 : BitVec 32) (k0_hw8 : k0_chk8 i v167 v170 v173 v176 v179 v182 v185 v188), (k0_t1_loop i v167 v170 v173 v176 v179 v182 v185 v188).OK := fun i v167 v170 v173 v176 v179 v182 v185 v188 k0_hw8 => k0_hw8.2.2.2.2.2.2.1
theorem k0_off93_inb : ∀ (i : grid0.Coords) (v167 : BitVec 32) (v170 : BitVec 32) (v173 : BitVec 32) (v176 : BitVec 32) (v179 : BitVec 32) (v182 : BitVec 32) (v185 : BitVec 32) (v188 : BitVec 32) (k0_hw8 : k0_chk8 i v167 v170 v173 v176 v179 v182 v185 v188) (k0_t1 : Fin (k0_t1_loop i v167 v170 v173 v176 v179 v182 v185 v188).trips), ∀ (r : Fin 2), ∀ a, (k0_off93 i v167 v170 v173 v176 v179 v182 v185 v188 k0_t1 (BitVec.ofNat 32 r.val)) a + S1.size a ≤ S72.size a := fun i v167 v170 v173 v176 v179 v182 v185 v188 k0_hw8 k0_t1 r => k0_hw8.2.2.2.2.2.2.2.1 k0_t1 r
theorem k0_t2_ok : ∀ (i : grid0.Coords) (v167 : BitVec 32) (v170 : BitVec 32) (v173 : BitVec 32) (v176 : BitVec 32) (v179 : BitVec 32) (v182 : BitVec 32) (v185 : BitVec 32) (v188 : BitVec 32) (k0_hw8 : k0_chk8 i v167 v170 v173 v176 v179 v182 v185 v188), (k0_t2_loop i v167 v170 v173 v176 v179 v182 v185 v188).OK := fun i v167 v170 v173 v176 v179 v182 v185 v188 k0_hw8 => k0_hw8.2.2.2.2.2.2.2.2.1
theorem k0_off99_inb : ∀ (i : grid0.Coords) (v167 : BitVec 32) (v170 : BitVec 32) (v173 : BitVec 32) (v176 : BitVec 32) (v179 : BitVec 32) (v182 : BitVec 32) (v185 : BitVec 32) (v188 : BitVec 32) (k0_hw8 : k0_chk8 i v167 v170 v173 v176 v179 v182 v185 v188) (k0_t2 : Fin (k0_t2_loop i v167 v170 v173 v176 v179 v182 v185 v188).trips), ∀ (r : Fin 2), ∀ a, (k0_off99 i v167 v170 v173 v176 v179 v182 v185 v188 k0_t2 (BitVec.ofNat 32 r.val)) a + S1.size a ≤ S72.size a := fun i v167 v170 v173 v176 v179 v182 v185 v188 k0_hw8 k0_t2 r => k0_hw8.2.2.2.2.2.2.2.2.2 k0_t2 r

def k0_mult145 (v2031 : BitVec 32) : BitVec 32 :=
  let c128_i32_1080 : BitVec 32 := 128#32
  let v2036 : BitVec 32 := Scalar.muli v2031 c128_i32_1080
  v2036

def k0_off100 (v2031 : BitVec 32) : Fin 4 → Nat :=
  let c0_1081 : Index := 0#32
  let c0_1082 : Index := 0#32
  let c128_i32_1080 : BitVec 32 := 128#32
  let v2036 : BitVec 32 := Scalar.muli v2031 c128_i32_1080
  let v2037 : BitVec 32 := v2036
  let v2038 : Index := Scalar.indexCast v2037
  let c0_1083 : Index := 0#32
  ![0, 0, v2038.toNat, 0]
def k0_mult146 (v2035 : BitVec 32) : BitVec 32 :=
  let c128_i32_1085 : BitVec 32 := 128#32
  let v2042 : BitVec 32 := Scalar.muli v2035 c128_i32_1085
  v2042

def k0_off101 (v2035 : BitVec 32) : Fin 4 → Nat :=
  let c0_1086 : Index := 0#32
  let c0_1087 : Index := 0#32
  let c128_i32_1085 : BitVec 32 := 128#32
  let v2042 : BitVec 32 := Scalar.muli v2035 c128_i32_1085
  let v2043 : BitVec 32 := v2042
  let v2044 : Index := Scalar.indexCast v2043
  let c0_1088 : Index := 0#32
  ![0, 0, v2044.toNat, 0]
def k0_mult147 (v2031 : BitVec 32) : BitVec 32 :=
  let c128_i32_1090 : BitVec 32 := 128#32
  let v2048 : BitVec 32 := Scalar.muli v2031 c128_i32_1090
  v2048
def k0_off102 (v2031 : BitVec 32) : Fin 4 → Nat :=
  let c0_1091 : Index := 0#32
  let c0_1092 : Index := 0#32
  let c128_i32_1090 : BitVec 32 := 128#32
  let v2048 : BitVec 32 := Scalar.muli v2031 c128_i32_1090
  let v2049 : BitVec 32 := v2048
  let v2050 : Index := Scalar.indexCast v2049
  let c0_1093 : Index := 0#32
  ![0, 0, v2050.toNat, 0]
def k0_mult148 (v2035 : BitVec 32) : BitVec 32 :=
  let c128_i32_1095 : BitVec 32 := 128#32
  let v2054 : BitVec 32 := Scalar.muli v2035 c128_i32_1095
  v2054
def k0_mult149 (v2031 : BitVec 32) : BitVec 32 :=
  let c128_i32_1100 : BitVec 32 := 128#32
  let v2060 : BitVec 32 := Scalar.muli v2031 c128_i32_1100
  v2060
def k0_mult150 (v2035 : BitVec 32) : BitVec 32 :=
  let c128_i32_1105 : BitVec 32 := 128#32
  let v2066 : BitVec 32 := Scalar.muli v2035 c128_i32_1105
  v2066
def k0_mult151 (v2031 : BitVec 32) : BitVec 32 :=
  let c128_i32_1110 : BitVec 32 := 128#32
  let v2072 : BitVec 32 := Scalar.muli v2031 c128_i32_1110
  v2072
def k0_mult152 (v2035 : BitVec 32) : BitVec 32 :=
  let c128_i32_1115 : BitVec 32 := 128#32
  let v2078 : BitVec 32 := Scalar.muli v2035 c128_i32_1115
  v2078
def k0_off103 (v2031 : BitVec 32) : Fin 5 → Nat :=
  let c0_1124 : Index := 0#32
  let c0_1125 : Index := 0#32
  let v2086 : Index := Scalar.indexCast v2031
  let c0_1126 : Index := 0#32
  let c0_1127 : Index := 0#32
  ![0, 0, v2086.toNat, 0, 0]

def k0_chk19 (v2031 : BitVec 32) : Prop :=
  (128 ∣ (k0_mult145 v2031).toNat) ∧
  (∀ a, (k0_off100 v2031) a + S1x1x128x256.size a ≤ S1x1x8704x256.size a) ∧
  (128 ∣ (k0_mult147 v2031).toNat) ∧
  (∀ a, (k0_off102 v2031) a + S1x1x128x256.size a ≤ S1x1x8704x256.size a) ∧
  (128 ∣ (k0_mult149 v2031).toNat) ∧
  (128 ∣ (k0_mult151 v2031).toNat) ∧
  (∀ a, (k0_off103 v2031) a + S1x1x1x80x128.size a ≤ S1x1x68x80x128.size a)
theorem k0_mult145_dvd : ∀ (v2031 : BitVec 32) (k0_hw19 : k0_chk19 v2031), 128 ∣ (k0_mult145 v2031).toNat := fun v2031 k0_hw19 => k0_hw19.1
theorem k0_off100_inb : ∀ (v2031 : BitVec 32) (k0_hw19 : k0_chk19 v2031), ∀ a, (k0_off100 v2031) a + S1x1x128x256.size a ≤ S1x1x8704x256.size a := fun v2031 k0_hw19 => k0_hw19.2.1
theorem k0_mult147_dvd : ∀ (v2031 : BitVec 32) (k0_hw19 : k0_chk19 v2031), 128 ∣ (k0_mult147 v2031).toNat := fun v2031 k0_hw19 => k0_hw19.2.2.1
theorem k0_off102_inb : ∀ (v2031 : BitVec 32) (k0_hw19 : k0_chk19 v2031), ∀ a, (k0_off102 v2031) a + S1x1x128x256.size a ≤ S1x1x8704x256.size a := fun v2031 k0_hw19 => k0_hw19.2.2.2.1
theorem k0_mult149_dvd : ∀ (v2031 : BitVec 32) (k0_hw19 : k0_chk19 v2031), 128 ∣ (k0_mult149 v2031).toNat := fun v2031 k0_hw19 => k0_hw19.2.2.2.2.1
theorem k0_mult151_dvd : ∀ (v2031 : BitVec 32) (k0_hw19 : k0_chk19 v2031), 128 ∣ (k0_mult151 v2031).toNat := fun v2031 k0_hw19 => k0_hw19.2.2.2.2.2.1
theorem k0_off103_inb : ∀ (v2031 : BitVec 32) (k0_hw19 : k0_chk19 v2031), ∀ a, (k0_off103 v2031) a + S1x1x1x80x128.size a ≤ S1x1x68x80x128.size a := fun v2031 k0_hw19 => k0_hw19.2.2.2.2.2.2

def k0_off104 (v2035 : BitVec 32) : Fin 5 → Nat :=
  let c0_1128 : Index := 0#32
  let c0_1129 : Index := 0#32
  let v2089 : Index := Scalar.indexCast v2035
  let c0_1130 : Index := 0#32
  let c0_1131 : Index := 0#32
  ![0, 0, v2089.toNat, 0, 0]

def k0_chk20 (v2035 : BitVec 32) : Prop :=
  (128 ∣ (k0_mult146 v2035).toNat) ∧
  (∀ a, (k0_off101 v2035) a + S1x1x128x256.size a ≤ S1x1x8704x256.size a) ∧
  (128 ∣ (k0_mult148 v2035).toNat) ∧
  (128 ∣ (k0_mult150 v2035).toNat) ∧
  (128 ∣ (k0_mult152 v2035).toNat) ∧
  (∀ a, (k0_off104 v2035) a + S1x1x1x80x128.size a ≤ S1x1x68x80x128.size a)
theorem k0_mult146_dvd : ∀ (v2035 : BitVec 32) (k0_hw20 : k0_chk20 v2035), 128 ∣ (k0_mult146 v2035).toNat := fun v2035 k0_hw20 => k0_hw20.1
theorem k0_off101_inb : ∀ (v2035 : BitVec 32) (k0_hw20 : k0_chk20 v2035), ∀ a, (k0_off101 v2035) a + S1x1x128x256.size a ≤ S1x1x8704x256.size a := fun v2035 k0_hw20 => k0_hw20.2.1
theorem k0_mult148_dvd : ∀ (v2035 : BitVec 32) (k0_hw20 : k0_chk20 v2035), 128 ∣ (k0_mult148 v2035).toNat := fun v2035 k0_hw20 => k0_hw20.2.2.1
theorem k0_mult150_dvd : ∀ (v2035 : BitVec 32) (k0_hw20 : k0_chk20 v2035), 128 ∣ (k0_mult150 v2035).toNat := fun v2035 k0_hw20 => k0_hw20.2.2.2.1
theorem k0_mult152_dvd : ∀ (v2035 : BitVec 32) (k0_hw20 : k0_chk20 v2035), 128 ∣ (k0_mult152 v2035).toNat := fun v2035 k0_hw20 => k0_hw20.2.2.2.2.1
theorem k0_off104_inb : ∀ (v2035 : BitVec 32) (k0_hw20 : k0_chk20 v2035), ∀ a, (k0_off104 v2035) a + S1x1x1x80x128.size a ≤ S1x1x68x80x128.size a := fun v2035 k0_hw20 => k0_hw20.2.2.2.2.2

def k0_mult153 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_357 : BitVec 32 := 0#32
  let v825 : BitVec 32 := Scalar.addi v36 c0_i32_357
  let c128_i32_1076 : BitVec 32 := 128#32
  let v2028 : BitVec 32 := Scalar.muli v825 c128_i32_1076
  v2028
def k0_off105 (i : grid0.Coords) (c0_i32_357 : BitVec 32) : Fin 4 → Nat :=
  let c0_1077 : Index := 0#32
  let c0_1078 : Index := 0#32
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let v825 : BitVec 32 := Scalar.addi v36 c0_i32_357
  let c128_i32_1076 : BitVec 32 := 128#32
  let v2028 : BitVec 32 := Scalar.muli v825 c128_i32_1076
  let v2029 : BitVec 32 := v2028
  let v2030 : Index := Scalar.indexCast v2029
  let c0_1079 : Index := 0#32
  ![0, 0, v2030.toNat, 0]
def k0_mult154 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c1_i32_358 : BitVec 32 := 1#32
  let v826 : BitVec 32 := Scalar.addi v36 c1_i32_358
  let c128_i32_1082 : BitVec 32 := 128#32
  let v2036 : BitVec 32 := Scalar.muli v826 c128_i32_1082
  v2036
def k0_mult155 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_357 : BitVec 32 := 0#32
  let v825 : BitVec 32 := Scalar.addi v36 c0_i32_357
  let c128_i32_1088 : BitVec 32 := 128#32
  let v2044 : BitVec 32 := Scalar.muli v825 c128_i32_1088
  v2044
def k0_mult156 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c1_i32_358 : BitVec 32 := 1#32
  let v826 : BitVec 32 := Scalar.addi v36 c1_i32_358
  let c128_i32_1094 : BitVec 32 := 128#32
  let v2052 : BitVec 32 := Scalar.muli v826 c128_i32_1094
  v2052
def k0_mult157 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_357 : BitVec 32 := 0#32
  let v825 : BitVec 32 := Scalar.addi v36 c0_i32_357
  let c128_i32_1100 : BitVec 32 := 128#32
  let v2060 : BitVec 32 := Scalar.muli v825 c128_i32_1100
  v2060
def k0_mult158 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c1_i32_358 : BitVec 32 := 1#32
  let v826 : BitVec 32 := Scalar.addi v36 c1_i32_358
  let c128_i32_1106 : BitVec 32 := 128#32
  let v2068 : BitVec 32 := Scalar.muli v826 c128_i32_1106
  v2068
def k0_mult159 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_357 : BitVec 32 := 0#32
  let v825 : BitVec 32 := Scalar.addi v36 c0_i32_357
  let c128_i32_1112 : BitVec 32 := 128#32
  let v2076 : BitVec 32 := Scalar.muli v825 c128_i32_1112
  v2076
def k0_mult160 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c1_i32_358 : BitVec 32 := 1#32
  let v826 : BitVec 32 := Scalar.addi v36 c1_i32_358
  let c128_i32_1118 : BitVec 32 := 128#32
  let v2084 : BitVec 32 := Scalar.muli v826 c128_i32_1118
  v2084
def k0_off106 (i : grid0.Coords) (c0_i32_357 : BitVec 32) : Fin 5 → Nat :=
  let c0_1128 : Index := 0#32
  let c0_1129 : Index := 0#32
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let v825 : BitVec 32 := Scalar.addi v36 c0_i32_357
  let v2100 : Index := Scalar.indexCast v825
  let c0_1130 : Index := 0#32
  let c0_1131 : Index := 0#32
  ![0, 0, v2100.toNat, 0, 0]
@[reducible] def k0_t3_loop (i : grid0.Coords) (v167 : BitVec 32) (v170 : BitVec 32) (v173 : BitVec 32) (v176 : BitVec 32) (v179 : BitVec 32) (v182 : BitVec 32) (v185 : BitVec 32) (v188 : BitVec 32) : Scf.Loop 32 :=
  let c0_i32_1185 : BitVec 32 := 0#32
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let c0_i32_196 : BitVec 32 := 0#32
  let v476 : BitVec 32 := Scalar.shrsi v179 c0_i32_196
  let c3_i32_197 : BitVec 32 := 3#32
  let v477 : BitVec 32 := Scalar.andi v476 c3_i32_197
  let c0_i32_198 : BitVec 32 := 0#32
  let v478 : BitVec 1 := Scalar.cmpi .ne v477 c0_i32_198
  let c32_i32_199 : BitVec 32 := 32#32
  let v481 : BitVec 1 := Scalar.cmpi .sgt v36 c32_i32_199
  let v482 : BitVec 1 := Scalar.andi v478 v481
  let v483 : BitVec 32 := Scalar.extui v482
  let v484 : BitVec 32 := Scalar.addi v475 v483
  let c2_i32_200 : BitVec 32 := 2#32
  let v485 : BitVec 32 := Scalar.shrsi v179 c2_i32_200
  let c3_i32_201 : BitVec 32 := 3#32
  let v486 : BitVec 32 := Scalar.andi v485 c3_i32_201
  let c0_i32_202 : BitVec 32 := 0#32
  let v487 : BitVec 1 := Scalar.cmpi .ne v486 c0_i32_202
  let c33_i32_203 : BitVec 32 := 33#32
  let v490 : BitVec 1 := Scalar.cmpi .sgt v36 c33_i32_203
  let v491 : BitVec 1 := Scalar.andi v487 v490
  let v492 : BitVec 32 := Scalar.extui v491
  let v493 : BitVec 32 := Scalar.addi v484 v492
  let c4_i32_204 : BitVec 32 := 4#32
  let v494 : BitVec 32 := Scalar.shrsi v179 c4_i32_204
  let c3_i32_205 : BitVec 32 := 3#32
  let v495 : BitVec 32 := Scalar.andi v494 c3_i32_205
  let c0_i32_206 : BitVec 32 := 0#32
  let v496 : BitVec 1 := Scalar.cmpi .ne v495 c0_i32_206
  let c34_i32_207 : BitVec 32 := 34#32
  let v499 : BitVec 1 := Scalar.cmpi .sgt v36 c34_i32_207
  let v500 : BitVec 1 := Scalar.andi v496 v499
  let v501 : BitVec 32 := Scalar.extui v500
  let v502 : BitVec 32 := Scalar.addi v493 v501
  let c6_i32_208 : BitVec 32 := 6#32
  let v503 : BitVec 32 := Scalar.shrsi v179 c6_i32_208
  let c3_i32_209 : BitVec 32 := 3#32
  let v504 : BitVec 32 := Scalar.andi v503 c3_i32_209
  let c0_i32_210 : BitVec 32 := 0#32
  let v505 : BitVec 1 := Scalar.cmpi .ne v504 c0_i32_210
  let c35_i32_211 : BitVec 32 := 35#32
  let v508 : BitVec 1 := Scalar.cmpi .sgt v36 c35_i32_211
  let v509 : BitVec 1 := Scalar.andi v505 v508
  let v510 : BitVec 32 := Scalar.extui v509
  let v511 : BitVec 32 := Scalar.addi v502 v510
  let c8_i32_212 : BitVec 32 := 8#32
  let v512 : BitVec 32 := Scalar.shrsi v179 c8_i32_212
  let c3_i32_213 : BitVec 32 := 3#32
  let v513 : BitVec 32 := Scalar.andi v512 c3_i32_213
  let c0_i32_214 : BitVec 32 := 0#32
  let v514 : BitVec 1 := Scalar.cmpi .ne v513 c0_i32_214
  let c36_i32_215 : BitVec 32 := 36#32
  let v517 : BitVec 1 := Scalar.cmpi .sgt v36 c36_i32_215
  let v518 : BitVec 1 := Scalar.andi v514 v517
  let v519 : BitVec 32 := Scalar.extui v518
  let v520 : BitVec 32 := Scalar.addi v511 v519
  let c10_i32_216 : BitVec 32 := 10#32
  let v521 : BitVec 32 := Scalar.shrsi v179 c10_i32_216
  let c3_i32_217 : BitVec 32 := 3#32
  let v522 : BitVec 32 := Scalar.andi v521 c3_i32_217
  let c0_i32_218 : BitVec 32 := 0#32
  let v523 : BitVec 1 := Scalar.cmpi .ne v522 c0_i32_218
  let c37_i32_219 : BitVec 32 := 37#32
  let v526 : BitVec 1 := Scalar.cmpi .sgt v36 c37_i32_219
  let v527 : BitVec 1 := Scalar.andi v523 v526
  let v528 : BitVec 32 := Scalar.extui v527
  let v529 : BitVec 32 := Scalar.addi v520 v528
  let c12_i32_220 : BitVec 32 := 12#32
  let v530 : BitVec 32 := Scalar.shrsi v179 c12_i32_220
  let c3_i32_221 : BitVec 32 := 3#32
  let v531 : BitVec 32 := Scalar.andi v530 c3_i32_221
  let c0_i32_222 : BitVec 32 := 0#32
  let v532 : BitVec 1 := Scalar.cmpi .ne v531 c0_i32_222
  let c38_i32_223 : BitVec 32 := 38#32
  let v535 : BitVec 1 := Scalar.cmpi .sgt v36 c38_i32_223
  let v536 : BitVec 1 := Scalar.andi v532 v535
  let v537 : BitVec 32 := Scalar.extui v536
  let v538 : BitVec 32 := Scalar.addi v529 v537
  let c14_i32_224 : BitVec 32 := 14#32
  let v539 : BitVec 32 := Scalar.shrsi v179 c14_i32_224
  let c3_i32_225 : BitVec 32 := 3#32
  let v540 : BitVec 32 := Scalar.andi v539 c3_i32_225
  let c0_i32_226 : BitVec 32 := 0#32
  let v541 : BitVec 1 := Scalar.cmpi .ne v540 c0_i32_226
  let c39_i32_227 : BitVec 32 := 39#32
  let v544 : BitVec 1 := Scalar.cmpi .sgt v36 c39_i32_227
  let v545 : BitVec 1 := Scalar.andi v541 v544
  let v546 : BitVec 32 := Scalar.extui v545
  let v547 : BitVec 32 := Scalar.addi v538 v546
  let c0_i32_228 : BitVec 32 := 0#32
  let v548 : BitVec 32 := Scalar.shrsi v182 c0_i32_228
  let c3_i32_229 : BitVec 32 := 3#32
  let v549 : BitVec 32 := Scalar.andi v548 c3_i32_229
  let c0_i32_230 : BitVec 32 := 0#32
  let v550 : BitVec 1 := Scalar.cmpi .ne v549 c0_i32_230
  let c40_i32_231 : BitVec 32 := 40#32
  let v553 : BitVec 1 := Scalar.cmpi .sgt v36 c40_i32_231
  let v554 : BitVec 1 := Scalar.andi v550 v553
  let v555 : BitVec 32 := Scalar.extui v554
  let v556 : BitVec 32 := Scalar.addi v547 v555
  let c2_i32_232 : BitVec 32 := 2#32
  let v557 : BitVec 32 := Scalar.shrsi v182 c2_i32_232
  let c3_i32_233 : BitVec 32 := 3#32
  let v558 : BitVec 32 := Scalar.andi v557 c3_i32_233
  let c0_i32_234 : BitVec 32 := 0#32
  let v559 : BitVec 1 := Scalar.cmpi .ne v558 c0_i32_234
  let c41_i32_235 : BitVec 32 := 41#32
  let v562 : BitVec 1 := Scalar.cmpi .sgt v36 c41_i32_235
  let v563 : BitVec 1 := Scalar.andi v559 v562
  let v564 : BitVec 32 := Scalar.extui v563
  let v565 : BitVec 32 := Scalar.addi v556 v564
  let c4_i32_236 : BitVec 32 := 4#32
  let v566 : BitVec 32 := Scalar.shrsi v182 c4_i32_236
  let c3_i32_237 : BitVec 32 := 3#32
  let v567 : BitVec 32 := Scalar.andi v566 c3_i32_237
  let c0_i32_238 : BitVec 32 := 0#32
  let v568 : BitVec 1 := Scalar.cmpi .ne v567 c0_i32_238
  let c42_i32_239 : BitVec 32 := 42#32
  let v571 : BitVec 1 := Scalar.cmpi .sgt v36 c42_i32_239
  let v572 : BitVec 1 := Scalar.andi v568 v571
  let v573 : BitVec 32 := Scalar.extui v572
  let v574 : BitVec 32 := Scalar.addi v565 v573
  let c6_i32_240 : BitVec 32 := 6#32
  let v575 : BitVec 32 := Scalar.shrsi v182 c6_i32_240
  let c3_i32_241 : BitVec 32 := 3#32
  let v576 : BitVec 32 := Scalar.andi v575 c3_i32_241
  let c0_i32_242 : BitVec 32 := 0#32
  let v577 : BitVec 1 := Scalar.cmpi .ne v576 c0_i32_242
  let c43_i32_243 : BitVec 32 := 43#32
  let v580 : BitVec 1 := Scalar.cmpi .sgt v36 c43_i32_243
  let v581 : BitVec 1 := Scalar.andi v577 v580
  let v582 : BitVec 32 := Scalar.extui v581
  let v583 : BitVec 32 := Scalar.addi v574 v582
  let c8_i32_244 : BitVec 32 := 8#32
  let v584 : BitVec 32 := Scalar.shrsi v182 c8_i32_244
  let c3_i32_245 : BitVec 32 := 3#32
  let v585 : BitVec 32 := Scalar.andi v584 c3_i32_245
  let c0_i32_246 : BitVec 32 := 0#32
  let v586 : BitVec 1 := Scalar.cmpi .ne v585 c0_i32_246
  let c44_i32_247 : BitVec 32 := 44#32
  let v589 : BitVec 1 := Scalar.cmpi .sgt v36 c44_i32_247
  let v590 : BitVec 1 := Scalar.andi v586 v589
  let v591 : BitVec 32 := Scalar.extui v590
  let v592 : BitVec 32 := Scalar.addi v583 v591
  let c10_i32_248 : BitVec 32 := 10#32
  let v593 : BitVec 32 := Scalar.shrsi v182 c10_i32_248
  let c3_i32_249 : BitVec 32 := 3#32
  let v594 : BitVec 32 := Scalar.andi v593 c3_i32_249
  let c0_i32_250 : BitVec 32 := 0#32
  let v595 : BitVec 1 := Scalar.cmpi .ne v594 c0_i32_250
  let c45_i32_251 : BitVec 32 := 45#32
  let v598 : BitVec 1 := Scalar.cmpi .sgt v36 c45_i32_251
  let v599 : BitVec 1 := Scalar.andi v595 v598
  let v600 : BitVec 32 := Scalar.extui v599
  let v601 : BitVec 32 := Scalar.addi v592 v600
  let c12_i32_252 : BitVec 32 := 12#32
  let v602 : BitVec 32 := Scalar.shrsi v182 c12_i32_252
  let c3_i32_253 : BitVec 32 := 3#32
  let v603 : BitVec 32 := Scalar.andi v602 c3_i32_253
  let c0_i32_254 : BitVec 32 := 0#32
  let v604 : BitVec 1 := Scalar.cmpi .ne v603 c0_i32_254
  let c46_i32_255 : BitVec 32 := 46#32
  let v607 : BitVec 1 := Scalar.cmpi .sgt v36 c46_i32_255
  let v608 : BitVec 1 := Scalar.andi v604 v607
  let v609 : BitVec 32 := Scalar.extui v608
  let v610 : BitVec 32 := Scalar.addi v601 v609
  let c14_i32_256 : BitVec 32 := 14#32
  let v611 : BitVec 32 := Scalar.shrsi v182 c14_i32_256
  let c3_i32_257 : BitVec 32 := 3#32
  let v612 : BitVec 32 := Scalar.andi v611 c3_i32_257
  let c0_i32_258 : BitVec 32 := 0#32
  let v613 : BitVec 1 := Scalar.cmpi .ne v612 c0_i32_258
  let c47_i32_259 : BitVec 32 := 47#32
  let v616 : BitVec 1 := Scalar.cmpi .sgt v36 c47_i32_259
  let v617 : BitVec 1 := Scalar.andi v613 v616
  let v618 : BitVec 32 := Scalar.extui v617
  let v619 : BitVec 32 := Scalar.addi v610 v618
  let c0_i32_260 : BitVec 32 := 0#32
  let v620 : BitVec 32 := Scalar.shrsi v185 c0_i32_260
  let c3_i32_261 : BitVec 32 := 3#32
  let v621 : BitVec 32 := Scalar.andi v620 c3_i32_261
  let c0_i32_262 : BitVec 32 := 0#32
  let v622 : BitVec 1 := Scalar.cmpi .ne v621 c0_i32_262
  let c48_i32_263 : BitVec 32 := 48#32
  let v625 : BitVec 1 := Scalar.cmpi .sgt v36 c48_i32_263
  let v626 : BitVec 1 := Scalar.andi v622 v625
  let v627 : BitVec 32 := Scalar.extui v626
  let v628 : BitVec 32 := Scalar.addi v619 v627
  let c2_i32_264 : BitVec 32 := 2#32
  let v629 : BitVec 32 := Scalar.shrsi v185 c2_i32_264
  let c3_i32_265 : BitVec 32 := 3#32
  let v630 : BitVec 32 := Scalar.andi v629 c3_i32_265
  let c0_i32_266 : BitVec 32 := 0#32
  let v631 : BitVec 1 := Scalar.cmpi .ne v630 c0_i32_266
  let c49_i32_267 : BitVec 32 := 49#32
  let v634 : BitVec 1 := Scalar.cmpi .sgt v36 c49_i32_267
  let v635 : BitVec 1 := Scalar.andi v631 v634
  let v636 : BitVec 32 := Scalar.extui v635
  let v637 : BitVec 32 := Scalar.addi v628 v636
  let c4_i32_268 : BitVec 32 := 4#32
  let v638 : BitVec 32 := Scalar.shrsi v185 c4_i32_268
  let c3_i32_269 : BitVec 32 := 3#32
  let v639 : BitVec 32 := Scalar.andi v638 c3_i32_269
  let c0_i32_270 : BitVec 32 := 0#32
  let v640 : BitVec 1 := Scalar.cmpi .ne v639 c0_i32_270
  let c50_i32_271 : BitVec 32 := 50#32
  let v643 : BitVec 1 := Scalar.cmpi .sgt v36 c50_i32_271
  let v644 : BitVec 1 := Scalar.andi v640 v643
  let v645 : BitVec 32 := Scalar.extui v644
  let v646 : BitVec 32 := Scalar.addi v637 v645
  let c6_i32_272 : BitVec 32 := 6#32
  let v647 : BitVec 32 := Scalar.shrsi v185 c6_i32_272
  let c3_i32_273 : BitVec 32 := 3#32
  let v648 : BitVec 32 := Scalar.andi v647 c3_i32_273
  let c0_i32_274 : BitVec 32 := 0#32
  let v649 : BitVec 1 := Scalar.cmpi .ne v648 c0_i32_274
  let c51_i32_275 : BitVec 32 := 51#32
  let v652 : BitVec 1 := Scalar.cmpi .sgt v36 c51_i32_275
  let v653 : BitVec 1 := Scalar.andi v649 v652
  let v654 : BitVec 32 := Scalar.extui v653
  let v655 : BitVec 32 := Scalar.addi v646 v654
  let c8_i32_276 : BitVec 32 := 8#32
  let v656 : BitVec 32 := Scalar.shrsi v185 c8_i32_276
  let c3_i32_277 : BitVec 32 := 3#32
  let v657 : BitVec 32 := Scalar.andi v656 c3_i32_277
  let c0_i32_278 : BitVec 32 := 0#32
  let v658 : BitVec 1 := Scalar.cmpi .ne v657 c0_i32_278
  let c52_i32_279 : BitVec 32 := 52#32
  let v661 : BitVec 1 := Scalar.cmpi .sgt v36 c52_i32_279
  let v662 : BitVec 1 := Scalar.andi v658 v661
  let v663 : BitVec 32 := Scalar.extui v662
  let v664 : BitVec 32 := Scalar.addi v655 v663
  let c10_i32_280 : BitVec 32 := 10#32
  let v665 : BitVec 32 := Scalar.shrsi v185 c10_i32_280
  let c3_i32_281 : BitVec 32 := 3#32
  let v666 : BitVec 32 := Scalar.andi v665 c3_i32_281
  let c0_i32_282 : BitVec 32 := 0#32
  let v667 : BitVec 1 := Scalar.cmpi .ne v666 c0_i32_282
  let c53_i32_283 : BitVec 32 := 53#32
  let v670 : BitVec 1 := Scalar.cmpi .sgt v36 c53_i32_283
  let v671 : BitVec 1 := Scalar.andi v667 v670
  let v672 : BitVec 32 := Scalar.extui v671
  let v673 : BitVec 32 := Scalar.addi v664 v672
  let c12_i32_284 : BitVec 32 := 12#32
  let v674 : BitVec 32 := Scalar.shrsi v185 c12_i32_284
  let c3_i32_285 : BitVec 32 := 3#32
  let v675 : BitVec 32 := Scalar.andi v674 c3_i32_285
  let c0_i32_286 : BitVec 32 := 0#32
  let v676 : BitVec 1 := Scalar.cmpi .ne v675 c0_i32_286
  let c54_i32_287 : BitVec 32 := 54#32
  let v679 : BitVec 1 := Scalar.cmpi .sgt v36 c54_i32_287
  let v680 : BitVec 1 := Scalar.andi v676 v679
  let v681 : BitVec 32 := Scalar.extui v680
  let v682 : BitVec 32 := Scalar.addi v673 v681
  let c14_i32_288 : BitVec 32 := 14#32
  let v683 : BitVec 32 := Scalar.shrsi v185 c14_i32_288
  let c3_i32_289 : BitVec 32 := 3#32
  let v684 : BitVec 32 := Scalar.andi v683 c3_i32_289
  let c0_i32_290 : BitVec 32 := 0#32
  let v685 : BitVec 1 := Scalar.cmpi .ne v684 c0_i32_290
  let c55_i32_291 : BitVec 32 := 55#32
  let v688 : BitVec 1 := Scalar.cmpi .sgt v36 c55_i32_291
  let v689 : BitVec 1 := Scalar.andi v685 v688
  let v690 : BitVec 32 := Scalar.extui v689
  let v691 : BitVec 32 := Scalar.addi v682 v690
  let c0_i32_292 : BitVec 32 := 0#32
  let v692 : BitVec 32 := Scalar.shrsi v188 c0_i32_292
  let c3_i32_293 : BitVec 32 := 3#32
  let v693 : BitVec 32 := Scalar.andi v692 c3_i32_293
  let c0_i32_294 : BitVec 32 := 0#32
  let v694 : BitVec 1 := Scalar.cmpi .ne v693 c0_i32_294
  let c56_i32_295 : BitVec 32 := 56#32
  let v697 : BitVec 1 := Scalar.cmpi .sgt v36 c56_i32_295
  let v698 : BitVec 1 := Scalar.andi v694 v697
  let v699 : BitVec 32 := Scalar.extui v698
  let v700 : BitVec 32 := Scalar.addi v691 v699
  let c2_i32_296 : BitVec 32 := 2#32
  let v701 : BitVec 32 := Scalar.shrsi v188 c2_i32_296
  let c3_i32_297 : BitVec 32 := 3#32
  let v702 : BitVec 32 := Scalar.andi v701 c3_i32_297
  let c0_i32_298 : BitVec 32 := 0#32
  let v703 : BitVec 1 := Scalar.cmpi .ne v702 c0_i32_298
  let c57_i32_299 : BitVec 32 := 57#32
  let v706 : BitVec 1 := Scalar.cmpi .sgt v36 c57_i32_299
  let v707 : BitVec 1 := Scalar.andi v703 v706
  let v708 : BitVec 32 := Scalar.extui v707
  let v709 : BitVec 32 := Scalar.addi v700 v708
  let c4_i32_300 : BitVec 32 := 4#32
  let v710 : BitVec 32 := Scalar.shrsi v188 c4_i32_300
  let c3_i32_301 : BitVec 32 := 3#32
  let v711 : BitVec 32 := Scalar.andi v710 c3_i32_301
  let c0_i32_302 : BitVec 32 := 0#32
  let v712 : BitVec 1 := Scalar.cmpi .ne v711 c0_i32_302
  let c58_i32_303 : BitVec 32 := 58#32
  let v715 : BitVec 1 := Scalar.cmpi .sgt v36 c58_i32_303
  let v716 : BitVec 1 := Scalar.andi v712 v715
  let v717 : BitVec 32 := Scalar.extui v716
  let v718 : BitVec 32 := Scalar.addi v709 v717
  let c6_i32_304 : BitVec 32 := 6#32
  let v719 : BitVec 32 := Scalar.shrsi v188 c6_i32_304
  let c3_i32_305 : BitVec 32 := 3#32
  let v720 : BitVec 32 := Scalar.andi v719 c3_i32_305
  let c0_i32_306 : BitVec 32 := 0#32
  let v721 : BitVec 1 := Scalar.cmpi .ne v720 c0_i32_306
  let c59_i32_307 : BitVec 32 := 59#32
  let v724 : BitVec 1 := Scalar.cmpi .sgt v36 c59_i32_307
  let v725 : BitVec 1 := Scalar.andi v721 v724
  let v726 : BitVec 32 := Scalar.extui v725
  let v727 : BitVec 32 := Scalar.addi v718 v726
  let c8_i32_308 : BitVec 32 := 8#32
  let v728 : BitVec 32 := Scalar.shrsi v188 c8_i32_308
  let c3_i32_309 : BitVec 32 := 3#32
  let v729 : BitVec 32 := Scalar.andi v728 c3_i32_309
  let c0_i32_310 : BitVec 32 := 0#32
  let v730 : BitVec 1 := Scalar.cmpi .ne v729 c0_i32_310
  let c60_i32_311 : BitVec 32 := 60#32
  let v733 : BitVec 1 := Scalar.cmpi .sgt v36 c60_i32_311
  let v734 : BitVec 1 := Scalar.andi v730 v733
  let v735 : BitVec 32 := Scalar.extui v734
  let v736 : BitVec 32 := Scalar.addi v727 v735
  let c10_i32_312 : BitVec 32 := 10#32
  let v737 : BitVec 32 := Scalar.shrsi v188 c10_i32_312
  let c3_i32_313 : BitVec 32 := 3#32
  let v738 : BitVec 32 := Scalar.andi v737 c3_i32_313
  let c0_i32_314 : BitVec 32 := 0#32
  let v739 : BitVec 1 := Scalar.cmpi .ne v738 c0_i32_314
  let c61_i32_315 : BitVec 32 := 61#32
  let v742 : BitVec 1 := Scalar.cmpi .sgt v36 c61_i32_315
  let v743 : BitVec 1 := Scalar.andi v739 v742
  let v744 : BitVec 32 := Scalar.extui v743
  let v745 : BitVec 32 := Scalar.addi v736 v744
  let c2_i32_632 : BitVec 32 := 2#32
  let v1231 : BitVec 32 := Scalar.addi v745 c2_i32_632
  let c1_i32_633 : BitVec 32 := 1#32
  let v1232 : BitVec 32 := Scalar.subi v1231 c1_i32_633
  let c0_i32_635 : BitVec 32 := 0#32
  let v1234 : BitVec 1 := Scalar.cmpi .sgt v1232 c0_i32_635
  let v1235 : BitVec 32 := Scalar.extui v1234
  let c0_i32_636 : BitVec 32 := 0#32
  let v1236 : BitVec 1 := Scalar.cmpi .slt v1232 c0_i32_636
  let v1237 : BitVec 32 := Scalar.extui v1236
  let v1238 : BitVec 32 := Scalar.subi v1235 v1237
  let c2_i32_634 : BitVec 32 := 2#32
  let c0_i32_637 : BitVec 32 := 0#32
  let v1239 : BitVec 1 := Scalar.cmpi .sgt c2_i32_634 c0_i32_637
  let v1240 : BitVec 32 := Scalar.extui v1239
  let c0_i32_638 : BitVec 32 := 0#32
  let v1241 : BitVec 1 := Scalar.cmpi .slt c2_i32_634 c0_i32_638
  let v1242 : BitVec 32 := Scalar.extui v1241
  let v1243 : BitVec 32 := Scalar.subi v1240 v1242
  let v1244 : BitVec 1 := Scalar.cmpi .ne v1238 v1243
  let v1245 : BitVec 32 := Scalar.remsi v1232 c2_i32_634
  let c0_i32_639 : BitVec 32 := 0#32
  let v1246 : BitVec 1 := Scalar.cmpi .ne v1245 c0_i32_639
  let v1247 : BitVec 1 := Scalar.andi v1244 v1246
  let v1233 : BitVec 32 := Scalar.divsi v1232 c2_i32_634
  let c1_i32_640 : BitVec 32 := 1#32
  let v1248 : BitVec 32 := Scalar.subi v1233 c1_i32_640
  let v1249 : BitVec 32 := Scalar.select v1247 v1248 v1233
  let v2204 : BitVec 32 := Scalar.subi v1249 c0_i32_1185
  let c1_i32_1186 : BitVec 32 := 1#32
  let v2206 : BitVec 32 := Scalar.divsi v2204 c1_i32_1186
  let v2207 : BitVec 32 := Scalar.muli v2206 c1_i32_1186
  let v2208 : BitVec 32 := Scalar.addi c0_i32_1185 v2207
  let c1_i32_1187 : BitVec 32 := 1#32
  ⟨c0_i32_1185, v2208, c1_i32_1187⟩
def k0_cond4 (v2024 : BitVec 1) : BitVec 1 :=
  let v_true : BitVec 1 := 1#1
  let v2025 : BitVec 1 := Scalar.xori v2024 v_true
  let v2026 : BitVec 32 := Scalar.extui v2025
  let c0_i32_1075 : BitVec 32 := 0#32
  let v2027 : BitVec 1 := Scalar.cmpi .ne v2026 c0_i32_1075
  v2027

def k0_off107 (i : grid0.Coords) (v167 : BitVec 32) (v170 : BitVec 32) (v173 : BitVec 32) (v176 : BitVec 32) (v179 : BitVec 32) (v182 : BitVec 32) (v185 : BitVec 32) (v188 : BitVec 32) (k0_t3 : Fin (k0_t3_loop i v167 v170 v173 v176 v179 v182 v185 v188).trips) (c0_i32_1464 : BitVec 32) : Fin 1 → Nat :=
  let c0_i32_1185 : BitVec 32 := 0#32
  let c1_i32_1187 : BitVec 32 := 1#32
  let arg18 : BitVec 32 := Scf.iv c0_i32_1185 c1_i32_1187 k0_t3
  let c2_i32_1463 : BitVec 32 := 2#32
  let v2704 : BitVec 32 := Scalar.muli arg18 c2_i32_1463
  let v2705 : BitVec 32 := Scalar.addi v2704 c0_i32_1464
  let v2706 : Index := Scalar.indexCast v2705
  ![v2706.toNat]
def k0_mult161 (v2707 : BitVec 32) : BitVec 32 :=
  let c128_i32_1467 : BitVec 32 := 128#32
  let v2712 : BitVec 32 := Scalar.muli v2707 c128_i32_1467
  v2712

def k0_off108 (v2707 : BitVec 32) : Fin 4 → Nat :=
  let c0_1468 : Index := 0#32
  let c0_1469 : Index := 0#32
  let c128_i32_1467 : BitVec 32 := 128#32
  let v2712 : BitVec 32 := Scalar.muli v2707 c128_i32_1467
  let v2713 : BitVec 32 := v2712
  let v2714 : Index := Scalar.indexCast v2713
  let c0_1470 : Index := 0#32
  ![0, 0, v2714.toNat, 0]
def k0_mult162 (v2711 : BitVec 32) : BitVec 32 :=
  let c128_i32_1472 : BitVec 32 := 128#32
  let v2718 : BitVec 32 := Scalar.muli v2711 c128_i32_1472
  v2718

def k0_off109 (v2711 : BitVec 32) : Fin 4 → Nat :=
  let c0_1473 : Index := 0#32
  let c0_1474 : Index := 0#32
  let c128_i32_1472 : BitVec 32 := 128#32
  let v2718 : BitVec 32 := Scalar.muli v2711 c128_i32_1472
  let v2719 : BitVec 32 := v2718
  let v2720 : Index := Scalar.indexCast v2719
  let c0_1475 : Index := 0#32
  ![0, 0, v2720.toNat, 0]
def k0_mult163 (v2707 : BitVec 32) : BitVec 32 :=
  let c128_i32_1477 : BitVec 32 := 128#32
  let v2724 : BitVec 32 := Scalar.muli v2707 c128_i32_1477
  v2724
def k0_off110 (v2707 : BitVec 32) : Fin 4 → Nat :=
  let c0_1478 : Index := 0#32
  let c0_1479 : Index := 0#32
  let c128_i32_1477 : BitVec 32 := 128#32
  let v2724 : BitVec 32 := Scalar.muli v2707 c128_i32_1477
  let v2725 : BitVec 32 := v2724
  let v2726 : Index := Scalar.indexCast v2725
  let c0_1480 : Index := 0#32
  ![0, 0, v2726.toNat, 0]
def k0_mult164 (v2711 : BitVec 32) : BitVec 32 :=
  let c128_i32_1482 : BitVec 32 := 128#32
  let v2730 : BitVec 32 := Scalar.muli v2711 c128_i32_1482
  v2730
def k0_mult165 (v2707 : BitVec 32) : BitVec 32 :=
  let c128_i32_1487 : BitVec 32 := 128#32
  let v2736 : BitVec 32 := Scalar.muli v2707 c128_i32_1487
  v2736
def k0_mult166 (v2711 : BitVec 32) : BitVec 32 :=
  let c128_i32_1492 : BitVec 32 := 128#32
  let v2742 : BitVec 32 := Scalar.muli v2711 c128_i32_1492
  v2742
def k0_mult167 (v2707 : BitVec 32) : BitVec 32 :=
  let c128_i32_1497 : BitVec 32 := 128#32
  let v2748 : BitVec 32 := Scalar.muli v2707 c128_i32_1497
  v2748
def k0_mult168 (v2711 : BitVec 32) : BitVec 32 :=
  let c128_i32_1502 : BitVec 32 := 128#32
  let v2754 : BitVec 32 := Scalar.muli v2711 c128_i32_1502
  v2754
def k0_off111 (v2707 : BitVec 32) : Fin 5 → Nat :=
  let c0_1515 : Index := 0#32
  let c0_1516 : Index := 0#32
  let v2775 : Index := Scalar.indexCast v2707
  let c0_1517 : Index := 0#32
  let c0_1518 : Index := 0#32
  ![0, 0, v2775.toNat, 0, 0]

def k0_chk22 (v2024 : BitVec 1) (v2707 : BitVec 32) : Prop :=
  (∀ (k0_h4 : k0_cond4 v2024 = 1#1), 128 ∣ (k0_mult161 v2707).toNat) ∧
  (∀ (k0_h4 : k0_cond4 v2024 = 1#1), ∀ a, (k0_off108 v2707) a + S1x1x128x256.size a ≤ S1x1x8704x256.size a) ∧
  (∀ (k0_h4 : k0_cond4 v2024 = 1#1), 128 ∣ (k0_mult163 v2707).toNat) ∧
  (∀ (k0_h4 : k0_cond4 v2024 = 1#1), ∀ a, (k0_off110 v2707) a + S1x1x128x256.size a ≤ S1x1x8704x256.size a) ∧
  (∀ (k0_h4 : k0_cond4 v2024 = 1#1), 128 ∣ (k0_mult165 v2707).toNat) ∧
  (∀ (k0_h4 : k0_cond4 v2024 = 1#1), 128 ∣ (k0_mult167 v2707).toNat) ∧
  (∀ (k0_h4 : k0_cond4 v2024 = 1#1), ∀ a, (k0_off111 v2707) a + S1x1x1x80x128.size a ≤ S1x1x68x80x128.size a)
theorem k0_mult161_dvd : ∀ (v2024 : BitVec 1) (v2707 : BitVec 32) (k0_hw22 : k0_chk22 v2024 v2707), ∀ (k0_h4 : k0_cond4 v2024 = 1#1), 128 ∣ (k0_mult161 v2707).toNat := fun v2024 v2707 k0_hw22 k0_h4 => k0_hw22.1 k0_h4
theorem k0_off108_inb : ∀ (v2024 : BitVec 1) (v2707 : BitVec 32) (k0_hw22 : k0_chk22 v2024 v2707), ∀ (k0_h4 : k0_cond4 v2024 = 1#1), ∀ a, (k0_off108 v2707) a + S1x1x128x256.size a ≤ S1x1x8704x256.size a := fun v2024 v2707 k0_hw22 k0_h4 => k0_hw22.2.1 k0_h4
theorem k0_mult163_dvd : ∀ (v2024 : BitVec 1) (v2707 : BitVec 32) (k0_hw22 : k0_chk22 v2024 v2707), ∀ (k0_h4 : k0_cond4 v2024 = 1#1), 128 ∣ (k0_mult163 v2707).toNat := fun v2024 v2707 k0_hw22 k0_h4 => k0_hw22.2.2.1 k0_h4
theorem k0_off110_inb : ∀ (v2024 : BitVec 1) (v2707 : BitVec 32) (k0_hw22 : k0_chk22 v2024 v2707), ∀ (k0_h4 : k0_cond4 v2024 = 1#1), ∀ a, (k0_off110 v2707) a + S1x1x128x256.size a ≤ S1x1x8704x256.size a := fun v2024 v2707 k0_hw22 k0_h4 => k0_hw22.2.2.2.1 k0_h4
theorem k0_mult165_dvd : ∀ (v2024 : BitVec 1) (v2707 : BitVec 32) (k0_hw22 : k0_chk22 v2024 v2707), ∀ (k0_h4 : k0_cond4 v2024 = 1#1), 128 ∣ (k0_mult165 v2707).toNat := fun v2024 v2707 k0_hw22 k0_h4 => k0_hw22.2.2.2.2.1 k0_h4
theorem k0_mult167_dvd : ∀ (v2024 : BitVec 1) (v2707 : BitVec 32) (k0_hw22 : k0_chk22 v2024 v2707), ∀ (k0_h4 : k0_cond4 v2024 = 1#1), 128 ∣ (k0_mult167 v2707).toNat := fun v2024 v2707 k0_hw22 k0_h4 => k0_hw22.2.2.2.2.2.1 k0_h4
theorem k0_off111_inb : ∀ (v2024 : BitVec 1) (v2707 : BitVec 32) (k0_hw22 : k0_chk22 v2024 v2707), ∀ (k0_h4 : k0_cond4 v2024 = 1#1), ∀ a, (k0_off111 v2707) a + S1x1x1x80x128.size a ≤ S1x1x68x80x128.size a := fun v2024 v2707 k0_hw22 k0_h4 => k0_hw22.2.2.2.2.2.2 k0_h4

def k0_off112 (v2711 : BitVec 32) : Fin 5 → Nat :=
  let c0_1519 : Index := 0#32
  let c0_1520 : Index := 0#32
  let v2778 : Index := Scalar.indexCast v2711
  let c0_1521 : Index := 0#32
  let c0_1522 : Index := 0#32
  ![0, 0, v2778.toNat, 0, 0]

def k0_chk23 (v2024 : BitVec 1) (v2711 : BitVec 32) : Prop :=
  (∀ (k0_h4 : k0_cond4 v2024 = 1#1), 128 ∣ (k0_mult162 v2711).toNat) ∧
  (∀ (k0_h4 : k0_cond4 v2024 = 1#1), ∀ a, (k0_off109 v2711) a + S1x1x128x256.size a ≤ S1x1x8704x256.size a) ∧
  (∀ (k0_h4 : k0_cond4 v2024 = 1#1), 128 ∣ (k0_mult164 v2711).toNat) ∧
  (∀ (k0_h4 : k0_cond4 v2024 = 1#1), 128 ∣ (k0_mult166 v2711).toNat) ∧
  (∀ (k0_h4 : k0_cond4 v2024 = 1#1), 128 ∣ (k0_mult168 v2711).toNat) ∧
  (∀ (k0_h4 : k0_cond4 v2024 = 1#1), ∀ a, (k0_off112 v2711) a + S1x1x1x80x128.size a ≤ S1x1x68x80x128.size a)
theorem k0_mult162_dvd : ∀ (v2024 : BitVec 1) (v2711 : BitVec 32) (k0_hw23 : k0_chk23 v2024 v2711), ∀ (k0_h4 : k0_cond4 v2024 = 1#1), 128 ∣ (k0_mult162 v2711).toNat := fun v2024 v2711 k0_hw23 k0_h4 => k0_hw23.1 k0_h4
theorem k0_off109_inb : ∀ (v2024 : BitVec 1) (v2711 : BitVec 32) (k0_hw23 : k0_chk23 v2024 v2711), ∀ (k0_h4 : k0_cond4 v2024 = 1#1), ∀ a, (k0_off109 v2711) a + S1x1x128x256.size a ≤ S1x1x8704x256.size a := fun v2024 v2711 k0_hw23 k0_h4 => k0_hw23.2.1 k0_h4
theorem k0_mult164_dvd : ∀ (v2024 : BitVec 1) (v2711 : BitVec 32) (k0_hw23 : k0_chk23 v2024 v2711), ∀ (k0_h4 : k0_cond4 v2024 = 1#1), 128 ∣ (k0_mult164 v2711).toNat := fun v2024 v2711 k0_hw23 k0_h4 => k0_hw23.2.2.1 k0_h4
theorem k0_mult166_dvd : ∀ (v2024 : BitVec 1) (v2711 : BitVec 32) (k0_hw23 : k0_chk23 v2024 v2711), ∀ (k0_h4 : k0_cond4 v2024 = 1#1), 128 ∣ (k0_mult166 v2711).toNat := fun v2024 v2711 k0_hw23 k0_h4 => k0_hw23.2.2.2.1 k0_h4
theorem k0_mult168_dvd : ∀ (v2024 : BitVec 1) (v2711 : BitVec 32) (k0_hw23 : k0_chk23 v2024 v2711), ∀ (k0_h4 : k0_cond4 v2024 = 1#1), 128 ∣ (k0_mult168 v2711).toNat := fun v2024 v2711 k0_hw23 k0_h4 => k0_hw23.2.2.2.2.1 k0_h4
theorem k0_off112_inb : ∀ (v2024 : BitVec 1) (v2711 : BitVec 32) (k0_hw23 : k0_chk23 v2024 v2711), ∀ (k0_h4 : k0_cond4 v2024 = 1#1), ∀ a, (k0_off112 v2711) a + S1x1x1x80x128.size a ≤ S1x1x68x80x128.size a := fun v2024 v2711 k0_hw23 k0_h4 => k0_hw23.2.2.2.2.2 k0_h4

@[reducible] def k0_t4_loop (i : grid0.Coords) (v167 : BitVec 32) (v170 : BitVec 32) (v173 : BitVec 32) (v176 : BitVec 32) (v179 : BitVec 32) (v182 : BitVec 32) (v185 : BitVec 32) (v188 : BitVec 32) : Scf.Loop 32 :=
  let c0_i32_1185 : BitVec 32 := 0#32
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let c0_i32_196 : BitVec 32 := 0#32
  let v476 : BitVec 32 := Scalar.shrsi v179 c0_i32_196
  let c3_i32_197 : BitVec 32 := 3#32
  let v477 : BitVec 32 := Scalar.andi v476 c3_i32_197
  let c0_i32_198 : BitVec 32 := 0#32
  let v478 : BitVec 1 := Scalar.cmpi .ne v477 c0_i32_198
  let c32_i32_199 : BitVec 32 := 32#32
  let v481 : BitVec 1 := Scalar.cmpi .sgt v36 c32_i32_199
  let v482 : BitVec 1 := Scalar.andi v478 v481
  let v483 : BitVec 32 := Scalar.extui v482
  let v484 : BitVec 32 := Scalar.addi v475 v483
  let c2_i32_200 : BitVec 32 := 2#32
  let v485 : BitVec 32 := Scalar.shrsi v179 c2_i32_200
  let c3_i32_201 : BitVec 32 := 3#32
  let v486 : BitVec 32 := Scalar.andi v485 c3_i32_201
  let c0_i32_202 : BitVec 32 := 0#32
  let v487 : BitVec 1 := Scalar.cmpi .ne v486 c0_i32_202
  let c33_i32_203 : BitVec 32 := 33#32
  let v490 : BitVec 1 := Scalar.cmpi .sgt v36 c33_i32_203
  let v491 : BitVec 1 := Scalar.andi v487 v490
  let v492 : BitVec 32 := Scalar.extui v491
  let v493 : BitVec 32 := Scalar.addi v484 v492
  let c4_i32_204 : BitVec 32 := 4#32
  let v494 : BitVec 32 := Scalar.shrsi v179 c4_i32_204
  let c3_i32_205 : BitVec 32 := 3#32
  let v495 : BitVec 32 := Scalar.andi v494 c3_i32_205
  let c0_i32_206 : BitVec 32 := 0#32
  let v496 : BitVec 1 := Scalar.cmpi .ne v495 c0_i32_206
  let c34_i32_207 : BitVec 32 := 34#32
  let v499 : BitVec 1 := Scalar.cmpi .sgt v36 c34_i32_207
  let v500 : BitVec 1 := Scalar.andi v496 v499
  let v501 : BitVec 32 := Scalar.extui v500
  let v502 : BitVec 32 := Scalar.addi v493 v501
  let c6_i32_208 : BitVec 32 := 6#32
  let v503 : BitVec 32 := Scalar.shrsi v179 c6_i32_208
  let c3_i32_209 : BitVec 32 := 3#32
  let v504 : BitVec 32 := Scalar.andi v503 c3_i32_209
  let c0_i32_210 : BitVec 32 := 0#32
  let v505 : BitVec 1 := Scalar.cmpi .ne v504 c0_i32_210
  let c35_i32_211 : BitVec 32 := 35#32
  let v508 : BitVec 1 := Scalar.cmpi .sgt v36 c35_i32_211
  let v509 : BitVec 1 := Scalar.andi v505 v508
  let v510 : BitVec 32 := Scalar.extui v509
  let v511 : BitVec 32 := Scalar.addi v502 v510
  let c8_i32_212 : BitVec 32 := 8#32
  let v512 : BitVec 32 := Scalar.shrsi v179 c8_i32_212
  let c3_i32_213 : BitVec 32 := 3#32
  let v513 : BitVec 32 := Scalar.andi v512 c3_i32_213
  let c0_i32_214 : BitVec 32 := 0#32
  let v514 : BitVec 1 := Scalar.cmpi .ne v513 c0_i32_214
  let c36_i32_215 : BitVec 32 := 36#32
  let v517 : BitVec 1 := Scalar.cmpi .sgt v36 c36_i32_215
  let v518 : BitVec 1 := Scalar.andi v514 v517
  let v519 : BitVec 32 := Scalar.extui v518
  let v520 : BitVec 32 := Scalar.addi v511 v519
  let c10_i32_216 : BitVec 32 := 10#32
  let v521 : BitVec 32 := Scalar.shrsi v179 c10_i32_216
  let c3_i32_217 : BitVec 32 := 3#32
  let v522 : BitVec 32 := Scalar.andi v521 c3_i32_217
  let c0_i32_218 : BitVec 32 := 0#32
  let v523 : BitVec 1 := Scalar.cmpi .ne v522 c0_i32_218
  let c37_i32_219 : BitVec 32 := 37#32
  let v526 : BitVec 1 := Scalar.cmpi .sgt v36 c37_i32_219
  let v527 : BitVec 1 := Scalar.andi v523 v526
  let v528 : BitVec 32 := Scalar.extui v527
  let v529 : BitVec 32 := Scalar.addi v520 v528
  let c12_i32_220 : BitVec 32 := 12#32
  let v530 : BitVec 32 := Scalar.shrsi v179 c12_i32_220
  let c3_i32_221 : BitVec 32 := 3#32
  let v531 : BitVec 32 := Scalar.andi v530 c3_i32_221
  let c0_i32_222 : BitVec 32 := 0#32
  let v532 : BitVec 1 := Scalar.cmpi .ne v531 c0_i32_222
  let c38_i32_223 : BitVec 32 := 38#32
  let v535 : BitVec 1 := Scalar.cmpi .sgt v36 c38_i32_223
  let v536 : BitVec 1 := Scalar.andi v532 v535
  let v537 : BitVec 32 := Scalar.extui v536
  let v538 : BitVec 32 := Scalar.addi v529 v537
  let c14_i32_224 : BitVec 32 := 14#32
  let v539 : BitVec 32 := Scalar.shrsi v179 c14_i32_224
  let c3_i32_225 : BitVec 32 := 3#32
  let v540 : BitVec 32 := Scalar.andi v539 c3_i32_225
  let c0_i32_226 : BitVec 32 := 0#32
  let v541 : BitVec 1 := Scalar.cmpi .ne v540 c0_i32_226
  let c39_i32_227 : BitVec 32 := 39#32
  let v544 : BitVec 1 := Scalar.cmpi .sgt v36 c39_i32_227
  let v545 : BitVec 1 := Scalar.andi v541 v544
  let v546 : BitVec 32 := Scalar.extui v545
  let v547 : BitVec 32 := Scalar.addi v538 v546
  let c0_i32_228 : BitVec 32 := 0#32
  let v548 : BitVec 32 := Scalar.shrsi v182 c0_i32_228
  let c3_i32_229 : BitVec 32 := 3#32
  let v549 : BitVec 32 := Scalar.andi v548 c3_i32_229
  let c0_i32_230 : BitVec 32 := 0#32
  let v550 : BitVec 1 := Scalar.cmpi .ne v549 c0_i32_230
  let c40_i32_231 : BitVec 32 := 40#32
  let v553 : BitVec 1 := Scalar.cmpi .sgt v36 c40_i32_231
  let v554 : BitVec 1 := Scalar.andi v550 v553
  let v555 : BitVec 32 := Scalar.extui v554
  let v556 : BitVec 32 := Scalar.addi v547 v555
  let c2_i32_232 : BitVec 32 := 2#32
  let v557 : BitVec 32 := Scalar.shrsi v182 c2_i32_232
  let c3_i32_233 : BitVec 32 := 3#32
  let v558 : BitVec 32 := Scalar.andi v557 c3_i32_233
  let c0_i32_234 : BitVec 32 := 0#32
  let v559 : BitVec 1 := Scalar.cmpi .ne v558 c0_i32_234
  let c41_i32_235 : BitVec 32 := 41#32
  let v562 : BitVec 1 := Scalar.cmpi .sgt v36 c41_i32_235
  let v563 : BitVec 1 := Scalar.andi v559 v562
  let v564 : BitVec 32 := Scalar.extui v563
  let v565 : BitVec 32 := Scalar.addi v556 v564
  let c4_i32_236 : BitVec 32 := 4#32
  let v566 : BitVec 32 := Scalar.shrsi v182 c4_i32_236
  let c3_i32_237 : BitVec 32 := 3#32
  let v567 : BitVec 32 := Scalar.andi v566 c3_i32_237
  let c0_i32_238 : BitVec 32 := 0#32
  let v568 : BitVec 1 := Scalar.cmpi .ne v567 c0_i32_238
  let c42_i32_239 : BitVec 32 := 42#32
  let v571 : BitVec 1 := Scalar.cmpi .sgt v36 c42_i32_239
  let v572 : BitVec 1 := Scalar.andi v568 v571
  let v573 : BitVec 32 := Scalar.extui v572
  let v574 : BitVec 32 := Scalar.addi v565 v573
  let c6_i32_240 : BitVec 32 := 6#32
  let v575 : BitVec 32 := Scalar.shrsi v182 c6_i32_240
  let c3_i32_241 : BitVec 32 := 3#32
  let v576 : BitVec 32 := Scalar.andi v575 c3_i32_241
  let c0_i32_242 : BitVec 32 := 0#32
  let v577 : BitVec 1 := Scalar.cmpi .ne v576 c0_i32_242
  let c43_i32_243 : BitVec 32 := 43#32
  let v580 : BitVec 1 := Scalar.cmpi .sgt v36 c43_i32_243
  let v581 : BitVec 1 := Scalar.andi v577 v580
  let v582 : BitVec 32 := Scalar.extui v581
  let v583 : BitVec 32 := Scalar.addi v574 v582
  let c8_i32_244 : BitVec 32 := 8#32
  let v584 : BitVec 32 := Scalar.shrsi v182 c8_i32_244
  let c3_i32_245 : BitVec 32 := 3#32
  let v585 : BitVec 32 := Scalar.andi v584 c3_i32_245
  let c0_i32_246 : BitVec 32 := 0#32
  let v586 : BitVec 1 := Scalar.cmpi .ne v585 c0_i32_246
  let c44_i32_247 : BitVec 32 := 44#32
  let v589 : BitVec 1 := Scalar.cmpi .sgt v36 c44_i32_247
  let v590 : BitVec 1 := Scalar.andi v586 v589
  let v591 : BitVec 32 := Scalar.extui v590
  let v592 : BitVec 32 := Scalar.addi v583 v591
  let c10_i32_248 : BitVec 32 := 10#32
  let v593 : BitVec 32 := Scalar.shrsi v182 c10_i32_248
  let c3_i32_249 : BitVec 32 := 3#32
  let v594 : BitVec 32 := Scalar.andi v593 c3_i32_249
  let c0_i32_250 : BitVec 32 := 0#32
  let v595 : BitVec 1 := Scalar.cmpi .ne v594 c0_i32_250
  let c45_i32_251 : BitVec 32 := 45#32
  let v598 : BitVec 1 := Scalar.cmpi .sgt v36 c45_i32_251
  let v599 : BitVec 1 := Scalar.andi v595 v598
  let v600 : BitVec 32 := Scalar.extui v599
  let v601 : BitVec 32 := Scalar.addi v592 v600
  let c12_i32_252 : BitVec 32 := 12#32
  let v602 : BitVec 32 := Scalar.shrsi v182 c12_i32_252
  let c3_i32_253 : BitVec 32 := 3#32
  let v603 : BitVec 32 := Scalar.andi v602 c3_i32_253
  let c0_i32_254 : BitVec 32 := 0#32
  let v604 : BitVec 1 := Scalar.cmpi .ne v603 c0_i32_254
  let c46_i32_255 : BitVec 32 := 46#32
  let v607 : BitVec 1 := Scalar.cmpi .sgt v36 c46_i32_255
  let v608 : BitVec 1 := Scalar.andi v604 v607
  let v609 : BitVec 32 := Scalar.extui v608
  let v610 : BitVec 32 := Scalar.addi v601 v609
  let c14_i32_256 : BitVec 32 := 14#32
  let v611 : BitVec 32 := Scalar.shrsi v182 c14_i32_256
  let c3_i32_257 : BitVec 32 := 3#32
  let v612 : BitVec 32 := Scalar.andi v611 c3_i32_257
  let c0_i32_258 : BitVec 32 := 0#32
  let v613 : BitVec 1 := Scalar.cmpi .ne v612 c0_i32_258
  let c47_i32_259 : BitVec 32 := 47#32
  let v616 : BitVec 1 := Scalar.cmpi .sgt v36 c47_i32_259
  let v617 : BitVec 1 := Scalar.andi v613 v616
  let v618 : BitVec 32 := Scalar.extui v617
  let v619 : BitVec 32 := Scalar.addi v610 v618
  let c0_i32_260 : BitVec 32 := 0#32
  let v620 : BitVec 32 := Scalar.shrsi v185 c0_i32_260
  let c3_i32_261 : BitVec 32 := 3#32
  let v621 : BitVec 32 := Scalar.andi v620 c3_i32_261
  let c0_i32_262 : BitVec 32 := 0#32
  let v622 : BitVec 1 := Scalar.cmpi .ne v621 c0_i32_262
  let c48_i32_263 : BitVec 32 := 48#32
  let v625 : BitVec 1 := Scalar.cmpi .sgt v36 c48_i32_263
  let v626 : BitVec 1 := Scalar.andi v622 v625
  let v627 : BitVec 32 := Scalar.extui v626
  let v628 : BitVec 32 := Scalar.addi v619 v627
  let c2_i32_264 : BitVec 32 := 2#32
  let v629 : BitVec 32 := Scalar.shrsi v185 c2_i32_264
  let c3_i32_265 : BitVec 32 := 3#32
  let v630 : BitVec 32 := Scalar.andi v629 c3_i32_265
  let c0_i32_266 : BitVec 32 := 0#32
  let v631 : BitVec 1 := Scalar.cmpi .ne v630 c0_i32_266
  let c49_i32_267 : BitVec 32 := 49#32
  let v634 : BitVec 1 := Scalar.cmpi .sgt v36 c49_i32_267
  let v635 : BitVec 1 := Scalar.andi v631 v634
  let v636 : BitVec 32 := Scalar.extui v635
  let v637 : BitVec 32 := Scalar.addi v628 v636
  let c4_i32_268 : BitVec 32 := 4#32
  let v638 : BitVec 32 := Scalar.shrsi v185 c4_i32_268
  let c3_i32_269 : BitVec 32 := 3#32
  let v639 : BitVec 32 := Scalar.andi v638 c3_i32_269
  let c0_i32_270 : BitVec 32 := 0#32
  let v640 : BitVec 1 := Scalar.cmpi .ne v639 c0_i32_270
  let c50_i32_271 : BitVec 32 := 50#32
  let v643 : BitVec 1 := Scalar.cmpi .sgt v36 c50_i32_271
  let v644 : BitVec 1 := Scalar.andi v640 v643
  let v645 : BitVec 32 := Scalar.extui v644
  let v646 : BitVec 32 := Scalar.addi v637 v645
  let c6_i32_272 : BitVec 32 := 6#32
  let v647 : BitVec 32 := Scalar.shrsi v185 c6_i32_272
  let c3_i32_273 : BitVec 32 := 3#32
  let v648 : BitVec 32 := Scalar.andi v647 c3_i32_273
  let c0_i32_274 : BitVec 32 := 0#32
  let v649 : BitVec 1 := Scalar.cmpi .ne v648 c0_i32_274
  let c51_i32_275 : BitVec 32 := 51#32
  let v652 : BitVec 1 := Scalar.cmpi .sgt v36 c51_i32_275
  let v653 : BitVec 1 := Scalar.andi v649 v652
  let v654 : BitVec 32 := Scalar.extui v653
  let v655 : BitVec 32 := Scalar.addi v646 v654
  let c8_i32_276 : BitVec 32 := 8#32
  let v656 : BitVec 32 := Scalar.shrsi v185 c8_i32_276
  let c3_i32_277 : BitVec 32 := 3#32
  let v657 : BitVec 32 := Scalar.andi v656 c3_i32_277
  let c0_i32_278 : BitVec 32 := 0#32
  let v658 : BitVec 1 := Scalar.cmpi .ne v657 c0_i32_278
  let c52_i32_279 : BitVec 32 := 52#32
  let v661 : BitVec 1 := Scalar.cmpi .sgt v36 c52_i32_279
  let v662 : BitVec 1 := Scalar.andi v658 v661
  let v663 : BitVec 32 := Scalar.extui v662
  let v664 : BitVec 32 := Scalar.addi v655 v663
  let c10_i32_280 : BitVec 32 := 10#32
  let v665 : BitVec 32 := Scalar.shrsi v185 c10_i32_280
  let c3_i32_281 : BitVec 32 := 3#32
  let v666 : BitVec 32 := Scalar.andi v665 c3_i32_281
  let c0_i32_282 : BitVec 32 := 0#32
  let v667 : BitVec 1 := Scalar.cmpi .ne v666 c0_i32_282
  let c53_i32_283 : BitVec 32 := 53#32
  let v670 : BitVec 1 := Scalar.cmpi .sgt v36 c53_i32_283
  let v671 : BitVec 1 := Scalar.andi v667 v670
  let v672 : BitVec 32 := Scalar.extui v671
  let v673 : BitVec 32 := Scalar.addi v664 v672
  let c12_i32_284 : BitVec 32 := 12#32
  let v674 : BitVec 32 := Scalar.shrsi v185 c12_i32_284
  let c3_i32_285 : BitVec 32 := 3#32
  let v675 : BitVec 32 := Scalar.andi v674 c3_i32_285
  let c0_i32_286 : BitVec 32 := 0#32
  let v676 : BitVec 1 := Scalar.cmpi .ne v675 c0_i32_286
  let c54_i32_287 : BitVec 32 := 54#32
  let v679 : BitVec 1 := Scalar.cmpi .sgt v36 c54_i32_287
  let v680 : BitVec 1 := Scalar.andi v676 v679
  let v681 : BitVec 32 := Scalar.extui v680
  let v682 : BitVec 32 := Scalar.addi v673 v681
  let c14_i32_288 : BitVec 32 := 14#32
  let v683 : BitVec 32 := Scalar.shrsi v185 c14_i32_288
  let c3_i32_289 : BitVec 32 := 3#32
  let v684 : BitVec 32 := Scalar.andi v683 c3_i32_289
  let c0_i32_290 : BitVec 32 := 0#32
  let v685 : BitVec 1 := Scalar.cmpi .ne v684 c0_i32_290
  let c55_i32_291 : BitVec 32 := 55#32
  let v688 : BitVec 1 := Scalar.cmpi .sgt v36 c55_i32_291
  let v689 : BitVec 1 := Scalar.andi v685 v688
  let v690 : BitVec 32 := Scalar.extui v689
  let v691 : BitVec 32 := Scalar.addi v682 v690
  let c0_i32_292 : BitVec 32 := 0#32
  let v692 : BitVec 32 := Scalar.shrsi v188 c0_i32_292
  let c3_i32_293 : BitVec 32 := 3#32
  let v693 : BitVec 32 := Scalar.andi v692 c3_i32_293
  let c0_i32_294 : BitVec 32 := 0#32
  let v694 : BitVec 1 := Scalar.cmpi .ne v693 c0_i32_294
  let c56_i32_295 : BitVec 32 := 56#32
  let v697 : BitVec 1 := Scalar.cmpi .sgt v36 c56_i32_295
  let v698 : BitVec 1 := Scalar.andi v694 v697
  let v699 : BitVec 32 := Scalar.extui v698
  let v700 : BitVec 32 := Scalar.addi v691 v699
  let c2_i32_296 : BitVec 32 := 2#32
  let v701 : BitVec 32 := Scalar.shrsi v188 c2_i32_296
  let c3_i32_297 : BitVec 32 := 3#32
  let v702 : BitVec 32 := Scalar.andi v701 c3_i32_297
  let c0_i32_298 : BitVec 32 := 0#32
  let v703 : BitVec 1 := Scalar.cmpi .ne v702 c0_i32_298
  let c57_i32_299 : BitVec 32 := 57#32
  let v706 : BitVec 1 := Scalar.cmpi .sgt v36 c57_i32_299
  let v707 : BitVec 1 := Scalar.andi v703 v706
  let v708 : BitVec 32 := Scalar.extui v707
  let v709 : BitVec 32 := Scalar.addi v700 v708
  let c4_i32_300 : BitVec 32 := 4#32
  let v710 : BitVec 32 := Scalar.shrsi v188 c4_i32_300
  let c3_i32_301 : BitVec 32 := 3#32
  let v711 : BitVec 32 := Scalar.andi v710 c3_i32_301
  let c0_i32_302 : BitVec 32 := 0#32
  let v712 : BitVec 1 := Scalar.cmpi .ne v711 c0_i32_302
  let c58_i32_303 : BitVec 32 := 58#32
  let v715 : BitVec 1 := Scalar.cmpi .sgt v36 c58_i32_303
  let v716 : BitVec 1 := Scalar.andi v712 v715
  let v717 : BitVec 32 := Scalar.extui v716
  let v718 : BitVec 32 := Scalar.addi v709 v717
  let c6_i32_304 : BitVec 32 := 6#32
  let v719 : BitVec 32 := Scalar.shrsi v188 c6_i32_304
  let c3_i32_305 : BitVec 32 := 3#32
  let v720 : BitVec 32 := Scalar.andi v719 c3_i32_305
  let c0_i32_306 : BitVec 32 := 0#32
  let v721 : BitVec 1 := Scalar.cmpi .ne v720 c0_i32_306
  let c59_i32_307 : BitVec 32 := 59#32
  let v724 : BitVec 1 := Scalar.cmpi .sgt v36 c59_i32_307
  let v725 : BitVec 1 := Scalar.andi v721 v724
  let v726 : BitVec 32 := Scalar.extui v725
  let v727 : BitVec 32 := Scalar.addi v718 v726
  let c8_i32_308 : BitVec 32 := 8#32
  let v728 : BitVec 32 := Scalar.shrsi v188 c8_i32_308
  let c3_i32_309 : BitVec 32 := 3#32
  let v729 : BitVec 32 := Scalar.andi v728 c3_i32_309
  let c0_i32_310 : BitVec 32 := 0#32
  let v730 : BitVec 1 := Scalar.cmpi .ne v729 c0_i32_310
  let c60_i32_311 : BitVec 32 := 60#32
  let v733 : BitVec 1 := Scalar.cmpi .sgt v36 c60_i32_311
  let v734 : BitVec 1 := Scalar.andi v730 v733
  let v735 : BitVec 32 := Scalar.extui v734
  let v736 : BitVec 32 := Scalar.addi v727 v735
  let c10_i32_312 : BitVec 32 := 10#32
  let v737 : BitVec 32 := Scalar.shrsi v188 c10_i32_312
  let c3_i32_313 : BitVec 32 := 3#32
  let v738 : BitVec 32 := Scalar.andi v737 c3_i32_313
  let c0_i32_314 : BitVec 32 := 0#32
  let v739 : BitVec 1 := Scalar.cmpi .ne v738 c0_i32_314
  let c61_i32_315 : BitVec 32 := 61#32
  let v742 : BitVec 1 := Scalar.cmpi .sgt v36 c61_i32_315
  let v743 : BitVec 1 := Scalar.andi v739 v742
  let v744 : BitVec 32 := Scalar.extui v743
  let v745 : BitVec 32 := Scalar.addi v736 v744
  let c2_i32_632 : BitVec 32 := 2#32
  let v1231 : BitVec 32 := Scalar.addi v745 c2_i32_632
  let c1_i32_633 : BitVec 32 := 1#32
  let v1232 : BitVec 32 := Scalar.subi v1231 c1_i32_633
  let c0_i32_635 : BitVec 32 := 0#32
  let v1234 : BitVec 1 := Scalar.cmpi .sgt v1232 c0_i32_635
  let v1235 : BitVec 32 := Scalar.extui v1234
  let c0_i32_636 : BitVec 32 := 0#32
  let v1236 : BitVec 1 := Scalar.cmpi .slt v1232 c0_i32_636
  let v1237 : BitVec 32 := Scalar.extui v1236
  let v1238 : BitVec 32 := Scalar.subi v1235 v1237
  let c2_i32_634 : BitVec 32 := 2#32
  let c0_i32_637 : BitVec 32 := 0#32
  let v1239 : BitVec 1 := Scalar.cmpi .sgt c2_i32_634 c0_i32_637
  let v1240 : BitVec 32 := Scalar.extui v1239
  let c0_i32_638 : BitVec 32 := 0#32
  let v1241 : BitVec 1 := Scalar.cmpi .slt c2_i32_634 c0_i32_638
  let v1242 : BitVec 32 := Scalar.extui v1241
  let v1243 : BitVec 32 := Scalar.subi v1240 v1242
  let v1244 : BitVec 1 := Scalar.cmpi .ne v1238 v1243
  let v1245 : BitVec 32 := Scalar.remsi v1232 c2_i32_634
  let c0_i32_639 : BitVec 32 := 0#32
  let v1246 : BitVec 1 := Scalar.cmpi .ne v1245 c0_i32_639
  let v1247 : BitVec 1 := Scalar.andi v1244 v1246
  let v1233 : BitVec 32 := Scalar.divsi v1232 c2_i32_634
  let c1_i32_640 : BitVec 32 := 1#32
  let v1248 : BitVec 32 := Scalar.subi v1233 c1_i32_640
  let v1249 : BitVec 32 := Scalar.select v1247 v1248 v1233
  let v2204 : BitVec 32 := Scalar.subi v1249 c0_i32_1185
  let c1_i32_1186 : BitVec 32 := 1#32
  let v2206 : BitVec 32 := Scalar.divsi v2204 c1_i32_1186
  let v2207 : BitVec 32 := Scalar.muli v2206 c1_i32_1186
  let v2208 : BitVec 32 := Scalar.addi c0_i32_1185 v2207
  let v2205 : BitVec 32 := Scalar.addi c0_i32_1185 v2204
  let c1_i32_1188 : BitVec 32 := 1#32
  ⟨v2208, v2205, c1_i32_1188⟩
def k0_off113 (i : grid0.Coords) (v167 : BitVec 32) (v170 : BitVec 32) (v173 : BitVec 32) (v176 : BitVec 32) (v179 : BitVec 32) (v182 : BitVec 32) (v185 : BitVec 32) (v188 : BitVec 32) (k0_t4 : Fin (k0_t4_loop i v167 v170 v173 v176 v179 v182 v185 v188).trips) (c0_i32_1464 : BitVec 32) : Fin 1 → Nat :=
  let c0_i32_1185 : BitVec 32 := 0#32
  let c0_i32_65 : BitVec 32 := 0#32
  let c0_i32_59 : BitVec 32 := 0#32
  let v189 : BitVec 32 := Scalar.shrsi v167 c0_i32_59
  let c3_i32_60 : BitVec 32 := 3#32
  let v190 : BitVec 32 := Scalar.andi v189 c3_i32_60
  let c0_i32_61 : BitVec 32 := 0#32
  let v191 : BitVec 1 := Scalar.cmpi .ne v190 c0_i32_61
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c0_i32_64 : BitVec 32 := 0#32
  let v193 : BitVec 1 := Scalar.cmpi .sgt v36 c0_i32_64
  let v194 : BitVec 1 := Scalar.andi v191 v193
  let v195 : BitVec 32 := Scalar.extui v194
  let v196 : BitVec 32 := Scalar.addi c0_i32_65 v195
  let c2_i32_66 : BitVec 32 := 2#32
  let v197 : BitVec 32 := Scalar.shrsi v167 c2_i32_66
  let c3_i32_67 : BitVec 32 := 3#32
  let v198 : BitVec 32 := Scalar.andi v197 c3_i32_67
  let c0_i32_68 : BitVec 32 := 0#32
  let v199 : BitVec 1 := Scalar.cmpi .ne v198 c0_i32_68
  let c1_i32_70 : BitVec 32 := 1#32
  let v202 : BitVec 1 := Scalar.cmpi .sgt v36 c1_i32_70
  let v203 : BitVec 1 := Scalar.andi v199 v202
  let v204 : BitVec 32 := Scalar.extui v203
  let v205 : BitVec 32 := Scalar.addi v196 v204
  let c4_i32_71 : BitVec 32 := 4#32
  let v206 : BitVec 32 := Scalar.shrsi v167 c4_i32_71
  let c3_i32_72 : BitVec 32 := 3#32
  let v207 : BitVec 32 := Scalar.andi v206 c3_i32_72
  let c0_i32_73 : BitVec 32 := 0#32
  let v208 : BitVec 1 := Scalar.cmpi .ne v207 c0_i32_73
  let c2_i32_75 : BitVec 32 := 2#32
  let v211 : BitVec 1 := Scalar.cmpi .sgt v36 c2_i32_75
  let v212 : BitVec 1 := Scalar.andi v208 v211
  let v213 : BitVec 32 := Scalar.extui v212
  let v214 : BitVec 32 := Scalar.addi v205 v213
  let c6_i32 : BitVec 32 := 6#32
  let v215 : BitVec 32 := Scalar.shrsi v167 c6_i32
  let c3_i32_76 : BitVec 32 := 3#32
  let v216 : BitVec 32 := Scalar.andi v215 c3_i32_76
  let c0_i32_77 : BitVec 32 := 0#32
  let v217 : BitVec 1 := Scalar.cmpi .ne v216 c0_i32_77
  let c3_i32_79 : BitVec 32 := 3#32
  let v220 : BitVec 1 := Scalar.cmpi .sgt v36 c3_i32_79
  let v221 : BitVec 1 := Scalar.andi v217 v220
  let v222 : BitVec 32 := Scalar.extui v221
  let v223 : BitVec 32 := Scalar.addi v214 v222
  let c8_i32 : BitVec 32 := 8#32
  let v224 : BitVec 32 := Scalar.shrsi v167 c8_i32
  let c3_i32_80 : BitVec 32 := 3#32
  let v225 : BitVec 32 := Scalar.andi v224 c3_i32_80
  let c0_i32_81 : BitVec 32 := 0#32
  let v226 : BitVec 1 := Scalar.cmpi .ne v225 c0_i32_81
  let c4_i32_83 : BitVec 32 := 4#32
  let v229 : BitVec 1 := Scalar.cmpi .sgt v36 c4_i32_83
  let v230 : BitVec 1 := Scalar.andi v226 v229
  let v231 : BitVec 32 := Scalar.extui v230
  let v232 : BitVec 32 := Scalar.addi v223 v231
  let c10_i32 : BitVec 32 := 10#32
  let v233 : BitVec 32 := Scalar.shrsi v167 c10_i32
  let c3_i32_84 : BitVec 32 := 3#32
  let v234 : BitVec 32 := Scalar.andi v233 c3_i32_84
  let c0_i32_85 : BitVec 32 := 0#32
  let v235 : BitVec 1 := Scalar.cmpi .ne v234 c0_i32_85
  let c5_i32_87 : BitVec 32 := 5#32
  let v238 : BitVec 1 := Scalar.cmpi .sgt v36 c5_i32_87
  let v239 : BitVec 1 := Scalar.andi v235 v238
  let v240 : BitVec 32 := Scalar.extui v239
  let v241 : BitVec 32 := Scalar.addi v232 v240
  let c12_i32 : BitVec 32 := 12#32
  let v242 : BitVec 32 := Scalar.shrsi v167 c12_i32
  let c3_i32_88 : BitVec 32 := 3#32
  let v243 : BitVec 32 := Scalar.andi v242 c3_i32_88
  let c0_i32_89 : BitVec 32 := 0#32
  let v244 : BitVec 1 := Scalar.cmpi .ne v243 c0_i32_89
  let c6_i32_91 : BitVec 32 := 6#32
  let v247 : BitVec 1 := Scalar.cmpi .sgt v36 c6_i32_91
  let v248 : BitVec 1 := Scalar.andi v244 v247
  let v249 : BitVec 32 := Scalar.extui v248
  let v250 : BitVec 32 := Scalar.addi v241 v249
  let c14_i32 : BitVec 32 := 14#32
  let v251 : BitVec 32 := Scalar.shrsi v167 c14_i32
  let c3_i32_92 : BitVec 32 := 3#32
  let v252 : BitVec 32 := Scalar.andi v251 c3_i32_92
  let c0_i32_93 : BitVec 32 := 0#32
  let v253 : BitVec 1 := Scalar.cmpi .ne v252 c0_i32_93
  let c7_i32_94 : BitVec 32 := 7#32
  let v256 : BitVec 1 := Scalar.cmpi .sgt v36 c7_i32_94
  let v257 : BitVec 1 := Scalar.andi v253 v256
  let v258 : BitVec 32 := Scalar.extui v257
  let v259 : BitVec 32 := Scalar.addi v250 v258
  let c0_i32_95 : BitVec 32 := 0#32
  let v260 : BitVec 32 := Scalar.shrsi v170 c0_i32_95
  let c3_i32_96 : BitVec 32 := 3#32
  let v261 : BitVec 32 := Scalar.andi v260 c3_i32_96
  let c0_i32_97 : BitVec 32 := 0#32
  let v262 : BitVec 1 := Scalar.cmpi .ne v261 c0_i32_97
  let c8_i32_99 : BitVec 32 := 8#32
  let v265 : BitVec 1 := Scalar.cmpi .sgt v36 c8_i32_99
  let v266 : BitVec 1 := Scalar.andi v262 v265
  let v267 : BitVec 32 := Scalar.extui v266
  let v268 : BitVec 32 := Scalar.addi v259 v267
  let c2_i32_100 : BitVec 32 := 2#32
  let v269 : BitVec 32 := Scalar.shrsi v170 c2_i32_100
  let c3_i32_101 : BitVec 32 := 3#32
  let v270 : BitVec 32 := Scalar.andi v269 c3_i32_101
  let c0_i32_102 : BitVec 32 := 0#32
  let v271 : BitVec 1 := Scalar.cmpi .ne v270 c0_i32_102
  let c9_i32_103 : BitVec 32 := 9#32
  let v274 : BitVec 1 := Scalar.cmpi .sgt v36 c9_i32_103
  let v275 : BitVec 1 := Scalar.andi v271 v274
  let v276 : BitVec 32 := Scalar.extui v275
  let v277 : BitVec 32 := Scalar.addi v268 v276
  let c4_i32_104 : BitVec 32 := 4#32
  let v278 : BitVec 32 := Scalar.shrsi v170 c4_i32_104
  let c3_i32_105 : BitVec 32 := 3#32
  let v279 : BitVec 32 := Scalar.andi v278 c3_i32_105
  let c0_i32_106 : BitVec 32 := 0#32
  let v280 : BitVec 1 := Scalar.cmpi .ne v279 c0_i32_106
  let c10_i32_108 : BitVec 32 := 10#32
  let v283 : BitVec 1 := Scalar.cmpi .sgt v36 c10_i32_108
  let v284 : BitVec 1 := Scalar.andi v280 v283
  let v285 : BitVec 32 := Scalar.extui v284
  let v286 : BitVec 32 := Scalar.addi v277 v285
  let c6_i32_109 : BitVec 32 := 6#32
  let v287 : BitVec 32 := Scalar.shrsi v170 c6_i32_109
  let c3_i32_110 : BitVec 32 := 3#32
  let v288 : BitVec 32 := Scalar.andi v287 c3_i32_110
  let c0_i32_111 : BitVec 32 := 0#32
  let v289 : BitVec 1 := Scalar.cmpi .ne v288 c0_i32_111
  let c11_i32_112 : BitVec 32 := 11#32
  let v292 : BitVec 1 := Scalar.cmpi .sgt v36 c11_i32_112
  let v293 : BitVec 1 := Scalar.andi v289 v292
  let v294 : BitVec 32 := Scalar.extui v293
  let v295 : BitVec 32 := Scalar.addi v286 v294
  let c8_i32_113 : BitVec 32 := 8#32
  let v296 : BitVec 32 := Scalar.shrsi v170 c8_i32_113
  let c3_i32_114 : BitVec 32 := 3#32
  let v297 : BitVec 32 := Scalar.andi v296 c3_i32_114
  let c0_i32_115 : BitVec 32 := 0#32
  let v298 : BitVec 1 := Scalar.cmpi .ne v297 c0_i32_115
  let c12_i32_117 : BitVec 32 := 12#32
  let v301 : BitVec 1 := Scalar.cmpi .sgt v36 c12_i32_117
  let v302 : BitVec 1 := Scalar.andi v298 v301
  let v303 : BitVec 32 := Scalar.extui v302
  let v304 : BitVec 32 := Scalar.addi v295 v303
  let c10_i32_118 : BitVec 32 := 10#32
  let v305 : BitVec 32 := Scalar.shrsi v170 c10_i32_118
  let c3_i32_119 : BitVec 32 := 3#32
  let v306 : BitVec 32 := Scalar.andi v305 c3_i32_119
  let c0_i32_120 : BitVec 32 := 0#32
  let v307 : BitVec 1 := Scalar.cmpi .ne v306 c0_i32_120
  let c13_i32_121 : BitVec 32 := 13#32
  let v310 : BitVec 1 := Scalar.cmpi .sgt v36 c13_i32_121
  let v311 : BitVec 1 := Scalar.andi v307 v310
  let v312 : BitVec 32 := Scalar.extui v311
  let v313 : BitVec 32 := Scalar.addi v304 v312
  let c12_i32_122 : BitVec 32 := 12#32
  let v314 : BitVec 32 := Scalar.shrsi v170 c12_i32_122
  let c3_i32_123 : BitVec 32 := 3#32
  let v315 : BitVec 32 := Scalar.andi v314 c3_i32_123
  let c0_i32_124 : BitVec 32 := 0#32
  let v316 : BitVec 1 := Scalar.cmpi .ne v315 c0_i32_124
  let c14_i32_126 : BitVec 32 := 14#32
  let v319 : BitVec 1 := Scalar.cmpi .sgt v36 c14_i32_126
  let v320 : BitVec 1 := Scalar.andi v316 v319
  let v321 : BitVec 32 := Scalar.extui v320
  let v322 : BitVec 32 := Scalar.addi v313 v321
  let c14_i32_127 : BitVec 32 := 14#32
  let v323 : BitVec 32 := Scalar.shrsi v170 c14_i32_127
  let c3_i32_128 : BitVec 32 := 3#32
  let v324 : BitVec 32 := Scalar.andi v323 c3_i32_128
  let c0_i32_129 : BitVec 32 := 0#32
  let v325 : BitVec 1 := Scalar.cmpi .ne v324 c0_i32_129
  let c15_i32_130 : BitVec 32 := 15#32
  let v328 : BitVec 1 := Scalar.cmpi .sgt v36 c15_i32_130
  let v329 : BitVec 1 := Scalar.andi v325 v328
  let v330 : BitVec 32 := Scalar.extui v329
  let v331 : BitVec 32 := Scalar.addi v322 v330
  let c0_i32_131 : BitVec 32 := 0#32
  let v332 : BitVec 32 := Scalar.shrsi v173 c0_i32_131
  let c3_i32_132 : BitVec 32 := 3#32
  let v333 : BitVec 32 := Scalar.andi v332 c3_i32_132
  let c0_i32_133 : BitVec 32 := 0#32
  let v334 : BitVec 1 := Scalar.cmpi .ne v333 c0_i32_133
  let c16_i32_135 : BitVec 32 := 16#32
  let v337 : BitVec 1 := Scalar.cmpi .sgt v36 c16_i32_135
  let v338 : BitVec 1 := Scalar.andi v334 v337
  let v339 : BitVec 32 := Scalar.extui v338
  let v340 : BitVec 32 := Scalar.addi v331 v339
  let c2_i32_136 : BitVec 32 := 2#32
  let v341 : BitVec 32 := Scalar.shrsi v173 c2_i32_136
  let c3_i32_137 : BitVec 32 := 3#32
  let v342 : BitVec 32 := Scalar.andi v341 c3_i32_137
  let c0_i32_138 : BitVec 32 := 0#32
  let v343 : BitVec 1 := Scalar.cmpi .ne v342 c0_i32_138
  let c17_i32_139 : BitVec 32 := 17#32
  let v346 : BitVec 1 := Scalar.cmpi .sgt v36 c17_i32_139
  let v347 : BitVec 1 := Scalar.andi v343 v346
  let v348 : BitVec 32 := Scalar.extui v347
  let v349 : BitVec 32 := Scalar.addi v340 v348
  let c4_i32_140 : BitVec 32 := 4#32
  let v350 : BitVec 32 := Scalar.shrsi v173 c4_i32_140
  let c3_i32_141 : BitVec 32 := 3#32
  let v351 : BitVec 32 := Scalar.andi v350 c3_i32_141
  let c0_i32_142 : BitVec 32 := 0#32
  let v352 : BitVec 1 := Scalar.cmpi .ne v351 c0_i32_142
  let c18_i32_143 : BitVec 32 := 18#32
  let v355 : BitVec 1 := Scalar.cmpi .sgt v36 c18_i32_143
  let v356 : BitVec 1 := Scalar.andi v352 v355
  let v357 : BitVec 32 := Scalar.extui v356
  let v358 : BitVec 32 := Scalar.addi v349 v357
  let c6_i32_144 : BitVec 32 := 6#32
  let v359 : BitVec 32 := Scalar.shrsi v173 c6_i32_144
  let c3_i32_145 : BitVec 32 := 3#32
  let v360 : BitVec 32 := Scalar.andi v359 c3_i32_145
  let c0_i32_146 : BitVec 32 := 0#32
  let v361 : BitVec 1 := Scalar.cmpi .ne v360 c0_i32_146
  let c19_i32_147 : BitVec 32 := 19#32
  let v364 : BitVec 1 := Scalar.cmpi .sgt v36 c19_i32_147
  let v365 : BitVec 1 := Scalar.andi v361 v364
  let v366 : BitVec 32 := Scalar.extui v365
  let v367 : BitVec 32 := Scalar.addi v358 v366
  let c8_i32_148 : BitVec 32 := 8#32
  let v368 : BitVec 32 := Scalar.shrsi v173 c8_i32_148
  let c3_i32_149 : BitVec 32 := 3#32
  let v369 : BitVec 32 := Scalar.andi v368 c3_i32_149
  let c0_i32_150 : BitVec 32 := 0#32
  let v370 : BitVec 1 := Scalar.cmpi .ne v369 c0_i32_150
  let c20_i32_151 : BitVec 32 := 20#32
  let v373 : BitVec 1 := Scalar.cmpi .sgt v36 c20_i32_151
  let v374 : BitVec 1 := Scalar.andi v370 v373
  let v375 : BitVec 32 := Scalar.extui v374
  let v376 : BitVec 32 := Scalar.addi v367 v375
  let c10_i32_152 : BitVec 32 := 10#32
  let v377 : BitVec 32 := Scalar.shrsi v173 c10_i32_152
  let c3_i32_153 : BitVec 32 := 3#32
  let v378 : BitVec 32 := Scalar.andi v377 c3_i32_153
  let c0_i32_154 : BitVec 32 := 0#32
  let v379 : BitVec 1 := Scalar.cmpi .ne v378 c0_i32_154
  let c21_i32_155 : BitVec 32 := 21#32
  let v382 : BitVec 1 := Scalar.cmpi .sgt v36 c21_i32_155
  let v383 : BitVec 1 := Scalar.andi v379 v382
  let v384 : BitVec 32 := Scalar.extui v383
  let v385 : BitVec 32 := Scalar.addi v376 v384
  let c12_i32_156 : BitVec 32 := 12#32
  let v386 : BitVec 32 := Scalar.shrsi v173 c12_i32_156
  let c3_i32_157 : BitVec 32 := 3#32
  let v387 : BitVec 32 := Scalar.andi v386 c3_i32_157
  let c0_i32_158 : BitVec 32 := 0#32
  let v388 : BitVec 1 := Scalar.cmpi .ne v387 c0_i32_158
  let c22_i32_159 : BitVec 32 := 22#32
  let v391 : BitVec 1 := Scalar.cmpi .sgt v36 c22_i32_159
  let v392 : BitVec 1 := Scalar.andi v388 v391
  let v393 : BitVec 32 := Scalar.extui v392
  let v394 : BitVec 32 := Scalar.addi v385 v393
  let c14_i32_160 : BitVec 32 := 14#32
  let v395 : BitVec 32 := Scalar.shrsi v173 c14_i32_160
  let c3_i32_161 : BitVec 32 := 3#32
  let v396 : BitVec 32 := Scalar.andi v395 c3_i32_161
  let c0_i32_162 : BitVec 32 := 0#32
  let v397 : BitVec 1 := Scalar.cmpi .ne v396 c0_i32_162
  let c23_i32_163 : BitVec 32 := 23#32
  let v400 : BitVec 1 := Scalar.cmpi .sgt v36 c23_i32_163
  let v401 : BitVec 1 := Scalar.andi v397 v400
  let v402 : BitVec 32 := Scalar.extui v401
  let v403 : BitVec 32 := Scalar.addi v394 v402
  let c0_i32_164 : BitVec 32 := 0#32
  let v404 : BitVec 32 := Scalar.shrsi v176 c0_i32_164
  let c3_i32_165 : BitVec 32 := 3#32
  let v405 : BitVec 32 := Scalar.andi v404 c3_i32_165
  let c0_i32_166 : BitVec 32 := 0#32
  let v406 : BitVec 1 := Scalar.cmpi .ne v405 c0_i32_166
  let c24_i32_167 : BitVec 32 := 24#32
  let v409 : BitVec 1 := Scalar.cmpi .sgt v36 c24_i32_167
  let v410 : BitVec 1 := Scalar.andi v406 v409
  let v411 : BitVec 32 := Scalar.extui v410
  let v412 : BitVec 32 := Scalar.addi v403 v411
  let c2_i32_168 : BitVec 32 := 2#32
  let v413 : BitVec 32 := Scalar.shrsi v176 c2_i32_168
  let c3_i32_169 : BitVec 32 := 3#32
  let v414 : BitVec 32 := Scalar.andi v413 c3_i32_169
  let c0_i32_170 : BitVec 32 := 0#32
  let v415 : BitVec 1 := Scalar.cmpi .ne v414 c0_i32_170
  let c25_i32_171 : BitVec 32 := 25#32
  let v418 : BitVec 1 := Scalar.cmpi .sgt v36 c25_i32_171
  let v419 : BitVec 1 := Scalar.andi v415 v418
  let v420 : BitVec 32 := Scalar.extui v419
  let v421 : BitVec 32 := Scalar.addi v412 v420
  let c4_i32_172 : BitVec 32 := 4#32
  let v422 : BitVec 32 := Scalar.shrsi v176 c4_i32_172
  let c3_i32_173 : BitVec 32 := 3#32
  let v423 : BitVec 32 := Scalar.andi v422 c3_i32_173
  let c0_i32_174 : BitVec 32 := 0#32
  let v424 : BitVec 1 := Scalar.cmpi .ne v423 c0_i32_174
  let c26_i32_175 : BitVec 32 := 26#32
  let v427 : BitVec 1 := Scalar.cmpi .sgt v36 c26_i32_175
  let v428 : BitVec 1 := Scalar.andi v424 v427
  let v429 : BitVec 32 := Scalar.extui v428
  let v430 : BitVec 32 := Scalar.addi v421 v429
  let c6_i32_176 : BitVec 32 := 6#32
  let v431 : BitVec 32 := Scalar.shrsi v176 c6_i32_176
  let c3_i32_177 : BitVec 32 := 3#32
  let v432 : BitVec 32 := Scalar.andi v431 c3_i32_177
  let c0_i32_178 : BitVec 32 := 0#32
  let v433 : BitVec 1 := Scalar.cmpi .ne v432 c0_i32_178
  let c27_i32_179 : BitVec 32 := 27#32
  let v436 : BitVec 1 := Scalar.cmpi .sgt v36 c27_i32_179
  let v437 : BitVec 1 := Scalar.andi v433 v436
  let v438 : BitVec 32 := Scalar.extui v437
  let v439 : BitVec 32 := Scalar.addi v430 v438
  let c8_i32_180 : BitVec 32 := 8#32
  let v440 : BitVec 32 := Scalar.shrsi v176 c8_i32_180
  let c3_i32_181 : BitVec 32 := 3#32
  let v441 : BitVec 32 := Scalar.andi v440 c3_i32_181
  let c0_i32_182 : BitVec 32 := 0#32
  let v442 : BitVec 1 := Scalar.cmpi .ne v441 c0_i32_182
  let c28_i32_183 : BitVec 32 := 28#32
  let v445 : BitVec 1 := Scalar.cmpi .sgt v36 c28_i32_183
  let v446 : BitVec 1 := Scalar.andi v442 v445
  let v447 : BitVec 32 := Scalar.extui v446
  let v448 : BitVec 32 := Scalar.addi v439 v447
  let c10_i32_184 : BitVec 32 := 10#32
  let v449 : BitVec 32 := Scalar.shrsi v176 c10_i32_184
  let c3_i32_185 : BitVec 32 := 3#32
  let v450 : BitVec 32 := Scalar.andi v449 c3_i32_185
  let c0_i32_186 : BitVec 32 := 0#32
  let v451 : BitVec 1 := Scalar.cmpi .ne v450 c0_i32_186
  let c29_i32_187 : BitVec 32 := 29#32
  let v454 : BitVec 1 := Scalar.cmpi .sgt v36 c29_i32_187
  let v455 : BitVec 1 := Scalar.andi v451 v454
  let v456 : BitVec 32 := Scalar.extui v455
  let v457 : BitVec 32 := Scalar.addi v448 v456
  let c12_i32_188 : BitVec 32 := 12#32
  let v458 : BitVec 32 := Scalar.shrsi v176 c12_i32_188
  let c3_i32_189 : BitVec 32 := 3#32
  let v459 : BitVec 32 := Scalar.andi v458 c3_i32_189
  let c0_i32_190 : BitVec 32 := 0#32
  let v460 : BitVec 1 := Scalar.cmpi .ne v459 c0_i32_190
  let c30_i32_191 : BitVec 32 := 30#32
  let v463 : BitVec 1 := Scalar.cmpi .sgt v36 c30_i32_191
  let v464 : BitVec 1 := Scalar.andi v460 v463
  let v465 : BitVec 32 := Scalar.extui v464
  let v466 : BitVec 32 := Scalar.addi v457 v465
  let c14_i32_192 : BitVec 32 := 14#32
  let v467 : BitVec 32 := Scalar.shrsi v176 c14_i32_192
  let c3_i32_193 : BitVec 32 := 3#32
  let v468 : BitVec 32 := Scalar.andi v467 c3_i32_193
  let c0_i32_194 : BitVec 32 := 0#32
  let v469 : BitVec 1 := Scalar.cmpi .ne v468 c0_i32_194
  let c31_i32_195 : BitVec 32 := 31#32
  let v472 : BitVec 1 := Scalar.cmpi .sgt v36 c31_i32_195
  let v473 : BitVec 1 := Scalar.andi v469 v472
  let v474 : BitVec 32 := Scalar.extui v473
  let v475 : BitVec 32 := Scalar.addi v466 v474
  let c0_i32_196 : BitVec 32 := 0#32
  let v476 : BitVec 32 := Scalar.shrsi v179 c0_i32_196
  let c3_i32_197 : BitVec 32 := 3#32
  let v477 : BitVec 32 := Scalar.andi v476 c3_i32_197
  let c0_i32_198 : BitVec 32 := 0#32
  let v478 : BitVec 1 := Scalar.cmpi .ne v477 c0_i32_198
  let c32_i32_199 : BitVec 32 := 32#32
  let v481 : BitVec 1 := Scalar.cmpi .sgt v36 c32_i32_199
  let v482 : BitVec 1 := Scalar.andi v478 v481
  let v483 : BitVec 32 := Scalar.extui v482
  let v484 : BitVec 32 := Scalar.addi v475 v483
  let c2_i32_200 : BitVec 32 := 2#32
  let v485 : BitVec 32 := Scalar.shrsi v179 c2_i32_200
  let c3_i32_201 : BitVec 32 := 3#32
  let v486 : BitVec 32 := Scalar.andi v485 c3_i32_201
  let c0_i32_202 : BitVec 32 := 0#32
  let v487 : BitVec 1 := Scalar.cmpi .ne v486 c0_i32_202
  let c33_i32_203 : BitVec 32 := 33#32
  let v490 : BitVec 1 := Scalar.cmpi .sgt v36 c33_i32_203
  let v491 : BitVec 1 := Scalar.andi v487 v490
  let v492 : BitVec 32 := Scalar.extui v491
  let v493 : BitVec 32 := Scalar.addi v484 v492
  let c4_i32_204 : BitVec 32 := 4#32
  let v494 : BitVec 32 := Scalar.shrsi v179 c4_i32_204
  let c3_i32_205 : BitVec 32 := 3#32
  let v495 : BitVec 32 := Scalar.andi v494 c3_i32_205
  let c0_i32_206 : BitVec 32 := 0#32
  let v496 : BitVec 1 := Scalar.cmpi .ne v495 c0_i32_206
  let c34_i32_207 : BitVec 32 := 34#32
  let v499 : BitVec 1 := Scalar.cmpi .sgt v36 c34_i32_207
  let v500 : BitVec 1 := Scalar.andi v496 v499
  let v501 : BitVec 32 := Scalar.extui v500
  let v502 : BitVec 32 := Scalar.addi v493 v501
  let c6_i32_208 : BitVec 32 := 6#32
  let v503 : BitVec 32 := Scalar.shrsi v179 c6_i32_208
  let c3_i32_209 : BitVec 32 := 3#32
  let v504 : BitVec 32 := Scalar.andi v503 c3_i32_209
  let c0_i32_210 : BitVec 32 := 0#32
  let v505 : BitVec 1 := Scalar.cmpi .ne v504 c0_i32_210
  let c35_i32_211 : BitVec 32 := 35#32
  let v508 : BitVec 1 := Scalar.cmpi .sgt v36 c35_i32_211
  let v509 : BitVec 1 := Scalar.andi v505 v508
  let v510 : BitVec 32 := Scalar.extui v509
  let v511 : BitVec 32 := Scalar.addi v502 v510
  let c8_i32_212 : BitVec 32 := 8#32
  let v512 : BitVec 32 := Scalar.shrsi v179 c8_i32_212
  let c3_i32_213 : BitVec 32 := 3#32
  let v513 : BitVec 32 := Scalar.andi v512 c3_i32_213
  let c0_i32_214 : BitVec 32 := 0#32
  let v514 : BitVec 1 := Scalar.cmpi .ne v513 c0_i32_214
  let c36_i32_215 : BitVec 32 := 36#32
  let v517 : BitVec 1 := Scalar.cmpi .sgt v36 c36_i32_215
  let v518 : BitVec 1 := Scalar.andi v514 v517
  let v519 : BitVec 32 := Scalar.extui v518
  let v520 : BitVec 32 := Scalar.addi v511 v519
  let c10_i32_216 : BitVec 32 := 10#32
  let v521 : BitVec 32 := Scalar.shrsi v179 c10_i32_216
  let c3_i32_217 : BitVec 32 := 3#32
  let v522 : BitVec 32 := Scalar.andi v521 c3_i32_217
  let c0_i32_218 : BitVec 32 := 0#32
  let v523 : BitVec 1 := Scalar.cmpi .ne v522 c0_i32_218
  let c37_i32_219 : BitVec 32 := 37#32
  let v526 : BitVec 1 := Scalar.cmpi .sgt v36 c37_i32_219
  let v527 : BitVec 1 := Scalar.andi v523 v526
  let v528 : BitVec 32 := Scalar.extui v527
  let v529 : BitVec 32 := Scalar.addi v520 v528
  let c12_i32_220 : BitVec 32 := 12#32
  let v530 : BitVec 32 := Scalar.shrsi v179 c12_i32_220
  let c3_i32_221 : BitVec 32 := 3#32
  let v531 : BitVec 32 := Scalar.andi v530 c3_i32_221
  let c0_i32_222 : BitVec 32 := 0#32
  let v532 : BitVec 1 := Scalar.cmpi .ne v531 c0_i32_222
  let c38_i32_223 : BitVec 32 := 38#32
  let v535 : BitVec 1 := Scalar.cmpi .sgt v36 c38_i32_223
  let v536 : BitVec 1 := Scalar.andi v532 v535
  let v537 : BitVec 32 := Scalar.extui v536
  let v538 : BitVec 32 := Scalar.addi v529 v537
  let c14_i32_224 : BitVec 32 := 14#32
  let v539 : BitVec 32 := Scalar.shrsi v179 c14_i32_224
  let c3_i32_225 : BitVec 32 := 3#32
  let v540 : BitVec 32 := Scalar.andi v539 c3_i32_225
  let c0_i32_226 : BitVec 32 := 0#32
  let v541 : BitVec 1 := Scalar.cmpi .ne v540 c0_i32_226
  let c39_i32_227 : BitVec 32 := 39#32
  let v544 : BitVec 1 := Scalar.cmpi .sgt v36 c39_i32_227
  let v545 : BitVec 1 := Scalar.andi v541 v544
  let v546 : BitVec 32 := Scalar.extui v545
  let v547 : BitVec 32 := Scalar.addi v538 v546
  let c0_i32_228 : BitVec 32 := 0#32
  let v548 : BitVec 32 := Scalar.shrsi v182 c0_i32_228
  let c3_i32_229 : BitVec 32 := 3#32
  let v549 : BitVec 32 := Scalar.andi v548 c3_i32_229
  let c0_i32_230 : BitVec 32 := 0#32
  let v550 : BitVec 1 := Scalar.cmpi .ne v549 c0_i32_230
  let c40_i32_231 : BitVec 32 := 40#32
  let v553 : BitVec 1 := Scalar.cmpi .sgt v36 c40_i32_231
  let v554 : BitVec 1 := Scalar.andi v550 v553
  let v555 : BitVec 32 := Scalar.extui v554
  let v556 : BitVec 32 := Scalar.addi v547 v555
  let c2_i32_232 : BitVec 32 := 2#32
  let v557 : BitVec 32 := Scalar.shrsi v182 c2_i32_232
  let c3_i32_233 : BitVec 32 := 3#32
  let v558 : BitVec 32 := Scalar.andi v557 c3_i32_233
  let c0_i32_234 : BitVec 32 := 0#32
  let v559 : BitVec 1 := Scalar.cmpi .ne v558 c0_i32_234
  let c41_i32_235 : BitVec 32 := 41#32
  let v562 : BitVec 1 := Scalar.cmpi .sgt v36 c41_i32_235
  let v563 : BitVec 1 := Scalar.andi v559 v562
  let v564 : BitVec 32 := Scalar.extui v563
  let v565 : BitVec 32 := Scalar.addi v556 v564
  let c4_i32_236 : BitVec 32 := 4#32
  let v566 : BitVec 32 := Scalar.shrsi v182 c4_i32_236
  let c3_i32_237 : BitVec 32 := 3#32
  let v567 : BitVec 32 := Scalar.andi v566 c3_i32_237
  let c0_i32_238 : BitVec 32 := 0#32
  let v568 : BitVec 1 := Scalar.cmpi .ne v567 c0_i32_238
  let c42_i32_239 : BitVec 32 := 42#32
  let v571 : BitVec 1 := Scalar.cmpi .sgt v36 c42_i32_239
  let v572 : BitVec 1 := Scalar.andi v568 v571
  let v573 : BitVec 32 := Scalar.extui v572
  let v574 : BitVec 32 := Scalar.addi v565 v573
  let c6_i32_240 : BitVec 32 := 6#32
  let v575 : BitVec 32 := Scalar.shrsi v182 c6_i32_240
  let c3_i32_241 : BitVec 32 := 3#32
  let v576 : BitVec 32 := Scalar.andi v575 c3_i32_241
  let c0_i32_242 : BitVec 32 := 0#32
  let v577 : BitVec 1 := Scalar.cmpi .ne v576 c0_i32_242
  let c43_i32_243 : BitVec 32 := 43#32
  let v580 : BitVec 1 := Scalar.cmpi .sgt v36 c43_i32_243
  let v581 : BitVec 1 := Scalar.andi v577 v580
  let v582 : BitVec 32 := Scalar.extui v581
  let v583 : BitVec 32 := Scalar.addi v574 v582
  let c8_i32_244 : BitVec 32 := 8#32
  let v584 : BitVec 32 := Scalar.shrsi v182 c8_i32_244
  let c3_i32_245 : BitVec 32 := 3#32
  let v585 : BitVec 32 := Scalar.andi v584 c3_i32_245
  let c0_i32_246 : BitVec 32 := 0#32
  let v586 : BitVec 1 := Scalar.cmpi .ne v585 c0_i32_246
  let c44_i32_247 : BitVec 32 := 44#32
  let v589 : BitVec 1 := Scalar.cmpi .sgt v36 c44_i32_247
  let v590 : BitVec 1 := Scalar.andi v586 v589
  let v591 : BitVec 32 := Scalar.extui v590
  let v592 : BitVec 32 := Scalar.addi v583 v591
  let c10_i32_248 : BitVec 32 := 10#32
  let v593 : BitVec 32 := Scalar.shrsi v182 c10_i32_248
  let c3_i32_249 : BitVec 32 := 3#32
  let v594 : BitVec 32 := Scalar.andi v593 c3_i32_249
  let c0_i32_250 : BitVec 32 := 0#32
  let v595 : BitVec 1 := Scalar.cmpi .ne v594 c0_i32_250
  let c45_i32_251 : BitVec 32 := 45#32
  let v598 : BitVec 1 := Scalar.cmpi .sgt v36 c45_i32_251
  let v599 : BitVec 1 := Scalar.andi v595 v598
  let v600 : BitVec 32 := Scalar.extui v599
  let v601 : BitVec 32 := Scalar.addi v592 v600
  let c12_i32_252 : BitVec 32 := 12#32
  let v602 : BitVec 32 := Scalar.shrsi v182 c12_i32_252
  let c3_i32_253 : BitVec 32 := 3#32
  let v603 : BitVec 32 := Scalar.andi v602 c3_i32_253
  let c0_i32_254 : BitVec 32 := 0#32
  let v604 : BitVec 1 := Scalar.cmpi .ne v603 c0_i32_254
  let c46_i32_255 : BitVec 32 := 46#32
  let v607 : BitVec 1 := Scalar.cmpi .sgt v36 c46_i32_255
  let v608 : BitVec 1 := Scalar.andi v604 v607
  let v609 : BitVec 32 := Scalar.extui v608
  let v610 : BitVec 32 := Scalar.addi v601 v609
  let c14_i32_256 : BitVec 32 := 14#32
  let v611 : BitVec 32 := Scalar.shrsi v182 c14_i32_256
  let c3_i32_257 : BitVec 32 := 3#32
  let v612 : BitVec 32 := Scalar.andi v611 c3_i32_257
  let c0_i32_258 : BitVec 32 := 0#32
  let v613 : BitVec 1 := Scalar.cmpi .ne v612 c0_i32_258
  let c47_i32_259 : BitVec 32 := 47#32
  let v616 : BitVec 1 := Scalar.cmpi .sgt v36 c47_i32_259
  let v617 : BitVec 1 := Scalar.andi v613 v616
  let v618 : BitVec 32 := Scalar.extui v617
  let v619 : BitVec 32 := Scalar.addi v610 v618
  let c0_i32_260 : BitVec 32 := 0#32
  let v620 : BitVec 32 := Scalar.shrsi v185 c0_i32_260
  let c3_i32_261 : BitVec 32 := 3#32
  let v621 : BitVec 32 := Scalar.andi v620 c3_i32_261
  let c0_i32_262 : BitVec 32 := 0#32
  let v622 : BitVec 1 := Scalar.cmpi .ne v621 c0_i32_262
  let c48_i32_263 : BitVec 32 := 48#32
  let v625 : BitVec 1 := Scalar.cmpi .sgt v36 c48_i32_263
  let v626 : BitVec 1 := Scalar.andi v622 v625
  let v627 : BitVec 32 := Scalar.extui v626
  let v628 : BitVec 32 := Scalar.addi v619 v627
  let c2_i32_264 : BitVec 32 := 2#32
  let v629 : BitVec 32 := Scalar.shrsi v185 c2_i32_264
  let c3_i32_265 : BitVec 32 := 3#32
  let v630 : BitVec 32 := Scalar.andi v629 c3_i32_265
  let c0_i32_266 : BitVec 32 := 0#32
  let v631 : BitVec 1 := Scalar.cmpi .ne v630 c0_i32_266
  let c49_i32_267 : BitVec 32 := 49#32
  let v634 : BitVec 1 := Scalar.cmpi .sgt v36 c49_i32_267
  let v635 : BitVec 1 := Scalar.andi v631 v634
  let v636 : BitVec 32 := Scalar.extui v635
  let v637 : BitVec 32 := Scalar.addi v628 v636
  let c4_i32_268 : BitVec 32 := 4#32
  let v638 : BitVec 32 := Scalar.shrsi v185 c4_i32_268
  let c3_i32_269 : BitVec 32 := 3#32
  let v639 : BitVec 32 := Scalar.andi v638 c3_i32_269
  let c0_i32_270 : BitVec 32 := 0#32
  let v640 : BitVec 1 := Scalar.cmpi .ne v639 c0_i32_270
  let c50_i32_271 : BitVec 32 := 50#32
  let v643 : BitVec 1 := Scalar.cmpi .sgt v36 c50_i32_271
  let v644 : BitVec 1 := Scalar.andi v640 v643
  let v645 : BitVec 32 := Scalar.extui v644
  let v646 : BitVec 32 := Scalar.addi v637 v645
  let c6_i32_272 : BitVec 32 := 6#32
  let v647 : BitVec 32 := Scalar.shrsi v185 c6_i32_272
  let c3_i32_273 : BitVec 32 := 3#32
  let v648 : BitVec 32 := Scalar.andi v647 c3_i32_273
  let c0_i32_274 : BitVec 32 := 0#32
  let v649 : BitVec 1 := Scalar.cmpi .ne v648 c0_i32_274
  let c51_i32_275 : BitVec 32 := 51#32
  let v652 : BitVec 1 := Scalar.cmpi .sgt v36 c51_i32_275
  let v653 : BitVec 1 := Scalar.andi v649 v652
  let v654 : BitVec 32 := Scalar.extui v653
  let v655 : BitVec 32 := Scalar.addi v646 v654
  let c8_i32_276 : BitVec 32 := 8#32
  let v656 : BitVec 32 := Scalar.shrsi v185 c8_i32_276
  let c3_i32_277 : BitVec 32 := 3#32
  let v657 : BitVec 32 := Scalar.andi v656 c3_i32_277
  let c0_i32_278 : BitVec 32 := 0#32
  let v658 : BitVec 1 := Scalar.cmpi .ne v657 c0_i32_278
  let c52_i32_279 : BitVec 32 := 52#32
  let v661 : BitVec 1 := Scalar.cmpi .sgt v36 c52_i32_279
  let v662 : BitVec 1 := Scalar.andi v658 v661
  let v663 : BitVec 32 := Scalar.extui v662
  let v664 : BitVec 32 := Scalar.addi v655 v663
  let c10_i32_280 : BitVec 32 := 10#32
  let v665 : BitVec 32 := Scalar.shrsi v185 c10_i32_280
  let c3_i32_281 : BitVec 32 := 3#32
  let v666 : BitVec 32 := Scalar.andi v665 c3_i32_281
  let c0_i32_282 : BitVec 32 := 0#32
  let v667 : BitVec 1 := Scalar.cmpi .ne v666 c0_i32_282
  let c53_i32_283 : BitVec 32 := 53#32
  let v670 : BitVec 1 := Scalar.cmpi .sgt v36 c53_i32_283
  let v671 : BitVec 1 := Scalar.andi v667 v670
  let v672 : BitVec 32 := Scalar.extui v671
  let v673 : BitVec 32 := Scalar.addi v664 v672
  let c12_i32_284 : BitVec 32 := 12#32
  let v674 : BitVec 32 := Scalar.shrsi v185 c12_i32_284
  let c3_i32_285 : BitVec 32 := 3#32
  let v675 : BitVec 32 := Scalar.andi v674 c3_i32_285
  let c0_i32_286 : BitVec 32 := 0#32
  let v676 : BitVec 1 := Scalar.cmpi .ne v675 c0_i32_286
  let c54_i32_287 : BitVec 32 := 54#32
  let v679 : BitVec 1 := Scalar.cmpi .sgt v36 c54_i32_287
  let v680 : BitVec 1 := Scalar.andi v676 v679
  let v681 : BitVec 32 := Scalar.extui v680
  let v682 : BitVec 32 := Scalar.addi v673 v681
  let c14_i32_288 : BitVec 32 := 14#32
  let v683 : BitVec 32 := Scalar.shrsi v185 c14_i32_288
  let c3_i32_289 : BitVec 32 := 3#32
  let v684 : BitVec 32 := Scalar.andi v683 c3_i32_289
  let c0_i32_290 : BitVec 32 := 0#32
  let v685 : BitVec 1 := Scalar.cmpi .ne v684 c0_i32_290
  let c55_i32_291 : BitVec 32 := 55#32
  let v688 : BitVec 1 := Scalar.cmpi .sgt v36 c55_i32_291
  let v689 : BitVec 1 := Scalar.andi v685 v688
  let v690 : BitVec 32 := Scalar.extui v689
  let v691 : BitVec 32 := Scalar.addi v682 v690
  let c0_i32_292 : BitVec 32 := 0#32
  let v692 : BitVec 32 := Scalar.shrsi v188 c0_i32_292
  let c3_i32_293 : BitVec 32 := 3#32
  let v693 : BitVec 32 := Scalar.andi v692 c3_i32_293
  let c0_i32_294 : BitVec 32 := 0#32
  let v694 : BitVec 1 := Scalar.cmpi .ne v693 c0_i32_294
  let c56_i32_295 : BitVec 32 := 56#32
  let v697 : BitVec 1 := Scalar.cmpi .sgt v36 c56_i32_295
  let v698 : BitVec 1 := Scalar.andi v694 v697
  let v699 : BitVec 32 := Scalar.extui v698
  let v700 : BitVec 32 := Scalar.addi v691 v699
  let c2_i32_296 : BitVec 32 := 2#32
  let v701 : BitVec 32 := Scalar.shrsi v188 c2_i32_296
  let c3_i32_297 : BitVec 32 := 3#32
  let v702 : BitVec 32 := Scalar.andi v701 c3_i32_297
  let c0_i32_298 : BitVec 32 := 0#32
  let v703 : BitVec 1 := Scalar.cmpi .ne v702 c0_i32_298
  let c57_i32_299 : BitVec 32 := 57#32
  let v706 : BitVec 1 := Scalar.cmpi .sgt v36 c57_i32_299
  let v707 : BitVec 1 := Scalar.andi v703 v706
  let v708 : BitVec 32 := Scalar.extui v707
  let v709 : BitVec 32 := Scalar.addi v700 v708
  let c4_i32_300 : BitVec 32 := 4#32
  let v710 : BitVec 32 := Scalar.shrsi v188 c4_i32_300
  let c3_i32_301 : BitVec 32 := 3#32
  let v711 : BitVec 32 := Scalar.andi v710 c3_i32_301
  let c0_i32_302 : BitVec 32 := 0#32
  let v712 : BitVec 1 := Scalar.cmpi .ne v711 c0_i32_302
  let c58_i32_303 : BitVec 32 := 58#32
  let v715 : BitVec 1 := Scalar.cmpi .sgt v36 c58_i32_303
  let v716 : BitVec 1 := Scalar.andi v712 v715
  let v717 : BitVec 32 := Scalar.extui v716
  let v718 : BitVec 32 := Scalar.addi v709 v717
  let c6_i32_304 : BitVec 32 := 6#32
  let v719 : BitVec 32 := Scalar.shrsi v188 c6_i32_304
  let c3_i32_305 : BitVec 32 := 3#32
  let v720 : BitVec 32 := Scalar.andi v719 c3_i32_305
  let c0_i32_306 : BitVec 32 := 0#32
  let v721 : BitVec 1 := Scalar.cmpi .ne v720 c0_i32_306
  let c59_i32_307 : BitVec 32 := 59#32
  let v724 : BitVec 1 := Scalar.cmpi .sgt v36 c59_i32_307
  let v725 : BitVec 1 := Scalar.andi v721 v724
  let v726 : BitVec 32 := Scalar.extui v725
  let v727 : BitVec 32 := Scalar.addi v718 v726
  let c8_i32_308 : BitVec 32 := 8#32
  let v728 : BitVec 32 := Scalar.shrsi v188 c8_i32_308
  let c3_i32_309 : BitVec 32 := 3#32
  let v729 : BitVec 32 := Scalar.andi v728 c3_i32_309
  let c0_i32_310 : BitVec 32 := 0#32
  let v730 : BitVec 1 := Scalar.cmpi .ne v729 c0_i32_310
  let c60_i32_311 : BitVec 32 := 60#32
  let v733 : BitVec 1 := Scalar.cmpi .sgt v36 c60_i32_311
  let v734 : BitVec 1 := Scalar.andi v730 v733
  let v735 : BitVec 32 := Scalar.extui v734
  let v736 : BitVec 32 := Scalar.addi v727 v735
  let c10_i32_312 : BitVec 32 := 10#32
  let v737 : BitVec 32 := Scalar.shrsi v188 c10_i32_312
  let c3_i32_313 : BitVec 32 := 3#32
  let v738 : BitVec 32 := Scalar.andi v737 c3_i32_313
  let c0_i32_314 : BitVec 32 := 0#32
  let v739 : BitVec 1 := Scalar.cmpi .ne v738 c0_i32_314
  let c61_i32_315 : BitVec 32 := 61#32
  let v742 : BitVec 1 := Scalar.cmpi .sgt v36 c61_i32_315
  let v743 : BitVec 1 := Scalar.andi v739 v742
  let v744 : BitVec 32 := Scalar.extui v743
  let v745 : BitVec 32 := Scalar.addi v736 v744
  let c2_i32_632 : BitVec 32 := 2#32
  let v1231 : BitVec 32 := Scalar.addi v745 c2_i32_632
  let c1_i32_633 : BitVec 32 := 1#32
  let v1232 : BitVec 32 := Scalar.subi v1231 c1_i32_633
  let c0_i32_635 : BitVec 32 := 0#32
  let v1234 : BitVec 1 := Scalar.cmpi .sgt v1232 c0_i32_635
  let v1235 : BitVec 32 := Scalar.extui v1234
  let c0_i32_636 : BitVec 32 := 0#32
  let v1236 : BitVec 1 := Scalar.cmpi .slt v1232 c0_i32_636
  let v1237 : BitVec 32 := Scalar.extui v1236
  let v1238 : BitVec 32 := Scalar.subi v1235 v1237
  let c2_i32_634 : BitVec 32 := 2#32
  let c0_i32_637 : BitVec 32 := 0#32
  let v1239 : BitVec 1 := Scalar.cmpi .sgt c2_i32_634 c0_i32_637
  let v1240 : BitVec 32 := Scalar.extui v1239
  let c0_i32_638 : BitVec 32 := 0#32
  let v1241 : BitVec 1 := Scalar.cmpi .slt c2_i32_634 c0_i32_638
  let v1242 : BitVec 32 := Scalar.extui v1241
  let v1243 : BitVec 32 := Scalar.subi v1240 v1242
  let v1244 : BitVec 1 := Scalar.cmpi .ne v1238 v1243
  let v1245 : BitVec 32 := Scalar.remsi v1232 c2_i32_634
  let c0_i32_639 : BitVec 32 := 0#32
  let v1246 : BitVec 1 := Scalar.cmpi .ne v1245 c0_i32_639
  let v1247 : BitVec 1 := Scalar.andi v1244 v1246
  let v1233 : BitVec 32 := Scalar.divsi v1232 c2_i32_634
  let c1_i32_640 : BitVec 32 := 1#32
  let v1248 : BitVec 32 := Scalar.subi v1233 c1_i32_640
  let v1249 : BitVec 32 := Scalar.select v1247 v1248 v1233
  let v2204 : BitVec 32 := Scalar.subi v1249 c0_i32_1185
  let c1_i32_1186 : BitVec 32 := 1#32
  let v2206 : BitVec 32 := Scalar.divsi v2204 c1_i32_1186
  let v2207 : BitVec 32 := Scalar.muli v2206 c1_i32_1186
  let v2208 : BitVec 32 := Scalar.addi c0_i32_1185 v2207
  let c1_i32_1188 : BitVec 32 := 1#32
  let arg18 : BitVec 32 := Scf.iv v2208 c1_i32_1188 k0_t4
  let c2_i32_1463 : BitVec 32 := 2#32
  let v2704 : BitVec 32 := Scalar.muli arg18 c2_i32_1463
  let v2705 : BitVec 32 := Scalar.addi v2704 c0_i32_1464
  let v2706 : Index := Scalar.indexCast v2705
  ![v2706.toNat]

def k0_chk21 (i : grid0.Coords) (v167 : BitVec 32) (v170 : BitVec 32) (v173 : BitVec 32) (v176 : BitVec 32) (v179 : BitVec 32) (v182 : BitVec 32) (v185 : BitVec 32) (v188 : BitVec 32) (v2024 : BitVec 1) : Prop :=
  (∀ (k0_h4 : k0_cond4 v2024 = 1#1), (k0_t3_loop i v167 v170 v173 v176 v179 v182 v185 v188).OK) ∧
  (∀ k0_t3 : Fin (k0_t3_loop i v167 v170 v173 v176 v179 v182 v185 v188).trips, ∀ (k0_h4 : k0_cond4 v2024 = 1#1), ∀ (r : Fin 2), ∀ a, (k0_off107 i v167 v170 v173 v176 v179 v182 v185 v188 k0_t3 (BitVec.ofNat 32 r.val)) a + S1.size a ≤ S72.size a) ∧
  (∀ (k0_h4 : k0_cond4 v2024 = 1#1), (k0_t4_loop i v167 v170 v173 v176 v179 v182 v185 v188).OK) ∧
  (∀ k0_t4 : Fin (k0_t4_loop i v167 v170 v173 v176 v179 v182 v185 v188).trips, ∀ (k0_h4 : k0_cond4 v2024 = 1#1), ∀ (r : Fin 2), ∀ a, (k0_off113 i v167 v170 v173 v176 v179 v182 v185 v188 k0_t4 (BitVec.ofNat 32 r.val)) a + S1.size a ≤ S72.size a)
theorem k0_t3_ok : ∀ (i : grid0.Coords) (v167 : BitVec 32) (v170 : BitVec 32) (v173 : BitVec 32) (v176 : BitVec 32) (v179 : BitVec 32) (v182 : BitVec 32) (v185 : BitVec 32) (v188 : BitVec 32) (v2024 : BitVec 1) (k0_hw21 : k0_chk21 i v167 v170 v173 v176 v179 v182 v185 v188 v2024), ∀ (k0_h4 : k0_cond4 v2024 = 1#1), (k0_t3_loop i v167 v170 v173 v176 v179 v182 v185 v188).OK := fun i v167 v170 v173 v176 v179 v182 v185 v188 v2024 k0_hw21 k0_h4 => k0_hw21.1 k0_h4
theorem k0_off107_inb : ∀ (i : grid0.Coords) (v167 : BitVec 32) (v170 : BitVec 32) (v173 : BitVec 32) (v176 : BitVec 32) (v179 : BitVec 32) (v182 : BitVec 32) (v185 : BitVec 32) (v188 : BitVec 32) (v2024 : BitVec 1) (k0_hw21 : k0_chk21 i v167 v170 v173 v176 v179 v182 v185 v188 v2024) (k0_t3 : Fin (k0_t3_loop i v167 v170 v173 v176 v179 v182 v185 v188).trips), ∀ (k0_h4 : k0_cond4 v2024 = 1#1), ∀ (r : Fin 2), ∀ a, (k0_off107 i v167 v170 v173 v176 v179 v182 v185 v188 k0_t3 (BitVec.ofNat 32 r.val)) a + S1.size a ≤ S72.size a := fun i v167 v170 v173 v176 v179 v182 v185 v188 v2024 k0_hw21 k0_t3 k0_h4 r => k0_hw21.2.1 k0_t3 k0_h4 r
theorem k0_t4_ok : ∀ (i : grid0.Coords) (v167 : BitVec 32) (v170 : BitVec 32) (v173 : BitVec 32) (v176 : BitVec 32) (v179 : BitVec 32) (v182 : BitVec 32) (v185 : BitVec 32) (v188 : BitVec 32) (v2024 : BitVec 1) (k0_hw21 : k0_chk21 i v167 v170 v173 v176 v179 v182 v185 v188 v2024), ∀ (k0_h4 : k0_cond4 v2024 = 1#1), (k0_t4_loop i v167 v170 v173 v176 v179 v182 v185 v188).OK := fun i v167 v170 v173 v176 v179 v182 v185 v188 v2024 k0_hw21 k0_h4 => k0_hw21.2.2.1 k0_h4
theorem k0_off113_inb : ∀ (i : grid0.Coords) (v167 : BitVec 32) (v170 : BitVec 32) (v173 : BitVec 32) (v176 : BitVec 32) (v179 : BitVec 32) (v182 : BitVec 32) (v185 : BitVec 32) (v188 : BitVec 32) (v2024 : BitVec 1) (k0_hw21 : k0_chk21 i v167 v170 v173 v176 v179 v182 v185 v188 v2024) (k0_t4 : Fin (k0_t4_loop i v167 v170 v173 v176 v179 v182 v185 v188).trips), ∀ (k0_h4 : k0_cond4 v2024 = 1#1), ∀ (r : Fin 2), ∀ a, (k0_off113 i v167 v170 v173 v176 v179 v182 v185 v188 k0_t4 (BitVec.ofNat 32 r.val)) a + S1.size a ≤ S72.size a := fun i v167 v170 v173 v176 v179 v182 v185 v188 v2024 k0_hw21 k0_t4 k0_h4 r => k0_hw21.2.2.2 k0_t4 k0_h4 r

def k0_mult169 (v2707 : BitVec 32) : BitVec 32 :=
  let c128_i32_1467 : BitVec 32 := 128#32
  let v2712 : BitVec 32 := Scalar.muli v2707 c128_i32_1467
  v2712

def k0_off114 (v2707 : BitVec 32) : Fin 4 → Nat :=
  let c0_1468 : Index := 0#32
  let c0_1469 : Index := 0#32
  let c128_i32_1467 : BitVec 32 := 128#32
  let v2712 : BitVec 32 := Scalar.muli v2707 c128_i32_1467
  let v2713 : BitVec 32 := v2712
  let v2714 : Index := Scalar.indexCast v2713
  let c0_1470 : Index := 0#32
  ![0, 0, v2714.toNat, 0]
def k0_mult170 (v2711 : BitVec 32) : BitVec 32 :=
  let c128_i32_1472 : BitVec 32 := 128#32
  let v2718 : BitVec 32 := Scalar.muli v2711 c128_i32_1472
  v2718

def k0_off115 (v2711 : BitVec 32) : Fin 4 → Nat :=
  let c0_1473 : Index := 0#32
  let c0_1474 : Index := 0#32
  let c128_i32_1472 : BitVec 32 := 128#32
  let v2718 : BitVec 32 := Scalar.muli v2711 c128_i32_1472
  let v2719 : BitVec 32 := v2718
  let v2720 : Index := Scalar.indexCast v2719
  let c0_1475 : Index := 0#32
  ![0, 0, v2720.toNat, 0]
def k0_mult171 (v2707 : BitVec 32) : BitVec 32 :=
  let c128_i32_1477 : BitVec 32 := 128#32
  let v2724 : BitVec 32 := Scalar.muli v2707 c128_i32_1477
  v2724
def k0_off116 (v2707 : BitVec 32) : Fin 4 → Nat :=
  let c0_1478 : Index := 0#32
  let c0_1479 : Index := 0#32
  let c128_i32_1477 : BitVec 32 := 128#32
  let v2724 : BitVec 32 := Scalar.muli v2707 c128_i32_1477
  let v2725 : BitVec 32 := v2724
  let v2726 : Index := Scalar.indexCast v2725
  let c0_1480 : Index := 0#32
  ![0, 0, v2726.toNat, 0]
def k0_mult172 (v2711 : BitVec 32) : BitVec 32 :=
  let c128_i32_1482 : BitVec 32 := 128#32
  let v2730 : BitVec 32 := Scalar.muli v2711 c128_i32_1482
  v2730
def k0_mult173 (v2707 : BitVec 32) : BitVec 32 :=
  let c128_i32_1487 : BitVec 32 := 128#32
  let v2736 : BitVec 32 := Scalar.muli v2707 c128_i32_1487
  v2736
def k0_mult174 (v2711 : BitVec 32) : BitVec 32 :=
  let c128_i32_1492 : BitVec 32 := 128#32
  let v2742 : BitVec 32 := Scalar.muli v2711 c128_i32_1492
  v2742
def k0_mult175 (v2707 : BitVec 32) : BitVec 32 :=
  let c128_i32_1497 : BitVec 32 := 128#32
  let v2748 : BitVec 32 := Scalar.muli v2707 c128_i32_1497
  v2748
def k0_mult176 (v2711 : BitVec 32) : BitVec 32 :=
  let c128_i32_1502 : BitVec 32 := 128#32
  let v2754 : BitVec 32 := Scalar.muli v2711 c128_i32_1502
  v2754
def k0_off117 (v2707 : BitVec 32) : Fin 5 → Nat :=
  let c0_1515 : Index := 0#32
  let c0_1516 : Index := 0#32
  let v2775 : Index := Scalar.indexCast v2707
  let c0_1517 : Index := 0#32
  let c0_1518 : Index := 0#32
  ![0, 0, v2775.toNat, 0, 0]

def k0_chk24 (v2024 : BitVec 1) (v2707 : BitVec 32) : Prop :=
  (∀ (k0_h4 : k0_cond4 v2024 = 1#1), 128 ∣ (k0_mult169 v2707).toNat) ∧
  (∀ (k0_h4 : k0_cond4 v2024 = 1#1), ∀ a, (k0_off114 v2707) a + S1x1x128x256.size a ≤ S1x1x8704x256.size a) ∧
  (∀ (k0_h4 : k0_cond4 v2024 = 1#1), 128 ∣ (k0_mult171 v2707).toNat) ∧
  (∀ (k0_h4 : k0_cond4 v2024 = 1#1), ∀ a, (k0_off116 v2707) a + S1x1x128x256.size a ≤ S1x1x8704x256.size a) ∧
  (∀ (k0_h4 : k0_cond4 v2024 = 1#1), 128 ∣ (k0_mult173 v2707).toNat) ∧
  (∀ (k0_h4 : k0_cond4 v2024 = 1#1), 128 ∣ (k0_mult175 v2707).toNat) ∧
  (∀ (k0_h4 : k0_cond4 v2024 = 1#1), ∀ a, (k0_off117 v2707) a + S1x1x1x80x128.size a ≤ S1x1x68x80x128.size a)
theorem k0_mult169_dvd : ∀ (v2024 : BitVec 1) (v2707 : BitVec 32) (k0_hw24 : k0_chk24 v2024 v2707), ∀ (k0_h4 : k0_cond4 v2024 = 1#1), 128 ∣ (k0_mult169 v2707).toNat := fun v2024 v2707 k0_hw24 k0_h4 => k0_hw24.1 k0_h4
theorem k0_off114_inb : ∀ (v2024 : BitVec 1) (v2707 : BitVec 32) (k0_hw24 : k0_chk24 v2024 v2707), ∀ (k0_h4 : k0_cond4 v2024 = 1#1), ∀ a, (k0_off114 v2707) a + S1x1x128x256.size a ≤ S1x1x8704x256.size a := fun v2024 v2707 k0_hw24 k0_h4 => k0_hw24.2.1 k0_h4
theorem k0_mult171_dvd : ∀ (v2024 : BitVec 1) (v2707 : BitVec 32) (k0_hw24 : k0_chk24 v2024 v2707), ∀ (k0_h4 : k0_cond4 v2024 = 1#1), 128 ∣ (k0_mult171 v2707).toNat := fun v2024 v2707 k0_hw24 k0_h4 => k0_hw24.2.2.1 k0_h4
theorem k0_off116_inb : ∀ (v2024 : BitVec 1) (v2707 : BitVec 32) (k0_hw24 : k0_chk24 v2024 v2707), ∀ (k0_h4 : k0_cond4 v2024 = 1#1), ∀ a, (k0_off116 v2707) a + S1x1x128x256.size a ≤ S1x1x8704x256.size a := fun v2024 v2707 k0_hw24 k0_h4 => k0_hw24.2.2.2.1 k0_h4
theorem k0_mult173_dvd : ∀ (v2024 : BitVec 1) (v2707 : BitVec 32) (k0_hw24 : k0_chk24 v2024 v2707), ∀ (k0_h4 : k0_cond4 v2024 = 1#1), 128 ∣ (k0_mult173 v2707).toNat := fun v2024 v2707 k0_hw24 k0_h4 => k0_hw24.2.2.2.2.1 k0_h4
theorem k0_mult175_dvd : ∀ (v2024 : BitVec 1) (v2707 : BitVec 32) (k0_hw24 : k0_chk24 v2024 v2707), ∀ (k0_h4 : k0_cond4 v2024 = 1#1), 128 ∣ (k0_mult175 v2707).toNat := fun v2024 v2707 k0_hw24 k0_h4 => k0_hw24.2.2.2.2.2.1 k0_h4
theorem k0_off117_inb : ∀ (v2024 : BitVec 1) (v2707 : BitVec 32) (k0_hw24 : k0_chk24 v2024 v2707), ∀ (k0_h4 : k0_cond4 v2024 = 1#1), ∀ a, (k0_off117 v2707) a + S1x1x1x80x128.size a ≤ S1x1x68x80x128.size a := fun v2024 v2707 k0_hw24 k0_h4 => k0_hw24.2.2.2.2.2.2 k0_h4

def k0_off118 (v2711 : BitVec 32) : Fin 5 → Nat :=
  let c0_1519 : Index := 0#32
  let c0_1520 : Index := 0#32
  let v2778 : Index := Scalar.indexCast v2711
  let c0_1521 : Index := 0#32
  let c0_1522 : Index := 0#32
  ![0, 0, v2778.toNat, 0, 0]

def k0_chk25 (v2024 : BitVec 1) (v2711 : BitVec 32) : Prop :=
  (∀ (k0_h4 : k0_cond4 v2024 = 1#1), 128 ∣ (k0_mult170 v2711).toNat) ∧
  (∀ (k0_h4 : k0_cond4 v2024 = 1#1), ∀ a, (k0_off115 v2711) a + S1x1x128x256.size a ≤ S1x1x8704x256.size a) ∧
  (∀ (k0_h4 : k0_cond4 v2024 = 1#1), 128 ∣ (k0_mult172 v2711).toNat) ∧
  (∀ (k0_h4 : k0_cond4 v2024 = 1#1), 128 ∣ (k0_mult174 v2711).toNat) ∧
  (∀ (k0_h4 : k0_cond4 v2024 = 1#1), 128 ∣ (k0_mult176 v2711).toNat) ∧
  (∀ (k0_h4 : k0_cond4 v2024 = 1#1), ∀ a, (k0_off118 v2711) a + S1x1x1x80x128.size a ≤ S1x1x68x80x128.size a)
theorem k0_mult170_dvd : ∀ (v2024 : BitVec 1) (v2711 : BitVec 32) (k0_hw25 : k0_chk25 v2024 v2711), ∀ (k0_h4 : k0_cond4 v2024 = 1#1), 128 ∣ (k0_mult170 v2711).toNat := fun v2024 v2711 k0_hw25 k0_h4 => k0_hw25.1 k0_h4
theorem k0_off115_inb : ∀ (v2024 : BitVec 1) (v2711 : BitVec 32) (k0_hw25 : k0_chk25 v2024 v2711), ∀ (k0_h4 : k0_cond4 v2024 = 1#1), ∀ a, (k0_off115 v2711) a + S1x1x128x256.size a ≤ S1x1x8704x256.size a := fun v2024 v2711 k0_hw25 k0_h4 => k0_hw25.2.1 k0_h4
theorem k0_mult172_dvd : ∀ (v2024 : BitVec 1) (v2711 : BitVec 32) (k0_hw25 : k0_chk25 v2024 v2711), ∀ (k0_h4 : k0_cond4 v2024 = 1#1), 128 ∣ (k0_mult172 v2711).toNat := fun v2024 v2711 k0_hw25 k0_h4 => k0_hw25.2.2.1 k0_h4
theorem k0_mult174_dvd : ∀ (v2024 : BitVec 1) (v2711 : BitVec 32) (k0_hw25 : k0_chk25 v2024 v2711), ∀ (k0_h4 : k0_cond4 v2024 = 1#1), 128 ∣ (k0_mult174 v2711).toNat := fun v2024 v2711 k0_hw25 k0_h4 => k0_hw25.2.2.2.1 k0_h4
theorem k0_mult176_dvd : ∀ (v2024 : BitVec 1) (v2711 : BitVec 32) (k0_hw25 : k0_chk25 v2024 v2711), ∀ (k0_h4 : k0_cond4 v2024 = 1#1), 128 ∣ (k0_mult176 v2711).toNat := fun v2024 v2711 k0_hw25 k0_h4 => k0_hw25.2.2.2.2.1 k0_h4
theorem k0_off118_inb : ∀ (v2024 : BitVec 1) (v2711 : BitVec 32) (k0_hw25 : k0_chk25 v2024 v2711), ∀ (k0_h4 : k0_cond4 v2024 = 1#1), ∀ a, (k0_off118 v2711) a + S1x1x1x80x128.size a ≤ S1x1x68x80x128.size a := fun v2024 v2711 k0_hw25 k0_h4 => k0_hw25.2.2.2.2.2 k0_h4

def k0_off119 (i : grid0.Coords) (c0_i32_9 : BitVec 32) : Fin 5 → Nat :=
  let c0_1223 : Index := 0#32
  let c0_1224 : Index := 0#32
  let arg2 : BitVec 32 := BitVec.ofNat 32 (i 2).val
  let c256_i32 : BitVec 32 := 256#32
  let v0 : BitVec 32 := Scalar.muli arg2 c256_i32
  let c0_i32 : BitVec 32 := 0#32
  let v21 : BitVec 1 := Scalar.cmpi .sgt v0 c0_i32
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c128_i32 : BitVec 32 := 128#32
  let c0_i32_6 : BitVec 32 := 0#32
  let v26 : BitVec 1 := Scalar.cmpi .sgt c128_i32 c0_i32_6
  let v27 : BitVec 32 := Scalar.extui v26
  let c0_i32_7 : BitVec 32 := 0#32
  let v28 : BitVec 1 := Scalar.cmpi .slt c128_i32 c0_i32_7
  let v29 : BitVec 32 := Scalar.extui v28
  let v30 : BitVec 32 := Scalar.subi v27 v29
  let v31 : BitVec 1 := Scalar.cmpi .ne v25 v30
  let v32 : BitVec 32 := Scalar.remsi v0 c128_i32
  let c0_i32_8 : BitVec 32 := 0#32
  let v33 : BitVec 1 := Scalar.cmpi .ne v32 c0_i32_8
  let v34 : BitVec 1 := Scalar.andi v31 v33
  let v20 : BitVec 32 := Scalar.divsi v0 c128_i32
  let c1_i32 : BitVec 32 := 1#32
  let v35 : BitVec 32 := Scalar.subi v20 c1_i32
  let v36 : BitVec 32 := Scalar.select v34 v35 v20
  let c4_i32 : BitVec 32 := 4#32
  let v37 : BitVec 32 := Scalar.subi v36 c4_i32
  let v38 : BitVec 32 := Scalar.addi v37 c0_i32_9
  let c0_i32_10 : BitVec 32 := 0#32
  let v39 : BitVec 32 := Scalar.maxsi v38 c0_i32_10
  let v2250 : Index := Scalar.indexCast v39
  let c0_1225 : Index := 0#32
  let c0_1226 : Index := 0#32
  ![0, 0, v2250.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x8704x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x68x80x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x64x80x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x64x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== Kernel2.lean ====
abbrev S4x1024x8192 : Shape := ⟨3, ![4, 1024, 8192]⟩
abbrev S1024x1024 : Shape := ⟨2, ![1024, 1024]⟩
abbrev S4x8192x1024 : Shape := ⟨3, ![4, 8192, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S4x1024x8192, .bf16⟩
  | .hbm, ⟨1, _⟩ => ⟨S1024x1024, .f32⟩
  | .hbm, ⟨2, _⟩ => ⟨S4x8192x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S1024x1024, .bf16⟩
  | .hbm, ⟨8, _⟩ => ⟨S1x1024, .f32⟩
  | .hbm, ⟨9, _⟩ => ⟨S1024x4096, .bf16⟩
  | .hbm, ⟨10, _⟩ => ⟨S4096x1024, .bf16⟩
  | .hbm, ⟨11, _⟩ => ⟨S1x1024, .f32⟩
  | .hbm, ⟨12, _⟩ => ⟨S4x8192x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1024x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | _, _ => ⟨S4x1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S4x1024x8192 : Shape := ⟨3, ![4, 1024, 8192]⟩
abbrev S1024x1024 : Shape := ⟨2, ![1024, 1024]⟩
abbrev S4x8192x1024 : Shape := ⟨3, ![4, 8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩

abbrev nBuf : Space → Nat
  | .hbm => 50
  | .vmem => 0
  | .smem => 0
  | _ => 0

abbrev bufTy : (tb : Table) → Fin (tcTables nBuf tb) → BufTy
  | .hbm, ⟨0, _⟩ => ⟨S4x1024x8192, .bf16⟩
  | .hbm, ⟨1, _⟩ => ⟨S1024x1024, .f32⟩
  | .hbm, ⟨2, _⟩ => ⟨S4x8192x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S4x8192x1024, .bf16⟩
  | .hbm, ⟨8, _⟩ => ⟨S4x8192x1024, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S4x8192x1, .f32⟩
  | .hbm, ⟨22, _⟩ => ⟨S4x8192x1024, .f32⟩
  | .hbm, ⟨23, _⟩ => ⟨S4x8192x1024, .f32⟩
  | .hbm, ⟨24, _⟩ => ⟨S1x1x1024, .f32⟩
  | .hbm, ⟨25, _⟩ => ⟨S4x8192x1024, .f32⟩
  | .hbm, ⟨26, _⟩ => ⟨S4x8192x1024, .f32⟩
  | .hbm, ⟨27, _⟩ => ⟨S4x8192x4096, .f32⟩
  | .hbm, ⟨28, _⟩ => ⟨S_, .f32⟩
  | .hbm, ⟨29, _⟩ => ⟨S4x8192x4096, .f32⟩
  | .hbm, ⟨30, _⟩ => ⟨S4x8192x4096, .f32⟩
  | .hbm, ⟨31, _⟩ => ⟨S4x8192x4096, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S_, .f32⟩
  | .hbm, ⟨36, _⟩ => ⟨S4x8192, .f32⟩
  | .hbm, ⟨37, _⟩ => ⟨S4x8192x1, .f32⟩
  | .hbm, ⟨38, _⟩ => ⟨S_, .f32⟩
  | .hbm, ⟨39, _⟩ => ⟨S4x8192x1, .f32⟩
  | .hbm, ⟨40, _⟩ => ⟨S4x8192x1, .f32⟩
  | .hbm, ⟨41, _⟩ => ⟨S_, .f32⟩
  | .hbm, ⟨42, _⟩ => ⟨S4x8192x1, .f32⟩
  | .hbm, ⟨43, _⟩ => ⟨S4x8192x1, .f32⟩
  | .hbm, ⟨44, _⟩ => ⟨S4x8192x1, .f32⟩
  | .hbm, ⟨45, _⟩ => ⟨S4x8192x1024, .f32⟩
  | .hbm, ⟨46, _⟩ => ⟨S4x8192x1024, .f32⟩
  | .hbm, ⟨47, _⟩ => ⟨S1x1x1024, .f32⟩
  | .hbm, ⟨48, _⟩ => ⟨S4x8192x1024, .f32⟩
  | .hbm, ⟨49, _⟩ => ⟨S4x8192x1024, .f32⟩
  | _, _ => ⟨S4x1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Kernel3.lean ====
abbrev S4x8192x1024 : Shape := ⟨3, ![4, 8192, 1024]⟩
abbrev S1024 : Shape := ⟨1, ![1024]⟩
abbrev S1024x2048 : Shape := ⟨2, ![1024, 2048]⟩
abbrev S4x1024 : Shape := ⟨2, ![4, 1024]⟩
abbrev S4x256x256 : Shape := ⟨3, ![4, 256, 256]⟩
abbrev S1024x1024 : Shape := ⟨2, ![1024, 1024]⟩
abbrev S1024x4096 : Shape := ⟨2, ![1024, 4096]⟩
abbrev S4096x1024 : Shape := ⟨2, ![4096, 1024]⟩
abbrev S1x1024 : Shape := ⟨2, ![1, 1024]⟩
abbrev S1x256x1024 : Shape := ⟨3, ![1, 256, 1024]⟩
abbrev S8x1024 : Shape := ⟨2, ![8, 1024]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S264x1024 : Shape := ⟨2, ![264, 1024]⟩
abbrev S256x256 : Shape := ⟨2, ![256, 256]⟩
abbrev S1x256x256 : Shape := ⟨3, ![1, 256, 256]⟩
abbrev S32x8x1024 : Shape := ⟨3, ![32, 8, 1024]⟩
abbrev S1x8x1024 : Shape := ⟨3, ![1, 8, 1024]⟩

abbrev nBuf : Space → Nat
  | .hbm => 27
  | .vmem => 20
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x2048, .f32⟩
  | .hbm, ⟨3, _⟩ => ⟨S4x1024, .f32⟩
  | .hbm, ⟨4, _⟩ => ⟨S1024, .f32⟩
  | .hbm, ⟨5, _⟩ => ⟨S4x256x256, .f32⟩
  | .hbm, ⟨6, _⟩ => ⟨S1024, .f32⟩
  | .hbm, ⟨7, _⟩ => ⟨S4x256x256, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x4096, .f32⟩
  | .hbm, ⟨13, _⟩ => ⟨S4096x1024, .f32⟩
  | .hbm, ⟨14, _⟩ => ⟨S1x1024, .f32⟩
  | .hbm, ⟨15, _⟩ => ⟨S1024x2048, .bf16⟩
  | .hbm, ⟨16, _⟩ => ⟨S1x1024, .f32⟩
  | .hbm, ⟨17, _⟩ => ⟨S4x256x256, .bf16⟩
  | .hbm, ⟨18, _⟩ => ⟨S1x1024, .f32⟩
  | .hbm, ⟨19, _⟩ => ⟨S4x256x256, .bf16⟩
  | .hbm, ⟨20, _⟩ => ⟨S1x1024, .f32⟩
  | .hbm, ⟨21, _⟩ => ⟨S1x1024, .f32⟩
  | .hbm, ⟨22, _⟩ => ⟨S1024x1024, .bf16⟩
  | .hbm, ⟨23, _⟩ => ⟨S1x1024, .f32⟩
  | .hbm, ⟨24, _⟩ => ⟨S1024x4096, .bf16⟩
  | .hbm, ⟨25, _⟩ => ⟨S4096x1024, .bf16⟩
  | .hbm, ⟨26, _⟩ => ⟨S4x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x2048, .bf16⟩
  | .local _ .vmem, ⟨4, _⟩ => ⟨S4x1024, .f32⟩
  | .local _ .vmem, ⟨5, _⟩ => ⟨S1x1024, .f32⟩
  | .local _ .vmem, ⟨6, _⟩ => ⟨S4x256x256, .bf16⟩
  | .local _ .vmem, ⟨7, _⟩ => ⟨S1x1024, .f32⟩
  | .local _ .vmem, ⟨8, _⟩ => ⟨S4x256x256, .bf16⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S1x1024, .f32⟩
  | .local _ .vmem, ⟨13, _⟩ => ⟨S1024x4096, .bf16⟩
  | .local _ .vmem, ⟨14, _⟩ => ⟨S4096x1024, .bf16⟩
  | .local _ .vmem, ⟨15, _⟩ => ⟨S1x256x1024, .f32⟩
  | .local _ .vmem, ⟨16, _⟩ => ⟨S1x256x1024, .f32⟩
  | .local _ .vmem, ⟨17, _⟩ => ⟨S8x1024, .f32⟩
  | .local _ .vmem, ⟨18, _⟩ => ⟨S8x1024, .f32⟩
  | .local _ .vmem, ⟨19, _⟩ => ⟨S256x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4096x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference3Ideal.lean ====
abbrev S4x8192x1024 : Shape := ⟨3, ![4, 8192, 1024]⟩
abbrev S1024 : Shape := ⟨1, ![1024]⟩
abbrev S1024x2048 : Shape := ⟨2, ![1024, 2048]⟩
abbrev S4x1024 : Shape := ⟨2, ![4, 1024]⟩
abbrev S4x256x256 : Shape := ⟨3, ![4, 256, 256]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2048 : Shape := ⟨3, ![4, 8192, 2048]⟩
abbrev S4x8195x1024 : Shape := ⟨3, ![4, 8195, 1024]⟩
abbrev S1x1024 : Shape := ⟨2, ![1, 1024]⟩
abbrev S4x8192x4x256 : Shape := ⟨4, ![4, 8192, 4, 256]⟩
abbrev S4x256x4x8192 : Shape := ⟨4, ![4, 256, 4, 8192]⟩
abbrev S8192x4x1024 : Shape := ⟨3, ![8192, 4, 1024]⟩
abbrev S1x4x1024 : Shape := ⟨3, ![1, 4, 1024]⟩
abbrev S4x8192x4096 : Shape := ⟨3, ![4, 8192, 4096]⟩

abbrev nBuf : Space → Nat
  | .hbm => 200
  | .vmem => 0
  | .smem => 0
  | _ => 0

abbrev hbmTy0_0 (i : Nat) : BufTy := match i % 128 with
  | 0 => ⟨S4x8192x1024, .f32⟩
  | 1 => ⟨S1024, .f32⟩
  | 2 => ⟨S1024x2048, .f32⟩
  | 3 => ⟨S4x1024, .f32⟩
  | 4 => ⟨S1024, .f32⟩
  | 5 => ⟨S4x256x256, .f32⟩
  | 6 => ⟨S1024, .f32⟩
  | 7 => ⟨S4x256x256, .f32⟩
  | 8 => ⟨S1024, .f32⟩
  | 9 => ⟨S1024, .f32⟩
  | 10 => ⟨S1024x1024, .f32⟩
  | 11 => ⟨S1024, .f32⟩
  | 12 => ⟨S1024x4096, .f32⟩
  | 13 => ⟨S4096x1024, .f32⟩
  | 14 => ⟨S4x8192x1024, .f32⟩
  | 15 => ⟨S_, .f32⟩
  | 16 => ⟨S4x8192, .f32⟩
  | 17 => ⟨S4x8192x1, .f32⟩
  | 18 => ⟨S_, .f32⟩
  | 19 => ⟨S4x8192x1, .f32⟩
  | 20 => ⟨S4x8192x1, .f32⟩
  | 21 => ⟨S_, .f32⟩
  | 22 => ⟨S4x8192x1, .f32⟩
  | 23 => ⟨S4x8192x1, .f32⟩
  | 24 => ⟨S4x8192x1, .f32⟩
  | 25 => ⟨S4x8192x1024, .f32⟩
  | 26 => ⟨S4x8192x1024, .f32⟩
  | 27 => ⟨S1x1x1024, .f32⟩
  | 28 => ⟨S4x8192x1024, .f32⟩
  | 29 => ⟨S4x8192x1024, .f32⟩
  | 30 => ⟨S4x8192x2048, .f32⟩
  | 31 => ⟨S4x8192x1024, .f32⟩
  | 32 => ⟨S4x8192x1024, .f32⟩
  | 33 => ⟨S4x8192x1024, .f32⟩
  | 34 => ⟨S_, .f32⟩
  | 35 => ⟨S4x8192x1024, .f32⟩
  | 36 => ⟨S4x8192x1024, .f32⟩
  | 37 => ⟨S4x8192x1024, .f32⟩
  | 38 => ⟨S_, .f32⟩
  | 39 => ⟨S4x8192x1024, .f32⟩
  | 40 => ⟨S4x8192x1024, .f32⟩
  | 41 => ⟨S4x8192x1024, .f32⟩
  | 42 => ⟨S_, .f32⟩
  | 43 => ⟨S4x8192x1024, .f32⟩
  | 44 => ⟨S4x8192x1024, .f32⟩
  | 45 => ⟨S_, .f32⟩
  | 46 => ⟨S4x8192x1024, .f32⟩
  | 47 => ⟨S4x8192x1024, .f32⟩
  | 48 => ⟨S4x8192x1024, .f32⟩
  | 49 => ⟨S4x8192x1024, .f32⟩
  | 50 => ⟨S_, .i32⟩
  | 51 => ⟨S_, .f32⟩
  | 52 => ⟨S4x8195x1024, .f32⟩
  | 53 => ⟨S1x1024, .f32⟩
  | 54 => ⟨S1024, .f32⟩
  | 55 => ⟨S4x8192x1024, .f32⟩
  | 56 => ⟨S1x1x1024, .f32⟩
  | 57 => ⟨S4x8192x1024, .f32⟩
  | 58 => ⟨S4x8192x1024, .f32⟩
  | 59 => ⟨S1x1024, .f32⟩
  | 60 => ⟨S1024, .f32⟩
  | 61 => ⟨S4x8192x1024, .f32⟩
  | 62 => ⟨S1x1x1024, .f32⟩
  | 63 => ⟨S4x8192x1024, .f32⟩
  | 64 => ⟨S4x8192x1024, .f32⟩
  | 65 => ⟨S4x8192x1024, .f32⟩
  | 66 => ⟨S1x1024, .f32⟩
  | 67 => ⟨S1024, .f32⟩
  | 68 => ⟨S4x8192x1024, .f32⟩
  | 69 => ⟨S1x1x1024, .f32⟩
  | 70 => ⟨S4x8192x1024, .f32⟩
  | 71 => ⟨S4x8192x1024, .f32⟩
  | 72 => ⟨S4x8192x1024, .f32⟩
  | 73 => ⟨S1x1024, .f32⟩
  | 74 => ⟨S1024, .f32⟩
  | 75 => ⟨S4x8192x1024, .f32⟩
  | 76 => ⟨S1x1x1024, .f32⟩
  | 77 => ⟨S4x8192x1024, .f32⟩
  | 78 => ⟨S4x8192x1024, .f32⟩
  | 79 => ⟨S4x8192x1024, .f32⟩
  | 80 => ⟨S1x1x1024, .f32⟩
  | 81 => ⟨S4x8192x1024, .f32⟩
  | 82 => ⟨S4x8192x1024, .f32⟩
  | 83 => ⟨S4x8192x4x256, .f32⟩
  | 84 => ⟨S4x256x4x8192, .f32⟩
  | 85 => ⟨S4x8192x4x256, .f32⟩
  | 86 => ⟨S4x8192x1024, .f32⟩
  | 87 => ⟨S1x1x1024, .f32⟩
  | 88 => ⟨S4x8192x1024, .f32⟩
  | 89 => ⟨S4x8192x1024, .f32⟩
  | 90 => ⟨S4x8192x1024, .f32⟩
  | 91 => ⟨S4x8192x1024, .f32⟩
  | 92 => ⟨S_, .f32⟩
  | 93 => ⟨S4x8192x1024, .f32⟩
  | 94 => ⟨S4x8192x1024, .f32⟩
  | 95 => ⟨S_, .f32⟩
  | 96 => ⟨S4x8192x1024, .f32⟩
  | 97 => ⟨S4x8192x1024, .f32⟩
  | 98 => ⟨S_, .f32⟩
  | 99 => ⟨S4x8192x1024, .f32⟩
  | 100 => ⟨S4x8192x1024, .f32⟩
  | 101 => ⟨S1024, .f32⟩
  | 102 => ⟨S_, .f32⟩
  | 103 => ⟨S1024, .f32⟩
  | 104 => ⟨S1024, .f32⟩
  | 105 => ⟨S1024, .f32⟩
  | 106 => ⟨S1024, .f32⟩
  | 107 => ⟨S1024, .i1⟩
  | 108 => ⟨S1024, .f32⟩
  | 109 => ⟨S1024, .f32⟩
  | 110 => ⟨S1024, .f32⟩
  | 111 => ⟨S1024, .f32⟩
  | 112 => ⟨S1024, .f32⟩
  | 113 => ⟨S1024, .f32⟩
  | 114 => ⟨S1024, .f32⟩
  | 115 => ⟨S1024, .f32⟩
  | 116 => ⟨S1x1x1024, .f32⟩
  | 117 => ⟨S4x8192x1024, .f32⟩
  | 118 => ⟨S4x8192x1024, .f32⟩
  | 119 => ⟨S4x8192x1024, .f32⟩
  | 120 => ⟨S_, .f32⟩
  | 121 => ⟨S4x8192x1024, .f32⟩
  | 122 => ⟨S4x8192x1024, .f32⟩
  | 123 => ⟨S4x8192x1024, .f32⟩
  | 124 => ⟨S4x8192x1024, .f32⟩
  | 125 => ⟨S4x8192x1024, .f32⟩
  | 126 => ⟨S4x8192x4x256, .f32⟩
  | 127 => ⟨S4x256x4x8192, .f32⟩
  | _ => ⟨S4x8192x1024, .f32⟩

abbrev hbmTy0_1 (i : Nat) : BufTy := match i % 128 with
  | 0 => ⟨S4x8192x4x256, .f32⟩
  | 1 => ⟨S4x8192x1024, .f32⟩
  | 2 => ⟨S1x1x1024, .f32⟩
  | 3 => ⟨S4x8192x1024, .f32⟩
  | 4 => ⟨S4x8192x1024, .f32⟩
  | 5 => ⟨S4x8192x1024, .f32⟩
  | 6 => ⟨S4x8192x1024, .f32⟩
  | 7 => ⟨S_, .f32⟩
  | 8 => ⟨S4x8192x1024, .f32⟩
  | 9 => ⟨S4x8192x1024, .f32⟩
  | 10 => ⟨S_, .f32⟩
  | 11 => ⟨S4x8192x1024, .f32⟩
  | 12 => ⟨S4x8192x1024, .f32⟩
  | 13 => ⟨S4x8192x1024, .f32⟩
  | 14 => ⟨S4x8192x1024, .f32⟩
  | 15 => ⟨S_, .f32⟩
  | 16 => ⟨S4x1024, .f32⟩
  | 17 => ⟨S8192x4x1024, .f32⟩
  | 18 => ⟨S8192x4x1024, .f32⟩
  | 19 => ⟨S_, .f32⟩
  | 20 => ⟨S8192x4x1024, .f32⟩
  | 21 => ⟨S_, .i32⟩
  | 22 => ⟨S8192x4x1024, .f32⟩
  | 23 => ⟨S8192x4x1024, .f32⟩
  | 24 => ⟨S_, .i32⟩
  | 25 => ⟨S4x1024, .f32⟩
  | 26 => ⟨S8192x4x1024, .f32⟩
  | 27 => ⟨S_, .i32⟩
  | 28 => ⟨S_, .i1⟩
  | 29 => ⟨S_, .i32⟩
  | 30 => ⟨S_, .i32⟩
  | 31 => ⟨S1x4x1024, .f32⟩
  | 32 => ⟨S4x1024, .f32⟩
  | 33 => ⟨S_, .i32⟩
  | 34 => ⟨S_, .i32⟩
  | 35 => ⟨S1x4x1024, .f32⟩
  | 36 => ⟨S4x1024, .f32⟩
  | 37 => ⟨S4x1024, .f32⟩
  | 38 => ⟨S4x1024, .f32⟩
  | 39 => ⟨S1x4x1024, .f32⟩
  | 40 => ⟨S_, .i32⟩
  | 41 => ⟨S_, .i32⟩
  | 42 => ⟨S8192x4x1024, .f32⟩
  | 43 => ⟨S_, .i32⟩
  | 44 => ⟨S_, .i32⟩
  | 45 => ⟨S4x8192x1024, .f32⟩
  | 46 => ⟨S4x8192x1024, .f32⟩
  | 47 => ⟨S4x8192x1024, .f32⟩
  | 48 => ⟨S4x8192x1024, .f32⟩
  | 49 => ⟨S4x8192x1024, .f32⟩
  | 50 => ⟨S_, .f32⟩
  | 51 => ⟨S4x8192, .f32⟩
  | 52 => ⟨S4x8192x1, .f32⟩
  | 53 => ⟨S_, .f32⟩
  | 54 => ⟨S4x8192x1, .f32⟩
  | 55 => ⟨S4x8192x1, .f32⟩
  | 56 => ⟨S_, .f32⟩
  | 57 => ⟨S4x8192x1, .f32⟩
  | 58 => ⟨S4x8192x1, .f32⟩
  | 59 => ⟨S4x8192x1, .f32⟩
  | 60 => ⟨S4x8192x1024, .f32⟩
  | 61 => ⟨S4x8192x1024, .f32⟩
  | 62 => ⟨S1x1x1024, .f32⟩
  | 63 => ⟨S4x8192x1024, .f32⟩
  | 64 => ⟨S4x8192x1024, .f32⟩
  | 65 => ⟨S4x8192x4096, .f32⟩
  | 66 => ⟨S_, .f32⟩
  | 67 => ⟨S4x8192x4096, .f32⟩
  | 68 => ⟨S4x8192x4096, .f32⟩
  | 69 => ⟨S4x8192x4096, .f32⟩
  | 70 => ⟨S4x8192x1024, .f32⟩
  | 71 => ⟨S4x8192x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c : Ref sig .tc := ⟨.hbm, 50, rfl⟩
abbrev main_call0_v0 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_6 : Ref sig .tc := ⟨.hbm, 92, rfl⟩
abbrev main_v69 : Ref sig .tc := ⟨.hbm, 93, rfl⟩
abbrev main_v70 : Ref sig .tc := ⟨.hbm, 94, rfl⟩
abbrev main_cst_7 : Ref sig .tc := ⟨.hbm, 95, rfl⟩
abbrev main_v71 : Ref sig .tc := ⟨.hbm, 96, rfl⟩
abbrev main_v72 : Ref sig .tc := ⟨.hbm, 97, rfl⟩
abbrev main_cst_8 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_call1_cst : Ref sig .tc := ⟨.hbm, 102, rfl⟩
abbrev main_call1_v0 : Ref sig .tc := ⟨.hbm, 103, rfl⟩
abbrev main_call1_v1 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_call1_v5 : Ref sig .tc := ⟨.hbm, 108, rfl⟩
abbrev main_call1_v6 : Ref sig .tc := ⟨.hbm, 109, rfl⟩
abbrev main_call1_v7 : Ref sig .tc := ⟨.hbm, 110, rfl⟩
abbrev main_call1_v8 : Ref sig .tc := ⟨.hbm, 111, rfl⟩
abbrev main_call1_v9 : Ref sig .tc := ⟨.hbm, 112, rfl⟩
abbrev main_call1_v10 : Ref sig .tc := ⟨.hbm, 113, rfl⟩
abbrev main_call1_v11 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_9 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_10 : Ref sig .tc := ⟨.hbm, 135, rfl⟩
abbrev main_v95 : Ref sig .tc := ⟨.hbm, 136, rfl⟩
abbrev main_v96 : Ref sig .tc := ⟨.hbm, 137, rfl⟩
abbrev main_cst_11 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_12 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_13 : Ref sig .tc := ⟨.hbm, 147, rfl⟩
abbrev main_v104 : Ref sig .tc := ⟨.hbm, 148, rfl⟩
abbrev main_c_14 : Ref sig .tc := ⟨.hbm, 149, rfl⟩
abbrev main_v105_0 : Ref sig .tc := ⟨.hbm, 150, rfl⟩
abbrev main_v105_1 : Ref sig .tc := ⟨.hbm, 151, rfl⟩
abbrev main_v105_2 : Ref sig .tc := ⟨.hbm, 152, rfl⟩
abbrev main_v105_3 : Ref sig .tc := ⟨.hbm, 153, rfl⟩
abbrev main_v105_4 : Ref sig .tc := ⟨.hbm, 154, rfl⟩
abbrev main_while0c_c_23 : Ref sig .tc := ⟨.hbm, 155, rfl⟩
abbrev main_while0c_v129 : Ref sig .tc := ⟨.hbm, 156, rfl⟩
abbrev main_while0b_call2_c : Ref sig .tc := ⟨.hbm, 157, rfl⟩
abbrev main_while0b_call2_c_0 : Ref sig .tc := ⟨.hbm, 158, rfl⟩
abbrev main_while0b_call2_v0 : Ref sig .tc := ⟨.hbm, 159, rfl⟩
abbrev main_while0b_v129 : Ref sig .tc := ⟨.hbm, 160, rfl⟩
abbrev main_while0b_call3_c : Ref sig .tc := ⟨.hbm, 161, rfl⟩
abbrev main_while0b_call3_c_0 : Ref sig .tc := ⟨.hbm, 162, rfl⟩
abbrev main_while0b_call3_v0 : Ref sig .tc := ⟨.hbm, 163, rfl⟩
abbrev main_while0b_v130 : Ref sig .tc := ⟨.hbm, 164, rfl⟩
abbrev main_while0b_v131 : Ref sig .tc := ⟨.hbm, 165, rfl⟩
abbrev main_while0b_v132 : Ref sig .tc := ⟨.hbm, 166, rfl⟩
abbrev main_while0b_call4_v0 : Ref sig .tc := ⟨.hbm, 167, rfl⟩
abbrev main_while0b_call4_c : Ref sig .tc := ⟨.hbm, 168, rfl⟩
abbrev main_while0b_call4_c_0 : Ref sig .tc := ⟨.hbm, 169, rfl⟩
abbrev main_while0b_v133 : Ref sig .tc := ⟨.hbm, 170, rfl⟩
abbrev main_while0b_c_23 : Ref sig .tc := ⟨.hbm, 171, rfl⟩
abbrev main_while0b_v134 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_cst_15 : Ref sig .tc := ⟨.hbm, 178, rfl⟩
abbrev main_v111 : Ref sig .tc := ⟨.hbm, 179, rfl⟩
abbrev main_v112 : Ref sig .tc := ⟨.hbm, 180, rfl⟩
abbrev main_cst_16 : Ref sig .tc := ⟨.hbm, 181, rfl⟩
abbrev main_v113 : Ref sig .tc := ⟨.hbm, 182, rfl⟩
abbrev main_v114 : Ref sig .tc := ⟨.hbm, 183, rfl⟩
abbrev main_cst_17 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_cst_18 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩

abbrev nD : Nat := 1
abbrev τ : Topo := Topo.v7x

variable {F : FTy → Type} [FloatOps F]

abbrev main_while0_count : Scf.Loop 32 := ⟨0#32, 8192#32, 1#32⟩
-- ==== Kernel4.lean ====
abbrev S4x8192x1024 : Shape := ⟨3, ![4, 8192, 1024]⟩
abbrev S1x1024 : Shape := ⟨2, ![1, 1024]⟩
abbrev S1024x1024 : Shape := ⟨2, ![1024, 1024]⟩
abbrev S1024x512 : Shape := ⟨2, ![1024, 512]⟩
abbrev S512x1024 : Shape := ⟨2, ![512, 1024]⟩
abbrev S64x1024 : Shape := ⟨2, ![64, 1024]⟩
abbrev S64x1 : Shape := ⟨2, ![64, 1]⟩
abbrev S4x1024x8192 : Shape := ⟨3, ![4, 1024, 8192]⟩
abbrev S4x8192x512 : Shape := ⟨3, ![4, 8192, 512]⟩
abbrev S4x4x8704x256 : Shape := ⟨4, ![4, 4, 8704, 256]⟩
abbrev S4x4x8192x128 : Shape := ⟨4, ![4, 4, 8192, 128]⟩
abbrev S4x4x68x80x128 : Shape := ⟨5, ![4, 4, 68, 80, 128]⟩
abbrev S4x4x64x80x128 : Shape := ⟨5, ![4, 4, 64, 80, 128]⟩
abbrev S4x64x8192 : Shape := ⟨3, ![4, 64, 8192]⟩
abbrev S1x512x1024 : Shape := ⟨3, ![1, 512, 1024]⟩
abbrev S1x1024x512 : Shape := ⟨3, ![1, 1024, 512]⟩
abbrev S1x512x512 : Shape := ⟨3, ![1, 512, 512]⟩
abbrev S1x4x512x256 : Shape := ⟨4, ![1, 4, 512, 256]⟩
abbrev S1x4x512x128 : Shape := ⟨4, ![1, 4, 512, 128]⟩
abbrev S1x4x4x80x128 : Shape := ⟨5, ![1, 4, 4, 80, 128]⟩
abbrev S1x64x512 : Shape := ⟨3, ![1, 64, 512]⟩
abbrev S512 : Shape := ⟨1, ![512]⟩
abbrev S512x1 : Shape := ⟨2, ![512, 1]⟩
abbrev S512x512 : Shape := ⟨2, ![512, 512]⟩
abbrev S64x512 : Shape := ⟨2, ![64, 512]⟩
abbrev S512x64 : Shape := ⟨2, ![512, 64]⟩
abbrev S512x128 : Shape := ⟨2, ![512, 128]⟩
abbrev S512x256 : Shape := ⟨2, ![512, 256]⟩
abbrev S1x1x512x256 : Shape := ⟨4, ![1, 1, 512, 256]⟩
abbrev S1x1x512x128 : Shape := ⟨4, ![1, 1, 512, 128]⟩
abbrev S16x128 : Shape := ⟨2, ![16, 128]⟩
abbrev S64x128 : Shape := ⟨2, ![64, 128]⟩
abbrev S80x128 : Shape := ⟨2, ![80, 128]⟩
abbrev S1x1x1x80x128 : Shape := ⟨5, ![1, 1, 1, 80, 128]⟩

abbrev nBuf : Space → Nat
  | .hbm => 15
  | .vmem => 23
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1024x1024, .bf16⟩
  | .hbm, ⟨3, _⟩ => ⟨S1024x512, .bf16⟩
  | .hbm, ⟨4, _⟩ => ⟨S1024x512, .bf16⟩
  | .hbm, ⟨5, _⟩ => ⟨S512x1024, .bf16⟩
  | .hbm, ⟨6, _⟩ => ⟨S64x1024, .bf16⟩
  | .hbm, ⟨7, _⟩ => ⟨S64x1, .f32⟩
  | .hbm, ⟨8, _⟩ => ⟨S4x1024x8192, .bf16⟩
  | .hbm, ⟨9, _⟩ => ⟨S4x8192x512, .f32⟩
  | .hbm, ⟨10, _⟩ => ⟨S4x4x8704x256, .bf16⟩
  | .hbm, ⟨11, _⟩ => ⟨S4x4x8192x128, .bf16⟩
  | .hbm, ⟨12, _⟩ => ⟨S4x4x68x80x128, .bf16⟩
  | .hbm, ⟨13, _⟩ => ⟨S4x4x64x80x128, .bf16⟩
  | .hbm, ⟨14, _⟩ => ⟨S4x64x8192, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S64x1024, .bf16⟩
  | .local _ .vmem, ⟨8, _⟩ => ⟨S64x1, .f32⟩
  | .local _ .vmem, ⟨9, _⟩ => ⟨S1x1024x512, .bf16⟩
  | .local _ .vmem, ⟨10, _⟩ => ⟨S1x1024x512, .bf16⟩
  | .local _ .vmem, ⟨11, _⟩ => ⟨S1x512x512, .f32⟩
  | .local _ .vmem, ⟨12, _⟩ => ⟨S1x512x512, .f32⟩
  | .local _ .vmem, ⟨13, _⟩ => ⟨S1x4x512x256, .bf16⟩
  | .local _ .vmem, ⟨14, _⟩ => ⟨S1x4x512x256, .bf16⟩
  | .local _ .vmem, ⟨15, _⟩ => ⟨S1x4x512x128, .bf16⟩
  | .local _ .vmem, ⟨16, _⟩ => ⟨S1x4x512x128, .bf16⟩
  | .local _ .vmem, ⟨17, _⟩ => ⟨S1x4x4x80x128, .bf16⟩
  | .local _ .vmem, ⟨18, _⟩ => ⟨S1x4x4x80x128, .bf16⟩
  | .local _ .vmem, ⟨19, _⟩ => ⟨S1x4x4x80x128, .bf16⟩
  | .local _ .vmem, ⟨20, _⟩ => ⟨S1x4x4x80x128, .bf16⟩
  | .local _ .vmem, ⟨21, _⟩ => ⟨S1x64x512, .f32⟩
  | .local _ .vmem, ⟨22, _⟩ => ⟨S1x64x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![4, 17], ![false, false]⟩

def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  let c0_i32_1 : BitVec 32 := 0#32
  ![arg0.toNat, c0_i32.toNat, v0.toNat, c0_i32_0.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_13 (i : grid0.Coords) : Fin 5 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  let c0_i32_1 : BitVec 32 := 0#32
  let c0_i32_2 : BitVec 32 := 0#32
  ![arg0.toNat, c0_i32.toNat, v0.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, c0_i32.toNat, v0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x4x80x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x4x80x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x64x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference4Ideal.lean ====
abbrev S4x8192x1024 : Shape := ⟨3, ![4, 8192, 1024]⟩
abbrev S1x1024 : Shape := ⟨2, ![1, 1024]⟩
abbrev S1024x1024 : Shape := ⟨2, ![1024, 1024]⟩
abbrev S1024x512 : Shape := ⟨2, ![1024, 512]⟩
abbrev S512x1024 : Shape := ⟨2, ![512, 1024]⟩
abbrev S64x1024 : Shape := ⟨2, ![64, 1024]⟩
abbrev S64x1 : Shape := ⟨2, ![64, 1]⟩
abbrev S_ : Shape := ⟨0, ![]⟩
abbrev S4x8192 : Shape := ⟨2, ![4, 8192]⟩
abbrev S4x8192x1 : Shape := ⟨3, ![4, 8192, 1]⟩
abbrev S1024 : Shape := ⟨1, ![1024]⟩
abbrev S1x1x1024 : Shape := ⟨3, ![1, 1, 1024]⟩
abbrev S1024x64 : Shape := ⟨2, ![1024, 64]⟩
abbrev S4x8192x64 : Shape := ⟨3, ![4, 8192, 64]⟩
abbrev S64 : Shape := ⟨1, ![64]⟩
abbrev S1x1x64 : Shape := ⟨3, ![1, 1, 64]⟩
abbrev S4x1024x8192 : Shape := ⟨3, ![4, 1024, 8192]⟩
abbrev S4x8192x512 : Shape := ⟨3, ![4, 8192, 512]⟩
abbrev S4x64x8192 : Shape := ⟨3, ![4, 64, 8192]⟩

abbrev nBuf : Space → Nat
  | .hbm => 51
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1024x1024, .bf16⟩
  | .hbm, ⟨3, _⟩ => ⟨S1024x512, .bf16⟩
  | .hbm, ⟨4, _⟩ => ⟨S1024x512, .bf16⟩
  | .hbm, ⟨5, _⟩ => ⟨S512x1024, .bf16⟩
  | .hbm, ⟨6, _⟩ => ⟨S64x1024, .bf16⟩
  | .hbm, ⟨7, _⟩ => ⟨S64x1, .f32⟩
  | .hbm, ⟨8, _⟩ => ⟨S4x8192x1024, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S1024, .f32⟩
  | .hbm, ⟨22, _⟩ => ⟨S1x1x1024, .f32⟩
  | .hbm, ⟨23, _⟩ => ⟨S4x8192x1024, .f32⟩
  | .hbm, ⟨24, _⟩ => ⟨S4x8192x1024, .f32⟩
  | .hbm, ⟨25, _⟩ => ⟨S1024x1024, .f32⟩
  | .hbm, ⟨26, _⟩ => ⟨S1024x1024, .f32⟩
  | .hbm, ⟨27, _⟩ => ⟨S4x8192x1024, .f32⟩
  | .hbm, ⟨28, _⟩ => ⟨S_, .f32⟩
  | .hbm, ⟨29, _⟩ => ⟨S4x8192x1024, .f32⟩
  | .hbm, ⟨30, _⟩ => ⟨S4x8192x1024, .f32⟩
  | .hbm, ⟨31, _⟩ => ⟨S64x1024, .f32⟩
  | .hbm, ⟨32, _⟩ => ⟨S1024x64, .f32⟩
  | .hbm, ⟨33, _⟩ => ⟨S4x8192x64, .f32⟩
  | .hbm, ⟨34, _⟩ => ⟨S64, .f32⟩
  | .hbm, ⟨35, _⟩ => ⟨S1x1x64, .f32⟩
  | .hbm, ⟨36, _⟩ => ⟨S4x8192x64, .f32⟩
  | .hbm, ⟨37, _⟩ => ⟨S4x8192x64, .f32⟩
  | .hbm, ⟨38, _⟩ => ⟨S4x8192x64, .f32⟩
  | .hbm, ⟨39, _⟩ => ⟨S4x8192x64, .f32⟩
  | .hbm, ⟨40, _⟩ => ⟨S_, .f32⟩
  | .hbm, ⟨41, _⟩ => ⟨S4x8192x64, .f32⟩
  | .hbm, ⟨42, _⟩ => ⟨S4x8192x64, .f32⟩
  | .hbm, ⟨43, _⟩ => ⟨S_, .f32⟩
  | .hbm, ⟨44, _⟩ => ⟨S4x8192x64, .f32⟩
  | .hbm, ⟨45, _⟩ => ⟨S4x8192x64, .f32⟩
  | .hbm, ⟨46, _⟩ => ⟨S4x1024x8192, .f32⟩
  | .hbm, ⟨47, _⟩ => ⟨S4x1024x8192, .bf16⟩
  | .hbm, ⟨48, _⟩ => ⟨S1024x512, .f32⟩
  | .hbm, ⟨49, _⟩ => ⟨S4x8192x512, .f32⟩
  | .hbm, ⟨50, _⟩ => ⟨S4x64x8192, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Kernel5.lean ====
abbrev S4x8192x512 : Shape := ⟨3, ![4, 8192, 512]⟩
abbrev S2x32x128 : Shape := ⟨3, ![2, 32, 128]⟩
abbrev S2x32x128x128 : Shape := ⟨4, ![2, 32, 128, 128]⟩
abbrev S2x128x128 : Shape := ⟨3, ![2, 128, 128]⟩
abbrev S4x4x512x128 : Shape := ⟨4, ![4, 4, 512, 128]⟩
abbrev S4x4x64x512 : Shape := ⟨4, ![4, 4, 64, 512]⟩
abbrev S1x8192x128 : Shape := ⟨3, ![1, 8192, 128]⟩
abbrev S1x2x512x128 : Shape := ⟨4, ![1, 2, 512, 128]⟩
abbrev S1x2x64x512 : Shape := ⟨4, ![1, 2, 64, 512]⟩
abbrev S512x128 : Shape := ⟨2, ![512, 128]⟩
abbrev S1x512x128 : Shape := ⟨3, ![1, 512, 128]⟩
abbrev S1x1x128 : Shape := ⟨3, ![1, 1, 128]⟩
abbrev S1x128 : Shape := ⟨2, ![1, 128]⟩
abbrev S1x1x128x128 : Shape := ⟨4, ![1, 1, 128, 128]⟩
abbrev S128x128 : Shape := ⟨2, ![128, 128]⟩
abbrev S1x128x128 : Shape := ⟨3, ![1, 128, 128]⟩
abbrev S512x1 : Shape := ⟨2, ![512, 1]⟩
abbrev S512x64 : Shape := ⟨2, ![512, 64]⟩
abbrev S1x1x512x128 : Shape := ⟨4, ![1, 1, 512, 128]⟩
abbrev S128x512 : Shape := ⟨2, ![128, 512]⟩
abbrev S64x512 : Shape := ⟨2, ![64, 512]⟩
abbrev S1x1x64x512 : Shape := ⟨4, ![1, 1, 64, 512]⟩

abbrev nBuf : Space → Nat
  | .hbm => 6
  | .vmem => 11
  | .smem => 0
  | _ => 0

abbrev bufTy : (tb : Table) → Fin (tcTables nBuf tb) → BufTy
  | .hbm, ⟨0, _⟩ => ⟨S4x8192x512, .f32⟩
  | .hbm, ⟨1, _⟩ => ⟨S2x32x128, .f32⟩
  | .hbm, ⟨2, _⟩ => ⟨S2x32x128x128, .bf16⟩
  | .hbm, ⟨3, _⟩ => ⟨S2x128x128, .bf16⟩
  | .hbm, ⟨4, _⟩ => ⟨S4x4x512x128, .bf16⟩
  | .hbm, ⟨5, _⟩ => ⟨S4x4x64x512, .bf16⟩
  | .local _ .vmem, ⟨0, _⟩ => ⟨S1x8192x128, .f32⟩
  | .local _ .vmem, ⟨1, _⟩ => ⟨S1x8192x128, .f32⟩
  | .local _ .vmem, ⟨2, _⟩ => ⟨S1x8192x128, .f32⟩
  | .local _ .vmem, ⟨3, _⟩ => ⟨S1x8192x128, .f32⟩
  | .local _ .vmem, ⟨4, _⟩ => ⟨S2x32x128, .f32⟩
  | .local _ .vmem, ⟨5, _⟩ => ⟨S2x32x128x128, .bf16⟩
  | .local _ .vmem, ⟨6, _⟩ => ⟨S2x128x128, .bf16⟩
  | .local _ .vmem, ⟨7, _⟩ => ⟨S1x2x512x128, .bf16⟩
  | .local _ .vmem, ⟨8, _⟩ => ⟨S1x2x512x128, .bf16⟩
  | .local _ .vmem, ⟨9, _⟩ => ⟨S1x2x64x512, .bf16⟩
  | .local _ .vmem, ⟨10, _⟩ => ⟨S1x2x64x512, .bf16⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2x32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x32x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Proof.Hoare.lean ====
/-
  A small Hoare logic for the attention body: a triple says that a program, run from the ten staged inputs at fixed
  contents and the five buffers the body writes (the output block, the tile list in scalar memory, the running maxima,
  the accumulator, the window's weights) at given contents, returns a value and leaves contents that satisfy a
  plain proposition.
-/
module

public import proofs.«01_k».proof.Proof.Gen.KernelIdeal.Frame
public import proofs.«01_k».proof.Proof.Gen.KernelIdeal.Skeleton
public import Idealize.ShloMosaic.Lib.Tactic
public import Idealize.ShloMosaic.Lib.Writes

@[expose] public section

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ
/-- Programs of the body. -/
abbrev PG (F : FTy → Type) (α : Type) : Type _ := Prog (TpuEff nD τ sig (Elt F) Λ₀ .tc) α

/-- A memref's contents on core `c`. -/
abbrev Cont (F : FTy → Type) (c : Dev nD) {sp : Space} {s : Shape} {e : EltTy} (M : Memref sig .tc sp s e) : Type :=
  Buf (Elt F) (M.view.loc (c : Thread nD τ))

/-- A memref's buffer on core `c`, held whole. -/
abbrev hold (c : Dev nD) {sp : Space} {s : Shape} {e : EltTy} (M : Memref sig .tc sp s e) (f : Cont F c M) : sProp 𝕄 :=
  M.view.loc (c : Thread nD τ) ↦{fullShare} f

/-- The fifteen memrefs the body is called with, each a whole buffer. -/
structure Refs where
  a3 : Memref sig .tc .vmem S1x256x256 .bf16
  h3 : a3.IsWhole
  a4 : Memref sig .tc .vmem S1x16x256 .f32
  h4 : a4.IsWhole
  a5 : Memref sig .tc .vmem S1x1x512x128 .bf16
  h5 : a5.IsWhole
  a6 : Memref sig .tc .vmem S1x1x64x512 .bf16
  h6 : a6.IsWhole
  a7 : Memref sig .tc .vmem S1x1x8704x256 .bf16
  h7 : a7.IsWhole
  a8 : Memref sig .tc .vmem S1x1x68x80x128 .bf16
  h8 : a8.IsWhole
  a9 : Memref sig .tc .vmem S1x1x8192x128 .bf16
  h9 : a9.IsWhole
  a10 : Memref sig .tc .vmem S1x1x64x80x128 .bf16
  h10 : a10.IsWhole
  a11 : Memref sig .tc .vmem S128x512 .bf16
  h11 : a11.IsWhole
  a12 : Memref sig .tc .vmem S1x64x1024 .bf16
  h12 : a12.IsWhole
  a13 : Memref sig .tc .vmem S1x256x256 .bf16
  h13 : a13.IsWhole
  a14 : Memref sig .tc .smem S72 .i32
  h14 : a14.IsWhole
  a15 : Memref sig .tc .vmem S1x1024 .f32
  h15 : a15.IsWhole
  a16 : Memref sig .tc .vmem S80x1024 .f32
  h16 : a16.IsWhole
  a17 : Memref sig .tc .vmem S4x6x128x256 .f32
  h17 : a17.IsWhole

/-- The contents of the ten staged inputs. -/
structure Ins (F : FTy → Type) (c : Dev nD) (R : Refs) where
  q : Cont F c R.a3
  gates : Cont F c R.a4
  kc : Cont F c R.a5
  vc : Cont F c R.a6
  ks : Cont F c R.a7
  vs : Cont F c R.a8
  kw : Cont F c R.a9
  vw : Cont F c R.a10
  map : Cont F c R.a11
  slopes : Cont F c R.a12

/-- The contents of the five buffers the body writes. -/
structure Outs (F : FTy → Type) (c : Dev nD) (R : Refs) where
  out : Cont F c R.a13
  list : Cont F c R.a14
  mx : Cont F c R.a15
  acc : Cont F c R.a16
  wt : Cont F c R.a17

section Triples

variable {c : Dev nD} {R : Refs}

/-- All fifteen buffers held whole at the given contents. -/
def Own (g : Ins F c R) (σ : Outs F c R) : sProp 𝕄 :=
  iprop(hold c R.a3 g.q ∗ hold c R.a4 g.gates ∗ hold c R.a5 g.kc ∗ hold c R.a6 g.vc ∗ hold c R.a7 g.ks ∗ hold c R.a8 g.vs
    ∗ hold c R.a9 g.kw ∗ hold c R.a10 g.vw ∗ hold c R.a11 g.map ∗ hold c R.a12 g.slopes
    ∗ hold c R.a13 σ.out ∗ hold c R.a14 σ.list ∗ hold c R.a15 σ.mx ∗ hold c R.a16 σ.acc ∗ hold c R.a17 σ.wt)

/-- The triple: run from `σ`, `p` returns some `v` and leaves some `σ'` with `Φ v σ'`. -/
def Run {α : Type} (g : Ins F c R) (σ : Outs F c R) (p : PG F α) (Φ : α → Outs F c R → Prop) : Prop :=
  Own g σ ⊢ wp frame (wpE (defs₀ (F := F)) Variants.none (c : Thread nD τ) none) Set.univ p
    (fun v => iprop(∃ σ' : Outs F c R, ⌜Φ v σ'⌝ ∗ Own g σ'))

variable {α β : Type} {g : Ins F c R} {σ : Outs F c R}

theorem Run.ret {v : α} {Φ : α → Outs F c R → Prop} (h : Φ v σ) : Run g σ (pure v : PG F α) Φ := by
  unfold Run
  refine BIBase.Entails.trans ?_ (le_wp_ret _ _ _ v _)
  iintro H
  iexists σ
  isplitr [H]
  · ipureintro; exact h
  · iexact H

theorem Run.mono {p : PG F α} {Φ Ψ : α → Outs F c R → Prop} (hp : Run g σ p Φ) (h : ∀ v σ', Φ v σ' → Ψ v σ') : Run g σ p Ψ := by
  unfold Run at *
  refine hp.trans (wp_mono _ _ _ fun v => ?_)
  iintro ⟨%σ', %hΦ, H⟩
  iexists σ'
  isplitr [H]
  · ipureintro; exact h v σ' hΦ
  · iexact H

theorem Run.bind {p : PG F α} {k : α → PG F β} {Ψ : α → Outs F c R → Prop} {Φ : β → Outs F c R → Prop} (hp : Run g σ p Ψ)
    (hk : ∀ v σ', Ψ v σ' → Run g σ' (k v) Φ) : Run g σ (p >>= k) Φ := by
  unfold Run at *
  rw [wp_bind]
  refine hp.trans (wp_mono _ _ _ fun v => ?_)
  iintro ⟨%σ', %hΨ, H⟩
  iapply (hk v σ' hΨ)
  iexact H

/-- A resource in which a memref's buffer is held whole. -/
def Has (A : sProp 𝕄) {sp : Space} {s : Shape} {e : EltTy} (M : Memref sig .tc sp s e) (f : Cont F c M) : Prop :=
  A ⊢ iprop(hold c M f ∗ (hold c M f -∗ A))

theorem Run.load_has {cs : CoreSpace} {s : Shape} {e : EltTy} {M : Memref sig .tc cs s e} {f : Cont F c M} (hM : Has (Own g σ) M f)
    {r : LoadRect s} {hl : M.view.LoadsAt r} {k : (r.shape.Idx → Elt F e) → PG F β} {Φ : β → Outs F c R → Prop}
    (hk : Run g σ (k (M.view.readAt (Elt F) r f)) Φ) : Run g σ (Prog.lift (.load M r hl) >>= k) Φ := by
  unfold Run Has at *
  refine hM.trans ?_
  show _ ⊢ wp frame (wpE (defs₀ (F := F)) Variants.none (c : Thread nD τ) none) Set.univ (.op (.load M r hl) k) _
  iintro ⟨H, HA⟩
  iapply (wp_load Variants.none (c : Thread nD τ) none (Set.univ : Set ℕ) (Finset.subset_univ _)) $$ H
  iintro H
  iapply hk
  iapply HA
  iexact H

theorem Run.smem_has {s : Shape} {e : EltTy} {M : Memref sig .tc .smem s e} {f : Cont F c M} (hM : Has (Own g σ) M f)
    {r : Rect s} {h1 : r.shape.numel = 1} {hp : e.packing = 1} {k : Elt F e → PG F β} {Φ : β → Outs F c R → Prop}
    (hk : Run g σ (k ((M.access r).read (Elt F) f (Shape.Idx.first (h1.symm ▸ Nat.one_pos)))) Φ) :
    Run g σ (smemLoad M r h1 hp >>= k) Φ := by
  unfold Run Has at *
  refine hM.trans ?_
  show _ ⊢ wp frame (wpE (defs₀ (F := F)) Variants.none (c : Thread nD τ) none) Set.univ (smemLoadElt M r (View.loads_smem_one hp h1) (Shape.Idx.first (h1.symm ▸ Nat.one_pos)) k) _
  iintro ⟨H, HA⟩
  iapply (wp_smemLoadElt Variants.none (c : Thread nD τ) none (Set.univ : Set ℕ) (m := M) (r := r) (hw := View.loads_smem_one hp h1)
    (x := Shape.Idx.first (h1.symm ▸ Nat.one_pos)) (k := k) (q := fullShare) (f := f) (Finset.subset_univ _)) $$ H
  iintro H
  iapply hk
  iapply HA
  iexact H

theorem Run.store_has {cs : CoreSpace} {s : Shape} {e : EltTy} {M : Memref sig .tc cs s e} {f : Cont F c M} {st : Cont F c M → Outs F c R}
    (hM : ∀ f', Own g σ ⊢ iprop(hold c M f ∗ (hold c M f' -∗ Own g (st f'))))
    {r : Rect s} {w : r.shape.Idx → Elt F e} {Mk : Finset r.shape.Idx} {hx : (M.access r).Stores Mk} {hm : Mk = Finset.univ ∨ ∀ a, r.stride a = 1}
    {k : PUnit → PG F β} {Φ : β → Outs F c R → Prop} (hk : Run g (st ((M.access r).write (Elt F) f w Mk)) (k ⟨⟩) Φ) :
    Run g σ (Prog.lift (.store M r w Mk hx hm) >>= k) Φ := by
  unfold Run at *
  refine (hM ((M.access r).write (Elt F) f w Mk)).trans ?_
  show _ ⊢ wp frame (wpE (defs₀ (F := F)) Variants.none (c : Thread nD τ) none) Set.univ (.op (.store M r w Mk hx hm) k) _
  iintro ⟨H, HA⟩
  iapply (wp_store Variants.none (c : Thread nD τ) none (Set.univ : Set ℕ) (w := w) (hx := hx) (hm := hm) (k := k) (Mk := Mk) (f := f) (Finset.subset_univ _)) $$ H
  iintro H
  iapply hk
  iapply HA
  iexact H

theorem Run.assume {P : Prop} {d : Decidable P} {k : PLift P → PG F β} {Φ : β → Outs F c R → Prop} (h : P) (hk : Run g σ (k ⟨h⟩) Φ) :
    Run g σ (Prog.lift (.assume P d) >>= k) Φ := by
  unfold Run at *
  exact hk.trans (wp_assume Variants.none (c : Thread nD τ) none (Set.univ : Set ℕ) h)

theorem Run.for {n : ℕ} {σt : Type} {L : Scf.Loop n} {hok : L.OK} {init : σt} {body : Fin L.trips → σt → PG F σt}
    (I : ℕ → σt → Outs F c R → Prop) (h0 : I 0 init σ) (hs : ∀ (t : Fin L.trips) a σ', I t.val a σ' → Run g σ' (body t a) (I (t.val + 1))) :
    Run g σ (Scf.Loop.for L hok init body) (I L.trips) := by
  unfold Run
  have := Scf.wp_for frame (wpE (defs₀ (F := F)) Variants.none (c : Thread nD τ) none) (Set.univ : Set ℕ) L.lb L.ub L.st hok init body
    (fun n a => iprop(∃ σ' : Outs F c R, ⌜I n a σ'⌝ ∗ Own g σ')) (fun t a => by
      iintro ⟨%σ', %hI, H⟩
      have hst := hs t a σ' hI
      unfold Run at hst
      iapply hst
      iexact H) (Q := fun a => iprop(∃ σ' : Outs F c R, ⌜I L.trips a σ'⌝ ∗ Own g σ'))
  refine BIBase.Entails.trans ?_ this
  iintro H
  isplitl [H]
  · iexists σ
    isplitr [H]
    · ipureintro; exact h0
    · iexact H
  · iintro %a H
    iexact H

theorem Run.load_any {cs : CoreSpace} {s : Shape} {e : EltTy} {M : Memref sig .tc cs s e} {f : Cont F c M} (hM : Has (Own g σ) M f)
    {r : LoadRect s} {hl : M.view.LoadsAt r} {k : (r.shape.Idx → Elt F e) → PG F β} {Φ : β → Outs F c R → Prop}
    (hk : ∀ v, Run g σ (k v) Φ) : Run g σ (Prog.lift (.load M r hl) >>= k) Φ := Run.load_has hM (hk _)

theorem has3 : Has (Own g σ) R.a3 g.q := by
  unfold Has Own
  iintro ⟨H3, H4, H5, H6, H7, H8, H9, H10, H11, H12, H13, H14, H15, H16, H17⟩
  isplitl [H3]
  · iexact H3
  iintro H3
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem has4 : Has (Own g σ) R.a4 g.gates := by
  unfold Has Own
  iintro ⟨H3, H4, H5, H6, H7, H8, H9, H10, H11, H12, H13, H14, H15, H16, H17⟩
  isplitl [H4]
  · iexact H4
  iintro H4
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem has5 : Has (Own g σ) R.a5 g.kc := by
  unfold Has Own
  iintro ⟨H3, H4, H5, H6, H7, H8, H9, H10, H11, H12, H13, H14, H15, H16, H17⟩
  isplitl [H5]
  · iexact H5
  iintro H5
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem has6 : Has (Own g σ) R.a6 g.vc := by
  unfold Has Own
  iintro ⟨H3, H4, H5, H6, H7, H8, H9, H10, H11, H12, H13, H14, H15, H16, H17⟩
  isplitl [H6]
  · iexact H6
  iintro H6
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem has7 : Has (Own g σ) R.a7 g.ks := by
  unfold Has Own
  iintro ⟨H3, H4, H5, H6, H7, H8, H9, H10, H11, H12, H13, H14, H15, H16, H17⟩
  isplitl [H7]
  · iexact H7
  iintro H7
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem has8 : Has (Own g σ) R.a8 g.vs := by
  unfold Has Own
  iintro ⟨H3, H4, H5, H6, H7, H8, H9, H10, H11, H12, H13, H14, H15, H16, H17⟩
  isplitl [H8]
  · iexact H8
  iintro H8
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem has9 : Has (Own g σ) R.a9 g.kw := by
  unfold Has Own
  iintro ⟨H3, H4, H5, H6, H7, H8, H9, H10, H11, H12, H13, H14, H15, H16, H17⟩
  isplitl [H9]
  · iexact H9
  iintro H9
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem has10 : Has (Own g σ) R.a10 g.vw := by
  unfold Has Own
  iintro ⟨H3, H4, H5, H6, H7, H8, H9, H10, H11, H12, H13, H14, H15, H16, H17⟩
  isplitl [H10]
  · iexact H10
  iintro H10
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem has11 : Has (Own g σ) R.a11 g.map := by
  unfold Has Own
  iintro ⟨H3, H4, H5, H6, H7, H8, H9, H10, H11, H12, H13, H14, H15, H16, H17⟩
  isplitl [H11]
  · iexact H11
  iintro H11
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem has12 : Has (Own g σ) R.a12 g.slopes := by
  unfold Has Own
  iintro ⟨H3, H4, H5, H6, H7, H8, H9, H10, H11, H12, H13, H14, H15, H16, H17⟩
  isplitl [H12]
  · iexact H12
  iintro H12
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem has13 : Has (Own g σ) R.a13 σ.out := by
  unfold Has Own
  iintro ⟨H3, H4, H5, H6, H7, H8, H9, H10, H11, H12, H13, H14, H15, H16, H17⟩
  isplitl [H13]
  · iexact H13
  iintro H13
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem has14 : Has (Own g σ) R.a14 σ.list := by
  unfold Has Own
  iintro ⟨H3, H4, H5, H6, H7, H8, H9, H10, H11, H12, H13, H14, H15, H16, H17⟩
  isplitl [H14]
  · iexact H14
  iintro H14
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem has15 : Has (Own g σ) R.a15 σ.mx := by
  unfold Has Own
  iintro ⟨H3, H4, H5, H6, H7, H8, H9, H10, H11, H12, H13, H14, H15, H16, H17⟩
  isplitl [H15]
  · iexact H15
  iintro H15
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem has16 : Has (Own g σ) R.a16 σ.acc := by
  unfold Has Own
  iintro ⟨H3, H4, H5, H6, H7, H8, H9, H10, H11, H12, H13, H14, H15, H16, H17⟩
  isplitl [H16]
  · iexact H16
  iintro H16
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem has17 : Has (Own g σ) R.a17 σ.wt := by
  unfold Has Own
  iintro ⟨H3, H4, H5, H6, H7, H8, H9, H10, H11, H12, H13, H14, H15, H16, H17⟩
  isplitl [H17]
  · iexact H17
  iintro H17
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem set13 (f' : Cont F c R.a13) : Own g σ ⊢ iprop(hold c R.a13 σ.out ∗ (hold c R.a13 f' -∗ Own g { σ with out := f' })) := by
  unfold Own
  iintro ⟨H3, H4, H5, H6, H7, H8, H9, H10, H11, H12, H13, H14, H15, H16, H17⟩
  isplitl [H13]
  · iexact H13
  iintro H13
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem set14 (f' : Cont F c R.a14) : Own g σ ⊢ iprop(hold c R.a14 σ.list ∗ (hold c R.a14 f' -∗ Own g { σ with list := f' })) := by
  unfold Own
  iintro ⟨H3, H4, H5, H6, H7, H8, H9, H10, H11, H12, H13, H14, H15, H16, H17⟩
  isplitl [H14]
  · iexact H14
  iintro H14
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem set15 (f' : Cont F c R.a15) : Own g σ ⊢ iprop(hold c R.a15 σ.mx ∗ (hold c R.a15 f' -∗ Own g { σ with mx := f' })) := by
  unfold Own
  iintro ⟨H3, H4, H5, H6, H7, H8, H9, H10, H11, H12, H13, H14, H15, H16, H17⟩
  isplitl [H15]
  · iexact H15
  iintro H15
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem set16 (f' : Cont F c R.a16) : Own g σ ⊢ iprop(hold c R.a16 σ.acc ∗ (hold c R.a16 f' -∗ Own g { σ with acc := f' })) := by
  unfold Own
  iintro ⟨H3, H4, H5, H6, H7, H8, H9, H10, H11, H12, H13, H14, H15, H16, H17⟩
  isplitl [H16]
  · iexact H16
  iintro H16
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem set17 (f' : Cont F c R.a17) : Own g σ ⊢ iprop(hold c R.a17 σ.wt ∗ (hold c R.a17 f' -∗ Own g { σ with wt := f' })) := by
  unfold Own
  iintro ⟨H3, H4, H5, H6, H7, H8, H9, H10, H11, H12, H13, H14, H15, H16, H17⟩
  isplitl [H17]
  · iexact H17
  iintro H17
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

end Triples

end Cert.KernelIdeal.Attn

end
-- ==== Proof.Safe.lean ====
/-
  What the attention body does to its buffers, said once: `Safe R n p m` — started with the first `n` entries of the tile
  list naming tiles that exist, the program `p` touches the body's own buffers alone, owes no false side condition, and
  leaves, returning `v`, the first `m v` entries naming tiles that exist.
-/
module

public import proofs.«01_k».proof.Proof.Hoare

@[expose] public section

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI Idealize.SL.Sem

variable {F : FTy → Type} [FloatOps F]

/-- The first `n` words of the tile list name tiles that exist (the last ones being the shared null tiles). -/
def Listed (c : Dev nD) (M : Memref sig .tc .smem S72 .i32) (f : Cont F c M) (n : ℕ) : Prop :=
  ∀ y : S72.Idx, (y 0).val < n → ((M.view.read (Elt F) f y : BitVec 32)).toNat < 68

theorem Listed.mono {c : Dev nD} {M : Memref sig .tc .smem S72 .i32} {f : Cont F c M} {n m : ℕ} (h : Listed c M f n) (hmn : m ≤ n) : Listed c M f m :=
  fun y hy => h y (lt_of_lt_of_le hy hmn)

/-- One word written at an offset within the named entries, or just past them. -/
theorem Listed.write {c : Dev nD} {M : Memref sig .tc .smem S72 .i32} {f : Cont F c M} {n : ℕ} (h : Listed c M f n) (off : Fin 1 → ℕ)
    (inb : ∀ a, off a + S1.size a ≤ S72.size a) (hoff : off 0 ≤ n) (w : BitVec 32) (hw : w.toNat < 68) :
    Listed c M ((M.access (Rect.unit (s := S72) off S1.size inb)).write (Elt F) f (fun _ => w) Finset.univ) (off 0 + 1) := by
  intro y hy
  by_cases hyo : (y 0).val = off 0
  · have := View.read_writes_cons_hit_of_coords (Val := Elt F) (v := M.view) (f := f) (Rect.unit (s := S72) off S1.size inb) (fun _ => w) []
      (fun a => ⟨0, by fin_cases a; exact Nat.one_pos⟩) y (by
        intro a
        fin_cases a
        simpa [Rect.unit] using hyo)
    rw [View.writes_cons, View.writes_nil] at this
    exact lt_of_eq_of_lt (congrArg BitVec.toNat this) hw
  · have := View.read_writes_cons_miss_of_axis (Val := Elt F) (v := M.view) (f := f) (⟨Rect.unit (s := S72) off S1.size inb, fun _ => w⟩) [] y 0
      (off 0) 1 rfl rfl rfl (by omega)
    rw [View.writes_cons, View.writes_nil] at this
    exact lt_of_eq_of_lt (congrArg BitVec.toNat this) (h y (by omega))

/-- A word read at an offset within the named entries names a tile that exists. -/
theorem Listed.read {c : Dev nD} {M : Memref sig .tc .smem S72 .i32} {f : Cont F c M} {n : ℕ} (h : Listed c M f n) (off : Fin 1 → ℕ)
    (inb : ∀ a, off a + S1.size a ≤ S72.size a) (hoff : off 0 < n) (x : (Rect.unit (s := S72) off S1.size inb).shape.Idx) :
    BitVec.toNat (w := 32) ((M.access (Rect.unit (s := S72) off S1.size inb)).read (Elt F) f x) < 68 := by
  refine h ((Rect.unit (s := S72) off S1.size inb).emb x) ?_
  have h0 : (x 0).val < 1 := (x 0).isLt
  have : (((Rect.unit (s := S72) off S1.size inb).emb x) 0).val = off 0 + 1 * (x 0).val := rfl
  omega

section

variable (R : Refs)

/-- `Safe R n p m`: see the head of this file. -/
inductive Safe : {α : Type} → ℕ → PG F α → (α → ℕ) → Prop
  | l3 {α : Type} {n : ℕ} {m : α → ℕ} {r} {hl} {k : _ → PG F α} : (∀ v, Safe n (k v) m) → Safe n (Prog.lift (.load R.a3 r hl) >>= k) m
  | l4 {α : Type} {n : ℕ} {m : α → ℕ} {r} {hl} {k : _ → PG F α} : (∀ v, Safe n (k v) m) → Safe n (Prog.lift (.load R.a4 r hl) >>= k) m
  | l5 {α : Type} {n : ℕ} {m : α → ℕ} {r} {hl} {k : _ → PG F α} : (∀ v, Safe n (k v) m) → Safe n (Prog.lift (.load R.a5 r hl) >>= k) m
  | l6 {α : Type} {n : ℕ} {m : α → ℕ} {r} {hl} {k : _ → PG F α} : (∀ v, Safe n (k v) m) → Safe n (Prog.lift (.load R.a6 r hl) >>= k) m
  | l7 {α : Type} {n : ℕ} {m : α → ℕ} {r} {hl} {k : _ → PG F α} : (∀ v, Safe n (k v) m) → Safe n (Prog.lift (.load R.a7 r hl) >>= k) m
  | l8 {α : Type} {n : ℕ} {m : α → ℕ} {r} {hl} {k : _ → PG F α} : (∀ v, Safe n (k v) m) → Safe n (Prog.lift (.load R.a8 r hl) >>= k) m
  | l9 {α : Type} {n : ℕ} {m : α → ℕ} {r} {hl} {k : _ → PG F α} : (∀ v, Safe n (k v) m) → Safe n (Prog.lift (.load R.a9 r hl) >>= k) m
  | l10 {α : Type} {n : ℕ} {m : α → ℕ} {r} {hl} {k : _ → PG F α} : (∀ v, Safe n (k v) m) → Safe n (Prog.lift (.load R.a10 r hl) >>= k) m
  | l11 {α : Type} {n : ℕ} {m : α → ℕ} {r} {hl} {k : _ → PG F α} : (∀ v, Safe n (k v) m) → Safe n (Prog.lift (.load R.a11 r hl) >>= k) m
  | l12 {α : Type} {n : ℕ} {m : α → ℕ} {r} {hl} {k : _ → PG F α} : (∀ v, Safe n (k v) m) → Safe n (Prog.lift (.load R.a12 r hl) >>= k) m
  | l13 {α : Type} {n : ℕ} {m : α → ℕ} {r} {hl} {k : _ → PG F α} : (∀ v, Safe n (k v) m) → Safe n (Prog.lift (.load R.a13 r hl) >>= k) m
  | l15 {α : Type} {n : ℕ} {m : α → ℕ} {r} {hl} {k : _ → PG F α} : (∀ v, Safe n (k v) m) → Safe n (Prog.lift (.load R.a15 r hl) >>= k) m
  | l16 {α : Type} {n : ℕ} {m : α → ℕ} {r} {hl} {k : _ → PG F α} : (∀ v, Safe n (k v) m) → Safe n (Prog.lift (.load R.a16 r hl) >>= k) m
  | l17 {α : Type} {n : ℕ} {m : α → ℕ} {r} {hl} {k : _ → PG F α} : (∀ v, Safe n (k v) m) → Safe n (Prog.lift (.load R.a17 r hl) >>= k) m
  | s13 {α : Type} {n : ℕ} {m : α → ℕ} {r} {w} {Mk} {hx} {hm} {k : PUnit → PG F α} : Safe n (k ⟨⟩) m → Safe n (Prog.lift (.store R.a13 r w Mk hx hm) >>= k) m
  | s15 {α : Type} {n : ℕ} {m : α → ℕ} {r} {w} {Mk} {hx} {hm} {k : PUnit → PG F α} : Safe n (k ⟨⟩) m → Safe n (Prog.lift (.store R.a15 r w Mk hx hm) >>= k) m
  | s16 {α : Type} {n : ℕ} {m : α → ℕ} {r} {w} {Mk} {hx} {hm} {k : PUnit → PG F α} : Safe n (k ⟨⟩) m → Safe n (Prog.lift (.store R.a16 r w Mk hx hm) >>= k) m
  | s17 {α : Type} {n : ℕ} {m : α → ℕ} {r} {w} {Mk} {hx} {hm} {k : PUnit → PG F α} : Safe n (k ⟨⟩) m → Safe n (Prog.lift (.store R.a17 r w Mk hx hm) >>= k) m
  | word {α : Type} {n : ℕ} {m : α → ℕ} {off inb h1 hp} {k : BitVec 32 → PG F α} : off 0 < n → (∀ w, w.toNat < 68 → Safe n (k w) m) →
      Safe n (smemLoad R.a14 (Rect.unit (s := S72) off S1.size inb) h1 hp >>= k) m
  | peek {α : Type} {n : ℕ} {m : α → ℕ} {r h1 hp} {k : BitVec 32 → PG F α} : (∀ w, Safe n (k w) m) → Safe n (smemLoad R.a14 r h1 hp >>= k) m
  | put {α : Type} {n : ℕ} {m : α → ℕ} {off inb} {w : BitVec 32} {hx hm} {k : PUnit → PG F α} : off 0 ≤ n → w.toNat < 68 → Safe (off 0 + 1) (k ⟨⟩) m →
      Safe n (Prog.lift (.store R.a14 (Rect.unit (s := S72) off S1.size inb) (fun _ => w) Finset.univ hx hm) >>= k) m
  | assume {α : Type} {n : ℕ} {m : α → ℕ} {P : Prop} {d} {k : PLift P → PG F α} (h : P) : Safe n (k ⟨h⟩) m → Safe n (Prog.lift (.assume P d) >>= k) m
  | bind {α β : Type} {n : ℕ} {m : α → ℕ} {l : β → ℕ} {p : PG F α} {k : α → PG F β} : Safe n p m → (∀ v, Safe (m v) (k v) l) → Safe n (p >>= k) l
  | loop {σt : Type} {n w : ℕ} {L : Scf.Loop w} {hok : L.OK} {init : σt} {body : Fin L.trips → σt → PG F σt} :
      (∀ t a, Safe n (body t a) (fun _ => n)) → Safe n (Scf.Loop.for L hok init body) (fun _ => n)
  | cond {α : Type} {n : ℕ} {m : α → ℕ} {P : Prop} {_dec : Decidable P} {p : P → PG F α} {q : ¬P → PG F α} :
      (∀ h, Safe n (p h) m) → (∀ h, Safe n (q h) m) → Safe n (if h : P then p h else q h) m
  | ret {α : Type} {n : ℕ} {m : α → ℕ} {v : α} : m v ≤ n → Safe n (pure v) m

/-- What a safe program does, as a triple: from any contents whose list names `n` tiles, to contents whose list names `m`. -/
theorem Safe.run {α : Type} {n : ℕ} {m : α → ℕ} {p : PG F α} (h : Safe R n p m) {c : Dev nD} (g : Ins F c R) :
    ∀ σ : Outs F c R, Listed c R.a14 σ.list n → Run g σ p (fun v σ' => Listed c R.a14 σ'.list (m v)) := by
  induction h with
  | l3 _ ih => exact fun σ hσ => Run.load_has has3 (ih _ σ hσ)
  | l4 _ ih => exact fun σ hσ => Run.load_has has4 (ih _ σ hσ)
  | l5 _ ih => exact fun σ hσ => Run.load_has has5 (ih _ σ hσ)
  | l6 _ ih => exact fun σ hσ => Run.load_has has6 (ih _ σ hσ)
  | l7 _ ih => exact fun σ hσ => Run.load_has has7 (ih _ σ hσ)
  | l8 _ ih => exact fun σ hσ => Run.load_has has8 (ih _ σ hσ)
  | l9 _ ih => exact fun σ hσ => Run.load_has has9 (ih _ σ hσ)
  | l10 _ ih => exact fun σ hσ => Run.load_has has10 (ih _ σ hσ)
  | l11 _ ih => exact fun σ hσ => Run.load_has has11 (ih _ σ hσ)
  | l12 _ ih => exact fun σ hσ => Run.load_has has12 (ih _ σ hσ)
  | l13 _ ih => exact fun σ hσ => Run.load_has has13 (ih _ σ hσ)
  | l15 _ ih => exact fun σ hσ => Run.load_has has15 (ih _ σ hσ)
  | l16 _ ih => exact fun σ hσ => Run.load_has has16 (ih _ σ hσ)
  | l17 _ ih => exact fun σ hσ => Run.load_has has17 (ih _ σ hσ)
  | s13 _ ih => exact fun σ hσ => Run.store_has set13 (ih _ hσ)
  | s15 _ ih => exact fun σ hσ => Run.store_has set15 (ih _ hσ)
  | s16 _ ih => exact fun σ hσ => Run.store_has set16 (ih _ hσ)
  | s17 _ ih => exact fun σ hσ => Run.store_has set17 (ih _ hσ)
  | word ho _ ih => exact fun σ hσ => Run.smem_has has14 (ih _ (hσ.read _ _ ho _) σ hσ)
  | peek _ ih => exact fun σ hσ => Run.smem_has has14 (ih _ σ hσ)
  | put ho hw _ ih => exact fun σ hσ => Run.store_has set14 (ih _ (hσ.write _ _ ho _ hw))
  | assume h _ ih => exact fun σ hσ => Run.assume h (ih σ hσ)
  | bind _ _ ihp ihk => exact fun σ hσ => Run.bind (ihp σ hσ) fun v σ' h' => ihk v σ' h'
  | loop _ ih => exact fun σ hσ => Run.for (fun _ _ σ' => Listed c R.a14 σ'.list _) hσ fun t a σ' h' => ih t a σ' h'
  | cond _ _ ihp ihq =>
    intro σ hσ
    split
    · exact ihp _ σ hσ
    · exact ihq _ σ hσ
  | ret hmn => exact fun σ hσ => Run.ret (hσ.mono hmn)

end

end Cert.KernelIdeal.Attn

end
-- ==== Proof.Compressed.lean ====
/-
  The compressed branch's parts are safe: they load and store only buffers the launch holds.
-/
module

public import proofs.«01_k».proof.Proof.Safe

@[expose] public section

set_option maxHeartbeats 4000000
set_option maxRecDepth 100000

noncomputable section

namespace Cert.KernelIdeal.Attn

open Cert.KernelIdeal Cert.KernelIdeal.Gen
open Idealize.ShloMosaic Idealize.ShloMosaic.TcCoe

variable {F : FTy → Type} [FloatOps F]

variable (R : Refs)

theorem safe1 {i : grid0.Coords} {v3 : IVec S1x256 32} {v10 : FVec F S128x256 .bf16} {v13 : FVec F S128x256 .bf16} {v16 : FVec F S128x256 .bf16} {v19 : FVec F S128x256 .bf16} {n : ℕ} :
    Safe (F := F) R n (k0_part1 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v3 v10 v13 v16 v19) (fun _ => n) := by
  rw [k0_part1_eq_skeleton]; unfold k0_part1_skel
  refine .l5 fun _ => ?_
  refine .l6 fun _ => ?_
  exact .ret le_rfl

theorem safe2 {i : grid0.Coords} {v2041 : IVec S512x256 1} {v2045 : FVec F S64x512 .bf16} {v2048 : FVec F S512x256 .f32} {v2049 : FVec F S512x256 .f32} {v2066 : FVec F S512x256 .f32} {v2070 : FVec F S512x256 .f32} {n : ℕ} :
    Safe (F := F) R n (k0_part2 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v2041 v2045 v2048 v2049 v2066 v2070) (fun _ => n) := by
  rw [k0_part2_eq_skeleton]; unfold k0_part2_skel
  exact .ret le_rfl

theorem safe3 {i : grid0.Coords} {v10 : FVec F S128x256 .bf16} {v39 : BitVec 32} {v42 : BitVec 32} {k0_h1 : k0_cond1 i = 1#1} {k0_h2 : k0_cond2 i = 1#1} {k0_h3 : k0_cond3 i = 1#1} {v2045 : FVec F S64x512 .bf16} {v2108 : FVec F S512x256 .f32} {v2110 : FVec F S512x256 .f32} {v2115 : FVec F S512x256 .f32} {n : ℕ} :
    Safe (F := F) R n (k0_part3 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v10 v39 v42 k0_h1 k0_h2 k0_h3 v2045 v2108 v2110 v2115) (fun _ => n) := by
  rw [k0_part3_eq_skeleton]; unfold k0_part3_skel
  refine .l11 fun _ => ?_
  refine .l9 fun _ => ?_
  refine .l17 fun _ => ?_
  refine .s17 ?_
  exact .ret le_rfl

theorem safe4 {i : grid0.Coords} {v10 : FVec F S128x256 .bf16} {v45 : BitVec 32} {v48 : BitVec 32} {v51 : BitVec 32} {k0_h1 : k0_cond1 i = 1#1} {k0_h2 : k0_cond2 i = 1#1} {k0_h3 : k0_cond3 i = 1#1} {v2154 : BitVec 32} {n : ℕ} :
    Safe (F := F) R n (k0_part4 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v10 v45 v48 v51 k0_h1 k0_h2 k0_h3 v2154) (fun _ => n) := by
  rw [k0_part4_eq_skeleton]; unfold k0_part4_skel
  refine .l9 fun _ => ?_
  refine .l17 fun _ => ?_
  refine .s17 ?_
  refine .l9 fun _ => ?_
  refine .l17 fun _ => ?_
  refine .s17 ?_
  refine .l9 fun _ => ?_
  refine .l17 fun _ => ?_
  refine .s17 ?_
  exact .ret le_rfl

theorem safe5 {i : grid0.Coords} {v10 : FVec F S128x256 .bf16} {v13 : FVec F S128x256 .bf16} {v39 : BitVec 32} {v42 : BitVec 32} {v54 : BitVec 32} {k0_h1 : k0_cond1 i = 1#1} {k0_h2 : k0_cond2 i = 1#1} {k0_h3 : k0_cond3 i = 1#1} {v2182 : BitVec 32} {n : ℕ} :
    Safe (F := F) R n (k0_part5 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v10 v13 v39 v42 v54 k0_h1 k0_h2 k0_h3 v2182) (fun _ => n) := by
  rw [k0_part5_eq_skeleton]; unfold k0_part5_skel
  refine .l9 fun _ => ?_
  refine .l17 fun _ => ?_
  refine .s17 ?_
  refine .l9 fun _ => ?_
  refine .l17 fun _ => ?_
  refine .s17 ?_
  refine .l9 fun _ => ?_
  refine .l17 fun _ => ?_
  refine .s17 ?_
  refine .l9 fun _ => ?_
  exact .ret le_rfl

theorem safe6 {i : grid0.Coords} {v13 : FVec F S128x256 .bf16} {v45 : BitVec 32} {v48 : BitVec 32} {v51 : BitVec 32} {k0_h1 : k0_cond1 i = 1#1} {k0_h2 : k0_cond2 i = 1#1} {k0_h3 : k0_cond3 i = 1#1} {v2211 : Vec F S1x1x128x128 .bf16} {n : ℕ} :
    Safe (F := F) R n (k0_part6 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v13 v45 v48 v51 k0_h1 k0_h2 k0_h3 v2211) (fun _ => n) := by
  rw [k0_part6_eq_skeleton]; unfold k0_part6_skel
  refine .l17 fun _ => ?_
  refine .s17 ?_
  refine .l9 fun _ => ?_
  refine .l17 fun _ => ?_
  refine .s17 ?_
  refine .l9 fun _ => ?_
  refine .l17 fun _ => ?_
  refine .s17 ?_
  refine .l9 fun _ => ?_
  exact .ret le_rfl

theorem safe7 {i : grid0.Coords} {v13 : FVec F S128x256 .bf16} {v16 : FVec F S128x256 .bf16} {v39 : BitVec 32} {v42 : BitVec 32} {v54 : BitVec 32} {k0_h1 : k0_cond1 i = 1#1} {k0_h2 : k0_cond2 i = 1#1} {k0_h3 : k0_cond3 i = 1#1} {v2240 : FVec F S128x256 .f32} {n : ℕ} :
    Safe (F := F) R n (k0_part7 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v13 v16 v39 v42 v54 k0_h1 k0_h2 k0_h3 v2240) (fun _ => n) := by
  rw [k0_part7_eq_skeleton]; unfold k0_part7_skel
  refine .l17 fun _ => ?_
  refine .s17 ?_
  refine .l9 fun _ => ?_
  refine .l17 fun _ => ?_
  refine .s17 ?_
  refine .l9 fun _ => ?_
  refine .l17 fun _ => ?_
  refine .s17 ?_
  refine .l9 fun _ => ?_
  exact .ret le_rfl

theorem safe8 {i : grid0.Coords} {v16 : FVec F S128x256 .bf16} {v45 : BitVec 32} {v48 : BitVec 32} {v51 : BitVec 32} {k0_h1 : k0_cond1 i = 1#1} {k0_h2 : k0_cond2 i = 1#1} {k0_h3 : k0_cond3 i = 1#1} {v2267 : FVec F S128x256 .f32} {n : ℕ} :
    Safe (F := F) R n (k0_part8 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v16 v45 v48 v51 k0_h1 k0_h2 k0_h3 v2267) (fun _ => n) := by
  rw [k0_part8_eq_skeleton]; unfold k0_part8_skel
  refine .l17 fun _ => ?_
  refine .s17 ?_
  refine .l9 fun _ => ?_
  refine .l17 fun _ => ?_
  refine .s17 ?_
  refine .l9 fun _ => ?_
  refine .l17 fun _ => ?_
  refine .s17 ?_
  refine .l9 fun _ => ?_
  refine .l17 fun _ => ?_
  exact .ret le_rfl

theorem safe9 {i : grid0.Coords} {v16 : FVec F S128x256 .bf16} {v19 : FVec F S128x256 .bf16} {v39 : BitVec 32} {v42 : BitVec 32} {v54 : BitVec 32} {k0_h1 : k0_cond1 i = 1#1} {k0_h2 : k0_cond2 i = 1#1} {k0_h3 : k0_cond3 i = 1#1} {v2294 : FVec F S128x256 .f32} {n : ℕ} :
    Safe (F := F) R n (k0_part9 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v16 v19 v39 v42 v54 k0_h1 k0_h2 k0_h3 v2294) (fun _ => n) := by
  rw [k0_part9_eq_skeleton]; unfold k0_part9_skel
  refine .s17 ?_
  refine .l9 fun _ => ?_
  refine .l17 fun _ => ?_
  refine .s17 ?_
  refine .l9 fun _ => ?_
  refine .l17 fun _ => ?_
  refine .s17 ?_
  refine .l9 fun _ => ?_
  refine .l17 fun _ => ?_
  refine .s17 ?_
  exact .ret le_rfl

theorem safe10 {i : grid0.Coords} {v19 : FVec F S128x256 .bf16} {v45 : BitVec 32} {v48 : BitVec 32} {v51 : BitVec 32} {v54 : BitVec 32} {k0_h1 : k0_cond1 i = 1#1} {k0_h2 : k0_cond2 i = 1#1} {k0_h3 : k0_cond3 i = 1#1} {c128_i32_1308 : BitVec 32} {n : ℕ} :
    Safe (F := F) R n (k0_part10 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v19 v45 v48 v51 v54 k0_h1 k0_h2 k0_h3 c128_i32_1308) (fun _ => n) := by
  rw [k0_part10_eq_skeleton]; unfold k0_part10_skel
  refine .l9 fun _ => ?_
  refine .l17 fun _ => ?_
  refine .s17 ?_
  refine .l9 fun _ => ?_
  refine .l17 fun _ => ?_
  refine .s17 ?_
  refine .l9 fun _ => ?_
  refine .l17 fun _ => ?_
  refine .s17 ?_
  exact .ret le_rfl

theorem safe11 {i : grid0.Coords} {v19 : FVec F S128x256 .bf16} {v78 : IVec S1x256 32} {k0_h1 : k0_cond1 i = 1#1} {k0_h2 : k0_cond2 i = 1#1} {k0_h3 : k0_cond3 i = 1#1} {v2144 : FVec F S128x256 .f32} {v2353 : BitVec 32} {n : ℕ} :
    Safe (F := F) R n (k0_part11 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v19 v78 k0_h1 k0_h2 k0_h3 v2144 v2353) (fun _ => n) := by
  rw [k0_part11_eq_skeleton]; unfold k0_part11_skel
  refine .l9 fun _ => ?_
  refine .l17 fun _ => ?_
  refine .s17 ?_
  exact .ret le_rfl

theorem safe12 {i : grid0.Coords} {v2378 : FVec F S128x256 .f32} {v2390 : FVec F S128x256 .f32} {v2394 : IVec S128x256 1} {v2395 : FVec F S128x256 .f32} {n : ℕ} :
    Safe (F := F) R n (k0_part12 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v2378 v2390 v2394 v2395) (fun _ => n) := by
  rw [k0_part12_eq_skeleton]; unfold k0_part12_skel
  exact .ret le_rfl

theorem safe13 {i : grid0.Coords} {v2378 : FVec F S128x256 .f32} {v2438 : FVec F S128x256 .f32} {v2440 : FVec F S1x256 .f32} {n : ℕ} :
    Safe (F := F) R n (k0_part13 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v2378 v2438 v2440) (fun _ => n) := by
  rw [k0_part13_eq_skeleton]; unfold k0_part13_skel
  exact .ret le_rfl

theorem safe14 {i : grid0.Coords} {v2378 : FVec F S128x256 .f32} {v2474 : FVec F S128x256 .f32} {v2484 : IVec S128x256 1} {v2485 : FVec F S128x256 .f32} {n : ℕ} :
    Safe (F := F) R n (k0_part14 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v2378 v2474 v2484 v2485) (fun _ => n) := by
  rw [k0_part14_eq_skeleton]; unfold k0_part14_skel
  exact .ret le_rfl

theorem safe15 {i : grid0.Coords} {v3 : IVec S1x256 32} {v10 : FVec F S128x256 .bf16} {v13 : FVec F S128x256 .bf16} {v16 : FVec F S128x256 .bf16} {v19 : FVec F S128x256 .bf16} {n : ℕ} :
    Safe (F := F) R n (k0_part15 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v3 v10 v13 v16 v19) (fun _ => n) := by
  rw [k0_part15_eq_skeleton]; unfold k0_part15_skel
  refine .l5 fun _ => ?_
  refine .l6 fun _ => ?_
  exact .ret le_rfl

theorem safe16 {i : grid0.Coords} {v2041 : IVec S384x256 1} {v2045 : FVec F S64x384 .bf16} {v2048 : FVec F S384x256 .f32} {v2049 : FVec F S384x256 .f32} {v2066 : FVec F S384x256 .f32} {v2070 : FVec F S384x256 .f32} {n : ℕ} :
    Safe (F := F) R n (k0_part16 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v2041 v2045 v2048 v2049 v2066 v2070) (fun _ => n) := by
  rw [k0_part16_eq_skeleton]; unfold k0_part16_skel
  exact .ret le_rfl

theorem safe17 {i : grid0.Coords} {v10 : FVec F S128x256 .bf16} {v39 : BitVec 32} {v42 : BitVec 32} {k0_h1 : k0_cond1 i = 1#1} {k0_h2 : k0_cond2 i = 1#1} {k0_h3 : ¬(k0_cond3 i = 1#1)} {v2045 : FVec F S64x384 .bf16} {v2108 : FVec F S384x256 .f32} {v2110 : FVec F S384x256 .f32} {v2115 : FVec F S384x256 .f32} {n : ℕ} :
    Safe (F := F) R n (k0_part17 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v10 v39 v42 k0_h1 k0_h2 k0_h3 v2045 v2108 v2110 v2115) (fun _ => n) := by
  rw [k0_part17_eq_skeleton]; unfold k0_part17_skel
  refine .l11 fun _ => ?_
  refine .l9 fun _ => ?_
  refine .l17 fun _ => ?_
  refine .s17 ?_
  exact .ret le_rfl

theorem safe18 {i : grid0.Coords} {v10 : FVec F S128x256 .bf16} {v45 : BitVec 32} {v48 : BitVec 32} {v51 : BitVec 32} {k0_h1 : k0_cond1 i = 1#1} {k0_h2 : k0_cond2 i = 1#1} {k0_h3 : ¬(k0_cond3 i = 1#1)} {v2154 : BitVec 32} {n : ℕ} :
    Safe (F := F) R n (k0_part18 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v10 v45 v48 v51 k0_h1 k0_h2 k0_h3 v2154) (fun _ => n) := by
  rw [k0_part18_eq_skeleton]; unfold k0_part18_skel
  refine .l9 fun _ => ?_
  refine .l17 fun _ => ?_
  refine .s17 ?_
  refine .l9 fun _ => ?_
  refine .l17 fun _ => ?_
  refine .s17 ?_
  refine .l9 fun _ => ?_
  refine .l17 fun _ => ?_
  refine .s17 ?_
  exact .ret le_rfl

theorem safe19 {i : grid0.Coords} {v10 : FVec F S128x256 .bf16} {v13 : FVec F S128x256 .bf16} {v39 : BitVec 32} {v42 : BitVec 32} {v54 : BitVec 32} {k0_h1 : k0_cond1 i = 1#1} {k0_h2 : k0_cond2 i = 1#1} {k0_h3 : ¬(k0_cond3 i = 1#1)} {v2182 : BitVec 32} {n : ℕ} :
    Safe (F := F) R n (k0_part19 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v10 v13 v39 v42 v54 k0_h1 k0_h2 k0_h3 v2182) (fun _ => n) := by
  rw [k0_part19_eq_skeleton]; unfold k0_part19_skel
  refine .l9 fun _ => ?_
  refine .l17 fun _ => ?_
  refine .s17 ?_
  refine .l9 fun _ => ?_
  refine .l17 fun _ => ?_
  refine .s17 ?_
  refine .l9 fun _ => ?_
  refine .l17 fun _ => ?_
  refine .s17 ?_
  refine .l9 fun _ => ?_
  exact .ret le_rfl

theorem safe20 {i : grid0.Coords} {v13 : FVec F S128x256 .bf16} {v45 : BitVec 32} {v48 : BitVec 32} {v51 : BitVec 32} {k0_h1 : k0_cond1 i = 1#1} {k0_h2 : k0_cond2 i = 1#1} {k0_h3 : ¬(k0_cond3 i = 1#1)} {v2211 : Vec F S1x1x128x128 .bf16} {n : ℕ} :
    Safe (F := F) R n (k0_part20 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v13 v45 v48 v51 k0_h1 k0_h2 k0_h3 v2211) (fun _ => n) := by
  rw [k0_part20_eq_skeleton]; unfold k0_part20_skel
  refine .l17 fun _ => ?_
  refine .s17 ?_
  refine .l9 fun _ => ?_
  refine .l17 fun _ => ?_
  refine .s17 ?_
  refine .l9 fun _ => ?_
  refine .l17 fun _ => ?_
  refine .s17 ?_
  refine .l9 fun _ => ?_
  exact .ret le_rfl

theorem safe21 {i : grid0.Coords} {v13 : FVec F S128x256 .bf16} {v16 : FVec F S128x256 .bf16} {v39 : BitVec 32} {v42 : BitVec 32} {v54 : BitVec 32} {k0_h1 : k0_cond1 i = 1#1} {k0_h2 : k0_cond2 i = 1#1} {k0_h3 : ¬(k0_cond3 i = 1#1)} {v2240 : FVec F S128x256 .f32} {n : ℕ} :
    Safe (F := F) R n (k0_part21 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v13 v16 v39 v42 v54 k0_h1 k0_h2 k0_h3 v2240) (fun _ => n) := by
  rw [k0_part21_eq_skeleton]; unfold k0_part21_skel
  refine .l17 fun _ => ?_
  refine .s17 ?_
  refine .l9 fun _ => ?_
  refine .l17 fun _ => ?_
  refine .s17 ?_
  refine .l9 fun _ => ?_
  refine .l17 fun _ => ?_
  refine .s17 ?_
  refine .l9 fun _ => ?_
  exact .ret le_rfl

theorem safe22 {i : grid0.Coords} {v16 : FVec F S128x256 .bf16} {v45 : BitVec 32} {v48 : BitVec 32} {v51 : BitVec 32} {k0_h1 : k0_cond1 i = 1#1} {k0_h2 : k0_cond2 i = 1#1} {k0_h3 : ¬(k0_cond3 i = 1#1)} {v2267 : FVec F S128x256 .f32} {n : ℕ} :
    Safe (F := F) R n (k0_part22 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v16 v45 v48 v51 k0_h1 k0_h2 k0_h3 v2267) (fun _ => n) := by
  rw [k0_part22_eq_skeleton]; unfold k0_part22_skel
  refine .l17 fun _ => ?_
  refine .s17 ?_
  refine .l9 fun _ => ?_
  refine .l17 fun _ => ?_
  refine .s17 ?_
  refine .l9 fun _ => ?_
  refine .l17 fun _ => ?_
  refine .s17 ?_
  refine .l9 fun _ => ?_
  refine .l17 fun _ => ?_
  exact .ret le_rfl

theorem safe23 {i : grid0.Coords} {v16 : FVec F S128x256 .bf16} {v19 : FVec F S128x256 .bf16} {v39 : BitVec 32} {v42 : BitVec 32} {v54 : BitVec 32} {k0_h1 : k0_cond1 i = 1#1} {k0_h2 : k0_cond2 i = 1#1} {k0_h3 : ¬(k0_cond3 i = 1#1)} {v2294 : FVec F S128x256 .f32} {n : ℕ} :
    Safe (F := F) R n (k0_part23 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v16 v19 v39 v42 v54 k0_h1 k0_h2 k0_h3 v2294) (fun _ => n) := by
  rw [k0_part23_eq_skeleton]; unfold k0_part23_skel
  refine .s17 ?_
  refine .l9 fun _ => ?_
  refine .l17 fun _ => ?_
  refine .s17 ?_
  refine .l9 fun _ => ?_
  refine .l17 fun _ => ?_
  refine .s17 ?_
  refine .l9 fun _ => ?_
  refine .l17 fun _ => ?_
  refine .s17 ?_
  exact .ret le_rfl

theorem safe24 {i : grid0.Coords} {v19 : FVec F S128x256 .bf16} {v45 : BitVec 32} {v48 : BitVec 32} {v51 : BitVec 32} {v54 : BitVec 32} {k0_h1 : k0_cond1 i = 1#1} {k0_h2 : k0_cond2 i = 1#1} {k0_h3 : ¬(k0_cond3 i = 1#1)} {c128_i32_1308 : BitVec 32} {n : ℕ} :
    Safe (F := F) R n (k0_part24 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v19 v45 v48 v51 v54 k0_h1 k0_h2 k0_h3 c128_i32_1308) (fun _ => n) := by
  rw [k0_part24_eq_skeleton]; unfold k0_part24_skel
  refine .l9 fun _ => ?_
  refine .l17 fun _ => ?_
  refine .s17 ?_
  refine .l9 fun _ => ?_
  refine .l17 fun _ => ?_
  refine .s17 ?_
  refine .l9 fun _ => ?_
  refine .l17 fun _ => ?_
  refine .s17 ?_
  exact .ret le_rfl

theorem safe25 {i : grid0.Coords} {v19 : FVec F S128x256 .bf16} {v78 : IVec S1x256 32} {k0_h1 : k0_cond1 i = 1#1} {k0_h2 : k0_cond2 i = 1#1} {k0_h3 : ¬(k0_cond3 i = 1#1)} {v2144 : FVec F S96x256 .f32} {v2353 : BitVec 32} {n : ℕ} :
    Safe (F := F) R n (k0_part25 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v19 v78 k0_h1 k0_h2 k0_h3 v2144 v2353) (fun _ => n) := by
  rw [k0_part25_eq_skeleton]; unfold k0_part25_skel
  refine .l9 fun _ => ?_
  refine .l17 fun _ => ?_
  refine .s17 ?_
  exact .ret le_rfl

theorem safe26 {i : grid0.Coords} {v2378 : FVec F S96x256 .f32} {v2390 : FVec F S96x256 .f32} {v2394 : IVec S96x256 1} {v2395 : FVec F S96x256 .f32} {n : ℕ} :
    Safe (F := F) R n (k0_part26 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v2378 v2390 v2394 v2395) (fun _ => n) := by
  rw [k0_part26_eq_skeleton]; unfold k0_part26_skel
  exact .ret le_rfl

theorem safe27 {i : grid0.Coords} {v2378 : FVec F S96x256 .f32} {v2438 : FVec F S96x256 .f32} {v2440 : FVec F S1x256 .f32} {n : ℕ} :
    Safe (F := F) R n (k0_part27 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v2378 v2438 v2440) (fun _ => n) := by
  rw [k0_part27_eq_skeleton]; unfold k0_part27_skel
  exact .ret le_rfl

theorem safe28 {i : grid0.Coords} {v2378 : FVec F S96x256 .f32} {v2474 : FVec F S96x256 .f32} {v2484 : IVec S96x256 1} {v2485 : FVec F S96x256 .f32} {n : ℕ} :
    Safe (F := F) R n (k0_part28 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v2378 v2474 v2484 v2485) (fun _ => n) := by
  rw [k0_part28_eq_skeleton]; unfold k0_part28_skel
  exact .ret le_rfl

theorem safe29 {i : grid0.Coords} {v3 : IVec S1x256 32} {v10 : FVec F S128x256 .bf16} {v13 : FVec F S128x256 .bf16} {v16 : FVec F S128x256 .bf16} {v19 : FVec F S128x256 .bf16} {n : ℕ} :
    Safe (F := F) R n (k0_part29 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v3 v10 v13 v16 v19) (fun _ => n) := by
  rw [k0_part29_eq_skeleton]; unfold k0_part29_skel
  refine .l5 fun _ => ?_
  refine .l6 fun _ => ?_
  exact .ret le_rfl

theorem safe30 {i : grid0.Coords} {v2038 : IVec S256x256 1} {v2042 : FVec F S64x256 .bf16} {v2045 : FVec F S256x256 .f32} {v2046 : FVec F S256x256 .f32} {v2063 : FVec F S256x256 .f32} {v2067 : FVec F S256x256 .f32} {n : ℕ} :
    Safe (F := F) R n (k0_part30 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v2038 v2042 v2045 v2046 v2063 v2067) (fun _ => n) := by
  rw [k0_part30_eq_skeleton]; unfold k0_part30_skel
  exact .ret le_rfl

theorem safe31 {i : grid0.Coords} {v10 : FVec F S128x256 .bf16} {v39 : BitVec 32} {v42 : BitVec 32} {k0_h1 : k0_cond1 i = 1#1} {k0_h2 : ¬(k0_cond2 i = 1#1)} {v2042 : FVec F S64x256 .bf16} {v2105 : FVec F S256x256 .f32} {v2107 : FVec F S256x256 .f32} {v2112 : FVec F S256x256 .f32} {n : ℕ} :
    Safe (F := F) R n (k0_part31 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v10 v39 v42 k0_h1 k0_h2 v2042 v2105 v2107 v2112) (fun _ => n) := by
  rw [k0_part31_eq_skeleton]; unfold k0_part31_skel
  refine .l11 fun _ => ?_
  refine .l9 fun _ => ?_
  refine .l17 fun _ => ?_
  refine .s17 ?_
  exact .ret le_rfl

theorem safe32 {i : grid0.Coords} {v10 : FVec F S128x256 .bf16} {v45 : BitVec 32} {v48 : BitVec 32} {v51 : BitVec 32} {k0_h1 : k0_cond1 i = 1#1} {k0_h2 : ¬(k0_cond2 i = 1#1)} {v2151 : BitVec 32} {n : ℕ} :
    Safe (F := F) R n (k0_part32 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v10 v45 v48 v51 k0_h1 k0_h2 v2151) (fun _ => n) := by
  rw [k0_part32_eq_skeleton]; unfold k0_part32_skel
  refine .l9 fun _ => ?_
  refine .l17 fun _ => ?_
  refine .s17 ?_
  refine .l9 fun _ => ?_
  refine .l17 fun _ => ?_
  refine .s17 ?_
  refine .l9 fun _ => ?_
  refine .l17 fun _ => ?_
  refine .s17 ?_
  exact .ret le_rfl

theorem safe33 {i : grid0.Coords} {v10 : FVec F S128x256 .bf16} {v13 : FVec F S128x256 .bf16} {v39 : BitVec 32} {v42 : BitVec 32} {v54 : BitVec 32} {k0_h1 : k0_cond1 i = 1#1} {k0_h2 : ¬(k0_cond2 i = 1#1)} {v2179 : BitVec 32} {n : ℕ} :
    Safe (F := F) R n (k0_part33 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v10 v13 v39 v42 v54 k0_h1 k0_h2 v2179) (fun _ => n) := by
  rw [k0_part33_eq_skeleton]; unfold k0_part33_skel
  refine .l9 fun _ => ?_
  refine .l17 fun _ => ?_
  refine .s17 ?_
  refine .l9 fun _ => ?_
  refine .l17 fun _ => ?_
  refine .s17 ?_
  refine .l9 fun _ => ?_
  refine .l17 fun _ => ?_
  refine .s17 ?_
  refine .l9 fun _ => ?_
  exact .ret le_rfl

theorem safe34 {i : grid0.Coords} {v13 : FVec F S128x256 .bf16} {v45 : BitVec 32} {v48 : BitVec 32} {v51 : BitVec 32} {k0_h1 : k0_cond1 i = 1#1} {k0_h2 : ¬(k0_cond2 i = 1#1)} {v2208 : Vec F S1x1x128x128 .bf16} {n : ℕ} :
    Safe (F := F) R n (k0_part34 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v13 v45 v48 v51 k0_h1 k0_h2 v2208) (fun _ => n) := by
  rw [k0_part34_eq_skeleton]; unfold k0_part34_skel
  refine .l17 fun _ => ?_
  refine .s17 ?_
  refine .l9 fun _ => ?_
  refine .l17 fun _ => ?_
  refine .s17 ?_
  refine .l9 fun _ => ?_
  refine .l17 fun _ => ?_
  refine .s17 ?_
  refine .l9 fun _ => ?_
  exact .ret le_rfl

theorem safe35 {i : grid0.Coords} {v13 : FVec F S128x256 .bf16} {v16 : FVec F S128x256 .bf16} {v39 : BitVec 32} {v42 : BitVec 32} {v54 : BitVec 32} {k0_h1 : k0_cond1 i = 1#1} {k0_h2 : ¬(k0_cond2 i = 1#1)} {v2237 : FVec F S128x256 .f32} {n : ℕ} :
    Safe (F := F) R n (k0_part35 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v13 v16 v39 v42 v54 k0_h1 k0_h2 v2237) (fun _ => n) := by
  rw [k0_part35_eq_skeleton]; unfold k0_part35_skel
  refine .l17 fun _ => ?_
  refine .s17 ?_
  refine .l9 fun _ => ?_
  refine .l17 fun _ => ?_
  refine .s17 ?_
  refine .l9 fun _ => ?_
  refine .l17 fun _ => ?_
  refine .s17 ?_
  refine .l9 fun _ => ?_
  exact .ret le_rfl

theorem safe36 {i : grid0.Coords} {v16 : FVec F S128x256 .bf16} {v45 : BitVec 32} {v48 : BitVec 32} {v51 : BitVec 32} {k0_h1 : k0_cond1 i = 1#1} {k0_h2 : ¬(k0_cond2 i = 1#1)} {v2264 : FVec F S128x256 .f32} {n : ℕ} :
    Safe (F := F) R n (k0_part36 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v16 v45 v48 v51 k0_h1 k0_h2 v2264) (fun _ => n) := by
  rw [k0_part36_eq_skeleton]; unfold k0_part36_skel
  refine .l17 fun _ => ?_
  refine .s17 ?_
  refine .l9 fun _ => ?_
  refine .l17 fun _ => ?_
  refine .s17 ?_
  refine .l9 fun _ => ?_
  refine .l17 fun _ => ?_
  refine .s17 ?_
  refine .l9 fun _ => ?_
  refine .l17 fun _ => ?_
  exact .ret le_rfl

theorem safe37 {i : grid0.Coords} {v16 : FVec F S128x256 .bf16} {v19 : FVec F S128x256 .bf16} {v39 : BitVec 32} {v42 : BitVec 32} {v54 : BitVec 32} {k0_h1 : k0_cond1 i = 1#1} {k0_h2 : ¬(k0_cond2 i = 1#1)} {v2291 : FVec F S128x256 .f32} {n : ℕ} :
    Safe (F := F) R n (k0_part37 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v16 v19 v39 v42 v54 k0_h1 k0_h2 v2291) (fun _ => n) := by
  rw [k0_part37_eq_skeleton]; unfold k0_part37_skel
  refine .s17 ?_
  refine .l9 fun _ => ?_
  refine .l17 fun _ => ?_
  refine .s17 ?_
  refine .l9 fun _ => ?_
  refine .l17 fun _ => ?_
  refine .s17 ?_
  refine .l9 fun _ => ?_
  refine .l17 fun _ => ?_
  refine .s17 ?_
  exact .ret le_rfl

theorem safe38 {i : grid0.Coords} {v19 : FVec F S128x256 .bf16} {v45 : BitVec 32} {v48 : BitVec 32} {v51 : BitVec 32} {v54 : BitVec 32} {k0_h1 : k0_cond1 i = 1#1} {k0_h2 : ¬(k0_cond2 i = 1#1)} {c128_i32_1306 : BitVec 32} {n : ℕ} :
    Safe (F := F) R n (k0_part38 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v19 v45 v48 v51 v54 k0_h1 k0_h2 c128_i32_1306) (fun _ => n) := by
  rw [k0_part38_eq_skeleton]; unfold k0_part38_skel
  refine .l9 fun _ => ?_
  refine .l17 fun _ => ?_
  refine .s17 ?_
  refine .l9 fun _ => ?_
  refine .l17 fun _ => ?_
  refine .s17 ?_
  refine .l9 fun _ => ?_
  refine .l17 fun _ => ?_
  refine .s17 ?_
  exact .ret le_rfl

theorem safe39 {i : grid0.Coords} {v19 : FVec F S128x256 .bf16} {v78 : IVec S1x256 32} {k0_h1 : k0_cond1 i = 1#1} {k0_h2 : ¬(k0_cond2 i = 1#1)} {v2141 : FVec F S64x256 .f32} {v2350 : BitVec 32} {n : ℕ} :
    Safe (F := F) R n (k0_part39 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v19 v78 k0_h1 k0_h2 v2141 v2350) (fun _ => n) := by
  rw [k0_part39_eq_skeleton]; unfold k0_part39_skel
  refine .l9 fun _ => ?_
  refine .l17 fun _ => ?_
  refine .s17 ?_
  exact .ret le_rfl

theorem safe40 {i : grid0.Coords} {v2375 : FVec F S64x256 .f32} {v2387 : FVec F S64x256 .f32} {v2391 : IVec S64x256 1} {v2392 : FVec F S64x256 .f32} {n : ℕ} :
    Safe (F := F) R n (k0_part40 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v2375 v2387 v2391 v2392) (fun _ => n) := by
  rw [k0_part40_eq_skeleton]; unfold k0_part40_skel
  exact .ret le_rfl

theorem safe41 {i : grid0.Coords} {v2375 : FVec F S64x256 .f32} {v2435 : FVec F S64x256 .f32} {v2437 : FVec F S1x256 .f32} {n : ℕ} :
    Safe (F := F) R n (k0_part41 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v2375 v2435 v2437) (fun _ => n) := by
  rw [k0_part41_eq_skeleton]; unfold k0_part41_skel
  exact .ret le_rfl

theorem safe42 {i : grid0.Coords} {v2375 : FVec F S64x256 .f32} {v2471 : FVec F S64x256 .f32} {v2481 : IVec S64x256 1} {v2482 : FVec F S64x256 .f32} {n : ℕ} :
    Safe (F := F) R n (k0_part42 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v2375 v2471 v2481 v2482) (fun _ => n) := by
  rw [k0_part42_eq_skeleton]; unfold k0_part42_skel
  exact .ret le_rfl

theorem safe43 {i : grid0.Coords} {v3 : IVec S1x256 32} {v10 : FVec F S128x256 .bf16} {v13 : FVec F S128x256 .bf16} {v16 : FVec F S128x256 .bf16} {v19 : FVec F S128x256 .bf16} {n : ℕ} :
    Safe (F := F) R n (k0_part43 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v3 v10 v13 v16 v19) (fun _ => n) := by
  rw [k0_part43_eq_skeleton]; unfold k0_part43_skel
  refine .l5 fun _ => ?_
  refine .l6 fun _ => ?_
  exact .ret le_rfl

theorem safe44 {i : grid0.Coords} {v2035 : IVec S128x256 1} {v2039 : FVec F S64x128 .bf16} {v2042 : FVec F S128x256 .f32} {v2043 : FVec F S128x256 .f32} {v2060 : FVec F S128x256 .f32} {v2064 : FVec F S128x256 .f32} {n : ℕ} :
    Safe (F := F) R n (k0_part44 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v2035 v2039 v2042 v2043 v2060 v2064) (fun _ => n) := by
  rw [k0_part44_eq_skeleton]; unfold k0_part44_skel
  exact .ret le_rfl

theorem safe45 {i : grid0.Coords} {v10 : FVec F S128x256 .bf16} {v39 : BitVec 32} {v42 : BitVec 32} {k0_h1 : ¬(k0_cond1 i = 1#1)} {v2039 : FVec F S64x128 .bf16} {v2102 : FVec F S128x256 .f32} {v2104 : FVec F S128x256 .f32} {v2109 : FVec F S128x256 .f32} {n : ℕ} :
    Safe (F := F) R n (k0_part45 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v10 v39 v42 k0_h1 v2039 v2102 v2104 v2109) (fun _ => n) := by
  rw [k0_part45_eq_skeleton]; unfold k0_part45_skel
  refine .l11 fun _ => ?_
  refine .l9 fun _ => ?_
  refine .l17 fun _ => ?_
  refine .s17 ?_
  exact .ret le_rfl

theorem safe46 {i : grid0.Coords} {v10 : FVec F S128x256 .bf16} {v45 : BitVec 32} {v48 : BitVec 32} {v51 : BitVec 32} {k0_h1 : ¬(k0_cond1 i = 1#1)} {v2148 : BitVec 32} {n : ℕ} :
    Safe (F := F) R n (k0_part46 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v10 v45 v48 v51 k0_h1 v2148) (fun _ => n) := by
  rw [k0_part46_eq_skeleton]; unfold k0_part46_skel
  refine .l9 fun _ => ?_
  refine .l17 fun _ => ?_
  refine .s17 ?_
  refine .l9 fun _ => ?_
  refine .l17 fun _ => ?_
  refine .s17 ?_
  refine .l9 fun _ => ?_
  refine .l17 fun _ => ?_
  refine .s17 ?_
  exact .ret le_rfl

theorem safe47 {i : grid0.Coords} {v10 : FVec F S128x256 .bf16} {v13 : FVec F S128x256 .bf16} {v39 : BitVec 32} {v42 : BitVec 32} {v54 : BitVec 32} {k0_h1 : ¬(k0_cond1 i = 1#1)} {v2176 : BitVec 32} {n : ℕ} :
    Safe (F := F) R n (k0_part47 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v10 v13 v39 v42 v54 k0_h1 v2176) (fun _ => n) := by
  rw [k0_part47_eq_skeleton]; unfold k0_part47_skel
  refine .l9 fun _ => ?_
  refine .l17 fun _ => ?_
  refine .s17 ?_
  refine .l9 fun _ => ?_
  refine .l17 fun _ => ?_
  refine .s17 ?_
  refine .l9 fun _ => ?_
  refine .l17 fun _ => ?_
  refine .s17 ?_
  refine .l9 fun _ => ?_
  exact .ret le_rfl

theorem safe48 {i : grid0.Coords} {v13 : FVec F S128x256 .bf16} {v45 : BitVec 32} {v48 : BitVec 32} {v51 : BitVec 32} {k0_h1 : ¬(k0_cond1 i = 1#1)} {v2205 : Vec F S1x1x128x128 .bf16} {n : ℕ} :
    Safe (F := F) R n (k0_part48 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v13 v45 v48 v51 k0_h1 v2205) (fun _ => n) := by
  rw [k0_part48_eq_skeleton]; unfold k0_part48_skel
  refine .l17 fun _ => ?_
  refine .s17 ?_
  refine .l9 fun _ => ?_
  refine .l17 fun _ => ?_
  refine .s17 ?_
  refine .l9 fun _ => ?_
  refine .l17 fun _ => ?_
  refine .s17 ?_
  refine .l9 fun _ => ?_
  exact .ret le_rfl

theorem safe49 {i : grid0.Coords} {v13 : FVec F S128x256 .bf16} {v16 : FVec F S128x256 .bf16} {v39 : BitVec 32} {v42 : BitVec 32} {v54 : BitVec 32} {k0_h1 : ¬(k0_cond1 i = 1#1)} {v2234 : FVec F S128x256 .f32} {n : ℕ} :
    Safe (F := F) R n (k0_part49 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v13 v16 v39 v42 v54 k0_h1 v2234) (fun _ => n) := by
  rw [k0_part49_eq_skeleton]; unfold k0_part49_skel
  refine .l17 fun _ => ?_
  refine .s17 ?_
  refine .l9 fun _ => ?_
  refine .l17 fun _ => ?_
  refine .s17 ?_
  refine .l9 fun _ => ?_
  refine .l17 fun _ => ?_
  refine .s17 ?_
  refine .l9 fun _ => ?_
  exact .ret le_rfl

theorem safe50 {i : grid0.Coords} {v16 : FVec F S128x256 .bf16} {v45 : BitVec 32} {v48 : BitVec 32} {v51 : BitVec 32} {k0_h1 : ¬(k0_cond1 i = 1#1)} {v2261 : FVec F S128x256 .f32} {n : ℕ} :
    Safe (F := F) R n (k0_part50 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v16 v45 v48 v51 k0_h1 v2261) (fun _ => n) := by
  rw [k0_part50_eq_skeleton]; unfold k0_part50_skel
  refine .l17 fun _ => ?_
  refine .s17 ?_
  refine .l9 fun _ => ?_
  refine .l17 fun _ => ?_
  refine .s17 ?_
  refine .l9 fun _ => ?_
  refine .l17 fun _ => ?_
  refine .s17 ?_
  refine .l9 fun _ => ?_
  refine .l17 fun _ => ?_
  exact .ret le_rfl

theorem safe51 {i : grid0.Coords} {v16 : FVec F S128x256 .bf16} {v19 : FVec F S128x256 .bf16} {v39 : BitVec 32} {v42 : BitVec 32} {v54 : BitVec 32} {k0_h1 : ¬(k0_cond1 i = 1#1)} {v2288 : FVec F S128x256 .f32} {n : ℕ} :
    Safe (F := F) R n (k0_part51 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v16 v19 v39 v42 v54 k0_h1 v2288) (fun _ => n) := by
  rw [k0_part51_eq_skeleton]; unfold k0_part51_skel
  refine .s17 ?_
  refine .l9 fun _ => ?_
  refine .l17 fun _ => ?_
  refine .s17 ?_
  refine .l9 fun _ => ?_
  refine .l17 fun _ => ?_
  refine .s17 ?_
  refine .l9 fun _ => ?_
  refine .l17 fun _ => ?_
  refine .s17 ?_
  exact .ret le_rfl

theorem safe52 {i : grid0.Coords} {v19 : FVec F S128x256 .bf16} {v45 : BitVec 32} {v48 : BitVec 32} {v51 : BitVec 32} {v54 : BitVec 32} {k0_h1 : ¬(k0_cond1 i = 1#1)} {c128_i32_1304 : BitVec 32} {n : ℕ} :
    Safe (F := F) R n (k0_part52 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v19 v45 v48 v51 v54 k0_h1 c128_i32_1304) (fun _ => n) := by
  rw [k0_part52_eq_skeleton]; unfold k0_part52_skel
  refine .l9 fun _ => ?_
  refine .l17 fun _ => ?_
  refine .s17 ?_
  refine .l9 fun _ => ?_
  refine .l17 fun _ => ?_
  refine .s17 ?_
  refine .l9 fun _ => ?_
  refine .l17 fun _ => ?_
  refine .s17 ?_
  exact .ret le_rfl

theorem safe53 {i : grid0.Coords} {v19 : FVec F S128x256 .bf16} {v78 : IVec S1x256 32} {k0_h1 : ¬(k0_cond1 i = 1#1)} {v2138 : FVec F S32x256 .f32} {v2347 : BitVec 32} {n : ℕ} :
    Safe (F := F) R n (k0_part53 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v19 v78 k0_h1 v2138 v2347) (fun _ => n) := by
  rw [k0_part53_eq_skeleton]; unfold k0_part53_skel
  refine .l9 fun _ => ?_
  refine .l17 fun _ => ?_
  refine .s17 ?_
  exact .ret le_rfl

theorem safe54 {i : grid0.Coords} {v2372 : FVec F S32x256 .f32} {v2384 : FVec F S32x256 .f32} {v2388 : IVec S32x256 1} {v2389 : FVec F S32x256 .f32} {n : ℕ} :
    Safe (F := F) R n (k0_part54 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v2372 v2384 v2388 v2389) (fun _ => n) := by
  rw [k0_part54_eq_skeleton]; unfold k0_part54_skel
  exact .ret le_rfl

theorem safe55 {i : grid0.Coords} {v2372 : FVec F S32x256 .f32} {v2432 : FVec F S32x256 .f32} {v2434 : FVec F S1x256 .f32} {n : ℕ} :
    Safe (F := F) R n (k0_part55 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v2372 v2432 v2434) (fun _ => n) := by
  rw [k0_part55_eq_skeleton]; unfold k0_part55_skel
  exact .ret le_rfl

theorem safe56 {i : grid0.Coords} {v2372 : FVec F S32x256 .f32} {v2468 : FVec F S32x256 .f32} {v2478 : IVec S32x256 1} {v2479 : FVec F S32x256 .f32} {n : ℕ} :
    Safe (F := F) R n (k0_part56 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v2372 v2468 v2478 v2479) (fun _ => n) := by
  rw [k0_part56_eq_skeleton]; unfold k0_part56_skel
  exact .ret le_rfl

end Cert.KernelIdeal.Attn

end
-- ==== Proof.Offs.lean ====
/-
  The tile list's offsets: the running count of the tiles a query tile's rows chose moves by at most one from a tile to the
  next, so that every store into the list and every read of it stays within its seventy-two words; and the word read there,
  naming one of the sixty-eight tiles, keeps the loads of that tile within their arrays.
-/
module

public import proofs.«01_k».proof.Proof.Gen.KernelIdeal.Skeleton
public import Idealize.ShloMosaic.Lib.Tactic

@[expose] public section

set_option maxRecDepth 100000

noncomputable section

namespace Cert.KernelIdeal.Attn

open Cert.KernelIdeal Cert.KernelIdeal.Gen
open Idealize.ShloMosaic

/-- Adding a bit moves a word by at most one. -/
theorem count_step (x : BitVec 32) (b : BitVec 1) :
    (Scalar.indexCast (Scalar.addi x (Scalar.extui b)) : Index).toNat ≤ (Scalar.indexCast x : Index).toNat + 1 := by
  show (x + b.setWidth 32).toNat ≤ x.toNat + 1
  have hb : b.toNat < 2 := b.isLt
  rw [BitVec.toNat_add, BitVec.toNat_setWidth, Nat.mod_eq_of_lt (show b.toNat < 2 ^ 32 by omega)]
  exact (Nat.mod_le _ _).trans (by omega)

/-- One word at an offset that is at most seventy-one lies in the list. -/
theorem inList {off : Fin 1 → ℕ} (h : off 0 ≤ 71) (a : Fin 1) : off a + S1.size a ≤ S72.size a := by
  have h1 : S1.size a = 1 := by fin_cases a; rfl
  have h2 : S72.size a = 72 := by fin_cases a; rfl
  have h3 : off a = off 0 := by fin_cases a; rfl
  omega

theorem off5_le (i : grid0.Coords) (v167 : BitVec 32) : k0_off5 i v167 0 ≤ 1 := by
  unfold k0_off5; exact count_step 0#32 _

theorem off6_step (i : grid0.Coords) (v167 : BitVec 32) : k0_off6 i v167 0 ≤ k0_off5 i v167 0 + 1 := by
  unfold k0_off6 k0_off5; exact count_step _ _

theorem off6_le (i : grid0.Coords) (v167 : BitVec 32) : k0_off6 i v167 0 ≤ 2 :=
  (off6_step i v167).trans (Nat.succ_le_succ (off5_le i v167))

theorem off7_step (i : grid0.Coords) (v167 : BitVec 32) : k0_off7 i v167 0 ≤ k0_off6 i v167 0 + 1 := by
  unfold k0_off7 k0_off6; exact count_step _ _

theorem off7_le (i : grid0.Coords) (v167 : BitVec 32) : k0_off7 i v167 0 ≤ 3 :=
  (off7_step i v167).trans (Nat.succ_le_succ (off6_le i v167))

theorem off8_step (i : grid0.Coords) (v167 : BitVec 32) : k0_off8 i v167 0 ≤ k0_off7 i v167 0 + 1 := by
  unfold k0_off8 k0_off7; exact count_step _ _

theorem off8_le (i : grid0.Coords) (v167 : BitVec 32) : k0_off8 i v167 0 ≤ 4 :=
  (off8_step i v167).trans (Nat.succ_le_succ (off7_le i v167))

theorem off9_step (i : grid0.Coords) (v167 : BitVec 32) : k0_off9 i v167 0 ≤ k0_off8 i v167 0 + 1 := by
  unfold k0_off9 k0_off8; exact count_step _ _

theorem off9_le (i : grid0.Coords) (v167 : BitVec 32) : k0_off9 i v167 0 ≤ 5 :=
  (off9_step i v167).trans (Nat.succ_le_succ (off8_le i v167))

theorem off10_step (i : grid0.Coords) (v167 : BitVec 32) : k0_off10 i v167 0 ≤ k0_off9 i v167 0 + 1 := by
  unfold k0_off10 k0_off9; exact count_step _ _

theorem off10_le (i : grid0.Coords) (v167 : BitVec 32) : k0_off10 i v167 0 ≤ 6 :=
  (off10_step i v167).trans (Nat.succ_le_succ (off9_le i v167))

theorem off11_step (i : grid0.Coords) (v167 : BitVec 32) : k0_off11 i v167 0 ≤ k0_off10 i v167 0 + 1 := by
  unfold k0_off11 k0_off10; exact count_step _ _

theorem off11_le (i : grid0.Coords) (v167 : BitVec 32) : k0_off11 i v167 0 ≤ 7 :=
  (off11_step i v167).trans (Nat.succ_le_succ (off10_le i v167))

theorem off12_step (i : grid0.Coords) (v167 : BitVec 32) : k0_off12 i v167 0 ≤ k0_off11 i v167 0 + 1 := by
  unfold k0_off12 k0_off11; exact count_step _ _

theorem off12_le (i : grid0.Coords) (v167 : BitVec 32) : k0_off12 i v167 0 ≤ 8 :=
  (off12_step i v167).trans (Nat.succ_le_succ (off11_le i v167))

theorem off13_step (i : grid0.Coords) (v167 : BitVec 32) (v170 : BitVec 32) : k0_off13 i v167 v170 0 ≤ k0_off12 i v167 0 + 1 := by
  unfold k0_off13 k0_off12; exact count_step _ _

theorem off13_le (i : grid0.Coords) (v167 : BitVec 32) (v170 : BitVec 32) : k0_off13 i v167 v170 0 ≤ 9 :=
  (off13_step i v167 v170).trans (Nat.succ_le_succ (off12_le i v167))

theorem off14_step (i : grid0.Coords) (v167 : BitVec 32) (v170 : BitVec 32) : k0_off14 i v167 v170 0 ≤ k0_off13 i v167 v170 0 + 1 := by
  unfold k0_off14 k0_off13; exact count_step _ _

theorem off14_le (i : grid0.Coords) (v167 : BitVec 32) (v170 : BitVec 32) : k0_off14 i v167 v170 0 ≤ 10 :=
  (off14_step i v167 v170).trans (Nat.succ_le_succ (off13_le i v167 v170))

theorem off15_step (i : grid0.Coords) (v167 : BitVec 32) (v170 : BitVec 32) : k0_off15 i v167 v170 0 ≤ k0_off14 i v167 v170 0 + 1 := by
  unfold k0_off15 k0_off14; exact count_step _ _

theorem off15_le (i : grid0.Coords) (v167 : BitVec 32) (v170 : BitVec 32) : k0_off15 i v167 v170 0 ≤ 11 :=
  (off15_step i v167 v170).trans (Nat.succ_le_succ (off14_le i v167 v170))

theorem off16_step (i : grid0.Coords) (v167 : BitVec 32) (v170 : BitVec 32) : k0_off16 i v167 v170 0 ≤ k0_off15 i v167 v170 0 + 1 := by
  unfold k0_off16 k0_off15; exact count_step _ _

theorem off16_le (i : grid0.Coords) (v167 : BitVec 32) (v170 : BitVec 32) : k0_off16 i v167 v170 0 ≤ 12 :=
  (off16_step i v167 v170).trans (Nat.succ_le_succ (off15_le i v167 v170))

theorem off17_step (i : grid0.Coords) (v167 : BitVec 32) (v170 : BitVec 32) : k0_off17 i v167 v170 0 ≤ k0_off16 i v167 v170 0 + 1 := by
  unfold k0_off17 k0_off16; exact count_step _ _

theorem off17_le (i : grid0.Coords) (v167 : BitVec 32) (v170 : BitVec 32) : k0_off17 i v167 v170 0 ≤ 13 :=
  (off17_step i v167 v170).trans (Nat.succ_le_succ (off16_le i v167 v170))

theorem off18_step (i : grid0.Coords) (v167 : BitVec 32) (v170 : BitVec 32) : k0_off18 i v167 v170 0 ≤ k0_off17 i v167 v170 0 + 1 := by
  unfold k0_off18 k0_off17; exact count_step _ _

theorem off18_le (i : grid0.Coords) (v167 : BitVec 32) (v170 : BitVec 32) : k0_off18 i v167 v170 0 ≤ 14 :=
  (off18_step i v167 v170).trans (Nat.succ_le_succ (off17_le i v167 v170))

theorem off19_step (i : grid0.Coords) (v167 : BitVec 32) (v170 : BitVec 32) : k0_off19 i v167 v170 0 ≤ k0_off18 i v167 v170 0 + 1 := by
  unfold k0_off19 k0_off18; exact count_step _ _

theorem off19_le (i : grid0.Coords) (v167 : BitVec 32) (v170 : BitVec 32) : k0_off19 i v167 v170 0 ≤ 15 :=
  (off19_step i v167 v170).trans (Nat.succ_le_succ (off18_le i v167 v170))

theorem off20_step (i : grid0.Coords) (v167 : BitVec 32) (v170 : BitVec 32) : k0_off20 i v167 v170 0 ≤ k0_off19 i v167 v170 0 + 1 := by
  unfold k0_off20 k0_off19; exact count_step _ _

theorem off20_le (i : grid0.Coords) (v167 : BitVec 32) (v170 : BitVec 32) : k0_off20 i v167 v170 0 ≤ 16 :=
  (off20_step i v167 v170).trans (Nat.succ_le_succ (off19_le i v167 v170))

theorem off21_step (i : grid0.Coords) (v167 : BitVec 32) (v170 : BitVec 32) (v173 : BitVec 32) : k0_off21 i v167 v170 v173 0 ≤ k0_off20 i v167 v170 0 + 1 := by
  unfold k0_off21 k0_off20; exact count_step _ _

theorem off21_le (i : grid0.Coords) (v167 : BitVec 32) (v170 : BitVec 32) (v173 : BitVec 32) : k0_off21 i v167 v170 v173 0 ≤ 17 :=
  (off21_step i v167 v170 v173).trans (Nat.succ_le_succ (off20_le i v167 v170))

theorem off22_step (i : grid0.Coords) (v167 : BitVec 32) (v170 : BitVec 32) (v173 : BitVec 32) : k0_off22 i v167 v170 v173 0 ≤ k0_off21 i v167 v170 v173 0 + 1 := by
  unfold k0_off22 k0_off21; exact count_step _ _

theorem off22_le (i : grid0.Coords) (v167 : BitVec 32) (v170 : BitVec 32) (v173 : BitVec 32) : k0_off22 i v167 v170 v173 0 ≤ 18 :=
  (off22_step i v167 v170 v173).trans (Nat.succ_le_succ (off21_le i v167 v170 v173))

theorem off23_step (i : grid0.Coords) (v167 : BitVec 32) (v170 : BitVec 32) (v173 : BitVec 32) : k0_off23 i v167 v170 v173 0 ≤ k0_off22 i v167 v170 v173 0 + 1 := by
  unfold k0_off23 k0_off22; exact count_step _ _

theorem off23_le (i : grid0.Coords) (v167 : BitVec 32) (v170 : BitVec 32) (v173 : BitVec 32) : k0_off23 i v167 v170 v173 0 ≤ 19 :=
  (off23_step i v167 v170 v173).trans (Nat.succ_le_succ (off22_le i v167 v170 v173))

theorem off24_step (i : grid0.Coords) (v167 : BitVec 32) (v170 : BitVec 32) (v173 : BitVec 32) : k0_off24 i v167 v170 v173 0 ≤ k0_off23 i v167 v170 v173 0 + 1 := by
  unfold k0_off24 k0_off23; exact count_step _ _

theorem off24_le (i : grid0.Coords) (v167 : BitVec 32) (v170 : BitVec 32) (v173 : BitVec 32) : k0_off24 i v167 v170 v173 0 ≤ 20 :=
  (off24_step i v167 v170 v173).trans (Nat.succ_le_succ (off23_le i v167 v170 v173))

theorem off25_step (i : grid0.Coords) (v167 : BitVec 32) (v170 : BitVec 32) (v173 : BitVec 32) : k0_off25 i v167 v170 v173 0 ≤ k0_off24 i v167 v170 v173 0 + 1 := by
  unfold k0_off25 k0_off24; exact count_step _ _

theorem off25_le (i : grid0.Coords) (v167 : BitVec 32) (v170 : BitVec 32) (v173 : BitVec 32) : k0_off25 i v167 v170 v173 0 ≤ 21 :=
  (off25_step i v167 v170 v173).trans (Nat.succ_le_succ (off24_le i v167 v170 v173))

theorem off26_step (i : grid0.Coords) (v167 : BitVec 32) (v170 : BitVec 32) (v173 : BitVec 32) : k0_off26 i v167 v170 v173 0 ≤ k0_off25 i v167 v170 v173 0 + 1 := by
  unfold k0_off26 k0_off25; exact count_step _ _

theorem off26_le (i : grid0.Coords) (v167 : BitVec 32) (v170 : BitVec 32) (v173 : BitVec 32) : k0_off26 i v167 v170 v173 0 ≤ 22 :=
  (off26_step i v167 v170 v173).trans (Nat.succ_le_succ (off25_le i v167 v170 v173))

theorem off27_step (i : grid0.Coords) (v167 : BitVec 32) (v170 : BitVec 32) (v173 : BitVec 32) : k0_off27 i v167 v170 v173 0 ≤ k0_off26 i v167 v170 v173 0 + 1 := by
  unfold k0_off27 k0_off26; exact count_step _ _

theorem off27_le (i : grid0.Coords) (v167 : BitVec 32) (v170 : BitVec 32) (v173 : BitVec 32) : k0_off27 i v167 v170 v173 0 ≤ 23 :=
  (off27_step i v167 v170 v173).trans (Nat.succ_le_succ (off26_le i v167 v170 v173))

theorem off28_step (i : grid0.Coords) (v167 : BitVec 32) (v170 : BitVec 32) (v173 : BitVec 32) : k0_off28 i v167 v170 v173 0 ≤ k0_off27 i v167 v170 v173 0 + 1 := by
  unfold k0_off28 k0_off27; exact count_step _ _

theorem off28_le (i : grid0.Coords) (v167 : BitVec 32) (v170 : BitVec 32) (v173 : BitVec 32) : k0_off28 i v167 v170 v173 0 ≤ 24 :=
  (off28_step i v167 v170 v173).trans (Nat.succ_le_succ (off27_le i v167 v170 v173))

theorem off29_step (i : grid0.Coords) (v167 : BitVec 32) (v170 : BitVec 32) (v173 : BitVec 32) (v176 : BitVec 32) : k0_off29 i v167 v170 v173 v176 0 ≤ k0_off28 i v167 v170 v173 0 + 1 := by
  unfold k0_off29 k0_off28; exact count_step _ _

theorem off29_le (i : grid0.Coords) (v167 : BitVec 32) (v170 : BitVec 32) (v173 : BitVec 32) (v176 : BitVec 32) : k0_off29 i v167 v170 v173 v176 0 ≤ 25 :=
  (off29_step i v167 v170 v173 v176).trans (Nat.succ_le_succ (off28_le i v167 v170 v173))

theorem off30_step (i : grid0.Coords) (v167 : BitVec 32) (v170 : BitVec 32) (v173 : BitVec 32) (v176 : BitVec 32) : k0_off30 i v167 v170 v173 v176 0 ≤ k0_off29 i v167 v170 v173 v176 0 + 1 := by
  unfold k0_off30 k0_off29; exact count_step _ _

theorem off30_le (i : grid0.Coords) (v167 : BitVec 32) (v170 : BitVec 32) (v173 : BitVec 32) (v176 : BitVec 32) : k0_off30 i v167 v170 v173 v176 0 ≤ 26 :=
  (off30_step i v167 v170 v173 v176).trans (Nat.succ_le_succ (off29_le i v167 v170 v173 v176))

theorem off31_step (i : grid0.Coords) (v167 : BitVec 32) (v170 : BitVec 32) (v173 : BitVec 32) (v176 : BitVec 32) : k0_off31 i v167 v170 v173 v176 0 ≤ k0_off30 i v167 v170 v173 v176 0 + 1 := by
  unfold k0_off31 k0_off30; exact count_step _ _

theorem off31_le (i : grid0.Coords) (v167 : BitVec 32) (v170 : BitVec 32) (v173 : BitVec 32) (v176 : BitVec 32) : k0_off31 i v167 v170 v173 v176 0 ≤ 27 :=
  (off31_step i v167 v170 v173 v176).trans (Nat.succ_le_succ (off30_le i v167 v170 v173 v176))

theorem off32_step (i : grid0.Coords) (v167 : BitVec 32) (v170 : BitVec 32) (v173 : BitVec 32) (v176 : BitVec 32) : k0_off32 i v167 v170 v173 v176 0 ≤ k0_off31 i v167 v170 v173 v176 0 + 1 := by
  unfold k0_off32 k0_off31; exact count_step _ _

theorem off32_le (i : grid0.Coords) (v167 : BitVec 32) (v170 : BitVec 32) (v173 : BitVec 32) (v176 : BitVec 32) : k0_off32 i v167 v170 v173 v176 0 ≤ 28 :=
  (off32_step i v167 v170 v173 v176).trans (Nat.succ_le_succ (off31_le i v167 v170 v173 v176))

theorem off33_step (i : grid0.Coords) (v167 : BitVec 32) (v170 : BitVec 32) (v173 : BitVec 32) (v176 : BitVec 32) : k0_off33 i v167 v170 v173 v176 0 ≤ k0_off32 i v167 v170 v173 v176 0 + 1 := by
  unfold k0_off33 k0_off32; exact count_step _ _

theorem off33_le (i : grid0.Coords) (v167 : BitVec 32) (v170 : BitVec 32) (v173 : BitVec 32) (v176 : BitVec 32) : k0_off33 i v167 v170 v173 v176 0 ≤ 29 :=
  (off33_step i v167 v170 v173 v176).trans (Nat.succ_le_succ (off32_le i v167 v170 v173 v176))

theorem off34_step (i : grid0.Coords) (v167 : BitVec 32) (v170 : BitVec 32) (v173 : BitVec 32) (v176 : BitVec 32) : k0_off34 i v167 v170 v173 v176 0 ≤ k0_off33 i v167 v170 v173 v176 0 + 1 := by
  unfold k0_off34 k0_off33; exact count_step _ _

theorem off34_le (i : grid0.Coords) (v167 : BitVec 32) (v170 : BitVec 32) (v173 : BitVec 32) (v176 : BitVec 32) : k0_off34 i v167 v170 v173 v176 0 ≤ 30 :=
  (off34_step i v167 v170 v173 v176).trans (Nat.succ_le_succ (off33_le i v167 v170 v173 v176))

theorem off35_step (i : grid0.Coords) (v167 : BitVec 32) (v170 : BitVec 32) (v173 : BitVec 32) (v176 : BitVec 32) : k0_off35 i v167 v170 v173 v176 0 ≤ k0_off34 i v167 v170 v173 v176 0 + 1 := by
  unfold k0_off35 k0_off34; exact count_step _ _

theorem off35_le (i : grid0.Coords) (v167 : BitVec 32) (v170 : BitVec 32) (v173 : BitVec 32) (v176 : BitVec 32) : k0_off35 i v167 v170 v173 v176 0 ≤ 31 :=
  (off35_step i v167 v170 v173 v176).trans (Nat.succ_le_succ (off34_le i v167 v170 v173 v176))

theorem off36_step (i : grid0.Coords) (v167 : BitVec 32) (v170 : BitVec 32) (v173 : BitVec 32) (v176 : BitVec 32) : k0_off36 i v167 v170 v173 v176 0 ≤ k0_off35 i v167 v170 v173 v176 0 + 1 := by
  unfold k0_off36 k0_off35; exact count_step _ _

theorem off36_le (i : grid0.Coords) (v167 : BitVec 32) (v170 : BitVec 32) (v173 : BitVec 32) (v176 : BitVec 32) : k0_off36 i v167 v170 v173 v176 0 ≤ 32 :=
  (off36_step i v167 v170 v173 v176).trans (Nat.succ_le_succ (off35_le i v167 v170 v173 v176))

theorem off37_step (i : grid0.Coords) (v167 : BitVec 32) (v170 : BitVec 32) (v173 : BitVec 32) (v176 : BitVec 32) (v179 : BitVec 32) : k0_off37 i v167 v170 v173 v176 v179 0 ≤ k0_off36 i v167 v170 v173 v176 0 + 1 := by
  unfold k0_off37 k0_off36; exact count_step _ _

theorem off37_le (i : grid0.Coords) (v167 : BitVec 32) (v170 : BitVec 32) (v173 : BitVec 32) (v176 : BitVec 32) (v179 : BitVec 32) : k0_off37 i v167 v170 v173 v176 v179 0 ≤ 33 :=
  (off37_step i v167 v170 v173 v176 v179).trans (Nat.succ_le_succ (off36_le i v167 v170 v173 v176))

theorem off38_step (i : grid0.Coords) (v167 : BitVec 32) (v170 : BitVec 32) (v173 : BitVec 32) (v176 : BitVec 32) (v179 : BitVec 32) : k0_off38 i v167 v170 v173 v176 v179 0 ≤ k0_off37 i v167 v170 v173 v176 v179 0 + 1 := by
  unfold k0_off38 k0_off37; exact count_step _ _

theorem off38_le (i : grid0.Coords) (v167 : BitVec 32) (v170 : BitVec 32) (v173 : BitVec 32) (v176 : BitVec 32) (v179 : BitVec 32) : k0_off38 i v167 v170 v173 v176 v179 0 ≤ 34 :=
  (off38_step i v167 v170 v173 v176 v179).trans (Nat.succ_le_succ (off37_le i v167 v170 v173 v176 v179))

theorem off39_step (i : grid0.Coords) (v167 : BitVec 32) (v170 : BitVec 32) (v173 : BitVec 32) (v176 : BitVec 32) (v179 : BitVec 32) : k0_off39 i v167 v170 v173 v176 v179 0 ≤ k0_off38 i v167 v170 v173 v176 v179 0 + 1 := by
  unfold k0_off39 k0_off38; exact count_step _ _

theorem off39_le (i : grid0.Coords) (v167 : BitVec 32) (v170 : BitVec 32) (v173 : BitVec 32) (v176 : BitVec 32) (v179 : BitVec 32) : k0_off39 i v167 v170 v173 v176 v179 0 ≤ 35 :=
  (off39_step i v167 v170 v173 v176 v179).trans (Nat.succ_le_succ (off38_le i v167 v170 v173 v176 v179))

theorem off40_step (i : grid0.Coords) (v167 : BitVec 32) (v170 : BitVec 32) (v173 : BitVec 32) (v176 : BitVec 32) (v179 : BitVec 32) : k0_off40 i v167 v170 v173 v176 v179 0 ≤ k0_off39 i v167 v170 v173 v176 v179 0 + 1 := by
  unfold k0_off40 k0_off39; exact count_step _ _

theorem off40_le (i : grid0.Coords) (v167 : BitVec 32) (v170 : BitVec 32) (v173 : BitVec 32) (v176 : BitVec 32) (v179 : BitVec 32) : k0_off40 i v167 v170 v173 v176 v179 0 ≤ 36 :=
  (off40_step i v167 v170 v173 v176 v179).trans (Nat.succ_le_succ (off39_le i v167 v170 v173 v176 v179))

theorem off41_step (i : grid0.Coords) (v167 : BitVec 32) (v170 : BitVec 32) (v173 : BitVec 32) (v176 : BitVec 32) (v179 : BitVec 32) : k0_off41 i v167 v170 v173 v176 v179 0 ≤ k0_off40 i v167 v170 v173 v176 v179 0 + 1 := by
  unfold k0_off41 k0_off40; exact count_step _ _

theorem off41_le (i : grid0.Coords) (v167 : BitVec 32) (v170 : BitVec 32) (v173 : BitVec 32) (v176 : BitVec 32) (v179 : BitVec 32) : k0_off41 i v167 v170 v173 v176 v179 0 ≤ 37 :=
  (off41_step i v167 v170 v173 v176 v179).trans (Nat.succ_le_succ (off40_le i v167 v170 v173 v176 v179))

theorem off42_step (i : grid0.Coords) (v167 : BitVec 32) (v170 : BitVec 32) (v173 : BitVec 32) (v176 : BitVec 32) (v179 : BitVec 32) : k0_off42 i v167 v170 v173 v176 v179 0 ≤ k0_off41 i v167 v170 v173 v176 v179 0 + 1 := by
  unfold k0_off42 k0_off41; exact count_step _ _

theorem off42_le (i : grid0.Coords) (v167 : BitVec 32) (v170 : BitVec 32) (v173 : BitVec 32) (v176 : BitVec 32) (v179 : BitVec 32) : k0_off42 i v167 v170 v173 v176 v179 0 ≤ 38 :=
  (off42_step i v167 v170 v173 v176 v179).trans (Nat.succ_le_succ (off41_le i v167 v170 v173 v176 v179))

theorem off43_step (i : grid0.Coords) (v167 : BitVec 32) (v170 : BitVec 32) (v173 : BitVec 32) (v176 : BitVec 32) (v179 : BitVec 32) : k0_off43 i v167 v170 v173 v176 v179 0 ≤ k0_off42 i v167 v170 v173 v176 v179 0 + 1 := by
  unfold k0_off43 k0_off42; exact count_step _ _

theorem off43_le (i : grid0.Coords) (v167 : BitVec 32) (v170 : BitVec 32) (v173 : BitVec 32) (v176 : BitVec 32) (v179 : BitVec 32) : k0_off43 i v167 v170 v173 v176 v179 0 ≤ 39 :=
  (off43_step i v167 v170 v173 v176 v179).trans (Nat.succ_le_succ (off42_le i v167 v170 v173 v176 v179))

theorem off44_step (i : grid0.Coords) (v167 : BitVec 32) (v170 : BitVec 32) (v173 : BitVec 32) (v176 : BitVec 32) (v179 : BitVec 32) : k0_off44 i v167 v170 v173 v176 v179 0 ≤ k0_off43 i v167 v170 v173 v176 v179 0 + 1 := by
  unfold k0_off44 k0_off43; exact count_step _ _

theorem off44_le (i : grid0.Coords) (v167 : BitVec 32) (v170 : BitVec 32) (v173 : BitVec 32) (v176 : BitVec 32) (v179 : BitVec 32) : k0_off44 i v167 v170 v173 v176 v179 0 ≤ 40 :=
  (off44_step i v167 v170 v173 v176 v179).trans (Nat.succ_le_succ (off43_le i v167 v170 v173 v176 v179))

theorem off45_step (i : grid0.Coords) (v167 : BitVec 32) (v170 : BitVec 32) (v173 : BitVec 32) (v176 : BitVec 32) (v179 : BitVec 32) (v182 : BitVec 32) : k0_off45 i v167 v170 v173 v176 v179 v182 0 ≤ k0_off44 i v167 v170 v173 v176 v179 0 + 1 := by
  unfold k0_off45 k0_off44; exact count_step _ _

theorem off45_le (i : grid0.Coords) (v167 : BitVec 32) (v170 : BitVec 32) (v173 : BitVec 32) (v176 : BitVec 32) (v179 : BitVec 32) (v182 : BitVec 32) : k0_off45 i v167 v170 v173 v176 v179 v182 0 ≤ 41 :=
  (off45_step i v167 v170 v173 v176 v179 v182).trans (Nat.succ_le_succ (off44_le i v167 v170 v173 v176 v179))

theorem off46_step (i : grid0.Coords) (v167 : BitVec 32) (v170 : BitVec 32) (v173 : BitVec 32) (v176 : BitVec 32) (v179 : BitVec 32) (v182 : BitVec 32) : k0_off46 i v167 v170 v173 v176 v179 v182 0 ≤ k0_off45 i v167 v170 v173 v176 v179 v182 0 + 1 := by
  unfold k0_off46 k0_off45; exact count_step _ _

theorem off46_le (i : grid0.Coords) (v167 : BitVec 32) (v170 : BitVec 32) (v173 : BitVec 32) (v176 : BitVec 32) (v179 : BitVec 32) (v182 : BitVec 32) : k0_off46 i v167 v170 v173 v176 v179 v182 0 ≤ 42 :=
  (off46_step i v167 v170 v173 v176 v179 v182).trans (Nat.succ_le_succ (off45_le i v167 v170 v173 v176 v179 v182))

theorem off47_step (i : grid0.Coords) (v167 : BitVec 32) (v170 : BitVec 32) (v173 : BitVec 32) (v176 : BitVec 32) (v179 : BitVec 32) (v182 : BitVec 32) : k0_off47 i v167 v170 v173 v176 v179 v182 0 ≤ k0_off46 i v167 v170 v173 v176 v179 v182 0 + 1 := by
  unfold k0_off47 k0_off46; exact count_step _ _

theorem off47_le (i : grid0.Coords) (v167 : BitVec 32) (v170 : BitVec 32) (v173 : BitVec 32) (v176 : BitVec 32) (v179 : BitVec 32) (v182 : BitVec 32) : k0_off47 i v167 v170 v173 v176 v179 v182 0 ≤ 43 :=
  (off47_step i v167 v170 v173 v176 v179 v182).trans (Nat.succ_le_succ (off46_le i v167 v170 v173 v176 v179 v182))

theorem off48_step (i : grid0.Coords) (v167 : BitVec 32) (v170 : BitVec 32) (v173 : BitVec 32) (v176 : BitVec 32) (v179 : BitVec 32) (v182 : BitVec 32) : k0_off48 i v167 v170 v173 v176 v179 v182 0 ≤ k0_off47 i v167 v170 v173 v176 v179 v182 0 + 1 := by
  unfold k0_off48 k0_off47; exact count_step _ _

theorem off48_le (i : grid0.Coords) (v167 : BitVec 32) (v170 : BitVec 32) (v173 : BitVec 32) (v176 : BitVec 32) (v179 : BitVec 32) (v182 : BitVec 32) : k0_off48 i v167 v170 v173 v176 v179 v182 0 ≤ 44 :=
  (off48_step i v167 v170 v173 v176 v179 v182).trans (Nat.succ_le_succ (off47_le i v167 v170 v173 v176 v179 v182))

theorem off49_step (i : grid0.Coords) (v167 : BitVec 32) (v170 : BitVec 32) (v173 : BitVec 32) (v176 : BitVec 32) (v179 : BitVec 32) (v182 : BitVec 32) : k0_off49 i v167 v170 v173 v176 v179 v182 0 ≤ k0_off48 i v167 v170 v173 v176 v179 v182 0 + 1 := by
  unfold k0_off49 k0_off48; exact count_step _ _

theorem off49_le (i : grid0.Coords) (v167 : BitVec 32) (v170 : BitVec 32) (v173 : BitVec 32) (v176 : BitVec 32) (v179 : BitVec 32) (v182 : BitVec 32) : k0_off49 i v167 v170 v173 v176 v179 v182 0 ≤ 45 :=
  (off49_step i v167 v170 v173 v176 v179 v182).trans (Nat.succ_le_succ (off48_le i v167 v170 v173 v176 v179 v182))

theorem off50_step (i : grid0.Coords) (v167 : BitVec 32) (v170 : BitVec 32) (v173 : BitVec 32) (v176 : BitVec 32) (v179 : BitVec 32) (v182 : BitVec 32) : k0_off50 i v167 v170 v173 v176 v179 v182 0 ≤ k0_off49 i v167 v170 v173 v176 v179 v182 0 + 1 := by
  unfold k0_off50 k0_off49; exact count_step _ _

theorem off50_le (i : grid0.Coords) (v167 : BitVec 32) (v170 : BitVec 32) (v173 : BitVec 32) (v176 : BitVec 32) (v179 : BitVec 32) (v182 : BitVec 32) : k0_off50 i v167 v170 v173 v176 v179 v182 0 ≤ 46 :=
  (off50_step i v167 v170 v173 v176 v179 v182).trans (Nat.succ_le_succ (off49_le i v167 v170 v173 v176 v179 v182))

theorem off51_step (i : grid0.Coords) (v167 : BitVec 32) (v170 : BitVec 32) (v173 : BitVec 32) (v176 : BitVec 32) (v179 : BitVec 32) (v182 : BitVec 32) : k0_off51 i v167 v170 v173 v176 v179 v182 0 ≤ k0_off50 i v167 v170 v173 v176 v179 v182 0 + 1 := by
  unfold k0_off51 k0_off50; exact count_step _ _

theorem off51_le (i : grid0.Coords) (v167 : BitVec 32) (v170 : BitVec 32) (v173 : BitVec 32) (v176 : BitVec 32) (v179 : BitVec 32) (v182 : BitVec 32) : k0_off51 i v167 v170 v173 v176 v179 v182 0 ≤ 47 :=
  (off51_step i v167 v170 v173 v176 v179 v182).trans (Nat.succ_le_succ (off50_le i v167 v170 v173 v176 v179 v182))

theorem off52_step (i : grid0.Coords) (v167 : BitVec 32) (v170 : BitVec 32) (v173 : BitVec 32) (v176 : BitVec 32) (v179 : BitVec 32) (v182 : BitVec 32) : k0_off52 i v167 v170 v173 v176 v179 v182 0 ≤ k0_off51 i v167 v170 v173 v176 v179 v182 0 + 1 := by
  unfold k0_off52 k0_off51; exact count_step _ _

theorem off52_le (i : grid0.Coords) (v167 : BitVec 32) (v170 : BitVec 32) (v173 : BitVec 32) (v176 : BitVec 32) (v179 : BitVec 32) (v182 : BitVec 32) : k0_off52 i v167 v170 v173 v176 v179 v182 0 ≤ 48 :=
  (off52_step i v167 v170 v173 v176 v179 v182).trans (Nat.succ_le_succ (off51_le i v167 v170 v173 v176 v179 v182))

theorem off53_step (i : grid0.Coords) (v167 : BitVec 32) (v170 : BitVec 32) (v173 : BitVec 32) (v176 : BitVec 32) (v179 : BitVec 32) (v182 : BitVec 32) (v185 : BitVec 32) : k0_off53 i v167 v170 v173 v176 v179 v182 v185 0 ≤ k0_off52 i v167 v170 v173 v176 v179 v182 0 + 1 := by
  unfold k0_off53 k0_off52; exact count_step _ _

theorem off53_le (i : grid0.Coords) (v167 : BitVec 32) (v170 : BitVec 32) (v173 : BitVec 32) (v176 : BitVec 32) (v179 : BitVec 32) (v182 : BitVec 32) (v185 : BitVec 32) : k0_off53 i v167 v170 v173 v176 v179 v182 v185 0 ≤ 49 :=
  (off53_step i v167 v170 v173 v176 v179 v182 v185).trans (Nat.succ_le_succ (off52_le i v167 v170 v173 v176 v179 v182))

theorem off54_step (i : grid0.Coords) (v167 : BitVec 32) (v170 : BitVec 32) (v173 : BitVec 32) (v176 : BitVec 32) (v179 : BitVec 32) (v182 : BitVec 32) (v185 : BitVec 32) : k0_off54 i v167 v170 v173 v176 v179 v182 v185 0 ≤ k0_off53 i v167 v170 v173 v176 v179 v182 v185 0 + 1 := by
  unfold k0_off54 k0_off53; exact count_step _ _

theorem off54_le (i : grid0.Coords) (v167 : BitVec 32) (v170 : BitVec 32) (v173 : BitVec 32) (v176 : BitVec 32) (v179 : BitVec 32) (v182 : BitVec 32) (v185 : BitVec 32) : k0_off54 i v167 v170 v173 v176 v179 v182 v185 0 ≤ 50 :=
  (off54_step i v167 v170 v173 v176 v179 v182 v185).trans (Nat.succ_le_succ (off53_le i v167 v170 v173 v176 v179 v182 v185))

theorem off55_step (i : grid0.Coords) (v167 : BitVec 32) (v170 : BitVec 32) (v173 : BitVec 32) (v176 : BitVec 32) (v179 : BitVec 32) (v182 : BitVec 32) (v185 : BitVec 32) : k0_off55 i v167 v170 v173 v176 v179 v182 v185 0 ≤ k0_off54 i v167 v170 v173 v176 v179 v182 v185 0 + 1 := by
  unfold k0_off55 k0_off54; exact count_step _ _

theorem off55_le (i : grid0.Coords) (v167 : BitVec 32) (v170 : BitVec 32) (v173 : BitVec 32) (v176 : BitVec 32) (v179 : BitVec 32) (v182 : BitVec 32) (v185 : BitVec 32) : k0_off55 i v167 v170 v173 v176 v179 v182 v185 0 ≤ 51 :=
  (off55_step i v167 v170 v173 v176 v179 v182 v185).trans (Nat.succ_le_succ (off54_le i v167 v170 v173 v176 v179 v182 v185))

theorem off56_step (i : grid0.Coords) (v167 : BitVec 32) (v170 : BitVec 32) (v173 : BitVec 32) (v176 : BitVec 32) (v179 : BitVec 32) (v182 : BitVec 32) (v185 : BitVec 32) : k0_off56 i v167 v170 v173 v176 v179 v182 v185 0 ≤ k0_off55 i v167 v170 v173 v176 v179 v182 v185 0 + 1 := by
  unfold k0_off56 k0_off55; exact count_step _ _

theorem off56_le (i : grid0.Coords) (v167 : BitVec 32) (v170 : BitVec 32) (v173 : BitVec 32) (v176 : BitVec 32) (v179 : BitVec 32) (v182 : BitVec 32) (v185 : BitVec 32) : k0_off56 i v167 v170 v173 v176 v179 v182 v185 0 ≤ 52 :=
  (off56_step i v167 v170 v173 v176 v179 v182 v185).trans (Nat.succ_le_succ (off55_le i v167 v170 v173 v176 v179 v182 v185))

theorem off57_step (i : grid0.Coords) (v167 : BitVec 32) (v170 : BitVec 32) (v173 : BitVec 32) (v176 : BitVec 32) (v179 : BitVec 32) (v182 : BitVec 32) (v185 : BitVec 32) : k0_off57 i v167 v170 v173 v176 v179 v182 v185 0 ≤ k0_off56 i v167 v170 v173 v176 v179 v182 v185 0 + 1 := by
  unfold k0_off57 k0_off56; exact count_step _ _

theorem off57_le (i : grid0.Coords) (v167 : BitVec 32) (v170 : BitVec 32) (v173 : BitVec 32) (v176 : BitVec 32) (v179 : BitVec 32) (v182 : BitVec 32) (v185 : BitVec 32) : k0_off57 i v167 v170 v173 v176 v179 v182 v185 0 ≤ 53 :=
  (off57_step i v167 v170 v173 v176 v179 v182 v185).trans (Nat.succ_le_succ (off56_le i v167 v170 v173 v176 v179 v182 v185))

theorem off58_step (i : grid0.Coords) (v167 : BitVec 32) (v170 : BitVec 32) (v173 : BitVec 32) (v176 : BitVec 32) (v179 : BitVec 32) (v182 : BitVec 32) (v185 : BitVec 32) : k0_off58 i v167 v170 v173 v176 v179 v182 v185 0 ≤ k0_off57 i v167 v170 v173 v176 v179 v182 v185 0 + 1 := by
  unfold k0_off58 k0_off57; exact count_step _ _

theorem off58_le (i : grid0.Coords) (v167 : BitVec 32) (v170 : BitVec 32) (v173 : BitVec 32) (v176 : BitVec 32) (v179 : BitVec 32) (v182 : BitVec 32) (v185 : BitVec 32) : k0_off58 i v167 v170 v173 v176 v179 v182 v185 0 ≤ 54 :=
  (off58_step i v167 v170 v173 v176 v179 v182 v185).trans (Nat.succ_le_succ (off57_le i v167 v170 v173 v176 v179 v182 v185))

theorem off59_step (i : grid0.Coords) (v167 : BitVec 32) (v170 : BitVec 32) (v173 : BitVec 32) (v176 : BitVec 32) (v179 : BitVec 32) (v182 : BitVec 32) (v185 : BitVec 32) : k0_off59 i v167 v170 v173 v176 v179 v182 v185 0 ≤ k0_off58 i v167 v170 v173 v176 v179 v182 v185 0 + 1 := by
  unfold k0_off59 k0_off58; exact count_step _ _

theorem off59_le (i : grid0.Coords) (v167 : BitVec 32) (v170 : BitVec 32) (v173 : BitVec 32) (v176 : BitVec 32) (v179 : BitVec 32) (v182 : BitVec 32) (v185 : BitVec 32) : k0_off59 i v167 v170 v173 v176 v179 v182 v185 0 ≤ 55 :=
  (off59_step i v167 v170 v173 v176 v179 v182 v185).trans (Nat.succ_le_succ (off58_le i v167 v170 v173 v176 v179 v182 v185))

theorem off60_step (i : grid0.Coords) (v167 : BitVec 32) (v170 : BitVec 32) (v173 : BitVec 32) (v176 : BitVec 32) (v179 : BitVec 32) (v182 : BitVec 32) (v185 : BitVec 32) : k0_off60 i v167 v170 v173 v176 v179 v182 v185 0 ≤ k0_off59 i v167 v170 v173 v176 v179 v182 v185 0 + 1 := by
  unfold k0_off60 k0_off59; exact count_step _ _

theorem off60_le (i : grid0.Coords) (v167 : BitVec 32) (v170 : BitVec 32) (v173 : BitVec 32) (v176 : BitVec 32) (v179 : BitVec 32) (v182 : BitVec 32) (v185 : BitVec 32) : k0_off60 i v167 v170 v173 v176 v179 v182 v185 0 ≤ 56 :=
  (off60_step i v167 v170 v173 v176 v179 v182 v185).trans (Nat.succ_le_succ (off59_le i v167 v170 v173 v176 v179 v182 v185))

theorem off61_step (i : grid0.Coords) (v167 : BitVec 32) (v170 : BitVec 32) (v173 : BitVec 32) (v176 : BitVec 32) (v179 : BitVec 32) (v182 : BitVec 32) (v185 : BitVec 32) (v188 : BitVec 32) : k0_off61 i v167 v170 v173 v176 v179 v182 v185 v188 0 ≤ k0_off60 i v167 v170 v173 v176 v179 v182 v185 0 + 1 := by
  unfold k0_off61 k0_off60; exact count_step _ _

theorem off61_le (i : grid0.Coords) (v167 : BitVec 32) (v170 : BitVec 32) (v173 : BitVec 32) (v176 : BitVec 32) (v179 : BitVec 32) (v182 : BitVec 32) (v185 : BitVec 32) (v188 : BitVec 32) : k0_off61 i v167 v170 v173 v176 v179 v182 v185 v188 0 ≤ 57 :=
  (off61_step i v167 v170 v173 v176 v179 v182 v185 v188).trans (Nat.succ_le_succ (off60_le i v167 v170 v173 v176 v179 v182 v185))

theorem off62_step (i : grid0.Coords) (v167 : BitVec 32) (v170 : BitVec 32) (v173 : BitVec 32) (v176 : BitVec 32) (v179 : BitVec 32) (v182 : BitVec 32) (v185 : BitVec 32) (v188 : BitVec 32) : k0_off62 i v167 v170 v173 v176 v179 v182 v185 v188 0 ≤ k0_off61 i v167 v170 v173 v176 v179 v182 v185 v188 0 + 1 := by
  unfold k0_off62 k0_off61; exact count_step _ _

theorem off62_le (i : grid0.Coords) (v167 : BitVec 32) (v170 : BitVec 32) (v173 : BitVec 32) (v176 : BitVec 32) (v179 : BitVec 32) (v182 : BitVec 32) (v185 : BitVec 32) (v188 : BitVec 32) : k0_off62 i v167 v170 v173 v176 v179 v182 v185 v188 0 ≤ 58 :=
  (off62_step i v167 v170 v173 v176 v179 v182 v185 v188).trans (Nat.succ_le_succ (off61_le i v167 v170 v173 v176 v179 v182 v185 v188))

theorem off63_step (i : grid0.Coords) (v167 : BitVec 32) (v170 : BitVec 32) (v173 : BitVec 32) (v176 : BitVec 32) (v179 : BitVec 32) (v182 : BitVec 32) (v185 : BitVec 32) (v188 : BitVec 32) : k0_off63 i v167 v170 v173 v176 v179 v182 v185 v188 0 ≤ k0_off62 i v167 v170 v173 v176 v179 v182 v185 v188 0 + 1 := by
  unfold k0_off63 k0_off62; exact count_step _ _

theorem off63_le (i : grid0.Coords) (v167 : BitVec 32) (v170 : BitVec 32) (v173 : BitVec 32) (v176 : BitVec 32) (v179 : BitVec 32) (v182 : BitVec 32) (v185 : BitVec 32) (v188 : BitVec 32) : k0_off63 i v167 v170 v173 v176 v179 v182 v185 v188 0 ≤ 59 :=
  (off63_step i v167 v170 v173 v176 v179 v182 v185 v188).trans (Nat.succ_le_succ (off62_le i v167 v170 v173 v176 v179 v182 v185 v188))

theorem off64_step (i : grid0.Coords) (v167 : BitVec 32) (v170 : BitVec 32) (v173 : BitVec 32) (v176 : BitVec 32) (v179 : BitVec 32) (v182 : BitVec 32) (v185 : BitVec 32) (v188 : BitVec 32) : k0_off64 i v167 v170 v173 v176 v179 v182 v185 v188 0 ≤ k0_off63 i v167 v170 v173 v176 v179 v182 v185 v188 0 + 1 := by
  unfold k0_off64 k0_off63; exact count_step _ _

theorem off64_le (i : grid0.Coords) (v167 : BitVec 32) (v170 : BitVec 32) (v173 : BitVec 32) (v176 : BitVec 32) (v179 : BitVec 32) (v182 : BitVec 32) (v185 : BitVec 32) (v188 : BitVec 32) : k0_off64 i v167 v170 v173 v176 v179 v182 v185 v188 0 ≤ 60 :=
  (off64_step i v167 v170 v173 v176 v179 v182 v185 v188).trans (Nat.succ_le_succ (off63_le i v167 v170 v173 v176 v179 v182 v185 v188))

theorem off65_step (i : grid0.Coords) (v167 : BitVec 32) (v170 : BitVec 32) (v173 : BitVec 32) (v176 : BitVec 32) (v179 : BitVec 32) (v182 : BitVec 32) (v185 : BitVec 32) (v188 : BitVec 32) : k0_off65 i v167 v170 v173 v176 v179 v182 v185 v188 0 ≤ k0_off64 i v167 v170 v173 v176 v179 v182 v185 v188 0 + 1 := by
  unfold k0_off65 k0_off64; exact count_step _ _

theorem off65_le (i : grid0.Coords) (v167 : BitVec 32) (v170 : BitVec 32) (v173 : BitVec 32) (v176 : BitVec 32) (v179 : BitVec 32) (v182 : BitVec 32) (v185 : BitVec 32) (v188 : BitVec 32) : k0_off65 i v167 v170 v173 v176 v179 v182 v185 v188 0 ≤ 61 :=
  (off65_step i v167 v170 v173 v176 v179 v182 v185 v188).trans (Nat.succ_le_succ (off64_le i v167 v170 v173 v176 v179 v182 v185 v188))

/-- The number of pairs of listed tiles, the count of `x` listed tiles rounded up to a pair, as the kernel divides it. -/
def pairs (x : BitVec 32) : BitVec 32 :=
  let y := Scalar.subi (Scalar.addi x 2#32) 1#32
  let sy := Scalar.subi (Scalar.extui (Scalar.cmpi .sgt y 0#32)) (Scalar.extui (Scalar.cmpi .slt y 0#32))
  let s2 := Scalar.subi (Scalar.extui (Scalar.cmpi .sgt 2#32 0#32)) (Scalar.extui (Scalar.cmpi .slt 2#32 0#32))
  Scalar.select (Scalar.andi (Scalar.cmpi .ne sy s2) (Scalar.cmpi .ne (Scalar.remsi y 2#32) 0#32)) (Scalar.subi (Scalar.divsi y 2#32) 1#32)
    (Scalar.divsi y 2#32)

/-- Where the loop over the pairs from `l` on ends, as its bounds are computed; -/
def passEnd (l x : BitVec 32) : BitVec 32 :=
  Scalar.addi l (Scalar.muli (Scalar.divsi (Scalar.subi (pairs x) l) 1#32) 1#32)

/-- that loop, -/
def pass (l x : BitVec 32) : Scf.Loop 32 := ⟨l, passEnd l x, 1#32⟩

/-- and the one over what it leaves. -/
def rest (l x : BitVec 32) : Scf.Loop 32 := ⟨passEnd l x, Scalar.addi l (Scalar.subi (pairs x) l), 1#32⟩

/-- The offset of the pair's `r`-th tile, at the trip's induction word. -/
def pairOff (w r : BitVec 32) : Fin 1 → ℕ := ![(Scalar.indexCast (Scalar.addi (Scalar.muli w 2#32) r) : Index).toNat]

/-- Both loops of a count of at most sixty-two stay within the list and the eight null tiles after it. -/
theorem pass_ok : ∀ x : Fin 63,
    ((pass 4#32 (BitVec.ofNat 32 x)).OK ∧ ∀ t : Fin (pass 4#32 (BitVec.ofNat 32 x)).trips, ∀ r : Fin 2,
      pairOff (Scf.iv 4#32 1#32 t) (BitVec.ofNat 32 r) 0 < x + 8) ∧
    ((rest 4#32 (BitVec.ofNat 32 x)).OK ∧ ∀ t : Fin (rest 4#32 (BitVec.ofNat 32 x)).trips, ∀ r : Fin 2,
      pairOff (Scf.iv (passEnd 4#32 (BitVec.ofNat 32 x)) 1#32 t) (BitVec.ofNat 32 r) 0 < x + 8) := by
  decide +kernel

theorem pass0_ok : ∀ x : Fin 63,
    ((pass 0#32 (BitVec.ofNat 32 x)).OK ∧ ∀ t : Fin (pass 0#32 (BitVec.ofNat 32 x)).trips, ∀ r : Fin 2,
      pairOff (Scf.iv 0#32 1#32 t) (BitVec.ofNat 32 r) 0 < x + 8) ∧
    ((rest 0#32 (BitVec.ofNat 32 x)).OK ∧ ∀ t : Fin (rest 0#32 (BitVec.ofNat 32 x)).trips, ∀ r : Fin 2,
      pairOff (Scf.iv (passEnd 0#32 (BitVec.ofNat 32 x)) 1#32 t) (BitVec.ofNat 32 r) 0 < x + 8) := by
  decide +kernel

/-- The count of the listed tiles: the null tiles' offsets and the loops over the list are computed from it. -/
theorem counted (i : grid0.Coords) (v167 : BitVec 32) (v170 : BitVec 32) (v173 : BitVec 32) (v176 : BitVec 32) (v179 : BitVec 32) (v182 : BitVec 32) (v185 : BitVec 32) (v188 : BitVec 32) : ∃ x : Fin 63,
    (∀ c : BitVec 32, k0_off66 i v167 v170 v173 v176 v179 v182 v185 v188 c = ![(Scalar.indexCast (Scalar.addi (BitVec.ofNat 32 x) c) : Index).toNat]) ∧
    x.val ≤ k0_off65 i v167 v170 v173 v176 v179 v182 v185 v188 0 + 1 ∧
    k0_t1_loop i v167 v170 v173 v176 v179 v182 v185 v188 = pass 4#32 (BitVec.ofNat 32 x) ∧ k0_t2_loop i v167 v170 v173 v176 v179 v182 v185 v188 = rest 4#32 (BitVec.ofNat 32 x) ∧
    k0_t3_loop i v167 v170 v173 v176 v179 v182 v185 v188 = pass 0#32 (BitVec.ofNat 32 x) ∧ k0_t4_loop i v167 v170 v173 v176 v179 v182 v185 v188 = rest 0#32 (BitVec.ofNat 32 x) ∧
    (∀ t r, k0_off93 i v167 v170 v173 v176 v179 v182 v185 v188 t r = pairOff (Scf.iv 4#32 1#32 t) r) ∧
    (∀ t r, k0_off99 i v167 v170 v173 v176 v179 v182 v185 v188 t r = pairOff (Scf.iv (passEnd 4#32 (BitVec.ofNat 32 x)) 1#32 t) r) ∧
    (∀ t r, k0_off107 i v167 v170 v173 v176 v179 v182 v185 v188 t r = pairOff (Scf.iv 0#32 1#32 t) r) ∧
    (∀ t r, k0_off113 i v167 v170 v173 v176 v179 v182 v185 v188 t r = pairOff (Scf.iv (passEnd 0#32 (BitVec.ofNat 32 x)) 1#32 t) r) := by
  suffices h : ∃ x : BitVec 32,
      (∀ c : BitVec 32, k0_off66 i v167 v170 v173 v176 v179 v182 v185 v188 c = ![(Scalar.indexCast (Scalar.addi x c) : Index).toNat]) ∧
      x.toNat ≤ k0_off65 i v167 v170 v173 v176 v179 v182 v185 v188 0 + 1 ∧
      k0_t1_loop i v167 v170 v173 v176 v179 v182 v185 v188 = pass 4#32 x ∧ k0_t2_loop i v167 v170 v173 v176 v179 v182 v185 v188 = rest 4#32 x ∧
      k0_t3_loop i v167 v170 v173 v176 v179 v182 v185 v188 = pass 0#32 x ∧ k0_t4_loop i v167 v170 v173 v176 v179 v182 v185 v188 = rest 0#32 x ∧
      (∀ t r, k0_off93 i v167 v170 v173 v176 v179 v182 v185 v188 t r = pairOff (Scf.iv 4#32 1#32 t) r) ∧
      (∀ t r, k0_off99 i v167 v170 v173 v176 v179 v182 v185 v188 t r = pairOff (Scf.iv (passEnd 4#32 x) 1#32 t) r) ∧
      (∀ t r, k0_off107 i v167 v170 v173 v176 v179 v182 v185 v188 t r = pairOff (Scf.iv 0#32 1#32 t) r) ∧
      (∀ t r, k0_off113 i v167 v170 v173 v176 v179 v182 v185 v188 t r = pairOff (Scf.iv (passEnd 0#32 x) 1#32 t) r) by
    obtain ⟨x, hx⟩ := h
    have h62 : x.toNat < 63 := Nat.lt_succ_of_le (hx.2.1.trans (Nat.succ_le_succ (off65_le i v167 v170 v173 v176 v179 v182 v185 v188)))
    refine ⟨⟨x.toNat, h62⟩, ?_⟩
    have e : BitVec.ofNat 32 x.toNat = x := BitVec.eq_of_toNat_eq (by simp)
    simpa only [e] using hx
  refine ⟨?x, ?h1, ?h2, ?h3, ?h4, ?h5, ?h6, ?h7, ?h8, ?h9, ?h10⟩
  case h1 => intro c; unfold k0_off66; rfl
  case h2 => unfold k0_off65; exact count_step _ _
  case h3 => unfold k0_t1_loop; rfl
  case h4 => unfold k0_t2_loop; rfl
  case h5 => unfold k0_t3_loop; rfl
  case h6 => unfold k0_t4_loop; rfl
  case h7 => intro t r; unfold k0_off93; rfl
  case h8 => intro t r; unfold k0_off99; rfl
  case h9 => intro t r; unfold k0_off107; rfl
  case h10 => intro t r; unfold k0_off113; rfl

theorem null_sum : ∀ x : Fin 63, ∀ r : Fin 8,
    (Scalar.indexCast (Scalar.addi (BitVec.ofNat 32 x) (BitVec.ofNat 32 r)) : Index).toNat = x.val + r.val := by
  decide +kernel

/-- The null tile `r`'s offset: `r` past the count, -/
theorem off66_at (i : grid0.Coords) (v167 : BitVec 32) (v170 : BitVec 32) (v173 : BitVec 32) (v176 : BitVec 32) (v179 : BitVec 32) (v182 : BitVec 32) (v185 : BitVec 32) (v188 : BitVec 32) : ∃ x : ℕ, x < 63 ∧ x ≤ k0_off65 i v167 v170 v173 v176 v179 v182 v185 v188 0 + 1 ∧ ∀ r : Fin 8, k0_off66 i v167 v170 v173 v176 v179 v182 v185 v188 (BitVec.ofNat 32 r) 0 = x + r.val := by
  obtain ⟨x, h, h2, -⟩ := counted i v167 v170 v173 v176 v179 v182 v185 v188
  exact ⟨x, x.isLt, h2, fun r => by rw [h]; exact null_sum x r⟩

/-- which is the first one's past the last chosen tile's, -/
theorem off66_first (i : grid0.Coords) (v167 : BitVec 32) (v170 : BitVec 32) (v173 : BitVec 32) (v176 : BitVec 32) (v179 : BitVec 32) (v182 : BitVec 32) (v185 : BitVec 32) (v188 : BitVec 32) : k0_off66 i v167 v170 v173 v176 v179 v182 v185 v188 0#32 0 ≤ k0_off65 i v167 v170 v173 v176 v179 v182 v185 v188 0 + 1 := by
  obtain ⟨x, -, h2, h⟩ := off66_at i v167 v170 v173 v176 v179 v182 v185 v188
  exact (h 0).trans_le h2

/-- and each one's past the one before. -/
theorem off66_next (i : grid0.Coords) (v167 : BitVec 32) (v170 : BitVec 32) (v173 : BitVec 32) (v176 : BitVec 32) (v179 : BitVec 32) (v182 : BitVec 32) (v185 : BitVec 32) (v188 : BitVec 32) (r : Fin 7) :
    k0_off66 i v167 v170 v173 v176 v179 v182 v185 v188 (BitVec.ofNat 32 (r.val + 1)) 0 ≤ k0_off66 i v167 v170 v173 v176 v179 v182 v185 v188 (BitVec.ofNat 32 r.val) 0 + 1 := by
  obtain ⟨x, -, -, h⟩ := off66_at i v167 v170 v173 v176 v179 v182 v185 v188
  exact ((h r.succ).trans (by simp [Nat.add_assoc])).le.trans (Nat.succ_le_succ (h r.castSucc).ge)

/-- How many words of the list name tiles once the null tiles are written. -/
def listed (i : grid0.Coords) (v167 : BitVec 32) (v170 : BitVec 32) (v173 : BitVec 32) (v176 : BitVec 32) (v179 : BitVec 32) (v182 : BitVec 32) (v185 : BitVec 32) (v188 : BitVec 32) : ℕ := k0_off66 i v167 v170 v173 v176 v179 v182 v185 v188 7#32 0 + 1

theorem listed_eq (i : grid0.Coords) (v167 : BitVec 32) (v170 : BitVec 32) (v173 : BitVec 32) (v176 : BitVec 32) (v179 : BitVec 32) (v182 : BitVec 32) (v185 : BitVec 32) (v188 : BitVec 32) : ∃ x : Fin 63, listed i v167 v170 v173 v176 v179 v182 v185 v188 = x.val + 8 ∧ k0_t1_loop i v167 v170 v173 v176 v179 v182 v185 v188 = pass 4#32 (BitVec.ofNat 32 x) ∧
    k0_t2_loop i v167 v170 v173 v176 v179 v182 v185 v188 = rest 4#32 (BitVec.ofNat 32 x) ∧
    k0_t3_loop i v167 v170 v173 v176 v179 v182 v185 v188 = pass 0#32 (BitVec.ofNat 32 x) ∧ k0_t4_loop i v167 v170 v173 v176 v179 v182 v185 v188 = rest 0#32 (BitVec.ofNat 32 x) ∧
    (∀ t r, k0_off93 i v167 v170 v173 v176 v179 v182 v185 v188 t r = pairOff (Scf.iv 4#32 1#32 t) r) ∧
    (∀ t r, k0_off99 i v167 v170 v173 v176 v179 v182 v185 v188 t r = pairOff (Scf.iv (passEnd 4#32 (BitVec.ofNat 32 x)) 1#32 t) r) ∧
    (∀ t r, k0_off107 i v167 v170 v173 v176 v179 v182 v185 v188 t r = pairOff (Scf.iv 0#32 1#32 t) r) ∧
    (∀ t r, k0_off113 i v167 v170 v173 v176 v179 v182 v185 v188 t r = pairOff (Scf.iv (passEnd 0#32 (BitVec.ofNat 32 x)) 1#32 t) r) := by
  obtain ⟨x, h, -, hr⟩ := counted i v167 v170 v173 v176 v179 v182 v185 v188
  exact ⟨x, by unfold listed; rw [h]; exact congrArg Nat.succ (null_sum x 7), hr⟩

theorem listed_le (i : grid0.Coords) (v167 : BitVec 32) (v170 : BitVec 32) (v173 : BitVec 32) (v176 : BitVec 32) (v179 : BitVec 32) (v182 : BitVec 32) (v185 : BitVec 32) (v188 : BitVec 32) : listed i v167 v170 v173 v176 v179 v182 v185 v188 ≤ 70 := by
  obtain ⟨x, h, -⟩ := listed_eq i v167 v170 v173 v176 v179 v182 v185 v188
  omega

theorem eight_le_listed (i : grid0.Coords) (v167 : BitVec 32) (v170 : BitVec 32) (v173 : BitVec 32) (v176 : BitVec 32) (v179 : BitVec 32) (v182 : BitVec 32) (v185 : BitVec 32) (v188 : BitVec 32) : 8 ≤ listed i v167 v170 v173 v176 v179 v182 v185 v188 := by
  obtain ⟨x, h, -⟩ := listed_eq i v167 v170 v173 v176 v179 v182 v185 v188
  omega

theorem t1_ok (i : grid0.Coords) (v167 : BitVec 32) (v170 : BitVec 32) (v173 : BitVec 32) (v176 : BitVec 32) (v179 : BitVec 32) (v182 : BitVec 32) (v185 : BitVec 32) (v188 : BitVec 32) : (k0_t1_loop i v167 v170 v173 v176 v179 v182 v185 v188).OK := by
  obtain ⟨x, e, hl, -, -, -, ho, -⟩ := listed_eq i v167 v170 v173 v176 v179 v182 v185 v188
  rw [hl]; exact (pass_ok x).1.1

theorem off93_lt (i : grid0.Coords) (v167 : BitVec 32) (v170 : BitVec 32) (v173 : BitVec 32) (v176 : BitVec 32) (v179 : BitVec 32) (v182 : BitVec 32) (v185 : BitVec 32) (v188 : BitVec 32) (t : Fin (k0_t1_loop i v167 v170 v173 v176 v179 v182 v185 v188).trips) (r : Fin 2) : k0_off93 i v167 v170 v173 v176 v179 v182 v185 v188 t (BitVec.ofNat 32 r) 0 < listed i v167 v170 v173 v176 v179 v182 v185 v188 := by
  obtain ⟨x, e, hl, -, -, -, ho, -⟩ := listed_eq i v167 v170 v173 v176 v179 v182 v185 v188
  rw [ho, e]
  exact (pass_ok x).1.2 ⟨t.val, lt_of_lt_of_eq t.isLt (congrArg Scf.Loop.trips hl)⟩ r

theorem t2_ok (i : grid0.Coords) (v167 : BitVec 32) (v170 : BitVec 32) (v173 : BitVec 32) (v176 : BitVec 32) (v179 : BitVec 32) (v182 : BitVec 32) (v185 : BitVec 32) (v188 : BitVec 32) : (k0_t2_loop i v167 v170 v173 v176 v179 v182 v185 v188).OK := by
  obtain ⟨x, e, -, hl, -, -, -, ho, -⟩ := listed_eq i v167 v170 v173 v176 v179 v182 v185 v188
  rw [hl]; exact (pass_ok x).2.1

theorem off99_lt (i : grid0.Coords) (v167 : BitVec 32) (v170 : BitVec 32) (v173 : BitVec 32) (v176 : BitVec 32) (v179 : BitVec 32) (v182 : BitVec 32) (v185 : BitVec 32) (v188 : BitVec 32) (t : Fin (k0_t2_loop i v167 v170 v173 v176 v179 v182 v185 v188).trips) (r : Fin 2) : k0_off99 i v167 v170 v173 v176 v179 v182 v185 v188 t (BitVec.ofNat 32 r) 0 < listed i v167 v170 v173 v176 v179 v182 v185 v188 := by
  obtain ⟨x, e, -, hl, -, -, -, ho, -⟩ := listed_eq i v167 v170 v173 v176 v179 v182 v185 v188
  rw [ho, e]
  exact (pass_ok x).2.2 ⟨t.val, lt_of_lt_of_eq t.isLt (congrArg Scf.Loop.trips hl)⟩ r

theorem t3_ok (i : grid0.Coords) (v167 : BitVec 32) (v170 : BitVec 32) (v173 : BitVec 32) (v176 : BitVec 32) (v179 : BitVec 32) (v182 : BitVec 32) (v185 : BitVec 32) (v188 : BitVec 32) : (k0_t3_loop i v167 v170 v173 v176 v179 v182 v185 v188).OK := by
  obtain ⟨x, e, -, -, hl, -, -, -, ho, -⟩ := listed_eq i v167 v170 v173 v176 v179 v182 v185 v188
  rw [hl]; exact (pass0_ok x).1.1

theorem off107_lt (i : grid0.Coords) (v167 : BitVec 32) (v170 : BitVec 32) (v173 : BitVec 32) (v176 : BitVec 32) (v179 : BitVec 32) (v182 : BitVec 32) (v185 : BitVec 32) (v188 : BitVec 32) (t : Fin (k0_t3_loop i v167 v170 v173 v176 v179 v182 v185 v188).trips) (r : Fin 2) : k0_off107 i v167 v170 v173 v176 v179 v182 v185 v188 t (BitVec.ofNat 32 r) 0 < listed i v167 v170 v173 v176 v179 v182 v185 v188 := by
  obtain ⟨x, e, -, -, hl, -, -, -, ho, -⟩ := listed_eq i v167 v170 v173 v176 v179 v182 v185 v188
  rw [ho, e]
  exact (pass0_ok x).1.2 ⟨t.val, lt_of_lt_of_eq t.isLt (congrArg Scf.Loop.trips hl)⟩ r

theorem t4_ok (i : grid0.Coords) (v167 : BitVec 32) (v170 : BitVec 32) (v173 : BitVec 32) (v176 : BitVec 32) (v179 : BitVec 32) (v182 : BitVec 32) (v185 : BitVec 32) (v188 : BitVec 32) : (k0_t4_loop i v167 v170 v173 v176 v179 v182 v185 v188).OK := by
  obtain ⟨x, e, -, -, -, hl, -, -, -, ho⟩ := listed_eq i v167 v170 v173 v176 v179 v182 v185 v188
  rw [hl]; exact (pass0_ok x).2.1

theorem off113_lt (i : grid0.Coords) (v167 : BitVec 32) (v170 : BitVec 32) (v173 : BitVec 32) (v176 : BitVec 32) (v179 : BitVec 32) (v182 : BitVec 32) (v185 : BitVec 32) (v188 : BitVec 32) (t : Fin (k0_t4_loop i v167 v170 v173 v176 v179 v182 v185 v188).trips) (r : Fin 2) : k0_off113 i v167 v170 v173 v176 v179 v182 v185 v188 t (BitVec.ofNat 32 r) 0 < listed i v167 v170 v173 v176 v179 v182 v185 v188 := by
  obtain ⟨x, e, -, -, -, hl, -, -, -, ho⟩ := listed_eq i v167 v170 v173 v176 v179 v182 v185 v188
  rw [ho, e]
  exact (pass0_ok x).2.2 ⟨t.val, lt_of_lt_of_eq t.isLt (congrArg Scf.Loop.trips hl)⟩ r

theorem chk1_ok (i : grid0.Coords) (v167 : BitVec 32) : k0_chk1 i v167 := by
  unfold k0_chk1
  exact ⟨inList ((off5_le i v167).trans (by decide)),
    inList ((off6_le i v167).trans (by decide)),
    inList ((off7_le i v167).trans (by decide)),
    inList ((off8_le i v167).trans (by decide)),
    inList ((off9_le i v167).trans (by decide)),
    inList ((off10_le i v167).trans (by decide)),
    inList ((off11_le i v167).trans (by decide)),
    inList ((off12_le i v167).trans (by decide))⟩

theorem chk2_ok (i : grid0.Coords) (v167 : BitVec 32) (v170 : BitVec 32) : k0_chk2 i v167 v170 := by
  unfold k0_chk2
  exact ⟨inList ((off13_le i v167 v170).trans (by decide)),
    inList ((off14_le i v167 v170).trans (by decide)),
    inList ((off15_le i v167 v170).trans (by decide)),
    inList ((off16_le i v167 v170).trans (by decide)),
    inList ((off17_le i v167 v170).trans (by decide)),
    inList ((off18_le i v167 v170).trans (by decide)),
    inList ((off19_le i v167 v170).trans (by decide)),
    inList ((off20_le i v167 v170).trans (by decide))⟩

theorem chk3_ok (i : grid0.Coords) (v167 : BitVec 32) (v170 : BitVec 32) (v173 : BitVec 32) : k0_chk3 i v167 v170 v173 := by
  unfold k0_chk3
  exact ⟨inList ((off21_le i v167 v170 v173).trans (by decide)),
    inList ((off22_le i v167 v170 v173).trans (by decide)),
    inList ((off23_le i v167 v170 v173).trans (by decide)),
    inList ((off24_le i v167 v170 v173).trans (by decide)),
    inList ((off25_le i v167 v170 v173).trans (by decide)),
    inList ((off26_le i v167 v170 v173).trans (by decide)),
    inList ((off27_le i v167 v170 v173).trans (by decide)),
    inList ((off28_le i v167 v170 v173).trans (by decide))⟩

theorem chk4_ok (i : grid0.Coords) (v167 : BitVec 32) (v170 : BitVec 32) (v173 : BitVec 32) (v176 : BitVec 32) : k0_chk4 i v167 v170 v173 v176 := by
  unfold k0_chk4
  exact ⟨inList ((off29_le i v167 v170 v173 v176).trans (by decide)),
    inList ((off30_le i v167 v170 v173 v176).trans (by decide)),
    inList ((off31_le i v167 v170 v173 v176).trans (by decide)),
    inList ((off32_le i v167 v170 v173 v176).trans (by decide)),
    inList ((off33_le i v167 v170 v173 v176).trans (by decide)),
    inList ((off34_le i v167 v170 v173 v176).trans (by decide)),
    inList ((off35_le i v167 v170 v173 v176).trans (by decide)),
    inList ((off36_le i v167 v170 v173 v176).trans (by decide))⟩

theorem chk5_ok (i : grid0.Coords) (v167 : BitVec 32) (v170 : BitVec 32) (v173 : BitVec 32) (v176 : BitVec 32) (v179 : BitVec 32) : k0_chk5 i v167 v170 v173 v176 v179 := by
  unfold k0_chk5
  exact ⟨inList ((off37_le i v167 v170 v173 v176 v179).trans (by decide)),
    inList ((off38_le i v167 v170 v173 v176 v179).trans (by decide)),
    inList ((off39_le i v167 v170 v173 v176 v179).trans (by decide)),
    inList ((off40_le i v167 v170 v173 v176 v179).trans (by decide)),
    inList ((off41_le i v167 v170 v173 v176 v179).trans (by decide)),
    inList ((off42_le i v167 v170 v173 v176 v179).trans (by decide)),
    inList ((off43_le i v167 v170 v173 v176 v179).trans (by decide)),
    inList ((off44_le i v167 v170 v173 v176 v179).trans (by decide))⟩

theorem chk6_ok (i : grid0.Coords) (v167 : BitVec 32) (v170 : BitVec 32) (v173 : BitVec 32) (v176 : BitVec 32) (v179 : BitVec 32) (v182 : BitVec 32) : k0_chk6 i v167 v170 v173 v176 v179 v182 := by
  unfold k0_chk6
  exact ⟨inList ((off45_le i v167 v170 v173 v176 v179 v182).trans (by decide)),
    inList ((off46_le i v167 v170 v173 v176 v179 v182).trans (by decide)),
    inList ((off47_le i v167 v170 v173 v176 v179 v182).trans (by decide)),
    inList ((off48_le i v167 v170 v173 v176 v179 v182).trans (by decide)),
    inList ((off49_le i v167 v170 v173 v176 v179 v182).trans (by decide)),
    inList ((off50_le i v167 v170 v173 v176 v179 v182).trans (by decide)),
    inList ((off51_le i v167 v170 v173 v176 v179 v182).trans (by decide)),
    inList ((off52_le i v167 v170 v173 v176 v179 v182).trans (by decide))⟩

theorem chk7_ok (i : grid0.Coords) (v167 : BitVec 32) (v170 : BitVec 32) (v173 : BitVec 32) (v176 : BitVec 32) (v179 : BitVec 32) (v182 : BitVec 32) (v185 : BitVec 32) : k0_chk7 i v167 v170 v173 v176 v179 v182 v185 := by
  unfold k0_chk7
  exact ⟨inList ((off53_le i v167 v170 v173 v176 v179 v182 v185).trans (by decide)),
    inList ((off54_le i v167 v170 v173 v176 v179 v182 v185).trans (by decide)),
    inList ((off55_le i v167 v170 v173 v176 v179 v182 v185).trans (by decide)),
    inList ((off56_le i v167 v170 v173 v176 v179 v182 v185).trans (by decide)),
    inList ((off57_le i v167 v170 v173 v176 v179 v182 v185).trans (by decide)),
    inList ((off58_le i v167 v170 v173 v176 v179 v182 v185).trans (by decide)),
    inList ((off59_le i v167 v170 v173 v176 v179 v182 v185).trans (by decide)),
    inList ((off60_le i v167 v170 v173 v176 v179 v182 v185).trans (by decide))⟩

theorem chk8_ok (i : grid0.Coords) (v167 : BitVec 32) (v170 : BitVec 32) (v173 : BitVec 32) (v176 : BitVec 32) (v179 : BitVec 32) (v182 : BitVec 32) (v185 : BitVec 32) (v188 : BitVec 32) : k0_chk8 i v167 v170 v173 v176 v179 v182 v185 v188 := by
  unfold k0_chk8
  exact ⟨inList ((off61_le i v167 v170 v173 v176 v179 v182 v185 v188).trans (by decide)),
    inList ((off62_le i v167 v170 v173 v176 v179 v182 v185 v188).trans (by decide)),
    inList ((off63_le i v167 v170 v173 v176 v179 v182 v185 v188).trans (by decide)),
    inList ((off64_le i v167 v170 v173 v176 v179 v182 v185 v188).trans (by decide)),
    inList ((off65_le i v167 v170 v173 v176 v179 v182 v185 v188).trans (by decide)),
    fun r => inList (by obtain ⟨x, hx, -, h⟩ := off66_at i v167 v170 v173 v176 v179 v182 v185 v188; have := h r; omega),
    t1_ok i v167 v170 v173 v176 v179 v182 v185 v188,
    fun t r => inList (Nat.le_of_lt_succ ((off93_lt i v167 v170 v173 v176 v179 v182 v185 v188 t r).trans_le ((listed_le i v167 v170 v173 v176 v179 v182 v185 v188).trans (by decide)))),
    t2_ok i v167 v170 v173 v176 v179 v182 v185 v188,
    fun t r => inList (Nat.le_of_lt_succ ((off99_lt i v167 v170 v173 v176 v179 v182 v185 v188 t r).trans_le ((listed_le i v167 v170 v173 v176 v179 v182 v185 v188).trans (by decide))))⟩

theorem chk21_ok (i : grid0.Coords) (v167 : BitVec 32) (v170 : BitVec 32) (v173 : BitVec 32) (v176 : BitVec 32) (v179 : BitVec 32) (v182 : BitVec 32) (v185 : BitVec 32) (v188 : BitVec 32) (v2024 : BitVec 1) : k0_chk21 i v167 v170 v173 v176 v179 v182 v185 v188 v2024 := by
  unfold k0_chk21
  exact ⟨fun _ => t3_ok i v167 v170 v173 v176 v179 v182 v185 v188, fun t _ r => inList (Nat.le_of_lt_succ ((off107_lt i v167 v170 v173 v176 v179 v182 v185 v188 t r).trans_le ((listed_le i v167 v170 v173 v176 v179 v182 v185 v188).trans (by decide)))),
    fun _ => t4_ok i v167 v170 v173 v176 v179 v182 v185 v188, fun t _ r => inList (Nat.le_of_lt_succ ((off113_lt i v167 v170 v173 v176 v179 v182 v185 v188 t r).trans_le ((listed_le i v167 v170 v173 v176 v179 v182 v185 v188).trans (by decide))))⟩

/-- A tile's rows start at a multiple of 128. -/
theorem tile_dvd : ∀ w : Fin 68, 128 ∣ (Scalar.muli (BitVec.ofNat 32 w) 128#32).toNat := by decide +kernel

theorem tile_rows : ∀ w : Fin 68, (Scalar.indexCast (Scalar.muli (BitVec.ofNat 32 w) 128#32) : Index).toNat + 128 ≤ 8704 := by decide +kernel

theorem tile_at : ∀ w : Fin 68, (Scalar.indexCast (BitVec.ofNat 32 w) : Index).toNat + 1 ≤ 68 := by decide +kernel

/-- The tile's rows lie within the selected keys, -/
theorem rows_in (w : Fin 68) {off : Fin 4 → ℕ} (h : off = ![0, 0, (Scalar.indexCast (Scalar.muli (BitVec.ofNat 32 w) 128#32) : Index).toNat, 0]) (a : Fin 4) :
    off a + S1x1x128x256.size a ≤ S1x1x8704x256.size a := by
  subst h
  have := tile_rows w
  fin_cases a
  · exact Nat.le_refl 1
  · exact Nat.le_refl 1
  · exact this
  · exact Nat.le_refl 256

/-- and the tile within the selected values. -/
theorem tile_in (w : Fin 68) {off : Fin 5 → ℕ} (h : off = ![0, 0, (Scalar.indexCast (BitVec.ofNat 32 w) : Index).toNat, 0, 0]) (a : Fin 5) :
    off a + S1x1x1x80x128.size a ≤ S1x1x68x80x128.size a := by
  subst h
  have := tile_at w
  fin_cases a
  · exact Nat.le_refl 1
  · exact Nat.le_refl 1
  · exact this
  · exact Nat.le_refl 80
  · exact Nat.le_refl 128

theorem of_word {C : BitVec 32 → Prop} (h : ∀ w : Fin 68, C (BitVec.ofNat 32 w)) (v : BitVec 32) (hv : v.toNat < 68) : C v := by
  have := h ⟨v.toNat, hv⟩
  rwa [show BitVec.ofNat 32 v.toNat = v from BitVec.eq_of_toNat_eq (by simp)] at this

theorem chk9_ok : ∀ v : BitVec 32, v.toNat < 68 → k0_chk9 v := of_word fun w => by
  unfold k0_chk9; exact ⟨tile_dvd w, rows_in w rfl, tile_dvd w, rows_in w rfl, tile_dvd w, tile_dvd w, tile_in w rfl⟩

theorem chk10_ok : ∀ v : BitVec 32, v.toNat < 68 → k0_chk10 v := of_word fun w => by
  unfold k0_chk10; exact ⟨tile_dvd w, rows_in w rfl, tile_dvd w, rows_in w rfl, tile_dvd w, tile_dvd w, tile_in w rfl⟩

theorem chk11_ok : ∀ v : BitVec 32, v.toNat < 68 → k0_chk11 v := of_word fun w => by
  unfold k0_chk11; exact ⟨tile_dvd w, rows_in w rfl, tile_dvd w, rows_in w rfl, tile_dvd w, tile_dvd w, tile_in w rfl⟩

theorem chk12_ok : ∀ v : BitVec 32, v.toNat < 68 → k0_chk12 v := of_word fun w => by
  unfold k0_chk12; exact ⟨tile_dvd w, rows_in w rfl, tile_dvd w, rows_in w rfl, tile_dvd w, tile_dvd w, tile_in w rfl⟩

theorem chk13_ok : ∀ v : BitVec 32, v.toNat < 68 → k0_chk13 v := of_word fun w => by
  unfold k0_chk13; exact ⟨tile_dvd w, rows_in w rfl, tile_dvd w, rows_in w rfl, tile_dvd w, tile_dvd w, tile_in w rfl⟩

theorem chk14_ok : ∀ v : BitVec 32, v.toNat < 68 → k0_chk14 v := of_word fun w => by
  unfold k0_chk14; exact ⟨tile_dvd w, rows_in w rfl, tile_dvd w, rows_in w rfl, tile_dvd w, tile_dvd w, tile_in w rfl⟩

theorem chk15_ok : ∀ v : BitVec 32, v.toNat < 68 → k0_chk15 v := of_word fun w => by
  unfold k0_chk15; exact ⟨tile_dvd w, rows_in w rfl, tile_dvd w, rows_in w rfl, tile_dvd w, tile_dvd w, tile_in w rfl⟩

theorem chk16_ok : ∀ v : BitVec 32, v.toNat < 68 → k0_chk16 v := of_word fun w => by
  unfold k0_chk16; exact ⟨tile_dvd w, rows_in w rfl, tile_dvd w, tile_dvd w, tile_dvd w, tile_in w rfl⟩

theorem chk17_ok : ∀ v : BitVec 32, v.toNat < 68 → k0_chk17 v := of_word fun w => by
  unfold k0_chk17; exact ⟨tile_dvd w, rows_in w rfl, tile_dvd w, rows_in w rfl, tile_dvd w, tile_dvd w, tile_in w rfl⟩

theorem chk18_ok : ∀ v : BitVec 32, v.toNat < 68 → k0_chk18 v := of_word fun w => by
  unfold k0_chk18; exact ⟨tile_dvd w, rows_in w rfl, tile_dvd w, tile_dvd w, tile_dvd w, tile_in w rfl⟩

theorem chk19_ok : ∀ v : BitVec 32, v.toNat < 68 → k0_chk19 v := of_word fun w => by
  unfold k0_chk19; exact ⟨tile_dvd w, rows_in w rfl, tile_dvd w, rows_in w rfl, tile_dvd w, tile_dvd w, tile_in w rfl⟩

theorem chk20_ok : ∀ v : BitVec 32, v.toNat < 68 → k0_chk20 v := of_word fun w => by
  unfold k0_chk20; exact ⟨tile_dvd w, rows_in w rfl, tile_dvd w, tile_dvd w, tile_dvd w, tile_in w rfl⟩

theorem chk22_ok (c : BitVec 1) : ∀ v : BitVec 32, v.toNat < 68 → k0_chk22 c v := of_word fun w => by
  unfold k0_chk22; exact ⟨fun _ => tile_dvd w, fun _ => rows_in w rfl, fun _ => tile_dvd w, fun _ => rows_in w rfl, fun _ => tile_dvd w, fun _ => tile_dvd w, fun _ => tile_in w rfl⟩

theorem chk23_ok (c : BitVec 1) : ∀ v : BitVec 32, v.toNat < 68 → k0_chk23 c v := of_word fun w => by
  unfold k0_chk23; exact ⟨fun _ => tile_dvd w, fun _ => rows_in w rfl, fun _ => tile_dvd w, fun _ => tile_dvd w, fun _ => tile_dvd w, fun _ => tile_in w rfl⟩

theorem chk24_ok (c : BitVec 1) : ∀ v : BitVec 32, v.toNat < 68 → k0_chk24 c v := of_word fun w => by
  unfold k0_chk24; exact ⟨fun _ => tile_dvd w, fun _ => rows_in w rfl, fun _ => tile_dvd w, fun _ => rows_in w rfl, fun _ => tile_dvd w, fun _ => tile_dvd w, fun _ => tile_in w rfl⟩

theorem chk25_ok (c : BitVec 1) : ∀ v : BitVec 32, v.toNat < 68 → k0_chk25 c v := of_word fun w => by
  unfold k0_chk25; exact ⟨fun _ => tile_dvd w, fun _ => rows_in w rfl, fun _ => tile_dvd w, fun _ => tile_dvd w, fun _ => tile_dvd w, fun _ => tile_in w rfl⟩

end Cert.KernelIdeal.Attn

end
-- ==== Proof.Pairs.lean ====
/-
  The two loops over pairs of listed tiles, and the fallback's two, are safe.
-/
module

public import proofs.«01_k».proof.Proof.Safe
public import proofs.«01_k».proof.Proof.Offs

@[expose] public section

set_option maxHeartbeats 4000000
set_option maxRecDepth 100000

noncomputable section

namespace Cert.KernelIdeal.Attn

open Cert.KernelIdeal Cert.KernelIdeal.Gen
open Idealize.ShloMosaic Idealize.ShloMosaic.TcCoe

variable {F : FTy → Type} [FloatOps F]

variable (R : Refs)

theorem safe57 {i : grid0.Coords} {v167 : BitVec 32} {v170 : BitVec 32} {v173 : BitVec 32} {v176 : BitVec 32} {v179 : BitVec 32} {v182 : BitVec 32} {v185 : BitVec 32} {v188 : BitVec 32} {k0_hw8 : k0_chk8 i v167 v170 v173 v176 v179 v182 v185 v188} {v821 : FVec F S256x256 .bf16} {v822 : FVec F S256x256 .bf16} {c4_i32_1033 : BitVec 32} {c1_i32_1035 : BitVec 32} {k0_t1 : Fin (k0_t1_loop i v167 v170 v173 v176 v179 v182 v185 v188).trips} :
    Safe (F := F) R (listed i v167 v170 v173 v176 v179 v182 v185 v188) (k0_part57 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v167 v170 v173 v176 v179 v182 v185 v188 k0_hw8 v821 v822 c4_i32_1033 c1_i32_1035 k0_t1) (fun _ => listed i v167 v170 v173 v176 v179 v182 v185 v188) := by
  rw [k0_part57_eq_skeleton]; unfold k0_part57_skel
  refine .word (off93_lt i v167 v170 v173 v176 v179 v182 v185 v188 _ 0) fun _ hw0 => ?_
  refine .assume (chk17_ok _ hw0) ?_
  refine .word (off93_lt i v167 v170 v173 v176 v179 v182 v185 v188 _ 1) fun _ hw1 => ?_
  refine .assume (chk18_ok _ hw1) ?_
  refine .l7 fun _ => ?_
  refine .l7 fun _ => ?_
  refine .l7 fun _ => ?_
  refine .l7 fun _ => ?_
  exact .ret le_rfl

theorem safe58 {i : grid0.Coords} {v823 : FVec F S256x256 .bf16} {v824 : FVec F S256x256 .bf16} {v2031 : Elt F .i32} {k0_hw17 : k0_chk17 v2031} {v2035 : Elt F .i32} {k0_hw18 : k0_chk18 v2035} {c128_i32_1100 : BitVec 32} {n : ℕ} :
    Safe (F := F) R n (k0_part58 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v823 v824 v2031 k0_hw17 v2035 k0_hw18 c128_i32_1100) (fun _ => n) := by
  rw [k0_part58_eq_skeleton]; unfold k0_part58_skel
  refine .l7 fun _ => ?_
  refine .l7 fun _ => ?_
  refine .l7 fun _ => ?_
  refine .l7 fun _ => ?_
  refine .l16 fun _ => ?_
  refine .l15 fun _ => ?_
  refine .l8 fun _ => ?_
  exact .ret le_rfl

theorem safe59 {i : grid0.Coords} {v2031 : Elt F .i32} {k0_hw17 : k0_chk17 v2031} {v2035 : Elt F .i32} {k0_hw18 : k0_chk18 v2035} {v2041 : FVec F S128x256 .f32} {v2047 : FVec F S128x256 .f32} {v2053 : FVec F S128x256 .f32} {v2059 : FVec F S128x256 .f32} {v2084 : Vec F S80x256 .f32} {v2085 : Vec F S1x256 .f32} {v2088 : FVec F S80x128 .bf16} {n : ℕ} :
    Safe (F := F) R n (k0_part59 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v2031 k0_hw17 v2035 k0_hw18 v2041 v2047 v2053 v2059 v2084 v2085 v2088) (fun _ => n) := by
  rw [k0_part59_eq_skeleton]; unfold k0_part59_skel
  refine .l8 fun _ => ?_
  refine .l16 fun _ => ?_
  refine .s16 ?_
  refine .l16 fun _ => ?_
  refine .l15 fun _ => ?_
  refine .l8 fun _ => ?_
  refine .l8 fun _ => ?_
  refine .l16 fun _ => ?_
  exact .ret le_rfl

theorem safe60 {i : grid0.Coords} {v2031 : Elt F .i32} {k0_hw17 : k0_chk17 v2031} {v2035 : Elt F .i32} {k0_hw18 : k0_chk18 v2035} {v2065 : FVec F S128x256 .f32} {v2071 : FVec F S128x256 .f32} {v2129 : FVec F S80x256 .f32} {n : ℕ} :
    Safe (F := F) R n (k0_part60 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v2031 k0_hw17 v2035 k0_hw18 v2065 v2071 v2129) (fun _ => n) := by
  rw [k0_part60_eq_skeleton]; unfold k0_part60_skel
  refine .s16 ?_
  refine .l16 fun _ => ?_
  refine .l15 fun _ => ?_
  refine .l8 fun _ => ?_
  refine .l8 fun _ => ?_
  refine .l16 fun _ => ?_
  refine .s16 ?_
  refine .l16 fun _ => ?_
  refine .l15 fun _ => ?_
  refine .l8 fun _ => ?_
  refine .l8 fun _ => ?_
  exact .ret le_rfl

theorem safe61 {i : grid0.Coords} {v167 : BitVec 32} {v170 : BitVec 32} {v173 : BitVec 32} {v176 : BitVec 32} {v179 : BitVec 32} {v182 : BitVec 32} {v185 : BitVec 32} {v188 : BitVec 32} {k0_hw8 : k0_chk8 i v167 v170 v173 v176 v179 v182 v185 v188} {v821 : FVec F S256x256 .bf16} {v822 : FVec F S256x256 .bf16} {v1874 : BitVec 32} {c1_i32_1036 : BitVec 32} {k0_t2 : Fin (k0_t2_loop i v167 v170 v173 v176 v179 v182 v185 v188).trips} :
    Safe (F := F) R (listed i v167 v170 v173 v176 v179 v182 v185 v188) (k0_part61 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v167 v170 v173 v176 v179 v182 v185 v188 k0_hw8 v821 v822 v1874 c1_i32_1036 k0_t2) (fun _ => listed i v167 v170 v173 v176 v179 v182 v185 v188) := by
  rw [k0_part61_eq_skeleton]; unfold k0_part61_skel
  refine .word (off99_lt i v167 v170 v173 v176 v179 v182 v185 v188 _ 0) fun _ hw0 => ?_
  refine .assume (chk19_ok _ hw0) ?_
  refine .word (off99_lt i v167 v170 v173 v176 v179 v182 v185 v188 _ 1) fun _ hw1 => ?_
  refine .assume (chk20_ok _ hw1) ?_
  refine .l7 fun _ => ?_
  refine .l7 fun _ => ?_
  refine .l7 fun _ => ?_
  refine .l7 fun _ => ?_
  exact .ret le_rfl

theorem safe62 {i : grid0.Coords} {v823 : FVec F S256x256 .bf16} {v824 : FVec F S256x256 .bf16} {v2031 : Elt F .i32} {k0_hw19 : k0_chk19 v2031} {v2035 : Elt F .i32} {k0_hw20 : k0_chk20 v2035} {c128_i32_1100 : BitVec 32} {n : ℕ} :
    Safe (F := F) R n (k0_part62 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v823 v824 v2031 k0_hw19 v2035 k0_hw20 c128_i32_1100) (fun _ => n) := by
  rw [k0_part62_eq_skeleton]; unfold k0_part62_skel
  refine .l7 fun _ => ?_
  refine .l7 fun _ => ?_
  refine .l7 fun _ => ?_
  refine .l7 fun _ => ?_
  refine .l16 fun _ => ?_
  refine .l15 fun _ => ?_
  refine .l8 fun _ => ?_
  exact .ret le_rfl

theorem safe63 {i : grid0.Coords} {v2031 : Elt F .i32} {k0_hw19 : k0_chk19 v2031} {v2035 : Elt F .i32} {k0_hw20 : k0_chk20 v2035} {v2041 : FVec F S128x256 .f32} {v2047 : FVec F S128x256 .f32} {v2053 : FVec F S128x256 .f32} {v2059 : FVec F S128x256 .f32} {v2084 : Vec F S80x256 .f32} {v2085 : Vec F S1x256 .f32} {v2088 : FVec F S80x128 .bf16} {n : ℕ} :
    Safe (F := F) R n (k0_part63 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v2031 k0_hw19 v2035 k0_hw20 v2041 v2047 v2053 v2059 v2084 v2085 v2088) (fun _ => n) := by
  rw [k0_part63_eq_skeleton]; unfold k0_part63_skel
  refine .l8 fun _ => ?_
  refine .l16 fun _ => ?_
  refine .s16 ?_
  refine .l16 fun _ => ?_
  refine .l15 fun _ => ?_
  refine .l8 fun _ => ?_
  refine .l8 fun _ => ?_
  refine .l16 fun _ => ?_
  exact .ret le_rfl

theorem safe64 {i : grid0.Coords} {v2031 : Elt F .i32} {k0_hw19 : k0_chk19 v2031} {v2035 : Elt F .i32} {k0_hw20 : k0_chk20 v2035} {v2065 : FVec F S128x256 .f32} {v2071 : FVec F S128x256 .f32} {v2129 : FVec F S80x256 .f32} {n : ℕ} :
    Safe (F := F) R n (k0_part64 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v2031 k0_hw19 v2035 k0_hw20 v2065 v2071 v2129) (fun _ => n) := by
  rw [k0_part64_eq_skeleton]; unfold k0_part64_skel
  refine .s16 ?_
  refine .l16 fun _ => ?_
  refine .l15 fun _ => ?_
  refine .l8 fun _ => ?_
  refine .l8 fun _ => ?_
  refine .l16 fun _ => ?_
  refine .s16 ?_
  refine .l16 fun _ => ?_
  refine .l15 fun _ => ?_
  refine .l8 fun _ => ?_
  refine .l8 fun _ => ?_
  exact .ret le_rfl

theorem safe65 {i : grid0.Coords} {v167 : BitVec 32} {v170 : BitVec 32} {v173 : BitVec 32} {v176 : BitVec 32} {v179 : BitVec 32} {v182 : BitVec 32} {v185 : BitVec 32} {v188 : BitVec 32} {v821 : FVec F S256x256 .bf16} {v822 : FVec F S256x256 .bf16} {v2024 : BitVec 1} {k0_hw21 : k0_chk21 i v167 v170 v173 v176 v179 v182 v185 v188 v2024} {k0_h4 : k0_cond4 v2024 = 1#1} {c0_i32_1185 : BitVec 32} {c1_i32_1187 : BitVec 32} {k0_t3 : Fin (k0_t3_loop i v167 v170 v173 v176 v179 v182 v185 v188).trips} :
    Safe (F := F) R (listed i v167 v170 v173 v176 v179 v182 v185 v188) (k0_part65 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v167 v170 v173 v176 v179 v182 v185 v188 v821 v822 v2024 k0_hw21 k0_h4 c0_i32_1185 c1_i32_1187 k0_t3) (fun _ => listed i v167 v170 v173 v176 v179 v182 v185 v188) := by
  rw [k0_part65_eq_skeleton]; unfold k0_part65_skel
  refine .word (off107_lt i v167 v170 v173 v176 v179 v182 v185 v188 _ 0) fun _ hw0 => ?_
  refine .assume (chk22_ok _ _ hw0) ?_
  refine .word (off107_lt i v167 v170 v173 v176 v179 v182 v185 v188 _ 1) fun _ hw1 => ?_
  refine .assume (chk23_ok _ _ hw1) ?_
  refine .l7 fun _ => ?_
  refine .l7 fun _ => ?_
  refine .l7 fun _ => ?_
  refine .l7 fun _ => ?_
  exact .ret le_rfl

theorem safe66 {i : grid0.Coords} {v823 : FVec F S256x256 .bf16} {v824 : FVec F S256x256 .bf16} {v2024 : BitVec 1} {k0_h4 : k0_cond4 v2024 = 1#1} {v2707 : Elt F .i32} {k0_hw22 : k0_chk22 v2024 v2707} {v2711 : Elt F .i32} {k0_hw23 : k0_chk23 v2024 v2711} {v2717 : FVec F S128x256 .f32} {v2723 : FVec F S128x256 .f32} {c128_i32_1487 : BitVec 32} {n : ℕ} :
    Safe (F := F) R n (k0_part66 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v823 v824 v2024 k0_h4 v2707 k0_hw22 v2711 k0_hw23 v2717 v2723 c128_i32_1487) (fun _ => n) := by
  rw [k0_part66_eq_skeleton]; unfold k0_part66_skel
  refine .l7 fun _ => ?_
  refine .l7 fun _ => ?_
  refine .l7 fun _ => ?_
  refine .l7 fun _ => ?_
  refine .l15 fun _ => ?_
  refine .l15 fun _ => ?_
  refine .s15 ?_
  exact .ret le_rfl

theorem safe67 {i : grid0.Coords} {v2024 : BitVec 1} {k0_h4 : k0_cond4 v2024 = 1#1} {v2707 : Elt F .i32} {k0_hw22 : k0_chk22 v2024 v2707} {v2711 : Elt F .i32} {k0_hw23 : k0_chk23 v2024 v2711} {v2717 : FVec F S128x256 .f32} {v2723 : FVec F S128x256 .f32} {v2729 : FVec F S128x256 .f32} {v2735 : FVec F S128x256 .f32} {v2760 : Vec F S1x256 .f32} {v2766 : FVec F S1x256 .f32} {n : ℕ} :
    Safe (F := F) R n (k0_part67 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v2024 k0_h4 v2707 k0_hw22 v2711 k0_hw23 v2717 v2723 v2729 v2735 v2760 v2766) (fun _ => n) := by
  rw [k0_part67_eq_skeleton]; unfold k0_part67_skel
  refine .l16 fun _ => ?_
  refine .l8 fun _ => ?_
  refine .l8 fun _ => ?_
  refine .l16 fun _ => ?_
  refine .s16 ?_
  refine .l15 fun _ => ?_
  refine .l15 fun _ => ?_
  refine .s15 ?_
  exact .ret le_rfl

theorem safe68 {i : grid0.Coords} {v2024 : BitVec 1} {k0_h4 : k0_cond4 v2024 = 1#1} {v2707 : Elt F .i32} {k0_hw22 : k0_chk22 v2024 v2707} {v2711 : Elt F .i32} {k0_hw23 : k0_chk23 v2024 v2711} {v2729 : FVec F S128x256 .f32} {v2735 : FVec F S128x256 .f32} {v2741 : FVec F S128x256 .f32} {v2747 : FVec F S128x256 .f32} {v2802 : FVec F S1x256 .f32} {v2807 : FVec F S1x256 .f32} {n : ℕ} :
    Safe (F := F) R n (k0_part68 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v2024 k0_h4 v2707 k0_hw22 v2711 k0_hw23 v2729 v2735 v2741 v2747 v2802 v2807) (fun _ => n) := by
  rw [k0_part68_eq_skeleton]; unfold k0_part68_skel
  refine .l16 fun _ => ?_
  refine .l8 fun _ => ?_
  refine .l8 fun _ => ?_
  refine .l16 fun _ => ?_
  refine .s16 ?_
  refine .l15 fun _ => ?_
  refine .l15 fun _ => ?_
  refine .s15 ?_
  refine .l16 fun _ => ?_
  exact .ret le_rfl

theorem safe69 {i : grid0.Coords} {v2024 : BitVec 1} {k0_h4 : k0_cond4 v2024 = 1#1} {v2707 : Elt F .i32} {k0_hw22 : k0_chk22 v2024 v2707} {v2711 : Elt F .i32} {k0_hw23 : k0_chk23 v2024 v2711} {v2741 : FVec F S128x256 .f32} {v2747 : FVec F S128x256 .f32} {v2753 : FVec F S128x256 .f32} {v2759 : FVec F S128x256 .f32} {v2838 : FVec F S1x256 .f32} {v2844 : Vec F S80x256 .f32} {v2845 : FVec F S80x256 .f32} {n : ℕ} :
    Safe (F := F) R n (k0_part69 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v2024 k0_h4 v2707 k0_hw22 v2711 k0_hw23 v2741 v2747 v2753 v2759 v2838 v2844 v2845) (fun _ => n) := by
  rw [k0_part69_eq_skeleton]; unfold k0_part69_skel
  refine .l8 fun _ => ?_
  refine .l8 fun _ => ?_
  refine .l16 fun _ => ?_
  refine .s16 ?_
  refine .l15 fun _ => ?_
  refine .l15 fun _ => ?_
  refine .s15 ?_
  refine .l16 fun _ => ?_
  exact .ret le_rfl

theorem safe70 {i : grid0.Coords} {v167 : BitVec 32} {v170 : BitVec 32} {v173 : BitVec 32} {v176 : BitVec 32} {v179 : BitVec 32} {v182 : BitVec 32} {v185 : BitVec 32} {v188 : BitVec 32} {v821 : FVec F S256x256 .bf16} {v822 : FVec F S256x256 .bf16} {v2024 : BitVec 1} {k0_hw21 : k0_chk21 i v167 v170 v173 v176 v179 v182 v185 v188 v2024} {k0_h4 : k0_cond4 v2024 = 1#1} {v2208 : BitVec 32} {c1_i32_1188 : BitVec 32} {k0_t4 : Fin (k0_t4_loop i v167 v170 v173 v176 v179 v182 v185 v188).trips} :
    Safe (F := F) R (listed i v167 v170 v173 v176 v179 v182 v185 v188) (k0_part70 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v167 v170 v173 v176 v179 v182 v185 v188 v821 v822 v2024 k0_hw21 k0_h4 v2208 c1_i32_1188 k0_t4) (fun _ => listed i v167 v170 v173 v176 v179 v182 v185 v188) := by
  rw [k0_part70_eq_skeleton]; unfold k0_part70_skel
  refine .word (off113_lt i v167 v170 v173 v176 v179 v182 v185 v188 _ 0) fun _ hw0 => ?_
  refine .assume (chk24_ok _ _ hw0) ?_
  refine .word (off113_lt i v167 v170 v173 v176 v179 v182 v185 v188 _ 1) fun _ hw1 => ?_
  refine .assume (chk25_ok _ _ hw1) ?_
  refine .l7 fun _ => ?_
  refine .l7 fun _ => ?_
  refine .l7 fun _ => ?_
  refine .l7 fun _ => ?_
  exact .ret le_rfl

theorem safe71 {i : grid0.Coords} {v823 : FVec F S256x256 .bf16} {v824 : FVec F S256x256 .bf16} {v2024 : BitVec 1} {k0_h4 : k0_cond4 v2024 = 1#1} {v2707 : Elt F .i32} {k0_hw24 : k0_chk24 v2024 v2707} {v2711 : Elt F .i32} {k0_hw25 : k0_chk25 v2024 v2711} {v2717 : FVec F S128x256 .f32} {v2723 : FVec F S128x256 .f32} {c128_i32_1487 : BitVec 32} {n : ℕ} :
    Safe (F := F) R n (k0_part71 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v823 v824 v2024 k0_h4 v2707 k0_hw24 v2711 k0_hw25 v2717 v2723 c128_i32_1487) (fun _ => n) := by
  rw [k0_part71_eq_skeleton]; unfold k0_part71_skel
  refine .l7 fun _ => ?_
  refine .l7 fun _ => ?_
  refine .l7 fun _ => ?_
  refine .l7 fun _ => ?_
  refine .l15 fun _ => ?_
  refine .l15 fun _ => ?_
  refine .s15 ?_
  exact .ret le_rfl

theorem safe72 {i : grid0.Coords} {v2024 : BitVec 1} {k0_h4 : k0_cond4 v2024 = 1#1} {v2707 : Elt F .i32} {k0_hw24 : k0_chk24 v2024 v2707} {v2711 : Elt F .i32} {k0_hw25 : k0_chk25 v2024 v2711} {v2717 : FVec F S128x256 .f32} {v2723 : FVec F S128x256 .f32} {v2729 : FVec F S128x256 .f32} {v2735 : FVec F S128x256 .f32} {v2760 : Vec F S1x256 .f32} {v2766 : FVec F S1x256 .f32} {n : ℕ} :
    Safe (F := F) R n (k0_part72 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v2024 k0_h4 v2707 k0_hw24 v2711 k0_hw25 v2717 v2723 v2729 v2735 v2760 v2766) (fun _ => n) := by
  rw [k0_part72_eq_skeleton]; unfold k0_part72_skel
  refine .l16 fun _ => ?_
  refine .l8 fun _ => ?_
  refine .l8 fun _ => ?_
  refine .l16 fun _ => ?_
  refine .s16 ?_
  refine .l15 fun _ => ?_
  refine .l15 fun _ => ?_
  refine .s15 ?_
  exact .ret le_rfl

theorem safe73 {i : grid0.Coords} {v2024 : BitVec 1} {k0_h4 : k0_cond4 v2024 = 1#1} {v2707 : Elt F .i32} {k0_hw24 : k0_chk24 v2024 v2707} {v2711 : Elt F .i32} {k0_hw25 : k0_chk25 v2024 v2711} {v2729 : FVec F S128x256 .f32} {v2735 : FVec F S128x256 .f32} {v2741 : FVec F S128x256 .f32} {v2747 : FVec F S128x256 .f32} {v2802 : FVec F S1x256 .f32} {v2807 : FVec F S1x256 .f32} {n : ℕ} :
    Safe (F := F) R n (k0_part73 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v2024 k0_h4 v2707 k0_hw24 v2711 k0_hw25 v2729 v2735 v2741 v2747 v2802 v2807) (fun _ => n) := by
  rw [k0_part73_eq_skeleton]; unfold k0_part73_skel
  refine .l16 fun _ => ?_
  refine .l8 fun _ => ?_
  refine .l8 fun _ => ?_
  refine .l16 fun _ => ?_
  refine .s16 ?_
  refine .l15 fun _ => ?_
  refine .l15 fun _ => ?_
  refine .s15 ?_
  refine .l16 fun _ => ?_
  exact .ret le_rfl

theorem safe74 {i : grid0.Coords} {v2024 : BitVec 1} {k0_h4 : k0_cond4 v2024 = 1#1} {v2707 : Elt F .i32} {k0_hw24 : k0_chk24 v2024 v2707} {v2711 : Elt F .i32} {k0_hw25 : k0_chk25 v2024 v2711} {v2741 : FVec F S128x256 .f32} {v2747 : FVec F S128x256 .f32} {v2753 : FVec F S128x256 .f32} {v2759 : FVec F S128x256 .f32} {v2838 : FVec F S1x256 .f32} {v2844 : Vec F S80x256 .f32} {v2845 : FVec F S80x256 .f32} {n : ℕ} :
    Safe (F := F) R n (k0_part74 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v2024 k0_h4 v2707 k0_hw24 v2711 k0_hw25 v2741 v2747 v2753 v2759 v2838 v2844 v2845) (fun _ => n) := by
  rw [k0_part74_eq_skeleton]; unfold k0_part74_skel
  refine .l8 fun _ => ?_
  refine .l8 fun _ => ?_
  refine .l16 fun _ => ?_
  refine .s16 ?_
  refine .l15 fun _ => ?_
  refine .l15 fun _ => ?_
  refine .s15 ?_
  refine .l16 fun _ => ?_
  exact .ret le_rfl

theorem safe_t1 {i : grid0.Coords} {v167 : BitVec 32} {v170 : BitVec 32} {v173 : BitVec 32} {v176 : BitVec 32} {v179 : BitVec 32} {v182 : BitVec 32} {v185 : BitVec 32} {v188 : BitVec 32} {k0_hw8 : k0_chk8 i v167 v170 v173 v176 v179 v182 v185 v188} {v821 : FVec F S256x256 .bf16} {v822 : FVec F S256x256 .bf16} {v823 : FVec F S256x256 .bf16} {v824 : FVec F S256x256 .bf16} {v984 : FVec F S80x256 .f32} {v1066 : FVec F S80x256 .f32} {v1148 : FVec F S80x256 .f32} {v1230 : FVec F S80x256 .f32} {v1249 : BitVec 32} {v1369 : Elt F .i32} {k0_hw16 : k0_chk16 v1369} {v1555 : FVec F S128x256 .f32} {v1561 : FVec F S128x256 .f32} {v1793 : Vec F S80x256 .f32} {v1794 : Vec F S1x256 .f32} {v1847 : FVec F S80x256 .f32} {v1850 : FVec F S80x128 .bf16} {t : Fin (k0_t1_loop i v167 v170 v173 v176 v179 v182 v185 v188).trips} {a : Unit} :
    Safe (F := F) R (listed i v167 v170 v173 v176 v179 v182 v185 v188) (k0_t1_body (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v167 v170 v173 v176 v179 v182 v185 v188 k0_hw8 v821 v822 v823 v824 v984 v1066 v1148 v1230 v1249 v1369 k0_hw16 v1555 v1561 v1793 v1794 v1847 v1850 t a) (fun _ => listed i v167 v170 v173 v176 v179 v182 v185 v188) := by
  unfold k0_t1_body
  refine .bind (safe57 R) ?_
  rintro ⟨_, _, _, _, _, _, _, _, _⟩
  refine .bind (safe58 R) ?_
  rintro ⟨_, _, _, _, _, _, _⟩
  refine .bind (safe59 R) ?_
  rintro _
  refine .bind (safe60 R) ?_
  rintro ⟨_, _, _, _⟩
  refine .l16 fun _ => ?_
  refine .s16 ?_
  exact .ret le_rfl

theorem safe_t2 {i : grid0.Coords} {v167 : BitVec 32} {v170 : BitVec 32} {v173 : BitVec 32} {v176 : BitVec 32} {v179 : BitVec 32} {v182 : BitVec 32} {v185 : BitVec 32} {v188 : BitVec 32} {k0_hw8 : k0_chk8 i v167 v170 v173 v176 v179 v182 v185 v188} {v821 : FVec F S256x256 .bf16} {v822 : FVec F S256x256 .bf16} {v823 : FVec F S256x256 .bf16} {v824 : FVec F S256x256 .bf16} {v984 : FVec F S80x256 .f32} {v1066 : FVec F S80x256 .f32} {v1148 : FVec F S80x256 .f32} {v1230 : FVec F S80x256 .f32} {v1249 : BitVec 32} {v1369 : Elt F .i32} {k0_hw16 : k0_chk16 v1369} {v1555 : FVec F S128x256 .f32} {v1561 : FVec F S128x256 .f32} {v1793 : Vec F S80x256 .f32} {v1794 : Vec F S1x256 .f32} {v1847 : FVec F S80x256 .f32} {v1850 : FVec F S80x128 .bf16} {v1874 : BitVec 32} {t : Fin (k0_t2_loop i v167 v170 v173 v176 v179 v182 v185 v188).trips} {a : Unit} :
    Safe (F := F) R (listed i v167 v170 v173 v176 v179 v182 v185 v188) (k0_t2_body (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v167 v170 v173 v176 v179 v182 v185 v188 k0_hw8 v821 v822 v823 v824 v984 v1066 v1148 v1230 v1249 v1369 k0_hw16 v1555 v1561 v1793 v1794 v1847 v1850 v1874 t a) (fun _ => listed i v167 v170 v173 v176 v179 v182 v185 v188) := by
  unfold k0_t2_body
  refine .bind (safe61 R) ?_
  rintro ⟨_, _, _, _, _, _, _, _, _⟩
  refine .bind (safe62 R) ?_
  rintro ⟨_, _, _, _, _, _, _⟩
  refine .bind (safe63 R) ?_
  rintro _
  refine .bind (safe64 R) ?_
  rintro ⟨_, _, _, _⟩
  refine .l16 fun _ => ?_
  refine .s16 ?_
  exact .ret le_rfl

theorem safe_t3 {i : grid0.Coords} {v167 : BitVec 32} {v170 : BitVec 32} {v173 : BitVec 32} {v176 : BitVec 32} {v179 : BitVec 32} {v182 : BitVec 32} {v185 : BitVec 32} {v188 : BitVec 32} {v782 : IVec S128x256 1} {v794 : IVec S128x256 1} {v798 : F .f32} {v802 : F .f32} {v808 : IVec S128x256 1} {v814 : IVec S128x256 1} {v821 : FVec F S256x256 .bf16} {v822 : FVec F S256x256 .bf16} {v823 : FVec F S256x256 .bf16} {v824 : FVec F S256x256 .bf16} {v2024 : BitVec 1} {k0_hw21 : k0_chk21 i v167 v170 v173 v176 v179 v182 v185 v188 v2024} {k0_h4 : k0_cond4 v2024 = 1#1} {c0_i32_1185 : BitVec 32} {v2208 : BitVec 32} {t : Fin (k0_t3_loop i v167 v170 v173 v176 v179 v182 v185 v188).trips} {a : Unit} :
    Safe (F := F) R (listed i v167 v170 v173 v176 v179 v182 v185 v188) (k0_t3_body (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v167 v170 v173 v176 v179 v182 v185 v188 v782 v794 v798 v802 v808 v814 v821 v822 v823 v824 v2024 k0_hw21 k0_h4 c0_i32_1185 v2208 t a) (fun _ => listed i v167 v170 v173 v176 v179 v182 v185 v188) := by
  unfold k0_t3_body
  refine .bind (safe65 R) ?_
  rintro ⟨_, _, _, _, _, _, _, _, _⟩
  refine .bind (safe66 R) ?_
  rintro ⟨_, _, _, _, _, _⟩
  refine .bind (safe67 R) ?_
  rintro ⟨_, _⟩
  refine .bind (safe68 R) ?_
  rintro ⟨_, _, _⟩
  refine .bind (safe69 R) ?_
  rintro ⟨_, _⟩
  refine .l8 fun _ => ?_
  refine .l8 fun _ => ?_
  refine .l16 fun _ => ?_
  refine .s16 ?_
  exact .ret le_rfl

theorem safe_t4 {i : grid0.Coords} {v167 : BitVec 32} {v170 : BitVec 32} {v173 : BitVec 32} {v176 : BitVec 32} {v179 : BitVec 32} {v182 : BitVec 32} {v185 : BitVec 32} {v188 : BitVec 32} {v782 : IVec S128x256 1} {v794 : IVec S128x256 1} {v798 : F .f32} {v802 : F .f32} {v808 : IVec S128x256 1} {v814 : IVec S128x256 1} {v821 : FVec F S256x256 .bf16} {v822 : FVec F S256x256 .bf16} {v823 : FVec F S256x256 .bf16} {v824 : FVec F S256x256 .bf16} {v2024 : BitVec 1} {k0_hw21 : k0_chk21 i v167 v170 v173 v176 v179 v182 v185 v188 v2024} {k0_h4 : k0_cond4 v2024 = 1#1} {c0_i32_1185 : BitVec 32} {v2208 : BitVec 32} {t : Fin (k0_t4_loop i v167 v170 v173 v176 v179 v182 v185 v188).trips} {a : Unit} :
    Safe (F := F) R (listed i v167 v170 v173 v176 v179 v182 v185 v188) (k0_t4_body (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v167 v170 v173 v176 v179 v182 v185 v188 v782 v794 v798 v802 v808 v814 v821 v822 v823 v824 v2024 k0_hw21 k0_h4 c0_i32_1185 v2208 t a) (fun _ => listed i v167 v170 v173 v176 v179 v182 v185 v188) := by
  unfold k0_t4_body
  refine .bind (safe70 R) ?_
  rintro ⟨_, _, _, _, _, _, _, _, _⟩
  refine .bind (safe71 R) ?_
  rintro ⟨_, _, _, _, _, _⟩
  refine .bind (safe72 R) ?_
  rintro ⟨_, _⟩
  refine .bind (safe73 R) ?_
  rintro ⟨_, _, _⟩
  refine .bind (safe74 R) ?_
  rintro ⟨_, _⟩
  refine .l8 fun _ => ?_
  refine .l8 fun _ => ?_
  refine .l16 fun _ => ?_
  refine .s16 ?_
  exact .ret le_rfl

end Cert.KernelIdeal.Attn

end
-- ==== Proof.Rest.lean ====
/-
  The parts before the list, the window branch's and those of the first eight listed tiles are safe.
-/
module

public import proofs.«01_k».proof.Proof.Compressed
public import proofs.«01_k».proof.Proof.Pairs

@[expose] public section

set_option maxHeartbeats 4000000
set_option maxRecDepth 100000

noncomputable section

namespace Cert.KernelIdeal.Attn

open Cert.KernelIdeal Cert.KernelIdeal.Gen
open Idealize.ShloMosaic Idealize.ShloMosaic.TcCoe

variable {F : FTy → Type} [FloatOps F]

variable (R : Refs)

theorem safe93 {i : grid0.Coords} {n : ℕ} :
    Safe (F := F) R n (k0_part93 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 ) (fun _ => n) := by
  rw [k0_part93_eq_skeleton]; unfold k0_part93_skel
  refine .l3 fun _ => ?_
  refine .l12 fun _ => ?_
  exact .ret le_rfl

theorem safe94 {i : grid0.Coords} {v3 : IVec S1x256 32} {v36 : BitVec 32} {n : ℕ} :
    Safe (F := F) R n (k0_part94 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v3 v36) (fun _ => n) := by
  rw [k0_part94_eq_skeleton]; unfold k0_part94_skel
  exact .ret le_rfl

theorem safe95 {i : grid0.Coords} {v0 : BitVec 32} {v3 : IVec S1x256 32} {v10 : FVec F S128x256 .bf16} {v13 : FVec F S128x256 .bf16} {v16 : FVec F S128x256 .bf16} {v19 : FVec F S128x256 .bf16} {v39 : BitVec 32} {v42 : BitVec 32} {v45 : BitVec 32} {v48 : BitVec 32} {v51 : BitVec 32} {v54 : BitVec 32} {v56 : IVec S1x256 32} {v75 : IVec S1x256 1} {v77 : IVec S1x256 32} {n : ℕ} :
    Safe (F := F) R n (k0_part95 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v0 v3 v10 v13 v16 v19 v39 v42 v45 v48 v51 v54 v56 v75 v77) (fun _ => n) := by
  rw [k0_part95_eq_skeleton]; unfold k0_part95_skel
  refine .cond (fun _ => ?_) fun _ => ?_
  · refine .cond (fun _ => ?_) fun _ => ?_
    · refine .cond (fun _ => ?_) fun _ => ?_
      · refine .bind (safe1 R) ?_
        rintro ⟨_, _, _, _, _, _, _⟩
        refine .bind (safe2 R) ?_
        rintro ⟨_, _, _, _, _⟩
        refine .bind (safe3 R) ?_
        rintro ⟨_, _, _⟩
        refine .bind (safe4 R) ?_
        rintro _
        refine .bind (safe5 R) ?_
        rintro _
        refine .bind (safe6 R) ?_
        rintro _
        refine .bind (safe7 R) ?_
        rintro _
        refine .bind (safe8 R) ?_
        rintro _
        refine .bind (safe9 R) ?_
        rintro _
        refine .bind (safe10 R) ?_
        rintro _
        refine .bind (safe11 R) ?_
        rintro ⟨_, _, _, _, _⟩
        refine .bind (safe12 R) ?_
        rintro ⟨_, _⟩
        refine .bind (safe13 R) ?_
        rintro ⟨_, _, _⟩
        refine .bind (safe14 R) ?_
        rintro ⟨_, _⟩
        refine .bind (m := fun _ => n) (.ret le_rfl) ?_
        rintro ⟨_, _⟩
        refine .bind (m := fun _ => n) (.ret le_rfl) ?_
        rintro ⟨_, _⟩
        exact .ret le_rfl
      · refine .bind (safe15 R) ?_
        rintro ⟨_, _, _, _, _, _, _⟩
        refine .bind (safe16 R) ?_
        rintro ⟨_, _, _, _, _⟩
        refine .bind (safe17 R) ?_
        rintro ⟨_, _, _⟩
        refine .bind (safe18 R) ?_
        rintro _
        refine .bind (safe19 R) ?_
        rintro _
        refine .bind (safe20 R) ?_
        rintro _
        refine .bind (safe21 R) ?_
        rintro _
        refine .bind (safe22 R) ?_
        rintro _
        refine .bind (safe23 R) ?_
        rintro _
        refine .bind (safe24 R) ?_
        rintro _
        refine .bind (safe25 R) ?_
        rintro ⟨_, _, _, _, _⟩
        refine .bind (safe26 R) ?_
        rintro ⟨_, _⟩
        refine .bind (safe27 R) ?_
        rintro ⟨_, _, _⟩
        refine .bind (safe28 R) ?_
        rintro ⟨_, _⟩
        refine .bind (m := fun _ => n) (.ret le_rfl) ?_
        rintro ⟨_, _⟩
        refine .bind (m := fun _ => n) (.ret le_rfl) ?_
        rintro ⟨_, _⟩
        exact .ret le_rfl
    · refine .bind (safe29 R) ?_
      rintro ⟨_, _, _, _, _, _, _⟩
      refine .bind (safe30 R) ?_
      rintro ⟨_, _, _, _, _⟩
      refine .bind (safe31 R) ?_
      rintro ⟨_, _, _⟩
      refine .bind (safe32 R) ?_
      rintro _
      refine .bind (safe33 R) ?_
      rintro _
      refine .bind (safe34 R) ?_
      rintro _
      refine .bind (safe35 R) ?_
      rintro _
      refine .bind (safe36 R) ?_
      rintro _
      refine .bind (safe37 R) ?_
      rintro _
      refine .bind (safe38 R) ?_
      rintro _
      refine .bind (safe39 R) ?_
      rintro ⟨_, _, _, _, _⟩
      refine .bind (safe40 R) ?_
      rintro ⟨_, _⟩
      refine .bind (safe41 R) ?_
      rintro ⟨_, _, _⟩
      refine .bind (safe42 R) ?_
      rintro ⟨_, _⟩
      refine .bind (m := fun _ => n) (.ret le_rfl) ?_
      rintro ⟨_, _⟩
      exact .ret le_rfl
  · refine .bind (safe43 R) ?_
    rintro ⟨_, _, _, _, _, _, _⟩
    refine .bind (safe44 R) ?_
    rintro ⟨_, _, _, _, _⟩
    refine .bind (safe45 R) ?_
    rintro ⟨_, _, _⟩
    refine .bind (safe46 R) ?_
    rintro _
    refine .bind (safe47 R) ?_
    rintro _
    refine .bind (safe48 R) ?_
    rintro _
    refine .bind (safe49 R) ?_
    rintro _
    refine .bind (safe50 R) ?_
    rintro _
    refine .bind (safe51 R) ?_
    rintro _
    refine .bind (safe52 R) ?_
    rintro _
    refine .bind (safe53 R) ?_
    rintro ⟨_, _, _, _, _⟩
    refine .bind (safe54 R) ?_
    rintro ⟨_, _⟩
    refine .bind (safe55 R) ?_
    rintro ⟨_, _, _⟩
    refine .bind (safe56 R) ?_
    rintro ⟨_, _⟩
    exact .ret le_rfl

theorem safe96 {i : grid0.Coords} {v114 : FVec F S8x128 .bf16} {v115 : IVec S128x128 32} {v116 : IVec S128x128 32} {c16_i32 : BitVec 32} {v117 : BitVec 1} {c1_i32_45 : BitVec 32} {n : ℕ} :
    Safe (F := F) R n (k0_part96 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v114 v115 v116 c16_i32 v117 c1_i32_45) (fun _ => n) := by
  rw [k0_part96_eq_skeleton]; unfold k0_part96_skel
  exact .ret le_rfl

theorem safe114 {i : grid0.Coords} {v3 : IVec S1x256 32} {v36 : BitVec 32} {v42 : BitVec 32} {v51 : BitVec 32} {v54 : BitVec 32} {v770 : IVec S128x1 32} {v773 : BitVec 1} {v774 : BitVec 32} {n : ℕ} :
    Safe (F := F) R n (k0_part114 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v3 v36 v42 v51 v54 v770 v773 v774) (fun _ => n) := by
  rw [k0_part114_eq_skeleton]; unfold k0_part114_skel
  exact .ret le_rfl

theorem safe115 {i : grid0.Coords} {v3 : IVec S1x256 32} {v10 : FVec F S128x256 .bf16} {v13 : FVec F S128x256 .bf16} {v16 : FVec F S128x256 .bf16} {v19 : FVec F S128x256 .bf16} {v36 : BitVec 32} {v101_1 : FVec F S128x256 .f32} {v770 : IVec S128x1 32} {n : ℕ} :
    Safe (F := F) R n (k0_part115 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v3 v10 v13 v16 v19 v36 v101_1 v770) (fun _ => n) := by
  rw [k0_part115_eq_skeleton]; unfold k0_part115_skel
  refine .l7 fun _ => ?_
  refine .l7 fun _ => ?_
  exact .ret le_rfl

theorem safe116 {i : grid0.Coords} {v822 : FVec F S256x256 .bf16} {v823 : FVec F S256x256 .bf16} {v825 : BitVec 32} {v826 : BitVec 32} {v832 : IVec S128x256 1} {v838 : IVec S128x256 1} {c128_i32_373 : BitVec 32} {n : ℕ} :
    Safe (F := F) R n (k0_part116 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v822 v823 v825 v826 v832 v838 c128_i32_373) (fun _ => n) := by
  rw [k0_part116_eq_skeleton]; unfold k0_part116_skel
  refine .l7 fun _ => ?_
  refine .l7 fun _ => ?_
  refine .l7 fun _ => ?_
  refine .l7 fun _ => ?_
  exact .ret le_rfl

theorem safe117 {i : grid0.Coords} {v782 : IVec S128x256 1} {v794 : IVec S128x256 1} {v798 : F .f32} {v802 : F .f32} {v824 : FVec F S256x256 .bf16} {v826 : BitVec 32} {v832 : IVec S128x256 1} {v838 : IVec S128x256 1} {v888 : BitVec 32} {n : ℕ} :
    Safe (F := F) R n (k0_part117 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v782 v794 v798 v802 v824 v826 v832 v838 v888) (fun _ => n) := by
  rw [k0_part117_eq_skeleton]; unfold k0_part117_skel
  refine .l7 fun _ => ?_
  refine .l7 fun _ => ?_
  refine .l17 fun _ => ?_
  refine .l17 fun _ => ?_
  refine .l17 fun _ => ?_
  refine .l17 fun _ => ?_
  exact .ret le_rfl

theorem safe118 {i : grid0.Coords} {v39 : BitVec 32} {v42 : BitVec 32} {v45 : BitVec 32} {v48 : BitVec 32} {v808 : IVec S128x256 1} {v814 : IVec S128x256 1} {v906 : FVec F S128x256 .f32} {v910 : FVec F S128x256 .f32} {n : ℕ} :
    Safe (F := F) R n (k0_part118 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v39 v42 v45 v48 v808 v814 v906 v910) (fun _ => n) := by
  rw [k0_part118_eq_skeleton]; unfold k0_part118_skel
  refine .l17 fun _ => ?_
  refine .l17 fun _ => ?_
  refine .l10 fun _ => ?_
  refine .l10 fun _ => ?_
  refine .l10 fun _ => ?_
  exact .ret le_rfl

theorem safe119 {i : grid0.Coords} {v51 : BitVec 32} {v54 : BitVec 32} {v782 : IVec S128x256 1} {v794 : IVec S128x256 1} {v914 : FVec F S128x256 .f32} {v918 : FVec F S128x256 .f32} {v922 : FVec F S128x256 .f32} {v926 : FVec F S128x256 .f32} {v931 : FVec F S1x256 .f32} {v948 : FVec F S80x256 .f32} {v951 : FVec F S80x128 .bf16} {n : ℕ} :
    Safe (F := F) R n (k0_part119 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v51 v54 v782 v794 v914 v918 v922 v926 v931 v948 v951) (fun _ => n) := by
  rw [k0_part119_eq_skeleton]; unfold k0_part119_skel
  refine .l10 fun _ => ?_
  refine .l10 fun _ => ?_
  refine .l10 fun _ => ?_
  refine .l17 fun _ => ?_
  refine .l17 fun _ => ?_
  exact .ret le_rfl

theorem safe120 {i : grid0.Coords} {v39 : BitVec 32} {v42 : BitVec 32} {v798 : F .f32} {v802 : F .f32} {v808 : IVec S128x256 1} {v814 : IVec S128x256 1} {v988 : FVec F S128x256 .f32} {n : ℕ} :
    Safe (F := F) R n (k0_part120 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v39 v42 v798 v802 v808 v814 v988) (fun _ => n) := by
  rw [k0_part120_eq_skeleton]; unfold k0_part120_skel
  refine .l17 fun _ => ?_
  refine .l17 fun _ => ?_
  refine .l17 fun _ => ?_
  refine .l17 fun _ => ?_
  refine .l10 fun _ => ?_
  refine .l10 fun _ => ?_
  exact .ret le_rfl

theorem safe121 {i : grid0.Coords} {v45 : BitVec 32} {v48 : BitVec 32} {v51 : BitVec 32} {v54 : BitVec 32} {v992 : FVec F S128x256 .f32} {v996 : FVec F S128x256 .f32} {v1000 : FVec F S128x256 .f32} {v1004 : FVec F S128x256 .f32} {v1008 : FVec F S128x256 .f32} {v1013 : FVec F S1x256 .f32} {v1020 : FVec F S80x256 .bf16} {v1024 : FVec F S128x256 .bf16} {n : ℕ} :
    Safe (F := F) R n (k0_part121 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v45 v48 v51 v54 v992 v996 v1000 v1004 v1008 v1013 v1020 v1024) (fun _ => n) := by
  rw [k0_part121_eq_skeleton]; unfold k0_part121_skel
  refine .l10 fun _ => ?_
  refine .l10 fun _ => ?_
  refine .l10 fun _ => ?_
  refine .l10 fun _ => ?_
  exact .ret le_rfl

theorem safe122 {i : grid0.Coords} {v782 : IVec S128x256 1} {v794 : IVec S128x256 1} {v798 : F .f32} {v802 : F .f32} {v808 : IVec S128x256 1} {v814 : IVec S128x256 1} {v1048 : FVec F S80x256 .f32} {v1065 : FVec F S80x256 .f32} {n : ℕ} :
    Safe (F := F) R n (k0_part122 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v782 v794 v798 v802 v808 v814 v1048 v1065) (fun _ => n) := by
  rw [k0_part122_eq_skeleton]; unfold k0_part122_skel
  refine .l17 fun _ => ?_
  refine .l17 fun _ => ?_
  refine .l17 fun _ => ?_
  refine .l17 fun _ => ?_
  refine .l17 fun _ => ?_
  refine .l17 fun _ => ?_
  exact .ret le_rfl

theorem safe123 {i : grid0.Coords} {v39 : BitVec 32} {v42 : BitVec 32} {v45 : BitVec 32} {v48 : BitVec 32} {v51 : BitVec 32} {v1070 : FVec F S128x256 .f32} {v1074 : FVec F S128x256 .f32} {v1078 : FVec F S128x256 .f32} {v1082 : FVec F S128x256 .f32} {v1095 : FVec F S1x256 .f32} {n : ℕ} :
    Safe (F := F) R n (k0_part123 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v39 v42 v45 v48 v51 v1070 v1074 v1078 v1082 v1095) (fun _ => n) := by
  rw [k0_part123_eq_skeleton]; unfold k0_part123_skel
  refine .l10 fun _ => ?_
  refine .l10 fun _ => ?_
  refine .l10 fun _ => ?_
  refine .l10 fun _ => ?_
  refine .l10 fun _ => ?_
  exact .ret le_rfl

theorem safe124 {i : grid0.Coords} {v54 : BitVec 32} {v782 : IVec S128x256 1} {v794 : IVec S128x256 1} {v798 : F .f32} {v802 : F .f32} {v1086 : FVec F S128x256 .f32} {v1090 : FVec F S128x256 .f32} {v1095 : FVec F S1x256 .f32} {v1130 : FVec F S80x256 .f32} {v1133 : FVec F S80x128 .bf16} {n : ℕ} :
    Safe (F := F) R n (k0_part124 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v54 v782 v794 v798 v802 v1086 v1090 v1095 v1130 v1133) (fun _ => n) := by
  rw [k0_part124_eq_skeleton]; unfold k0_part124_skel
  refine .l10 fun _ => ?_
  refine .l17 fun _ => ?_
  refine .l17 fun _ => ?_
  refine .l17 fun _ => ?_
  refine .l17 fun _ => ?_
  refine .l17 fun _ => ?_
  exact .ret le_rfl

theorem safe125 {i : grid0.Coords} {v39 : BitVec 32} {v42 : BitVec 32} {v45 : BitVec 32} {v48 : BitVec 32} {v808 : IVec S128x256 1} {v814 : IVec S128x256 1} {v1152 : FVec F S128x256 .f32} {v1156 : FVec F S128x256 .f32} {v1166 : FVec F S128x256 .f32} {n : ℕ} :
    Safe (F := F) R n (k0_part125 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v39 v42 v45 v48 v808 v814 v1152 v1156 v1166) (fun _ => n) := by
  rw [k0_part125_eq_skeleton]; unfold k0_part125_skel
  refine .l17 fun _ => ?_
  refine .l10 fun _ => ?_
  refine .l10 fun _ => ?_
  refine .l10 fun _ => ?_
  refine .l10 fun _ => ?_
  exact .ret le_rfl

theorem safe126 {i : grid0.Coords} {v51 : BitVec 32} {v54 : BitVec 32} {v745 : BitVec 32} {v1160 : FVec F S128x256 .f32} {v1164 : FVec F S128x256 .f32} {v1168 : FVec F S128x256 .f32} {v1172 : FVec F S128x256 .f32} {v1177 : FVec F S1x256 .f32} {v1194 : FVec F S80x256 .f32} {v1201 : FVec F S80x256 .bf16} {n : ℕ} :
    Safe (F := F) R n (k0_part126 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v51 v54 v745 v1160 v1164 v1168 v1172 v1177 v1194 v1201) (fun _ => n) := by
  rw [k0_part126_eq_skeleton]; unfold k0_part126_skel
  refine .l10 fun _ => ?_
  refine .l10 fun _ => ?_
  exact .ret le_rfl

theorem safe127 {i : grid0.Coords} {v825 : BitVec 32} {v826 : BitVec 32} {v846 : FVec F S128x256 .f32} {v854 : FVec F S128x256 .f32} {v862 : FVec F S128x256 .f32} {v870 : FVec F S128x256 .f32} {v1232 : BitVec 32} {c2_i32_634 : BitVec 32} {v1233 : BitVec 32} {v1244 : BitVec 1} {n : ℕ} :
    Safe (F := F) R n (k0_part127 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v825 v826 v846 v854 v862 v870 v1232 c2_i32_634 v1233 v1244) (fun _ => n) := by
  rw [k0_part127_eq_skeleton]; unfold k0_part127_skel
  refine .l15 fun _ => ?_
  refine .s15 ?_
  refine .l8 fun _ => ?_
  refine .l8 fun _ => ?_
  refine .l16 fun _ => ?_
  refine .s16 ?_
  exact .ret le_rfl

theorem safe128 {i : grid0.Coords} {v825 : BitVec 32} {v826 : BitVec 32} {v862 : FVec F S128x256 .f32} {v870 : FVec F S128x256 .f32} {v878 : FVec F S128x256 .f32} {v886 : FVec F S128x256 .f32} {v1282 : FVec F S1x256 .f32} {n : ℕ} :
    Safe (F := F) R n (k0_part128 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v825 v826 v862 v870 v878 v886 v1282) (fun _ => n) := by
  rw [k0_part128_eq_skeleton]; unfold k0_part128_skel
  refine .l15 fun _ => ?_
  refine .s15 ?_
  refine .l8 fun _ => ?_
  refine .l8 fun _ => ?_
  refine .l16 fun _ => ?_
  refine .s16 ?_
  refine .l15 fun _ => ?_
  refine .s15 ?_
  refine .l8 fun _ => ?_
  exact .ret le_rfl

theorem safe129 {i : grid0.Coords} {v825 : BitVec 32} {v826 : BitVec 32} {v878 : FVec F S128x256 .f32} {v886 : FVec F S128x256 .f32} {v894 : FVec F S128x256 .f32} {v902 : FVec F S128x256 .f32} {v1310 : FVec F S1x256 .f32} {v1316 : FVec F S80x128 .bf16} {n : ℕ} :
    Safe (F := F) R n (k0_part129 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v825 v826 v878 v886 v894 v902 v1310 v1316) (fun _ => n) := by
  rw [k0_part129_eq_skeleton]; unfold k0_part129_skel
  refine .l8 fun _ => ?_
  refine .l16 fun _ => ?_
  refine .s16 ?_
  refine .l15 fun _ => ?_
  refine .s15 ?_
  refine .l8 fun _ => ?_
  refine .l8 fun _ => ?_
  exact .ret le_rfl

theorem safe130 {i : grid0.Coords} {v821 : FVec F S256x256 .bf16} {v1348 : FVec F S80x256 .bf16} {v1357 : FVec F S256x256 .bf16} {cst_695 : FVec F S80x256 .f32} {n : ℕ} (hn : 8 ≤ n) :
    Safe (F := F) R n (k0_part130 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v821 v1348 v1357 cst_695) (fun _ => n) := by
  rw [k0_part130_eq_skeleton]; unfold k0_part130_skel
  refine .l16 fun _ => ?_
  refine .s16 ?_
  refine .word (lt_of_lt_of_le (by decide) hn) fun _ hw0 => ?_
  refine .assume (chk9_ok _ hw0) ?_
  refine .word (lt_of_lt_of_le (by decide) hn) fun _ hw1 => ?_
  refine .assume (chk10_ok _ hw1) ?_
  refine .word (lt_of_lt_of_le (by decide) hn) fun _ hw2 => ?_
  refine .assume (chk11_ok _ hw2) ?_
  refine .word (lt_of_lt_of_le (by decide) hn) fun _ hw3 => ?_
  refine .assume (chk12_ok _ hw3) ?_
  refine .word (lt_of_lt_of_le (by decide) hn) fun _ hw4 => ?_
  refine .assume (chk13_ok _ hw4) ?_
  refine .word (lt_of_lt_of_le (by decide) hn) fun _ hw5 => ?_
  refine .assume (chk14_ok _ hw5) ?_
  refine .word (lt_of_lt_of_le (by decide) hn) fun _ hw6 => ?_
  refine .assume (chk15_ok _ hw6) ?_
  refine .word (lt_of_lt_of_le (by decide) hn) fun _ hw7 => ?_
  refine .assume (chk16_ok _ hw7) ?_
  refine .l7 fun _ => ?_
  refine .l7 fun _ => ?_
  exact .ret le_rfl

theorem safe131 {i : grid0.Coords} {v821 : FVec F S256x256 .bf16} {v1364 : Elt F .i32} {k0_hw11 : k0_chk11 v1364} {v1365 : Elt F .i32} {k0_hw12 : k0_chk12 v1365} {v1366 : Elt F .i32} {k0_hw13 : k0_chk13 v1366} {v1367 : Elt F .i32} {k0_hw14 : k0_chk14 v1367} {v1368 : Elt F .i32} {k0_hw15 : k0_chk15 v1368} {v1369 : Elt F .i32} {k0_hw16 : k0_chk16 v1369} {n : ℕ} :
    Safe (F := F) R n (k0_part131 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v821 v1364 k0_hw11 v1365 k0_hw12 v1366 k0_hw13 v1367 k0_hw14 v1368 k0_hw15 v1369 k0_hw16) (fun _ => n) := by
  rw [k0_part131_eq_skeleton]; unfold k0_part131_skel
  refine .l7 fun _ => ?_
  refine .l7 fun _ => ?_
  refine .l7 fun _ => ?_
  refine .l7 fun _ => ?_
  refine .l7 fun _ => ?_
  refine .l7 fun _ => ?_
  exact .ret le_rfl

theorem safe132 {i : grid0.Coords} {v822 : FVec F S256x256 .bf16} {v1362 : Elt F .i32} {k0_hw9 : k0_chk9 v1362} {v1363 : Elt F .i32} {k0_hw10 : k0_chk10 v1363} {v1364 : Elt F .i32} {k0_hw11 : k0_chk11 v1364} {v1365 : Elt F .i32} {k0_hw12 : k0_chk12 v1365} {v1366 : Elt F .i32} {k0_hw13 : k0_chk13 v1366} {v1367 : Elt F .i32} {c128_i32_744 : BitVec 32} {n : ℕ} :
    Safe (F := F) R n (k0_part132 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v822 v1362 k0_hw9 v1363 k0_hw10 v1364 k0_hw11 v1365 k0_hw12 v1366 k0_hw13 v1367 c128_i32_744) (fun _ => n) := by
  rw [k0_part132_eq_skeleton]; unfold k0_part132_skel
  refine .l7 fun _ => ?_
  refine .l7 fun _ => ?_
  refine .l7 fun _ => ?_
  refine .l7 fun _ => ?_
  refine .l7 fun _ => ?_
  exact .ret le_rfl

theorem safe133 {i : grid0.Coords} {v822 : FVec F S256x256 .bf16} {v823 : FVec F S256x256 .bf16} {v1362 : Elt F .i32} {k0_hw9 : k0_chk9 v1362} {v1363 : Elt F .i32} {k0_hw10 : k0_chk10 v1363} {v1364 : Elt F .i32} {k0_hw11 : k0_chk11 v1364} {v1367 : Elt F .i32} {k0_hw14 : k0_chk14 v1367} {v1368 : Elt F .i32} {k0_hw15 : k0_chk15 v1368} {v1369 : Elt F .i32} {k0_hw16 : k0_chk16 v1369} {n : ℕ} :
    Safe (F := F) R n (k0_part133 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v822 v823 v1362 k0_hw9 v1363 k0_hw10 v1364 k0_hw11 v1367 k0_hw14 v1368 k0_hw15 v1369 k0_hw16) (fun _ => n) := by
  rw [k0_part133_eq_skeleton]; unfold k0_part133_skel
  refine .l7 fun _ => ?_
  refine .l7 fun _ => ?_
  refine .l7 fun _ => ?_
  refine .l7 fun _ => ?_
  refine .l7 fun _ => ?_
  refine .l7 fun _ => ?_
  exact .ret le_rfl

theorem safe134 {i : grid0.Coords} {v823 : FVec F S256x256 .bf16} {v1362 : Elt F .i32} {v1365 : Elt F .i32} {k0_hw12 : k0_chk12 v1365} {v1366 : Elt F .i32} {k0_hw13 : k0_chk13 v1366} {v1367 : Elt F .i32} {k0_hw14 : k0_chk14 v1367} {v1368 : Elt F .i32} {k0_hw15 : k0_chk15 v1368} {v1369 : Elt F .i32} {k0_hw16 : k0_chk16 v1369} {n : ℕ} :
    Safe (F := F) R n (k0_part134 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v823 v1362 v1365 k0_hw12 v1366 k0_hw13 v1367 k0_hw14 v1368 k0_hw15 v1369 k0_hw16) (fun _ => n) := by
  rw [k0_part134_eq_skeleton]; unfold k0_part134_skel
  refine .l7 fun _ => ?_
  refine .l7 fun _ => ?_
  refine .l7 fun _ => ?_
  refine .l7 fun _ => ?_
  refine .l7 fun _ => ?_
  exact .ret le_rfl

theorem safe135 {i : grid0.Coords} {v824 : FVec F S256x256 .bf16} {v1362 : Elt F .i32} {k0_hw9 : k0_chk9 v1362} {v1363 : Elt F .i32} {k0_hw10 : k0_chk10 v1363} {v1364 : Elt F .i32} {k0_hw11 : k0_chk11 v1364} {v1365 : Elt F .i32} {k0_hw12 : k0_chk12 v1365} {v1366 : Elt F .i32} {k0_hw13 : k0_chk13 v1366} {v1367 : Elt F .i32} {k0_hw14 : k0_chk14 v1367} {v1515 : BitVec 32} {n : ℕ} :
    Safe (F := F) R n (k0_part135 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v824 v1362 k0_hw9 v1363 k0_hw10 v1364 k0_hw11 v1365 k0_hw12 v1366 k0_hw13 v1367 k0_hw14 v1515) (fun _ => n) := by
  rw [k0_part135_eq_skeleton]; unfold k0_part135_skel
  refine .l7 fun _ => ?_
  refine .l7 fun _ => ?_
  refine .l7 fun _ => ?_
  refine .l7 fun _ => ?_
  refine .l7 fun _ => ?_
  refine .l7 fun _ => ?_
  exact .ret le_rfl

theorem safe136 {i : grid0.Coords} {v824 : FVec F S256x256 .bf16} {v1362 : Elt F .i32} {k0_hw9 : k0_chk9 v1362} {v1363 : Elt F .i32} {k0_hw10 : k0_chk10 v1363} {v1364 : Elt F .i32} {v1368 : Elt F .i32} {k0_hw15 : k0_chk15 v1368} {v1369 : Elt F .i32} {k0_hw16 : k0_chk16 v1369} {v1375 : FVec F S128x256 .f32} {v1381 : FVec F S128x256 .f32} {v1548 : FVec F S128x256 .bf16} {cst_853 : FVec F S128x256 .f32} {n : ℕ} :
    Safe (F := F) R n (k0_part136 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v824 v1362 k0_hw9 v1363 k0_hw10 v1364 v1368 k0_hw15 v1369 k0_hw16 v1375 v1381 v1548 cst_853) (fun _ => n) := by
  rw [k0_part136_eq_skeleton]; unfold k0_part136_skel
  refine .l7 fun _ => ?_
  refine .l7 fun _ => ?_
  refine .l16 fun _ => ?_
  refine .l15 fun _ => ?_
  refine .l8 fun _ => ?_
  refine .l8 fun _ => ?_
  exact .ret le_rfl

theorem safe137 {i : grid0.Coords} {v1364 : Elt F .i32} {k0_hw11 : k0_chk11 v1364} {v1365 : Elt F .i32} {k0_hw12 : k0_chk12 v1365} {v1366 : Elt F .i32} {k0_hw13 : k0_chk13 v1366} {v1367 : Elt F .i32} {k0_hw14 : k0_chk14 v1367} {v1368 : Elt F .i32} {k0_hw15 : k0_chk15 v1368} {v1369 : Elt F .i32} {v1387 : FVec F S128x256 .f32} {v1393 : FVec F S128x256 .f32} {v1399 : FVec F S128x256 .f32} {v1405 : FVec F S128x256 .f32} {v1563 : Vec F S1x256 .f32} {v1580 : FVec F S80x256 .f32} {n : ℕ} :
    Safe (F := F) R n (k0_part137 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v1364 k0_hw11 v1365 k0_hw12 v1366 k0_hw13 v1367 k0_hw14 v1368 k0_hw15 v1369 v1387 v1393 v1399 v1405 v1563 v1580) (fun _ => n) := by
  rw [k0_part137_eq_skeleton]; unfold k0_part137_skel
  refine .l8 fun _ => ?_
  refine .l8 fun _ => ?_
  refine .l8 fun _ => ?_
  refine .l8 fun _ => ?_
  refine .l8 fun _ => ?_
  exact .ret le_rfl

theorem safe138 {i : grid0.Coords} {v1362 : Elt F .i32} {k0_hw9 : k0_chk9 v1362} {v1363 : Elt F .i32} {k0_hw10 : k0_chk10 v1363} {v1364 : Elt F .i32} {v1369 : Elt F .i32} {k0_hw16 : k0_chk16 v1369} {v1411 : FVec F S128x256 .f32} {v1417 : FVec F S128x256 .f32} {v1423 : FVec F S128x256 .f32} {v1429 : FVec F S128x256 .f32} {v1562 : Vec F S80x256 .f32} {v1563 : Vec F S1x256 .f32} {v1616 : FVec F S80x256 .f32} {v1619 : FVec F S80x128 .bf16} {n : ℕ} :
    Safe (F := F) R n (k0_part138 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v1362 k0_hw9 v1363 k0_hw10 v1364 v1369 k0_hw16 v1411 v1417 v1423 v1429 v1562 v1563 v1616 v1619) (fun _ => n) := by
  rw [k0_part138_eq_skeleton]; unfold k0_part138_skel
  refine .l8 fun _ => ?_
  refine .l16 fun _ => ?_
  refine .s16 ?_
  refine .l16 fun _ => ?_
  refine .l15 fun _ => ?_
  refine .l8 fun _ => ?_
  refine .l8 fun _ => ?_
  exact .ret le_rfl

theorem safe139 {i : grid0.Coords} {v1364 : Elt F .i32} {k0_hw11 : k0_chk11 v1364} {v1365 : Elt F .i32} {k0_hw12 : k0_chk12 v1365} {v1366 : Elt F .i32} {k0_hw13 : k0_chk13 v1366} {v1367 : Elt F .i32} {k0_hw14 : k0_chk14 v1367} {v1368 : Elt F .i32} {k0_hw15 : k0_chk15 v1368} {v1369 : Elt F .i32} {v1435 : FVec F S128x256 .f32} {v1441 : FVec F S128x256 .f32} {v1447 : FVec F S128x256 .f32} {v1453 : FVec F S128x256 .f32} {v1640 : Vec F S1x256 .f32} {v1657 : FVec F S80x256 .f32} {n : ℕ} :
    Safe (F := F) R n (k0_part139 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v1364 k0_hw11 v1365 k0_hw12 v1366 k0_hw13 v1367 k0_hw14 v1368 k0_hw15 v1369 v1435 v1441 v1447 v1453 v1640 v1657) (fun _ => n) := by
  rw [k0_part139_eq_skeleton]; unfold k0_part139_skel
  refine .l8 fun _ => ?_
  refine .l8 fun _ => ?_
  refine .l8 fun _ => ?_
  refine .l8 fun _ => ?_
  refine .l8 fun _ => ?_
  exact .ret le_rfl

theorem safe140 {i : grid0.Coords} {v1362 : Elt F .i32} {k0_hw9 : k0_chk9 v1362} {v1363 : Elt F .i32} {k0_hw10 : k0_chk10 v1363} {v1364 : Elt F .i32} {v1369 : Elt F .i32} {k0_hw16 : k0_chk16 v1369} {v1459 : FVec F S128x256 .f32} {v1465 : FVec F S128x256 .f32} {v1471 : FVec F S128x256 .f32} {v1477 : FVec F S128x256 .f32} {v1639 : Vec F S80x256 .f32} {v1640 : Vec F S1x256 .f32} {v1693 : FVec F S80x256 .f32} {v1696 : FVec F S80x128 .bf16} {n : ℕ} :
    Safe (F := F) R n (k0_part140 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v1362 k0_hw9 v1363 k0_hw10 v1364 v1369 k0_hw16 v1459 v1465 v1471 v1477 v1639 v1640 v1693 v1696) (fun _ => n) := by
  rw [k0_part140_eq_skeleton]; unfold k0_part140_skel
  refine .l8 fun _ => ?_
  refine .l16 fun _ => ?_
  refine .s16 ?_
  refine .l16 fun _ => ?_
  refine .l15 fun _ => ?_
  refine .l8 fun _ => ?_
  refine .l8 fun _ => ?_
  exact .ret le_rfl

theorem safe141 {i : grid0.Coords} {v1364 : Elt F .i32} {k0_hw11 : k0_chk11 v1364} {v1365 : Elt F .i32} {k0_hw12 : k0_chk12 v1365} {v1366 : Elt F .i32} {k0_hw13 : k0_chk13 v1366} {v1367 : Elt F .i32} {k0_hw14 : k0_chk14 v1367} {v1368 : Elt F .i32} {k0_hw15 : k0_chk15 v1368} {v1369 : Elt F .i32} {v1483 : FVec F S128x256 .f32} {v1489 : FVec F S128x256 .f32} {v1495 : FVec F S128x256 .f32} {v1501 : FVec F S128x256 .f32} {v1717 : Vec F S1x256 .f32} {v1734 : FVec F S80x256 .f32} {n : ℕ} :
    Safe (F := F) R n (k0_part141 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v1364 k0_hw11 v1365 k0_hw12 v1366 k0_hw13 v1367 k0_hw14 v1368 k0_hw15 v1369 v1483 v1489 v1495 v1501 v1717 v1734) (fun _ => n) := by
  rw [k0_part141_eq_skeleton]; unfold k0_part141_skel
  refine .l8 fun _ => ?_
  refine .l8 fun _ => ?_
  refine .l8 fun _ => ?_
  refine .l8 fun _ => ?_
  refine .l8 fun _ => ?_
  exact .ret le_rfl

theorem safe142 {i : grid0.Coords} {v1362 : Elt F .i32} {k0_hw9 : k0_chk9 v1362} {v1363 : Elt F .i32} {k0_hw10 : k0_chk10 v1363} {v1364 : Elt F .i32} {v1369 : Elt F .i32} {k0_hw16 : k0_chk16 v1369} {v1507 : FVec F S128x256 .f32} {v1513 : FVec F S128x256 .f32} {v1519 : FVec F S128x256 .f32} {v1525 : FVec F S128x256 .f32} {v1716 : Vec F S80x256 .f32} {v1717 : Vec F S1x256 .f32} {v1770 : FVec F S80x256 .f32} {v1773 : FVec F S80x128 .bf16} {n : ℕ} :
    Safe (F := F) R n (k0_part142 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v1362 k0_hw9 v1363 k0_hw10 v1364 v1369 k0_hw16 v1507 v1513 v1519 v1525 v1716 v1717 v1770 v1773) (fun _ => n) := by
  rw [k0_part142_eq_skeleton]; unfold k0_part142_skel
  refine .l8 fun _ => ?_
  refine .l16 fun _ => ?_
  refine .s16 ?_
  refine .l16 fun _ => ?_
  refine .l15 fun _ => ?_
  refine .l8 fun _ => ?_
  refine .l8 fun _ => ?_
  exact .ret le_rfl

theorem safe143 {i : grid0.Coords} {v1364 : Elt F .i32} {k0_hw11 : k0_chk11 v1364} {v1365 : Elt F .i32} {k0_hw12 : k0_chk12 v1365} {v1366 : Elt F .i32} {k0_hw13 : k0_chk13 v1366} {v1367 : Elt F .i32} {k0_hw14 : k0_chk14 v1367} {v1368 : Elt F .i32} {k0_hw15 : k0_chk15 v1368} {v1369 : Elt F .i32} {v1531 : FVec F S128x256 .f32} {v1537 : FVec F S128x256 .f32} {v1543 : FVec F S128x256 .f32} {v1549 : FVec F S128x256 .f32} {v1794 : Vec F S1x256 .f32} {v1811 : FVec F S80x256 .f32} {n : ℕ} :
    Safe (F := F) R n (k0_part143 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v1364 k0_hw11 v1365 k0_hw12 v1366 k0_hw13 v1367 k0_hw14 v1368 k0_hw15 v1369 v1531 v1537 v1543 v1549 v1794 v1811) (fun _ => n) := by
  rw [k0_part143_eq_skeleton]; unfold k0_part143_skel
  refine .l8 fun _ => ?_
  refine .l8 fun _ => ?_
  refine .l8 fun _ => ?_
  refine .l8 fun _ => ?_
  refine .l8 fun _ => ?_
  exact .ret le_rfl

theorem safe144 {i : grid0.Coords} {v167 : BitVec 32} {v170 : BitVec 32} {v173 : BitVec 32} {v176 : BitVec 32} {v179 : BitVec 32} {v182 : BitVec 32} {v185 : BitVec 32} {v188 : BitVec 32} {k0_hw8 : k0_chk8 i v167 v170 v173 v176 v179 v182 v185 v188} {v821 : FVec F S256x256 .bf16} {v822 : FVec F S256x256 .bf16} {v823 : FVec F S256x256 .bf16} {v824 : FVec F S256x256 .bf16} {v984 : FVec F S80x256 .f32} {v1066 : FVec F S80x256 .f32} {v1148 : FVec F S80x256 .f32} {v1230 : FVec F S80x256 .f32} {v1249 : BitVec 32} {v1369 : Elt F .i32} {k0_hw16 : k0_chk16 v1369} {v1555 : FVec F S128x256 .f32} {v1561 : FVec F S128x256 .f32} {v1793 : Vec F S80x256 .f32} {v1794 : Vec F S1x256 .f32} {v1847 : FVec F S80x256 .f32} {v1850 : FVec F S80x128 .bf16} :
    Safe (F := F) R (listed i v167 v170 v173 v176 v179 v182 v185 v188) (k0_part144 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v167 v170 v173 v176 v179 v182 v185 v188 k0_hw8 v821 v822 v823 v824 v984 v1066 v1148 v1230 v1249 v1369 k0_hw16 v1555 v1561 v1793 v1794 v1847 v1850) (fun _ => listed i v167 v170 v173 v176 v179 v182 v185 v188) := by
  rw [k0_part144_eq_skeleton]; unfold k0_part144_skel
  refine .l8 fun _ => ?_
  refine .l16 fun _ => ?_
  refine .s16 ?_
  refine .bind (.loop fun _ _ => safe_t1 R) fun _ => ?_
  refine .bind (.loop fun _ _ => safe_t2 R) fun _ => ?_
  exact .ret le_rfl

theorem safe145 {i : grid0.Coords} {v102 : FVec F S64x256 .f32} {v984 : FVec F S80x256 .f32} {v1879 : F .f32} {v1884 : F .f32} {v1889 : F .f32} {v1894 : F .f32} {n : ℕ} :
    Safe (F := F) R n (k0_part145 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v102 v984 v1879 v1884 v1889 v1894) (fun _ => n) := by
  rw [k0_part145_eq_skeleton]; unfold k0_part145_skel
  refine .l16 fun _ => ?_
  refine .l4 fun _ => ?_
  refine .l16 fun _ => ?_
  refine .l16 fun _ => ?_
  exact .ret le_rfl

theorem safe146 {i : grid0.Coords} {v103 : FVec F S64x256 .f32} {v104 : FVec F S64x256 .f32} {v1066 : FVec F S80x256 .f32} {v1148 : FVec F S80x256 .f32} {v1906 : FVec F S16x256 .f32} {v1936 : FVec F S64x256 .f32} {v1939 : FVec F S1x256 .f32} {cst_1056 : F .f32} {n : ℕ} :
    Safe (F := F) R n (k0_part146 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v103 v104 v1066 v1148 v1906 v1936 v1939 cst_1056) (fun _ => n) := by
  rw [k0_part146_eq_skeleton]; unfold k0_part146_skel
  refine .l16 fun _ => ?_
  exact .ret le_rfl

end Cert.KernelIdeal.Attn

end
-- ==== Proof.List.lean ====
/-
  The tile list's parts are safe: each store of a tile into the list falls within it, one past the last.
-/
module

public import proofs.«01_k».proof.Proof.Safe
public import proofs.«01_k».proof.Proof.Offs

@[expose] public section

set_option maxHeartbeats 4000000
set_option maxRecDepth 100000

noncomputable section

namespace Cert.KernelIdeal.Attn

open Cert.KernelIdeal Cert.KernelIdeal.Gen
open Idealize.ShloMosaic Idealize.ShloMosaic.TcCoe

variable {F : FTy → Type} [FloatOps F]

variable (R : Refs)

theorem safe97 {i : grid0.Coords} {v36 : BitVec 32} {v164 : FVec F S8x128 .f32} :
    Safe (F := F) R 0 (k0_part97 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v36 v164) (fun v => k0_off5 i v.1 0 + 1) := by
  rw [k0_part97_eq_skeleton]; unfold k0_part97_skel
  refine .assume (chk1_ok _ _) ?_
  refine .assume (chk2_ok _ _ _) ?_
  refine .assume (chk3_ok _ _ _ _) ?_
  refine .assume (chk4_ok _ _ _ _ _) ?_
  refine .assume (chk5_ok _ _ _ _ _ _) ?_
  refine .assume (chk6_ok _ _ _ _ _ _ _) ?_
  refine .assume (chk7_ok _ _ _ _ _ _ _ _) ?_
  refine .assume (chk8_ok _ _ _ _ _ _ _ _ _) ?_
  refine .peek fun _ => ?_
  refine .put (Nat.zero_le _) (by decide) ?_
  refine .peek fun _ => ?_
  refine .put (off5_le _ _) (by decide) ?_
  exact .ret le_rfl

theorem safe98 {i : grid0.Coords} {v36 : BitVec 32} {v167 : BitVec 32} {k0_hw1 : k0_chk1 i v167} {v196 : BitVec 32} {v199 : BitVec 1} {v202 : BitVec 1} :
    Safe (F := F) R (k0_off5 i v167 0 + 1) (k0_part98 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v36 v167 k0_hw1 v196 v199 v202) (fun _ => k0_off9 i v167 0 + 1) := by
  rw [k0_part98_eq_skeleton]; unfold k0_part98_skel
  refine .peek fun _ => ?_
  refine .put (off6_step _ _) (by decide) ?_
  refine .peek fun _ => ?_
  refine .put (off7_step _ _) (by decide) ?_
  refine .peek fun _ => ?_
  refine .put (off8_step _ _) (by decide) ?_
  refine .peek fun _ => ?_
  refine .put (off9_step _ _) (by decide) ?_
  exact .ret le_rfl

theorem safe99 {i : grid0.Coords} {v36 : BitVec 32} {v167 : BitVec 32} {k0_hw1 : k0_chk1 i v167} {v170 : BitVec 32} {k0_hw2 : k0_chk2 i v167 v170} {v232 : BitVec 32} {v235 : BitVec 1} {v238 : BitVec 1} :
    Safe (F := F) R (k0_off9 i v167 0 + 1) (k0_part99 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v36 v167 k0_hw1 v170 k0_hw2 v232 v235 v238) (fun _ => k0_off13 i v167 v170 0 + 1) := by
  rw [k0_part99_eq_skeleton]; unfold k0_part99_skel
  refine .peek fun _ => ?_
  refine .put (off10_step _ _) (by decide) ?_
  refine .peek fun _ => ?_
  refine .put (off11_step _ _) (by decide) ?_
  refine .peek fun _ => ?_
  refine .put (off12_step _ _) (by decide) ?_
  refine .peek fun _ => ?_
  refine .put (off13_step _ _ _) (by decide) ?_
  exact .ret le_rfl

theorem safe100 {i : grid0.Coords} {v36 : BitVec 32} {v167 : BitVec 32} {v170 : BitVec 32} {k0_hw2 : k0_chk2 i v167 v170} {v268 : BitVec 32} {v271 : BitVec 1} {v274 : BitVec 1} :
    Safe (F := F) R (k0_off13 i v167 v170 0 + 1) (k0_part100 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v36 v167 v170 k0_hw2 v268 v271 v274) (fun _ => k0_off17 i v167 v170 0 + 1) := by
  rw [k0_part100_eq_skeleton]; unfold k0_part100_skel
  refine .peek fun _ => ?_
  refine .put (off14_step _ _ _) (by decide) ?_
  refine .peek fun _ => ?_
  refine .put (off15_step _ _ _) (by decide) ?_
  refine .peek fun _ => ?_
  refine .put (off16_step _ _ _) (by decide) ?_
  refine .peek fun _ => ?_
  refine .put (off17_step _ _ _) (by decide) ?_
  exact .ret le_rfl

theorem safe101 {i : grid0.Coords} {v36 : BitVec 32} {v167 : BitVec 32} {v170 : BitVec 32} {k0_hw2 : k0_chk2 i v167 v170} {v173 : BitVec 32} {k0_hw3 : k0_chk3 i v167 v170 v173} {v304 : BitVec 32} {v307 : BitVec 1} {v310 : BitVec 1} :
    Safe (F := F) R (k0_off17 i v167 v170 0 + 1) (k0_part101 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v36 v167 v170 k0_hw2 v173 k0_hw3 v304 v307 v310) (fun _ => k0_off21 i v167 v170 v173 0 + 1) := by
  rw [k0_part101_eq_skeleton]; unfold k0_part101_skel
  refine .peek fun _ => ?_
  refine .put (off18_step _ _ _) (by decide) ?_
  refine .peek fun _ => ?_
  refine .put (off19_step _ _ _) (by decide) ?_
  refine .peek fun _ => ?_
  refine .put (off20_step _ _ _) (by decide) ?_
  refine .peek fun _ => ?_
  refine .put (off21_step _ _ _ _) (by decide) ?_
  exact .ret le_rfl

theorem safe102 {i : grid0.Coords} {v36 : BitVec 32} {v167 : BitVec 32} {v170 : BitVec 32} {v173 : BitVec 32} {k0_hw3 : k0_chk3 i v167 v170 v173} {v340 : BitVec 32} {v343 : BitVec 1} {v346 : BitVec 1} :
    Safe (F := F) R (k0_off21 i v167 v170 v173 0 + 1) (k0_part102 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v36 v167 v170 v173 k0_hw3 v340 v343 v346) (fun _ => k0_off25 i v167 v170 v173 0 + 1) := by
  rw [k0_part102_eq_skeleton]; unfold k0_part102_skel
  refine .peek fun _ => ?_
  refine .put (off22_step _ _ _ _) (by decide) ?_
  refine .peek fun _ => ?_
  refine .put (off23_step _ _ _ _) (by decide) ?_
  refine .peek fun _ => ?_
  refine .put (off24_step _ _ _ _) (by decide) ?_
  refine .peek fun _ => ?_
  refine .put (off25_step _ _ _ _) (by decide) ?_
  exact .ret le_rfl

theorem safe103 {i : grid0.Coords} {v36 : BitVec 32} {v167 : BitVec 32} {v170 : BitVec 32} {v173 : BitVec 32} {k0_hw3 : k0_chk3 i v167 v170 v173} {v176 : BitVec 32} {k0_hw4 : k0_chk4 i v167 v170 v173 v176} {v376 : BitVec 32} {v379 : BitVec 1} {v382 : BitVec 1} :
    Safe (F := F) R (k0_off25 i v167 v170 v173 0 + 1) (k0_part103 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v36 v167 v170 v173 k0_hw3 v176 k0_hw4 v376 v379 v382) (fun _ => k0_off29 i v167 v170 v173 v176 0 + 1) := by
  rw [k0_part103_eq_skeleton]; unfold k0_part103_skel
  refine .peek fun _ => ?_
  refine .put (off26_step _ _ _ _) (by decide) ?_
  refine .peek fun _ => ?_
  refine .put (off27_step _ _ _ _) (by decide) ?_
  refine .peek fun _ => ?_
  refine .put (off28_step _ _ _ _) (by decide) ?_
  refine .peek fun _ => ?_
  refine .put (off29_step _ _ _ _ _) (by decide) ?_
  exact .ret le_rfl

theorem safe104 {i : grid0.Coords} {v36 : BitVec 32} {v167 : BitVec 32} {v170 : BitVec 32} {v173 : BitVec 32} {v176 : BitVec 32} {k0_hw4 : k0_chk4 i v167 v170 v173 v176} {v412 : BitVec 32} {v415 : BitVec 1} {v418 : BitVec 1} :
    Safe (F := F) R (k0_off29 i v167 v170 v173 v176 0 + 1) (k0_part104 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v36 v167 v170 v173 v176 k0_hw4 v412 v415 v418) (fun _ => k0_off33 i v167 v170 v173 v176 0 + 1) := by
  rw [k0_part104_eq_skeleton]; unfold k0_part104_skel
  refine .peek fun _ => ?_
  refine .put (off30_step _ _ _ _ _) (by decide) ?_
  refine .peek fun _ => ?_
  refine .put (off31_step _ _ _ _ _) (by decide) ?_
  refine .peek fun _ => ?_
  refine .put (off32_step _ _ _ _ _) (by decide) ?_
  refine .peek fun _ => ?_
  refine .put (off33_step _ _ _ _ _) (by decide) ?_
  exact .ret le_rfl

theorem safe105 {i : grid0.Coords} {v36 : BitVec 32} {v167 : BitVec 32} {v170 : BitVec 32} {v173 : BitVec 32} {v176 : BitVec 32} {k0_hw4 : k0_chk4 i v167 v170 v173 v176} {v179 : BitVec 32} {k0_hw5 : k0_chk5 i v167 v170 v173 v176 v179} {v448 : BitVec 32} {v451 : BitVec 1} {v454 : BitVec 1} :
    Safe (F := F) R (k0_off33 i v167 v170 v173 v176 0 + 1) (k0_part105 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v36 v167 v170 v173 v176 k0_hw4 v179 k0_hw5 v448 v451 v454) (fun _ => k0_off37 i v167 v170 v173 v176 v179 0 + 1) := by
  rw [k0_part105_eq_skeleton]; unfold k0_part105_skel
  refine .peek fun _ => ?_
  refine .put (off34_step _ _ _ _ _) (by decide) ?_
  refine .peek fun _ => ?_
  refine .put (off35_step _ _ _ _ _) (by decide) ?_
  refine .peek fun _ => ?_
  refine .put (off36_step _ _ _ _ _) (by decide) ?_
  refine .peek fun _ => ?_
  refine .put (off37_step _ _ _ _ _ _) (by decide) ?_
  exact .ret le_rfl

theorem safe106 {i : grid0.Coords} {v36 : BitVec 32} {v167 : BitVec 32} {v170 : BitVec 32} {v173 : BitVec 32} {v176 : BitVec 32} {v179 : BitVec 32} {k0_hw5 : k0_chk5 i v167 v170 v173 v176 v179} {v484 : BitVec 32} {v487 : BitVec 1} {v490 : BitVec 1} :
    Safe (F := F) R (k0_off37 i v167 v170 v173 v176 v179 0 + 1) (k0_part106 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v36 v167 v170 v173 v176 v179 k0_hw5 v484 v487 v490) (fun _ => k0_off41 i v167 v170 v173 v176 v179 0 + 1) := by
  rw [k0_part106_eq_skeleton]; unfold k0_part106_skel
  refine .peek fun _ => ?_
  refine .put (off38_step _ _ _ _ _ _) (by decide) ?_
  refine .peek fun _ => ?_
  refine .put (off39_step _ _ _ _ _ _) (by decide) ?_
  refine .peek fun _ => ?_
  refine .put (off40_step _ _ _ _ _ _) (by decide) ?_
  refine .peek fun _ => ?_
  refine .put (off41_step _ _ _ _ _ _) (by decide) ?_
  exact .ret le_rfl

theorem safe107 {i : grid0.Coords} {v36 : BitVec 32} {v167 : BitVec 32} {v170 : BitVec 32} {v173 : BitVec 32} {v176 : BitVec 32} {v179 : BitVec 32} {k0_hw5 : k0_chk5 i v167 v170 v173 v176 v179} {v182 : BitVec 32} {k0_hw6 : k0_chk6 i v167 v170 v173 v176 v179 v182} {v520 : BitVec 32} {v523 : BitVec 1} {v526 : BitVec 1} :
    Safe (F := F) R (k0_off41 i v167 v170 v173 v176 v179 0 + 1) (k0_part107 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v36 v167 v170 v173 v176 v179 k0_hw5 v182 k0_hw6 v520 v523 v526) (fun _ => k0_off45 i v167 v170 v173 v176 v179 v182 0 + 1) := by
  rw [k0_part107_eq_skeleton]; unfold k0_part107_skel
  refine .peek fun _ => ?_
  refine .put (off42_step _ _ _ _ _ _) (by decide) ?_
  refine .peek fun _ => ?_
  refine .put (off43_step _ _ _ _ _ _) (by decide) ?_
  refine .peek fun _ => ?_
  refine .put (off44_step _ _ _ _ _ _) (by decide) ?_
  refine .peek fun _ => ?_
  refine .put (off45_step _ _ _ _ _ _ _) (by decide) ?_
  exact .ret le_rfl

theorem safe108 {i : grid0.Coords} {v36 : BitVec 32} {v167 : BitVec 32} {v170 : BitVec 32} {v173 : BitVec 32} {v176 : BitVec 32} {v179 : BitVec 32} {v182 : BitVec 32} {k0_hw6 : k0_chk6 i v167 v170 v173 v176 v179 v182} {v556 : BitVec 32} {v559 : BitVec 1} {v562 : BitVec 1} :
    Safe (F := F) R (k0_off45 i v167 v170 v173 v176 v179 v182 0 + 1) (k0_part108 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v36 v167 v170 v173 v176 v179 v182 k0_hw6 v556 v559 v562) (fun _ => k0_off49 i v167 v170 v173 v176 v179 v182 0 + 1) := by
  rw [k0_part108_eq_skeleton]; unfold k0_part108_skel
  refine .peek fun _ => ?_
  refine .put (off46_step _ _ _ _ _ _ _) (by decide) ?_
  refine .peek fun _ => ?_
  refine .put (off47_step _ _ _ _ _ _ _) (by decide) ?_
  refine .peek fun _ => ?_
  refine .put (off48_step _ _ _ _ _ _ _) (by decide) ?_
  refine .peek fun _ => ?_
  refine .put (off49_step _ _ _ _ _ _ _) (by decide) ?_
  exact .ret le_rfl

theorem safe109 {i : grid0.Coords} {v36 : BitVec 32} {v167 : BitVec 32} {v170 : BitVec 32} {v173 : BitVec 32} {v176 : BitVec 32} {v179 : BitVec 32} {v182 : BitVec 32} {k0_hw6 : k0_chk6 i v167 v170 v173 v176 v179 v182} {v185 : BitVec 32} {k0_hw7 : k0_chk7 i v167 v170 v173 v176 v179 v182 v185} {v592 : BitVec 32} {v595 : BitVec 1} {v598 : BitVec 1} :
    Safe (F := F) R (k0_off49 i v167 v170 v173 v176 v179 v182 0 + 1) (k0_part109 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v36 v167 v170 v173 v176 v179 v182 k0_hw6 v185 k0_hw7 v592 v595 v598) (fun _ => k0_off53 i v167 v170 v173 v176 v179 v182 v185 0 + 1) := by
  rw [k0_part109_eq_skeleton]; unfold k0_part109_skel
  refine .peek fun _ => ?_
  refine .put (off50_step _ _ _ _ _ _ _) (by decide) ?_
  refine .peek fun _ => ?_
  refine .put (off51_step _ _ _ _ _ _ _) (by decide) ?_
  refine .peek fun _ => ?_
  refine .put (off52_step _ _ _ _ _ _ _) (by decide) ?_
  refine .peek fun _ => ?_
  refine .put (off53_step _ _ _ _ _ _ _ _) (by decide) ?_
  exact .ret le_rfl

theorem safe110 {i : grid0.Coords} {v36 : BitVec 32} {v167 : BitVec 32} {v170 : BitVec 32} {v173 : BitVec 32} {v176 : BitVec 32} {v179 : BitVec 32} {v182 : BitVec 32} {v185 : BitVec 32} {k0_hw7 : k0_chk7 i v167 v170 v173 v176 v179 v182 v185} {v628 : BitVec 32} {v631 : BitVec 1} {v634 : BitVec 1} :
    Safe (F := F) R (k0_off53 i v167 v170 v173 v176 v179 v182 v185 0 + 1) (k0_part110 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v36 v167 v170 v173 v176 v179 v182 v185 k0_hw7 v628 v631 v634) (fun _ => k0_off57 i v167 v170 v173 v176 v179 v182 v185 0 + 1) := by
  rw [k0_part110_eq_skeleton]; unfold k0_part110_skel
  refine .peek fun _ => ?_
  refine .put (off54_step _ _ _ _ _ _ _ _) (by decide) ?_
  refine .peek fun _ => ?_
  refine .put (off55_step _ _ _ _ _ _ _ _) (by decide) ?_
  refine .peek fun _ => ?_
  refine .put (off56_step _ _ _ _ _ _ _ _) (by decide) ?_
  refine .peek fun _ => ?_
  refine .put (off57_step _ _ _ _ _ _ _ _) (by decide) ?_
  exact .ret le_rfl

theorem safe111 {i : grid0.Coords} {v36 : BitVec 32} {v167 : BitVec 32} {v170 : BitVec 32} {v173 : BitVec 32} {v176 : BitVec 32} {v179 : BitVec 32} {v182 : BitVec 32} {v185 : BitVec 32} {k0_hw7 : k0_chk7 i v167 v170 v173 v176 v179 v182 v185} {v188 : BitVec 32} {k0_hw8 : k0_chk8 i v167 v170 v173 v176 v179 v182 v185 v188} {v664 : BitVec 32} {v667 : BitVec 1} {v670 : BitVec 1} :
    Safe (F := F) R (k0_off57 i v167 v170 v173 v176 v179 v182 v185 0 + 1) (k0_part111 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v36 v167 v170 v173 v176 v179 v182 v185 k0_hw7 v188 k0_hw8 v664 v667 v670) (fun _ => k0_off61 i v167 v170 v173 v176 v179 v182 v185 v188 0 + 1) := by
  rw [k0_part111_eq_skeleton]; unfold k0_part111_skel
  refine .peek fun _ => ?_
  refine .put (off58_step _ _ _ _ _ _ _ _) (by decide) ?_
  refine .peek fun _ => ?_
  refine .put (off59_step _ _ _ _ _ _ _ _) (by decide) ?_
  refine .peek fun _ => ?_
  refine .put (off60_step _ _ _ _ _ _ _ _) (by decide) ?_
  refine .peek fun _ => ?_
  refine .put (off61_step _ _ _ _ _ _ _ _ _) (by decide) ?_
  exact .ret le_rfl

theorem safe112 {i : grid0.Coords} {v36 : BitVec 32} {v167 : BitVec 32} {v170 : BitVec 32} {v173 : BitVec 32} {v176 : BitVec 32} {v179 : BitVec 32} {v182 : BitVec 32} {v185 : BitVec 32} {v188 : BitVec 32} {k0_hw8 : k0_chk8 i v167 v170 v173 v176 v179 v182 v185 v188} {v700 : BitVec 32} {v703 : BitVec 1} {v706 : BitVec 1} :
    Safe (F := F) R (k0_off61 i v167 v170 v173 v176 v179 v182 v185 v188 0 + 1) (k0_part112 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v36 v167 v170 v173 v176 v179 v182 v185 v188 k0_hw8 v700 v703 v706) (fun _ => k0_off65 i v167 v170 v173 v176 v179 v182 v185 v188 0 + 1) := by
  rw [k0_part112_eq_skeleton]; unfold k0_part112_skel
  refine .peek fun _ => ?_
  refine .put (off62_step _ _ _ _ _ _ _ _ _) (by decide) ?_
  refine .peek fun _ => ?_
  refine .put (off63_step _ _ _ _ _ _ _ _ _) (by decide) ?_
  refine .peek fun _ => ?_
  refine .put (off64_step _ _ _ _ _ _ _ _ _) (by decide) ?_
  refine .peek fun _ => ?_
  refine .put (off65_step _ _ _ _ _ _ _ _ _) (by decide) ?_
  exact .ret le_rfl

theorem safe113 {i : grid0.Coords} {v36 : BitVec 32} {v39 : BitVec 32} {v167 : BitVec 32} {v170 : BitVec 32} {v173 : BitVec 32} {v176 : BitVec 32} {v179 : BitVec 32} {v182 : BitVec 32} {v185 : BitVec 32} {v188 : BitVec 32} {k0_hw8 : k0_chk8 i v167 v170 v173 v176 v179 v182 v185 v188} {v736 : BitVec 32} {v739 : BitVec 1} {v742 : BitVec 1} :
    Safe (F := F) R (k0_off65 i v167 v170 v173 v176 v179 v182 v185 v188 0 + 1) (k0_part113 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v36 v39 v167 v170 v173 v176 v179 v182 v185 v188 k0_hw8 v736 v739 v742) (fun _ => listed i v167 v170 v173 v176 v179 v182 v185 v188) := by
  rw [k0_part113_eq_skeleton]; unfold k0_part113_skel
  refine .peek fun _ => ?_
  refine .put (off66_first _ _ _ _ _ _ _ _ _) (by decide) ?_
  refine .peek fun _ => ?_
  refine .put (off66_next _ _ _ _ _ _ _ _ _ 0) (by decide) ?_
  refine .peek fun _ => ?_
  refine .put (off66_next _ _ _ _ _ _ _ _ _ 1) (by decide) ?_
  refine .peek fun _ => ?_
  refine .put (off66_next _ _ _ _ _ _ _ _ _ 2) (by decide) ?_
  refine .peek fun _ => ?_
  refine .put (off66_next _ _ _ _ _ _ _ _ _ 3) (by decide) ?_
  refine .peek fun _ => ?_
  refine .put (off66_next _ _ _ _ _ _ _ _ _ 4) (by decide) ?_
  refine .peek fun _ => ?_
  refine .put (off66_next _ _ _ _ _ _ _ _ _ 5) (by decide) ?_
  refine .peek fun _ => ?_
  refine .put (off66_next _ _ _ _ _ _ _ _ _ 6) (by decide) ?_
  exact .ret le_rfl

end Cert.KernelIdeal.Attn

end
-- ==== Proof.Fallback.lean ====
/-
  The parts of the fallback that runs where the running sums overflow are safe.
-/
module

public import proofs.«01_k».proof.Proof.Pairs

@[expose] public section

set_option maxHeartbeats 4000000
set_option maxRecDepth 100000

noncomputable section

namespace Cert.KernelIdeal.Attn

open Cert.KernelIdeal Cert.KernelIdeal.Gen
open Idealize.ShloMosaic Idealize.ShloMosaic.TcCoe

variable {F : FTy → Type} [FloatOps F]

variable (R : Refs)

theorem safe75 {i : grid0.Coords} {v821 : FVec F S256x256 .bf16} {v822 : FVec F S256x256 .bf16} {v825 : BitVec 32} {v826 : BitVec 32} {v832 : IVec S128x256 1} {v838 : IVec S128x256 1} {n : ℕ} :
    Safe (F := F) R n (k0_part75 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v821 v822 v825 v826 v832 v838) (fun _ => n) := by
  rw [k0_part75_eq_skeleton]; unfold k0_part75_skel
  refine .l7 fun _ => ?_
  refine .l7 fun _ => ?_
  refine .l7 fun _ => ?_
  refine .l7 fun _ => ?_
  exact .ret le_rfl

theorem safe76 {i : grid0.Coords} {v823 : FVec F S256x256 .bf16} {v824 : FVec F S256x256 .bf16} {v825 : BitVec 32} {v826 : BitVec 32} {v832 : IVec S128x256 1} {v838 : IVec S128x256 1} {v2035 : FVec F S128x256 .f32} {v2043 : FVec F S128x256 .f32} {v2061 : BitVec 32} {n : ℕ} :
    Safe (F := F) R n (k0_part76 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v823 v824 v825 v826 v832 v838 v2035 v2043 v2061) (fun _ => n) := by
  rw [k0_part76_eq_skeleton]; unfold k0_part76_skel
  refine .l7 fun _ => ?_
  refine .l7 fun _ => ?_
  refine .l7 fun _ => ?_
  refine .l7 fun _ => ?_
  exact .ret le_rfl

theorem safe77 {i : grid0.Coords} {v825 : BitVec 32} {v826 : BitVec 32} {v2035 : FVec F S128x256 .f32} {v2043 : FVec F S128x256 .f32} {v2051 : FVec F S128x256 .f32} {v2059 : FVec F S128x256 .f32} {v2096 : FVec F S1x256 .f32} {n : ℕ} :
    Safe (F := F) R n (k0_part77 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v825 v826 v2035 v2043 v2051 v2059 v2096) (fun _ => n) := by
  rw [k0_part77_eq_skeleton]; unfold k0_part77_skel
  refine .l15 fun _ => ?_
  refine .s15 ?_
  refine .l8 fun _ => ?_
  refine .l8 fun _ => ?_
  refine .l16 fun _ => ?_
  refine .s16 ?_
  refine .l15 fun _ => ?_
  refine .s15 ?_
  refine .l8 fun _ => ?_
  exact .ret le_rfl

theorem safe78 {i : grid0.Coords} {v825 : BitVec 32} {v826 : BitVec 32} {v2051 : FVec F S128x256 .f32} {v2059 : FVec F S128x256 .f32} {v2067 : FVec F S128x256 .f32} {v2075 : FVec F S128x256 .f32} {v2124 : FVec F S1x256 .f32} {v2130 : FVec F S80x128 .bf16} {n : ℕ} :
    Safe (F := F) R n (k0_part78 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v825 v826 v2051 v2059 v2067 v2075 v2124 v2130) (fun _ => n) := by
  rw [k0_part78_eq_skeleton]; unfold k0_part78_skel
  refine .l8 fun _ => ?_
  refine .l16 fun _ => ?_
  refine .s16 ?_
  refine .l15 fun _ => ?_
  refine .s15 ?_
  refine .l8 fun _ => ?_
  refine .l8 fun _ => ?_
  exact .ret le_rfl

theorem safe79 {i : grid0.Coords} {v825 : BitVec 32} {v826 : BitVec 32} {v1249 : BitVec 32} {v2083 : FVec F S128x256 .f32} {v2091 : FVec F S128x256 .f32} {v2162 : FVec F S80x256 .bf16} {v2171 : FVec F S256x256 .bf16} {cst_1166 : FVec F S80x256 .f32} {n : ℕ} :
    Safe (F := F) R n (k0_part79 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v825 v826 v1249 v2083 v2091 v2162 v2171 cst_1166) (fun _ => n) := by
  rw [k0_part79_eq_skeleton]; unfold k0_part79_skel
  refine .l16 fun _ => ?_
  refine .s16 ?_
  refine .l15 fun _ => ?_
  refine .s15 ?_
  refine .l8 fun _ => ?_
  refine .l8 fun _ => ?_
  refine .l16 fun _ => ?_
  refine .s16 ?_
  exact .ret le_rfl

theorem safe80 {i : grid0.Coords} {v167 : BitVec 32} {v170 : BitVec 32} {v173 : BitVec 32} {v176 : BitVec 32} {v179 : BitVec 32} {v182 : BitVec 32} {v185 : BitVec 32} {v188 : BitVec 32} {v782 : IVec S128x256 1} {v794 : IVec S128x256 1} {v798 : F .f32} {v802 : F .f32} {v808 : IVec S128x256 1} {v814 : IVec S128x256 1} {v821 : FVec F S256x256 .bf16} {v822 : FVec F S256x256 .bf16} {v823 : FVec F S256x256 .bf16} {v824 : FVec F S256x256 .bf16} {v2024 : BitVec 1} {k0_hw21 : k0_chk21 i v167 v170 v173 v176 v179 v182 v185 v188 v2024} {k0_h4 : k0_cond4 v2024 = 1#1} {c0_i32_1185 : BitVec 32} {v2208 : BitVec 32} :
    Safe (F := F) R (listed i v167 v170 v173 v176 v179 v182 v185 v188) (k0_part80 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v167 v170 v173 v176 v179 v182 v185 v188 v782 v794 v798 v802 v808 v814 v821 v822 v823 v824 v2024 k0_hw21 k0_h4 c0_i32_1185 v2208) (fun _ => listed i v167 v170 v173 v176 v179 v182 v185 v188) := by
  rw [k0_part80_eq_skeleton]; unfold k0_part80_skel
  refine .bind (.loop fun _ _ => safe_t3 R) fun _ => ?_
  refine .bind (.loop fun _ _ => safe_t4 R) fun _ => ?_
  refine .l17 fun _ => ?_
  refine .l17 fun _ => ?_
  refine .l17 fun _ => ?_
  refine .l17 fun _ => ?_
  refine .l17 fun _ => ?_
  refine .l17 fun _ => ?_
  exact .ret le_rfl

theorem safe81 {i : grid0.Coords} {v39 : BitVec 32} {v42 : BitVec 32} {v45 : BitVec 32} {v48 : BitVec 32} {v2212 : FVec F S128x256 .f32} {v2216 : FVec F S128x256 .f32} {v2220 : FVec F S128x256 .f32} {v2224 : FVec F S128x256 .f32} {v2228 : FVec F S128x256 .f32} {v2232 : FVec F S128x256 .f32} {v2234 : FVec F S1x256 .f32} {n : ℕ} :
    Safe (F := F) R n (k0_part81 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v39 v42 v45 v48 v2212 v2216 v2220 v2224 v2228 v2232 v2234) (fun _ => n) := by
  rw [k0_part81_eq_skeleton]; unfold k0_part81_skel
  refine .l10 fun _ => ?_
  refine .l10 fun _ => ?_
  refine .l10 fun _ => ?_
  refine .l10 fun _ => ?_
  exact .ret le_rfl

theorem safe82 {i : grid0.Coords} {v51 : BitVec 32} {v54 : BitVec 32} {v782 : IVec S128x256 1} {v794 : IVec S128x256 1} {v2220 : FVec F S128x256 .f32} {v2224 : FVec F S128x256 .f32} {v2228 : FVec F S128x256 .f32} {v2232 : FVec F S128x256 .f32} {v2249 : FVec F S1x256 .f32} {v2266 : FVec F S80x256 .f32} {v2273 : FVec F S80x256 .bf16} {n : ℕ} :
    Safe (F := F) R n (k0_part82 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v51 v54 v782 v794 v2220 v2224 v2228 v2232 v2249 v2266 v2273) (fun _ => n) := by
  rw [k0_part82_eq_skeleton]; unfold k0_part82_skel
  refine .l10 fun _ => ?_
  refine .l10 fun _ => ?_
  refine .l17 fun _ => ?_
  refine .l17 fun _ => ?_
  exact .ret le_rfl

theorem safe83 {i : grid0.Coords} {v39 : BitVec 32} {v798 : F .f32} {v802 : F .f32} {v808 : IVec S128x256 1} {v814 : IVec S128x256 1} {v2306 : FVec F S128x256 .f32} {v2310 : FVec F S128x256 .f32} {n : ℕ} :
    Safe (F := F) R n (k0_part83 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v39 v798 v802 v808 v814 v2306 v2310) (fun _ => n) := by
  rw [k0_part83_eq_skeleton]; unfold k0_part83_skel
  refine .l17 fun _ => ?_
  refine .l17 fun _ => ?_
  refine .l17 fun _ => ?_
  refine .l17 fun _ => ?_
  refine .l10 fun _ => ?_
  exact .ret le_rfl

theorem safe84 {i : grid0.Coords} {v42 : BitVec 32} {v45 : BitVec 32} {v48 : BitVec 32} {v51 : BitVec 32} {v54 : BitVec 32} {v2306 : FVec F S128x256 .f32} {v2310 : FVec F S128x256 .f32} {v2314 : FVec F S128x256 .f32} {v2318 : FVec F S128x256 .f32} {v2343 : FVec F S1x256 .f32} {v2345 : Vec F S1x1x1x80x128 .bf16} {n : ℕ} :
    Safe (F := F) R n (k0_part84 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v42 v45 v48 v51 v54 v2306 v2310 v2314 v2318 v2343 v2345) (fun _ => n) := by
  rw [k0_part84_eq_skeleton]; unfold k0_part84_skel
  refine .l10 fun _ => ?_
  refine .l10 fun _ => ?_
  refine .l10 fun _ => ?_
  refine .l10 fun _ => ?_
  refine .l10 fun _ => ?_
  exact .ret le_rfl

theorem safe85 {i : grid0.Coords} {v782 : IVec S128x256 1} {v794 : IVec S128x256 1} {v798 : F .f32} {v802 : F .f32} {v808 : IVec S128x256 1} {v2322 : FVec F S128x256 .f32} {v2326 : FVec F S128x256 .f32} {v2343 : FVec F S1x256 .f32} {v2378 : FVec F S80x256 .f32} {v2381 : FVec F S80x128 .bf16} {v2383 : Vec F S1x1x1x80x128 .bf16} {n : ℕ} :
    Safe (F := F) R n (k0_part85 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v782 v794 v798 v802 v808 v2322 v2326 v2343 v2378 v2381 v2383) (fun _ => n) := by
  rw [k0_part85_eq_skeleton]; unfold k0_part85_skel
  refine .l17 fun _ => ?_
  refine .l17 fun _ => ?_
  refine .l17 fun _ => ?_
  refine .l17 fun _ => ?_
  refine .l17 fun _ => ?_
  exact .ret le_rfl

theorem safe86 {i : grid0.Coords} {v39 : BitVec 32} {v42 : BitVec 32} {v45 : BitVec 32} {v814 : IVec S128x256 1} {v2400 : FVec F S128x256 .f32} {v2404 : FVec F S128x256 .f32} {v2408 : FVec F S128x256 .f32} {v2412 : FVec F S128x256 .f32} {v2416 : FVec F S128x256 .f32} {n : ℕ} :
    Safe (F := F) R n (k0_part86 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v39 v42 v45 v814 v2400 v2404 v2408 v2412 v2416) (fun _ => n) := by
  rw [k0_part86_eq_skeleton]; unfold k0_part86_skel
  refine .l17 fun _ => ?_
  refine .l10 fun _ => ?_
  refine .l10 fun _ => ?_
  exact .ret le_rfl

theorem safe87 {i : grid0.Coords} {v48 : BitVec 32} {v51 : BitVec 32} {v54 : BitVec 32} {v782 : IVec S128x256 1} {v2408 : FVec F S128x256 .f32} {v2412 : FVec F S128x256 .f32} {v2416 : FVec F S128x256 .f32} {v2420 : FVec F S128x256 .f32} {v2437 : FVec F S1x256 .f32} {v2454 : FVec F S80x256 .f32} {n : ℕ} :
    Safe (F := F) R n (k0_part87 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v48 v51 v54 v782 v2408 v2412 v2416 v2420 v2437 v2454) (fun _ => n) := by
  rw [k0_part87_eq_skeleton]; unfold k0_part87_skel
  refine .l10 fun _ => ?_
  refine .l10 fun _ => ?_
  refine .l10 fun _ => ?_
  refine .l10 fun _ => ?_
  refine .l17 fun _ => ?_
  exact .ret le_rfl

theorem safe88 {i : grid0.Coords} {v794 : IVec S128x256 1} {v798 : F .f32} {v802 : F .f32} {v808 : IVec S128x256 1} {v814 : IVec S128x256 1} {v2494 : FVec F S128x256 .f32} {n : ℕ} :
    Safe (F := F) R n (k0_part88 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v794 v798 v802 v808 v814 v2494) (fun _ => n) := by
  rw [k0_part88_eq_skeleton]; unfold k0_part88_skel
  refine .l17 fun _ => ?_
  refine .l17 fun _ => ?_
  refine .l17 fun _ => ?_
  refine .l17 fun _ => ?_
  refine .l17 fun _ => ?_
  exact .ret le_rfl

theorem safe89 {i : grid0.Coords} {v39 : BitVec 32} {v42 : BitVec 32} {v45 : BitVec 32} {v48 : BitVec 32} {v51 : BitVec 32} {v2494 : FVec F S128x256 .f32} {v2498 : FVec F S128x256 .f32} {v2502 : FVec F S128x256 .f32} {v2506 : FVec F S128x256 .f32} {v2520 : FVec F S1x256 .f32} {v2522 : FVec F S1x256 .f32} {v2524 : FVec F S1x256 .f32} {v2526 : FVec F S1x256 .f32} {v2527 : FVec F S1x256 .f32} {n : ℕ} :
    Safe (F := F) R n (k0_part89 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v39 v42 v45 v48 v51 v2494 v2498 v2502 v2506 v2520 v2522 v2524 v2526 v2527) (fun _ => n) := by
  rw [k0_part89_eq_skeleton]; unfold k0_part89_skel
  refine .l10 fun _ => ?_
  refine .l10 fun _ => ?_
  refine .l10 fun _ => ?_
  refine .l10 fun _ => ?_
  exact .ret le_rfl

theorem safe90 {i : grid0.Coords} {v54 : BitVec 32} {v102 : FVec F S64x256 .f32} {v2302 : FVec F S80x256 .f32} {v2510 : FVec F S128x256 .f32} {v2514 : FVec F S128x256 .f32} {v2531 : FVec F S1x256 .f32} {v2566 : FVec F S80x256 .f32} {n : ℕ} :
    Safe (F := F) R n (k0_part90 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v54 v102 v2302 v2510 v2514 v2531 v2566) (fun _ => n) := by
  rw [k0_part90_eq_skeleton]; unfold k0_part90_skel
  refine .l10 fun _ => ?_
  refine .l10 fun _ => ?_
  refine .l4 fun _ => ?_
  refine .l16 fun _ => ?_
  exact .ret le_rfl

theorem safe91 {i : grid0.Coords} {v103 : FVec F S64x256 .f32} {v2396 : FVec F S80x256 .f32} {v2490 : FVec F S80x256 .f32} {v2586 : FVec F S16x256 .f32} {v2603 : FVec F S64x256 .f32} {v2610 : FVec F S64x256 .f32} {v2611 : FVec F S1x256 .f32} {n : ℕ} :
    Safe (F := F) R n (k0_part91 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v103 v2396 v2490 v2586 v2603 v2610 v2611) (fun _ => n) := by
  rw [k0_part91_eq_skeleton]; unfold k0_part91_skel
  refine .l16 fun _ => ?_
  refine .l16 fun _ => ?_
  exact .ret le_rfl

theorem safe92 {i : grid0.Coords} {v39 : BitVec 32} {v42 : BitVec 32} {v45 : BitVec 32} {v48 : BitVec 32} {v51 : BitVec 32} {v54 : BitVec 32} {v102 : FVec F S64x256 .f32} {v103 : FVec F S64x256 .f32} {v104 : FVec F S64x256 .f32} {v105 : FVec F S64x256 .f32} {v167 : BitVec 32} {v170 : BitVec 32} {v173 : BitVec 32} {v176 : BitVec 32} {v179 : BitVec 32} {v182 : BitVec 32} {v185 : BitVec 32} {v188 : BitVec 32} {v782 : IVec S128x256 1} {v794 : IVec S128x256 1} {v798 : F .f32} {v802 : F .f32} {v808 : IVec S128x256 1} {v814 : IVec S128x256 1} {v821 : FVec F S256x256 .bf16} {v822 : FVec F S256x256 .bf16} {v823 : FVec F S256x256 .bf16} {v824 : FVec F S256x256 .bf16} {v825 : BitVec 32} {v826 : BitVec 32} {v832 : IVec S128x256 1} {v838 : IVec S128x256 1} {v1249 : BitVec 32} {v2024 : BitVec 1} {k0_hw21 : k0_chk21 i v167 v170 v173 v176 v179 v182 v185 v188 v2024} {k0_h4 : k0_cond4 v2024 = 1#1} :
    Safe (F := F) R (listed i v167 v170 v173 v176 v179 v182 v185 v188) (k0_part92 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 v39 v42 v45 v48 v51 v54 v102 v103 v104 v105 v167 v170 v173 v176 v179 v182 v185 v188 v782 v794 v798 v802 v808 v814 v821 v822 v823 v824 v825 v826 v832 v838 v1249 v2024 k0_hw21 k0_h4) (fun _ => listed i v167 v170 v173 v176 v179 v182 v185 v188) := by
  rw [k0_part92_eq_skeleton]; unfold k0_part92_skel
  refine .bind (safe75 R) ?_
  rintro ⟨_, _, _, _, _⟩
  refine .bind (safe76 R) ?_
  rintro ⟨_, _, _, _, _⟩
  refine .bind (safe77 R) ?_
  rintro ⟨_, _⟩
  refine .bind (safe78 R) ?_
  rintro ⟨_, _, _⟩
  refine .bind (safe79 R) ?_
  rintro ⟨_, _⟩
  refine .bind (safe80 R) ?_
  rintro ⟨_, _, _, _, _, _, _⟩
  refine .bind (safe81 R) ?_
  rintro ⟨_, _, _⟩
  refine .bind (safe82 R) ?_
  rintro ⟨_, _, _⟩
  refine .bind (safe83 R) ?_
  rintro ⟨_, _, _, _, _, _⟩
  refine .bind (safe84 R) ?_
  rintro ⟨_, _, _⟩
  refine .bind (safe85 R) ?_
  rintro ⟨_, _, _, _, _, _⟩
  refine .bind (safe86 R) ?_
  rintro ⟨_, _, _⟩
  refine .bind (safe87 R) ?_
  rintro ⟨_, _⟩
  refine .bind (safe88 R) ?_
  rintro ⟨_, _, _, _, _, _, _, _, _, _⟩
  refine .bind (safe89 R) ?_
  rintro ⟨_, _⟩
  refine .bind (safe90 R) ?_
  rintro ⟨_, _, _, _, _⟩
  refine .bind (safe91 R) ?_
  rintro ⟨_, _, _, _⟩
  refine .l16 fun _ => ?_
  exact .ret le_rfl

end Cert.KernelIdeal.Attn

end
-- ==== Proof.Body.lean ====
/-
  The body is safe: from any contents of its buffers it runs without fault.
-/
module

public import proofs.«01_k».proof.Proof.Rest
public import proofs.«01_k».proof.Proof.List
public import proofs.«01_k».proof.Proof.Fallback

@[expose] public section

set_option maxHeartbeats 4000000
set_option maxRecDepth 100000

noncomputable section

namespace Cert.KernelIdeal.Attn

open Cert.KernelIdeal Cert.KernelIdeal.Gen
open Idealize.ShloMosaic Idealize.ShloMosaic.TcCoe

variable {F : FTy → Type} [FloatOps F]

variable (R : Refs)

theorem safe147 {i : grid0.Coords} :
    Safe (F := F) R 0 (k0_part147 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 ) (fun v => listed i v.2.2.2.2.2.2.2.2.2.2.1 v.2.2.2.2.2.2.2.2.2.2.2.1 v.2.2.2.2.2.2.2.2.2.2.2.2.1 v.2.2.2.2.2.2.2.2.2.2.2.2.2.1 v.2.2.2.2.2.2.2.2.2.2.2.2.2.2.1 v.2.2.2.2.2.2.2.2.2.2.2.2.2.2.2.1 v.2.2.2.2.2.2.2.2.2.2.2.2.2.2.2.2.1 v.2.2.2.2.2.2.2.2.2.2.2.2.2.2.2.2.2.1) := by
  rw [k0_part147_eq_skeleton]; unfold k0_part147_skel
  refine .bind (safe93 R) ?_
  rintro ⟨_, _, _, _, _, _, _, _⟩
  refine .bind (safe94 R) ?_
  rintro ⟨_, _, _, _, _, _, _, _⟩
  refine .bind (safe95 R) ?_
  rintro ⟨_, _, _, _, _, _, _, _, _, _, _⟩
  refine .bind (safe96 R) ?_
  rintro _
  refine .bind (safe97 R) ?_
  rintro ⟨_, _, _, _, _, _, _, _, _, _, _, _, _, _, _, _, _, _, _⟩
  refine .bind (safe98 R) ?_
  rintro ⟨_, _, _⟩
  refine .bind (safe99 R) ?_
  rintro ⟨_, _, _⟩
  refine .bind (safe100 R) ?_
  rintro ⟨_, _, _⟩
  refine .bind (safe101 R) ?_
  rintro ⟨_, _, _⟩
  refine .bind (safe102 R) ?_
  rintro ⟨_, _, _⟩
  refine .bind (safe103 R) ?_
  rintro ⟨_, _, _⟩
  refine .bind (safe104 R) ?_
  rintro ⟨_, _, _⟩
  refine .bind (safe105 R) ?_
  rintro ⟨_, _, _⟩
  refine .bind (safe106 R) ?_
  rintro ⟨_, _, _⟩
  refine .bind (safe107 R) ?_
  rintro ⟨_, _, _⟩
  refine .bind (safe108 R) ?_
  rintro ⟨_, _, _⟩
  refine .bind (safe109 R) ?_
  rintro ⟨_, _, _⟩
  refine .bind (safe110 R) ?_
  rintro ⟨_, _, _⟩
  refine .bind (safe111 R) ?_
  rintro ⟨_, _, _⟩
  refine .bind (safe112 R) ?_
  rintro ⟨_, _, _⟩
  refine .bind (safe113 R) ?_
  rintro ⟨_, _, _, _⟩
  refine .bind (safe114 R) ?_
  rintro ⟨_, _, _, _, _, _⟩
  refine .bind (safe115 R) ?_
  rintro ⟨_, _, _, _, _, _, _, _, _, _, _⟩
  refine .bind (safe116 R) ?_
  rintro ⟨_, _, _, _, _⟩
  refine .bind (safe117 R) ?_
  rintro ⟨_, _, _, _, _, _⟩
  refine .bind (safe118 R) ?_
  rintro ⟨_, _, _, _, _⟩
  refine .bind (safe119 R) ?_
  rintro ⟨_, _, _⟩
  refine .bind (safe120 R) ?_
  rintro ⟨_, _, _, _, _, _, _⟩
  refine .bind (safe121 R) ?_
  rintro ⟨_, _⟩
  refine .bind (safe122 R) ?_
  rintro ⟨_, _, _, _, _, _, _, _⟩
  refine .bind (safe123 R) ?_
  rintro ⟨_, _⟩
  refine .bind (safe124 R) ?_
  rintro ⟨_, _, _, _, _, _⟩
  refine .bind (safe125 R) ?_
  rintro ⟨_, _, _, _, _⟩
  refine .bind (safe126 R) ?_
  rintro ⟨_, _, _, _, _⟩
  refine .bind (safe127 R) ?_
  rintro ⟨_, _⟩
  refine .bind (safe128 R) ?_
  rintro ⟨_, _⟩
  refine .bind (safe129 R) ?_
  rintro ⟨_, _, _⟩
  refine .bind (safe130 R (eight_le_listed _ _ _ _ _ _ _ _ _)) ?_
  rintro ⟨_, _, _, _, _, _, _, _, _, _, _, _, _, _, _, _, _, _⟩
  refine .bind (safe131 R) ?_
  rintro ⟨_, _, _, _, _, _, _⟩
  refine .bind (safe132 R) ?_
  rintro ⟨_, _, _, _, _⟩
  refine .bind (safe133 R) ?_
  rintro ⟨_, _, _, _, _, _⟩
  refine .bind (safe134 R) ?_
  rintro ⟨_, _, _, _, _, _⟩
  refine .bind (safe135 R) ?_
  rintro ⟨_, _, _, _, _, _, _⟩
  refine .bind (safe136 R) ?_
  rintro ⟨_, _, _, _, _, _⟩
  refine .bind (safe137 R) ?_
  rintro ⟨_, _⟩
  refine .bind (safe138 R) ?_
  rintro ⟨_, _, _⟩
  refine .bind (safe139 R) ?_
  rintro ⟨_, _⟩
  refine .bind (safe140 R) ?_
  rintro ⟨_, _, _⟩
  refine .bind (safe141 R) ?_
  rintro ⟨_, _⟩
  refine .bind (safe142 R) ?_
  rintro ⟨_, _, _⟩
  refine .bind (safe143 R) ?_
  rintro ⟨_, _⟩
  refine .bind (safe144 R) ?_
  rintro ⟨_, _, _, _⟩
  refine .bind (safe145 R) ?_
  rintro ⟨_, _, _, _, _, _⟩
  refine .bind (safe146 R) ?_
  rintro ⟨_, _⟩
  refine .l16 fun _ => ?_
  exact .ret le_rfl

theorem safe_body {i : grid0.Coords} :
    Safe (F := F) R 0 (cc0_nsa_attend (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 ) (fun _ => 0) := by
  rw [cc0_nsa_attend_eq_skeleton]; unfold cc0_nsa_attend_skel
  refine .bind (safe147 R) ?_
  rintro ⟨_, _, _, _, _, _, _, _, _, _, _, _, _, _, _, _, _, _, _, _, _, _, _, _, _, _, _, _, _, _, _, _, _, _, _, _, _, _, _, _, _, _⟩
  refine .l13 fun _ => ?_
  refine .s13 ?_
  refine .assume (chk21_ok _ _ _ _ _ _ _ _ _ _) ?_
  refine .cond (fun _ => ?_) fun _ => ?_
  · refine .bind (safe92 R) ?_
    rintro ⟨_, _, _, _, _, _⟩
    refine .l13 fun _ => ?_
    refine .s13 ?_
    exact .ret (Nat.zero_le _)
  · exact .ret (Nat.zero_le _)

end Cert.KernelIdeal.Attn

end
-- ==== Proof.Launch.lean ====
/-
  The launch: the body's triple at every grid point, with the ten staged inputs left as they were and the output block
  forgotten, and from it the run of @main.
-/
module

public import proofs.«01_k».proof.Proof.Body
public import Idealize.ShloMosaic.Lib.Pipeline.Frame

@[expose] public section

set_option maxHeartbeats 4000000

attribute [local irreducible] Cert.KernelIdeal.cc0_nsa_attend

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- A whole memref owned at `X`: its buffer held at contents that read `X`. -/
theorem owns_hold (c : Dev nD) {sp : Space} {s : Shape} {e : EltTy} (M : Memref sig .tc sp s e) (h : M.IsWhole) (X : s.Idx → Elt F e) :
    (owns (c : Thread nD τ) M fullShare X : sProp 𝕄) = iprop(∃ f : Cont F c M, ⌜M.view.read (Elt F) f = X⌝ ∗ hold c M f) := by
  unfold owns hold; rw [h.set_eq_univ]

/-- The memrefs the body is called with at point `t`. -/
def refsAt (t : Fin cfg0.N) : Refs where
  a3 := win0_0.stage (cfg0.slots t 0)
  h3 := hstage0_0 ((cfg0.slots t 0).cast nbuf0_0)
  a4 := win0_1.stage (cfg0.slots t 1)
  h4 := hstage0_1 ((cfg0.slots t 1).cast nbuf0_1)
  a5 := win0_2.stage (cfg0.slots t 2)
  h5 := hstage0_2 ((cfg0.slots t 2).cast nbuf0_2)
  a6 := win0_3.stage (cfg0.slots t 3)
  h6 := hstage0_3 ((cfg0.slots t 3).cast nbuf0_3)
  a7 := win0_4.stage (cfg0.slots t 4)
  h7 := hstage0_4 ((cfg0.slots t 4).cast nbuf0_4)
  a8 := win0_5.stage (cfg0.slots t 5)
  h8 := hstage0_5 ((cfg0.slots t 5).cast nbuf0_5)
  a9 := win0_6.stage (cfg0.slots t 6)
  h9 := hstage0_6 ((cfg0.slots t 6).cast nbuf0_6)
  a10 := win0_7.stage (cfg0.slots t 7)
  h10 := hstage0_7 ((cfg0.slots t 7).cast nbuf0_7)
  a11 := win0_8.stage (cfg0.slots t 8)
  h11 := hstage0_8 ((cfg0.slots t 8).cast nbuf0_8)
  a12 := win0_9.stage (cfg0.slots t 9)
  h12 := hstage0_9 ((cfg0.slots t 9).cast nbuf0_9)
  a13 := win0_10.stage (cfg0.slots t 10)
  h13 := hstage0_10 ((cfg0.slots t 10).cast nbuf0_10)
  a14 := Memref.whole cc0_scratch0
  h14 := Memref.isWhole_whole _
  a15 := Memref.whole cc0_scratch1
  h15 := Memref.isWhole_whole _
  a16 := Memref.whole cc0_scratch2
  h16 := Memref.isWhole_whole _
  a17 := Memref.whole cc0_scratch3
  h17 := Memref.isWhole_whole _

/-- The output window alone is forgotten: nothing here reads what the kernel leaves in it. -/
def forgets0 : Fin 11 → Bool := ![false, false, false, false, false, false, false, false, false, false, true]

/-- The proof data on core `c`: the arrays as the region finds them; every input's block left in place; the scratch buffers at
    anything between the points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨_ + 10, h⟩ => Pipeline.Dat.unnamed (cfg := cfg0) ⟨_ + 10, h⟩ t
  Φ _ := Pipeline.ΦA spec0 c
  q _ := fullShare
  owed _ := 0

theorem A_eq (c : Dev nD) (w : Fin cfg0.W) : (dats m 0 c).A w = V m c (Pipeline.arrRef spec0 w) := by dsimp only [dats]

/-- The body at point `t` from its fifteen buffers at any contents: it gives the inputs back as they were, the rest at some
    contents. -/
theorem body_run (c : Dev nD) (t : Fin cfg0.N) (g : Ins F c (refsAt t)) (σ : Outs F c (refsAt t)) (K : PUnit → sProp 𝕄) :
    iprop(Own g σ ∗ (∀ σ' : Outs F c (refsAt t), Own g σ' -∗ K ⟨⟩))
      ⊢ wp frame (wpE (defs₀ (F := F)) Variants.none (c : Thread nD τ) none) Set.univ (bodyAt0 t) K := by
  have h := Safe.run (refsAt t) (safe_body (F := F) (refsAt t) (i := grid0.coords t)) g σ fun y hy => absurd hy (Nat.not_lt_zero _)
  unfold Run at h
  refine BIBase.Entails.trans (sep_mono_l h) ((wp_frame_r _ _ _).trans (wp_mono _ _ _ fun _ => ?_))
  iintro ⟨⟨%σ', -, H⟩, HK⟩
  iapply HK
  iexact H

/-- What the body is called with at point `t`: every input's block in its staging memref, the output's at any contents; -/
def bodyPre (c : Dev nD) (t : Fin cfg0.N) : sProp 𝕄 :=
  iprop((dats m 0 c).Φ t.castSucc ∗ (dats m 0 c).owesAt () t.castSucc
    ∗ (∃ d, owns (c : Thread nD τ) (refsAt t).a3 fullShare ((dats m 0 c).before 0 t d))
    ∗ (∃ d, owns (c : Thread nD τ) (refsAt t).a4 fullShare ((dats m 0 c).before 1 t d))
    ∗ (∃ d, owns (c : Thread nD τ) (refsAt t).a5 fullShare ((dats m 0 c).before 2 t d))
    ∗ (∃ d, owns (c : Thread nD τ) (refsAt t).a6 fullShare ((dats m 0 c).before 3 t d))
    ∗ (∃ d, owns (c : Thread nD τ) (refsAt t).a7 fullShare ((dats m 0 c).before 4 t d))
    ∗ (∃ d, owns (c : Thread nD τ) (refsAt t).a8 fullShare ((dats m 0 c).before 5 t d))
    ∗ (∃ d, owns (c : Thread nD τ) (refsAt t).a9 fullShare ((dats m 0 c).before 6 t d))
    ∗ (∃ d, owns (c : Thread nD τ) (refsAt t).a10 fullShare ((dats m 0 c).before 7 t d))
    ∗ (∃ d, owns (c : Thread nD τ) (refsAt t).a11 fullShare ((dats m 0 c).before 8 t d))
    ∗ (∃ d, owns (c : Thread nD τ) (refsAt t).a12 fullShare ((dats m 0 c).before 9 t d))
    ∗ (∃ d, owns (c : Thread nD τ) (refsAt t).a13 fullShare d))

/-- and what it returns. -/
def bodyPost (c : Dev nD) (t : Fin cfg0.N) : sProp 𝕄 :=
  iprop((dats m 0 c).Φ t.succ ∗ (dats m 0 c).owesAt () t.succ
    ∗ owns (c : Thread nD τ) (refsAt t).a3 fullShare ((dats m 0 c).after 0 t)
    ∗ owns (c : Thread nD τ) (refsAt t).a4 fullShare ((dats m 0 c).after 1 t)
    ∗ owns (c : Thread nD τ) (refsAt t).a5 fullShare ((dats m 0 c).after 2 t)
    ∗ owns (c : Thread nD τ) (refsAt t).a6 fullShare ((dats m 0 c).after 3 t)
    ∗ owns (c : Thread nD τ) (refsAt t).a7 fullShare ((dats m 0 c).after 4 t)
    ∗ owns (c : Thread nD τ) (refsAt t).a8 fullShare ((dats m 0 c).after 5 t)
    ∗ owns (c : Thread nD τ) (refsAt t).a9 fullShare ((dats m 0 c).after 6 t)
    ∗ owns (c : Thread nD τ) (refsAt t).a10 fullShare ((dats m 0 c).after 7 t)
    ∗ owns (c : Thread nD τ) (refsAt t).a11 fullShare ((dats m 0 c).after 8 t)
    ∗ owns (c : Thread nD τ) (refsAt t).a12 fullShare ((dats m 0 c).after 9 t)
    ∗ (∃ d, owns (c : Thread nD τ) (refsAt t).a13 fullShare d))

/-- The body at the point, on the staged blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  simp only [before0_0_of m (dats m 0 c) (A_eq m c 0) (fun _ => rfl) t]
  simp only [before0_1_of m (dats m 0 c) (A_eq m c 1) (fun _ => rfl) t]
  simp only [before0_2_of m (dats m 0 c) (A_eq m c 2) (fun _ => rfl) t]
  simp only [before0_3_of m (dats m 0 c) (A_eq m c 3) (fun _ => rfl) t]
  simp only [before0_4_of m (dats m 0 c) (A_eq m c 4) (fun _ => rfl) t]
  simp only [before0_5_of m (dats m 0 c) (A_eq m c 5) (fun _ => rfl) t]
  simp only [before0_6_of m (dats m 0 c) (A_eq m c 6) (fun _ => rfl) t]
  simp only [before0_7_of m (dats m 0 c) (A_eq m c 7) (fun _ => rfl) t]
  simp only [before0_8_of m (dats m 0 c) (A_eq m c 8) (fun _ => rfl) t]
  simp only [before0_9_of m (dats m 0 c) (A_eq m c 9) (fun _ => rfl) t]
  simp only [owns_hold c (refsAt t).a3 (refsAt t).h3]
  simp only [owns_hold c (refsAt t).a4 (refsAt t).h4]
  simp only [owns_hold c (refsAt t).a5 (refsAt t).h5]
  simp only [owns_hold c (refsAt t).a6 (refsAt t).h6]
  simp only [owns_hold c (refsAt t).a7 (refsAt t).h7]
  simp only [owns_hold c (refsAt t).a8 (refsAt t).h8]
  simp only [owns_hold c (refsAt t).a9 (refsAt t).h9]
  simp only [owns_hold c (refsAt t).a10 (refsAt t).h10]
  simp only [owns_hold c (refsAt t).a11 (refsAt t).h11]
  simp only [owns_hold c (refsAt t).a12 (refsAt t).h12]
  simp only [owns_hold c (refsAt t).a13 (refsAt t).h13]
  iintro ⟨⟨⟨⟨%s1, S1⟩, ⟨%s2, S2⟩, ⟨%s3, S3⟩, ⟨%s0, S0⟩⟩, Hg⟩, HO, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩⟩
  iapply (body_run c t ⟨f0, f1, f2, f3, f4, f5, f6, f7, f8, f9⟩ ⟨f10, s0, s1, s2, s3⟩ _)
  isplitl [H0 H1 H2 H3 H4 H5 H6 H7 H8 H9 H10 S0 S1 S2 S3]
  · unfold Own
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    iexact S3
  iintro %σ' H
  unfold Own
  icases H with ⟨H0, H1, H2, H3, H4, H5, H6, H7, H8, H9, H10, S0, S1, S2, S3⟩
  isplitl [S0 S1 S2 S3 Hg]
  · isplitl [S0 S1 S2 S3]
    · isplitl [S1]; · iexists _; iexact S1
      isplitl [S2]; · iexists _; iexact S2
      isplitl [S3]; · iexists _; iexact S3
      iexists _; iexact S0
    iexact Hg
  isplitl [HO]; · iexact HO
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  isplitl [H9]
  · iexists f9; isplitr; · ipureintro; exact e9
    iexact H9
  iexists _, _
  isplitr; swap; · iexact H10
  ipureintro; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the output forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- Every weakly fair execution of @main from zero counters terminates without fault, each windowed input holding at the end
    what the region found in it and every semaphore counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- A staged input's array holds at the end what the region found in it. -/
theorem final_in {r : PUnit × MemSt nD τ sig (Elt F)}
    (h : Pipeline.RDat.FramePost (cfgs 0) (fun c => (dats (F := F) m 0 c).toRForget forgets0) (V m) r) (c : Dev nD) (w : Fin 11)
    (hw : (cfg0.win w).isOut = false) :
    r.2.mem ((spec0 w).arr.view.loc (c : Thread nD τ)) = V m c (Pipeline.arrRef spec0 w) :=
  ((congrFun (((dats (F := F) m 0 c).toRForget forgets0).ArrAt_in w hw _) _).mp ((h c).1 w)).trans (A_eq m c w)

/-- The frame: the eight arguments end as they began, the counters at zero. -/
theorem run_frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨fun c => ⟨(final_in m h.1 c 0 rfl).trans (V_main_arg0 m c),
    (final_in m h.1 c 1 rfl).trans (V_main_arg1 m c),
    (final_in m h.1 c 2 rfl).trans (V_main_arg2 m c),
    (final_in m h.1 c 3 rfl).trans (V_main_arg3 m c),
    (final_in m h.1 c 4 rfl).trans (V_main_arg4 m c),
    (final_in m h.1 c 5 rfl).trans (V_main_arg5 m c),
    (final_in m h.1 c 6 rfl).trans (V_main_arg6 m c),
    (final_in m h.1 c 7 rfl).trans (V_main_arg7 m c)⟩, h.2⟩) (run_main m ρ)

end Cert.KernelIdeal.Attn

end
-- ==== Proof.Same.lean ====
/-
  The kernel as it runs and its idealization are printed from one text. Here the two sets of definitions are equated, part
  by part, so that what is proved of one program's run is proved of the other's.
-/
module

public import proofs.«01_k».proof.Proof.Gen.Kernel
public import proofs.«01_k».proof.Proof.Gen.KernelIdeal
public import Mathlib.Tactic.TermCongr

@[expose] public section

noncomputable section

set_option maxHeartbeats 4000000
set_option maxRecDepth 100000

namespace Cert.Same

open Idealize.ShloMosaic Idealize.ShloMosaic.TcCoe

variable {F : FTy → Type} [FloatOps F]

attribute [local instance] Cert.Kernel.Gen.facts Cert.KernelIdeal.Gen.facts

/-- The two bodies of the attention are one function. -/
theorem body_same : @Kernel.cc0_nsa_attend F _ _ = @KernelIdeal.cc0_nsa_attend F _ _ := rfl

open Cert.KernelIdeal Cert.KernelIdeal.Gen in
/-- The two body tables agree. -/
theorem table_same : @Kernel.defs₀ F _ _ = @KernelIdeal.defs₀ F _ _ := by
  refine congrArg Defs.onTc (funext fun l => ?_)
  match l with
  | 0 =>
    refine funext fun a => ?_
    obtain ⟨t, s⟩ := a
    exact congr($(body_same (F := F)) (grid0.coords t) (win0_0.stage (s 0)) (hstage0_0 ((s 0).cast nbuf0_0)) (win0_1.stage (s 1)) (hstage0_1 ((s 1).cast nbuf0_1)) (win0_2.stage (s 2)) (hstage0_2 ((s 2).cast nbuf0_2)) (win0_3.stage (s 3)) (hstage0_3 ((s 3).cast nbuf0_3)) (win0_4.stage (s 4)) (hstage0_4 ((s 4).cast nbuf0_4)) (win0_5.stage (s 5)) (hstage0_5 ((s 5).cast nbuf0_5)) (win0_6.stage (s 6)) (hstage0_6 ((s 6).cast nbuf0_6)) (win0_7.stage (s 7)) (hstage0_7 ((s 7).cast nbuf0_7)) (win0_8.stage (s 8)) (hstage0_8 ((s 8).cast nbuf0_8)) (win0_9.stage (s 9)) (hstage0_9 ((s 9).cast nbuf0_9)) (win0_10.stage (s 10)) (hstage0_10 ((s 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _))

/-- The first stretch of the host program. -/
theorem host0_same : @Kernel.main_part0 F _ _ = @KernelIdeal.main_part0 F _ _ := rfl

/-- The second stretch of the host program, the launch among it. -/
theorem host1_same : @Kernel.main_part1 F _ _ = @KernelIdeal.main_part1 F _ _ := rfl

attribute [local irreducible] Kernel.defs₀ KernelIdeal.defs₀ Kernel.main_part0 KernelIdeal.main_part0 Kernel.main_part1
  KernelIdeal.main_part1

/-- The two programs call one table of definitions. -/
theorem defs_same : @Kernel.defs F _ _ = @KernelIdeal.defs F _ _ :=
  congrArg (Pipeline.defs (KernelIdeal.pcfgs (F := F))) table_same

/-- The two host programs are one. -/
theorem main_same : @Kernel.main F _ _ = @KernelIdeal.main F _ _ :=
  funext fun d => congr($(congrFun (host0_same (F := F)) d) >>= fun _ => $(congrFun (host1_same (F := F)) d))

end Cert.Same

end

end
-- ==== Proof.Mlp.Row.lean ====
/- Hand-written: one row of the attention layer's second half, as plain sums over extended reals, and the cut of the
   4096 hidden lanes into the four pieces of 1024 that the kernel walks. -/
module

public import Idealize.ShloMosaic.Lib.Pointwise
public import Idealize.ShloMosaic.Lib.Pipeline.ValueKit.Acc

@[expose] public section

noncomputable section

namespace Cert.Mlp

open Idealize.ShloMosaic

/-- A row divided by its root mean square and scaled by `g`. -/
def nrm (v g : Fin 1024 → EReal) (j : Fin 1024) : EReal :=
  v j * Ideal.rsqrt (Ideal.div (∑ x, v x * v x) (Ideal.ofBits FTy.f32 1149239296#32) + Ideal.ofBits FTy.f32 897988541#32) * g j

/-- The row after the attention's output projection is added. -/
def res (o : Fin 1024 → EReal) (wo : Fin 1024 → Fin 1024 → EReal) (x : Fin 1024 → EReal) (j : Fin 1024) : EReal :=
  x j + ∑ k, o k * wo k j

/-- What hidden lane `f` adds to output lane `j`: the squared positive part of its input times its row of `wd`. -/
def lane (v : Fin 1024 → EReal) (wu : Fin 1024 → Fin 4096 → EReal) (wd : Fin 4096 → Fin 1024 → EReal) (j : Fin 1024)
    (f : Fin 4096) : EReal :=
  max (∑ k, v k * wu k f) 0 * max (∑ k, v k * wu k f) 0 * wd f j

/-- The row after the feed-forward part is added. -/
def mlp (y g : Fin 1024 → EReal) (wu : Fin 1024 → Fin 4096 → EReal) (wd : Fin 4096 → Fin 1024 → EReal) (j : Fin 1024) : EReal :=
  y j + ∑ f, lane (nrm y g) wu wd j f

/-- The whole row function: projection and residual, feed-forward and residual, final norm. -/
def row (o : Fin 1024 → EReal) (wo : Fin 1024 → Fin 1024 → EReal) (x g : Fin 1024 → EReal) (wu : Fin 1024 → Fin 4096 → EReal)
    (wd : Fin 4096 → Fin 1024 → EReal) (gf : Fin 1024 → EReal) (j : Fin 1024) : EReal :=
  nrm (mlp (res o wo x) g wu wd) gf j

/-- A sum over the 4096 hidden lanes is the four sums over its pieces of 1024, one after the other. -/
theorem sum_pieces (a : EReal) (f : Fin 4096 → EReal) :
    a + ∑ l, f l = a + (∑ k : Fin 1024, f ⟨k.val, by omega⟩) + (∑ k : Fin 1024, f ⟨1024 + k.val, by omega⟩)
      + (∑ k : Fin 1024, f ⟨2048 + k.val, by omega⟩) + ∑ k : Fin 1024, f ⟨3072 + k.val, by omega⟩ := by
  have h := Fin.sum_mul_add_fin (S := 4) (n := 1024) (L := 4096) f
  rw [← h, Fin.sum_univ_four]
  simp only [← add_assoc]
  rfl

end Cert.Mlp

end
-- ==== Proof.Mlp.Block.lean ====
/- Hand-written: what the kernel computes at one index of its output block, as the row function of the input blocks. -/
module

public import proofs.«01_k».proof.Proof.Gen.Kernel2Ideal.Value
public import proofs.«01_k».proof.Proof.Mlp.Row
public import Idealize.ShloMosaic.Lib.Pointwise.Blocks

@[expose] public section

set_option maxRecDepth 16384
set_option maxHeartbeats 2000000

noncomputable section

namespace Cert.Mlp

open Idealize.ShloMosaic Cert.Kernel2Ideal Cert.Kernel2Ideal.Gen

variable (x0 : Vec Ideal S1x1024x512 .bf16) (x1 : Vec Ideal S1024x1024 .bf16) (x2 : Vec Ideal S1x512x1024 .f32)
  (x3 : Vec Ideal S1x1024 .f32) (x4 : Vec Ideal S1024x4096 .bf16) (x5 : Vec Ideal S4096x1024 .bf16) (x6 : Vec Ideal S1x1024 .f32)

/-- Row `r` of the block after the output projection. -/
def bres (r : Fin 512) : Fin 1024 → EReal :=
  res (fun k => x0 (ix3 0 k r)) (fun k j => x1 (ix2 k j)) (fun j => x2 (ix3 0 r j))

/-- Row `r` of the block after the first norm. -/
def bnrm (r : Fin 512) : Fin 1024 → EReal := nrm (bres x0 x1 x2 r) (fun j => x3 (ix2 0 j))

/-- Hidden lane `f`'s share of element `(r, l)`. -/
def blane (r : Fin 512) (l : Fin 1024) : Fin 4096 → EReal :=
  lane (bnrm x0 x1 x2 x3 r) (fun k f => x4 (ix2 k f)) (fun f j => x5 (ix2 f j)) l

/-- Row `r` of the block before the last norm. -/
def bmlp (r : Fin 512) : Fin 1024 → EReal :=
  mlp (bres x0 x1 x2 r) (fun j => x3 (ix2 0 j)) (fun k f => x4 (ix2 k f)) (fun f j => x5 (ix2 f j))

theorem pay2_at (r : Fin 512) (l : Fin 1024) :
    k0_pay2 (F := Ideal) (View.ld x0 r0_0) (View.ld x1 r0_1) (View.ld x2 r0_2) (ix2 r l) = bres x0 x1 x2 r l := by
  pointwise [k0_pay2]
  rfl

theorem pay3_at (r : Fin 512) (l : Fin 1024) :
    k0_pay3 (F := Ideal) (View.ld x0 r0_0) (View.ld x1 r0_1) (View.ld x2 r0_2) (View.ld x3 r0_3) (ix2 r l) = bnrm x0 x1 x2 x3 r l := by
  pointwise [k0_pay3, k0_pay2]
  rfl

theorem pay8_at (r : Fin 512) (l : Fin 1024) :
    k0_pay8 (F := Ideal) x0 x1 x2 x3 x4 x5 x6 (ix2 r l) = bnrm x0 x1 x2 x3 r l := by
  pointwise [k0_pay8, k0_pay3, k0_pay2]
  rfl

theorem pay9_at (r : Fin 512) (l : Fin 1024) :
    k0_pay9 (F := Ideal) x0 x1 x2 x3 x4 x5 x6 (ix2 r l)
      = bres x0 x1 x2 r l + ∑ k : Fin 1024, blane x0 x1 x2 x3 x4 x5 r l ⟨k.val, by omega⟩ := by
  pointwise [k0_pay9, k0_pay4]
  simp only [pay2_at, pay3_at]
  rfl

/-- The row before the last norm: the four pieces of the hidden lanes, added one after the other, are all of them. -/
theorem pay5_at (r : Fin 512) (l : Fin 1024) :
    k0_pay5 (F := Ideal) (k0_pay8 x0 x1 x2 x3 x4 x5 x6) (k0_pay9 x0 x1 x2 x3 x4 x5 x6) (View.ld x4 r0_6) (View.ld x5 r0_7)
        (View.ld x4 r0_8) (View.ld x5 r0_9) (View.ld x4 r0_10) (View.ld x5 r0_11) (ix2 r l)
      = bmlp x0 x1 x2 x3 x4 x5 r l := by
  pointwise [k0_pay5, r0_6, r0_7, r0_8, r0_9, r0_10, r0_11]
  simp only [pay8_at, pay9_at]
  exact (sum_pieces _ (blane x0 x1 x2 x3 x4 x5 r l)).symm

theorem pay7_at (r : Fin 512) (z : Fin 1) :
    k0_pay7 (F := Ideal) (k0_pay8 x0 x1 x2 x3 x4 x5 x6) (k0_pay9 x0 x1 x2 x3 x4 x5 x6) (View.ld x4 r0_6) (View.ld x5 r0_7)
        (View.ld x4 r0_8) (View.ld x5 r0_9) (View.ld x4 r0_10) (View.ld x5 r0_11) (ix2 r z)
      = ∑ l, bmlp x0 x1 x2 x3 x4 x5 r l * bmlp x0 x1 x2 x3 x4 x5 r l := by
  pointwise [k0_pay7]
  simp only [pay5_at]

/-- An element of the block that the kernel stores: the row function of the input blocks. -/
theorem block_at (z : Fin 1) (r : Fin 512) (l : Fin 1024) :
    k0_pay1 (F := Ideal)
      (k0_pay5 (k0_pay8 x0 x1 x2 x3 x4 x5 x6) (k0_pay9 x0 x1 x2 x3 x4 x5 x6) (View.ld x4 r0_6) (View.ld x5 r0_7)
        (View.ld x4 r0_8) (View.ld x5 r0_9) (View.ld x4 r0_10) (View.ld x5 r0_11))
      (k0_pay6 x6)
      (k0_pay7 (k0_pay8 x0 x1 x2 x3 x4 x5 x6) (k0_pay9 x0 x1 x2 x3 x4 x5 x6) (View.ld x4 r0_6) (View.ld x5 r0_7)
        (View.ld x4 r0_8) (View.ld x5 r0_9) (View.ld x4 r0_10) (View.ld x5 r0_11))
      (FloatOps.ofBits FTy.f32 1149239296#32) (ix3 z r l)
    = row (fun k => x0 (ix3 0 k r)) (fun k j => x1 (ix2 k j)) (fun j => x2 (ix3 0 r j)) (fun j => x3 (ix2 0 j))
        (fun k f => x4 (ix2 k f)) (fun f j => x5 (ix2 f j)) (fun j => x6 (ix2 0 j)) l := by
  pointwise [k0_pay1, k0_pay6]
  simp only [pay5_at, pay7_at]
  rfl

end Cert.Mlp

end
-- ==== Proof.Mlp.Array.lean ====
/- Hand-written: the kernel's result array as one function of its arguments, and the run that ends with it. -/
module

public import proofs.«01_k».proof.Proof.Mlp.Block
public import Idealize.ShloMosaic.Lib.Pipeline.ValueKit.Geometry
public import Idealize.ShloMosaic.Lib.StableHlo.ReadAt

@[expose] public section

set_option maxRecDepth 16384
set_option maxHeartbeats 2000000

noncomputable section

namespace Cert.Mlp

open Idealize.ShloMosaic Idealize.ShloMosaic.TcCoe Idealize.SL.Sem Cert.Kernel2Ideal Cert.Kernel2Ideal.Gen

/-- The result at sequence `b`, token `s`, lane `j`: the row function of that token's row of each argument. -/
def G (a0 : Vec Ideal S4x1024x8192 .bf16) (a1 : Vec Ideal S1024x1024 .f32) (a2 : Vec Ideal S4x8192x1024 .f32)
    (a3 : Vec Ideal S1024 .f32) (a4 : Vec Ideal S1024x4096 .f32) (a5 : Vec Ideal S4096x1024 .f32) (a6 : Vec Ideal S1024 .f32)
    (b : Fin 4) (s : Fin 8192) (j : Fin 1024) : EReal :=
  row (fun k => a0 (ix3 b k s)) (fun k j => a1 (ix2 k j)) (fun j => a2 (ix3 b s j)) (fun j => a3 (ix1 j))
    (fun k f => a4 (ix2 k f)) (fun f j => a5 (ix2 f j)) (fun j => a6 (ix1 j)) j

variable (m : (ℓ : Loc nD τ sig) → Buf (Elt Ideal) ℓ) (ρ : Dev nD → PrngReg)

/-- `G` of the arguments in memory. -/
def Gm (c : Dev nD) : Fin 4 → Fin 8192 → Fin 1024 → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The sequence and the tile of 512 tokens that grid point `t` works on, as the windows' block indices. -/
theorem at0 : ∀ t : Fin cfg0.N, win0_0.index t = ![t.val / 16, 0, t.val % 16] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val / 16, t.val % 16, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![t.val / 16, t.val % 16, 0] := (by decide +kernel : ∀ t : Fin grid0.N, _)

/-- The sequence of grid point `t`. -/
def seqOf (t : Fin cfg0.N) : Fin 4 := ⟨t.val / 16, by have := t.isLt; have : cfg0.N = 64 := N_0; omega⟩
/-- The token that row `r` of grid point `t` is. -/
def tokOf (t : Fin cfg0.N) (r : Fin 512) : Fin 8192 := ⟨512 * (t.val % 16) + r.val, by omega⟩

theorem in0 (c : Dev nD) (t : Fin cfg0.N) (k : Fin 1024) (r : Fin 512) :
    (iblk m c 0 t : Vec Ideal S1x1024x512 .bf16) (ix3 0 k r) = m ((c : Thread nD τ).loc main_arg0) (ix3 (seqOf t) k (tokOf t r)) := by
  blk_simp [iblk]
  rw [V_main_arg0]
  refine congrArg (m ((c : Thread nD τ).loc main_arg0)) ?_
  blk_ext [at0 t, seqOf, tokOf]

theorem in1 (c : Dev nD) (t : Fin cfg0.N) (k j : Fin 1024) :
    (iblk m c 1 t : Vec Ideal S1024x1024 .bf16) (ix2 k j) = m ((c : Thread nD τ).loc main_arg1) (ix2 k j) := by
  blk_simp [iblk]
  rw [show (win0_1.blk t).view.emb (ix2 k j) = ix2 k j by blk_ext [at1 t]]
  unfold V
  after_reads_at

theorem in2 (c : Dev nD) (t : Fin cfg0.N) (r : Fin 512) (j : Fin 1024) :
    (iblk m c 2 t : Vec Ideal S1x512x1024 .f32) (ix3 0 r j) = m ((c : Thread nD τ).loc main_arg2) (ix3 (seqOf t) (tokOf t r) j) := by
  blk_simp [iblk]
  rw [V_main_arg2]
  refine congrArg (m ((c : Thread nD τ).loc main_arg2)) ?_
  blk_ext [at2 t, seqOf, tokOf]

theorem in3 (c : Dev nD) (t : Fin cfg0.N) (j : Fin 1024) :
    (iblk m c 3 t : Vec Ideal S1x1024 .f32) (ix2 0 j) = m ((c : Thread nD τ).loc main_arg3) (ix1 j) := by
  blk_simp [iblk]
  rw [show (win0_3.blk t).view.emb (ix2 0 j) = ix2 0 j by blk_ext [at3 t]]
  unfold V
  after_reads_at

theorem in4 (c : Dev nD) (t : Fin cfg0.N) (k : Fin 1024) (f : Fin 4096) :
    (iblk m c 4 t : Vec Ideal S1024x4096 .bf16) (ix2 k f) = m ((c : Thread nD τ).loc main_arg4) (ix2 k f) := by
  blk_simp [iblk]
  rw [show (win0_4.blk t).view.emb (ix2 k f) = ix2 k f by blk_ext [at4 t]]
  unfold V
  after_reads_at

theorem in5 (c : Dev nD) (t : Fin cfg0.N) (f : Fin 4096) (j : Fin 1024) :
    (iblk m c 5 t : Vec Ideal S4096x1024 .bf16) (ix2 f j) = m ((c : Thread nD τ).loc main_arg5) (ix2 f j) := by
  blk_simp [iblk]
  rw [show (win0_5.blk t).view.emb (ix2 f j) = ix2 f j by blk_ext [at5 t]]
  unfold V
  after_reads_at

theorem in6 (c : Dev nD) (t : Fin cfg0.N) (j : Fin 1024) :
    (iblk m c 6 t : Vec Ideal S1x1024 .f32) (ix2 0 j) = m ((c : Thread nD τ).loc main_arg6) (ix1 j) := by
  blk_simp [iblk]
  rw [show (win0_6.blk t).view.emb (ix2 0 j) = ix2 0 j by blk_ext [at6 t]]
  unfold V
  after_reads_at

/-- The result array after the run: at every index the row function of the arguments. -/
theorem final (c : Dev nD) (R : Vec Ideal S4x8192x1024 .f32) (hR : ∀ b s j, R (ix3 b s j) = Gm m c b s j) :
    (dats m 0 c).arrAt 7 cfg0.N = R := by
  refine (dats m 0 c).arrAt_eq_of_covers 7 _ (by decide +kernel) fun t hf y => ?_
  blk_simp
  rw [after0_7]
  frame_out
  idx_vars y
  refine (block_at _ _ _ _ _ _ _ _ _ _).trans ?_
  simp only [in0, in1, in2, in3, in4, in5, in6]
  refine Eq.trans ?_ ((hR (seqOf t) (tokOf t ‹Fin 512›) ‹Fin 1024›).symm.trans (congrArg R ?_))
  · rfl
  · blk_ext [at7 t, seqOf, tokOf]

end Cert.Mlp

end
-- ==== Proof.Mlp.Ref.lean ====
/- Hand-written: the reference's result at an index, as the row function of its arguments. -/
module

public import proofs.«01_k».proof.Proof.Gen.Reference2Ideal.Run
public import proofs.«01_k».proof.Proof.Mlp.Row

@[expose] public section

set_option maxRecDepth 16384
set_option maxHeartbeats 2000000

noncomputable section

namespace Cert.Mlp

open Idealize.ShloMosaic Idealize.ShloMosaic.TcCoe Idealize.SL.Sem Cert.Reference2Ideal

variable (m : (ℓ : Loc nD τ sig) → Buf (Elt Ideal) ℓ)

/-- The reference's result at sequence `b`, token `s`, lane `j`. -/
theorem ref_at (c : Dev nD) (b : Fin 4) (s : Fin 8192) (j : Fin 1024) :
    (Value.res_out0 m c : Vec Ideal S4x8192x1024 .f32) (ix3 b s j)
      = row (fun k => m ((c : Thread nD τ).loc main_arg0) (ix3 b k s)) (fun k j => m ((c : Thread nD τ).loc main_arg1) (ix2 k j))
          (fun j => m ((c : Thread nD τ).loc main_arg2) (ix3 b s j)) (fun j => m ((c : Thread nD τ).loc main_arg3) (ix1 j))
          (fun k f => m ((c : Thread nD τ).loc main_arg4) (ix2 k f)) (fun f j => m ((c : Thread nD τ).loc main_arg5) (ix2 f j))
          (fun j => m ((c : Thread nD τ).loc main_arg6) (ix1 j)) j := by
  pointwise [Value.res_out0, Value.res_main_v35]
  rfl

end Cert.Mlp

end
-- ==== Proof.Mlp.Claims.lean ====
/- Hand-written: the claims of the attention layer's second half (output projection, feed-forward, norms). -/
module

public import proofs.«01_k».proof.Defs
public import proofs.«01_k».proof.Proof.Gen.Kernel2
public import proofs.«01_k».proof.Proof.Gen.Kernel2.Frame
public import proofs.«01_k».proof.Proof.Gen.Reference2Ideal
public import proofs.«01_k».proof.Proof.Mlp.Array
public import proofs.«01_k».proof.Proof.Mlp.Ref

@[expose] public section

set_option maxRecDepth 16384
set_option maxHeartbeats 2000000

noncomputable section

namespace Cert.Mlp

open Idealize.ShloMosaic Idealize.ShloMosaic.TcCoe Idealize.SL.Sem

theorem frame_k : Cert.quiescent_Kernel2 (hKernel2 := Cert.Kernel2.Gen.facts) :=
  fun m ρ _ => Cert.Kernel2.Gen.frame m ρ

theorem frame_i : Cert.quiescent_Kernel2Ideal (hKernel2Ideal := Cert.Kernel2Ideal.Gen.facts) :=
  fun m ρ _ => Cert.Kernel2Ideal.Gen.frame m ρ

/-- The reference declares no semaphore, so its run is quiescent. -/
theorem frame_r : Cert.quiescent_Reference2Ideal (hReference2Ideal := Cert.Reference2Ideal.Gen.facts) := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- Kernel and reference leave the same array. -/
theorem same_array (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (h6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) :
    (Cert.Kernel2Ideal.Gen.dats m 0 c).arrAt 7 Cert.Kernel2Ideal.cfg0.N = Cert.Reference2Ideal.Value.res_out0 m' c := by
  refine final m c _ fun b s j => (ref_at m' c b s j).trans ?_
  rw [h0, h1, h2, h3, h4, h5, h6]
  rfl

theorem algebraic : Cert.algebraic_Kernel2Ideal_Reference2Ideal (hKernel2Ideal := Cert.Kernel2Ideal.Gen.facts)
    (hReference2Ideal := Cert.Reference2Ideal.Gen.facts) := by
  intro m ρ m' ρ' _ hag
  refine ⟨fun c => (Cert.Kernel2Ideal.Gen.dats m 0 c).arrAt 7 Cert.Kernel2Ideal.cfg0.N, Cert.Kernel2Ideal.Value.run_blocks m ρ, ?_⟩
  refine (θ_run Cert.Reference2Ideal.defs _ _).mono (fun r h c => ⟨(h c).1.trans ?_, (h c).2⟩)
    (Cert.Reference2Ideal.Value.run (F := Ideal) m' ρ')
  obtain ⟨h0, h1, h2, h3, h4, h5, h6⟩ := hag c
  exact (same_array m m' c h0 h1 h2 h3 h4 h5 h6).symm

end Cert.Mlp

end
-- ==== Proof.Rg.Scalar.lean ====
/- Hand-written: the scalar identities of the recurrent mixer over extended reals. -/
module

public import Idealize.ShloMosaic.Lib.Pointwise

@[expose] public section

noncomputable section

namespace Cert.Rg

open Idealize.ShloMosaic

theorem exp_bot : Ideal.exp ⊥ = 0 := rfl
theorem exp_top : Ideal.exp ⊤ = ⊤ := rfl
theorem exp_coe (r : ℝ) : Ideal.exp (r : EReal) = (Real.exp r : EReal) := rfl
theorem tanh_bot : Ideal.tanh ⊥ = ((-1 : ℝ) : EReal) := rfl
theorem tanh_top : Ideal.tanh ⊤ = ((1 : ℝ) : EReal) := rfl
theorem tanh_coe (r : ℝ) : Ideal.tanh (r : EReal) = (Real.tanh r : EReal) := rfl
theorem log_coe (r : ℝ) : Ideal.log (r : EReal) = if r ≤ 0 then ⊥ else (Real.log r : EReal) := rfl
theorem one_top : (1 : EReal) + ⊤ = ⊤ := rfl
theorem one_coe : (1 : EReal) = ((1 : ℝ) : EReal) := rfl

theorem logistic_bot : Ideal.logistic ⊥ = ((0 : ℝ) : EReal) := by
  rw [Ideal.logistic, EReal.neg_bot, exp_top, one_top, Ideal.div, if_neg (by simp), EReal.inv_top, mul_zero]; rfl

theorem logistic_top : Ideal.logistic ⊤ = ((1 : ℝ) : EReal) := by
  rw [Ideal.logistic, EReal.neg_top, exp_bot, add_zero, Ideal.div, if_neg (by simp), one_mul, one_coe, ← EReal.coe_inv, inv_one]

theorem logistic_coe (r : ℝ) : Ideal.logistic (r : EReal) = (((1 + Real.exp (-r))⁻¹ : ℝ) : EReal) := by
  have hp : 0 < 1 + Real.exp (-r) := by positivity
  rw [Ideal.logistic, ← EReal.coe_neg, exp_coe, one_coe, ← EReal.coe_add, Ideal.div, if_neg (by exact_mod_cast hp.ne'),
    ← EReal.coe_inv, ← EReal.coe_mul, one_mul]

/-- A half plus half the hyperbolic tangent of half the argument is the logistic function. -/
theorem sigmoid_eq (x : EReal) :
    ((1 / 2 : ℝ) : EReal) * Ideal.tanh (((1 / 2 : ℝ) : EReal) * x) + ((1 / 2 : ℝ) : EReal) = Ideal.logistic x := by
  induction x with
  | bot =>
    rw [EReal.coe_mul_bot_of_pos (by norm_num), tanh_bot, logistic_bot, ← EReal.coe_mul, ← EReal.coe_add]
    norm_num
  | top =>
    rw [EReal.coe_mul_top_of_pos (by norm_num), tanh_top, logistic_top, ← EReal.coe_mul, ← EReal.coe_add]
    norm_num
  | coe r =>
    rw [← EReal.coe_mul, tanh_coe, logistic_coe, ← EReal.coe_mul, ← EReal.coe_add]
    congr 1
    rw [Real.tanh_eq_sinh_div_cosh, Real.sinh_eq, Real.cosh_eq]
    have h1 : Real.exp (-r) = Real.exp (-(1/2*r)) * Real.exp (-(1/2*r)) := by rw [← Real.exp_add]; congr 1; ring
    have h2 : Real.exp (1/2*r) * Real.exp (-(1/2*r)) = 1 := by rw [← Real.exp_add]; simp
    have p1 := Real.exp_pos (1/2*r)
    have p2 := Real.exp_pos (-(1/2*r))
    rw [h1]
    generalize Real.exp (1/2*r) = p at *
    generalize Real.exp (-(1/2*r)) = q at *
    have : 0 < 1 + q * q := by positivity
    field_simp
    nlinarith [h2]

/-- One minus the square of an exponential, written through the hyperbolic tangent. -/
theorem expm1_eq (L two : EReal) (h2 : two = ((2 : ℝ) : EReal)) (one : EReal) (h1 : one = 1) :
    -(Ideal.tanh L) * (Ideal.exp L * Ideal.exp L + one) = -(Ideal.exp (two * L) - 1) := by
  subst h2 h1
  induction L with
  | bot =>
    rw [EReal.coe_mul_bot_of_pos (by norm_num), tanh_bot, exp_bot, mul_zero, zero_add, mul_one, zero_sub, one_coe, ← EReal.coe_neg,
      ← EReal.coe_neg, ← EReal.coe_neg]
  | top =>
    rw [EReal.coe_mul_top_of_pos (by norm_num), tanh_top, exp_top, EReal.top_mul_top, show (⊤ : EReal) + 1 = ⊤ from rfl,
      show (⊤ : EReal) - 1 = ⊤ from rfl, EReal.neg_top, ← EReal.coe_neg, EReal.coe_mul_top_of_neg (by norm_num)]
  | coe r =>
    rw [← EReal.coe_mul, tanh_coe, exp_coe, exp_coe, one_coe, ← EReal.coe_mul, ← EReal.coe_add, ← EReal.coe_neg, ← EReal.coe_mul,
      ← EReal.coe_sub, ← EReal.coe_neg]
    congr 1
    rw [Real.tanh_eq_sinh_div_cosh, Real.sinh_eq, Real.cosh_eq]
    have h1 : Real.exp (2*r) = Real.exp r * Real.exp r := by rw [← Real.exp_add]; congr 1; ring
    have h2 : Real.exp r * Real.exp (-r) = 1 := by rw [← Real.exp_add]; simp
    have p1 := Real.exp_pos r
    have p2 := Real.exp_pos (-r)
    rw [h1]
    generalize Real.exp r = p at *
    generalize Real.exp (-r) = q at *
    field_simp
    nlinarith [h2]

/-- A real number that is not negative. -/
def Nn (a : EReal) : Prop := 0 ≤ a ∧ a ≠ ⊤

theorem Nn.mul {a b : EReal} (ha : Nn a) (hb : Nn b) : Nn (a * b) := by
  obtain ⟨a0, a1⟩ := ha
  obtain ⟨b0, b1⟩ := hb
  lift a to ℝ using ⟨a1, fun h => by simp [h] at a0⟩
  lift b to ℝ using ⟨b1, fun h => by simp [h] at b0⟩
  rw [← EReal.coe_mul]
  exact ⟨by exact_mod_cast mul_nonneg (by exact_mod_cast a0) (by exact_mod_cast b0), EReal.coe_ne_top _⟩

theorem Nn.exp {L : EReal} (h : L ≠ ⊤) : Nn (Ideal.exp L) := by
  induction L with
  | bot => rw [exp_bot]; exact ⟨le_rfl, EReal.zero_ne_top⟩
  | top => exact absurd rfl h
  | coe r => rw [exp_coe]; exact ⟨by exact_mod_cast (Real.exp_pos r).le, EReal.coe_ne_top _⟩

/-- Two affine steps joined: the product of the slopes and the joined offset act as one step after the other. -/
theorem step_join {a : EReal} (h : Nn a) (a' b b' x : EReal) : a * a' * x + (b + a * b') = a * (a' * x + b') + b := by
  rw [EReal.left_distrib_of_nonneg_of_ne_top h.1 h.2, mul_assoc, add_comm b, add_assoc]

/-- The logistic function lies between zero and one. -/
theorem logistic_real (x : EReal) : ∃ r : ℝ, 0 ≤ r ∧ Ideal.logistic x = (r : EReal) := by
  induction x with
  | bot => exact ⟨0, le_rfl, logistic_bot⟩
  | top => exact ⟨1, zero_le_one, logistic_top⟩
  | coe r => exact ⟨_, by positivity, logistic_coe r⟩

/-- A logarithm of one plus a number that is not negative is not negative. -/
theorem log1p_nonneg {x : EReal} (h : 0 ≤ x) : 0 ≤ Ideal.log1p x := by
  unfold Ideal.log1p
  induction x with
  | bot => simp at h
  | top => rw [one_top]; exact le_top
  | coe r =>
    have hr : 0 ≤ r := by exact_mod_cast h
    rw [one_coe, ← EReal.coe_add, log_coe, if_neg (by linarith)]
    exact_mod_cast Real.log_nonneg (by linarith)

theorem exp_nonneg (L : EReal) : 0 ≤ Ideal.exp L := by
  induction L with
  | bot => exact le_rfl
  | top => exact le_top
  | coe r => rw [exp_coe]; exact_mod_cast (Real.exp_pos r).le

/-- The logarithm of a step's slope is not `⊤`: a negative factor, a logistic value and a number that is not negative. -/
theorem log_slope_ne_top (c : ℝ) (hc : c ≤ 0) (x sp : EReal) (hs : 0 ≤ sp) : (c : EReal) * Ideal.logistic x * sp ≠ ⊤ := by
  obtain ⟨r, hr, e⟩ := logistic_real x
  rw [e, ← EReal.coe_mul]
  have hcr : c * r ≤ 0 := mul_nonpos_of_nonpos_of_nonneg hc hr
  induction sp with
  | bot => simp at hs
  | top =>
    rcases hcr.lt_or_eq with h | h
    · rw [EReal.coe_mul_top_of_neg h]; simp
    · rw [h]; simp
  | coe s => rw [← EReal.coe_mul]; exact EReal.coe_ne_top _

end Cert.Rg

end
-- ==== Proof.Rg.Row.lean ====
/- Hand-written: one sequence of the recurrent layer, as functions of its tokens over extended reals: norm and projection,
   gelu, the convolution over four tokens, the gates, the recurrence, the output projection and the feed-forward part. -/
module

public import proofs.«01_k».proof.Proof.Mlp.Row
public import proofs.«01_k».proof.Proof.Rg.Scalar

@[expose] public section

noncomputable section

namespace Cert.Rg

open Idealize.ShloMosaic

/-- The layer's weights. -/
structure Wt where
  g : Fin 1024 → EReal
  wi : Fin 1024 → Fin 2048 → EReal
  cw : Fin 4 → Fin 1024 → EReal
  cb : Fin 1024 → EReal
  wa : Fin 4 → Fin 256 → Fin 256 → EReal
  ba : Fin 1024 → EReal
  wx : Fin 4 → Fin 256 → Fin 256 → EReal
  bx : Fin 1024 → EReal
  lam : Fin 1024 → EReal
  wo : Fin 1024 → Fin 1024 → EReal
  gm : Fin 1024 → EReal
  wu : Fin 1024 → Fin 4096 → EReal
  wd : Fin 4096 → Fin 1024 → EReal

/-- A token's row after norm and projection, at one of the 2048 lanes. -/
def prj (x g : Fin 1024 → EReal) (wi : Fin 1024 → Fin 2048 → EReal) (f : Fin 2048) : EReal := ∑ k, Mlp.nrm x g k * wi k f

/-- Gelu by its tanh formula. -/
def gel (z : EReal) : EReal :=
  z * (Ideal.ofBits FTy.f32 1056964608#32 * (1
    + Ideal.tanh (Ideal.ofBits FTy.f32 1061962282#32 * (z + Ideal.ofBits FTy.f32 1027024659#32 * (z * (z * z))))))

/-- The convolution: the token and its three predecessors, each times its tap, and the bias. -/
def cv (cw : Fin 4 → Fin 1024 → EReal) (cb : Fin 1024 → EReal) (j : Fin 1024) (p0 p1 p2 p3 : EReal) : EReal :=
  cb j + cw 3 j * p0 + cw 2 j * p1 + cw 1 j * p2 + cw 0 j * p3

/-- One lane of a block-diagonal product: lane `j` sees the 256 lanes of its own block. -/
def gt (z : Fin 1024 → EReal) (w : Fin 4 → Fin 256 → Fin 256 → EReal) (j : Fin 1024) : EReal :=
  ∑ k : Fin 256, z ⟨256 * (j.val / 256) + k.val, by omega⟩ * w ⟨j.val / 256, by omega⟩ k ⟨j.val % 256, by omega⟩

/-- The logistic function by its tanh formula. -/
def sg (z : EReal) : EReal :=
  Ideal.ofBits FTy.f32 1056964608#32 * Ideal.tanh (Ideal.ofBits FTy.f32 1056964608#32 * z) + Ideal.ofBits FTy.f32 1056964608#32

/-- The logarithm of `1 + exp (-z)`. -/
def spl (z : EReal) : EReal :=
  max (0 - z) 0 + Ideal.log1p (Ideal.exp (0 - FloatOps.absf (F := Ideal) (φ := FTy.f32) (0 - z)))

/-- The decay's logarithm at a lane, from its gate. -/
def lga (W : Wt) (z : Fin 1024 → EReal) (j : Fin 1024) : EReal :=
  Ideal.ofBits FTy.f32 3238002688#32 * sg (gt z W.wa j + W.ba j) * spl (W.lam j)

/-- The decay. -/
def dec (W : Wt) (z : Fin 1024 → EReal) (j : Fin 1024) : EReal := Ideal.exp (lga W z j)

/-- What the recurrence takes in. -/
def inp (W : Wt) (z : Fin 1024 → EReal) (j : Fin 1024) : EReal :=
  Ideal.sqrt ((0 - Ideal.tanh (lga W z j)) * (dec W z j * dec W z j + 1))
    * (sg (gt z W.wx j + W.bx j) * z j)

/-- The state after the first `n` tokens of a recurrence `h ↦ a n * h + u n` from zero. -/
def scan (a u : ℕ → EReal) : ℕ → EReal
  | 0 => 0
  | n + 1 => a n * scan a u n + u n

variable (W : Wt) (X : ℕ → Fin 1024 → EReal)

/-- The second half of the projection, at token `n`. -/
def xp (n : ℕ) (j : Fin 1024) : EReal := prj (X n) W.g W.wi ⟨1024 + j.val, by omega⟩

/-- The same `k` tokens earlier, zero before the sequence. -/
def back (k n : ℕ) (j : Fin 1024) : EReal := if k ≤ n then xp W X (n - k) j else 0

/-- The convolution at token `n`. -/
def xb (n : ℕ) (j : Fin 1024) : EReal := cv W.cw W.cb j (xp W X n j) (back W X 1 n j) (back W X 2 n j) (back W X 3 n j)

/-- The recurrence's state after the first `n` tokens. -/
def hid (n : ℕ) (j : Fin 1024) : EReal := scan (fun s => dec W (xb W X s) j) (fun s => inp W (xb W X s) j) n

/-- The gated state of token `n`. -/
def gat (n : ℕ) (j : Fin 1024) : EReal := hid W X (n + 1) j * gel (prj (X n) W.g W.wi ⟨j.val, by omega⟩)

/-- Token `n` after the recurrent part. -/
def mix (n : ℕ) (j : Fin 1024) : EReal := X n j + ∑ k, gat W X n k * W.wo k j

/-- Token `n` after the layer. -/
def lay (n : ℕ) (j : Fin 1024) : EReal := Mlp.mlp (mix W X n) W.gm W.wu W.wd j

end Cert.Rg

end
-- ==== Proof.Rg.Group.lean ====
/- Hand-written: a group of eight steps of the recurrence, computed by the kernel by doubling, is the eight steps. -/
module

public import proofs.«01_k».proof.Proof.Rg.Scalar

@[expose] public section

noncomputable section

namespace Cert.Rg

open Idealize.ShloMosaic

/-- One doubling of the decays: row `s` joined with row `s - k`. -/
def lvA (k : ℕ) (a : ℕ → EReal) (s : ℕ) : EReal := a s * if k ≤ s then a (s - k) else 1
/-- One doubling of the inputs. -/
def lvB (k : ℕ) (a b : ℕ → EReal) (s : ℕ) : EReal := b s + a s * if k ≤ s then b (s - k) else 0

/-- The decays after the three doublings. -/
def ksA (a : ℕ → EReal) : ℕ → EReal := lvA 4 (lvA 2 (lvA 1 a))
/-- The inputs after the three doublings. -/
def ksB (a b : ℕ → EReal) : ℕ → EReal := lvB 4 (lvA 2 (lvA 1 a)) (lvB 2 (lvA 1 a) (lvB 1 a b))

/-- The first `n` steps of `x ↦ a s * x + b s`, from `x`. -/
def steps (a b : ℕ → EReal) (x : EReal) : ℕ → EReal
  | 0 => x
  | n + 1 => a n * steps a b x n + b n

theorem lvA_Nn {k : ℕ} {a : ℕ → EReal} (ha : ∀ s, Nn (a s)) (s : ℕ) : Nn (lvA k a s) := by
  unfold lvA
  split
  · exact (ha _).mul (ha _)
  · rw [mul_one]; exact ha _

theorem lv_lt {k : ℕ} (a b : ℕ → EReal) {s : ℕ} (h : ¬ k ≤ s) (x : EReal) :
    lvA k a s * x + lvB k a b s = a s * x + b s := by
  unfold lvA lvB
  rw [if_neg h, if_neg h, mul_one, mul_zero, add_zero]

theorem lv_ge {k : ℕ} {a : ℕ → EReal} (ha : ∀ s, Nn (a s)) (b : ℕ → EReal) {s : ℕ} (h : k ≤ s) (x : EReal) :
    lvA k a s * x + lvB k a b s = a s * (a (s - k) * x + b (s - k)) + b s := by
  unfold lvA lvB
  rw [if_pos h, if_pos h]
  exact step_join (ha s) _ _ _ _

theorem ks_eq {a : ℕ → EReal} (ha : ∀ s, Nn (a s)) (b : ℕ → EReal) (x : EReal) (s : ℕ) (hs : s < 8) :
    ksA a s * x + ksB a b s = steps a b x (s + 1) := by
  have h1 := lvA_Nn (k := 1) ha
  have h2 := lvA_Nn (k := 2) h1
  unfold ksA ksB
  interval_cases s <;>
    simp [lv_lt, lv_ge, ha, h1, h2, steps]

end Cert.Rg

end
-- ==== Proof.Rg.Groups.lean ====
/- Hand-written: the 32 groups of eight steps in a tile, each starting from the last row of the one before. -/
module

public import proofs.«01_k».proof.Proof.Rg.Row
public import proofs.«01_k».proof.Proof.Rg.Group
public import proofs.«01_k».proof.Proof.Gen.Kernel3Ideal.Value
public import Idealize.ShloMosaic.Lib.Pointwise.Blocks

@[expose] public section

set_option maxRecDepth 16384
set_option maxHeartbeats 2000000

noncomputable section

namespace Cert.Rg

open Idealize.ShloMosaic Cert.Kernel3Ideal Cert.Kernel3Ideal.Gen

variable (p q : FVec Ideal S32x8x1024 .f32) (H : Vec Ideal S1x1024 .f32)

/-- The row numbers within a group. -/
def rows : IVec S32x8x1024 32 := iota Kind.tc S32x8x1024 32 [1] iota_S32x8x1024_d1_w32
/-- The inputs after the doublings. -/
def Bs : FVec Ideal S32x8x1024 .f32 := k0_pay32 rows p q
/-- The decays after the doublings. -/
def As : FVec Ideal S32x8x1024 .f32 := k0_pay33 rows q

def G0 : FVec Ideal S8x1024 .f32 := k0_pay34 rows p q H

def G1 : FVec Ideal S8x1024 .f32 := k0_pay35 rows p q H

def E2 : FVec Ideal S8x1024 .f32 := k0_pay36 rows q

def F2 : FVec Ideal S8x1024 .f32 := k0_pay37 rows p q H

def G2 : FVec Ideal S8x1024 .f32 := k0_pay38 (Bs p q) (E2 q) (F2 p q H)

def G3 : FVec Ideal S8x1024 .f32 := k0_pay39 (Bs p q) (As q) (E2 q) (F2 p q H)

def G4 : FVec Ideal S8x1024 .f32 := k0_pay40 (Bs p q) (As q) (E2 q) (F2 p q H)

def G5 : FVec Ideal S8x1024 .f32 := k0_pay41 (Bs p q) (As q) (E2 q) (F2 p q H)

def G6 : FVec Ideal S8x1024 .f32 := k0_pay42 (Bs p q) (As q) (E2 q) (F2 p q H)

def G7 : FVec Ideal S8x1024 .f32 := k0_pay43 (Bs p q) (As q) (E2 q) (F2 p q H)

def G8 : FVec Ideal S8x1024 .f32 := k0_pay44 (Bs p q) (As q) (E2 q) (F2 p q H)

def G9 : FVec Ideal S8x1024 .f32 := k0_pay45 (Bs p q) (As q) (E2 q) (F2 p q H)

def G10 : FVec Ideal S8x1024 .f32 := k0_pay46 (Bs p q) (As q) (G9 p q H)

def G11 : FVec Ideal S8x1024 .f32 := k0_pay47 (Bs p q) (As q) (G9 p q H)

def G12 : FVec Ideal S8x1024 .f32 := k0_pay48 (Bs p q) (As q) (G9 p q H)

def G13 : FVec Ideal S8x1024 .f32 := k0_pay49 (Bs p q) (As q) (G9 p q H)

def G14 : FVec Ideal S8x1024 .f32 := k0_pay50 (Bs p q) (As q) (G9 p q H)

def G15 : FVec Ideal S8x1024 .f32 := k0_pay51 (Bs p q) (As q) (G9 p q H)

def G16 : FVec Ideal S8x1024 .f32 := k0_pay52 (Bs p q) (As q) (G9 p q H)

def E17 : FVec Ideal S8x1024 .f32 := k0_pay53 (As q)

def F17 : FVec Ideal S8x1024 .f32 := k0_pay54 (Bs p q) (As q) (G9 p q H)

def G17 : FVec Ideal S8x1024 .f32 := k0_pay55 (Bs p q) (E17 q) (F17 p q H)

def G18 : FVec Ideal S8x1024 .f32 := k0_pay56 (Bs p q) (As q) (E17 q) (F17 p q H)

def G19 : FVec Ideal S8x1024 .f32 := k0_pay57 (Bs p q) (As q) (E17 q) (F17 p q H)

def G20 : FVec Ideal S8x1024 .f32 := k0_pay58 (Bs p q) (As q) (E17 q) (F17 p q H)

def G21 : FVec Ideal S8x1024 .f32 := k0_pay59 (Bs p q) (As q) (E17 q) (F17 p q H)

def G22 : FVec Ideal S8x1024 .f32 := k0_pay60 (Bs p q) (As q) (E17 q) (F17 p q H)

def G23 : FVec Ideal S8x1024 .f32 := k0_pay61 (Bs p q) (As q) (E17 q) (F17 p q H)

def G24 : FVec Ideal S8x1024 .f32 := k0_pay62 (Bs p q) (As q) (E17 q) (F17 p q H)

def G25 : FVec Ideal S8x1024 .f32 := k0_pay63 (Bs p q) (As q) (G24 p q H)

def G26 : FVec Ideal S8x1024 .f32 := k0_pay64 (Bs p q) (As q) (G24 p q H)

def G27 : FVec Ideal S8x1024 .f32 := k0_pay65 (Bs p q) (As q) (G24 p q H)

def G28 : FVec Ideal S8x1024 .f32 := k0_pay66 (Bs p q) (As q) (G24 p q H)

def G29 : FVec Ideal S8x1024 .f32 := k0_pay67 (Bs p q) (As q) (G24 p q H)

def G30 : FVec Ideal S8x1024 .f32 := k0_pay68 (Bs p q) (As q) (G24 p q H)

def G31 : FVec Ideal S8x1024 .f32 := k0_pay69 (Bs p q) (As q) (G24 p q H)

/-- The states of the tile. -/
def Hs : FVec Ideal S256x1024 .f32 :=
  k0_pay70 (Bs p q) (As q) (G0 p q H) (G1 p q H) (G2 p q H) (G3 p q H) (G4 p q H) (G5 p q H) (G6 p q H) (G7 p q H) (G8 p q H) (G9 p q H) (G10 p q H) (G11 p q H) (G12 p q H) (G13 p q H) (G14 p q H) (G15 p q H) (G16 p q H) (G17 p q H) (G18 p q H) (G19 p q H) (G20 p q H) (G21 p q H) (G22 p q H) (G23 p q H) (G24 p q H)

theorem G0_at (s : Fin 8) (l : Fin 1024) :
    G0 p q H (ix2 s l) = As q (ix3 0 s l) * H (ix2 0 l) + Bs p q (ix3 0 s l) := by
  unfold G0
  pointwise [k0_pay34]
  rfl

theorem G1_at (s : Fin 8) (l : Fin 1024) :
    G1 p q H (ix2 s l) = As q (ix3 1 s l) * G0 p q H (ix2 7 l) + Bs p q (ix3 1 s l) := by
  unfold G1
  pointwise [k0_pay35]
  rfl

theorem G2_at (s : Fin 8) (l : Fin 1024) :
    G2 p q H (ix2 s l) = As q (ix3 2 s l) * G1 p q H (ix2 7 l) + Bs p q (ix3 2 s l) := by
  unfold G2 E2 F2
  pointwise [k0_pay38, k0_pay36, k0_pay37]
  rfl

theorem G3_at (s : Fin 8) (l : Fin 1024) :
    G3 p q H (ix2 s l) = As q (ix3 3 s l) * G2 p q H (ix2 7 l) + Bs p q (ix3 3 s l) := by
  unfold G3
  pointwise [k0_pay39]
  rfl

theorem G4_at (s : Fin 8) (l : Fin 1024) :
    G4 p q H (ix2 s l) = As q (ix3 4 s l) * G3 p q H (ix2 7 l) + Bs p q (ix3 4 s l) := by
  unfold G4
  pointwise [k0_pay40]
  rfl

theorem G5_at (s : Fin 8) (l : Fin 1024) :
    G5 p q H (ix2 s l) = As q (ix3 5 s l) * G4 p q H (ix2 7 l) + Bs p q (ix3 5 s l) := by
  unfold G5
  pointwise [k0_pay41]
  rfl

theorem G6_at (s : Fin 8) (l : Fin 1024) :
    G6 p q H (ix2 s l) = As q (ix3 6 s l) * G5 p q H (ix2 7 l) + Bs p q (ix3 6 s l) := by
  unfold G6
  pointwise [k0_pay42]
  rfl

theorem G7_at (s : Fin 8) (l : Fin 1024) :
    G7 p q H (ix2 s l) = As q (ix3 7 s l) * G6 p q H (ix2 7 l) + Bs p q (ix3 7 s l) := by
  unfold G7
  pointwise [k0_pay43]
  rfl

theorem G8_at (s : Fin 8) (l : Fin 1024) :
    G8 p q H (ix2 s l) = As q (ix3 8 s l) * G7 p q H (ix2 7 l) + Bs p q (ix3 8 s l) := by
  unfold G8
  pointwise [k0_pay44]
  rfl

theorem G9_at (s : Fin 8) (l : Fin 1024) :
    G9 p q H (ix2 s l) = As q (ix3 9 s l) * G8 p q H (ix2 7 l) + Bs p q (ix3 9 s l) := by
  unfold G9
  pointwise [k0_pay45]
  rfl

theorem G10_at (s : Fin 8) (l : Fin 1024) :
    G10 p q H (ix2 s l) = As q (ix3 10 s l) * G9 p q H (ix2 7 l) + Bs p q (ix3 10 s l) := by
  unfold G10
  pointwise [k0_pay46]

theorem G11_at (s : Fin 8) (l : Fin 1024) :
    G11 p q H (ix2 s l) = As q (ix3 11 s l) * G10 p q H (ix2 7 l) + Bs p q (ix3 11 s l) := by
  unfold G11
  pointwise [k0_pay47]
  rfl

theorem G12_at (s : Fin 8) (l : Fin 1024) :
    G12 p q H (ix2 s l) = As q (ix3 12 s l) * G11 p q H (ix2 7 l) + Bs p q (ix3 12 s l) := by
  unfold G12
  pointwise [k0_pay48]
  rfl

theorem G13_at (s : Fin 8) (l : Fin 1024) :
    G13 p q H (ix2 s l) = As q (ix3 13 s l) * G12 p q H (ix2 7 l) + Bs p q (ix3 13 s l) := by
  unfold G13
  pointwise [k0_pay49]
  rfl

theorem G14_at (s : Fin 8) (l : Fin 1024) :
    G14 p q H (ix2 s l) = As q (ix3 14 s l) * G13 p q H (ix2 7 l) + Bs p q (ix3 14 s l) := by
  unfold G14
  pointwise [k0_pay50]
  rfl

theorem G15_at (s : Fin 8) (l : Fin 1024) :
    G15 p q H (ix2 s l) = As q (ix3 15 s l) * G14 p q H (ix2 7 l) + Bs p q (ix3 15 s l) := by
  unfold G15
  pointwise [k0_pay51]
  rfl

theorem G16_at (s : Fin 8) (l : Fin 1024) :
    G16 p q H (ix2 s l) = As q (ix3 16 s l) * G15 p q H (ix2 7 l) + Bs p q (ix3 16 s l) := by
  unfold G16
  pointwise [k0_pay52]
  rfl

theorem G17_at (s : Fin 8) (l : Fin 1024) :
    G17 p q H (ix2 s l) = As q (ix3 17 s l) * G16 p q H (ix2 7 l) + Bs p q (ix3 17 s l) := by
  unfold G17 E17 F17
  pointwise [k0_pay55, k0_pay53, k0_pay54]
  rfl

theorem G18_at (s : Fin 8) (l : Fin 1024) :
    G18 p q H (ix2 s l) = As q (ix3 18 s l) * G17 p q H (ix2 7 l) + Bs p q (ix3 18 s l) := by
  unfold G18
  pointwise [k0_pay56]
  rfl

theorem G19_at (s : Fin 8) (l : Fin 1024) :
    G19 p q H (ix2 s l) = As q (ix3 19 s l) * G18 p q H (ix2 7 l) + Bs p q (ix3 19 s l) := by
  unfold G19
  pointwise [k0_pay57]
  rfl

theorem G20_at (s : Fin 8) (l : Fin 1024) :
    G20 p q H (ix2 s l) = As q (ix3 20 s l) * G19 p q H (ix2 7 l) + Bs p q (ix3 20 s l) := by
  unfold G20
  pointwise [k0_pay58]
  rfl

theorem G21_at (s : Fin 8) (l : Fin 1024) :
    G21 p q H (ix2 s l) = As q (ix3 21 s l) * G20 p q H (ix2 7 l) + Bs p q (ix3 21 s l) := by
  unfold G21
  pointwise [k0_pay59]
  rfl

theorem G22_at (s : Fin 8) (l : Fin 1024) :
    G22 p q H (ix2 s l) = As q (ix3 22 s l) * G21 p q H (ix2 7 l) + Bs p q (ix3 22 s l) := by
  unfold G22
  pointwise [k0_pay60]
  rfl

theorem G23_at (s : Fin 8) (l : Fin 1024) :
    G23 p q H (ix2 s l) = As q (ix3 23 s l) * G22 p q H (ix2 7 l) + Bs p q (ix3 23 s l) := by
  unfold G23
  pointwise [k0_pay61]
  rfl

theorem G24_at (s : Fin 8) (l : Fin 1024) :
    G24 p q H (ix2 s l) = As q (ix3 24 s l) * G23 p q H (ix2 7 l) + Bs p q (ix3 24 s l) := by
  unfold G24
  pointwise [k0_pay62]
  rfl

theorem G25_at (s : Fin 8) (l : Fin 1024) :
    G25 p q H (ix2 s l) = As q (ix3 25 s l) * G24 p q H (ix2 7 l) + Bs p q (ix3 25 s l) := by
  unfold G25
  pointwise [k0_pay63]

theorem G26_at (s : Fin 8) (l : Fin 1024) :
    G26 p q H (ix2 s l) = As q (ix3 26 s l) * G25 p q H (ix2 7 l) + Bs p q (ix3 26 s l) := by
  unfold G26
  pointwise [k0_pay64]
  rfl

theorem G27_at (s : Fin 8) (l : Fin 1024) :
    G27 p q H (ix2 s l) = As q (ix3 27 s l) * G26 p q H (ix2 7 l) + Bs p q (ix3 27 s l) := by
  unfold G27
  pointwise [k0_pay65]
  rfl

theorem G28_at (s : Fin 8) (l : Fin 1024) :
    G28 p q H (ix2 s l) = As q (ix3 28 s l) * G27 p q H (ix2 7 l) + Bs p q (ix3 28 s l) := by
  unfold G28
  pointwise [k0_pay66]
  rfl

theorem G29_at (s : Fin 8) (l : Fin 1024) :
    G29 p q H (ix2 s l) = As q (ix3 29 s l) * G28 p q H (ix2 7 l) + Bs p q (ix3 29 s l) := by
  unfold G29
  pointwise [k0_pay67]
  rfl

theorem G30_at (s : Fin 8) (l : Fin 1024) :
    G30 p q H (ix2 s l) = As q (ix3 30 s l) * G29 p q H (ix2 7 l) + Bs p q (ix3 30 s l) := by
  unfold G30
  pointwise [k0_pay68]
  rfl

theorem G31_at (s : Fin 8) (l : Fin 1024) :
    G31 p q H (ix2 s l) = As q (ix3 31 s l) * G30 p q H (ix2 7 l) + Bs p q (ix3 31 s l) := by
  unfold G31
  pointwise [k0_pay69]
  rfl

/-- One group from the state before it. -/
theorem grp {a u : ℕ → EReal} (ha : ∀ s, Nn (a s)) (n : ℕ) (s : Fin 8) {A B x : EReal}
    (hA : A = ksA (fun i => a (n + i)) s.val) (hB : B = ksB (fun i => a (n + i)) (fun i => u (n + i)) s.val)
    (hx : x = scan a u n) : A * x + B = scan a u (n + s.val + 1) := by
  rw [hA, hB, hx, ks_eq (fun i => ha (n + i)) _ _ s.val s.isLt]
  have key : ∀ k, steps (fun i => a (n + i)) (fun i => u (n + i)) (scan a u n) k = scan a u (n + k) := by
    intro k
    induction k with
    | zero => rfl
    | succ k ih => rw [steps, ih]; rfl
  exact key (s.val + 1)

section
variable {a u : ℕ → EReal} {n0 : ℕ} (l : Fin 1024) (ha : ∀ s, Nn (a s))
  (hA : ∀ (g : Fin 32) (s : Fin 8), As q (ix3 g s l) = ksA (fun i => a (n0 + 8 * g.val + i)) s.val)
  (hB : ∀ (g : Fin 32) (s : Fin 8), Bs p q (ix3 g s l) = ksB (fun i => a (n0 + 8 * g.val + i)) (fun i => u (n0 + 8 * g.val + i)) s.val)
  (hH : H (ix2 0 l) = scan a u n0)
include ha hA hB hH

theorem G0_eq (s : Fin 8) : G0 p q H (ix2 s l) = scan a u (n0 + 8 * 0 + s.val + 1) :=
  (G0_at p q H s l).trans (grp ha (n0 + 8 * 0) s (hA 0 s) (hB 0 s) hH)

theorem G1_eq (s : Fin 8) : G1 p q H (ix2 s l) = scan a u (n0 + 8 * 1 + s.val + 1) :=
  (G1_at p q H s l).trans (grp ha (n0 + 8 * 1) s (hA 1 s) (hB 1 s) (G0_eq p q H l ha hA hB hH 7))

theorem G2_eq (s : Fin 8) : G2 p q H (ix2 s l) = scan a u (n0 + 8 * 2 + s.val + 1) :=
  (G2_at p q H s l).trans (grp ha (n0 + 8 * 2) s (hA 2 s) (hB 2 s) (G1_eq p q H l ha hA hB hH 7))

theorem G3_eq (s : Fin 8) : G3 p q H (ix2 s l) = scan a u (n0 + 8 * 3 + s.val + 1) :=
  (G3_at p q H s l).trans (grp ha (n0 + 8 * 3) s (hA 3 s) (hB 3 s) (G2_eq p q H l ha hA hB hH 7))

theorem G4_eq (s : Fin 8) : G4 p q H (ix2 s l) = scan a u (n0 + 8 * 4 + s.val + 1) :=
  (G4_at p q H s l).trans (grp ha (n0 + 8 * 4) s (hA 4 s) (hB 4 s) (G3_eq p q H l ha hA hB hH 7))

theorem G5_eq (s : Fin 8) : G5 p q H (ix2 s l) = scan a u (n0 + 8 * 5 + s.val + 1) :=
  (G5_at p q H s l).trans (grp ha (n0 + 8 * 5) s (hA 5 s) (hB 5 s) (G4_eq p q H l ha hA hB hH 7))

theorem G6_eq (s : Fin 8) : G6 p q H (ix2 s l) = scan a u (n0 + 8 * 6 + s.val + 1) :=
  (G6_at p q H s l).trans (grp ha (n0 + 8 * 6) s (hA 6 s) (hB 6 s) (G5_eq p q H l ha hA hB hH 7))

theorem G7_eq (s : Fin 8) : G7 p q H (ix2 s l) = scan a u (n0 + 8 * 7 + s.val + 1) :=
  (G7_at p q H s l).trans (grp ha (n0 + 8 * 7) s (hA 7 s) (hB 7 s) (G6_eq p q H l ha hA hB hH 7))

theorem G8_eq (s : Fin 8) : G8 p q H (ix2 s l) = scan a u (n0 + 8 * 8 + s.val + 1) :=
  (G8_at p q H s l).trans (grp ha (n0 + 8 * 8) s (hA 8 s) (hB 8 s) (G7_eq p q H l ha hA hB hH 7))

theorem G9_eq (s : Fin 8) : G9 p q H (ix2 s l) = scan a u (n0 + 8 * 9 + s.val + 1) :=
  (G9_at p q H s l).trans (grp ha (n0 + 8 * 9) s (hA 9 s) (hB 9 s) (G8_eq p q H l ha hA hB hH 7))

theorem G10_eq (s : Fin 8) : G10 p q H (ix2 s l) = scan a u (n0 + 8 * 10 + s.val + 1) :=
  (G10_at p q H s l).trans (grp ha (n0 + 8 * 10) s (hA 10 s) (hB 10 s) (G9_eq p q H l ha hA hB hH 7))

theorem G11_eq (s : Fin 8) : G11 p q H (ix2 s l) = scan a u (n0 + 8 * 11 + s.val + 1) :=
  (G11_at p q H s l).trans (grp ha (n0 + 8 * 11) s (hA 11 s) (hB 11 s) (G10_eq p q H l ha hA hB hH 7))

theorem G12_eq (s : Fin 8) : G12 p q H (ix2 s l) = scan a u (n0 + 8 * 12 + s.val + 1) :=
  (G12_at p q H s l).trans (grp ha (n0 + 8 * 12) s (hA 12 s) (hB 12 s) (G11_eq p q H l ha hA hB hH 7))

theorem G13_eq (s : Fin 8) : G13 p q H (ix2 s l) = scan a u (n0 + 8 * 13 + s.val + 1) :=
  (G13_at p q H s l).trans (grp ha (n0 + 8 * 13) s (hA 13 s) (hB 13 s) (G12_eq p q H l ha hA hB hH 7))

theorem G14_eq (s : Fin 8) : G14 p q H (ix2 s l) = scan a u (n0 + 8 * 14 + s.val + 1) :=
  (G14_at p q H s l).trans (grp ha (n0 + 8 * 14) s (hA 14 s) (hB 14 s) (G13_eq p q H l ha hA hB hH 7))

theorem G15_eq (s : Fin 8) : G15 p q H (ix2 s l) = scan a u (n0 + 8 * 15 + s.val + 1) :=
  (G15_at p q H s l).trans (grp ha (n0 + 8 * 15) s (hA 15 s) (hB 15 s) (G14_eq p q H l ha hA hB hH 7))

theorem G16_eq (s : Fin 8) : G16 p q H (ix2 s l) = scan a u (n0 + 8 * 16 + s.val + 1) :=
  (G16_at p q H s l).trans (grp ha (n0 + 8 * 16) s (hA 16 s) (hB 16 s) (G15_eq p q H l ha hA hB hH 7))

theorem G17_eq (s : Fin 8) : G17 p q H (ix2 s l) = scan a u (n0 + 8 * 17 + s.val + 1) :=
  (G17_at p q H s l).trans (grp ha (n0 + 8 * 17) s (hA 17 s) (hB 17 s) (G16_eq p q H l ha hA hB hH 7))

theorem G18_eq (s : Fin 8) : G18 p q H (ix2 s l) = scan a u (n0 + 8 * 18 + s.val + 1) :=
  (G18_at p q H s l).trans (grp ha (n0 + 8 * 18) s (hA 18 s) (hB 18 s) (G17_eq p q H l ha hA hB hH 7))

theorem G19_eq (s : Fin 8) : G19 p q H (ix2 s l) = scan a u (n0 + 8 * 19 + s.val + 1) :=
  (G19_at p q H s l).trans (grp ha (n0 + 8 * 19) s (hA 19 s) (hB 19 s) (G18_eq p q H l ha hA hB hH 7))

theorem G20_eq (s : Fin 8) : G20 p q H (ix2 s l) = scan a u (n0 + 8 * 20 + s.val + 1) :=
  (G20_at p q H s l).trans (grp ha (n0 + 8 * 20) s (hA 20 s) (hB 20 s) (G19_eq p q H l ha hA hB hH 7))

theorem G21_eq (s : Fin 8) : G21 p q H (ix2 s l) = scan a u (n0 + 8 * 21 + s.val + 1) :=
  (G21_at p q H s l).trans (grp ha (n0 + 8 * 21) s (hA 21 s) (hB 21 s) (G20_eq p q H l ha hA hB hH 7))

theorem G22_eq (s : Fin 8) : G22 p q H (ix2 s l) = scan a u (n0 + 8 * 22 + s.val + 1) :=
  (G22_at p q H s l).trans (grp ha (n0 + 8 * 22) s (hA 22 s) (hB 22 s) (G21_eq p q H l ha hA hB hH 7))

theorem G23_eq (s : Fin 8) : G23 p q H (ix2 s l) = scan a u (n0 + 8 * 23 + s.val + 1) :=
  (G23_at p q H s l).trans (grp ha (n0 + 8 * 23) s (hA 23 s) (hB 23 s) (G22_eq p q H l ha hA hB hH 7))

theorem G24_eq (s : Fin 8) : G24 p q H (ix2 s l) = scan a u (n0 + 8 * 24 + s.val + 1) :=
  (G24_at p q H s l).trans (grp ha (n0 + 8 * 24) s (hA 24 s) (hB 24 s) (G23_eq p q H l ha hA hB hH 7))

theorem G25_eq (s : Fin 8) : G25 p q H (ix2 s l) = scan a u (n0 + 8 * 25 + s.val + 1) :=
  (G25_at p q H s l).trans (grp ha (n0 + 8 * 25) s (hA 25 s) (hB 25 s) (G24_eq p q H l ha hA hB hH 7))

theorem G26_eq (s : Fin 8) : G26 p q H (ix2 s l) = scan a u (n0 + 8 * 26 + s.val + 1) :=
  (G26_at p q H s l).trans (grp ha (n0 + 8 * 26) s (hA 26 s) (hB 26 s) (G25_eq p q H l ha hA hB hH 7))

theorem G27_eq (s : Fin 8) : G27 p q H (ix2 s l) = scan a u (n0 + 8 * 27 + s.val + 1) :=
  (G27_at p q H s l).trans (grp ha (n0 + 8 * 27) s (hA 27 s) (hB 27 s) (G26_eq p q H l ha hA hB hH 7))

theorem G28_eq (s : Fin 8) : G28 p q H (ix2 s l) = scan a u (n0 + 8 * 28 + s.val + 1) :=
  (G28_at p q H s l).trans (grp ha (n0 + 8 * 28) s (hA 28 s) (hB 28 s) (G27_eq p q H l ha hA hB hH 7))

theorem G29_eq (s : Fin 8) : G29 p q H (ix2 s l) = scan a u (n0 + 8 * 29 + s.val + 1) :=
  (G29_at p q H s l).trans (grp ha (n0 + 8 * 29) s (hA 29 s) (hB 29 s) (G28_eq p q H l ha hA hB hH 7))

theorem G30_eq (s : Fin 8) : G30 p q H (ix2 s l) = scan a u (n0 + 8 * 30 + s.val + 1) :=
  (G30_at p q H s l).trans (grp ha (n0 + 8 * 30) s (hA 30 s) (hB 30 s) (G29_eq p q H l ha hA hB hH 7))

theorem G31_eq (s : Fin 8) : G31 p q H (ix2 s l) = scan a u (n0 + 8 * 31 + s.val + 1) :=
  (G31_at p q H s l).trans (grp ha (n0 + 8 * 31) s (hA 31 s) (hB 31 s) (G30_eq p q H l ha hA hB hH 7))

/-- The state the tile leaves, in every row. -/
theorem out_eq (s : Fin 8) : k0_pay1 (F := Ideal) (k0_pay71 (Bs p q) (As q) (G24 p q H)) (ix2 s l) = scan a u (n0 + 256) := by
  pointwise [k0_pay1, k0_pay71]
  exact G31_eq p q H l ha hA hB hH 7

end
end Cert.Rg
end
-- ==== Proof.Rg.Cat.lean ====
/- Hand-written: the states of a tile, one group's rows after the other's. -/
module

public import proofs.«01_k».proof.Proof.Rg.Groups
public import Idealize.ShloMosaic.Lib.Pipeline.Value

@[expose] public section

set_option maxRecDepth 16384
set_option maxHeartbeats 400000

noncomputable section

namespace Cert.Rg

open Idealize.ShloMosaic Cert.Kernel3Ideal Cert.Kernel3Ideal.Gen

theorem cat_sum (xs : List (S8x1024.Idx → EReal)) (k : ℕ) (hk : k ≤ xs.length) :
    (((((xs.map fun x => (⟨S8x1024, x⟩ : (s : Shape) × (s.Idx → EReal))).take k).map (·.1)).map fun s =>
      if h : s.rank = S256x1024.rank then s.size ((0 : Fin S256x1024.rank).cast h.symm) else 0).sum) = 8 * k := by
  induction xs generalizing k with
  | nil =>
    have : k = 0 := by simpa using hk
    subst this
    rfl
  | cons x xs ih =>
    cases k with
    | zero => rfl
    | succ k =>
      have e := ih k (by simpa using hk)
      simp only [List.map_cons, List.take_succ_cons, List.sum_cons]
      rw [e]
      show 8 + 8 * k = _
      omega

theorem cat_map (xs : List (S8x1024.Idx → EReal))
    (h : Shape.Concatenates ((xs.map fun x => (⟨S8x1024, x⟩ : (s : Shape) × (s.Idx → EReal))).map (·.1)) S256x1024 0)
    (r : Fin 256) (l : Fin 1024) (hk : r.val / 8 < xs.length) :
    concatenate S256x1024 0 (xs.map fun x => (⟨S8x1024, x⟩ : (s : Shape) × (s.Idx → EReal))) h (ix2 r l)
      = xs[r.val / 8] (ix2 ⟨r.val % 8, by omega⟩ l) := by
  refine concatenate_apply_piece (t := S256x1024) 0 _ h _ (r.val / 8) (by simpa using hk) S8x1024 (xs[r.val / 8]) (by simp) rfl
    (8 * (r.val / 8)) (cat_sum xs _ hk.le) (ix2 ⟨r.val % 8, by omega⟩ l) ?_ ?_
  · intro b hb
    fin_cases b
    · exact absurd rfl hb
    · rfl
  · show 8 * (r.val / 8) + r.val % 8 = r.val
    omega

variable (p q : FVec Ideal S32x8x1024 .f32) (H : Vec Ideal S1x1024 .f32)

def Gl : List (S8x1024.Idx → EReal) :=
  [G0 p q H, G1 p q H, G2 p q H, G3 p q H, G4 p q H, G5 p q H, G6 p q H, G7 p q H, G8 p q H, G9 p q H, G10 p q H, G11 p q H, G12 p q H, G13 p q H, G14 p q H, G15 p q H, G16 p q H, G17 p q H, G18 p q H, G19 p q H, G20 p q H, G21 p q H, G22 p q H, G23 p q H, G24 p q H, G25 p q H, G26 p q H, G27 p q H, G28 p q H, G29 p q H, G30 p q H, G31 p q H]

theorem Hs_list (r : Fin 256) (l : Fin 1024) :
    Hs p q H (ix2 r l) = ((Gl p q H)[r.val / 8]'(by show r.val / 8 < 32; omega)) (ix2 ⟨r.val % 8, by omega⟩ l) :=
  cat_map (Gl p q H) concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S256x1024_d0 r l (by show r.val / 8 < 32; omega)

variable {a u : ℕ → EReal} {n0 : ℕ} (l : Fin 1024) (ha : ∀ s, Nn (a s))
  (hA : ∀ (g : Fin 32) (s : Fin 8), As q (ix3 g s l) = ksA (fun i => a (n0 + 8 * g.val + i)) s.val)
  (hB : ∀ (g : Fin 32) (s : Fin 8), Bs p q (ix3 g s l) = ksB (fun i => a (n0 + 8 * g.val + i)) (fun i => u (n0 + 8 * g.val + i)) s.val)
  (hH : H (ix2 0 l) = scan a u n0)
include ha hA hB hH

theorem Gl_eq (k : ℕ) (hk : k < 32) (s : Fin 8) :
    ((Gl p q H)[k]'(by show k < 32; exact hk)) (ix2 s l) = scan a u (n0 + 8 * k + s.val + 1) := by
  interval_cases k
  · exact G0_eq p q H l ha hA hB hH s
  · exact G1_eq p q H l ha hA hB hH s
  · exact G2_eq p q H l ha hA hB hH s
  · exact G3_eq p q H l ha hA hB hH s
  · exact G4_eq p q H l ha hA hB hH s
  · exact G5_eq p q H l ha hA hB hH s
  · exact G6_eq p q H l ha hA hB hH s
  · exact G7_eq p q H l ha hA hB hH s
  · exact G8_eq p q H l ha hA hB hH s
  · exact G9_eq p q H l ha hA hB hH s
  · exact G10_eq p q H l ha hA hB hH s
  · exact G11_eq p q H l ha hA hB hH s
  · exact G12_eq p q H l ha hA hB hH s
  · exact G13_eq p q H l ha hA hB hH s
  · exact G14_eq p q H l ha hA hB hH s
  · exact G15_eq p q H l ha hA hB hH s
  · exact G16_eq p q H l ha hA hB hH s
  · exact G17_eq p q H l ha hA hB hH s
  · exact G18_eq p q H l ha hA hB hH s
  · exact G19_eq p q H l ha hA hB hH s
  · exact G20_eq p q H l ha hA hB hH s
  · exact G21_eq p q H l ha hA hB hH s
  · exact G22_eq p q H l ha hA hB hH s
  · exact G23_eq p q H l ha hA hB hH s
  · exact G24_eq p q H l ha hA hB hH s
  · exact G25_eq p q H l ha hA hB hH s
  · exact G26_eq p q H l ha hA hB hH s
  · exact G27_eq p q H l ha hA hB hH s
  · exact G28_eq p q H l ha hA hB hH s
  · exact G29_eq p q H l ha hA hB hH s
  · exact G30_eq p q H l ha hA hB hH s
  · exact G31_eq p q H l ha hA hB hH s

theorem Hs_eq (r : Fin 256) : Hs p q H (ix2 r l) = scan a u (n0 + r.val + 1) := by
  rw [Hs_list, Gl_eq p q H l ha hA hB hH _ (by omega)]
  congr 1
  show n0 + 8 * (r.val / 8) + r.val % 8 + 1 = _
  omega

end Cert.Rg
end
-- ==== Proof.Rg.Tile.lean ====
/- Hand-written: what the kernel computes in one tile of 256 tokens, as the functions of the sequence. -/
module

public import proofs.«01_k».proof.Proof.Rg.Row
public import proofs.«01_k».proof.Proof.Rg.Cat
public import proofs.«01_k».proof.Proof.Gen.Kernel3Ideal.Value
public import Idealize.ShloMosaic.Lib.Pointwise.Blocks

@[expose] public section

set_option maxRecDepth 16384
set_option maxHeartbeats 2000000

noncomputable section

namespace Cert.Rg

open Idealize.ShloMosaic Cert.Kernel3Ideal Cert.Kernel3Ideal.Gen

variable (x0 : Vec Ideal S1x256x1024 .f32) (x1 : Vec Ideal S1x1024 .f32) (x2 : Vec Ideal S1024x2048 .bf16)
  (x3 : Vec Ideal S4x1024 .f32) (x4 : Vec Ideal S1x1024 .f32) (x5 : Vec Ideal S4x256x256 .bf16) (x6 : Vec Ideal S1x1024 .f32)
  (x7 : Vec Ideal S4x256x256 .bf16) (x8 x9 : Vec Ideal S1x1024 .f32) (x10 : Vec Ideal S1024x1024 .bf16)
  (x11 : Vec Ideal S1x1024 .f32) (x12 : Vec Ideal S1024x4096 .bf16) (x13 : Vec Ideal S4096x1024 .bf16)
  (T : Vec Ideal S8x1024 .f32) (H : Vec Ideal S1x1024 .f32)

/-- The weights as the blocks hold them. -/
def wts : Wt where
  g := fun j => x1 (ix2 0 j)
  wi := fun k f => x2 (ix2 k f)
  cw := fun k j => x3 (ix2 k j)
  cb := fun j => x4 (ix2 0 j)
  wa := fun n k j => x5 (ix3 n k j)
  ba := fun j => x6 (ix2 0 j)
  wx := fun n k j => x7 (ix3 n k j)
  bx := fun j => x8 (ix2 0 j)
  lam := fun j => x9 (ix2 0 j)
  wo := fun k j => x10 (ix2 k j)
  gm := fun j => x11 (ix2 0 j)
  wu := fun k f => x12 (ix2 k f)
  wd := fun f j => x13 (ix2 f j)

/-- The tile's convolution. -/
def V65 : FVec Ideal S256x1024 .f32 := k0_pay10 (k0_pay9 x0 x1 x2) T x3 x4
def V70 : FVec Ideal S256x1024 .bf16 := k0_pay12 (k0_pay9 x0 x1 x2) T x3 x4
/-- The block-diagonal products. -/
def V87 : FVec Ideal S256x1024 .f32 :=
  k0_pay16 (V70 x0 x1 x2 x3 x4 T)
    (k0_pay13 (k0_pay9 x0 x1 x2) T x3 x4 (View.ld x5 (Rect.unit (s := S4x256x256) ![0, 0, 0] ![1, 256, 256] inb_S4x256x256_S1x256x256_0_0_0)))
    (k0_pay14 (k0_pay9 x0 x1 x2) T x3 x4 (View.ld x5 (Rect.unit (s := S4x256x256) ![1, 0, 0] ![1, 256, 256] inb_S4x256x256_S1x256x256_1_0_0)))
    (k0_pay15 (k0_pay9 x0 x1 x2) T x3 x4)
    (View.ld x5 (Rect.unit (s := S4x256x256) ![2, 0, 0] ![1, 256, 256] inb_S4x256x256_S1x256x256_2_0_0))
    (View.ld x5 (Rect.unit (s := S4x256x256) ![3, 0, 0] ![1, 256, 256] inb_S4x256x256_S1x256x256_3_0_0))
def V104 : FVec Ideal S256x1024 .f32 :=
  k0_pay17 (V70 x0 x1 x2 x3 x4 T)
    (View.ld x7 (Rect.unit (s := S4x256x256) ![0, 0, 0] ![1, 256, 256] inb_S4x256x256_S1x256x256_0_0_0))
    (View.ld x7 (Rect.unit (s := S4x256x256) ![1, 0, 0] ![1, 256, 256] inb_S4x256x256_S1x256x256_1_0_0))
    (View.ld x7 (Rect.unit (s := S4x256x256) ![2, 0, 0] ![1, 256, 256] inb_S4x256x256_S1x256x256_2_0_0))
    (View.ld x7 (Rect.unit (s := S4x256x256) ![3, 0, 0] ![1, 256, 256] inb_S4x256x256_S1x256x256_3_0_0))
def V178 : FVec Ideal S256x1024 .f32 := k0_pay24 (V87 x0 x1 x2 x3 x4 x5 T) x6
def V187 : FVec Ideal S256x1024 .f32 := k0_pay25 (V104 x0 x1 x2 x3 x4 x7 T) x8

variable {W : Wt} {X : ℕ → Fin 1024 → EReal} {n0 : ℕ}

theorem half_eq : Ideal.ofBits FTy.f32 1056964608#32 = ((1 / 2 : ℝ) : EReal) := by
  simp [Ideal.ofBits, Ideal.ieee, -EReal.coe_mul]; norm_num

theorem neg8_eq : Ideal.ofBits FTy.f32 3238002688#32 = ((-8 : ℝ) : EReal) := by
  simp [Ideal.ofBits, Ideal.ieee, -EReal.coe_mul, -EReal.coe_neg]; norm_num

theorem sg_eq (x : EReal) : sg x = Ideal.logistic x := by
  unfold sg
  rw [half_eq]
  exact sigmoid_eq x

theorem spl_nonneg (x : EReal) : 0 ≤ spl x :=
  add_nonneg (le_max_right _ _) (log1p_nonneg (exp_nonneg _))

theorem dec_Nn (W : Wt) (z : Fin 1024 → EReal) (j : Fin 1024) : Nn (dec W z j) := by
  refine Nn.exp ?_
  unfold lga
  rw [neg8_eq, sg_eq]
  exact log_slope_ne_top (-8) (by norm_num) _ _ (spl_nonneg _)

theorem sel1 {α : Type} (s : Fin 8) (x y : α) :
    Scalar.select (IntOp.cmpi CmpIPredicate.sge (BitVec.ofNat 32 s.val) 1#32) x y = if 1 ≤ s.val then x else y := by
  fin_cases s <;> rfl
theorem sel2 {α : Type} (s : Fin 8) (x y : α) :
    Scalar.select (IntOp.cmpi CmpIPredicate.sge (BitVec.ofNat 32 s.val) 2#32) x y = if 2 ≤ s.val then x else y := by
  fin_cases s <;> rfl
theorem sel4 {α : Type} (s : Fin 8) (x y : α) :
    Scalar.select (IntOp.cmpi CmpIPredicate.sge (BitVec.ofNat 32 s.val) 4#32) x y = if 4 ≤ s.val then x else y := by
  fin_cases s <;> rfl

theorem sel2n {α : Type} (s : ℕ) (h : s < 8) (x y : α) :
    Scalar.select (IntOp.cmpi CmpIPredicate.sge (BitVec.ofNat 32 s) 2#32) x y = if 2 ≤ s then x else y := sel2 ⟨s, h⟩ x y

theorem gt_of (z : Fin 1024 → EReal) (w : Fin 4 → Fin 256 → Fin 256 → EReal) (l : Fin 1024) (b : Fin 4) (m : Fin 256)
    (o : Fin 256 → Fin 1024) (hb : l.val / 256 = b.val) (hm : l.val % 256 = m.val) (ho : ∀ x, (o x).val = 256 * b.val + x.val) :
    ∑ x : Fin 256, z (o x) * w b x m = gt z w l := by
  unfold gt
  refine Finset.sum_congr rfl fun x _ => ?_
  have e1 : o x = ⟨256 * (l.val / 256) + x.val, by omega⟩ := Fin.ext (by show _ = 256 * (l.val / 256) + x.val; rw [ho x, hb])
  have e2 : b = ⟨l.val / 256, by omega⟩ := Fin.ext hb.symm
  have e3 : m = ⟨l.val % 256, by omega⟩ := Fin.ext hm.symm
  rw [e1]
  congr 1
  rw [e3]
  congr 1

/-- The lane's block by cases. -/
theorem gt_cases (z : Fin 1024 → EReal) (w : Fin 4 → Fin 256 → Fin 256 → EReal) (l : Fin 1024) :
    (if h : l.val < 256 then ∑ x : Fin 256, z ⟨x.val, by omega⟩ * w 0 x ⟨l.val, h⟩
      else if h : l.val - 256 < 256 then ∑ x : Fin 256, z ⟨256 + x.val, by omega⟩ * w 1 x ⟨l.val - 256, h⟩
      else if h : l.val - 256 - 256 < 256 then ∑ x : Fin 256, z ⟨512 + x.val, by omega⟩ * w 2 x ⟨l.val - 256 - 256, h⟩
      else ∑ x : Fin 256, z ⟨768 + x.val, by omega⟩ * w 3 x ⟨l.val - 256 - 256 - 256, by omega⟩) = gt z w l := by
  split_ifs with h0 h1 h2
  · exact gt_of z w l 0 _ _ (by show l.val / 256 = 0; omega) (by show l.val % 256 = l.val; omega) fun x => by show x.val = 256 * 0 + x.val; omega
  · exact gt_of z w l 1 _ _ (by show l.val / 256 = 1; omega) (by show l.val % 256 = l.val - 256; omega) fun x => by show 256 + x.val = 256 * 1 + x.val; omega
  · exact gt_of z w l 2 _ _ (by show l.val / 256 = 2; omega) (by show l.val % 256 = l.val - 256 - 256; omega) fun x => by show 512 + x.val = 256 * 2 + x.val; omega
  · exact gt_of z w l 3 _ _ (by show l.val / 256 = 3; omega) (by show l.val % 256 = l.val - 256 - 256 - 256; omega) fun x => by show 768 + x.val = 256 * 3 + x.val; omega

theorem roll (Y : ℕ → EReal) (n0 r k : ℕ) (hr : r < 256) (hk1 : 1 ≤ k) (hk : k ≤ 3) :
    (if (8 + r + 264 - k) % 264 < 8 then
        if 8 ≤ n0 + (8 + r + 264 - k) % 264 then Y (n0 + (8 + r + 264 - k) % 264 - 8) else 0
      else Y (n0 + ((8 + r + 264 - k) % 264 - 8))) = if k ≤ n0 + r then Y (n0 + r - k) else 0 := by
  have e : (8 + r + 264 - k) % 264 = 8 + r - k := by omega
  rw [e]
  split_ifs <;> first | rfl | (exfalso; omega) | (congr 1; omega)

section
variable (hx : ∀ (r : Fin 256) (j : Fin 1024), x0 (ix3 0 r j) = X (n0 + r.val) j)
include hx

theorem v37_at (r : Fin 256) (l : Fin 1024) :
    k0_pay9 (F := Ideal) x0 x1 x2 (ix2 r l)
      = xp (wts x1 x2 x3 x4 x5 x6 x7 x8 x9 x10 x11 x12 x13) X (n0 + r.val) l := by
  pointwise [k0_pay9, k0_pay7, k0_pay6]
  simp only [hx]
  rfl

theorem v36_at (r : Fin 256) (l : Fin 1024) :
    k0_pay8 (F := Ideal) x0 x1 x2 (ix2 r l)
      = gel (prj (X (n0 + r.val)) (fun j => x1 (ix2 0 j)) (fun k f => x2 (ix2 k f)) ⟨l.val, by omega⟩) := by
  pointwise [k0_pay8, k0_pay7, k0_pay6]
  simp only [hx]
  rfl

variable (hT : ∀ (q : Fin 8) (j : Fin 1024), T (ix2 q j) = if 8 ≤ n0 + q.val then xp (wts x1 x2 x3 x4 x5 x6 x7 x8 x9 x10 x11 x12 x13) X (n0 + q.val - 8) j else 0)
include hT

theorem v65_at (r : Fin 256) (l : Fin 1024) :
    V65 x0 x1 x2 x3 x4 T (ix2 r l)
      = xb (wts x1 x2 x3 x4 x5 x6 x7 x8 x9 x10 x11 x12 x13) X (n0 + r.val) l := by
  unfold V65
  pointwise [k0_pay10]
  simp only [hT, v37_at x0 x1 x2 x3 x4 x5 x6 x7 x8 x9 x10 x11 x12 x13 hx]
  simp only [dite_eq_ite]
  have e1 := roll (fun n => xp (wts x1 x2 x3 x4 x5 x6 x7 x8 x9 x10 x11 x12 x13) X n l) n0 r.val 1 r.isLt (by omega) (by omega)
  have e2 := roll (fun n => xp (wts x1 x2 x3 x4 x5 x6 x7 x8 x9 x10 x11 x12 x13) X n l) n0 r.val 2 r.isLt (by omega) (by omega)
  have e3 := roll (fun n => xp (wts x1 x2 x3 x4 x5 x6 x7 x8 x9 x10 x11 x12 x13) X n l) n0 r.val 3 r.isLt (by omega) (by omega)
  beta_reduce at e1 e2 e3
  rw [e1, e2, e3]
  rfl

theorem v70_at (r : Fin 256) (l : Fin 1024) :
    V70 x0 x1 x2 x3 x4 T (ix2 r l) = xb (wts x1 x2 x3 x4 x5 x6 x7 x8 x9 x10 x11 x12 x13) X (n0 + r.val) l := by
  rw [← v65_at x0 x1 x2 x3 x4 x5 x6 x7 x8 x9 x10 x11 x12 x13 T hx hT]
  rfl

theorem v87_at (r : Fin 256) (l : Fin 1024) :
    V87 x0 x1 x2 x3 x4 x5 T (ix2 r l) = gt (xb (wts x1 x2 x3 x4 x5 x6 x7 x8 x9 x10 x11 x12 x13) X (n0 + r.val)) (wts x1 x2 x3 x4 x5 x6 x7 x8 x9 x10 x11 x12 x13).wa l := by
  have e := v70_at x0 x1 x2 x3 x4 x5 x6 x7 x8 x9 x10 x11 x12 x13 T hx hT r
  unfold V87
  unfold V70 at e
  pointwise [k0_pay16, k0_pay13, k0_pay14, k0_pay15, V70]
  simp only [e]
  exact gt_cases _ (fun n k j => x5 (ix3 n k j)) l

theorem v104_at (r : Fin 256) (l : Fin 1024) :
    V104 x0 x1 x2 x3 x4 x7 T (ix2 r l) = gt (xb (wts x1 x2 x3 x4 x5 x6 x7 x8 x9 x10 x11 x12 x13) X (n0 + r.val)) (wts x1 x2 x3 x4 x5 x6 x7 x8 x9 x10 x11 x12 x13).wx l := by
  have e := v70_at x0 x1 x2 x3 x4 x5 x6 x7 x8 x9 x10 x11 x12 x13 T hx hT r
  unfold V104
  pointwise [k0_pay17]
  simp only [e]
  exact gt_cases _ (fun n k j => x7 (ix3 n k j)) l

theorem v178_at (r : Fin 256) (l : Fin 1024) :
    (V178 x0 x1 x2 x3 x4 x5 x6 T) (ix2 r l) = sg (gt (xb (wts x1 x2 x3 x4 x5 x6 x7 x8 x9 x10 x11 x12 x13) X (n0 + r.val)) (wts x1 x2 x3 x4 x5 x6 x7 x8 x9 x10 x11 x12 x13).wa l + (wts x1 x2 x3 x4 x5 x6 x7 x8 x9 x10 x11 x12 x13).ba l) := by
  unfold V178
  pointwise [k0_pay24]
  simp only [v87_at x0 x1 x2 x3 x4 x5 x6 x7 x8 x9 x10 x11 x12 x13 T hx hT]
  rfl

theorem v187_at (r : Fin 256) (l : Fin 1024) :
    (V187 x0 x1 x2 x3 x4 x7 x8 T) (ix2 r l) + Ideal.ofBits FTy.f32 1056964608#32 = sg (gt (xb (wts x1 x2 x3 x4 x5 x6 x7 x8 x9 x10 x11 x12 x13) X (n0 + r.val)) (wts x1 x2 x3 x4 x5 x6 x7 x8 x9 x10 x11 x12 x13).wx l + (wts x1 x2 x3 x4 x5 x6 x7 x8 x9 x10 x11 x12 x13).bx l) := by
  unfold V187
  pointwise [k0_pay25]
  simp only [v104_at x0 x1 x2 x3 x4 x5 x6 x7 x8 x9 x10 x11 x12 x13 T hx hT]
  rfl

theorem p26_at (r : Fin 256) (l : Fin 1024) :
    k0_pay26 (V178 x0 x1 x2 x3 x4 x5 x6 T) x9 (ix2 r l) = lga (wts x1 x2 x3 x4 x5 x6 x7 x8 x9 x10 x11 x12 x13) (xb (wts x1 x2 x3 x4 x5 x6 x7 x8 x9 x10 x11 x12 x13) X (n0 + r.val)) l := by
  pointwise [k0_pay26]
  simp only [v178_at x0 x1 x2 x3 x4 x5 x6 x7 x8 x9 x10 x11 x12 x13 T hx hT]
  rfl

theorem p27_at (r : Fin 256) (l : Fin 1024) :
    k0_pay27 (V178 x0 x1 x2 x3 x4 x5 x6 T) x9 (ix2 r l) = dec (wts x1 x2 x3 x4 x5 x6 x7 x8 x9 x10 x11 x12 x13) (xb (wts x1 x2 x3 x4 x5 x6 x7 x8 x9 x10 x11 x12 x13) X (n0 + r.val)) l := by
  pointwise [k0_pay27]
  simp only [p26_at x0 x1 x2 x3 x4 x5 x6 x7 x8 x9 x10 x11 x12 x13 T hx hT]
  rfl

theorem p28_at (g : Fin 32) (s : Fin 8) (l : Fin 1024) :
    k0_pay28 (V178 x0 x1 x2 x3 x4 x5 x6 T) x9 (ix3 g s l) = dec (wts x1 x2 x3 x4 x5 x6 x7 x8 x9 x10 x11 x12 x13) (xb (wts x1 x2 x3 x4 x5 x6 x7 x8 x9 x10 x11 x12 x13) X (n0 + 8 * g.val + s.val)) l := by
  pointwise [k0_pay28]
  simp only [p27_at x0 x1 x2 x3 x4 x5 x6 x7 x8 x9 x10 x11 x12 x13 T hx hT, p26_at x0 x1 x2 x3 x4 x5 x6 x7 x8 x9 x10 x11 x12 x13 T hx hT]
  have e : ∀ i, n0 + (g.val * 8 + i) = n0 + 8 * g.val + i := fun i => by omega
  rw [e]

theorem p_at (g : Fin 32) (s : Fin 8) (l : Fin 1024) :
    (k0_pay29 (V65 x0 x1 x2 x3 x4 T) (V178 x0 x1 x2 x3 x4 x5 x6 T) (V187 x0 x1 x2 x3 x4 x7 x8 T) x9) (ix3 g s l) = lvB 1 (fun i => dec (wts x1 x2 x3 x4 x5 x6 x7 x8 x9 x10 x11 x12 x13) (xb (wts x1 x2 x3 x4 x5 x6 x7 x8 x9 x10 x11 x12 x13) X (n0 + 8 * g.val + i)) l) (fun i => inp (wts x1 x2 x3 x4 x5 x6 x7 x8 x9 x10 x11 x12 x13) (xb (wts x1 x2 x3 x4 x5 x6 x7 x8 x9 x10 x11 x12 x13) X (n0 + 8 * g.val + i)) l) s.val := by
  pointwise [k0_pay29]
  simp only [p28_at x0 x1 x2 x3 x4 x5 x6 x7 x8 x9 x10 x11 x12 x13 T hx hT, p27_at x0 x1 x2 x3 x4 x5 x6 x7 x8 x9 x10 x11 x12 x13 T hx hT, p26_at x0 x1 x2 x3 x4 x5 x6 x7 x8 x9 x10 x11 x12 x13 T hx hT, v65_at x0 x1 x2 x3 x4 x5 x6 x7 x8 x9 x10 x11 x12 x13 T hx hT, v187_at x0 x1 x2 x3 x4 x5 x6 x7 x8 x9 x10 x11 x12 x13 T hx hT, sel1]
  have e : ∀ i, n0 + (g.val * 8 + i) = n0 + 8 * g.val + i := fun i => by omega
  simp only [e]
  unfold lvB
  split_ifs with h
  · rw [show (s.val + 8 - 1) % 8 = s.val - 1 by omega]
    rfl
  · rw [mul_zero]
    rfl

theorem q_at (g : Fin 32) (s : Fin 8) (l : Fin 1024) :
    (k0_pay30 (V178 x0 x1 x2 x3 x4 x5 x6 T) x9) (ix3 g s l) = lvA 1 (fun i => dec (wts x1 x2 x3 x4 x5 x6 x7 x8 x9 x10 x11 x12 x13) (xb (wts x1 x2 x3 x4 x5 x6 x7 x8 x9 x10 x11 x12 x13) X (n0 + 8 * g.val + i)) l) s.val := by
  pointwise [k0_pay30]
  simp only [p28_at x0 x1 x2 x3 x4 x5 x6 x7 x8 x9 x10 x11 x12 x13 T hx hT, sel1]
  unfold lvA
  split_ifs with h
  · rw [show (s.val + 8 - 1) % 8 = s.val - 1 by omega]
  · rfl

theorem As_at (g : Fin 32) (s : Fin 8) (l : Fin 1024) :
    As (k0_pay30 (V178 x0 x1 x2 x3 x4 x5 x6 T) x9) (ix3 g s l) = ksA (fun i => dec (wts x1 x2 x3 x4 x5 x6 x7 x8 x9 x10 x11 x12 x13) (xb (wts x1 x2 x3 x4 x5 x6 x7 x8 x9 x10 x11 x12 x13) X (n0 + 8 * g.val + i)) l) s.val := by
  have e := fun s => q_at x0 x1 x2 x3 x4 x5 x6 x7 x8 x9 x10 x11 x12 x13 T hx hT g s l
  unfold As rows
  pointwise [k0_pay33, k0_pay31]
  simp only [e, sel2, sel4, sel2n _ (Nat.mod_lt _ (by decide : 0 < 8))]
  unfold ksA
  generalize lvA 1 (fun i => dec (wts x1 x2 x3 x4 x5 x6 x7 x8 x9 x10 x11 x12 x13) (xb (wts x1 x2 x3 x4 x5 x6 x7 x8 x9 x10 x11 x12 x13) X (n0 + 8 * g.val + i)) l) = α
  obtain ⟨s, hs⟩ := s
  interval_cases s <;> simp [lvA]

theorem Bs_at (g : Fin 32) (s : Fin 8) (l : Fin 1024) :
    Bs (k0_pay29 (V65 x0 x1 x2 x3 x4 T) (V178 x0 x1 x2 x3 x4 x5 x6 T) (V187 x0 x1 x2 x3 x4 x7 x8 T) x9) (k0_pay30 (V178 x0 x1 x2 x3 x4 x5 x6 T) x9) (ix3 g s l) = ksB (fun i => dec (wts x1 x2 x3 x4 x5 x6 x7 x8 x9 x10 x11 x12 x13) (xb (wts x1 x2 x3 x4 x5 x6 x7 x8 x9 x10 x11 x12 x13) X (n0 + 8 * g.val + i)) l) (fun i => inp (wts x1 x2 x3 x4 x5 x6 x7 x8 x9 x10 x11 x12 x13) (xb (wts x1 x2 x3 x4 x5 x6 x7 x8 x9 x10 x11 x12 x13) X (n0 + 8 * g.val + i)) l) s.val := by
  have e := fun s => q_at x0 x1 x2 x3 x4 x5 x6 x7 x8 x9 x10 x11 x12 x13 T hx hT g s l
  have e' := fun s => p_at x0 x1 x2 x3 x4 x5 x6 x7 x8 x9 x10 x11 x12 x13 T hx hT g s l
  unfold Bs rows
  pointwise [k0_pay32, k0_pay31]
  simp only [e, e', sel2, sel4, sel2n _ (Nat.mod_lt _ (by decide : 0 < 8))]
  unfold ksB
  generalize lvB 1 (fun i => dec (wts x1 x2 x3 x4 x5 x6 x7 x8 x9 x10 x11 x12 x13) (xb (wts x1 x2 x3 x4 x5 x6 x7 x8 x9 x10 x11 x12 x13) X (n0 + 8 * g.val + i)) l) _ = β
  generalize lvA 1 (fun i => dec (wts x1 x2 x3 x4 x5 x6 x7 x8 x9 x10 x11 x12 x13) (xb (wts x1 x2 x3 x4 x5 x6 x7 x8 x9 x10 x11 x12 x13) X (n0 + 8 * g.val + i)) l) = α
  obtain ⟨s, hs⟩ := s
  interval_cases s <;> simp [lvA, lvB]

variable (hH : ∀ l : Fin 1024, H (ix2 0 l) = hid (wts x1 x2 x3 x4 x5 x6 x7 x8 x9 x10 x11 x12 x13) X n0 l)
include hH

/-- The tile's states are the recurrence's. -/
theorem Hs_at (r : Fin 256) (l : Fin 1024) : Hs (k0_pay29 (V65 x0 x1 x2 x3 x4 T) (V178 x0 x1 x2 x3 x4 x5 x6 T) (V187 x0 x1 x2 x3 x4 x7 x8 T) x9) (k0_pay30 (V178 x0 x1 x2 x3 x4 x5 x6 T) x9) H (ix2 r l) = hid (wts x1 x2 x3 x4 x5 x6 x7 x8 x9 x10 x11 x12 x13) X (n0 + r.val + 1) l :=
  Hs_eq (k0_pay29 (V65 x0 x1 x2 x3 x4 T) (V178 x0 x1 x2 x3 x4 x5 x6 T) (V187 x0 x1 x2 x3 x4 x7 x8 T) x9) (k0_pay30 (V178 x0 x1 x2 x3 x4 x5 x6 T) x9) H (a := fun s => dec (wts x1 x2 x3 x4 x5 x6 x7 x8 x9 x10 x11 x12 x13) (xb (wts x1 x2 x3 x4 x5 x6 x7 x8 x9 x10 x11 x12 x13) X s) l) (u := fun s => inp (wts x1 x2 x3 x4 x5 x6 x7 x8 x9 x10 x11 x12 x13) (xb (wts x1 x2 x3 x4 x5 x6 x7 x8 x9 x10 x11 x12 x13) X s) l) (n0 := n0) l
    (fun s => dec_Nn _ _ _) (fun g s => As_at x0 x1 x2 x3 x4 x5 x6 x7 x8 x9 x10 x11 x12 x13 T hx hT g s l) (fun g s => Bs_at x0 x1 x2 x3 x4 x5 x6 x7 x8 x9 x10 x11 x12 x13 T hx hT g s l) (hH l) r

theorem hout_at (s : Fin 8) (l : Fin 1024) :
    k0_pay1 (F := Ideal) (k0_pay71 (Bs (k0_pay29 (V65 x0 x1 x2 x3 x4 T) (V178 x0 x1 x2 x3 x4 x5 x6 T) (V187 x0 x1 x2 x3 x4 x7 x8 T) x9) (k0_pay30 (V178 x0 x1 x2 x3 x4 x5 x6 T) x9)) (As (k0_pay30 (V178 x0 x1 x2 x3 x4 x5 x6 T) x9)) (G24 (k0_pay29 (V65 x0 x1 x2 x3 x4 T) (V178 x0 x1 x2 x3 x4 x5 x6 T) (V187 x0 x1 x2 x3 x4 x7 x8 T) x9) (k0_pay30 (V178 x0 x1 x2 x3 x4 x5 x6 T) x9) H)) (ix2 s l) = hid (wts x1 x2 x3 x4 x5 x6 x7 x8 x9 x10 x11 x12 x13) X (n0 + 256) l :=
  out_eq (k0_pay29 (V65 x0 x1 x2 x3 x4 T) (V178 x0 x1 x2 x3 x4 x5 x6 T) (V187 x0 x1 x2 x3 x4 x7 x8 T) x9) (k0_pay30 (V178 x0 x1 x2 x3 x4 x5 x6 T) x9) H (a := fun s => dec (wts x1 x2 x3 x4 x5 x6 x7 x8 x9 x10 x11 x12 x13) (xb (wts x1 x2 x3 x4 x5 x6 x7 x8 x9 x10 x11 x12 x13) X s) l) (u := fun s => inp (wts x1 x2 x3 x4 x5 x6 x7 x8 x9 x10 x11 x12 x13) (xb (wts x1 x2 x3 x4 x5 x6 x7 x8 x9 x10 x11 x12 x13) X s) l) (n0 := n0) l
    (fun s => dec_Nn _ _ _) (fun g s => As_at x0 x1 x2 x3 x4 x5 x6 x7 x8 x9 x10 x11 x12 x13 T hx hT g s l) (fun g s => Bs_at x0 x1 x2 x3 x4 x5 x6 x7 x8 x9 x10 x11 x12 x13 T hx hT g s l) (hH l) s

theorem mix_at (r : Fin 256) (l : Fin 1024) :
    k0_pay2 (F := Ideal) (k0_pay6 x0) (k0_pay8 x0 x1 x2) (Hs (k0_pay29 (V65 x0 x1 x2 x3 x4 T) (V178 x0 x1 x2 x3 x4 x5 x6 T) (V187 x0 x1 x2 x3 x4 x7 x8 T) x9) (k0_pay30 (V178 x0 x1 x2 x3 x4 x5 x6 T) x9) H) x10 (ix2 r l) = mix (wts x1 x2 x3 x4 x5 x6 x7 x8 x9 x10 x11 x12 x13) X (n0 + r.val) l := by
  have e := fun r l => Hs_at x0 x1 x2 x3 x4 x5 x6 x7 x8 x9 x10 x11 x12 x13 T H hx hT hH r l
  have e' := fun r l => v36_at x0 x1 x2 hx r l
  pointwise [k0_pay2, k0_pay6]
  simp only [e, e', hx]
  rfl

omit hH hT in
theorem tail_at (q : Fin 8) (l : Fin 1024) :
    k0_pay11 (F := Ideal) (k0_pay9 x0 x1 x2) (ix2 q l) = xp (wts x1 x2 x3 x4 x5 x6 x7 x8 x9 x10 x11 x12 x13) X (n0 + 248 + q.val) l := by
  pointwise [k0_pay11]
  simp only [v37_at x0 x1 x2 x3 x4 x5 x6 x7 x8 x9 x10 x11 x12 x13 hx]
  rw [show n0 + (248 + q.val) = n0 + 248 + q.val by omega]

end

/-- The stored block: the feed-forward part of the rows kept from the point before. -/
theorem out_at (M : Vec Ideal S256x1024 .f32) (z : Fin 1) (r : Fin 256) (l : Fin 1024) :
    k0_pay23 (F := Ideal) (k0_pay20 M (k0_pay18 x11) (k0_pay19 M))
      (k0_pay21 M (k0_pay18 x11) (k0_pay19 M)
        (View.ld x12 (Rect.unit (s := S1024x4096) ![0, 0] S1024x1024.size inb_S1024x4096_S1024x1024_0_0))
        (View.ld x13 (Rect.unit (s := S4096x1024) ![0, 0] S1024x1024.size inb_S4096x1024_S1024x1024_0_0))
        (View.ld x12 (Rect.unit (s := S1024x4096) ![0, 1024] S1024x1024.size inb_S1024x4096_S1024x1024_0_1024))
        (View.ld x13 (Rect.unit (s := S4096x1024) ![1024, 0] S1024x1024.size inb_S4096x1024_S1024x1024_1024_0)))
      (k0_pay22 M (k0_pay18 x11) (k0_pay19 M)
        (View.ld x12 (Rect.unit (s := S1024x4096) ![0, 2048] S1024x1024.size inb_S1024x4096_S1024x1024_0_2048)))
      (View.ld x13 (Rect.unit (s := S4096x1024) ![2048, 0] S1024x1024.size inb_S4096x1024_S1024x1024_2048_0))
      (View.ld x12 (Rect.unit (s := S1024x4096) ![0, 3072] S1024x1024.size inb_S1024x4096_S1024x1024_0_3072))
      (View.ld x13 (Rect.unit (s := S4096x1024) ![3072, 0] S1024x1024.size inb_S4096x1024_S1024x1024_3072_0)) (ix3 z r l)
    = Mlp.mlp (fun j => M (ix2 r j)) (fun j => x11 (ix2 0 j)) (fun k f => x12 (ix2 k f)) (fun f j => x13 (ix2 f j)) l := by
  pointwise [k0_pay23, k0_pay22, k0_pay21, k0_pay20, k0_pay19, k0_pay18]
  exact (Mlp.sum_pieces _ (Mlp.lane (Mlp.nrm (fun j => M (ix2 r j)) (fun j => x11 (ix2 0 j))) (fun k f => x12 (ix2 k f)) (fun f j => x13 (ix2 f j)) l)).symm

end Cert.Rg
end
-- ==== Proof.Rg.Array.lean ====
/- Hand-written: the recurrent layer's result array after the launch. -/
module

public import proofs.«01_k».proof.Proof.Rg.Tile
public import Idealize.ShloMosaic.Lib.Pipeline.ValueKit.Geometry
public import Idealize.ShloMosaic.Lib.Pipeline.ValueKit.Acc
public import Idealize.ShloMosaic.Lib.Pipeline.ReadBack
public import Idealize.ShloMosaic.Lib.StableHlo.ReadAt

@[expose] public section

set_option maxRecDepth 16384
set_option maxHeartbeats 2000000

noncomputable section

namespace Cert.Rg

open Idealize.ShloMosaic Idealize.ShloMosaic.TcCoe Idealize.SL.Sem Cert.Kernel3Ideal Cert.Kernel3Ideal.Gen

/-- The weights as the arguments hold them. -/
def wtA (a1 : Vec Ideal S1024 .f32) (a2 : Vec Ideal S1024x2048 .f32) (a3 : Vec Ideal S4x1024 .f32) (a4 : Vec Ideal S1024 .f32)
    (a5 : Vec Ideal S4x256x256 .f32) (a6 : Vec Ideal S1024 .f32) (a7 : Vec Ideal S4x256x256 .f32) (a8 a9 : Vec Ideal S1024 .f32)
    (a10 : Vec Ideal S1024x1024 .f32) (a11 : Vec Ideal S1024 .f32) (a12 : Vec Ideal S1024x4096 .f32) (a13 : Vec Ideal S4096x1024 .f32) : Wt where
  g := fun j => a1 (ix1 j)
  wi := fun k f => a2 (ix2 k f)
  cw := fun k j => a3 (ix2 k j)
  cb := fun j => a4 (ix1 j)
  wa := fun n k j => a5 (ix3 n k j)
  ba := fun j => a6 (ix1 j)
  wx := fun n k j => a7 (ix3 n k j)
  bx := fun j => a8 (ix1 j)
  lam := fun j => a9 (ix1 j)
  wo := fun k j => a10 (ix2 k j)
  gm := fun j => a11 (ix1 j)
  wu := fun k f => a12 (ix2 k f)
  wd := fun f j => a13 (ix2 f j)

/-- A sequence's rows, zero past its end. -/
def seqA (a0 : Vec Ideal S4x8192x1024 .f32) (b : Fin 4) (n : ℕ) (j : Fin 1024) : EReal :=
  if h : n < 8192 then a0 (ix3 b ⟨n, h⟩ j) else 0

variable (m : (ℓ : Loc nD τ sig) → Buf (Elt Ideal) ℓ) (ρ : Dev nD → PrngReg)

/-- The weights in memory. -/
def Wm (c : Dev nD) : Wt :=
  wtA (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))
    (m ((c : Thread nD τ).loc main_arg13))

/-- The rows in memory. -/
def Xm (c : Dev nD) (b : Fin 4) : ℕ → Fin 1024 → EReal := seqA (m ((c : Thread nD τ).loc main_arg0)) b

theorem at0 : ∀ t : Fin cfg0.N, win0_0.index t = ![t.val / 33, min (t.val % 33) 31, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0, 0] := (by decide +kernel : ∀ t : Fin grid0.N, _)
theorem at8 : ∀ t : Fin cfg0.N, win0_8.index t = ![0, 0] := (by decide +kernel : ∀ t : Fin grid0.N, _)
theorem at9 : ∀ t : Fin cfg0.N, win0_9.index t = ![0, 0] := (by decide +kernel : ∀ t : Fin grid0.N, _)
theorem at10 : ∀ t : Fin cfg0.N, win0_10.index t = ![0, 0] := (by decide +kernel : ∀ t : Fin grid0.N, _)
theorem at11 : ∀ t : Fin cfg0.N, win0_11.index t = ![0, 0] := (by decide +kernel : ∀ t : Fin grid0.N, _)
theorem at12 : ∀ t : Fin cfg0.N, win0_12.index t = ![0, 0] := (by decide +kernel : ∀ t : Fin grid0.N, _)
theorem at13 : ∀ t : Fin cfg0.N, win0_13.index t = ![0, 0] := (by decide +kernel : ∀ t : Fin grid0.N, _)
theorem at14 : ∀ t : Fin cfg0.N, win0_14.index t = ![t.val / 33, t.val % 33 - 1, 0] := (by decide +kernel : ∀ t : Fin grid0.N, _)

/-- The sequence of grid point `t`. -/
def seqOf (t : Fin cfg0.N) : Fin 4 := ⟨t.val / 33, by have := t.isLt; have : cfg0.N = 132 := N_0; omega⟩

theorem in0 (c : Dev nD) (t : Fin cfg0.N) (h : t.val % 33 < 32) (r : Fin 256) (j : Fin 1024) :
    (iblk m c 0 t : Vec Ideal S1x256x1024 .f32) (ix3 0 r j) = Xm m c (seqOf t) (256 * (t.val % 33) + r.val) j := by
  have hr : 256 * (t.val % 33) + r.val < 8192 := by omega
  unfold Xm seqA
  rw [dif_pos hr]
  blk_simp [iblk]
  rw [V_main_arg0]
  refine congrArg (m ((c : Thread nD τ).loc main_arg0)) ?_
  have e := at0 t
  rw [show min (t.val % 33) 31 = t.val % 33 by omega] at e
  blk_ext [e, seqOf]

theorem in1 (c : Dev nD) (t : Fin cfg0.N) (j : Fin 1024) :
    (iblk m c 1 t : Vec Ideal S1x1024 .f32) (ix2 0 j) = m ((c : Thread nD τ).loc main_arg1) (ix1 j) := by
  blk_simp [iblk]
  rw [show (win0_1.blk t).view.emb (ix2 0 j) = ix2 0 j by blk_ext [at1 t]]
  unfold V
  after_reads_at

theorem in2 (c : Dev nD) (t : Fin cfg0.N) (k : Fin 1024) (j : Fin 2048) :
    (iblk m c 2 t : Vec Ideal S1024x2048 .bf16) (ix2 k j) = m ((c : Thread nD τ).loc main_arg2) (ix2 k j) := by
  blk_simp [iblk]
  rw [show (win0_2.blk t).view.emb (ix2 k j) = ix2 k j by blk_ext [at2 t]]
  unfold V
  after_reads_at

theorem in3 (c : Dev nD) (t : Fin cfg0.N) (k : Fin 4) (j : Fin 1024) :
    (iblk m c 3 t : Vec Ideal S4x1024 .f32) (ix2 k j) = m ((c : Thread nD τ).loc main_arg3) (ix2 k j) := by
  blk_simp [iblk]
  rw [show (win0_3.blk t).view.emb (ix2 k j) = ix2 k j by blk_ext [at3 t]]
  rw [V_main_arg3]

theorem in4 (c : Dev nD) (t : Fin cfg0.N) (j : Fin 1024) :
    (iblk m c 4 t : Vec Ideal S1x1024 .f32) (ix2 0 j) = m ((c : Thread nD τ).loc main_arg4) (ix1 j) := by
  blk_simp [iblk]
  rw [show (win0_4.blk t).view.emb (ix2 0 j) = ix2 0 j by blk_ext [at4 t]]
  unfold V
  after_reads_at

theorem in5 (c : Dev nD) (t : Fin cfg0.N) (n : Fin 4) (k j : Fin 256) :
    (iblk m c 5 t : Vec Ideal S4x256x256 .bf16) (ix3 n k j) = m ((c : Thread nD τ).loc main_arg5) (ix3 n k j) := by
  blk_simp [iblk]
  rw [show (win0_5.blk t).view.emb (ix3 n k j) = ix3 n k j by blk_ext [at5 t]]
  unfold V
  after_reads_at

theorem in6 (c : Dev nD) (t : Fin cfg0.N) (j : Fin 1024) :
    (iblk m c 6 t : Vec Ideal S1x1024 .f32) (ix2 0 j) = m ((c : Thread nD τ).loc main_arg6) (ix1 j) := by
  blk_simp [iblk]
  rw [show (win0_6.blk t).view.emb (ix2 0 j) = ix2 0 j by blk_ext [at6 t]]
  unfold V
  after_reads_at

theorem in7 (c : Dev nD) (t : Fin cfg0.N) (n : Fin 4) (k j : Fin 256) :
    (iblk m c 7 t : Vec Ideal S4x256x256 .bf16) (ix3 n k j) = m ((c : Thread nD τ).loc main_arg7) (ix3 n k j) := by
  blk_simp [iblk]
  rw [show (win0_7.blk t).view.emb (ix3 n k j) = ix3 n k j by blk_ext [at7 t]]
  unfold V
  after_reads_at

theorem in8 (c : Dev nD) (t : Fin cfg0.N) (j : Fin 1024) :
    (iblk m c 8 t : Vec Ideal S1x1024 .f32) (ix2 0 j) = m ((c : Thread nD τ).loc main_arg8) (ix1 j) := by
  blk_simp [iblk]
  rw [show (win0_8.blk t).view.emb (ix2 0 j) = ix2 0 j by blk_ext [at8 t]]
  unfold V
  after_reads_at

theorem in9 (c : Dev nD) (t : Fin cfg0.N) (j : Fin 1024) :
    (iblk m c 9 t : Vec Ideal S1x1024 .f32) (ix2 0 j) = m ((c : Thread nD τ).loc main_arg9) (ix1 j) := by
  blk_simp [iblk]
  rw [show (win0_9.blk t).view.emb (ix2 0 j) = ix2 0 j by blk_ext [at9 t]]
  unfold V
  after_reads_at

theorem in10 (c : Dev nD) (t : Fin cfg0.N) (k : Fin 1024) (j : Fin 1024) :
    (iblk m c 10 t : Vec Ideal S1024x1024 .bf16) (ix2 k j) = m ((c : Thread nD τ).loc main_arg10) (ix2 k j) := by
  blk_simp [iblk]
  rw [show (win0_10.blk t).view.emb (ix2 k j) = ix2 k j by blk_ext [at10 t]]
  unfold V
  after_reads_at

theorem in11 (c : Dev nD) (t : Fin cfg0.N) (j : Fin 1024) :
    (iblk m c 11 t : Vec Ideal S1x1024 .f32) (ix2 0 j) = m ((c : Thread nD τ).loc main_arg11) (ix1 j) := by
  blk_simp [iblk]
  rw [show (win0_11.blk t).view.emb (ix2 0 j) = ix2 0 j by blk_ext [at11 t]]
  unfold V
  after_reads_at

theorem in12 (c : Dev nD) (t : Fin cfg0.N) (k : Fin 1024) (j : Fin 4096) :
    (iblk m c 12 t : Vec Ideal S1024x4096 .bf16) (ix2 k j) = m ((c : Thread nD τ).loc main_arg12) (ix2 k j) := by
  blk_simp [iblk]
  rw [show (win0_12.blk t).view.emb (ix2 k j) = ix2 k j by blk_ext [at12 t]]
  unfold V
  after_reads_at

theorem in13 (c : Dev nD) (t : Fin cfg0.N) (k : Fin 4096) (j : Fin 1024) :
    (iblk m c 13 t : Vec Ideal S4096x1024 .bf16) (ix2 k j) = m ((c : Thread nD τ).loc main_arg13) (ix2 k j) := by
  blk_simp [iblk]
  rw [show (win0_13.blk t).view.emb (ix2 k j) = ix2 k j by blk_ext [at13 t]]
  unfold V
  after_reads_at

/-- The blocks of the weights are the arguments. -/
theorem wts_eq (c : Dev nD) (t : Fin cfg0.N) :
    wts (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) = Wm m c := by
  unfold wts Wm wtA
  simp only [in1, in2, in3, in4, in5, in6, in7, in8, in9, in10, in11, in12, in13]

end Cert.Rg
end
-- ==== Proof.Rg.Points.lean ====
/- Hand-written: what the three kept arrays hold after each grid point, and the result array. -/
module

public import proofs.«01_k».proof.Proof.Rg.Array

@[expose] public section

set_option maxRecDepth 16384
set_option maxHeartbeats 2000000

noncomputable section

namespace Cert.Rg

open Idealize.ShloMosaic Idealize.ShloMosaic.TcCoe Idealize.SL.Sem Cert.Kernel3Ideal Cert.Kernel3Ideal.Gen

variable (m : (ℓ : Loc nD τ sig) → Buf (Elt Ideal) ℓ)

/-- The inputs of the recurrence's doublings at a point, from the kept tail. -/
def Pm (c : Dev nD) (t : Fin cfg0.N) (T : Vec Ideal S8x1024 .f32) : FVec Ideal S32x8x1024 .f32 :=
  k0_pay29 (V65 (iblk m c 0 t) (iblk m c 1 t) (iblk m c 2 t) (iblk m c 3 t) (iblk m c 4 t) T) (V178 (iblk m c 0 t) (iblk m c 1 t) (iblk m c 2 t) (iblk m c 3 t) (iblk m c 4 t) (iblk m c 5 t) (iblk m c 6 t) T) (V187 (iblk m c 0 t) (iblk m c 1 t) (iblk m c 2 t) (iblk m c 3 t) (iblk m c 4 t) (iblk m c 7 t) (iblk m c 8 t) T) (iblk m c 9 t)
/-- The decays. -/
def Qm (c : Dev nD) (t : Fin cfg0.N) (T : Vec Ideal S8x1024 .f32) : FVec Ideal S32x8x1024 .f32 :=
  k0_pay30 (V178 (iblk m c 0 t) (iblk m c 1 t) (iblk m c 2 t) (iblk m c 3 t) (iblk m c 4 t) (iblk m c 5 t) (iblk m c 6 t) T) (iblk m c 9 t)
/-- The state's row that the point starts from. -/
def row0 (h : Vec Ideal S8x1024 .f32) : Vec Ideal S1x1024 .f32 :=
  View.ld h (Rect.unit (s := S8x1024) ![0, 0] S1x1024.size inb_S8x1024_S1x1024_0_0)

/-- What the three kept arrays hold after a point, from what the first two held before. -/
def tailP (c : Dev nD) (t : Fin cfg0.N) : Vec Ideal S8x1024 .f32 := k0_pay11 (k0_pay9 (iblk m c 0 t) (iblk m c 1 t) (iblk m c 2 t))
def hP (c : Dev nD) (t : Fin cfg0.N) (T h : Vec Ideal S8x1024 .f32) : Vec Ideal S8x1024 .f32 :=
  k0_pay1 (k0_pay71 (Bs (Pm m c t T) (Qm m c t T)) (As (Qm m c t T)) (G24 (Pm m c t T) (Qm m c t T) (row0 h)))
def mixP (c : Dev nD) (t : Fin cfg0.N) (T h : Vec Ideal S8x1024 .f32) : Vec Ideal S256x1024 .f32 :=
  k0_pay2 (k0_pay6 (iblk m c 0 t)) (k0_pay8 (iblk m c 0 t) (iblk m c 1 t) (iblk m c 2 t)) (Hs (Pm m c t T) (Qm m c t T) (row0 h)) (iblk m c 10 t)

theorem A_tail (c : Dev nD) (t : Fin cfg0.N) (h : t.val % 33 = 0) : (outsAt0 m c t.val t.isLt).2.1 = tailP m c t := by
  rw [outsAt0_A m c t h]
  frame_out
  rfl

theorem B_tail (c : Dev nD) (t : Fin cfg0.N) (h : ¬ t.val % 33 = 0) : (outsAt0 m c t.val t.isLt).2.1 = tailP m c t := by
  rw [outsAt0_B m c t h]
  frame_out
  rfl

theorem cov_row (z : Vec Ideal S8x1024 .f32) :
    (View.whole cc0_scratch1).readCov (Val := Elt Ideal) [⟨Rect.unit (s := S8x1024) ![0, 0] ![8, 1024] inb_S8x1024_S8x1024_0_0, z⟩]
      (Rect.unit (s := S8x1024) ![0, 0] ![1, 1024] inb_S8x1024_S1x1024_0_0).toLoadRect = row0 z :=
  View.readCov_fill (Val := Elt Ideal) (View.whole cc0_scratch1) inb_S8x1024_S8x1024_0_0 z [] _
    (by intro a; fin_cases a <;> rfl)

theorem A_h (c : Dev nD) (t : Fin cfg0.N) (h : t.val % 33 = 0) :
    (outsAt0 m c t.val t.isLt).2.2.1 = hP m c t (k0_pay3 (F := Ideal)) (k0_pay4 (F := Ideal)) := by
  rw [outsAt0_A m c t h]
  frame_out
  rw [cov_row]
  rfl

theorem A_mix (c : Dev nD) (t : Fin cfg0.N) (h : t.val % 33 = 0) :
    (outsAt0 m c t.val t.isLt).2.2.2 = mixP m c t (k0_pay3 (F := Ideal)) (k0_pay4 (F := Ideal)) := by
  rw [outsAt0_A m c t h]
  frame_out
  rw [cov_row]
  rfl

theorem lt_pred (t : Fin cfg0.N) : t.val - 1 < cfg0.N := by have := t.isLt; omega

theorem B_h (c : Dev nD) (t : Fin cfg0.N) (h : ¬ t.val % 33 = 0) :
    (outsAt0 m c t.val t.isLt).2.2.1
      = hP m c t (outsAt0 m c (t.val - 1) (lt_pred t)).2.1 (outsAt0 m c (t.val - 1) (lt_pred t)).2.2.1 := by
  rw [outsAt0_B m c t h]
  frame_out
  simp only [read_unread_whole]
  rfl

theorem B_mix (c : Dev nD) (t : Fin cfg0.N) (h : ¬ t.val % 33 = 0) :
    (outsAt0 m c t.val t.isLt).2.2.2
      = mixP m c t (outsAt0 m c (t.val - 1) (lt_pred t)).2.1 (outsAt0 m c (t.val - 1) (lt_pred t)).2.2.1 := by
  rw [outsAt0_B m c t h]
  frame_out
  simp only [read_unread_whole]
  rfl

theorem B_out (c : Dev nD) (t : Fin cfg0.N) (h : ¬ t.val % 33 = 0) (z : Fin 1) (r : Fin 256) (l : Fin 1024) :
    ((outsAt0 m c t.val t.isLt).1 : Vec Ideal S1x256x1024 .f32) (ix3 z r l)
      = Mlp.mlp (fun j => (outsAt0 m c (t.val - 1) (lt_pred t)).2.2.2 (ix2 r j)) (Wm m c).gm (Wm m c).wu (Wm m c).wd l := by
  rw [outsAt0_B m c t h, ← wts_eq m c t]
  frame_out
  simp only [read_unread_whole]
  exact out_at (iblk m c 11 t) (iblk m c 12 t) (iblk m c 13 t) _ z r l

/-- What a point leaves, for a point that takes in the rows from `n0`. -/
theorem step_at (c : Dev nD) (t : Fin cfg0.N) (h : t.val % 33 < 32) (T h0 : Vec Ideal S8x1024 .f32)
    (hT : ∀ (q : Fin 8) (j : Fin 1024), T (ix2 q j)
      = if 8 ≤ 256 * (t.val % 33) + q.val then xp (Wm m c) (Xm m c (seqOf t)) (256 * (t.val % 33) + q.val - 8) j else 0)
    (hh : ∀ j, h0 (ix2 0 j) = hid (Wm m c) (Xm m c (seqOf t)) (256 * (t.val % 33)) j) :
    (∀ (q : Fin 8) (j : Fin 1024), tailP m c t (ix2 q j) = xp (Wm m c) (Xm m c (seqOf t)) (256 * (t.val % 33) + 248 + q.val) j)
    ∧ (∀ (q : Fin 8) (j : Fin 1024), hP m c t T h0 (ix2 q j) = hid (Wm m c) (Xm m c (seqOf t)) (256 * (t.val % 33) + 256) j)
    ∧ ∀ (r : Fin 256) (j : Fin 1024), mixP m c t T h0 (ix2 r j) = mix (Wm m c) (Xm m c (seqOf t)) (256 * (t.val % 33) + r.val) j := by
  rw [← wts_eq m c t] at hT hh ⊢
  have hx := in0 m c t h
  have hH : ∀ l : Fin 1024, row0 h0 (ix2 0 l) = hid (wts (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (Xm m c (seqOf t)) (256 * (t.val % 33)) l := by
    intro l
    rw [← hh l]
    unfold row0
    pointwise []
  exact ⟨tail_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) hx, hout_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) T (row0 h0) hx hT hH, mix_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) T (row0 h0) hx hT hH⟩

/-- What the kept arrays hold after a point of a sequence's 32 tiles. -/
theorem kept (c : Dev nD) (n : ℕ) (hn : n < cfg0.N) (h : n % 33 < 32) :
    (∀ (q : Fin 8) (j : Fin 1024), (outsAt0 m c n hn).2.1 (ix2 q j) = xp (Wm m c) (Xm m c (seqOf ⟨n, hn⟩)) (256 * (n % 33) + 248 + q.val) j)
    ∧ (∀ (q : Fin 8) (j : Fin 1024), (outsAt0 m c n hn).2.2.1 (ix2 q j) = hid (Wm m c) (Xm m c (seqOf ⟨n, hn⟩)) (256 * (n % 33) + 256) j)
    ∧ ∀ (r : Fin 256) (j : Fin 1024), (outsAt0 m c n hn).2.2.2 (ix2 r j) = mix (Wm m c) (Xm m c (seqOf ⟨n, hn⟩)) (256 * (n % 33) + r.val) j := by
  induction n with
  | zero =>
    have e0 : ((⟨0, hn⟩ : Fin cfg0.N)).val % 33 = 0 := rfl
    have e1 := A_tail m c ⟨0, hn⟩ e0
    have e2 := A_h m c ⟨0, hn⟩ e0
    have e3 := A_mix m c ⟨0, hn⟩ e0
    rw [e1, e2, e3]
    refine step_at m c ⟨0, hn⟩ h _ _ (fun q j => ?_) (fun j => ?_)
    · rw [if_neg (by show ¬ 8 ≤ 256 * (0 % 33) + q.val; omega)]
      pointwise [k0_pay3]
    · pointwise [k0_pay4]
      rfl
  | succ n ih =>
    by_cases e0 : (n + 1) % 33 = 0
    · have e1 := A_tail m c ⟨n + 1, hn⟩ e0
      have e2 := A_h m c ⟨n + 1, hn⟩ e0
      have e3 := A_mix m c ⟨n + 1, hn⟩ e0
      rw [e1, e2, e3]
      refine step_at m c ⟨n + 1, hn⟩ h _ _ (fun q j => ?_) (fun j => ?_)
      · rw [if_neg (by show ¬ 8 ≤ 256 * ((n + 1) % 33) + q.val; omega)]
        pointwise [k0_pay3]
      · show _ = hid _ _ (256 * ((n + 1) % 33)) j
        rw [e0]
        pointwise [k0_pay4]
        rfl
    · have e1 := B_tail m c ⟨n + 1, hn⟩ e0
      have e2 := B_h m c ⟨n + 1, hn⟩ e0
      have e3 := B_mix m c ⟨n + 1, hn⟩ e0
      rw [e1, e2, e3]
      have hs : seqOf ⟨n + 1, hn⟩ = seqOf ⟨n, by omega⟩ := Fin.ext (by show (n + 1) / 33 = n / 33; omega)
      have ih' := ih (by omega) (by omega)
      refine step_at m c ⟨n + 1, hn⟩ h _ _ (fun q j => ?_) (fun j => ?_)
      · rw [if_pos (by show 8 ≤ 256 * ((n + 1) % 33) + q.val; omega)]
        refine (ih'.1 q j).trans ?_
        rw [hs]
        congr 1
        show 256 * (n % 33) + 248 + q.val = 256 * ((n + 1) % 33) + q.val - 8
        omega
      · refine (ih'.2.1 0 j).trans ?_
        rw [hs]
        congr 1
        show 256 * (n % 33) + 256 = 256 * ((n + 1) % 33)
        omega

theorem flushes : ∀ t : Fin cfg0.N, win0_14.flush t = true → ¬ t.val % 33 = 0 := (by decide +kernel : ∀ t : Fin grid0.N, _)

/-- The result array after the run: at every index the layer's function of the arguments. -/
theorem final (c : Dev nD) (R : Vec Ideal S4x8192x1024 .f32)
    (hR : ∀ (b : Fin 4) (s : Fin 8192) (j : Fin 1024), R (ix3 b s j) = lay (Wm m c) (Xm m c b) s.val j) :
    (dats m 0 c).arrAt 14 cfg0.N = R := by
  refine (dats m 0 c).arrAt_eq_of_covers 14 _ (by decide +kernel) fun t hf y => ?_
  have h0 : ¬ t.val % 33 = 0 := flushes t hf
  have hN : t.val < 132 := lt_of_lt_of_eq t.isLt N_0
  blk_simp
  rw [after0_14]
  idx_vars y
  refine (B_out m c t h0 ‹Fin 1› ‹Fin 256› ‹Fin 1024›).trans ?_
  have hs : seqOf ⟨t.val - 1, lt_pred t⟩ = seqOf t := Fin.ext (by show (t.val - 1) / 33 = t.val / 33; omega)
  have e := fun j => (kept m c (t.val - 1) (lt_pred t) (by omega)).2.2 ‹Fin 256› j
  simp only [e, hs]
  refine Eq.trans ?_ ((hR (seqOf t) ⟨256 * (t.val % 33 - 1) + (‹Fin 256› : Fin 256).val, by omega⟩ ‹Fin 1024›).symm.trans (congrArg R ?_))
  · rw [show (t.val - 1) % 33 = t.val % 33 - 1 by omega]
    rfl
  · blk_ext [at14 t, seqOf]

end Cert.Rg
end
-- ==== Proof.Rg.Host.lean ====
/- Hand-written: what the reference's operations before and after its loop leave, read at an index. -/
module

public import proofs.«01_k».proof.Proof.Gen.Reference3Ideal.Run
public import proofs.«01_k».proof.Proof.Rg.Row
public import proofs.«01_k».proof.Proof.Rg.Tile
public import Idealize.ShloMosaic.Lib.StableHlo.ReadAt
public import Idealize.ShloMosaic.Lib.Pointwise.Blocks

@[expose] public section

set_option maxRecDepth 16384
set_option maxHeartbeats 2000000

noncomputable section

namespace Cert.Rg.Ref

open Cert.Rg Idealize.ShloMosaic Idealize.ShloMosaic.TcCoe Idealize.SL.Sem Idealize.ShloMosaic.StableHlo Cert.Reference3Ideal Cert.Reference3Ideal.Gen Cert.Reference3Ideal.Value

variable (V : Valuation τ sig (Elt Ideal))

theorem gel_ref (z : EReal) :
    z * (Ideal.ofBits FTy.f32 1056964608#32 * (1 + Ideal.tanh (Ideal.ofBits FTy.f32 1061962282#32
      * (z + Ideal.ofBits FTy.f32 1027024659#32 * (z * z * z))))) = gel z := by
  rw [mul_assoc z z z]
  rfl

theorem cv_ref (cw : Fin 4 → Fin 1024 → EReal) (cb : Fin 1024 → EReal) (j : Fin 1024) (p0 p1 p2 p3 : EReal) :
    cw 0 j * p3 + cw 1 j * p2 + cw 2 j * p1 + cw 3 j * p0 + cb j = cv cw cb j p0 p1 p2 p3 := by
  unfold cv
  ac_rfl

theorem v28_at (b : Fin 4) (s : Fin 8192) (j : Fin 1024) :
    (after hostOps0 V (Proc.devRef .tc main_v28) : Vec Ideal S4x8192x1024 .f32) (ix3 b s j)
      = prj (fun j => V (Proc.devRef .tc main_arg0) (ix3 b s j)) (fun j => V (Proc.devRef .tc main_arg1) (ix1 j)) (fun k f => V (Proc.devRef .tc main_arg2) (ix2 k f))
          ⟨1024 + j.val, by omega⟩ := by
  after_reads_at
  rfl

theorem v27_at (b : Fin 4) (s : Fin 8192) (j : Fin 1024) :
    (after hostOps0 V (Proc.devRef .tc main_v27) : Vec Ideal S4x8192x1024 .f32) (ix3 b s j)
      = gel (prj (fun j => V (Proc.devRef .tc main_arg0) (ix3 b s j)) (fun j => V (Proc.devRef .tc main_arg1) (ix1 j)) (fun k f => V (Proc.devRef .tc main_arg2) (ix2 k f))
          ⟨j.val, by omega⟩) := by
  after_reads_at
  exact gel_ref (prj (fun j => V (Proc.devRef .tc main_arg0) (ix3 b s j)) (fun j => V (Proc.devRef .tc main_arg1) (ix1 j)) (fun k f => V (Proc.devRef .tc main_arg2) (ix2 k f)) ⟨j.val, by omega⟩)

theorem gt_ref (z : Fin 1024 → EReal) (w : Fin 4 → Fin 256 → Fin 256 → EReal) (j : Fin 1024) :
    ∑ x : Fin 256, w ⟨j.val / 256, by omega⟩ x ⟨j.val % 256, by omega⟩ * z ⟨j.val / 256 * 256 + x.val, by omega⟩ = gt z w j := by
  unfold gt
  refine Finset.sum_congr rfl fun x _ => ?_
  rw [mul_comm]
  congr 2
  apply Fin.ext
  show j.val / 256 * 256 + x.val = 256 * (j.val / 256) + x.val
  omega

theorem two_eq : Ideal.ofBits FTy.f32 1073741824#32 = ((2 : ℝ) : EReal) := by
  simp [Ideal.ofBits, Ideal.ieee, -EReal.coe_mul]
  norm_num

theorem logistic_ref (x : EReal) : Ideal.div 1 (1 + Ideal.exp (-x)) = sg x := (sg_eq x).symm

theorem v29_at (hc : V (Proc.devRef .tc main_c) = fun _ => (0#32 : BitVec 32)) (b : Fin 4) (s : Fin 8195) (j : Fin 1024) :
    (after hostOps0_1 V (Proc.devRef .tc main_v29) : Vec Ideal S4x8195x1024 .f32) (ix3 b s j)
      = if h : 3 ≤ s.val then (V (Proc.devRef .tc main_v28) : Vec Ideal S4x8192x1024 .f32) (ix3 b ⟨s.val - 3, by omega⟩ j) else (0 : EReal) := by
  after_reads_at
  rw [hc]
  by_cases h : 3 ≤ s.val
  · rw [dif_pos h, dif_pos ⟨h, by omega⟩]
  · rw [dif_neg h, dif_neg (fun q => h q.1)]
    show (((0#32 : BitVec 32).toInt : ℝ) : EReal) = 0
    norm_num

section
variable {W : Wt} {b : Fin 4} {q : ℕ → Fin 1024 → EReal}
  (h3 : ∀ (k : Fin 4) (j : Fin 1024), (V (Proc.devRef .tc main_arg3) : Vec Ideal S4x1024 .f32) (ix2 k j) = W.cw k j)
  (h4 : ∀ j : Fin 1024, (V (Proc.devRef .tc main_arg4) : Vec Ideal S1024 .f32) (ix1 j) = W.cb j)
  (h5 : ∀ (n : Fin 4) (k j : Fin 256), (V (Proc.devRef .tc main_arg5) : Vec Ideal S4x256x256 .f32) (ix3 n k j) = W.wa n k j)
  (h6 : ∀ j : Fin 1024, (V (Proc.devRef .tc main_arg6) : Vec Ideal S1024 .f32) (ix1 j) = W.ba j)
  (h9 : ∀ j : Fin 1024, (V (Proc.devRef .tc main_arg9) : Vec Ideal S1024 .f32) (ix1 j) = W.lam j)
  (h29 : ∀ (s : Fin 8195) (j : Fin 1024), (V (Proc.devRef .tc main_v29) : Vec Ideal S4x8195x1024 .f32) (ix3 b s j) = q s.val j)

include h3 h4 h29 in
theorem v59_at (s : Fin 8192) (j : Fin 1024) :
    (after hostOps0_2 V (Proc.devRef .tc main_v59) : Vec Ideal S4x8192x1024 .f32) (ix3 b s j)
      = cv W.cw W.cb j (q (3 + s.val) j) (q (2 + s.val) j) (q (1 + s.val) j) (q s.val j) := by
  after_reads_at
  simp only [h3, h4, h29]
  exact cv_ref _ _ _ _ _ _ _

include h3 h4 h29 h5 h6 in
theorem v74_at (s : Fin 8192) (j : Fin 1024) :
    (after hostOps0_2 V (Proc.devRef .tc main_v74) : Vec Ideal S4x8192x1024 .f32) (ix3 b s j)
      = Ideal.ofBits FTy.f32 3238002688#32
        * sg (gt (fun j => cv W.cw W.cb j (q (3 + s.val) j) (q (2 + s.val) j) (q (1 + s.val) j) (q s.val j)) W.wa j + W.ba j) := by
  after_reads_at
  simp only [h3, h4, h29, h5, h6, cv_ref]
  rw [logistic_ref]
  refine congrArg (fun e => Ideal.ofBits FTy.f32 3238002688#32 * sg (e + W.ba j)) ?_
  exact gt_ref (fun j => cv W.cw W.cb j (q (3 + s.val) j) (q (2 + s.val) j) (q (1 + s.val) j) (q s.val j)) W.wa j

include h9 in
theorem v75_at (j : Fin 1024) :
    (after hostOps0_2 V (Proc.devRef .tc main_v75) : Vec Ideal S1024 .f32) (ix1 j) = - W.lam j := by
  after_reads_at
  simp only [h9]
end

section
variable {W : Wt} {b : Fin 4} {z g : ℕ → Fin 1024 → EReal} {sp : Fin 1024 → EReal}

theorem v76_at (h75 : ∀ j : Fin 1024, (V (Proc.devRef .tc main_v75) : Vec Ideal S1024 .f32) (ix1 j) = - W.lam j) (j : Fin 1024) :
    (after hostOps0_3 V (Proc.devRef .tc main_v76) : Vec Ideal S1024 .f32) (ix1 j) = spl (W.lam j) := by
  after_reads_at
  rw [if_neg (fun h => h rfl)]
  simp only [h75]
  unfold spl
  rw [zero_sub, zero_sub]

variable (h7 : ∀ (n : Fin 4) (k j : Fin 256), (V (Proc.devRef .tc main_arg7) : Vec Ideal S4x256x256 .f32) (ix3 n k j) = W.wx n k j)
  (h8 : ∀ j : Fin 1024, (V (Proc.devRef .tc main_arg8) : Vec Ideal S1024 .f32) (ix1 j) = W.bx j)
  (h59 : ∀ (s : Fin 8192) (j : Fin 1024), (V (Proc.devRef .tc main_v59) : Vec Ideal S4x8192x1024 .f32) (ix3 b s j) = z s.val j)
  (h74 : ∀ (s : Fin 8192) (j : Fin 1024), (V (Proc.devRef .tc main_v74) : Vec Ideal S4x8192x1024 .f32) (ix3 b s j) = g s.val j)
  (h76 : ∀ j : Fin 1024, (V (Proc.devRef .tc main_v76) : Vec Ideal S1024 .f32) (ix1 j) = sp j)

include h74 h76 in
theorem v105_0_at (s : Fin 8192) (j : Fin 1024) :
    (after hostOps0_4 V (Proc.devRef .tc main_v105_0) : Vec Ideal S8192x4x1024 .f32) (ix3 s b j) = Ideal.exp (g s.val j * sp j) := by
  after_reads_at
  dsimp only [id]
  pointwise []
  simp only [h74, h76]

include h7 h8 h59 h74 h76 in
theorem v105_1_at (s : Fin 8192) (j : Fin 1024) :
    (after hostOps0_4 V (Proc.devRef .tc main_v105_1) : Vec Ideal S8192x4x1024 .f32) (ix3 s b j)
      = Ideal.sqrt ((0 - Ideal.tanh (g s.val j * sp j)) * (Ideal.exp (g s.val j * sp j) * Ideal.exp (g s.val j * sp j) + 1))
        * (sg (gt (z s.val) W.wx j + W.bx j) * z s.val j) := by
  after_reads_at
  dsimp only [id]
  pointwise []
  simp only [h74, h76, h7, h8, h59]
  have e1 : (0 - Ideal.tanh (g s.val j * sp j)) * (Ideal.exp (g s.val j * sp j) * Ideal.exp (g s.val j * sp j) + 1)
      = -(Ideal.exp (Ideal.ofBits FTy.f32 1073741824#32 * (g s.val j * sp j)) - 1) := by
    generalize g s.val j * sp j = L
    rw [zero_sub]
    exact expm1_eq L (Ideal.ofBits FTy.f32 1073741824#32) two_eq 1 rfl
  have e2 := gt_ref (z s.val) W.wx j
  exact congrArg₂ (fun p q => Ideal.sqrt p * (q * z s.val j)) e1.symm
    ((logistic_ref _).trans (congrArg (fun e => sg (e + W.bx j)) e2))

theorem v105_3_at (j : Fin 1024) :
    (after hostOps0_4 V (Proc.devRef .tc main_v105_3) : Vec Ideal S4x1024 .f32) (ix2 b j) = (0 : EReal) := by
  after_reads_at
  dsimp only [id]
  pointwise []

theorem v105_2_at : after hostOps0_4 V (Proc.devRef .tc main_v105_2) = fun _ => (0#32 : BitVec 32) := by
  after_reads_simp
  rfl
end

end Cert.Rg.Ref
end
-- ==== Proof.Rg.Loop.lean ====
/- Hand-written: the reference's loop over the tokens, trip by trip, and the buffers no trip writes. -/
module

public import proofs.«01_k».proof.Proof.Gen.Reference3Ideal.Run
public import proofs.«01_k».proof.Proof.Rg.Row
public import Idealize.ShloMosaic.Lib.WordArith.Masks
public import Idealize.ShloMosaic.Lib.StableHlo.ReadAt
public import Idealize.ShloMosaic.Lib.Pointwise.Blocks

@[expose] public section

set_option maxRecDepth 16384
set_option maxHeartbeats 2000000

noncomputable section

namespace Cert.Rg.Ref

open Cert.Rg Idealize.ShloMosaic Idealize.ShloMosaic.TcCoe Idealize.SL.Sem Idealize.ShloMosaic.StableHlo Cert.Reference3Ideal Cert.Reference3Ideal.Gen Cert.Reference3Ideal.Value

theorem iv_toInt (k : ℕ) (hk : k < 8192) : (Scf.iv 0#32 1#32 k : BitVec 32).toInt = (k : Int) := by
  have h := WordArith.toNat_iv_zero_one k (by omega)
  rw [BitVec.toInt_eq_toNat_of_lt (by omega), h]

/-- A slice of one token. -/
theorem slice_at (x : Vec Ideal S8192x4x1024 .f32) (st : Fin 3 → Int) (k : ℕ) (hk : k < 8192) (h0 : st 0 = k) (h1 : st 1 = 0) (h2 : st 2 = 0)
    (h : S8192x4x1024.Slices (fun _ => 0) S1x4x1024) (b : Fin 4) (j : Fin 1024) :
    Host.dynamicSlice S1x4x1024 x st h (ix3 0 b j) = x (ix3 ⟨k, hk⟩ b j) := by
  have c0 : Host.clampedStart S8192x4x1024 S1x4x1024 h.1 st 0 = k := Host.clampedStart_of_le h.1 st 0 k h0 (by show k + 1 ≤ 8192; omega)
  have c1 : Host.clampedStart S8192x4x1024 S1x4x1024 h.1 st 1 = 0 := Host.clampedStart_of_le h.1 st 1 0 h1 (by show 0 + 4 ≤ 4; omega)
  have c2 : Host.clampedStart S8192x4x1024 S1x4x1024 h.1 st 2 = 0 := Host.clampedStart_of_le h.1 st 2 0 h2 (by show 0 + 1024 ≤ 1024; omega)
  rw [Host.dynamicSlice_apply]
  refine congrArg x ?_
  funext a
  apply Fin.ext
  match a with
  | 0 => show Host.clampedStart S8192x4x1024 S1x4x1024 h.1 st 0 + 0 = k; omega
  | 1 => show Host.clampedStart S8192x4x1024 S1x4x1024 h.1 st 1 + b.val = b.val; omega
  | 2 => show Host.clampedStart S8192x4x1024 S1x4x1024 h.1 st 2 + j.val = j.val; omega

/-- An update of one token. -/
theorem update_at (x : Vec Ideal S8192x4x1024 .f32) (u : Vec Ideal S1x4x1024 .f32) (st : Fin 3 → Int) (k : ℕ) (hk : k < 8192) (h0 : st 0 = k) (h1 : st 1 = 0) (h2 : st 2 = 0)
    (h : S8192x4x1024.Slices (fun _ => 0) S1x4x1024) (s : Fin 8192) (b : Fin 4) (j : Fin 1024) :
    Host.dynamicUpdateSlice x u st h (ix3 s b j) = if s.val = k then u (ix3 0 b j) else x (ix3 s b j) := by
  have c0 : Host.clampedStart S8192x4x1024 S1x4x1024 h.1 st 0 = k := Host.clampedStart_of_le h.1 st 0 k h0 (by show k + 1 ≤ 8192; omega)
  have c1 : Host.clampedStart S8192x4x1024 S1x4x1024 h.1 st 1 = 0 := Host.clampedStart_of_le h.1 st 1 0 h1 (by show 0 + 4 ≤ 4; omega)
  have c2 : Host.clampedStart S8192x4x1024 S1x4x1024 h.1 st 2 = 0 := Host.clampedStart_of_le h.1 st 2 0 h2 (by show 0 + 1024 ≤ 1024; omega)
  rw [Host.dynamicUpdateSlice_apply]
  by_cases hs : s.val = k
  · rw [if_pos hs, dif_pos (by
      intro a
      match a with
      | 0 => show Host.clampedStart S8192x4x1024 S1x4x1024 h.1 st 0 ≤ s.val ∧ s.val < Host.clampedStart S8192x4x1024 S1x4x1024 h.1 st 0 + 1; omega
      | 1 => show Host.clampedStart S8192x4x1024 S1x4x1024 h.1 st 1 ≤ b.val ∧ b.val < Host.clampedStart S8192x4x1024 S1x4x1024 h.1 st 1 + 4; omega
      | 2 => show Host.clampedStart S8192x4x1024 S1x4x1024 h.1 st 2 ≤ j.val ∧ j.val < Host.clampedStart S8192x4x1024 S1x4x1024 h.1 st 2 + 1024; omega)]
    refine congrArg u ?_
    funext a
    apply Fin.ext
    match a with
    | 0 => show s.val - Host.clampedStart S8192x4x1024 S1x4x1024 h.1 st 0 = 0; omega
    | 1 => show b.val - Host.clampedStart S8192x4x1024 S1x4x1024 h.1 st 1 = b.val; omega
    | 2 => show j.val - Host.clampedStart S8192x4x1024 S1x4x1024 h.1 st 2 = j.val; omega
  · rw [if_neg hs, dif_neg (by
      intro q
      have := q 0
      have : Host.clampedStart S8192x4x1024 S1x4x1024 h.1 st 0 ≤ s.val ∧ s.val < Host.clampedStart S8192x4x1024 S1x4x1024 h.1 st 0 + 1 := this
      omega)]

theorem drop_at (x : Vec Ideal S1x4x1024 .f32) (b : Fin 4) (j : Fin 1024) :
    shapeCast S4x1024 x shapeCasts_S1x4x1024_S4x1024 (ix2 b j) = x (ix3 0 b j) := by
  pointwise []

theorem lift_at (x : Vec Ideal S4x1024 .f32) (b : Fin 4) (j : Fin 1024) :
    broadcastInDim S1x4x1024 ![1, 2] bcast_S4x1024_S1x4x1024_1_2 x (ix3 0 b j) = x (ix2 b j) := by
  pointwise []

variable (V : Valuation τ sig (Elt Ideal))

theorem res_at (k : ℕ) (hk : k < 8192) (h2 : V (Proc.devRef .tc main_v105_2) = fun _ => (Scf.iv 0#32 1#32 k : BitVec 32)) (b : Fin 4) (j : Fin 1024) (a u g : EReal)
    (ha : (V (Proc.devRef .tc main_v105_0) : Vec Ideal S8192x4x1024 .f32) (ix3 ⟨k, hk⟩ b j) = a)
    (hu : (V (Proc.devRef .tc main_v105_1) : Vec Ideal S8192x4x1024 .f32) (ix3 ⟨k, hk⟩ b j) = u)
    (hg : (V (Proc.devRef .tc main_v105_3) : Vec Ideal S4x1024 .f32) (ix2 b j) = g) :
    (res_main_while0b_v132 V : Vec Ideal S4x1024 .f32) (ix2 b j) = a * g + u := by
  unfold res_main_while0b_v132
  rw [h2]
  show (shapeCast S4x1024 (Host.dynamicSlice S1x4x1024 _ _ _) shapeCasts_S1x4x1024_S4x1024 (ix2 b j) : EReal) * _ + shapeCast S4x1024 (Host.dynamicSlice S1x4x1024 _ _ _) shapeCasts_S1x4x1024_S4x1024 (ix2 b j) = _
  rw [drop_at, drop_at, slice_at _ _ k hk (iv_toInt k hk) rfl rfl, slice_at _ _ k hk (iv_toInt k hk) rfl rfl, ha, hu, hg]

theorem it0 (k : ℕ) : STEP^[k] V (Proc.devRef .tc main_v105_0) = V (Proc.devRef .tc main_v105_0) := by
  induction k with
  | zero => rfl
  | succ k ih => rw [Function.iterate_succ_apply', STEP_main_v105_0, ih]

theorem it1 (k : ℕ) : STEP^[k] V (Proc.devRef .tc main_v105_1) = V (Proc.devRef .tc main_v105_1) := by
  induction k with
  | zero => rfl
  | succ k ih => rw [Function.iterate_succ_apply', STEP_main_v105_1, ih]

theorem it2 (h : V (Proc.devRef .tc main_v105_2) = fun _ => (0#32 : BitVec 32)) (k : ℕ) :
    STEP^[k] V (Proc.devRef .tc main_v105_2) = fun _ => (Scf.iv 0#32 1#32 k : BitVec 32) := by
  induction k with
  | zero => rw [Scf.iv_zero]; exact h
  | succ k ih =>
    rw [Function.iterate_succ_apply', STEP_main_v105_2, Scf.iv_succ]
    unfold step_main_v105_2
    rw [ih]
    rfl

section
variable {b : Fin 4} {j : Fin 1024} {a u : ℕ → EReal}
  (h2 : V (Proc.devRef .tc main_v105_2) = fun _ => (0#32 : BitVec 32))
  (h0 : ∀ s : Fin 8192, (V (Proc.devRef .tc main_v105_0) : Vec Ideal S8192x4x1024 .f32) (ix3 s b j) = a s.val)
  (h1 : ∀ s : Fin 8192, (V (Proc.devRef .tc main_v105_1) : Vec Ideal S8192x4x1024 .f32) (ix3 s b j) = u s.val)
  (h3 : (V (Proc.devRef .tc main_v105_3) : Vec Ideal S4x1024 .f32) (ix2 b j) = (0 : EReal))

include h0 h1 h2 in
theorem res_step (k : ℕ) (hk : k < 8192) (g : EReal) (hg : (STEP^[k] V (Proc.devRef .tc main_v105_3) : Vec Ideal S4x1024 .f32) (ix2 b j) = g) :
    (res_main_while0b_v132 (STEP^[k] V) : Vec Ideal S4x1024 .f32) (ix2 b j) = a k * g + u k := by
  refine res_at (STEP^[k] V) k hk (it2 V h2 k) b j _ _ _ ?_ ?_ hg
  · rw [it0]; exact h0 ⟨k, hk⟩
  · rw [it1]; exact h1 ⟨k, hk⟩

include h0 h1 h2 h3 in
theorem it3 (k : ℕ) (hk : k ≤ 8192) : (STEP^[k] V (Proc.devRef .tc main_v105_3) : Vec Ideal S4x1024 .f32) (ix2 b j) = scan a u k := by
  induction k with
  | zero => exact h3
  | succ k ih =>
    rw [Function.iterate_succ_apply', STEP_main_v105_3]
    exact res_step V h2 h0 h1 k (by omega) _ (ih (by omega))

include h0 h1 h2 h3 in
theorem it4 (k : ℕ) (hk : k ≤ 8192) (s : Fin 8192) (hs : s.val < k) :
    (STEP^[k] V (Proc.devRef .tc main_v105_4) : Vec Ideal S8192x4x1024 .f32) (ix3 s b j) = scan a u (s.val + 1) := by
  induction k with
  | zero => omega
  | succ k ih =>
    rw [Function.iterate_succ_apply', STEP_main_v105_4]
    unfold step_main_v105_4
    rw [it2 V h2 k]
    dsimp only [id]
    rw [update_at _ _ _ k (by omega) (iv_toInt k (by omega)) rfl rfl]
    by_cases h : s.val = k
    · rw [if_pos h, lift_at, res_step V h2 h0 h1 k (by omega) _ (it3 V h2 h0 h1 h3 k (by omega)), h]
      rfl
    · rw [if_neg h]
      exact ih (by omega) (by omega)
end

variable (m : (ℓ : Loc nD τ sig) → Buf (Elt Ideal) ℓ) (c : Dev nD)

/-- What the loop leaves of the states, from what it finds at its entry. -/
theorem loop_at {b : Fin 4} {j : Fin 1024} {a u : ℕ → EReal}
    (h0 : ∀ s : Fin 8192, (entryContents preI m c (Proc.devRef .tc main_v105_0) : Vec Ideal S8192x4x1024 .f32) (ix3 s b j) = a s.val)
    (h1 : ∀ s : Fin 8192, (entryContents preI m c (Proc.devRef .tc main_v105_1) : Vec Ideal S8192x4x1024 .f32) (ix3 s b j) = u s.val)
    (h3 : (entryContents preI m c (Proc.devRef .tc main_v105_3) : Vec Ideal S4x1024 .f32) (ix2 b j) = (0 : EReal)) (s : Fin 8192) :
    (atK m 8192 c (Proc.devRef .tc main_v105_4) : Vec Ideal S8192x4x1024 .f32) (ix3 s b j) = scan a u (s.val + 1) := by
  rw [atK_agree m c 8192 main_v105_4 (by decide)]
  exact it4 _ (ctr_entry m c) h0 h1 h3 8192 le_rfl s s.isLt

/-- The buffers the trips write. -/
abbrev trip_W : List (Ref sig .tc) := condOps_W ++ while0Ops0_W ++ while0Ops0_1_W ++ while0Ops0_2_W ++ while0Ops0_3_W ++ while0Ops0_4_W

/-- A buffer no trip writes is after the loop what it was before it. -/
theorem keep_loop (r : Ref sig .tc) (h : r ∉ trip_W) (k : ℕ) : atK m k c (Proc.devRef .tc r) = entryContents preI m c (Proc.devRef .tc r) := by
  simp only [trip_W, List.mem_append, not_or] at h
  obtain ⟨⟨⟨⟨⟨hc, e0⟩, e1⟩, e2⟩, e3⟩, e4⟩ := h
  induction k with
  | zero => rfl
  | succ k ih =>
    rw [show atK m (k + 1) c = afterL bodyI (after condOps (atK m k c)) from rfl]
    simp only [afterL_cons, afterL_nil]
    rw [after_of_writes_sub while0Ops0_4 _ while0Ops0_4_writes e4, after_of_writes_sub while0Ops0_3 _ while0Ops0_3_writes e3,
      after_of_writes_sub while0Ops0_2 _ while0Ops0_2_writes e2, after_of_writes_sub while0Ops0_1 _ while0Ops0_1_writes e1,
      after_of_writes_sub while0Ops0 _ while0Ops0_writes e0, after_of_writes_sub condOps _ condOps_writes hc, ih]
    rfl

/-- A buffer the operations before the loop do not write is at the loop what it was at the launch. -/
theorem keep_pre (r : Ref sig .tc) (e0 : r ∉ hostOps0_W) (e1 : r ∉ hostOps0_1_W) (e2 : r ∉ hostOps0_2_W) (e3 : r ∉ hostOps0_3_W) (e4 : r ∉ hostOps0_4_W) :
    entryContents preI m c (Proc.devRef .tc r) = launchContents m c (Proc.devRef .tc r) := by
  simp only [entryContents, afterL_cons, afterL_nil]
  rw [after_of_writes_sub hostOps0_4 _ hostOps0_4_writes e4, after_of_writes_sub hostOps0_3 _ hostOps0_3_writes e3,
    after_of_writes_sub hostOps0_2 _ hostOps0_2_writes e2, after_of_writes_sub hostOps0_1 _ hostOps0_1_writes e1,
    after_of_writes_sub hostOps0 _ hostOps0_writes e0]

/-- What the operations after the loop write. -/
abbrev post_W : List (Ref sig .tc) := [main_v106, main_v107, main_v108, main_v109, main_v110, main_cst_15, main_v111, main_v112, main_cst_16, main_v113, main_v114, main_cst_17, main_v115, main_v116, main_v117, main_v118, main_v119, main_v120, main_v121, main_v122, main_v123, main_cst_18, main_v124, main_v125, main_v126, main_v127, main_v128]
theorem post_writes : (hostOps0_5 : List (HloOp τ sig (Elt Ideal))).Forall fun op => op.writes ⊆ (post_W.map (Proc.devRef (τ := τ) .tc)).toFinset :=
  StableHlo.forall_writes_sub_of_map rfl

/-- A buffer nothing writes is at the end what it was at the launch. -/
theorem keep_all (r : Ref sig .tc) (e0 : r ∉ hostOps0_W) (e1 : r ∉ hostOps0_1_W) (e2 : r ∉ hostOps0_2_W) (e3 : r ∉ hostOps0_3_W) (e4 : r ∉ hostOps0_4_W)
    (e5 : r ∉ post_W) (et : r ∉ trip_W) :
    finalContents condOps preI bodyI postI 8192 m c (Proc.devRef .tc r) = m ((c.tc : Thread nD τ).loc r) := by
  have hc : r ∉ condOps_W := fun h => et (by simp only [trip_W, List.mem_append]; tauto)
  simp only [finalContents, afterL_cons, afterL_nil]
  rw [after_of_writes_sub hostOps0_5 _ post_writes e5, after_of_writes_sub condOps _ condOps_writes hc]
  exact (keep_loop m c r et 8192).trans (keep_pre m c r e0 e1 e2 e3 e4)

end Cert.Rg.Ref
end
-- ==== Proof.Rg.Post.lean ====
/- Hand-written: the reference's operations after its loop, read at an index. -/
module

public import proofs.«01_k».proof.Proof.Gen.Reference3Ideal.Run
public import proofs.«01_k».proof.Proof.Rg.Row
public import Idealize.ShloMosaic.Lib.StableHlo.ReadAt
public import Idealize.ShloMosaic.Lib.Pointwise.Blocks

@[expose] public section

set_option maxRecDepth 16384
set_option maxHeartbeats 2000000

noncomputable section

namespace Cert.Rg.Ref

open Cert.Rg Idealize.ShloMosaic Idealize.ShloMosaic.TcCoe Idealize.SL.Sem Idealize.ShloMosaic.StableHlo Cert.Reference3Ideal Cert.Reference3Ideal.Gen Cert.Reference3Ideal.Value

variable (V : Valuation τ sig (Elt Ideal)) {W : Wt} {b : Fin 4} {X hs y : ℕ → Fin 1024 → EReal}

theorem v128_at (h105 : ∀ (s : Fin 8192) (j : Fin 1024), (V (Proc.devRef .tc main_v105_4) : Vec Ideal S8192x4x1024 .f32) (ix3 s b j) = hs s.val j)
    (h27 : ∀ (s : Fin 8192) (j : Fin 1024), (V (Proc.devRef .tc main_v27) : Vec Ideal S4x8192x1024 .f32) (ix3 b s j) = y s.val j)
    (h0 : ∀ (s : Fin 8192) (j : Fin 1024), (V (Proc.devRef .tc main_arg0) : Vec Ideal S4x8192x1024 .f32) (ix3 b s j) = X s.val j)
    (h10 : ∀ k j : Fin 1024, (V (Proc.devRef .tc main_arg10) : Vec Ideal S1024x1024 .f32) (ix2 k j) = W.wo k j)
    (h11 : ∀ j : Fin 1024, (V (Proc.devRef .tc main_arg11) : Vec Ideal S1024 .f32) (ix1 j) = W.gm j)
    (h12 : ∀ (k : Fin 1024) (f : Fin 4096), (V (Proc.devRef .tc main_arg12) : Vec Ideal S1024x4096 .f32) (ix2 k f) = W.wu k f)
    (h13 : ∀ (f : Fin 4096) (j : Fin 1024), (V (Proc.devRef .tc main_arg13) : Vec Ideal S4096x1024 .f32) (ix2 f j) = W.wd f j)
    (s : Fin 8192) (j : Fin 1024) :
    (after hostOps0_5 V (Proc.devRef .tc main_v128) : Vec Ideal S4x8192x1024 .f32) (ix3 b s j)
      = Mlp.mlp (fun j => X s.val j + ∑ k, hs s.val k * y s.val k * W.wo k j) W.gm W.wu W.wd j := by
  after_reads_at
  simp only [h105, h27, h0, h10, h11, h12, h13]
  rfl

end Cert.Rg.Ref
end
-- ==== Proof.Rg.Ref.lean ====
/- Hand-written: the reference's array, at an index, is the layer's row function of the arguments. -/
module

public import proofs.«01_k».proof.Proof.Rg.Host
public import proofs.«01_k».proof.Proof.Rg.Loop
public import proofs.«01_k».proof.Proof.Rg.Post

@[expose] public section

set_option maxRecDepth 16384
set_option maxHeartbeats 2000000

noncomputable section

namespace Cert.Rg.Ref

open Cert.Rg Idealize.ShloMosaic Idealize.ShloMosaic.TcCoe Idealize.SL.Sem Idealize.ShloMosaic.StableHlo Cert.Reference3Ideal Cert.Reference3Ideal.Gen Cert.Reference3Ideal.Value

variable (m : (ℓ : Loc nD τ sig) → Buf (Elt Ideal) ℓ) (c : Dev nD)

/-- The weights in the reference's memory. -/
def WR : Wt where
  g := fun j => m ((c.tc : Thread nD τ).loc main_arg1) (ix1 j)
  wi := fun k f => m ((c.tc : Thread nD τ).loc main_arg2) (ix2 k f)
  cw := fun k j => m ((c.tc : Thread nD τ).loc main_arg3) (ix2 k j)
  cb := fun j => m ((c.tc : Thread nD τ).loc main_arg4) (ix1 j)
  wa := fun n k j => m ((c.tc : Thread nD τ).loc main_arg5) (ix3 n k j)
  ba := fun j => m ((c.tc : Thread nD τ).loc main_arg6) (ix1 j)
  wx := fun n k j => m ((c.tc : Thread nD τ).loc main_arg7) (ix3 n k j)
  bx := fun j => m ((c.tc : Thread nD τ).loc main_arg8) (ix1 j)
  lam := fun j => m ((c.tc : Thread nD τ).loc main_arg9) (ix1 j)
  wo := fun k j => m ((c.tc : Thread nD τ).loc main_arg10) (ix2 k j)
  gm := fun j => m ((c.tc : Thread nD τ).loc main_arg11) (ix1 j)
  wu := fun k f => m ((c.tc : Thread nD τ).loc main_arg12) (ix2 k f)
  wd := fun f j => m ((c.tc : Thread nD τ).loc main_arg13) (ix2 f j)

/-- The rows in the reference's memory. -/
def XR (b : Fin 4) (n : ℕ) (j : Fin 1024) : EReal :=
  if h : n < 8192 then m ((c.tc : Thread nD τ).loc main_arg0) (ix3 b ⟨n, h⟩ j) else 0

theorem XR_at (b : Fin 4) (s : Fin 8192) (j : Fin 1024) : XR m c b s.val j = m ((c.tc : Thread nD τ).loc main_arg0) (ix3 b s j) := by
  unfold XR
  rw [dif_pos s.isLt]

/-- What the convolution reads: the projection's second half behind three rows of zeros. -/
def pad (b : Fin 4) (n : ℕ) (j : Fin 1024) : EReal := if 3 ≤ n then xp (WR m c) (XR m c b) (n - 3) j else 0

theorem cv_pad (b : Fin 4) (n : ℕ) (j : Fin 1024) :
    cv (WR m c).cw (WR m c).cb j (pad m c b (3 + n) j) (pad m c b (2 + n) j) (pad m c b (1 + n) j) (pad m c b n j) = xb (WR m c) (XR m c b) n j := by
  have p0 : pad m c b (3 + n) j = xp (WR m c) (XR m c b) n j := by
    unfold pad
    rw [if_pos (by omega), show 3 + n - 3 = n by omega]
  have p1 : pad m c b (2 + n) j = back (WR m c) (XR m c b) 1 n j := by
    unfold pad back
    by_cases h : 1 ≤ n
    · rw [if_pos (by omega), if_pos h, show 2 + n - 3 = n - 1 by omega]
    · rw [if_neg (by omega), if_neg h]
  have p2 : pad m c b (1 + n) j = back (WR m c) (XR m c b) 2 n j := by
    unfold pad back
    by_cases h : 2 ≤ n
    · rw [if_pos (by omega), if_pos h, show 1 + n - 3 = n - 2 by omega]
    · rw [if_neg (by omega), if_neg h]
  have p3 : pad m c b n j = back (WR m c) (XR m c b) 3 n j := rfl
  rw [p0, p1, p2, p3]
  rfl

abbrev V1 : Valuation τ sig (Elt Ideal) := after hostOps0 (launchContents m c)
abbrev V2 : Valuation τ sig (Elt Ideal) := after hostOps0_1 (V1 m c)
abbrev V3 : Valuation τ sig (Elt Ideal) := after hostOps0_2 (V2 m c)
abbrev V4 : Valuation τ sig (Elt Ideal) := after hostOps0_3 (V3 m c)

theorem keep1 (r : Ref sig .tc) (e : r ∉ hostOps0_W) : V1 m c (Proc.devRef .tc r) = m ((c.tc : Thread nD τ).loc r) :=
  after_of_writes_sub hostOps0 _ hostOps0_writes e
theorem keep2 (r : Ref sig .tc) (e : r ∉ hostOps0_1_W) : V2 m c (Proc.devRef .tc r) = V1 m c (Proc.devRef .tc r) :=
  after_of_writes_sub hostOps0_1 _ hostOps0_1_writes e
theorem keep3 (r : Ref sig .tc) (e : r ∉ hostOps0_2_W) : V3 m c (Proc.devRef .tc r) = V2 m c (Proc.devRef .tc r) :=
  after_of_writes_sub hostOps0_2 _ hostOps0_2_writes e
theorem keep4 (r : Ref sig .tc) (e : r ∉ hostOps0_3_W) : V4 m c (Proc.devRef .tc r) = V3 m c (Proc.devRef .tc r) :=
  after_of_writes_sub hostOps0_3 _ hostOps0_3_writes e
theorem keep5 (r : Ref sig .tc) (e : r ∉ hostOps0_4_W) : entryContents preI m c (Proc.devRef .tc r) = V4 m c (Proc.devRef .tc r) :=
  after_of_writes_sub hostOps0_4 _ hostOps0_4_writes e

theorem at2 (r : Ref sig .tc) (e : r ∉ hostOps0_W ++ hostOps0_1_W) : V2 m c (Proc.devRef .tc r) = m ((c.tc : Thread nD τ).loc r) := by
  simp only [List.mem_append, not_or] at e
  rw [keep2 m c r e.2, keep1 m c r e.1]
theorem at4 (r : Ref sig .tc) (e : r ∉ hostOps0_W ++ hostOps0_1_W ++ hostOps0_2_W ++ hostOps0_3_W) : V4 m c (Proc.devRef .tc r) = m ((c.tc : Thread nD τ).loc r) := by
  simp only [List.mem_append, not_or] at e
  obtain ⟨⟨⟨e0, e1⟩, e2⟩, e3⟩ := e
  rw [keep4 m c r e3, keep3 m c r e2, keep2 m c r e1, keep1 m c r e0]

theorem c_at : V1 m c (Proc.devRef .tc main_c) = fun _ => (0#32 : BitVec 32) := by
  show after hostOps0 (launchContents m c) (Proc.devRef .tc main_c) = _
  after_reads_simp
  rfl

variable (b : Fin 4)

theorem rows_eq (s : Fin 8192) : (fun j : Fin 1024 => (launchContents m c (Proc.devRef .tc main_arg0) : Vec Ideal S4x8192x1024 .f32) (ix3 b s j)) = XR m c b s.val :=
  funext fun j => (XR_at m c b s j).symm

theorem q28 (s : Fin 8192) (j : Fin 1024) : (V1 m c (Proc.devRef .tc main_v28) : Vec Ideal S4x8192x1024 .f32) (ix3 b s j) = xp (WR m c) (XR m c b) s.val j := by
  refine (v28_at (launchContents m c) b s j).trans ?_
  rw [rows_eq]
  rfl

theorem q27 (s : Fin 8192) (j : Fin 1024) : (V1 m c (Proc.devRef .tc main_v27) : Vec Ideal S4x8192x1024 .f32) (ix3 b s j)
    = gel (prj (XR m c b s.val) (WR m c).g (WR m c).wi ⟨j.val, by omega⟩) := by
  refine (v27_at (launchContents m c) b s j).trans ?_
  rw [rows_eq]
  rfl

theorem q29 (s : Fin 8195) (j : Fin 1024) : (V2 m c (Proc.devRef .tc main_v29) : Vec Ideal S4x8195x1024 .f32) (ix3 b s j) = pad m c b s.val j := by
  refine (v29_at (V1 m c) (c_at m c) b s j).trans ?_
  unfold pad
  by_cases h : 3 ≤ s.val
  · rw [dif_pos h, if_pos h, q28]
  · rw [dif_neg h, if_neg h]

theorem q3 (k : Fin 4) (j : Fin 1024) : (V2 m c (Proc.devRef .tc main_arg3) : Vec Ideal S4x1024 .f32) (ix2 k j) = (WR m c).cw k j := by
  rw [at2 m c main_arg3 (by decide)]; rfl
theorem q4 (j : Fin 1024) : (V2 m c (Proc.devRef .tc main_arg4) : Vec Ideal S1024 .f32) (ix1 j) = (WR m c).cb j := by
  rw [at2 m c main_arg4 (by decide)]; rfl
theorem q5 (n : Fin 4) (k j : Fin 256) : (V2 m c (Proc.devRef .tc main_arg5) : Vec Ideal S4x256x256 .f32) (ix3 n k j) = (WR m c).wa n k j := by
  rw [at2 m c main_arg5 (by decide)]; rfl
theorem q6 (j : Fin 1024) : (V2 m c (Proc.devRef .tc main_arg6) : Vec Ideal S1024 .f32) (ix1 j) = (WR m c).ba j := by
  rw [at2 m c main_arg6 (by decide)]; rfl
theorem q9 (j : Fin 1024) : (V2 m c (Proc.devRef .tc main_arg9) : Vec Ideal S1024 .f32) (ix1 j) = (WR m c).lam j := by
  rw [at2 m c main_arg9 (by decide)]; rfl

theorem q59 (s : Fin 8192) (j : Fin 1024) : (V4 m c (Proc.devRef .tc main_v59) : Vec Ideal S4x8192x1024 .f32) (ix3 b s j) = xb (WR m c) (XR m c b) s.val j := by
  rw [keep4 m c main_v59 (by decide)]
  exact (v59_at (V2 m c) (W := WR m c) (q := pad m c b) (q3 m c) (q4 m c) (q29 m c b) s j).trans (cv_pad m c b s.val j)

/-- The decay's gate, times its factor. -/
def gts (n : ℕ) (j : Fin 1024) : EReal :=
  Ideal.ofBits FTy.f32 3238002688#32 * sg (gt (xb (WR m c) (XR m c b) n) (WR m c).wa j + (WR m c).ba j)

theorem q74 (s : Fin 8192) (j : Fin 1024) : (V4 m c (Proc.devRef .tc main_v74) : Vec Ideal S4x8192x1024 .f32) (ix3 b s j) = gts m c b s.val j := by
  rw [keep4 m c main_v74 (by decide)]
  refine (v74_at (V2 m c) (W := WR m c) (q := pad m c b) (q3 m c) (q4 m c) (q5 m c) (q6 m c) (q29 m c b) s j).trans ?_
  rw [show (fun j => cv (WR m c).cw (WR m c).cb j (pad m c b (3 + s.val) j) (pad m c b (2 + s.val) j) (pad m c b (1 + s.val) j) (pad m c b s.val j))
    = xb (WR m c) (XR m c b) s.val from funext fun j => cv_pad m c b s.val j]
  rfl

theorem q75 (j : Fin 1024) : (V3 m c (Proc.devRef .tc main_v75) : Vec Ideal S1024 .f32) (ix1 j) = - (WR m c).lam j :=
  v75_at (V2 m c) (W := WR m c) (q9 m c) j

theorem q76 (j : Fin 1024) : (V4 m c (Proc.devRef .tc main_v76) : Vec Ideal S1024 .f32) (ix1 j) = (fun j => spl ((WR m c).lam j)) j :=
  v76_at (V3 m c) (W := WR m c) (q75 m c) j

theorem q7 (n : Fin 4) (k j : Fin 256) : (V4 m c (Proc.devRef .tc main_arg7) : Vec Ideal S4x256x256 .f32) (ix3 n k j) = (WR m c).wx n k j := by
  rw [at4 m c main_arg7 (by decide)]; rfl
theorem q8 (j : Fin 1024) : (V4 m c (Proc.devRef .tc main_arg8) : Vec Ideal S1024 .f32) (ix1 j) = (WR m c).bx j := by
  rw [at4 m c main_arg8 (by decide)]; rfl

theorem e0 (s : Fin 8192) (j : Fin 1024) : (entryContents preI m c (Proc.devRef .tc main_v105_0) : Vec Ideal S8192x4x1024 .f32) (ix3 s b j)
    = (fun n => dec (WR m c) (xb (WR m c) (XR m c b) n) j) s.val :=
  v105_0_at (V4 m c) (g := gts m c b) (sp := fun j => spl ((WR m c).lam j)) (q74 m c b) (q76 m c) s j

theorem e1 (s : Fin 8192) (j : Fin 1024) : (entryContents preI m c (Proc.devRef .tc main_v105_1) : Vec Ideal S8192x4x1024 .f32) (ix3 s b j)
    = (fun n => inp (WR m c) (xb (WR m c) (XR m c b) n) j) s.val :=
  v105_1_at (V4 m c) (W := WR m c) (z := xb (WR m c) (XR m c b)) (g := gts m c b) (sp := fun j => spl ((WR m c).lam j)) (q7 m c) (q8 m c) (q59 m c b) (q74 m c b) (q76 m c) s j

/-- The states after the loop. -/
theorem states (s : Fin 8192) (j : Fin 1024) : (atK m 8192 c (Proc.devRef .tc main_v105_4) : Vec Ideal S8192x4x1024 .f32) (ix3 s b j)
    = (fun n j => hid (WR m c) (XR m c b) (n + 1) j) s.val j :=
  loop_at m c (fun s => e0 m c b s j) (fun s => e1 m c b s j) (v105_3_at (V4 m c) j) s

/-- A buffer neither the condition nor a trip writes, at the loop's end. -/
theorem end_keep (r : Ref sig .tc) (h : r ∉ trip_W) : after condOps (atK m 8192 c) (Proc.devRef .tc r) = entryContents preI m c (Proc.devRef .tc r) := by
  have hc : r ∉ condOps_W := fun h' => h (by simp only [trip_W, List.mem_append]; tauto)
  rw [after_of_writes_sub condOps _ condOps_writes hc]
  exact keep_loop m c r h 8192

theorem end_arg (r : Ref sig .tc) (h : r ∉ trip_W) (e0 : r ∉ hostOps0_W) (e1 : r ∉ hostOps0_1_W) (e2 : r ∉ hostOps0_2_W) (e3 : r ∉ hostOps0_3_W) (e4 : r ∉ hostOps0_4_W) :
    after condOps (atK m 8192 c) (Proc.devRef .tc r) = m ((c.tc : Thread nD τ).loc r) :=
  (end_keep m c r h).trans (keep_pre m c r e0 e1 e2 e3 e4)

theorem f27 (s : Fin 8192) (j : Fin 1024) : (after condOps (atK m 8192 c) (Proc.devRef .tc main_v27) : Vec Ideal S4x8192x1024 .f32) (ix3 b s j)
    = (fun n (j : Fin 1024) => gel (prj (XR m c b n) (WR m c).g (WR m c).wi ⟨j.val, by omega⟩)) s.val j := by
  rw [end_keep m c main_v27 (by decide), keep5 m c main_v27 (by decide), keep4 m c main_v27 (by decide), keep3 m c main_v27 (by decide), keep2 m c main_v27 (by decide)]
  exact q27 m c b s j

/-- The reference's result at an index. -/
theorem ref_at (s : Fin 8192) (j : Fin 1024) :
    (finalContents condOps preI bodyI postI 8192 m c (Proc.devRef .tc main_v128) : Vec Ideal S4x8192x1024 .f32) (ix3 b s j)
      = lay (WR m c) (XR m c b) s.val j := by
  refine v128_at (after condOps (atK m 8192 c)) (W := WR m c) (X := XR m c b) (hs := fun n j => hid (WR m c) (XR m c b) (n + 1) j)
    (y := fun n j => gel (prj (XR m c b n) (WR m c).g (WR m c).wi ⟨j.val, by omega⟩)) ?_ (f27 m c b) ?_ ?_ ?_ ?_ ?_ s j
  · intro s j
    rw [after_of_writes_sub condOps _ condOps_writes (by decide)]
    exact states m c b s j
  · intro s j
    rw [end_arg m c main_arg0 (by decide) (by decide) (by decide) (by decide) (by decide) (by decide)]
    exact (XR_at m c b s j).symm
  · intro k j
    rw [end_arg m c main_arg10 (by decide) (by decide) (by decide) (by decide) (by decide) (by decide)]; rfl
  · intro j
    rw [end_arg m c main_arg11 (by decide) (by decide) (by decide) (by decide) (by decide) (by decide)]; rfl
  · intro k f
    rw [end_arg m c main_arg12 (by decide) (by decide) (by decide) (by decide) (by decide) (by decide)]; rfl
  · intro f j
    rw [end_arg m c main_arg13 (by decide) (by decide) (by decide) (by decide) (by decide) (by decide)]; rfl

/-- The reference's result, as its operations compute it. -/
def out : (Proc.devRef .tc main_v128 : DevRef τ sig).ty.Contents (Elt Ideal) :=
  finalContents condOps preI bodyI postI 8192 m c (Proc.devRef .tc main_v128)

theorem out_at (s : Fin 8192) (j : Fin 1024) : (out m c : Vec Ideal S4x8192x1024 .f32) (ix3 b s j) = lay (WR m c) (XR m c b) s.val j := by
  unfold out
  exact ref_at m c b s j

/-- What the reference leaves: its result, and the arguments as they were. -/
theorem run_ref (ρ : Dev nD → PrngReg) :
    θ_run (defs (F := Ideal)) (onTc (τ := τ) (main (F := Ideal))) ⟨m, fun _ => 0, ρ⟩ (fun r => ∀ c : Dev nD,
    r.2.mem ((c.tc : Thread nD τ).loc main_v128) = out m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)) := by
  refine (θ_run defs _ _).mono ?_ (run_fold (F := Ideal) m ρ)
  intro r h c
  refine ⟨?_, ?_, ?_, ?_, ?_, ?_, ?_, ?_, ?_, ?_, ?_, ?_, ?_, ?_, ?_⟩
  · unfold out
    exact h c main_v128 (by decide)
  · rw [h c main_arg0 (by decide)]
    exact keep_all m c main_arg0 (by decide) (by decide) (by decide) (by decide) (by decide) (by decide) (by decide)
  · rw [h c main_arg1 (by decide)]
    exact keep_all m c main_arg1 (by decide) (by decide) (by decide) (by decide) (by decide) (by decide) (by decide)
  · rw [h c main_arg2 (by decide)]
    exact keep_all m c main_arg2 (by decide) (by decide) (by decide) (by decide) (by decide) (by decide) (by decide)
  · rw [h c main_arg3 (by decide)]
    exact keep_all m c main_arg3 (by decide) (by decide) (by decide) (by decide) (by decide) (by decide) (by decide)
  · rw [h c main_arg4 (by decide)]
    exact keep_all m c main_arg4 (by decide) (by decide) (by decide) (by decide) (by decide) (by decide) (by decide)
  · rw [h c main_arg5 (by decide)]
    exact keep_all m c main_arg5 (by decide) (by decide) (by decide) (by decide) (by decide) (by decide) (by decide)
  · rw [h c main_arg6 (by decide)]
    exact keep_all m c main_arg6 (by decide) (by decide) (by decide) (by decide) (by decide) (by decide) (by decide)
  · rw [h c main_arg7 (by decide)]
    exact keep_all m c main_arg7 (by decide) (by decide) (by decide) (by decide) (by decide) (by decide) (by decide)
  · rw [h c main_arg8 (by decide)]
    exact keep_all m c main_arg8 (by decide) (by decide) (by decide) (by decide) (by decide) (by decide) (by decide)
  · rw [h c main_arg9 (by decide)]
    exact keep_all m c main_arg9 (by decide) (by decide) (by decide) (by decide) (by decide) (by decide) (by decide)
  · rw [h c main_arg10 (by decide)]
    exact keep_all m c main_arg10 (by decide) (by decide) (by decide) (by decide) (by decide) (by decide) (by decide)
  · rw [h c main_arg11 (by decide)]
    exact keep_all m c main_arg11 (by decide) (by decide) (by decide) (by decide) (by decide) (by decide) (by decide)
  · rw [h c main_arg12 (by decide)]
    exact keep_all m c main_arg12 (by decide) (by decide) (by decide) (by decide) (by decide) (by decide) (by decide)
  · rw [h c main_arg13 (by decide)]
    exact keep_all m c main_arg13 (by decide) (by decide) (by decide) (by decide) (by decide) (by decide) (by decide)

end Cert.Rg.Ref
end
-- ==== Proof.Rg.Claims.lean ====
/- Hand-written: the claims of the recurrent layer (projection, gelu, convolution, gates, recurrence, feed-forward part). -/
module

public import proofs.«01_k».proof.Defs
public import proofs.«01_k».proof.Proof.Gen.Kernel3
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal
public import proofs.«01_k».proof.Proof.Rg.Points
public import proofs.«01_k».proof.Proof.Rg.Ref

@[expose] public section

set_option maxRecDepth 16384
set_option maxHeartbeats 2000000

noncomputable section

namespace Cert.Rg

open Idealize.ShloMosaic Idealize.ShloMosaic.TcCoe Idealize.SL.Sem

theorem frame_k : Cert.quiescent_Kernel3 (hKernel3 := Cert.Kernel3.Gen.facts) :=
  fun m ρ _ => Cert.Kernel3.Gen.frame m ρ

theorem frame_i : Cert.quiescent_Kernel3Ideal (hKernel3Ideal := Cert.Kernel3Ideal.Gen.facts) :=
  fun m ρ _ => Cert.Kernel3Ideal.Gen.frame m ρ

/-- The reference declares no semaphore, so its run is quiescent. -/
theorem frame_r : Cert.quiescent_Reference3Ideal (hReference3Ideal := Cert.Reference3Ideal.Gen.facts) := fun m ρ _ =>
  (θ_run Cert.Reference3Ideal.defs _ _).mono (fun r h => ⟨fun c => (h c).2,
      Idealize.ShloMosaic.sem_eq_zero_of_no_sems (by decide) r.2⟩)
    (Cert.Rg.Ref.run_ref m ρ)

/-- Kernel and reference leave the same array. -/
theorem same_array (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (h5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5))
    (h6 : m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6))
    (h7 : m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7))
    (h8 : m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8))
    (h9 : m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9))
    (h10 : m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10))
    (h11 : m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11))
    (h12 : m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12))
    (h13 : m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) :
    (Cert.Kernel3Ideal.Gen.dats m 0 c).arrAt 14 Cert.Kernel3Ideal.cfg0.N
      = Cert.Rg.Ref.out m' c := by
  refine final m c _ fun b s j => (Cert.Rg.Ref.out_at m' c b s j).trans ?_
  have hW : Cert.Rg.Ref.WR m' c = Wm m c := by
    unfold Cert.Rg.Ref.WR
    rw [h1, h2, h3, h4, h5, h6, h7, h8, h9, h10, h11, h12, h13]
    rfl
  have hX : Cert.Rg.Ref.XR m' c b = Xm m c b := by
    unfold Cert.Rg.Ref.XR
    rw [h0]
    rfl
  rw [hW, hX]

theorem algebraic : Cert.algebraic_Kernel3Ideal_Reference3Ideal (hKernel3Ideal := Cert.Kernel3Ideal.Gen.facts)
    (hReference3Ideal := Cert.Reference3Ideal.Gen.facts) := by
  intro m ρ m' ρ' _ hag
  refine ⟨fun c => (Cert.Kernel3Ideal.Gen.dats m 0 c).arrAt 14 Cert.Kernel3Ideal.cfg0.N, Cert.Kernel3Ideal.Value.run_blocks m ρ, ?_⟩
  refine (θ_run Cert.Reference3Ideal.defs _ _).mono (fun r h c => ⟨(h c).1.trans ?_, (h c).2⟩) (Cert.Rg.Ref.run_ref m' ρ')
  obtain ⟨h0, h1, h2, h3, h4, h5, h6, h7, h8, h9, h10, h11, h12, h13⟩ := hag c
  exact (same_array m m' c h0 h1 h2 h3 h4 h5 h6 h7 h8 h9 h10 h11 h12 h13).symm

end Cert.Rg

end
-- ==== Proof.In.Block.lean ====
/- Hand-written: what the attention layer's first call computes at one index of its blocks of queries, of keys and values to be
   compressed, and of gates. -/
module

public import proofs.«01_k».proof.Proof.Gen.Kernel4Ideal.Value
public import proofs.«01_k».proof.Proof.Rg.Row
public import Idealize.ShloMosaic.Lib.Pointwise.Blocks

@[expose] public section

set_option maxRecDepth 16384
set_option maxHeartbeats 400000

noncomputable section

namespace Cert.In

open Idealize.ShloMosaic Cert.Kernel4Ideal Cert.Kernel4Ideal.Gen

/-- A normed row times one column of weights. -/
def lin (x g w : Fin 1024 → EReal) : EReal := ∑ k, Mlp.nrm x g k * w k

/-- A query's lane: with the softmax's scale and the change of base in it. -/
def qry (x g w : Fin 1024 → EReal) : EReal := lin x g w * Ideal.ofBits FTy.f32 1043900987#32

/-- A gate. -/
def gat (x g w : Fin 1024 → EReal) (b : EReal) : EReal := Rg.sg (lin x g w + b)

theorem lin_comm (x g w : Fin 1024 → EReal) : ∑ k, w k * Mlp.nrm x g k = lin x g w :=
  Finset.sum_congr rfl fun _ _ => mul_comm _ _

variable (x0 : Vec Ideal S1x512x1024 .f32) (x1 : Vec Ideal S1x1024 .f32) (x2 : Vec Ideal S1024x1024 .bf16)
  (x3 : Vec Ideal S1024x512 .bf16) (x6 : Vec Ideal S64x1024 .bf16)
  (x7 : Vec Ideal S64x1 .f32)

theorem pay3_at (r : Fin 512) (l : Fin 1024) :
    k0_pay3 (F := Ideal) x0 x1 (ix2 r l)
      = Mlp.nrm (fun j => x0 (ix3 0 r j)) (fun j => x1 (ix2 0 j)) l := by
  pointwise [k0_pay3]
  rfl

theorem qry_at (z : Fin 1) (l : Fin 1024) (r : Fin 512) :
    k0_pay4 (F := Ideal) x0 x1 x2 (ix3 z l r)
      = qry (fun j => x0 (ix3 0 r j)) (fun j => x1 (ix2 0 j)) (fun k => x2 (ix2 l k)) := by
  pointwise [k0_pay4]
  simp only [pay3_at]
  exact congrArg (· * _) (lin_comm _ _ fun k => x2 (ix2 l k))

theorem kvc_at (z : Fin 1) (r l : Fin 512) :
    k0_pay5 (F := Ideal) x0 x1 x3 (ix3 z r l)
      = lin (fun j => x0 (ix3 0 r j)) (fun j => x1 (ix2 0 j)) (fun k => x3 (ix2 k l)) := by
  pointwise [k0_pay5]
  simp only [pay3_at]
  rfl

theorem gat_at (h : FVec Ideal S512x1024 .bf16)
    (hh : ∀ (r : Fin 512) (l : Fin 1024), h (ix2 r l) = Mlp.nrm (fun j => x0 (ix3 0 r j)) (fun j => x1 (ix2 0 j)) l)
    (z : Fin 1) (l : Fin 64) (r : Fin 512) :
    k0_pay6 (F := Ideal) h x6 (constant S64x512 .f32 0x00000000#32) x7 (ix3 z l r)
      = gat (fun j => x0 (ix3 0 r j)) (fun j => x1 (ix2 0 j)) (fun k => x6 (ix2 l k)) (x7 (ix2 l 0)) := by
  pointwise [k0_pay6]
  simp only [hh]
  exact congrArg (fun e => Rg.sg (e + x7 (ix2 l 0))) (lin_comm _ _ fun k => x6 (ix2 l k))

theorem pay64_at (i : grid0.Coords) (x4 : Vec Ideal S1024x512 .bf16) (x5 : Vec Ideal S512x1024 .bf16) (r : Fin 512) (l : Fin 1024) :
    k0_pay64 (F := Ideal) i x0 x1 x2 x3 x4 x5 x6 x7 (ix2 r l)
      = Mlp.nrm (fun j => x0 (ix3 0 r j)) (fun j => x1 (ix2 0 j)) l := by
  show k0_pay3 (F := Ideal) (View.ld x0 r0_0) (View.ld x1 r0_1) (ix2 r l) = _
  pointwise [k0_pay3]
  rfl

end Cert.In

end
-- ==== Proof.In.Array.lean ====
/- Hand-written: the arrays of queries, of keys and values to be compressed, and of gates after the attention layer's first call. -/
module

public import proofs.«01_k».proof.Proof.In.Block
public import Idealize.ShloMosaic.Lib.Pipeline.ValueKit.Geometry
public import Idealize.ShloMosaic.Lib.StableHlo.ReadAt

@[expose] public section

set_option maxRecDepth 16384
set_option maxHeartbeats 400000

noncomputable section

namespace Cert.In

open Idealize.ShloMosaic Idealize.ShloMosaic.TcCoe Idealize.SL.Sem Cert.Kernel4Ideal Cert.Kernel4Ideal.Gen

/-- The queries at an index, from the arguments. -/
def Q (a0 : Vec Ideal S4x8192x1024 .f32) (a1 : Vec Ideal S1x1024 .f32) (a2 : Vec Ideal S1024x1024 .bf16) (b : Fin 4) (l : Fin 1024) (s : Fin 8192) : EReal :=
  qry (fun j => a0 (ix3 b s j)) (fun j => a1 (ix2 0 j)) (fun k => a2 (ix2 l k))

/-- The keys and values to be compressed at an index, from the arguments. -/
def C (a0 : Vec Ideal S4x8192x1024 .f32) (a1 : Vec Ideal S1x1024 .f32) (a3 : Vec Ideal S1024x512 .bf16) (b : Fin 4) (s : Fin 8192) (l : Fin 512) : EReal :=
  lin (fun j => a0 (ix3 b s j)) (fun j => a1 (ix2 0 j)) (fun k => a3 (ix2 k l))

/-- The gates at an index, from the arguments. -/
def G (a0 : Vec Ideal S4x8192x1024 .f32) (a1 : Vec Ideal S1x1024 .f32) (a6 : Vec Ideal S64x1024 .bf16) (a7 : Vec Ideal S64x1 .f32) (b : Fin 4) (l : Fin 64) (s : Fin 8192) : EReal :=
  gat (fun j => a0 (ix3 b s j)) (fun j => a1 (ix2 0 j)) (fun k => a6 (ix2 l k)) (a7 (ix2 l 0))

variable (m : (ℓ : Loc nD τ sig) → Buf (Elt Ideal) ℓ) (ρ : Dev nD → PrngReg)

theorem at0 : ∀ t : Fin cfg0.N, win0_0.index t = ![t.val / 17, min (t.val % 17) 15, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0] := (by decide +kernel : ∀ t : Fin grid0.N, _)
theorem at8 : ∀ t : Fin cfg0.N, win0_8.index t = ![t.val / 17, 0, min (t.val % 17) 15] := (by decide +kernel : ∀ t : Fin grid0.N, _)
theorem at9 : ∀ t : Fin cfg0.N, win0_9.index t = ![t.val / 17, min (t.val % 17) 15, 0] := (by decide +kernel : ∀ t : Fin grid0.N, _)
theorem at14 : ∀ t : Fin cfg0.N, win0_14.index t = ![t.val / 17, 0, min (t.val % 17) 15] := (by decide +kernel : ∀ t : Fin grid0.N, _)

/-- The sequence of grid point `t`. -/
def seqOf (t : Fin cfg0.N) : Fin 4 := ⟨t.val / 17, by have := t.isLt; have : cfg0.N = 68 := N_0; omega⟩
/-- The token that row `r` of grid point `t` is. -/
def tokOf (t : Fin cfg0.N) (r : Fin 512) : Fin 8192 := ⟨512 * (min (t.val % 17) 15) + r.val, by omega⟩

theorem in0 (c : Dev nD) (t : Fin cfg0.N) (r : Fin 512) (j : Fin 1024) :
    (iblk m c 0 t : Vec Ideal S1x512x1024 .f32) (ix3 0 r j) = m ((c : Thread nD τ).loc main_arg0) (ix3 (seqOf t) (tokOf t r) j) := by
  blk_simp [iblk]
  rw [V_main_arg0]
  refine congrArg (m ((c : Thread nD τ).loc main_arg0)) ?_
  blk_ext [at0 t, seqOf, tokOf]

theorem in1 (c : Dev nD) (t : Fin cfg0.N) (j : Fin 1024) :
    (iblk m c 1 t : Vec Ideal S1x1024 .f32) (ix2 0 j) = m ((c : Thread nD τ).loc main_arg1) (ix2 0 j) := by
  blk_simp [iblk]
  rw [V_main_arg1]
  refine congrArg (m ((c : Thread nD τ).loc main_arg1)) ?_
  blk_ext [at1 t]

theorem in2 (c : Dev nD) (t : Fin cfg0.N) (l k : Fin 1024) :
    (iblk m c 2 t : Vec Ideal S1024x1024 .bf16) (ix2 l k) = m ((c : Thread nD τ).loc main_arg2) (ix2 l k) := by
  blk_simp [iblk]
  rw [V_main_arg2]
  refine congrArg (m ((c : Thread nD τ).loc main_arg2)) ?_
  blk_ext [at2 t]

theorem in3 (c : Dev nD) (t : Fin cfg0.N) (k : Fin 1024) (l : Fin 512) :
    (iblk m c 3 t : Vec Ideal S1024x512 .bf16) (ix2 k l) = m ((c : Thread nD τ).loc main_arg3) (ix2 k l) := by
  blk_simp [iblk]
  rw [V_main_arg3]
  refine congrArg (m ((c : Thread nD τ).loc main_arg3)) ?_
  blk_ext [at3 t]

theorem in6 (c : Dev nD) (t : Fin cfg0.N) (l : Fin 64) (k : Fin 1024) :
    (iblk m c 6 t : Vec Ideal S64x1024 .bf16) (ix2 l k) = m ((c : Thread nD τ).loc main_arg6) (ix2 l k) := by
  blk_simp [iblk]
  rw [V_main_arg6]
  refine congrArg (m ((c : Thread nD τ).loc main_arg6)) ?_
  blk_ext [at6 t]

theorem in7 (c : Dev nD) (t : Fin cfg0.N) (l : Fin 64) :
    (iblk m c 7 t : Vec Ideal S64x1 .f32) (ix2 l 0) = m ((c : Thread nD τ).loc main_arg7) (ix2 l 0) := by
  blk_simp [iblk]
  rw [V_main_arg7]
  refine congrArg (m ((c : Thread nD τ).loc main_arg7)) ?_
  blk_ext [at7 t]

/-- `Q` of the arguments in memory. -/
def Qm (c : Dev nD) : Fin 4 → Fin 1024 → Fin 8192 → EReal :=
  Q (m ((c : Thread nD τ).loc main_arg0)) (m ((c : Thread nD τ).loc main_arg1)) (m ((c : Thread nD τ).loc main_arg2))

/-- The array of queries after the run. -/
theorem final8 (c : Dev nD) (R : Vec Ideal S4x1024x8192 .bf16) (hR : ∀ b l s, R (ix3 b l s) = Qm m c b l s) :
    (dats m 0 c).arrAt 8 cfg0.N = R := by
  refine (dats m 0 c).arrAt_eq_of_covers 8 _ (by decide +kernel) fun t hf y => ?_
  blk_simp
  rw [after0_8]
  frame_out
  idx_vars y
  refine (qry_at _ _ _ _ _ _).trans ?_
  simp only [in0, in1, in2, in3, in6, in7]
  refine Eq.trans ?_ ((hR (seqOf t) ‹Fin 1024› (tokOf t ‹Fin 512›)).symm.trans (congrArg R ?_))
  · rfl
  · blk_ext [at8 t, seqOf, tokOf]

/-- `C` of the arguments in memory. -/
def Cm (c : Dev nD) : Fin 4 → Fin 8192 → Fin 512 → EReal :=
  C (m ((c : Thread nD τ).loc main_arg0)) (m ((c : Thread nD τ).loc main_arg1)) (m ((c : Thread nD τ).loc main_arg3))

/-- The array of keys and values to be compressed after the run. -/
theorem final9 (c : Dev nD) (R : Vec Ideal S4x8192x512 .f32) (hR : ∀ b s l, R (ix3 b s l) = Cm m c b s l) :
    (dats m 0 c).arrAt 9 cfg0.N = R := by
  refine (dats m 0 c).arrAt_eq_of_covers 9 _ (by decide +kernel) fun t hf y => ?_
  blk_simp
  rw [after0_9]
  frame_out
  have key : ∀ (z : Fin 1) (r l : Fin 512), k0_pay5 (F := Ideal) (iblk m c 0 t) (iblk m c 1 t) (iblk m c 3 t) (ix3 z r l)
      = R (ix3 (seqOf t) (tokOf t r) l) := by
    intro z r l
    refine (kvc_at _ _ _ _ _ _).trans ?_
    simp only [in0, in1, in3]
    exact (hR (seqOf t) (tokOf t r) l).symm
  idx_vars y
  refine (key _ _ _).trans (congrArg R ?_)
  blk_ext [at9 t, seqOf, tokOf]

/-- `G` of the arguments in memory. -/
def Gm (c : Dev nD) : Fin 4 → Fin 64 → Fin 8192 → EReal :=
  G (m ((c : Thread nD τ).loc main_arg0)) (m ((c : Thread nD τ).loc main_arg1)) (m ((c : Thread nD τ).loc main_arg6)) (m ((c : Thread nD τ).loc main_arg7))

/-- The array of gates after the run. -/
theorem final14 (c : Dev nD) (R : Vec Ideal S4x64x8192 .f32) (hR : ∀ b l s, R (ix3 b l s) = Gm m c b l s) :
    (dats m 0 c).arrAt 14 cfg0.N = R := by
  refine (dats m 0 c).arrAt_eq_of_covers 14 _ (by decide +kernel) fun t hf y => ?_
  blk_simp
  rw [after0_14]
  frame_out
  idx_vars y
  have key : ∀ (z : Fin 1) (l : Fin 64) (r : Fin 512), k0_pay6 (F := Ideal) (k0_pay64 (grid0.coords t) (iblk m c 0 t) (iblk m c 1 t) (iblk m c 2 t) (iblk m c 3 t) (iblk m c 4 t) (iblk m c 5 t) (iblk m c 6 t) (iblk m c 7 t)) (iblk m c 6 t) (constant S64x512 .f32 0x00000000#32) (iblk m c 7 t) (ix3 z l r)
      = R (ix3 (seqOf t) l (tokOf t r)) := by
    intro z l r
    refine (gat_at (iblk m c 0 t) (iblk m c 1 t) (iblk m c 6 t) (iblk m c 7 t) _ (fun r l => pay64_at _ _ _ _ _ _ _ _ _ r l) z l r).trans ?_
    simp only [in0, in1, in6, in7]
    exact (hR (seqOf t) l (tokOf t r)).symm
  refine (key _ _ _).trans (congrArg R ?_)
  blk_ext [at14 t, seqOf, tokOf]

end Cert.In

end
-- ==== Proof.In.Ref.lean ====
/- Hand-written: the reference's queries, keys and values to be compressed, and gates, read at an index. -/
module

public import proofs.«01_k».proof.Proof.Gen.Reference4Ideal.Run
public import proofs.«01_k».proof.Proof.In.Block
public import proofs.«01_k».proof.Proof.Rg.Host

@[expose] public section

set_option maxRecDepth 16384
set_option maxHeartbeats 400000

noncomputable section

namespace Cert.In.Ref

open Idealize.ShloMosaic Idealize.ShloMosaic.TcCoe Idealize.SL.Sem Idealize.ShloMosaic.StableHlo Cert.Reference4Ideal Cert.Reference4Ideal.Gen Cert.Reference4Ideal.Value

/-- The reference's queries, as its operations compute them from its arguments. -/
def fnQ (a0 : FVec Ideal S4x8192x1024 .f32) (a1 : FVec Ideal S1x1024 .f32) (a2 : FVec Ideal S1024x1024 .bf16) : FVec Ideal S4x1024x8192 .bf16 :=
  truncf .bf16 (transpose S4x1024x8192 [0, 2, 1] (mulf (Host.dotGeneral dot_S4x8192x1024_S1024x1024_S4x8192x1024_2_0_01_1_n_n none (mulf (mulf a0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf a0 a0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ a1 shapeCasts_S1x1024_S1024)))) (transpose S1024x1024 [1, 0] (extf .f32 a2 bitsLt_bf16_f32) transposes_S1024x1024_S1024x1024_1_0)) (broadcastInDim S4x8192x1024 ![] bcast_S_S4x8192x1024 (constant S_ .f32 0x3E38AA3B#32))) transposes_S4x8192x1024_S4x1024x8192_0_2_1) bitsLt_bf16_f32

theorem fnQ_at (a0 : FVec Ideal S4x8192x1024 .f32) (a1 : FVec Ideal S1x1024 .f32) (a2 : FVec Ideal S1024x1024 .bf16) (b : Fin 4) (l : Fin 1024) (s : Fin 8192) :
    fnQ a0 a1 a2 (ix3 b l s) = qry (fun j => a0 (ix3 b s j)) (fun j => a1 (ix2 0 j)) (fun k => a2 (ix2 l k)) := by
  pointwise [fnQ]
  rfl

/-- The reference's keys and values to be compressed, as its operations compute them from its arguments. -/
def fnC (a0 : FVec Ideal S4x8192x1024 .f32) (a1 : FVec Ideal S1x1024 .f32) (a3 : FVec Ideal S1024x512 .bf16) : FVec Ideal S4x8192x512 .f32 :=
  Host.dotGeneral dot_S4x8192x1024_S1024x512_S4x8192x512_2_0_01_1_n_n none (mulf (mulf a0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf a0 a0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ a1 shapeCasts_S1x1024_S1024)))) (extf .f32 a3 bitsLt_bf16_f32)

theorem fnC_at (a0 : FVec Ideal S4x8192x1024 .f32) (a1 : FVec Ideal S1x1024 .f32) (a3 : FVec Ideal S1024x512 .bf16) (b : Fin 4) (s : Fin 8192) (l : Fin 512) :
    fnC a0 a1 a3 (ix3 b s l) = lin (fun j => a0 (ix3 b s j)) (fun j => a1 (ix2 0 j)) (fun k => a3 (ix2 k l)) := by
  pointwise [fnC]
  rfl

/-- The reference's gates, as its operations compute them from its arguments. -/
def fnG (a0 : FVec Ideal S4x8192x1024 .f32) (a1 : FVec Ideal S1x1024 .f32) (a6 : FVec Ideal S64x1024 .bf16) (a7 : FVec Ideal S64x1 .f32) : FVec Ideal S4x64x8192 .f32 :=
  transpose S4x64x8192 [0, 2, 1] (Host.divf (broadcastInDim S4x8192x64 ![] bcast_S_S4x8192x64 (constant S_ .f32 0x3F800000#32)) (addf (broadcastInDim S4x8192x64 ![] bcast_S_S4x8192x64 (constant S_ .f32 0x3F800000#32)) (Host.exp (Host.negf (addf (Host.dotGeneral dot_S4x8192x1024_S1024x64_S4x8192x64_2_0_01_1_n_n none (mulf (mulf a0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf a0 a0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ a1 shapeCasts_S1x1024_S1024)))) (transpose S1024x64 [1, 0] (extf .f32 a6 bitsLt_bf16_f32) transposes_S64x1024_S1024x64_1_0)) (broadcastInDim S4x8192x64 ![0, 1, 2] bcast_S1x1x64_S4x8192x64_0_1_2 (broadcastInDim S1x1x64 ![2] bcast_S64_S1x1x64_2 (shapeCast _ a7 shapeCasts_S64x1_S64)))))))) transposes_S4x8192x64_S4x64x8192_0_2_1

theorem fnG_at (a0 : FVec Ideal S4x8192x1024 .f32) (a1 : FVec Ideal S1x1024 .f32) (a6 : FVec Ideal S64x1024 .bf16) (a7 : FVec Ideal S64x1 .f32) (b : Fin 4) (l : Fin 64) (s : Fin 8192) :
    fnG a0 a1 a6 a7 (ix3 b l s) = gat (fun j => a0 (ix3 b s j)) (fun j => a1 (ix2 0 j)) (fun k => a6 (ix2 l k)) (a7 (ix2 l 0)) := by
  pointwise [fnG]
  exact Rg.Ref.logistic_ref _

variable (m : (ℓ : Loc nD τ sig) → Buf (Elt Ideal) ℓ) (c : Dev nD)

/-- The reference's queries. -/
def outQ : Buf (Elt Ideal) ((c.tc : Thread nD τ).loc main_v33) :=
  fnQ (m ((c.tc : Thread nD τ).loc main_arg0)) (m ((c.tc : Thread nD τ).loc main_arg1)) (m ((c.tc : Thread nD τ).loc main_arg2))

/-- The reference's keys and values to be compressed. -/
def outC : Buf (Elt Ideal) ((c.tc : Thread nD τ).loc main_v35) :=
  fnC (m ((c.tc : Thread nD τ).loc main_arg0)) (m ((c.tc : Thread nD τ).loc main_arg1)) (m ((c.tc : Thread nD τ).loc main_arg3))

/-- The reference's gates. -/
def outG : Buf (Elt Ideal) ((c.tc : Thread nD τ).loc main_v36) :=
  fnG (m ((c.tc : Thread nD τ).loc main_arg0)) (m ((c.tc : Thread nD τ).loc main_arg1)) (m ((c.tc : Thread nD τ).loc main_arg6)) (m ((c.tc : Thread nD τ).loc main_arg7))

/-- The reference's run, with its results as the arrays above. -/
theorem run_ref (ρ : Dev nD → PrngReg) :
    θ_run defs (onTc (τ := τ) (main (F := Ideal))) ⟨m, fun _ => 0, ρ⟩ fun r => ∀ c : Dev nD,
      r.2.mem ((c.tc : Thread nD τ).loc main_v33) = outQ m c
      ∧ r.2.mem ((c.tc : Thread nD τ).loc main_v35) = outC m c
      ∧ r.2.mem ((c.tc : Thread nD τ).loc main_v36) = outG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  run m ρ

end Cert.In.Ref

end
-- ==== Proof.In.Claims.lean ====
/- Hand-written: the claims of the attention layer's first call. -/
module

public import proofs.«01_k».proof.Defs
public import proofs.«01_k».proof.Proof.Gen.Kernel4
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal
public import proofs.«01_k».proof.Proof.In.Array
public import proofs.«01_k».proof.Proof.In.Ref

@[expose] public section

set_option maxRecDepth 16384
set_option maxHeartbeats 400000

noncomputable section

namespace Cert.In

open Idealize.ShloMosaic Idealize.ShloMosaic.TcCoe Idealize.SL.Sem

theorem frame_k : Cert.quiescent_Kernel4 (hKernel4 := Cert.Kernel4.Gen.facts) :=
  fun m ρ _ => Cert.Kernel4.Gen.frame m ρ

theorem frame_i : Cert.quiescent_Kernel4Ideal (hKernel4Ideal := Cert.Kernel4Ideal.Gen.facts) :=
  fun m ρ _ => Cert.Kernel4Ideal.Gen.frame m ρ

/-- The reference declares no semaphore, so its run is quiescent. -/
theorem frame_r : Cert.quiescent_Reference4Ideal (hReference4Ideal := Cert.Reference4Ideal.Gen.facts) := fun m ρ _ =>
  (θ_run Cert.Reference4Ideal.defs _ _).mono (fun r h => ⟨fun c => (h c).2.2.2,
      Idealize.ShloMosaic.sem_eq_zero_of_no_sems (by decide) r.2⟩)
    (Cert.In.Ref.run_ref m ρ)

/-- Kernel and reference leave the same queries. -/
theorem same_qry (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) :
    (Cert.Kernel4Ideal.Gen.dats m 0 c).arrAt 8 Cert.Kernel4Ideal.cfg0.N = Cert.In.Ref.outQ m' c := by
  refine final8 m c _ fun b l s => ?_
  unfold Cert.In.Ref.outQ
  rw [h0, h1, h2]
  exact Cert.In.Ref.fnQ_at _ _ _ b l s

/-- Kernel and reference leave the same keys and values to be compressed. -/
theorem same_kvc (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) :
    (Cert.Kernel4Ideal.Gen.dats m 0 c).arrAt 9 Cert.Kernel4Ideal.cfg0.N = Cert.In.Ref.outC m' c := by
  refine final9 m c _ fun b s l => ?_
  unfold Cert.In.Ref.outC
  rw [h0, h1, h3]
  exact Cert.In.Ref.fnC_at _ _ _ b s l

/-- Kernel and reference leave the same gates. -/
theorem same_gat (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h6 : m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6))
    (h7 : m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) :
    (Cert.Kernel4Ideal.Gen.dats m 0 c).arrAt 14 Cert.Kernel4Ideal.cfg0.N = Cert.In.Ref.outG m' c := by
  refine final14 m c _ fun b l s => ?_
  unfold Cert.In.Ref.outG
  rw [h0, h1, h6, h7]
  exact Cert.In.Ref.fnG_at _ _ _ _ b l s

theorem algebraic : Cert.algebraic_Kernel4Ideal_Reference4Ideal (hKernel4Ideal := Cert.Kernel4Ideal.Gen.facts)
    (hReference4Ideal := Cert.Reference4Ideal.Gen.facts) := by
  intro m ρ m' ρ' _ hag
  refine ⟨fun c => (Cert.Kernel4Ideal.Gen.dats m 0 c).arrAt 8 Cert.Kernel4Ideal.cfg0.N,
    fun c => (Cert.Kernel4Ideal.Gen.dats m 0 c).arrAt 9 Cert.Kernel4Ideal.cfg0.N,
    fun c => (Cert.Kernel4Ideal.Gen.dats m 0 c).arrAt 14 Cert.Kernel4Ideal.cfg0.N, ?_, ?_⟩
  · exact (θ_run Cert.Kernel4Ideal.defs _ _).mono
      (fun r h c => ⟨(h c).1, (h c).2.1, (h c).2.2.2.2.2.2.1, (h c).2.2.2.2.2.2.2⟩) (Cert.Kernel4Ideal.Value.run_blocks m ρ)
  refine (θ_run Cert.Reference4Ideal.defs _ _).mono
    (fun r h c => ⟨(h c).1.trans ?_, (h c).2.1.trans ?_, (h c).2.2.1.trans ?_, (h c).2.2.2⟩) (Cert.In.Ref.run_ref m' ρ')
  all_goals obtain ⟨h0, h1, h2, h3, h4, h5, h6, h7⟩ := hag c
  · exact (same_qry m m' c h0 h1 h2).symm
  · exact (same_kvc m m' c h0 h1 h3).symm
  · exact (same_gat m m' c h0 h1 h6 h7).symm

end Cert.In

end
-- ==== Proof.lean ====
/-
  The proof of this directory's certificate. The attention's body is followed once, over any floating-point instance
  (Proof/Body.lean), and launched once (Proof/Launch.lean); the kernel as it runs and its idealization have the same text, so
  that one run gives the frames of both.
-/
module

public import proofs.«01_k».proof.Defs
public import proofs.«01_k».proof.Proof.Gen.Kernel
public import proofs.«01_k».proof.Proof.Gen.KernelIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Launch
public import proofs.«01_k».proof.Proof.Same
public import proofs.«01_k».proof.Proof.Mlp.Claims
public import proofs.«01_k».proof.Proof.Rg.Claims
public import proofs.«01_k».proof.Proof.In.Claims
public import Idealize.ShloMosaic.Adequacy
public import Idealize.ShloMosaic.Init

@[expose] public section

set_option maxHeartbeats 20000000
set_option maxRecDepth 100000

noncomputable section

namespace Cert.Proof

open Idealize.ShloMosaic Idealize.ShloMosaic.TcCoe Idealize.SL.Sem

/-- The idealization's frame. -/
theorem ideal_frame : Cert.quiescent_KernelIdeal (hKernelIdeal := Cert.KernelIdeal.Gen.facts) :=
  fun m ρ _ => Cert.KernelIdeal.Attn.run_frame (F := Ideal) m ρ

/-- What is true of a program's outcomes is true of those of an equal program. -/
theorem transport {nD τ sig Val Λ}
    {d d' : Defs nD τ sig Val Λ} {p p' : Dev nD → Prog (TpuEff nD τ sig Val Λ .tc) PUnit}
    (hd : d = d') (hp : p = p') {s : MemSt nD τ sig Val} {Q : PUnit × MemSt nD τ sig Val → Prop}
    (h : θ_run d' (onTc p') s Q) : θ_run d (onTc p) s Q := by
  subst hd hp; exact h

/-- The kernel's frame, by the same run at the bit-exact instance. -/
theorem bits_frame : Cert.quiescent_Kernel (hKernel := Cert.Kernel.Gen.facts) :=
  fun m ρ _ => transport Cert.Same.defs_same Cert.Same.main_same (Cert.KernelIdeal.Attn.run_frame (F := Bits) m ρ)

/-- Every claim of this certificate. -/
theorem claim : Cert.Claim :=
  ⟨Cert.Kernel.Gen.facts, Cert.KernelIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Kernel5.Gen.facts, Cert.Kernel5Ideal.Gen.facts, bits_frame,
    ideal_frame, Cert.Mlp.frame_k, Cert.Mlp.frame_i, Cert.Mlp.frame_r, Cert.Rg.frame_k, Cert.Rg.frame_i, Cert.Rg.frame_r,
    Cert.In.frame_k, Cert.In.frame_i, Cert.In.frame_r, fun m ρ _ => Cert.Kernel5.Gen.frame m ρ,
    fun m ρ _ => Cert.Kernel5Ideal.Gen.frame m ρ, trivial, trivial, Cert.Mlp.algebraic, trivial, Cert.Rg.algebraic, trivial,
    Cert.In.algebraic, trivial⟩

end Cert.Proof

end
